-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v44_0)) (v1 : (c : Dev Cert.Kernel5Ideal.nD) → Buf (Elt Ideal) ((c.tc : Thread Cert.Kernel5Ideal.nD Cert.Kernel5Ideal.τ).loc Cert.Kernel5Ideal.main_v44_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v44_0) = v0 c
          ∧ r.2.mem ((c.tc : Thread Cert.Kernel5Ideal.nD Cert.Kernel5Ideal.τ).loc Cert.Kernel5Ideal.main_v44_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v209) = v0 c
          ∧ r.2.mem ((c.tc : Thread Cert.Reference5Ideal.nD Cert.Reference5Ideal.τ).loc Cert.Reference5Ideal.main_v211) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v49_0)) (v1 : (c : Dev Cert.Kernel6Ideal.nD) → Buf (Elt Ideal) ((c.tc : Thread Cert.Kernel6Ideal.nD Cert.Kernel6Ideal.τ).loc Cert.Kernel6Ideal.main_v49_1)) (v2 : (c : Dev Cert.Kernel6Ideal.nD) → Buf (Elt Ideal) ((c.tc : Thread Cert.Kernel6Ideal.nD Cert.Kernel6Ideal.τ).loc Cert.Kernel6Ideal.main_v49_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v49_0) = v0 c
          ∧ r.2.mem ((c.tc : Thread Cert.Kernel6Ideal.nD Cert.Kernel6Ideal.τ).loc Cert.Kernel6Ideal.main_v49_1) = v1 c
          ∧ r.2.mem ((c.tc : Thread Cert.Kernel6Ideal.nD Cert.Kernel6Ideal.τ).loc Cert.Kernel6Ideal.main_v49_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v81) = v0 c
          ∧ r.2.mem ((c.tc : Thread Cert.Reference6Ideal.nD Cert.Reference6Ideal.τ).loc Cert.Reference6Ideal.main_v83) = v1 c
          ∧ r.2.mem ((c.tc : Thread Cert.Reference6Ideal.nD Cert.Reference6Ideal.τ).loc Cert.Reference6Ideal.main_v85) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v49_0)) (v1 : (c : Dev Cert.Kernel8Ideal.nD) → Buf (Elt Ideal) ((c.tc : Thread Cert.Kernel8Ideal.nD Cert.Kernel8Ideal.τ).loc Cert.Kernel8Ideal.main_v49_1)) (v2 : (c : Dev Cert.Kernel8Ideal.nD) → Buf (Elt Ideal) ((c.tc : Thread Cert.Kernel8Ideal.nD Cert.Kernel8Ideal.τ).loc Cert.Kernel8Ideal.main_v49_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v49_0) = v0 c
          ∧ r.2.mem ((c.tc : Thread Cert.Kernel8Ideal.nD Cert.Kernel8Ideal.τ).loc Cert.Kernel8Ideal.main_v49_1) = v1 c
          ∧ r.2.mem ((c.tc : Thread Cert.Kernel8Ideal.nD Cert.Kernel8Ideal.τ).loc Cert.Kernel8Ideal.main_v49_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v82) = v0 c
          ∧ r.2.mem ((c.tc : Thread Cert.Reference8Ideal.nD Cert.Reference8Ideal.τ).loc Cert.Reference8Ideal.main_v84) = v1 c
          ∧ r.2.mem ((c.tc : Thread Cert.Reference8Ideal.nD Cert.Reference8Ideal.τ).loc Cert.Reference8Ideal.main_v86) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v44_0)) (v1 : (c : Dev Cert.Kernel9Ideal.nD) → Buf (Elt Ideal) ((c.tc : Thread Cert.Kernel9Ideal.nD Cert.Kernel9Ideal.τ).loc Cert.Kernel9Ideal.main_v44_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v44_0) = v0 c
          ∧ r.2.mem ((c.tc : Thread Cert.Kernel9Ideal.nD Cert.Kernel9Ideal.τ).loc Cert.Kernel9Ideal.main_v44_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v206) = v0 c
          ∧ r.2.mem ((c.tc : Thread Cert.Reference9Ideal.nD Cert.Reference9Ideal.τ).loc Cert.Reference9Ideal.main_v208) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
-- ==== Pre_finite.lean ====
abbrev S2x4096x8x2x128 : Shape := ⟨5, ![2, 4096, 8, 2, 128]⟩
abbrev S2x4096x4x2x128 : Shape := ⟨5, ![2, 4096, 4, 2, 128]⟩
abbrev S2x4096x4x256 : Shape := ⟨4, ![2, 4096, 4, 256]⟩
abbrev S1x128 : Shape := ⟨2, ![1, 128]⟩
abbrev S1x256 : Shape := ⟨2, ![1, 256]⟩
abbrev S_ : Shape := ⟨0, ![]⟩

class Facts : Prop where
  bcast_S_S2x4096x8x2x128 : S_.BroadcastsInDim S2x4096x8x2x128 (![] : Fin 0 → Fin S2x4096x8x2x128.rank)
  reducesTo_S2x4096x8x2x128_S_d0_1_2_3_4 : S2x4096x8x2x128.ReducesTo [0, 1, 2, 3, 4] S_
  h_S_ : 0 < S_.numel
  bcast_S_S2x4096x4x2x128 : S_.BroadcastsInDim S2x4096x4x2x128 (![] : Fin 0 → Fin S2x4096x4x2x128.rank)
  reducesTo_S2x4096x4x2x128_S_d0_1_2_3_4 : S2x4096x4x2x128.ReducesTo [0, 1, 2, 3, 4] S_
  bcast_S_S2x4096x4x256 : S_.BroadcastsInDim S2x4096x4x256 (![] : Fin 0 → Fin S2x4096x4x256.rank)
  reducesTo_S2x4096x4x256_S_d0_1_2_3 : S2x4096x4x256.ReducesTo [0, 1, 2, 3] S_
  bcast_S_S1x128 : S_.BroadcastsInDim S1x128 (![] : Fin 0 → Fin S1x128.rank)
  reducesTo_S1x128_S_d0_1 : S1x128.ReducesTo [0, 1] S_

variable [Facts]

def fn_part1 {F : FTy → Type} [FloatOps F] (main_arg4 : FVec F S1x128 .f32) (main_arg5 : FVec F S1x128 .f32) (main_arg6 : FVec F S1x128 .f32) (main_v13 : IVec S_ 1) (main_v16 : IVec S1x128 1) : IVec S_ 1 :=
  let main_c_5 : IVec S_ 1 := constantI S_ 1 1#1
  let main_v17 : IVec S_ 1 := (fun x v => Host.reduce IntOp.andi x v reducesTo_S1x128_S_d0_1 h_S_) main_v16 main_c_5
  let main_v18 : IVec S_ 1 := andi main_v13 main_v17
  let main_v19 : FVec F S1x128 .f32 := Host.absf main_arg4
  let main_cst_6 : FVec F S_ .f32 := constant S_ .f32 0x7F800000#32
  let main_v20 : FVec F S1x128 .f32 := broadcastInDim S1x128 ![] bcast_S_S1x128 main_cst_6
  let main_v21 : IVec S1x128 1 := cmpf .olt main_v19 main_v20
  let main_c_7 : IVec S_ 1 := constantI S_ 1 1#1
  let main_v22 : IVec S_ 1 := (fun x v => Host.reduce IntOp.andi x v reducesTo_S1x128_S_d0_1 h_S_) main_v21 main_c_7
  let main_v23 : IVec S_ 1 := andi main_v18 main_v22
  let main_v24 : FVec F S1x128 .f32 := Host.absf main_arg5
  let main_cst_8 : FVec F S_ .f32 := constant S_ .f32 0x7F800000#32
  let main_v25 : FVec F S1x128 .f32 := broadcastInDim S1x128 ![] bcast_S_S1x128 main_cst_8
  let main_v26 : IVec S1x128 1 := cmpf .olt main_v24 main_v25
  let main_c_9 : IVec S_ 1 := constantI S_ 1 1#1
  let main_v27 : IVec S_ 1 := (fun x v => Host.reduce IntOp.andi x v reducesTo_S1x128_S_d0_1 h_S_) main_v26 main_c_9
  let main_v28 : IVec S_ 1 := andi main_v23 main_v27
  let main_v29 : FVec F S1x128 .f32 := Host.absf main_arg6
  let main_cst_10 : FVec F S_ .f32 := constant S_ .f32 0x7F800000#32
  let main_v30 : FVec F S1x128 .f32 := broadcastInDim S1x128 ![] bcast_S_S1x128 main_cst_10
  let main_v31 : IVec S1x128 1 := cmpf .olt main_v29 main_v30
  let main_c_11 : IVec S_ 1 := constantI S_ 1 1#1
  let main_v32 : IVec S_ 1 := (fun x v => Host.reduce IntOp.andi x v reducesTo_S1x128_S_d0_1 h_S_) main_v31 main_c_11
  let main_v33 : IVec S_ 1 := andi main_v28 main_v32
  main_v33

def fn {F : FTy → Type} [FloatOps F] (main_arg0 : FVec F S2x4096x8x2x128 .f32) (main_arg1 : FVec F S2x4096x4x2x128 .f32) (main_arg2 : FVec F S2x4096x4x256 .f32) (main_arg3 : FVec F S1x128 .f32) (main_arg4 : FVec F S1x128 .f32) (main_arg5 : FVec F S1x128 .f32) (main_arg6 : FVec F S1x128 .f32) (main_arg7 : FVec F S1x256 .f32) : IVec S_ 1 :=
  let main_v0 : FVec F S2x4096x8x2x128 .f32 := Host.absf main_arg0
  let main_cst : FVec F S_ .f32 := constant S_ .f32 0x7F800000#32
  let main_v1 : FVec F S2x4096x8x2x128 .f32 := broadcastInDim S2x4096x8x2x128 ![] bcast_S_S2x4096x8x2x128 main_cst
  let main_v2 : IVec S2x4096x8x2x128 1 := cmpf .olt main_v0 main_v1
  let main_c : IVec S_ 1 := constantI S_ 1 1#1
  let main_v3 : IVec S_ 1 := (fun x v => Host.reduce IntOp.andi x v reducesTo_S2x4096x8x2x128_S_d0_1_2_3_4 h_S_) main_v2 main_c
  let main_v4 : FVec F S2x4096x4x2x128 .f32 := Host.absf main_arg1
  let main_cst_0 : FVec F S_ .f32 := constant S_ .f32 0x7F800000#32
  let main_v5 : FVec F S2x4096x4x2x128 .f32 := broadcastInDim S2x4096x4x2x128 ![] bcast_S_S2x4096x4x2x128 main_cst_0
  let main_v6 : IVec S2x4096x4x2x128 1 := cmpf .olt main_v4 main_v5
  let main_c_1 : IVec S_ 1 := constantI S_ 1 1#1
  let main_v7 : IVec S_ 1 := (fun x v => Host.reduce IntOp.andi x v reducesTo_S2x4096x4x2x128_S_d0_1_2_3_4 h_S_) main_v6 main_c_1
  let main_v8 : IVec S_ 1 := andi main_v3 main_v7
  let main_v9 : FVec F S2x4096x4x256 .f32 := Host.absf main_arg2
  let main_cst_2 : FVec F S_ .f32 := constant S_ .f32 0x7F800000#32
  let main_v10 : FVec F S2x4096x4x256 .f32 := broadcastInDim S2x4096x4x256 ![] bcast_S_S2x4096x4x256 main_cst_2
  let main_v11 : IVec S2x4096x4x256 1 := cmpf .olt main_v9 main_v10
  let main_c_3 : IVec S_ 1 := constantI S_ 1 1#1
  let main_v12 : IVec S_ 1 := (fun x v => Host.reduce IntOp.andi x v reducesTo_S2x4096x4x256_S_d0_1_2_3 h_S_) main_v11 main_c_3
  let main_v13 : IVec S_ 1 := andi main_v8 main_v12
  let main_v14 : FVec F S1x128 .f32 := Host.absf main_arg3
  let main_cst_4 : FVec F S_ .f32 := constant S_ .f32 0x7F800000#32
  let main_v15 : FVec F S1x128 .f32 := broadcastInDim S1x128 ![] bcast_S_S1x128 main_cst_4
  let main_v16 : IVec S1x128 1 := cmpf .olt main_v14 main_v15
  fn_part1 (F := F) main_arg4 main_arg5 main_arg6 main_v13 main_v16
-- ==== Kernel.lean ====
abbrev S2x4096x8x2x128 : Shape := ⟨5, ![2, 4096, 8, 2, 128]⟩
abbrev S2x4096x4x2x128 : Shape := ⟨5, ![2, 4096, 4, 2, 128]⟩
abbrev S2x4096x4x256 : Shape := ⟨4, ![2, 4096, 4, 256]⟩
abbrev S1x128 : Shape := ⟨2, ![1, 128]⟩
abbrev S1x256 : Shape := ⟨2, ![1, 256]⟩
abbrev S_ : Shape := ⟨0, ![]⟩
abbrev S8192x3072 : Shape := ⟨2, ![8192, 3072]⟩
abbrev S8192x2048 : Shape := ⟨2, ![8192, 2048]⟩
abbrev S8192x1024 : Shape := ⟨2, ![8192, 1024]⟩
abbrev S8192x4096 : Shape := ⟨2, ![8192, 4096]⟩
abbrev S8192x11264 : Shape := ⟨2, ![8192, 11264]⟩
abbrev S128 : Shape := ⟨1, ![128]⟩
abbrev S256 : Shape := ⟨1, ![256]⟩
abbrev S2x4096x8x128 : Shape := ⟨4, ![2, 4096, 8, 128]⟩
abbrev S2x8x128x4096 : Shape := ⟨4, ![2, 8, 128, 4096]⟩
abbrev S256x512 : Shape := ⟨2, ![256, 512]⟩
abbrev S1x2x128x4096 : Shape := ⟨4, ![1, 2, 128, 4096]⟩
abbrev S4096x256 : Shape := ⟨2, ![4096, 256]⟩
abbrev S2x512x256 : Shape := ⟨3, ![2, 512, 256]⟩
abbrev S256x128 : Shape := ⟨2, ![256, 128]⟩
abbrev S512x128 : Shape := ⟨2, ![512, 128]⟩
abbrev S512x512 : Shape := ⟨2, ![512, 512]⟩
abbrev S512x1 : Shape := ⟨2, ![512, 1]⟩
abbrev S512x256 : Shape := ⟨2, ![512, 256]⟩
abbrev S1x1x128x512 : Shape := ⟨4, ![1, 1, 128, 512]⟩
abbrev S128x512 : Shape := ⟨2, ![128, 512]⟩
abbrev S512 : Shape := ⟨1, ![512]⟩
abbrev S1x512x256 : Shape := ⟨3, ![1, 512, 256]⟩
abbrev S1 : Shape := ⟨1, ![1]⟩
abbrev S1x1 : Shape := ⟨2, ![1, 1]⟩
abbrev S256x256 : Shape := ⟨2, ![256, 256]⟩

abbrev nBuf : Space → Nat
  | .hbm => 38
  | .vmem => 14
  | .smem => 0
  | _ => 0

abbrev bufTy : (tb : Table) → Fin (tcTables nBuf tb) → BufTy
  | .hbm, ⟨0, _⟩ => ⟨S2x4096x8x2x128, .f32⟩
  | .hbm, ⟨1, _⟩ => ⟨S2x4096x4x2x128, .f32⟩
  | .hbm, ⟨2, _⟩ => ⟨S2x4096x4x256, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x256, .f32⟩
  | .hbm, ⟨8, _⟩ => ⟨S_, .f32⟩
  | .hbm, ⟨9, _⟩ => ⟨S8192x3072, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S2x4096x8x2x128, .f32⟩
  | .hbm, ⟨16, _⟩ => ⟨S2x4096x8x2x128, .f32⟩
  | .hbm, ⟨17, _⟩ => ⟨S8192x2048, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x4096, .f32⟩
  | .hbm, ⟨22, _⟩ => ⟨S8192x11264, .f32⟩
  | .hbm, ⟨23, _⟩ => ⟨S8192x11264, .bf16⟩
  | .hbm, ⟨24, _⟩ => ⟨S128, .f32⟩
  | .hbm, ⟨25, _⟩ => ⟨S1x128, .f32⟩
  | .hbm, ⟨26, _⟩ => ⟨S128, .f32⟩
  | .hbm, ⟨27, _⟩ => ⟨S1x128, .f32⟩
  | .hbm, ⟨28, _⟩ => ⟨S128, .f32⟩
  | .hbm, ⟨29, _⟩ => ⟨S1x128, .f32⟩
  | .hbm, ⟨30, _⟩ => ⟨S128, .f32⟩
  | .hbm, ⟨31, _⟩ => ⟨S1x128, .f32⟩
  | .hbm, ⟨32, _⟩ => ⟨S256, .f32⟩
  | .hbm, ⟨33, _⟩ => ⟨S1x256, .f32⟩
  | .hbm, ⟨34, _⟩ => ⟨S8192x1024, .bf16⟩
  | .hbm, ⟨35, _⟩ => ⟨S2x4096x8x128, .bf16⟩
  | .hbm, ⟨36, _⟩ => ⟨S2x8x128x4096, .bf16⟩
  | .hbm, ⟨37, _⟩ => ⟨S8192x2048, .bf16⟩
  | .local _ .vmem, ⟨0, _⟩ => ⟨S256x512, .bf16⟩
  | .local _ .vmem, ⟨1, _⟩ => ⟨S256x512, .bf16⟩
  | .local _ .vmem, ⟨2, _⟩ => ⟨S1x2x128x4096, .bf16⟩
  | .local _ .vmem, ⟨3, _⟩ => ⟨S1x2x128x4096, .bf16⟩
  | .local _ .vmem, ⟨4, _⟩ => ⟨S4096x256, .bf16⟩
  | .local _ .vmem, ⟨5, _⟩ => ⟨S4096x256, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x256, .f32⟩
  | .local _ .vmem, ⟨11, _⟩ => ⟨S256x512, .bf16⟩
  | .local _ .vmem, ⟨12, _⟩ => ⟨S256x512, .bf16⟩
  | .local _ .vmem, ⟨13, _⟩ => ⟨S2x512x256, .f32⟩
  | _, _ => ⟨S2x4096x8x2x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_cst_1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨3, ![2, 4, 16], ![false, false, false]⟩

@[reducible] def k0_t1_loop (i : grid0.Coords) : Scf.Loop 32 :=
  let c0_i32_24 : BitVec 32 := 0#32
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let v60 : BitVec 32 := Scalar.subi v38 c0_i32_24
  let c1_i32_25 : BitVec 32 := 1#32
  let v62 : BitVec 32 := Scalar.divsi v60 c1_i32_25
  let v63 : BitVec 32 := Scalar.muli v62 c1_i32_25
  let v64 : BitVec 32 := Scalar.addi c0_i32_24 v63
  let c1_i32_26 : BitVec 32 := 1#32
  ⟨c0_i32_24, v64, c1_i32_26⟩
def k0_mult1 (i : grid0.Coords) (k0_t1 : Fin (k0_t1_loop i).trips) : BitVec 32 :=
  let c0_i32_24 : BitVec 32 := 0#32
  let c1_i32_26 : BitVec 32 := 1#32
  let arg13 : BitVec 32 := Scf.iv c0_i32_24 c1_i32_26 k0_t1
  let c512_i32_57 : BitVec 32 := 512#32
  let v126 : BitVec 32 := Scalar.muli arg13 c512_i32_57
  v126
def k0_off1 (i : grid0.Coords) (k0_t1 : Fin (k0_t1_loop i).trips) : Fin 2 → Nat :=
  let c0_i32_24 : BitVec 32 := 0#32
  let c1_i32_26 : BitVec 32 := 1#32
  let arg13 : BitVec 32 := Scf.iv c0_i32_24 c1_i32_26 k0_t1
  let c512_i32_57 : BitVec 32 := 512#32
  let v126 : BitVec 32 := Scalar.muli arg13 c512_i32_57
  let v127 : BitVec 32 := v126
  let v128 : Index := Scalar.indexCast v127
  let c0_58 : Index := 0#32
  ![v128.toNat, 0]
def k0_off2 (i : grid0.Coords) (k0_t1 : Fin (k0_t1_loop i).trips) : Fin 4 → Nat :=
  let c0_59 : Index := 0#32
  let c0_60 : Index := 0#32
  let c0_61 : Index := 0#32
  let c0_i32_24 : BitVec 32 := 0#32
  let c1_i32_26 : BitVec 32 := 1#32
  let arg13 : BitVec 32 := Scf.iv c0_i32_24 c1_i32_26 k0_t1
  let c512_i32_57 : BitVec 32 := 512#32
  let v126 : BitVec 32 := Scalar.muli arg13 c512_i32_57
  let v127 : BitVec 32 := v126
  let v131 : Index := Scalar.indexCast v127
  ![0, 0, 0, v131.toNat]
def k0_off3 (i : grid0.Coords) (k0_t1 : Fin (k0_t1_loop i).trips) : Fin 4 → Nat :=
  let c0_72 : Index := 0#32
  let c1_73 : Index := 1#32
  let c0_74 : Index := 0#32
  let c0_i32_24 : BitVec 32 := 0#32
  let c1_i32_26 : BitVec 32 := 1#32
  let arg13 : BitVec 32 := Scf.iv c0_i32_24 c1_i32_26 k0_t1
  let c512_i32_57 : BitVec 32 := 512#32
  let v126 : BitVec 32 := Scalar.muli arg13 c512_i32_57
  let v127 : BitVec 32 := v126
  let v157 : Index := Scalar.indexCast v127
  ![0, 1, 0, v157.toNat]
@[reducible] def k0_t2_loop (i : grid0.Coords) : Scf.Loop 32 :=
  let c0_i32_24 : BitVec 32 := 0#32
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let v60 : BitVec 32 := Scalar.subi v38 c0_i32_24
  let c1_i32_25 : BitVec 32 := 1#32
  let v62 : BitVec 32 := Scalar.divsi v60 c1_i32_25
  let v63 : BitVec 32 := Scalar.muli v62 c1_i32_25
  let v64 : BitVec 32 := Scalar.addi c0_i32_24 v63
  let v61 : BitVec 32 := Scalar.addi c0_i32_24 v60
  let c1_i32_27 : BitVec 32 := 1#32
  ⟨v64, v61, c1_i32_27⟩
def k0_mult2 (i : grid0.Coords) (k0_t2 : Fin (k0_t2_loop i).trips) : BitVec 32 :=
  let c0_i32_24 : BitVec 32 := 0#32
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let v60 : BitVec 32 := Scalar.subi v38 c0_i32_24
  let c1_i32_25 : BitVec 32 := 1#32
  let v62 : BitVec 32 := Scalar.divsi v60 c1_i32_25
  let v63 : BitVec 32 := Scalar.muli v62 c1_i32_25
  let v64 : BitVec 32 := Scalar.addi c0_i32_24 v63
  let c1_i32_27 : BitVec 32 := 1#32
  let arg13 : BitVec 32 := Scf.iv v64 c1_i32_27 k0_t2
  let c512_i32_57 : BitVec 32 := 512#32
  let v126 : BitVec 32 := Scalar.muli arg13 c512_i32_57
  v126
def k0_off4 (i : grid0.Coords) (k0_t2 : Fin (k0_t2_loop i).trips) : Fin 2 → Nat :=
  let c0_i32_24 : BitVec 32 := 0#32
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let v60 : BitVec 32 := Scalar.subi v38 c0_i32_24
  let c1_i32_25 : BitVec 32 := 1#32
  let v62 : BitVec 32 := Scalar.divsi v60 c1_i32_25
  let v63 : BitVec 32 := Scalar.muli v62 c1_i32_25
  let v64 : BitVec 32 := Scalar.addi c0_i32_24 v63
  let c1_i32_27 : BitVec 32 := 1#32
  let arg13 : BitVec 32 := Scf.iv v64 c1_i32_27 k0_t2
  let c512_i32_57 : BitVec 32 := 512#32
  let v126 : BitVec 32 := Scalar.muli arg13 c512_i32_57
  let v127 : BitVec 32 := v126
  let v128 : Index := Scalar.indexCast v127
  let c0_58 : Index := 0#32
  ![v128.toNat, 0]
def k0_off5 (i : grid0.Coords) (k0_t2 : Fin (k0_t2_loop i).trips) : Fin 4 → Nat :=
  let c0_59 : Index := 0#32
  let c0_60 : Index := 0#32
  let c0_61 : Index := 0#32
  let c0_i32_24 : BitVec 32 := 0#32
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let v60 : BitVec 32 := Scalar.subi v38 c0_i32_24
  let c1_i32_25 : BitVec 32 := 1#32
  let v62 : BitVec 32 := Scalar.divsi v60 c1_i32_25
  let v63 : BitVec 32 := Scalar.muli v62 c1_i32_25
  let v64 : BitVec 32 := Scalar.addi c0_i32_24 v63
  let c1_i32_27 : BitVec 32 := 1#32
  let arg13 : BitVec 32 := Scf.iv v64 c1_i32_27 k0_t2
  let c512_i32_57 : BitVec 32 := 512#32
  let v126 : BitVec 32 := Scalar.muli arg13 c512_i32_57
  let v127 : BitVec 32 := v126
  let v131 : Index := Scalar.indexCast v127
  ![0, 0, 0, v131.toNat]
def k0_off6 (i : grid0.Coords) (k0_t2 : Fin (k0_t2_loop i).trips) : Fin 4 → Nat :=
  let c0_72 : Index := 0#32
  let c1_73 : Index := 1#32
  let c0_74 : Index := 0#32
  let c0_i32_24 : BitVec 32 := 0#32
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let v60 : BitVec 32 := Scalar.subi v38 c0_i32_24
  let c1_i32_25 : BitVec 32 := 1#32
  let v62 : BitVec 32 := Scalar.divsi v60 c1_i32_25
  let v63 : BitVec 32 := Scalar.muli v62 c1_i32_25
  let v64 : BitVec 32 := Scalar.addi c0_i32_24 v63
  let c1_i32_27 : BitVec 32 := 1#32
  let arg13 : BitVec 32 := Scf.iv v64 c1_i32_27 k0_t2
  let c512_i32_57 : BitVec 32 := 512#32
  let v126 : BitVec 32 := Scalar.muli arg13 c512_i32_57
  let v127 : BitVec 32 := v126
  let v157 : Index := Scalar.indexCast v127
  ![0, 1, 0, v157.toNat]
@[reducible] def k0_t3_loop (i : grid0.Coords) : Scf.Loop 32 :=
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v67 : BitVec 32 := Scalar.subi v20 v38
  let c1_i32_28 : BitVec 32 := 1#32
  let v69 : BitVec 32 := Scalar.divsi v67 c1_i32_28
  let v70 : BitVec 32 := Scalar.muli v69 c1_i32_28
  let v71 : BitVec 32 := Scalar.addi v38 v70
  let c1_i32_29 : BitVec 32 := 1#32
  ⟨v38, v71, c1_i32_29⟩
def k0_mult3 (i : grid0.Coords) (k0_t3 : Fin (k0_t3_loop i).trips) : BitVec 32 :=
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let c1_i32_29 : BitVec 32 := 1#32
  let arg13 : BitVec 32 := Scf.iv v38 c1_i32_29 k0_t3
  let c512_i32_57 : BitVec 32 := 512#32
  let v126 : BitVec 32 := Scalar.muli arg13 c512_i32_57
  v126
def k0_off7 (i : grid0.Coords) (k0_t3 : Fin (k0_t3_loop i).trips) : Fin 2 → Nat :=
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let c1_i32_29 : BitVec 32 := 1#32
  let arg13 : BitVec 32 := Scf.iv v38 c1_i32_29 k0_t3
  let c512_i32_57 : BitVec 32 := 512#32
  let v126 : BitVec 32 := Scalar.muli arg13 c512_i32_57
  let v127 : BitVec 32 := v126
  let v128 : Index := Scalar.indexCast v127
  let c0_58 : Index := 0#32
  ![v128.toNat, 0]
def k0_off8 (i : grid0.Coords) (k0_t3 : Fin (k0_t3_loop i).trips) : Fin 4 → Nat :=
  let c0_59 : Index := 0#32
  let c0_60 : Index := 0#32
  let c0_61 : Index := 0#32
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let c1_i32_29 : BitVec 32 := 1#32
  let arg13 : BitVec 32 := Scf.iv v38 c1_i32_29 k0_t3
  let c512_i32_57 : BitVec 32 := 512#32
  let v126 : BitVec 32 := Scalar.muli arg13 c512_i32_57
  let v127 : BitVec 32 := v126
  let v131 : Index := Scalar.indexCast v127
  ![0, 0, 0, v131.toNat]
def k0_off9 (i : grid0.Coords) (k0_t3 : Fin (k0_t3_loop i).trips) : Fin 4 → Nat :=
  let c0_73 : Index := 0#32
  let c1_74 : Index := 1#32
  let c0_75 : Index := 0#32
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let c1_i32_29 : BitVec 32 := 1#32
  let arg13 : BitVec 32 := Scf.iv v38 c1_i32_29 k0_t3
  let c512_i32_57 : BitVec 32 := 512#32
  let v126 : BitVec 32 := Scalar.muli arg13 c512_i32_57
  let v127 : BitVec 32 := v126
  let v162 : Index := Scalar.indexCast v127
  ![0, 1, 0, v162.toNat]
@[reducible] def k0_t4_loop (i : grid0.Coords) : Scf.Loop 32 :=
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v67 : BitVec 32 := Scalar.subi v20 v38
  let c1_i32_28 : BitVec 32 := 1#32
  let v69 : BitVec 32 := Scalar.divsi v67 c1_i32_28
  let v70 : BitVec 32 := Scalar.muli v69 c1_i32_28
  let v71 : BitVec 32 := Scalar.addi v38 v70
  let v68 : BitVec 32 := Scalar.addi v38 v67
  let c1_i32_30 : BitVec 32 := 1#32
  ⟨v71, v68, c1_i32_30⟩
def k0_mult4 (i : grid0.Coords) (k0_t4 : Fin (k0_t4_loop i).trips) : BitVec 32 :=
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v67 : BitVec 32 := Scalar.subi v20 v38
  let c1_i32_28 : BitVec 32 := 1#32
  let v69 : BitVec 32 := Scalar.divsi v67 c1_i32_28
  let v70 : BitVec 32 := Scalar.muli v69 c1_i32_28
  let v71 : BitVec 32 := Scalar.addi v38 v70
  let c1_i32_30 : BitVec 32 := 1#32
  let arg13 : BitVec 32 := Scf.iv v71 c1_i32_30 k0_t4
  let c512_i32_57 : BitVec 32 := 512#32
  let v126 : BitVec 32 := Scalar.muli arg13 c512_i32_57
  v126
def k0_off10 (i : grid0.Coords) (k0_t4 : Fin (k0_t4_loop i).trips) : Fin 2 → Nat :=
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v67 : BitVec 32 := Scalar.subi v20 v38
  let c1_i32_28 : BitVec 32 := 1#32
  let v69 : BitVec 32 := Scalar.divsi v67 c1_i32_28
  let v70 : BitVec 32 := Scalar.muli v69 c1_i32_28
  let v71 : BitVec 32 := Scalar.addi v38 v70
  let c1_i32_30 : BitVec 32 := 1#32
  let arg13 : BitVec 32 := Scf.iv v71 c1_i32_30 k0_t4
  let c512_i32_57 : BitVec 32 := 512#32
  let v126 : BitVec 32 := Scalar.muli arg13 c512_i32_57
  let v127 : BitVec 32 := v126
  let v128 : Index := Scalar.indexCast v127
  let c0_58 : Index := 0#32
  ![v128.toNat, 0]
def k0_off11 (i : grid0.Coords) (k0_t4 : Fin (k0_t4_loop i).trips) : Fin 4 → Nat :=
  let c0_59 : Index := 0#32
  let c0_60 : Index := 0#32
  let c0_61 : Index := 0#32
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v67 : BitVec 32 := Scalar.subi v20 v38
  let c1_i32_28 : BitVec 32 := 1#32
  let v69 : BitVec 32 := Scalar.divsi v67 c1_i32_28
  let v70 : BitVec 32 := Scalar.muli v69 c1_i32_28
  let v71 : BitVec 32 := Scalar.addi v38 v70
  let c1_i32_30 : BitVec 32 := 1#32
  let arg13 : BitVec 32 := Scf.iv v71 c1_i32_30 k0_t4
  let c512_i32_57 : BitVec 32 := 512#32
  let v126 : BitVec 32 := Scalar.muli arg13 c512_i32_57
  let v127 : BitVec 32 := v126
  let v131 : Index := Scalar.indexCast v127
  ![0, 0, 0, v131.toNat]
def k0_off12 (i : grid0.Coords) (k0_t4 : Fin (k0_t4_loop i).trips) : Fin 4 → Nat :=
  let c0_73 : Index := 0#32
  let c1_74 : Index := 1#32
  let c0_75 : Index := 0#32
  let arg2 : BitVec 32 := BitVec.ofNat 32 (i 2).val
  let c256_i32 : BitVec 32 := 256#32
  let v0 : BitVec 32 := Scalar.muli arg2 c256_i32
  let c1_i32_7 : BitVec 32 := 1#32
  let v21 : BitVec 32 := Scalar.addi v0 c1_i32_7
  let c0_i32_9 : BitVec 32 := 0#32
  let v23 : BitVec 1 := Scalar.cmpi .sgt v21 c0_i32_9
  let v24 : BitVec 32 := Scalar.extui v23
  let c0_i32_10 : BitVec 32 := 0#32
  let v25 : BitVec 1 := Scalar.cmpi .slt v21 c0_i32_10
  let v26 : BitVec 32 := Scalar.extui v25
  let v27 : BitVec 32 := Scalar.subi v24 v26
  let c512_i32_8 : BitVec 32 := 512#32
  let c0_i32_11 : BitVec 32 := 0#32
  let v28 : BitVec 1 := Scalar.cmpi .sgt c512_i32_8 c0_i32_11
  let v29 : BitVec 32 := Scalar.extui v28
  let c0_i32_12 : BitVec 32 := 0#32
  let v30 : BitVec 1 := Scalar.cmpi .slt c512_i32_8 c0_i32_12
  let v31 : BitVec 32 := Scalar.extui v30
  let v32 : BitVec 32 := Scalar.subi v29 v31
  let v33 : BitVec 1 := Scalar.cmpi .ne v27 v32
  let v34 : BitVec 32 := Scalar.remsi v21 c512_i32_8
  let c0_i32_13 : BitVec 32 := 0#32
  let v35 : BitVec 1 := Scalar.cmpi .ne v34 c0_i32_13
  let v36 : BitVec 1 := Scalar.andi v33 v35
  let v22 : BitVec 32 := Scalar.divsi v21 c512_i32_8
  let c1_i32_14 : BitVec 32 := 1#32
  let v37 : BitVec 32 := Scalar.subi v22 c1_i32_14
  let v38 : BitVec 32 := Scalar.select v36 v37 v22
  let c256_i32_0 : BitVec 32 := 256#32
  let v1 : BitVec 32 := Scalar.addi v0 c256_i32_0
  let c512_i32 : BitVec 32 := 512#32
  let v2 : BitVec 32 := Scalar.addi v1 c512_i32
  let c1_i32 : BitVec 32 := 1#32
  let v3 : BitVec 32 := Scalar.subi v2 c1_i32
  let c0_i32 : BitVec 32 := 0#32
  let v5 : BitVec 1 := Scalar.cmpi .sgt v3 c0_i32
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c512_i32_1 : BitVec 32 := 512#32
  let c0_i32_3 : BitVec 32 := 0#32
  let v10 : BitVec 1 := Scalar.cmpi .sgt c512_i32_1 c0_i32_3
  let v11 : BitVec 32 := Scalar.extui v10
  let c0_i32_4 : BitVec 32 := 0#32
  let v12 : BitVec 1 := Scalar.cmpi .slt c512_i32_1 c0_i32_4
  let v13 : BitVec 32 := Scalar.extui v12
  let v14 : BitVec 32 := Scalar.subi v11 v13
  let v15 : BitVec 1 := Scalar.cmpi .ne v9 v14
  let v16 : BitVec 32 := Scalar.remsi v3 c512_i32_1
  let c0_i32_5 : BitVec 32 := 0#32
  let v17 : BitVec 1 := Scalar.cmpi .ne v16 c0_i32_5
  let v18 : BitVec 1 := Scalar.andi v15 v17
  let v4 : BitVec 32 := Scalar.divsi v3 c512_i32_1
  let c1_i32_6 : BitVec 32 := 1#32
  let v19 : BitVec 32 := Scalar.subi v4 c1_i32_6
  let v20 : BitVec 32 := Scalar.select v18 v19 v4
  let v67 : BitVec 32 := Scalar.subi v20 v38
  let c1_i32_28 : BitVec 32 := 1#32
  let v69 : BitVec 32 := Scalar.divsi v67 c1_i32_28
  let v70 : BitVec 32 := Scalar.muli v69 c1_i32_28
  let v71 : BitVec 32 := Scalar.addi v38 v70
  let c1_i32_30 : BitVec 32 := 1#32
  let arg13 : BitVec 32 := Scf.iv v71 c1_i32_30 k0_t4
  let c512_i32_57 : BitVec 32 := 512#32
  let v126 : BitVec 32 := Scalar.muli arg13 c512_i32_57
  let v127 : BitVec 32 := v126
  let v162 : Index := Scalar.indexCast v127
  ![0, 1, 0, v162.toNat]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c6_i32 : BitVec 32 := 6#32
  let v2 : BitVec 32 := Scalar.addi c6_i32 arg1
  let c0_i32 : BitVec 32 := 0#32
  ![v1.toNat, v2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x128x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S256x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S2x4096x8x2x128 : Shape := ⟨5, ![2, 4096, 8, 2, 128]⟩
abbrev S2x4096x4x2x128 : Shape := ⟨5, ![2, 4096, 4, 2, 128]⟩
abbrev S2x4096x4x256 : Shape := ⟨4, ![2, 4096, 4, 256]⟩
abbrev S1x128 : Shape := ⟨2, ![1, 128]⟩
abbrev S1x256 : Shape := ⟨2, ![1, 256]⟩
abbrev S128 : Shape := ⟨1, ![128]⟩
abbrev S_ : Shape := ⟨0, ![]⟩
abbrev S2x4096x4x2x2x128 : Shape := ⟨6, ![2, 4096, 4, 2, 2, 128]⟩
abbrev S2x4x2x4096x4096x2 : Shape := ⟨6, ![2, 4, 2, 4096, 4096, 2]⟩
abbrev S2x4x2x2x4096x4096 : Shape := ⟨6, ![2, 4, 2, 2, 4096, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S2x4x2x2x4096 : Shape := ⟨5, ![2, 4, 2, 2, 4096]⟩
abbrev S2x4x2x2x4096x1 : Shape := ⟨6, ![2, 4, 2, 2, 4096, 1]⟩
abbrev S2x4x2x1x4096x4096 : Shape := ⟨6, ![2, 4, 2, 1, 4096, 4096]⟩
abbrev S2x4x2x4096x4096 : Shape := ⟨5, ![2, 4, 2, 4096, 4096]⟩
abbrev S2x4x256x2x4096 : Shape := ⟨5, ![2, 4, 256, 2, 4096]⟩
abbrev S2x4096x4x2x256 : Shape := ⟨5, ![2, 4096, 4, 2, 256]⟩
abbrev S2x4096x4x2 : Shape := ⟨4, ![2, 4096, 4, 2]⟩
abbrev S2x4096x4x2x1 : Shape := ⟨5, ![2, 4096, 4, 2, 1]⟩
abbrev S256 : Shape := ⟨1, ![256]⟩
abbrev S1x1x1x1x256 : Shape := ⟨5, ![1, 1, 1, 1, 256]⟩
abbrev S8192x2048 : Shape := ⟨2, ![8192, 2048]⟩

abbrev nBuf : Space → Nat
  | .hbm => 87
  | .vmem => 0
  | .smem => 0
  | _ => 0

abbrev bufTy : (tb : Table) → Fin (tcTables nBuf tb) → BufTy
  | .hbm, ⟨0, _⟩ => ⟨S2x4096x8x2x128, .f32⟩
  | .hbm, ⟨1, _⟩ => ⟨S2x4096x4x2x128, .f32⟩
  | .hbm, ⟨2, _⟩ => ⟨S2x4096x4x256, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x256, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S128, .f32⟩
  | .hbm, ⟨15, _⟩ => ⟨S128, .f32⟩
  | .hbm, ⟨16, _⟩ => ⟨S128, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S2x4096x4x2x2x128, .f32⟩
  | .hbm, ⟨24, _⟩ => ⟨S2x4x2x4096x4096x2, .f32⟩
  | .hbm, ⟨25, _⟩ => ⟨S2x4x2x2x4096x4096, .f32⟩
  | .hbm, ⟨26, _⟩ => ⟨S_, .f32⟩
  | .hbm, ⟨27, _⟩ => ⟨S_, .f32⟩
  | .hbm, ⟨28, _⟩ => ⟨S2x4x2x2x4096x4096, .f32⟩
  | .hbm, ⟨29, _⟩ => ⟨S2x4x2x2x4096x4096, .f32⟩
  | .hbm, ⟨30, _⟩ => ⟨S4096, .i32⟩
  | .hbm, ⟨31, _⟩ => ⟨S1x4096, .i32⟩
  | .hbm, ⟨32, _⟩ => ⟨S4096, .i32⟩
  | .hbm, ⟨33, _⟩ => ⟨S4096x1, .i32⟩
  | .hbm, ⟨34, _⟩ => ⟨S4096x4096, .i32⟩
  | .hbm, ⟨35, _⟩ => ⟨S4096x4096, .i32⟩
  | .hbm, ⟨36, _⟩ => ⟨S4096x4096, .i1⟩
  | .hbm, ⟨37, _⟩ => ⟨S_, .f32⟩
  | .hbm, ⟨38, _⟩ => ⟨S_, .f32⟩
  | .hbm, ⟨39, _⟩ => ⟨S2x4x2x2x4096x4096, .i1⟩
  | .hbm, ⟨40, _⟩ => ⟨S2x4x2x2x4096x4096, .f32⟩
  | .hbm, ⟨41, _⟩ => ⟨S2x4x2x2x4096x4096, .f32⟩
  | .hbm, ⟨42, _⟩ => ⟨S_, .f32⟩
  | .hbm, ⟨43, _⟩ => ⟨S2x4x2x2x4096, .f32⟩
  | .hbm, ⟨44, _⟩ => ⟨S_, .f32⟩
  | .hbm, ⟨45, _⟩ => ⟨S2x4x2x2x4096, .f32⟩
  | .hbm, ⟨46, _⟩ => ⟨S2x4x2x2x4096, .f32⟩
  | .hbm, ⟨47, _⟩ => ⟨S2x4x2x2x4096x1, .f32⟩
  | .hbm, ⟨48, _⟩ => ⟨S2x4x2x2x4096x4096, .f32⟩
  | .hbm, ⟨49, _⟩ => ⟨S2x4x2x2x4096x4096, .f32⟩
  | .hbm, ⟨50, _⟩ => ⟨S2x4x2x2x4096x4096, .f32⟩
  | .hbm, ⟨51, _⟩ => ⟨S_, .f32⟩
  | .hbm, ⟨52, _⟩ => ⟨S2x4x2x2x4096, .f32⟩
  | .hbm, ⟨53, _⟩ => ⟨S2x4x2x2x4096x1, .f32⟩
  | .hbm, ⟨54, _⟩ => ⟨S2x4x2x2x4096x4096, .f32⟩
  | .hbm, ⟨55, _⟩ => ⟨S2x4x2x2x4096x4096, .f32⟩
  | .hbm, ⟨56, _⟩ => ⟨S2x4x2x1x4096x4096, .f32⟩
  | .hbm, ⟨57, _⟩ => ⟨S2x4x2x4096x4096, .f32⟩
  | .hbm, ⟨58, _⟩ => ⟨S2x4x2x1x4096x4096, .f32⟩
  | .hbm, ⟨59, _⟩ => ⟨S2x4x2x4096x4096, .f32⟩
  | .hbm, ⟨60, _⟩ => ⟨S2x4x2x4096x4096, .f32⟩
  | .hbm, ⟨61, _⟩ => ⟨S2x4x2x4096x4096, .f32⟩
  | .hbm, ⟨62, _⟩ => ⟨S2x4x2x4096x4096, .f32⟩
  | .hbm, ⟨63, _⟩ => ⟨S2x4x256x2x4096, .f32⟩
  | .hbm, ⟨64, _⟩ => ⟨S2x4096x4x2x256, .f32⟩
  | .hbm, ⟨65, _⟩ => ⟨S2x4096x4x2x256, .f32⟩
  | .hbm, ⟨66, _⟩ => ⟨S_, .f32⟩
  | .hbm, ⟨67, _⟩ => ⟨S2x4096x4x2, .f32⟩
  | .hbm, ⟨68, _⟩ => ⟨S2x4096x4x2x1, .f32⟩
  | .hbm, ⟨69, _⟩ => ⟨S_, .f32⟩
  | .hbm, ⟨70, _⟩ => ⟨S2x4096x4x2x1, .f32⟩
  | .hbm, ⟨71, _⟩ => ⟨S2x4096x4x2x1, .f32⟩
  | .hbm, ⟨72, _⟩ => ⟨S_, .f32⟩
  | .hbm, ⟨73, _⟩ => ⟨S2x4096x4x2x1, .f32⟩
  | .hbm, ⟨74, _⟩ => ⟨S2x4096x4x2x1, .f32⟩
  | .hbm, ⟨75, _⟩ => ⟨S2x4096x4x2x1, .f32⟩
  | .hbm, ⟨76, _⟩ => ⟨S2x4096x4x2x256, .f32⟩
  | .hbm, ⟨77, _⟩ => ⟨S2x4096x4x2x256, .f32⟩
  | .hbm, ⟨78, _⟩ => ⟨S256, .f32⟩
  | .hbm, ⟨79, _⟩ => ⟨S1x1x1x1x256, .f32⟩
  | .hbm, ⟨80, _⟩ => ⟨S2x4096x4x2x256, .f32⟩
  | .hbm, ⟨81, _⟩ => ⟨S2x4096x4x2x256, .f32⟩
  | .hbm, ⟨82, _⟩ => ⟨S_, .f32⟩
  | .hbm, ⟨83, _⟩ => ⟨S2x4096x4x2x256, .f32⟩
  | .hbm, ⟨84, _⟩ => ⟨S2x4096x4x2x256, .f32⟩
  | .hbm, ⟨85, _⟩ => ⟨S8192x2048, .f32⟩
  | .hbm, ⟨86, _⟩ => ⟨S8192x2048, .bf16⟩
  | _, _ => ⟨S2x4096x8x2x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_7 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_10 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩

abbrev nD : Nat := 1
abbrev τ : Topo := Topo.v7x

variable {F : FTy → Type} [FloatOps F]
-- ==== Kernel2.lean ====
abbrev S2x4096x4096 : Shape := ⟨3, ![2, 4096, 4096]⟩
abbrev S1x4096 : Shape := ⟨2, ![1, 4096]⟩
abbrev S1x4096x16384 : Shape := ⟨3, ![1, 4096, 16384]⟩
abbrev S8192x4096 : Shape := ⟨2, ![8192, 4096]⟩
abbrev S4096 : Shape := ⟨1, ![4096]⟩
abbrev S4096x16384 : Shape := ⟨2, ![4096, 16384]⟩
abbrev S8192x16384 : Shape := ⟨2, ![8192, 16384]⟩
abbrev S512x4096 : Shape := ⟨2, ![512, 4096]⟩
abbrev S4096x1024 : Shape := ⟨2, ![4096, 1024]⟩
abbrev S512x1024 : Shape := ⟨2, ![512, 1024]⟩
abbrev S64x4096 : Shape := ⟨2, ![64, 4096]⟩
abbrev S64 : Shape := ⟨1, ![64]⟩
abbrev S64x1 : Shape := ⟨2, ![64, 1]⟩

abbrev nBuf : Space → Nat
  | .hbm => 9
  | .vmem => 8
  | .smem => 0
  | _ => 0

abbrev bufTy : (tb : Table) → Fin (tcTables nBuf tb) → BufTy
  | .hbm, ⟨0, _⟩ => ⟨S2x4096x4096, .f32⟩
  | .hbm, ⟨1, _⟩ => ⟨S1x4096, .f32⟩
  | .hbm, ⟨2, _⟩ => ⟨S1x4096x16384, .f32⟩
  | .hbm, ⟨3, _⟩ => ⟨S8192x4096, .f32⟩
  | .hbm, ⟨4, _⟩ => ⟨S4096, .f32⟩
  | .hbm, ⟨5, _⟩ => ⟨S1x4096, .f32⟩
  | .hbm, ⟨6, _⟩ => ⟨S4096x16384, .f32⟩
  | .hbm, ⟨7, _⟩ => ⟨S4096x16384, .bf16⟩
  | .hbm, ⟨8, _⟩ => ⟨S8192x16384, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x1024, .bf16⟩
  | .local _ .vmem, ⟨4, _⟩ => ⟨S4096x1024, .bf16⟩
  | .local _ .vmem, ⟨5, _⟩ => ⟨S512x1024, .bf16⟩
  | .local _ .vmem, ⟨6, _⟩ => ⟨S512x1024, .bf16⟩
  | .local _ .vmem, ⟨7, _⟩ => ⟨S512x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 16], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_7 : BitVec 32 := 0#32
  let c8_i32 : BitVec 32 := 8#32
  let v12 : BitVec 32 := Scalar.addi c0_i32_7 c8_i32
  let c1_i32 : BitVec 32 := 1#32
  ⟨c0_i32_7, v12, c1_i32⟩
def k0_mult1 (k0_t1 : Fin k0_t1_loop.trips) : BitVec 32 :=
  let c0_i32_7 : BitVec 32 := 0#32
  let c1_i32 : BitVec 32 := 1#32
  let arg7 : BitVec 32 := Scf.iv c0_i32_7 c1_i32 k0_t1
  let c64_i32 : BitVec 32 := 64#32
  let v13 : BitVec 32 := Scalar.muli arg7 c64_i32
  v13
def k0_off1 (k0_t1 : Fin k0_t1_loop.trips) : Fin 2 → Nat :=
  let c0_i32_7 : BitVec 32 := 0#32
  let c1_i32 : BitVec 32 := 1#32
  let arg7 : BitVec 32 := Scf.iv c0_i32_7 c1_i32 k0_t1
  let c64_i32 : BitVec 32 := 64#32
  let v13 : BitVec 32 := Scalar.muli arg7 c64_i32
  let v14 : BitVec 32 := v13
  let v15 : Index := Scalar.indexCast v14
  let c0_9 : Index := 0#32
  ![v15.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S2x4096x4096 : Shape := ⟨3, ![2, 4096, 4096]⟩
abbrev S1x4096 : Shape := ⟨2, ![1, 4096]⟩
abbrev S1x4096x16384 : Shape := ⟨3, ![1, 4096, 16384]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S4096x16384 : Shape := ⟨2, ![4096, 16384]⟩
abbrev S2x4096x16384 : Shape := ⟨3, ![2, 4096, 16384]⟩
abbrev S8192x16384 : Shape := ⟨2, ![8192, 16384]⟩

abbrev nBuf : Space → Nat
  | .hbm => 28
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096, .f32⟩
  | .hbm, ⟨2, _⟩ => ⟨S1x4096x16384, .f32⟩
  | .hbm, ⟨3, _⟩ => ⟨S4096, .f32⟩
  | .hbm, ⟨4, _⟩ => ⟨S2x4096x4096, .f32⟩
  | .hbm, ⟨5, _⟩ => ⟨S_, .f32⟩
  | .hbm, ⟨6, _⟩ => ⟨S2x4096, .f32⟩
  | .hbm, ⟨7, _⟩ => ⟨S2x4096x1, .f32⟩
  | .hbm, ⟨8, _⟩ => ⟨S_, .f32⟩
  | .hbm, ⟨9, _⟩ => ⟨S2x4096x1, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S2x4096x1, .f32⟩
  | .hbm, ⟨15, _⟩ => ⟨S2x4096x4096, .f32⟩
  | .hbm, ⟨16, _⟩ => ⟨S2x4096x4096, .f32⟩
  | .hbm, ⟨17, _⟩ => ⟨S1x1x4096, .f32⟩
  | .hbm, ⟨18, _⟩ => ⟨S2x4096x4096, .f32⟩
  | .hbm, ⟨19, _⟩ => ⟨S2x4096x4096, .f32⟩
  | .hbm, ⟨20, _⟩ => ⟨S4096x16384, .f32⟩
  | .hbm, ⟨21, _⟩ => ⟨S2x4096x16384, .f32⟩
  | .hbm, ⟨22, _⟩ => ⟨S_, .f32⟩
  | .hbm, ⟨23, _⟩ => ⟨S2x4096x16384, .f32⟩
  | .hbm, ⟨24, _⟩ => ⟨S2x4096x16384, .f32⟩
  | .hbm, ⟨25, _⟩ => ⟨S2x4096x16384, .f32⟩
  | .hbm, ⟨26, _⟩ => ⟨S8192x16384, .f32⟩
  | .hbm, ⟨27, _⟩ => ⟨S8192x16384, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_cst : Ref sig .tc := ⟨.hbm, 22, rfl⟩
abbrev main_call0_v0 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Kernel3.lean ====
abbrev S2x4096x16384 : Shape := ⟨3, ![2, 4096, 16384]⟩
abbrev S1x16384x4096 : Shape := ⟨3, ![1, 16384, 4096]⟩
abbrev S2x4096x4096 : Shape := ⟨3, ![2, 4096, 4096]⟩
abbrev S4096 : Shape := ⟨1, ![4096]⟩
abbrev S8192x16384 : Shape := ⟨2, ![8192, 16384]⟩
abbrev S16384x4096 : Shape := ⟨2, ![16384, 4096]⟩
abbrev S8192x4096 : Shape := ⟨2, ![8192, 4096]⟩
abbrev S1x4096 : Shape := ⟨2, ![1, 4096]⟩
abbrev S512x512 : Shape := ⟨2, ![512, 512]⟩
abbrev S512x4096 : Shape := ⟨2, ![512, 4096]⟩
abbrev S64x4096 : Shape := ⟨2, ![64, 4096]⟩
abbrev S64 : Shape := ⟨1, ![64]⟩
abbrev S64x1 : Shape := ⟨2, ![64, 1]⟩

abbrev nBuf : Space → Nat
  | .hbm => 11
  | .vmem => 9
  | .smem => 0
  | _ => 0

abbrev bufTy : (tb : Table) → Fin (tcTables nBuf tb) → BufTy
  | .hbm, ⟨0, _⟩ => ⟨S2x4096x16384, .f32⟩
  | .hbm, ⟨1, _⟩ => ⟨S1x16384x4096, .f32⟩
  | .hbm, ⟨2, _⟩ => ⟨S2x4096x4096, .f32⟩
  | .hbm, ⟨3, _⟩ => ⟨S4096, .f32⟩
  | .hbm, ⟨4, _⟩ => ⟨S8192x16384, .f32⟩
  | .hbm, ⟨5, _⟩ => ⟨S8192x16384, .bf16⟩
  | .hbm, ⟨6, _⟩ => ⟨S16384x4096, .f32⟩
  | .hbm, ⟨7, _⟩ => ⟨S16384x4096, .bf16⟩
  | .hbm, ⟨8, _⟩ => ⟨S8192x4096, .f32⟩
  | .hbm, ⟨9, _⟩ => ⟨S1x4096, .f32⟩
  | .hbm, ⟨10, _⟩ => ⟨S8192x4096, .f32⟩
  | .local _ .vmem, ⟨0, _⟩ => ⟨S512x512, .bf16⟩
  | .local _ .vmem, ⟨1, _⟩ => ⟨S512x512, .bf16⟩
  | .local _ .vmem, ⟨2, _⟩ => ⟨S512x4096, .bf16⟩
  | .local _ .vmem, ⟨3, _⟩ => ⟨S512x4096, .bf16⟩
  | .local _ .vmem, ⟨4, _⟩ => ⟨S512x4096, .f32⟩
  | .local _ .vmem, ⟨5, _⟩ => ⟨S512x4096, .f32⟩
  | .local _ .vmem, ⟨6, _⟩ => ⟨S1x4096, .f32⟩
  | .local _ .vmem, ⟨7, _⟩ => ⟨S512x4096, .f32⟩
  | .local _ .vmem, ⟨8, _⟩ => ⟨S512x4096, .f32⟩
  | _, _ => ⟨S2x4096x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 32], ![false, false]⟩

def k0_cond2 (i : grid0.Coords) : BitVec 1 :=
  let arg1 : BitVec 32 := BitVec.ofNat 32 (i 1).val
  let c31_i32 : BitVec 32 := 31#32
  let v12 : BitVec 1 := Scalar.cmpi .eq arg1 c31_i32
  let v13 : BitVec 32 := Scalar.extui v12
  let c0_i32_8 : BitVec 32 := 0#32
  let v14 : BitVec 1 := Scalar.cmpi .ne v13 c0_i32_8
  v14

@[reducible] def k0_t1_loop : Scf.Loop 32 :=
  let c0_i32_9 : BitVec 32 := 0#32
  let c8_i32 : BitVec 32 := 8#32
  let v15 : BitVec 32 := Scalar.addi c0_i32_9 c8_i32
  let c1_i32 : BitVec 32 := 1#32
  ⟨c0_i32_9, v15, c1_i32⟩
def k0_mult1 (k0_t1 : Fin k0_t1_loop.trips) : BitVec 32 :=
  let c0_i32_9 : BitVec 32 := 0#32
  let c1_i32 : BitVec 32 := 1#32
  let arg7 : BitVec 32 := Scf.iv c0_i32_9 c1_i32 k0_t1
  let c64_i32 : BitVec 32 := 64#32
  let v16 : BitVec 32 := Scalar.muli arg7 c64_i32
  v16
def k0_off1 (k0_t1 : Fin k0_t1_loop.trips) : Fin 2 → Nat :=
  let c0_i32_9 : BitVec 32 := 0#32
  let c1_i32 : BitVec 32 := 1#32
  let arg7 : BitVec 32 := Scf.iv c0_i32_9 c1_i32 k0_t1
  let c64_i32 : BitVec 32 := 64#32
  let v16 : BitVec 32 := Scalar.muli arg7 c64_i32
  let v17 : BitVec 32 := v16
  let v18 : Index := Scalar.indexCast v17
  let c0_11 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S2x4096x16384 : Shape := ⟨3, ![2, 4096, 16384]⟩
abbrev S1x16384x4096 : Shape := ⟨3, ![1, 16384, 4096]⟩
abbrev S2x4096x4096 : Shape := ⟨3, ![2, 4096, 4096]⟩
abbrev S4096 : Shape := ⟨1, ![4096]⟩
abbrev S16384x4096 : Shape := ⟨2, ![16384, 4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S8192x4096 : Shape := ⟨2, ![8192, 4096]⟩

abbrev nBuf : Space → Nat
  | .hbm => 24
  | .vmem => 0
  | .smem => 0
  | _ => 0

abbrev bufTy : (tb : Table) → Fin (tcTables nBuf tb) → BufTy
  | .hbm, ⟨0, _⟩ => ⟨S2x4096x16384, .f32⟩
  | .hbm, ⟨1, _⟩ => ⟨S1x16384x4096, .f32⟩
  | .hbm, ⟨2, _⟩ => ⟨S2x4096x4096, .f32⟩
  | .hbm, ⟨3, _⟩ => ⟨S4096, .f32⟩
  | .hbm, ⟨4, _⟩ => ⟨S16384x4096, .f32⟩
  | .hbm, ⟨5, _⟩ => ⟨S2x4096x4096, .f32⟩
  | .hbm, ⟨6, _⟩ => ⟨S2x4096x4096, .f32⟩
  | .hbm, ⟨7, _⟩ => ⟨S2x4096x4096, .f32⟩
  | .hbm, ⟨8, _⟩ => ⟨S_, .f32⟩
  | .hbm, ⟨9, _⟩ => ⟨S2x4096, .f32⟩
  | .hbm, ⟨10, _⟩ => ⟨S2x4096x1, .f32⟩
  | .hbm, ⟨11, _⟩ => ⟨S_, .f32⟩
  | .hbm, ⟨12, _⟩ => ⟨S2x4096x1, .f32⟩
  | .hbm, ⟨13, _⟩ => ⟨S2x4096x1, .f32⟩
  | .hbm, ⟨14, _⟩ => ⟨S_, .f32⟩
  | .hbm, ⟨15, _⟩ => ⟨S2x4096x1, .f32⟩
  | .hbm, ⟨16, _⟩ => ⟨S2x4096x1, .f32⟩
  | .hbm, ⟨17, _⟩ => ⟨S2x4096x1, .f32⟩
  | .hbm, ⟨18, _⟩ => ⟨S2x4096x4096, .f32⟩
  | .hbm, ⟨19, _⟩ => ⟨S2x4096x4096, .f32⟩
  | .hbm, ⟨20, _⟩ => ⟨S1x1x4096, .f32⟩
  | .hbm, ⟨21, _⟩ => ⟨S2x4096x4096, .f32⟩
  | .hbm, ⟨22, _⟩ => ⟨S2x4096x4096, .f32⟩
  | .hbm, ⟨23, _⟩ => ⟨S8192x4096, .f32⟩
  | _, _ => ⟨S2x4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel4.lean ====
abbrev S2x4096x2048 : Shape := ⟨3, ![2, 4096, 2048]⟩
abbrev S1x4096x4096 : Shape := ⟨3, ![1, 4096, 4096]⟩
abbrev S2x4096x4096 : Shape := ⟨3, ![2, 4096, 4096]⟩
abbrev S8192x2048 : Shape := ⟨2, ![8192, 2048]⟩
abbrev S4096x4096 : Shape := ⟨2, ![4096, 4096]⟩
abbrev S8192x4096 : Shape := ⟨2, ![8192, 4096]⟩
abbrev S512x2048 : Shape := ⟨2, ![512, 2048]⟩
abbrev S4096x1024 : Shape := ⟨2, ![4096, 1024]⟩
abbrev S512x1024 : Shape := ⟨2, ![512, 1024]⟩
abbrev S2048x1024 : Shape := ⟨2, ![2048, 1024]⟩

abbrev nBuf : Space → Nat
  | .hbm => 12
  | .vmem => 10
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S1x4096x4096, .f32⟩
  | .hbm, ⟨3, _⟩ => ⟨S2x4096x4096, .f32⟩
  | .hbm, ⟨4, _⟩ => ⟨S8192x2048, .f32⟩
  | .hbm, ⟨5, _⟩ => ⟨S8192x2048, .bf16⟩
  | .hbm, ⟨6, _⟩ => ⟨S8192x2048, .f32⟩
  | .hbm, ⟨7, _⟩ => ⟨S8192x2048, .bf16⟩
  | .hbm, ⟨8, _⟩ => ⟨S4096x4096, .f32⟩
  | .hbm, ⟨9, _⟩ => ⟨S4096x4096, .bf16⟩
  | .hbm, ⟨10, _⟩ => ⟨S8192x4096, .f32⟩
  | .hbm, ⟨11, _⟩ => ⟨S8192x4096, .f32⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S4096x1024, .bf16⟩
  | .local _ .vmem, ⟨5, _⟩ => ⟨S4096x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S2x4096x2048 : Shape := ⟨3, ![2, 4096, 2048]⟩
abbrev S1x4096x4096 : Shape := ⟨3, ![1, 4096, 4096]⟩
abbrev S2x4096x4096 : Shape := ⟨3, ![2, 4096, 4096]⟩
abbrev S4096x4096 : Shape := ⟨2, ![4096, 4096]⟩
abbrev S8192x4096 : Shape := ⟨2, ![8192, 4096]⟩

abbrev nBuf : Space → Nat
  | .hbm => 9
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S2x4096x2048, .f32⟩
  | .hbm, ⟨2, _⟩ => ⟨S1x4096x4096, .f32⟩
  | .hbm, ⟨3, _⟩ => ⟨S2x4096x4096, .f32⟩
  | .hbm, ⟨4, _⟩ => ⟨S2x4096x4096, .f32⟩
  | .hbm, ⟨5, _⟩ => ⟨S4096x4096, .f32⟩
  | .hbm, ⟨6, _⟩ => ⟨S2x4096x4096, .f32⟩
  | .hbm, ⟨7, _⟩ => ⟨S2x4096x4096, .f32⟩
  | .hbm, ⟨8, _⟩ => ⟨S8192x4096, .f32⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel5.lean ====
abbrev S2x4096x4096 : Shape := ⟨3, ![2, 4096, 4096]⟩
abbrev S1x4096 : Shape := ⟨2, ![1, 4096]⟩
abbrev S1x4096x11424 : Shape := ⟨3, ![1, 4096, 11424]⟩
abbrev S8192x4096 : Shape := ⟨2, ![8192, 4096]⟩
abbrev S4096 : Shape := ⟨1, ![4096]⟩
abbrev S1x4096x11264 : Shape := ⟨3, ![1, 4096, 11264]⟩
abbrev S4096x11264 : Shape := ⟨2, ![4096, 11264]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4096x112 : Shape := ⟨2, ![4096, 112]⟩
abbrev S1x4096x128 : Shape := ⟨3, ![1, 4096, 128]⟩
abbrev S3x4096x128 : Shape := ⟨3, ![3, 4096, 128]⟩
abbrev S8192x11264 : Shape := ⟨2, ![8192, 11264]⟩
abbrev S8192x3584 : Shape := ⟨2, ![8192, 3584]⟩
abbrev S512x4096 : Shape := ⟨2, ![512, 4096]⟩
abbrev S4096x512 : Shape := ⟨2, ![4096, 512]⟩
abbrev S1x512x128 : Shape := ⟨3, ![1, 512, 128]⟩
abbrev S512x512 : Shape := ⟨2, ![512, 512]⟩
abbrev S64x4096 : Shape := ⟨2, ![64, 4096]⟩
abbrev S64 : Shape := ⟨1, ![64]⟩
abbrev S64x1 : Shape := ⟨2, ![64, 1]⟩
abbrev S512x128 : Shape := ⟨2, ![512, 128]⟩

abbrev nBuf : Space → Nat
  | .hbm => 58
  | .vmem => 16
  | .smem => 0
  | _ => 0

abbrev bufTy : (tb : Table) → Fin (tcTables nBuf tb) → BufTy
  | .hbm, ⟨0, _⟩ => ⟨S2x4096x4096, .f32⟩
  | .hbm, ⟨1, _⟩ => ⟨S1x4096, .f32⟩
  | .hbm, ⟨2, _⟩ => ⟨S1x4096x11424, .f32⟩
  | .hbm, ⟨3, _⟩ => ⟨S8192x4096, .f32⟩
  | .hbm, ⟨4, _⟩ => ⟨S4096, .f32⟩
  | .hbm, ⟨5, _⟩ => ⟨S1x4096, .f32⟩
  | .hbm, ⟨6, _⟩ => ⟨S1x4096x11264, .f32⟩
  | .hbm, ⟨7, _⟩ => ⟨S4096x11264, .f32⟩
  | .hbm, ⟨8, _⟩ => ⟨S4096x11264, .bf16⟩
  | .hbm, ⟨9, _⟩ => ⟨S4096, .i32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S4096, .f32⟩
  | .hbm, ⟨19, _⟩ => ⟨S4096x1, .f32⟩
  | .hbm, ⟨20, _⟩ => ⟨S1x16, .f32⟩
  | .hbm, ⟨21, _⟩ => ⟨S4096x16, .f32⟩
  | .hbm, ⟨22, _⟩ => ⟨S4096x16, .f32⟩
  | .hbm, ⟨23, _⟩ => ⟨S4096x16, .f32⟩
  | .hbm, ⟨24, _⟩ => ⟨S4096x16, .f32⟩
  | .hbm, ⟨25, _⟩ => ⟨S4096x16, .f32⟩
  | .hbm, ⟨26, _⟩ => ⟨S_, .f32⟩
  | .hbm, ⟨27, _⟩ => ⟨S4096x96, .f32⟩
  | .hbm, ⟨28, _⟩ => ⟨S4096x128, .f32⟩
  | .hbm, ⟨29, _⟩ => ⟨S4096x16, .f32⟩
  | .hbm, ⟨30, _⟩ => ⟨S_, .f32⟩
  | .hbm, ⟨31, _⟩ => ⟨S4096x112, .f32⟩
  | .hbm, ⟨32, _⟩ => ⟨S4096x128, .f32⟩
  | .hbm, ⟨33, _⟩ => ⟨S_, .f32⟩
  | .hbm, ⟨34, _⟩ => ⟨S4096x16, .f32⟩
  | .hbm, ⟨35, _⟩ => ⟨S_, .f32⟩
  | .hbm, ⟨36, _⟩ => ⟨S4096x96, .f32⟩
  | .hbm, ⟨37, _⟩ => ⟨S4096x128, .f32⟩
  | .hbm, ⟨38, _⟩ => ⟨S_, .f32⟩
  | .hbm, ⟨39, _⟩ => ⟨S4096x128, .f32⟩
  | .hbm, ⟨40, _⟩ => ⟨S_, .f32⟩
  | .hbm, ⟨41, _⟩ => ⟨S4096x128, .f32⟩
  | .hbm, ⟨42, _⟩ => ⟨S_, .f32⟩
  | .hbm, ⟨43, _⟩ => ⟨S4096x128, .f32⟩
  | .hbm, ⟨44, _⟩ => ⟨S1x4096x128, .f32⟩
  | .hbm, ⟨45, _⟩ => ⟨S1x4096x128, .f32⟩
  | .hbm, ⟨46, _⟩ => ⟨S1x4096x128, .f32⟩
  | .hbm, ⟨47, _⟩ => ⟨S3x4096x128, .f32⟩
  | .hbm, ⟨48, _⟩ => ⟨S1x4096x128, .f32⟩
  | .hbm, ⟨49, _⟩ => ⟨S1x4096x128, .f32⟩
  | .hbm, ⟨50, _⟩ => ⟨S1x4096x128, .f32⟩
  | .hbm, ⟨51, _⟩ => ⟨S3x4096x128, .f32⟩
  | .hbm, ⟨52, _⟩ => ⟨S1x4096x128, .f32⟩
  | .hbm, ⟨53, _⟩ => ⟨S1x4096x128, .f32⟩
  | .hbm, ⟨54, _⟩ => ⟨S1x4096x128, .f32⟩
  | .hbm, ⟨55, _⟩ => ⟨S3x4096x128, .f32⟩
  | .hbm, ⟨56, _⟩ => ⟨S8192x11264, .bf16⟩
  | .hbm, ⟨57, _⟩ => ⟨S8192x3584, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x512, .bf16⟩
  | .local _ .vmem, ⟨4, _⟩ => ⟨S4096x512, .bf16⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S512x512, .bf16⟩
  | .local _ .vmem, ⟨12, _⟩ => ⟨S512x512, .bf16⟩
  | .local _ .vmem, ⟨13, _⟩ => ⟨S512x512, .f32⟩
  | .local _ .vmem, ⟨14, _⟩ => ⟨S512x512, .f32⟩
  | .local _ .vmem, ⟨15, _⟩ => ⟨S512x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_cst_3 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_cst_6 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44_0 : Ref sig .tc := ⟨.hbm, 56, rfl⟩
abbrev main_v44_1 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨2, ![16, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_32 : BitVec 32 := 0#32
  let c8_i32 : BitVec 32 := 8#32
  let v57 : BitVec 32 := Scalar.addi c0_i32_32 c8_i32
  let c1_i32 : BitVec 32 := 1#32
  ⟨c0_i32_32, v57, c1_i32⟩
def k0_mult1 (k0_t1 : Fin k0_t1_loop.trips) : BitVec 32 :=
  let c0_i32_32 : BitVec 32 := 0#32
  let c1_i32 : BitVec 32 := 1#32
  let arg11 : BitVec 32 := Scf.iv c0_i32_32 c1_i32 k0_t1
  let c64_i32 : BitVec 32 := 64#32
  let v58 : BitVec 32 := Scalar.muli arg11 c64_i32
  v58
def k0_off1 (k0_t1 : Fin k0_t1_loop.trips) : Fin 2 → Nat :=
  let c0_i32_32 : BitVec 32 := 0#32
  let c1_i32 : BitVec 32 := 1#32
  let arg11 : BitVec 32 := Scf.iv c0_i32_32 c1_i32 k0_t1
  let c64_i32 : BitVec 32 := 64#32
  let v58 : BitVec 32 := Scalar.muli arg11 c64_i32
  let v59 : BitVec 32 := v58
  let v60 : Index := Scalar.indexCast v59
  let c0_34 : Index := 0#32
  ![v60.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg1 c5_i32
  let c12_i32 : BitVec 32 := 12#32
  let v1 : BitVec 1 := Scalar.cmpi .eq arg1 c12_i32
  let v2 : BitVec 1 := Scalar.ori v0 v1
  let c13_i32 : BitVec 32 := 13#32
  let v3 : BitVec 1 := Scalar.cmpi .eq arg1 c13_i32
  let v4 : BitVec 1 := Scalar.ori v2 v3
  let c4_i32 : BitVec 32 := 4#32
  let v5 : BitVec 1 := Scalar.cmpi .slt arg1 c4_i32
  let c5_i32_0 : BitVec 32 := 5#32
  let v6 : BitVec 1 := Scalar.cmpi .sgt arg1 c5_i32_0
  let c10_i32 : BitVec 32 := 10#32
  let v7 : BitVec 1 := Scalar.cmpi .slt arg1 c10_i32
  let v8 : BitVec 1 := Scalar.andi v6 v7
  let v9 : BitVec 1 := Scalar.ori v5 v8
  let c2_i32 : BitVec 32 := 2#32
  let c0_i32 : BitVec 32 := 0#32
  let v10 : BitVec 32 := Scalar.select v9 c2_i32 c0_i32
  let c1_i32 : BitVec 32 := 1#32
  let v11 : BitVec 32 := Scalar.select v4 c1_i32 v10
  let c8_i32 : BitVec 32 := 8#32
  let c0_i32_1 : BitVec 32 := 0#32
  let v12 : BitVec 1 := Scalar.cmpi .eq c8_i32 c0_i32_1
  let c1_i32_2 : BitVec 32 := 1#32
  let v13 : BitVec 32 := Scalar.select v12 c1_i32_2 c8_i32
  let v14 : BitVec 32 := Scalar.remsi arg0 v13
  let c0_i32_3 : BitVec 32 := 0#32
  let v15 : BitVec 1 := Scalar.cmpi .ne v14 c0_i32_3
  let c0_i32_4 : BitVec 32 := 0#32
  let v16 : BitVec 1 := Scalar.cmpi .slt v14 c0_i32_4
  let c0_i32_5 : BitVec 32 := 0#32
  let v17 : BitVec 1 := Scalar.cmpi .slt v13 c0_i32_5
  let v18 : BitVec 1 := Scalar.xori v16 v17
  let v19 : BitVec 1 := Scalar.andi v18 v15
  let v20 : BitVec 32 := Scalar.addi v14 v13
  let v21 : BitVec 32 := Scalar.select v19 v20 v14
  let c0_i32_6 : BitVec 32 := 0#32
  let c0_i32_7 : BitVec 32 := 0#32
  ![v11.toNat, v21.toNat, c0_i32_6.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg1 c5_i32
  let c12_i32 : BitVec 32 := 12#32
  let v1 : BitVec 1 := Scalar.cmpi .eq arg1 c12_i32
  let v2 : BitVec 1 := Scalar.ori v0 v1
  let c13_i32 : BitVec 32 := 13#32
  let v3 : BitVec 1 := Scalar.cmpi .eq arg1 c13_i32
  let v4 : BitVec 1 := Scalar.ori v2 v3
  let c4_i32 : BitVec 32 := 4#32
  let v5 : BitVec 1 := Scalar.cmpi .slt arg1 c4_i32
  let c5_i32_0 : BitVec 32 := 5#32
  let v6 : BitVec 1 := Scalar.cmpi .sgt arg1 c5_i32_0
  let c10_i32 : BitVec 32 := 10#32
  let v7 : BitVec 1 := Scalar.cmpi .slt arg1 c10_i32
  let v8 : BitVec 1 := Scalar.andi v6 v7
  let v9 : BitVec 1 := Scalar.ori v5 v8
  let c2_i32 : BitVec 32 := 2#32
  let c0_i32 : BitVec 32 := 0#32
  let v10 : BitVec 32 := Scalar.select v9 c2_i32 c0_i32
  let c1_i32 : BitVec 32 := 1#32
  let v11 : BitVec 32 := Scalar.select v4 c1_i32 v10
  let c8_i32 : BitVec 32 := 8#32
  let c0_i32_1 : BitVec 32 := 0#32
  let v12 : BitVec 1 := Scalar.cmpi .eq c8_i32 c0_i32_1
  let c1_i32_2 : BitVec 32 := 1#32
  let v13 : BitVec 32 := Scalar.select v12 c1_i32_2 c8_i32
  let v14 : BitVec 32 := Scalar.remsi arg0 v13
  let c0_i32_3 : BitVec 32 := 0#32
  let v15 : BitVec 1 := Scalar.cmpi .ne v14 c0_i32_3
  let c0_i32_4 : BitVec 32 := 0#32
  let v16 : BitVec 1 := Scalar.cmpi .slt v14 c0_i32_4
  let c0_i32_5 : BitVec 32 := 0#32
  let v17 : BitVec 1 := Scalar.cmpi .slt v13 c0_i32_5
  let v18 : BitVec 1 := Scalar.xori v16 v17
  let v19 : BitVec 1 := Scalar.andi v18 v15
  let v20 : BitVec 32 := Scalar.addi v14 v13
  let v21 : BitVec 32 := Scalar.select v19 v20 v14
  let c0_i32_6 : BitVec 32 := 0#32
  let c0_i32_7 : BitVec 32 := 0#32
  ![v11.toNat, v21.toNat, c0_i32_6.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg1 c5_i32
  let c12_i32 : BitVec 32 := 12#32
  let v1 : BitVec 1 := Scalar.cmpi .eq arg1 c12_i32
  let v2 : BitVec 1 := Scalar.ori v0 v1
  let c13_i32 : BitVec 32 := 13#32
  let v3 : BitVec 1 := Scalar.cmpi .eq arg1 c13_i32
  let v4 : BitVec 1 := Scalar.ori v2 v3
  let c4_i32 : BitVec 32 := 4#32
  let v5 : BitVec 1 := Scalar.cmpi .slt arg1 c4_i32
  let c5_i32_0 : BitVec 32 := 5#32
  let v6 : BitVec 1 := Scalar.cmpi .sgt arg1 c5_i32_0
  let c10_i32 : BitVec 32 := 10#32
  let v7 : BitVec 1 := Scalar.cmpi .slt arg1 c10_i32
  let v8 : BitVec 1 := Scalar.andi v6 v7
  let v9 : BitVec 1 := Scalar.ori v5 v8
  let c2_i32 : BitVec 32 := 2#32
  let c0_i32 : BitVec 32 := 0#32
  let v10 : BitVec 32 := Scalar.select v9 c2_i32 c0_i32
  let c1_i32 : BitVec 32 := 1#32
  let v11 : BitVec 32 := Scalar.select v4 c1_i32 v10
  let c8_i32 : BitVec 32 := 8#32
  let c0_i32_1 : BitVec 32 := 0#32
  let v12 : BitVec 1 := Scalar.cmpi .eq c8_i32 c0_i32_1
  let c1_i32_2 : BitVec 32 := 1#32
  let v13 : BitVec 32 := Scalar.select v12 c1_i32_2 c8_i32
  let v14 : BitVec 32 := Scalar.remsi arg0 v13
  let c0_i32_3 : BitVec 32 := 0#32
  let v15 : BitVec 1 := Scalar.cmpi .ne v14 c0_i32_3
  let c0_i32_4 : BitVec 32 := 0#32
  let v16 : BitVec 1 := Scalar.cmpi .slt v14 c0_i32_4
  let c0_i32_5 : BitVec 32 := 0#32
  let v17 : BitVec 1 := Scalar.cmpi .slt v13 c0_i32_5
  let v18 : BitVec 1 := Scalar.xori v16 v17
  let v19 : BitVec 1 := Scalar.andi v18 v15
  let v20 : BitVec 32 := Scalar.addi v14 v13
  let v21 : BitVec 32 := Scalar.select v19 v20 v14
  let c0_i32_6 : BitVec 32 := 0#32
  let c0_i32_7 : BitVec 32 := 0#32
  ![v11.toNat, v21.toNat, c0_i32_6.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sgt arg1 c4_i32
  let v1 : BitVec 32 := Scalar.extui v0
  let c0_i32 : BitVec 32 := 0#32
  let v2 : BitVec 32 := Scalar.addi c0_i32 v1
  let c5_i32 : BitVec 32 := 5#32
  let v3 : BitVec 1 := Scalar.cmpi .sgt arg1 c5_i32
  let v4 : BitVec 32 := Scalar.extui v3
  let v5 : BitVec 32 := Scalar.addi v2 v4
  let c10_i32 : BitVec 32 := 10#32
  let v6 : BitVec 1 := Scalar.cmpi .sgt arg1 c10_i32
  let v7 : BitVec 32 := Scalar.extui v6
  let v8 : BitVec 32 := Scalar.addi v5 v7
  let c11_i32 : BitVec 32 := 11#32
  let v9 : BitVec 1 := Scalar.cmpi .sgt arg1 c11_i32
  let v10 : BitVec 32 := Scalar.extui v9
  let v11 : BitVec 32 := Scalar.addi v8 v10
  let c12_i32 : BitVec 32 := 12#32
  let v12 : BitVec 1 := Scalar.cmpi .sgt arg1 c12_i32
  let v13 : BitVec 32 := Scalar.extui v12
  let v14 : BitVec 32 := Scalar.addi v11 v13
  let c13_i32 : BitVec 32 := 13#32
  let v15 : BitVec 1 := Scalar.cmpi .sgt arg1 c13_i32
  let v16 : BitVec 32 := Scalar.extui v15
  let v17 : BitVec 32 := Scalar.addi v14 v16
  let c0_i32_0 : BitVec 32 := 0#32
  ![arg0.toNat, v17.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S2x4096x4096 : Shape := ⟨3, ![2, 4096, 4096]⟩
abbrev S1x4096 : Shape := ⟨2, ![1, 4096]⟩
abbrev S1x4096x11424 : Shape := ⟨3, ![1, 4096, 11424]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S4096x11424 : Shape := ⟨2, ![4096, 11424]⟩
abbrev S2x4096x11424 : Shape := ⟨3, ![2, 4096, 11424]⟩
abbrev S2x4096x2048 : Shape := ⟨3, ![2, 4096, 2048]⟩
abbrev S2x4096x512 : Shape := ⟨3, ![2, 4096, 512]⟩
abbrev S2x4096x1024 : Shape := ⟨3, ![2, 4096, 1024]⟩
abbrev S2x4096x128 : Shape := ⟨3, ![2, 4096, 128]⟩
abbrev S2x4096x32 : Shape := ⟨3, ![2, 4096, 32]⟩
abbrev S2x4096x16x128 : Shape := ⟨4, ![2, 4096, 16, 128]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S2x4096x16x16 : Shape := ⟨4, ![2, 4096, 16, 16]⟩
abbrev S1x4096x1x16 : Shape := ⟨4, ![1, 4096, 1, 16]⟩
abbrev S2x4096x16x96 : Shape := ⟨4, ![2, 4096, 16, 96]⟩
abbrev S8192x2048 : Shape := ⟨2, ![8192, 2048]⟩
abbrev S2x4096x4x128 : Shape := ⟨4, ![2, 4096, 4, 128]⟩
abbrev S2x4096x4x16 : Shape := ⟨4, ![2, 4096, 4, 16]⟩
abbrev S2x4096x4x96 : Shape := ⟨4, ![2, 4096, 4, 96]⟩
abbrev S8192x512 : Shape := ⟨2, ![8192, 512]⟩
abbrev S2x4096x8x128 : Shape := ⟨4, ![2, 4096, 8, 128]⟩
abbrev S2x4096x8x16 : Shape := ⟨4, ![2, 4096, 8, 16]⟩
abbrev S2x4096x8x96 : Shape := ⟨4, ![2, 4096, 8, 96]⟩
abbrev S8192x1024 : Shape := ⟨2, ![8192, 1024]⟩
abbrev S2x4096x32x128 : Shape := ⟨4, ![2, 4096, 32, 128]⟩
abbrev S2x4096x32x16 : Shape := ⟨4, ![2, 4096, 32, 16]⟩
abbrev S2x4096x32x96 : Shape := ⟨4, ![2, 4096, 32, 96]⟩
abbrev S8192x4096 : Shape := ⟨2, ![8192, 4096]⟩
abbrev S8192x11264 : Shape := ⟨2, ![8192, 11264]⟩
abbrev S8192x3584 : Shape := ⟨2, ![8192, 3584]⟩

abbrev nBuf : Space → Nat
  | .hbm => 228
  | .vmem => 0
  | .smem => 0
  | _ => 0

abbrev hbmTy0_0 (i : Nat) : BufTy := match i % 128 with
  | 0 => ⟨S2x4096x4096, .f32⟩
  | 1 => ⟨S1x4096, .f32⟩
  | 2 => ⟨S1x4096x11424, .f32⟩
  | 3 => ⟨S4096, .f32⟩
  | 4 => ⟨S2x4096x4096, .f32⟩
  | 5 => ⟨S_, .f32⟩
  | 6 => ⟨S2x4096, .f32⟩
  | 7 => ⟨S2x4096x1, .f32⟩
  | 8 => ⟨S_, .f32⟩
  | 9 => ⟨S2x4096x1, .f32⟩
  | 10 => ⟨S2x4096x1, .f32⟩
  | 11 => ⟨S_, .f32⟩
  | 12 => ⟨S2x4096x1, .f32⟩
  | 13 => ⟨S2x4096x1, .f32⟩
  | 14 => ⟨S2x4096x1, .f32⟩
  | 15 => ⟨S2x4096x4096, .f32⟩
  | 16 => ⟨S2x4096x4096, .f32⟩
  | 17 => ⟨S1x1x4096, .f32⟩
  | 18 => ⟨S2x4096x4096, .f32⟩
  | 19 => ⟨S2x4096x4096, .f32⟩
  | 20 => ⟨S4096x11424, .f32⟩
  | 21 => ⟨S2x4096x11424, .f32⟩
  | 22 => ⟨S4096, .i32⟩
  | 23 => ⟨S2x4096x2048, .f32⟩
  | 24 => ⟨S2x4096x512, .f32⟩
  | 25 => ⟨S2x4096x512, .f32⟩
  | 26 => ⟨S2x4096x2048, .f32⟩
  | 27 => ⟨S2x4096x1024, .f32⟩
  | 28 => ⟨S2x4096x1024, .f32⟩
  | 29 => ⟨S2x4096x4096, .f32⟩
  | 30 => ⟨S2x4096x128, .f32⟩
  | 31 => ⟨S2x4096x32, .f32⟩
  | 32 => ⟨S2x4096x16x128, .f32⟩
  | 33 => ⟨S16, .f32⟩
  | 34 => ⟨S16, .f32⟩
  | 35 => ⟨S_, .f32⟩
  | 36 => ⟨S16, .f32⟩
  | 37 => ⟨S16, .f32⟩
  | 38 => ⟨S_, .f32⟩
  | 39 => ⟨S16, .f32⟩
  | 40 => ⟨S16, .f32⟩
  | 41 => ⟨S4096, .f32⟩
  | 42 => ⟨S4096x1, .f32⟩
  | 43 => ⟨S1x16, .f32⟩
  | 44 => ⟨S4096x16, .f32⟩
  | 45 => ⟨S4096x16, .f32⟩
  | 46 => ⟨S4096x16, .f32⟩
  | 47 => ⟨S4096x16, .f32⟩
  | 48 => ⟨S4096x1x16, .f32⟩
  | 49 => ⟨S4096x16, .f32⟩
  | 50 => ⟨S4096x1x16, .f32⟩
  | 51 => ⟨S2x4096x16x16, .f32⟩
  | 52 => ⟨S2x4096x16x16, .f32⟩
  | 53 => ⟨S1x4096x1x16, .f32⟩
  | 54 => ⟨S2x4096x16x16, .f32⟩
  | 55 => ⟨S2x4096x16x16, .f32⟩
  | 56 => ⟨S1x4096x1x16, .f32⟩
  | 57 => ⟨S2x4096x16x16, .f32⟩
  | 58 => ⟨S2x4096x16x16, .f32⟩
  | 59 => ⟨S2x4096x16x16, .f32⟩
  | 60 => ⟨S1x4096x1x16, .f32⟩
  | 61 => ⟨S2x4096x16x16, .f32⟩
  | 62 => ⟨S2x4096x16x16, .f32⟩
  | 63 => ⟨S1x4096x1x16, .f32⟩
  | 64 => ⟨S2x4096x16x16, .f32⟩
  | 65 => ⟨S2x4096x16x16, .f32⟩
  | 66 => ⟨S2x4096x16x16, .f32⟩
  | 67 => ⟨S2x4096x16x96, .f32⟩
  | 68 => ⟨S2x4096x16x128, .f32⟩
  | 69 => ⟨S8192x2048, .f32⟩
  | 70 => ⟨S2x4096x4x128, .f32⟩
  | 71 => ⟨S16, .f32⟩
  | 72 => ⟨S16, .f32⟩
  | 73 => ⟨S_, .f32⟩
  | 74 => ⟨S16, .f32⟩
  | 75 => ⟨S16, .f32⟩
  | 76 => ⟨S_, .f32⟩
  | 77 => ⟨S16, .f32⟩
  | 78 => ⟨S16, .f32⟩
  | 79 => ⟨S4096, .f32⟩
  | 80 => ⟨S4096x1, .f32⟩
  | 81 => ⟨S1x16, .f32⟩
  | 82 => ⟨S4096x16, .f32⟩
  | 83 => ⟨S4096x16, .f32⟩
  | 84 => ⟨S4096x16, .f32⟩
  | 85 => ⟨S4096x16, .f32⟩
  | 86 => ⟨S4096x1x16, .f32⟩
  | 87 => ⟨S4096x16, .f32⟩
  | 88 => ⟨S4096x1x16, .f32⟩
  | 89 => ⟨S2x4096x4x16, .f32⟩
  | 90 => ⟨S2x4096x4x16, .f32⟩
  | 91 => ⟨S1x4096x1x16, .f32⟩
  | 92 => ⟨S2x4096x4x16, .f32⟩
  | 93 => ⟨S2x4096x4x16, .f32⟩
  | 94 => ⟨S1x4096x1x16, .f32⟩
  | 95 => ⟨S2x4096x4x16, .f32⟩
  | 96 => ⟨S2x4096x4x16, .f32⟩
  | 97 => ⟨S2x4096x4x16, .f32⟩
  | 98 => ⟨S1x4096x1x16, .f32⟩
  | 99 => ⟨S2x4096x4x16, .f32⟩
  | 100 => ⟨S2x4096x4x16, .f32⟩
  | 101 => ⟨S1x4096x1x16, .f32⟩
  | 102 => ⟨S2x4096x4x16, .f32⟩
  | 103 => ⟨S2x4096x4x16, .f32⟩
  | 104 => ⟨S2x4096x4x16, .f32⟩
  | 105 => ⟨S2x4096x4x96, .f32⟩
  | 106 => ⟨S2x4096x4x128, .f32⟩
  | 107 => ⟨S8192x512, .f32⟩
  | 108 => ⟨S2x4096x16x128, .f32⟩
  | 109 => ⟨S16, .f32⟩
  | 110 => ⟨S16, .f32⟩
  | 111 => ⟨S_, .f32⟩
  | 112 => ⟨S16, .f32⟩
  | 113 => ⟨S16, .f32⟩
  | 114 => ⟨S_, .f32⟩
  | 115 => ⟨S16, .f32⟩
  | 116 => ⟨S16, .f32⟩
  | 117 => ⟨S4096, .f32⟩
  | 118 => ⟨S4096x1, .f32⟩
  | 119 => ⟨S1x16, .f32⟩
  | 120 => ⟨S4096x16, .f32⟩
  | 121 => ⟨S4096x16, .f32⟩
  | 122 => ⟨S4096x16, .f32⟩
  | 123 => ⟨S4096x16, .f32⟩
  | 124 => ⟨S4096x1x16, .f32⟩
  | 125 => ⟨S4096x16, .f32⟩
  | 126 => ⟨S4096x1x16, .f32⟩
  | 127 => ⟨S2x4096x16x16, .f32⟩
  | _ => ⟨S2x4096x4096, .f32⟩

abbrev hbmTy0_1 (i : Nat) : BufTy := match i % 128 with
  | 0 => ⟨S2x4096x16x16, .f32⟩
  | 1 => ⟨S1x4096x1x16, .f32⟩
  | 2 => ⟨S2x4096x16x16, .f32⟩
  | 3 => ⟨S2x4096x16x16, .f32⟩
  | 4 => ⟨S1x4096x1x16, .f32⟩
  | 5 => ⟨S2x4096x16x16, .f32⟩
  | 6 => ⟨S2x4096x16x16, .f32⟩
  | 7 => ⟨S2x4096x16x16, .f32⟩
  | 8 => ⟨S1x4096x1x16, .f32⟩
  | 9 => ⟨S2x4096x16x16, .f32⟩
  | 10 => ⟨S2x4096x16x16, .f32⟩
  | 11 => ⟨S1x4096x1x16, .f32⟩
  | 12 => ⟨S2x4096x16x16, .f32⟩
  | 13 => ⟨S2x4096x16x16, .f32⟩
  | 14 => ⟨S2x4096x16x16, .f32⟩
  | 15 => ⟨S2x4096x16x96, .f32⟩
  | 16 => ⟨S2x4096x16x128, .f32⟩
  | 17 => ⟨S8192x2048, .f32⟩
  | 18 => ⟨S2x4096x8x128, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S4096, .f32⟩
  | 28 => ⟨S4096x1, .f32⟩
  | 29 => ⟨S1x16, .f32⟩
  | 30 => ⟨S4096x16, .f32⟩
  | 31 => ⟨S4096x16, .f32⟩
  | 32 => ⟨S4096x16, .f32⟩
  | 33 => ⟨S4096x16, .f32⟩
  | 34 => ⟨S4096x1x16, .f32⟩
  | 35 => ⟨S4096x16, .f32⟩
  | 36 => ⟨S4096x1x16, .f32⟩
  | 37 => ⟨S2x4096x8x16, .f32⟩
  | 38 => ⟨S2x4096x8x16, .f32⟩
  | 39 => ⟨S1x4096x1x16, .f32⟩
  | 40 => ⟨S2x4096x8x16, .f32⟩
  | 41 => ⟨S2x4096x8x16, .f32⟩
  | 42 => ⟨S1x4096x1x16, .f32⟩
  | 43 => ⟨S2x4096x8x16, .f32⟩
  | 44 => ⟨S2x4096x8x16, .f32⟩
  | 45 => ⟨S2x4096x8x16, .f32⟩
  | 46 => ⟨S1x4096x1x16, .f32⟩
  | 47 => ⟨S2x4096x8x16, .f32⟩
  | 48 => ⟨S2x4096x8x16, .f32⟩
  | 49 => ⟨S1x4096x1x16, .f32⟩
  | 50 => ⟨S2x4096x8x16, .f32⟩
  | 51 => ⟨S2x4096x8x16, .f32⟩
  | 52 => ⟨S2x4096x8x16, .f32⟩
  | 53 => ⟨S2x4096x8x96, .f32⟩
  | 54 => ⟨S2x4096x8x128, .f32⟩
  | 55 => ⟨S8192x1024, .f32⟩
  | 56 => ⟨S2x4096x32x128, .f32⟩
  | 57 => ⟨S16, .f32⟩
  | 58 => ⟨S16, .f32⟩
  | 59 => ⟨S_, .f32⟩
  | 60 => ⟨S16, .f32⟩
  | 61 => ⟨S16, .f32⟩
  | 62 => ⟨S_, .f32⟩
  | 63 => ⟨S16, .f32⟩
  | 64 => ⟨S16, .f32⟩
  | 65 => ⟨S4096, .f32⟩
  | 66 => ⟨S4096x1, .f32⟩
  | 67 => ⟨S1x16, .f32⟩
  | 68 => ⟨S4096x16, .f32⟩
  | 69 => ⟨S4096x16, .f32⟩
  | 70 => ⟨S4096x16, .f32⟩
  | 71 => ⟨S4096x16, .f32⟩
  | 72 => ⟨S4096x1x16, .f32⟩
  | 73 => ⟨S4096x16, .f32⟩
  | 74 => ⟨S4096x1x16, .f32⟩
  | 75 => ⟨S2x4096x32x16, .f32⟩
  | 76 => ⟨S2x4096x32x16, .f32⟩
  | 77 => ⟨S1x4096x1x16, .f32⟩
  | 78 => ⟨S2x4096x32x16, .f32⟩
  | 79 => ⟨S2x4096x32x16, .f32⟩
  | 80 => ⟨S1x4096x1x16, .f32⟩
  | 81 => ⟨S2x4096x32x16, .f32⟩
  | 82 => ⟨S2x4096x32x16, .f32⟩
  | 83 => ⟨S2x4096x32x16, .f32⟩
  | 84 => ⟨S1x4096x1x16, .f32⟩
  | 85 => ⟨S2x4096x32x16, .f32⟩
  | 86 => ⟨S2x4096x32x16, .f32⟩
  | 87 => ⟨S1x4096x1x16, .f32⟩
  | 88 => ⟨S2x4096x32x16, .f32⟩
  | 89 => ⟨S2x4096x32x16, .f32⟩
  | 90 => ⟨S2x4096x32x16, .f32⟩
  | 91 => ⟨S2x4096x32x96, .f32⟩
  | 92 => ⟨S2x4096x32x128, .f32⟩
  | 93 => ⟨S8192x4096, .f32⟩
  | 94 => ⟨S8192x512, .f32⟩
  | 95 => ⟨S8192x1024, .f32⟩
  | 96 => ⟨S8192x11264, .f32⟩
  | 97 => ⟨S8192x11264, .bf16⟩
  | 98 => ⟨S8192x512, .f32⟩
  | 99 => ⟨S8192x3584, .f32⟩
  | _ => ⟨S2x4096x4096, .f32⟩

abbrev hbmTy (i : Nat) : BufTy := match i / 128 with
  | 0 => hbmTy0_0 i
  | 1 => hbmTy0_1 i
  | _ => ⟨S2x4096x4096, .f32⟩

abbrev bufTy : (tb : Table) → Fin (tcTables nBuf tb) → BufTy
  | .hbm, ⟨i, _⟩ => hbmTy i
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_2 : Ref sig .tc := ⟨.hbm, 35, rfl⟩
abbrev main_v29 : Ref sig .tc := ⟨.hbm, 36, rfl⟩
abbrev main_v30 : Ref sig .tc := ⟨.hbm, 37, rfl⟩
abbrev main_cst_3 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_v58 : Ref sig .tc := ⟨.hbm, 66, rfl⟩
abbrev main_v59 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_cst_4 : Ref sig .tc := ⟨.hbm, 73, rfl⟩
abbrev main_v65 : Ref sig .tc := ⟨.hbm, 74, rfl⟩
abbrev main_v66 : Ref sig .tc := ⟨.hbm, 75, rfl⟩
abbrev main_cst_5 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_cst_6 : Ref sig .tc := ⟨.hbm, 111, rfl⟩
abbrev main_v101 : Ref sig .tc := ⟨.hbm, 112, rfl⟩
abbrev main_v102 : Ref sig .tc := ⟨.hbm, 113, rfl⟩
abbrev main_cst_7 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_cst_8 : Ref sig .tc := ⟨.hbm, 149, rfl⟩
abbrev main_v137 : Ref sig .tc := ⟨.hbm, 150, rfl⟩
abbrev main_v138 : Ref sig .tc := ⟨.hbm, 151, rfl⟩
abbrev main_cst_9 : Ref sig .tc := ⟨.hbm, 152, rfl⟩
abbrev main_v139 : Ref sig .tc := ⟨.hbm, 153, rfl⟩
abbrev main_v140 : Ref sig .tc := ⟨.hbm, 154, rfl⟩
abbrev main_v141 : Ref sig .tc := ⟨.hbm, 155, rfl⟩
abbrev main_v142 : Ref sig .tc := ⟨.hbm, 156, rfl⟩
abbrev main_v143 : Ref sig .tc := ⟨.hbm, 157, rfl⟩
abbrev main_v144 : Ref sig .tc := ⟨.hbm, 158, rfl⟩
abbrev main_v145 : Ref sig .tc := ⟨.hbm, 159, rfl⟩
abbrev main_v146 : Ref sig .tc := ⟨.hbm, 160, rfl⟩
abbrev main_v147 : Ref sig .tc := ⟨.hbm, 161, rfl⟩
abbrev main_v148 : Ref sig .tc := ⟨.hbm, 162, rfl⟩
abbrev main_v149 : Ref sig .tc := ⟨.hbm, 163, rfl⟩
abbrev main_v150 : Ref sig .tc := ⟨.hbm, 164, rfl⟩
abbrev main_v151 : Ref sig .tc := ⟨.hbm, 165, rfl⟩
abbrev main_v152 : Ref sig .tc := ⟨.hbm, 166, rfl⟩
abbrev main_v153 : Ref sig .tc := ⟨.hbm, 167, rfl⟩
abbrev main_v154 : Ref sig .tc := ⟨.hbm, 168, rfl⟩
abbrev main_v155 : Ref sig .tc := ⟨.hbm, 169, rfl⟩
abbrev main_v156 : Ref sig .tc := ⟨.hbm, 170, rfl⟩
abbrev main_v157 : Ref sig .tc := ⟨.hbm, 171, rfl⟩
abbrev main_v158 : Ref sig .tc := ⟨.hbm, 172, rfl⟩
abbrev main_v159 : Ref sig .tc := ⟨.hbm, 173, rfl⟩
abbrev main_v160 : Ref sig .tc := ⟨.hbm, 174, rfl⟩
abbrev main_v161 : Ref sig .tc := ⟨.hbm, 175, rfl⟩
abbrev main_v162 : Ref sig .tc := ⟨.hbm, 176, rfl⟩
abbrev main_v163 : Ref sig .tc := ⟨.hbm, 177, rfl⟩
abbrev main_v164 : Ref sig .tc := ⟨.hbm, 178, rfl⟩
abbrev main_v165 : Ref sig .tc := ⟨.hbm, 179, rfl⟩
abbrev main_v166 : Ref sig .tc := ⟨.hbm, 180, rfl⟩
abbrev main_v167 : Ref sig .tc := ⟨.hbm, 181, rfl⟩
abbrev main_v168 : Ref sig .tc := ⟨.hbm, 182, rfl⟩
abbrev main_v169 : Ref sig .tc := ⟨.hbm, 183, rfl⟩
abbrev main_v170 : Ref sig .tc := ⟨.hbm, 184, rfl⟩
abbrev main_v171 : Ref sig .tc := ⟨.hbm, 185, rfl⟩
abbrev main_v172 : Ref sig .tc := ⟨.hbm, 186, rfl⟩
abbrev main_cst_10 : Ref sig .tc := ⟨.hbm, 187, rfl⟩
abbrev main_v173 : Ref sig .tc := ⟨.hbm, 188, rfl⟩
abbrev main_v174 : Ref sig .tc := ⟨.hbm, 189, rfl⟩
abbrev main_cst_11 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩

abbrev nD : Nat := 1
abbrev τ : Topo := Topo.v7x

variable {F : FTy → Type} [FloatOps F]
-- ==== Kernel6.lean ====
abbrev S2x4096x4096 : Shape := ⟨3, ![2, 4096, 4096]⟩
abbrev S1x4096 : Shape := ⟨2, ![1, 4096]⟩
abbrev S1x4096x11424 : Shape := ⟨3, ![1, 4096, 11424]⟩
abbrev S1x128 : Shape := ⟨2, ![1, 128]⟩
abbrev S1x4096x160 : Shape := ⟨3, ![1, 4096, 160]⟩
abbrev S4096x160 : Shape := ⟨2, ![4096, 160]⟩
abbrev S_ : Shape := ⟨0, ![]⟩
abbrev S4096x256 : Shape := ⟨2, ![4096, 256]⟩
abbrev S8192x4096 : Shape := ⟨2, ![8192, 4096]⟩
abbrev S4096 : Shape := ⟨1, ![4096]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x96 : Shape := ⟨2, ![4096, 96]⟩
abbrev S4096x128 : Shape := ⟨2, ![4096, 128]⟩
abbrev S4096x112 : Shape := ⟨2, ![4096, 112]⟩
abbrev S1x4096x128 : Shape := ⟨3, ![1, 4096, 128]⟩
abbrev S3x4096x128 : Shape := ⟨3, ![3, 4096, 128]⟩
abbrev S128 : Shape := ⟨1, ![128]⟩
abbrev S8192x128 : Shape := ⟨2, ![8192, 128]⟩
abbrev S512x4096 : Shape := ⟨2, ![512, 4096]⟩
abbrev S1x512x128 : Shape := ⟨3, ![1, 512, 128]⟩
abbrev S512x128 : Shape := ⟨2, ![512, 128]⟩
abbrev S64x4096 : Shape := ⟨2, ![64, 4096]⟩
abbrev S64 : Shape := ⟨1, ![64]⟩
abbrev S64x1 : Shape := ⟨2, ![64, 1]⟩
abbrev S512x256 : Shape := ⟨2, ![512, 256]⟩
abbrev S512 : Shape := ⟨1, ![512]⟩
abbrev S512x1 : Shape := ⟨2, ![512, 1]⟩

abbrev nBuf : Space → Nat
  | .hbm => 68
  | .vmem => 19
  | .smem => 0
  | _ => 0

abbrev bufTy : (tb : Table) → Fin (tcTables nBuf tb) → BufTy
  | .hbm, ⟨0, _⟩ => ⟨S2x4096x4096, .f32⟩
  | .hbm, ⟨1, _⟩ => ⟨S1x4096, .f32⟩
  | .hbm, ⟨2, _⟩ => ⟨S1x4096x11424, .f32⟩
  | .hbm, ⟨3, _⟩ => ⟨S1x128, .f32⟩
  | .hbm, ⟨4, _⟩ => ⟨S1x128, .f32⟩
  | .hbm, ⟨5, _⟩ => ⟨S1x4096x160, .f32⟩
  | .hbm, ⟨6, _⟩ => ⟨S4096x160, .f32⟩
  | .hbm, ⟨7, _⟩ => ⟨S_, .i32⟩
  | .hbm, ⟨8, _⟩ => ⟨S_, .f32⟩
  | .hbm, ⟨9, _⟩ => ⟨S4096x256, .f32⟩
  | .hbm, ⟨10, _⟩ => ⟨S4096x256, .bf16⟩
  | .hbm, ⟨11, _⟩ => ⟨S8192x4096, .f32⟩
  | .hbm, ⟨12, _⟩ => ⟨S4096, .f32⟩
  | .hbm, ⟨13, _⟩ => ⟨S1x4096, .f32⟩
  | .hbm, ⟨14, _⟩ => ⟨S4096, .i32⟩
  | .hbm, ⟨15, _⟩ => ⟨S16, .f32⟩
  | .hbm, ⟨16, _⟩ => ⟨S16, .f32⟩
  | .hbm, ⟨17, _⟩ => ⟨S_, .f32⟩
  | .hbm, ⟨18, _⟩ => ⟨S16, .f32⟩
  | .hbm, ⟨19, _⟩ => ⟨S16, .f32⟩
  | .hbm, ⟨20, _⟩ => ⟨S_, .f32⟩
  | .hbm, ⟨21, _⟩ => ⟨S16, .f32⟩
  | .hbm, ⟨22, _⟩ => ⟨S16, .f32⟩
  | .hbm, ⟨23, _⟩ => ⟨S4096, .f32⟩
  | .hbm, ⟨24, _⟩ => ⟨S4096x1, .f32⟩
  | .hbm, ⟨25, _⟩ => ⟨S1x16, .f32⟩
  | .hbm, ⟨26, _⟩ => ⟨S4096x16, .f32⟩
  | .hbm, ⟨27, _⟩ => ⟨S4096x16, .f32⟩
  | .hbm, ⟨28, _⟩ => ⟨S4096x16, .f32⟩
  | .hbm, ⟨29, _⟩ => ⟨S4096x16, .f32⟩
  | .hbm, ⟨30, _⟩ => ⟨S4096x16, .f32⟩
  | .hbm, ⟨31, _⟩ => ⟨S_, .f32⟩
  | .hbm, ⟨32, _⟩ => ⟨S4096x96, .f32⟩
  | .hbm, ⟨33, _⟩ => ⟨S4096x128, .f32⟩
  | .hbm, ⟨34, _⟩ => ⟨S4096x16, .f32⟩
  | .hbm, ⟨35, _⟩ => ⟨S_, .f32⟩
  | .hbm, ⟨36, _⟩ => ⟨S4096x112, .f32⟩
  | .hbm, ⟨37, _⟩ => ⟨S4096x128, .f32⟩
  | .hbm, ⟨38, _⟩ => ⟨S_, .f32⟩
  | .hbm, ⟨39, _⟩ => ⟨S4096x16, .f32⟩
  | .hbm, ⟨40, _⟩ => ⟨S_, .f32⟩
  | .hbm, ⟨41, _⟩ => ⟨S4096x96, .f32⟩
  | .hbm, ⟨42, _⟩ => ⟨S4096x128, .f32⟩
  | .hbm, ⟨43, _⟩ => ⟨S_, .f32⟩
  | .hbm, ⟨44, _⟩ => ⟨S4096x128, .f32⟩
  | .hbm, ⟨45, _⟩ => ⟨S_, .f32⟩
  | .hbm, ⟨46, _⟩ => ⟨S4096x128, .f32⟩
  | .hbm, ⟨47, _⟩ => ⟨S_, .f32⟩
  | .hbm, ⟨48, _⟩ => ⟨S4096x128, .f32⟩
  | .hbm, ⟨49, _⟩ => ⟨S1x4096x128, .f32⟩
  | .hbm, ⟨50, _⟩ => ⟨S1x4096x128, .f32⟩
  | .hbm, ⟨51, _⟩ => ⟨S1x4096x128, .f32⟩
  | .hbm, ⟨52, _⟩ => ⟨S3x4096x128, .f32⟩
  | .hbm, ⟨53, _⟩ => ⟨S1x4096x128, .f32⟩
  | .hbm, ⟨54, _⟩ => ⟨S1x4096x128, .f32⟩
  | .hbm, ⟨55, _⟩ => ⟨S1x4096x128, .f32⟩
  | .hbm, ⟨56, _⟩ => ⟨S3x4096x128, .f32⟩
  | .hbm, ⟨57, _⟩ => ⟨S1x4096x128, .f32⟩
  | .hbm, ⟨58, _⟩ => ⟨S1x4096x128, .f32⟩
  | .hbm, ⟨59, _⟩ => ⟨S1x4096x128, .f32⟩
  | .hbm, ⟨60, _⟩ => ⟨S3x4096x128, .f32⟩
  | .hbm, ⟨61, _⟩ => ⟨S128, .f32⟩
  | .hbm, ⟨62, _⟩ => ⟨S1x128, .f32⟩
  | .hbm, ⟨63, _⟩ => ⟨S128, .f32⟩
  | .hbm, ⟨64, _⟩ => ⟨S1x128, .f32⟩
  | .hbm, ⟨65, _⟩ => ⟨S8192x128, .f32⟩
  | .hbm, ⟨66, _⟩ => ⟨S8192x128, .bf16⟩
  | .hbm, ⟨67, _⟩ => ⟨S8192x128, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S4096x256, .bf16⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x128, .f32⟩
  | .local _ .vmem, ⟨11, _⟩ => ⟨S1x128, .f32⟩
  | .local _ .vmem, ⟨12, _⟩ => ⟨S512x128, .f32⟩
  | .local _ .vmem, ⟨13, _⟩ => ⟨S512x128, .f32⟩
  | .local _ .vmem, ⟨14, _⟩ => ⟨S512x128, .bf16⟩
  | .local _ .vmem, ⟨15, _⟩ => ⟨S512x128, .bf16⟩
  | .local _ .vmem, ⟨16, _⟩ => ⟨S512x128, .f32⟩
  | .local _ .vmem, ⟨17, _⟩ => ⟨S512x128, .f32⟩
  | .local _ .vmem, ⟨18, _⟩ => ⟨S512x4096, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_cst_4 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_cst_6 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49_0 : Ref sig .tc := ⟨.hbm, 65, rfl⟩
abbrev main_v49_1 : Ref sig .tc := ⟨.hbm, 66, rfl⟩
abbrev main_v49_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32 : BitVec 32 := 64#32
  let v50 : BitVec 32 := Scalar.muli arg13 c64_i32
  v50
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32 : BitVec 32 := 64#32
  let v50 : BitVec 32 := Scalar.muli arg13 c64_i32
  let v51 : BitVec 32 := v50
  let v52 : Index := Scalar.indexCast v51
  let c0_29 : Index := 0#32
  ![v52.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_4 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_5 (i : grid0.Coords) : Fin 3 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  let c0_i32_5 : BitVec 32 := 0#32
  ![c0_i32_3.toNat, v9.toNat, c0_i32_4.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference6Ideal.lean ====
abbrev S2x4096x4096 : Shape := ⟨3, ![2, 4096, 4096]⟩
abbrev S1x4096 : Shape := ⟨2, ![1, 4096]⟩
abbrev S1x4096x11424 : Shape := ⟨3, ![1, 4096, 11424]⟩
abbrev S1x128 : Shape := ⟨2, ![1, 128]⟩
abbrev S4096 : Shape := ⟨1, ![4096]⟩
abbrev S_ : Shape := ⟨0, ![]⟩
abbrev S2x4096 : Shape := ⟨2, ![2, 4096]⟩
abbrev S2x4096x1 : Shape := ⟨3, ![2, 4096, 1]⟩
abbrev S1x1x4096 : Shape := ⟨3, ![1, 1, 4096]⟩
abbrev S4096x11424 : Shape := ⟨2, ![4096, 11424]⟩
abbrev S2x4096x11424 : Shape := ⟨3, ![2, 4096, 11424]⟩
abbrev S2x4096x128 : Shape := ⟨3, ![2, 4096, 128]⟩
abbrev S2x4096x32 : Shape := ⟨3, ![2, 4096, 32]⟩
abbrev S128 : Shape := ⟨1, ![128]⟩
abbrev S1x1x128 : Shape := ⟨3, ![1, 1, 128]⟩
abbrev S2x4096x1x128 : Shape := ⟨4, ![2, 4096, 1, 128]⟩
abbrev S16 : Shape := ⟨1, ![16]⟩
abbrev S4096x1 : Shape := ⟨2, ![4096, 1]⟩
abbrev S1x16 : Shape := ⟨2, ![1, 16]⟩
abbrev S4096x16 : Shape := ⟨2, ![4096, 16]⟩
abbrev S4096x1x16 : Shape := ⟨3, ![4096, 1, 16]⟩
abbrev S2x4096x1x16 : Shape := ⟨4, ![2, 4096, 1, 16]⟩
abbrev S1x4096x1x16 : Shape := ⟨4, ![1, 4096, 1, 16]⟩
abbrev S2x4096x1x96 : Shape := ⟨4, ![2, 4096, 1, 96]⟩
abbrev S8192x128 : Shape := ⟨2, ![8192, 128]⟩
abbrev S8192x32 : Shape := ⟨2, ![8192, 32]⟩
abbrev S8192x96 : Shape := ⟨2, ![8192, 96]⟩

abbrev nBuf : Space → Nat
  | .hbm => 103
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096, .f32⟩
  | .hbm, ⟨2, _⟩ => ⟨S1x4096x11424, .f32⟩
  | .hbm, ⟨3, _⟩ => ⟨S1x128, .f32⟩
  | .hbm, ⟨4, _⟩ => ⟨S1x128, .f32⟩
  | .hbm, ⟨5, _⟩ => ⟨S4096, .f32⟩
  | .hbm, ⟨6, _⟩ => ⟨S2x4096x4096, .f32⟩
  | .hbm, ⟨7, _⟩ => ⟨S_, .f32⟩
  | .hbm, ⟨8, _⟩ => ⟨S2x4096, .f32⟩
  | .hbm, ⟨9, _⟩ => ⟨S2x4096x1, .f32⟩
  | .hbm, ⟨10, _⟩ => ⟨S_, .f32⟩
  | .hbm, ⟨11, _⟩ => ⟨S2x4096x1, .f32⟩
  | .hbm, ⟨12, _⟩ => ⟨S2x4096x1, .f32⟩
  | .hbm, ⟨13, _⟩ => ⟨S_, .f32⟩
  | .hbm, ⟨14, _⟩ => ⟨S2x4096x1, .f32⟩
  | .hbm, ⟨15, _⟩ => ⟨S2x4096x1, .f32⟩
  | .hbm, ⟨16, _⟩ => ⟨S2x4096x1, .f32⟩
  | .hbm, ⟨17, _⟩ => ⟨S2x4096x4096, .f32⟩
  | .hbm, ⟨18, _⟩ => ⟨S2x4096x4096, .f32⟩
  | .hbm, ⟨19, _⟩ => ⟨S1x1x4096, .f32⟩
  | .hbm, ⟨20, _⟩ => ⟨S2x4096x4096, .f32⟩
  | .hbm, ⟨21, _⟩ => ⟨S2x4096x4096, .f32⟩
  | .hbm, ⟨22, _⟩ => ⟨S4096x11424, .f32⟩
  | .hbm, ⟨23, _⟩ => ⟨S2x4096x11424, .f32⟩
  | .hbm, ⟨24, _⟩ => ⟨S2x4096x128, .f32⟩
  | .hbm, ⟨25, _⟩ => ⟨S2x4096x32, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S2x4096, .f32⟩
  | .hbm, ⟨30, _⟩ => ⟨S2x4096x1, .f32⟩
  | .hbm, ⟨31, _⟩ => ⟨S_, .f32⟩
  | .hbm, ⟨32, _⟩ => ⟨S2x4096x1, .f32⟩
  | .hbm, ⟨33, _⟩ => ⟨S2x4096x1, .f32⟩
  | .hbm, ⟨34, _⟩ => ⟨S2x4096x128, .f32⟩
  | .hbm, ⟨35, _⟩ => ⟨S2x4096x128, .f32⟩
  | .hbm, ⟨36, _⟩ => ⟨S2x4096x128, .f32⟩
  | .hbm, ⟨37, _⟩ => ⟨S_, .f32⟩
  | .hbm, ⟨38, _⟩ => ⟨S2x4096, .f32⟩
  | .hbm, ⟨39, _⟩ => ⟨S2x4096x1, .f32⟩
  | .hbm, ⟨40, _⟩ => ⟨S_, .f32⟩
  | .hbm, ⟨41, _⟩ => ⟨S2x4096x1, .f32⟩
  | .hbm, ⟨42, _⟩ => ⟨S2x4096x1, .f32⟩
  | .hbm, ⟨43, _⟩ => ⟨S_, .f32⟩
  | .hbm, ⟨44, _⟩ => ⟨S2x4096x1, .f32⟩
  | .hbm, ⟨45, _⟩ => ⟨S2x4096x1, .f32⟩
  | .hbm, ⟨46, _⟩ => ⟨S2x4096x1, .f32⟩
  | .hbm, ⟨47, _⟩ => ⟨S2x4096x128, .f32⟩
  | .hbm, ⟨48, _⟩ => ⟨S2x4096x128, .f32⟩
  | .hbm, ⟨49, _⟩ => ⟨S1x1x128, .f32⟩
  | .hbm, ⟨50, _⟩ => ⟨S2x4096x128, .f32⟩
  | .hbm, ⟨51, _⟩ => ⟨S2x4096x128, .f32⟩
  | .hbm, ⟨52, _⟩ => ⟨S1x1x128, .f32⟩
  | .hbm, ⟨53, _⟩ => ⟨S2x4096x128, .f32⟩
  | .hbm, ⟨54, _⟩ => ⟨S2x4096x128, .f32⟩
  | .hbm, ⟨55, _⟩ => ⟨S2x4096x1x128, .f32⟩
  | .hbm, ⟨56, _⟩ => ⟨S4096, .i32⟩
  | .hbm, ⟨57, _⟩ => ⟨S16, .f32⟩
  | .hbm, ⟨58, _⟩ => ⟨S16, .f32⟩
  | .hbm, ⟨59, _⟩ => ⟨S_, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S4096, .f32⟩
  | .hbm, ⟨66, _⟩ => ⟨S4096x1, .f32⟩
  | .hbm, ⟨67, _⟩ => ⟨S1x16, .f32⟩
  | .hbm, ⟨68, _⟩ => ⟨S4096x16, .f32⟩
  | .hbm, ⟨69, _⟩ => ⟨S4096x16, .f32⟩
  | .hbm, ⟨70, _⟩ => ⟨S4096x16, .f32⟩
  | .hbm, ⟨71, _⟩ => ⟨S4096x16, .f32⟩
  | .hbm, ⟨72, _⟩ => ⟨S4096x1x16, .f32⟩
  | .hbm, ⟨73, _⟩ => ⟨S4096x16, .f32⟩
  | .hbm, ⟨74, _⟩ => ⟨S4096x1x16, .f32⟩
  | .hbm, ⟨75, _⟩ => ⟨S2x4096x1x16, .f32⟩
  | .hbm, ⟨76, _⟩ => ⟨S2x4096x1x16, .f32⟩
  | .hbm, ⟨77, _⟩ => ⟨S1x4096x1x16, .f32⟩
  | .hbm, ⟨78, _⟩ => ⟨S2x4096x1x16, .f32⟩
  | .hbm, ⟨79, _⟩ => ⟨S2x4096x1x16, .f32⟩
  | .hbm, ⟨80, _⟩ => ⟨S1x4096x1x16, .f32⟩
  | .hbm, ⟨81, _⟩ => ⟨S2x4096x1x16, .f32⟩
  | .hbm, ⟨82, _⟩ => ⟨S2x4096x1x16, .f32⟩
  | .hbm, ⟨83, _⟩ => ⟨S2x4096x1x16, .f32⟩
  | .hbm, ⟨84, _⟩ => ⟨S1x4096x1x16, .f32⟩
  | .hbm, ⟨85, _⟩ => ⟨S2x4096x1x16, .f32⟩
  | .hbm, ⟨86, _⟩ => ⟨S2x4096x1x16, .f32⟩
  | .hbm, ⟨87, _⟩ => ⟨S1x4096x1x16, .f32⟩
  | .hbm, ⟨88, _⟩ => ⟨S2x4096x1x16, .f32⟩
  | .hbm, ⟨89, _⟩ => ⟨S2x4096x1x16, .f32⟩
  | .hbm, ⟨90, _⟩ => ⟨S2x4096x1x16, .f32⟩
  | .hbm, ⟨91, _⟩ => ⟨S2x4096x1x96, .f32⟩
  | .hbm, ⟨92, _⟩ => ⟨S2x4096x1x128, .f32⟩
  | .hbm, ⟨93, _⟩ => ⟨S2x4096x128, .f32⟩
  | .hbm, ⟨94, _⟩ => ⟨S_, .f32⟩
  | .hbm, ⟨95, _⟩ => ⟨S2x4096x32, .f32⟩
  | .hbm, ⟨96, _⟩ => ⟨S2x4096x32, .f32⟩
  | .hbm, ⟨97, _⟩ => ⟨S8192x128, .f32⟩
  | .hbm, ⟨98, _⟩ => ⟨S8192x32, .f32⟩
  | .hbm, ⟨99, _⟩ => ⟨S8192x128, .bf16⟩
  | .hbm, ⟨100, _⟩ => ⟨S_, .f32⟩
  | .hbm, ⟨101, _⟩ => ⟨S8192x96, .f32⟩
  | .hbm, ⟨102, _⟩ => ⟨S8192x128, .f32⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_cst_7 : Ref sig .tc := ⟨.hbm, 59, rfl⟩
abbrev main_v46 : Ref sig .tc := ⟨.hbm, 60, rfl⟩
abbrev main_v47 : Ref sig .tc := ⟨.hbm, 61, rfl⟩
abbrev main_cst_8 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_9 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_cst_10 : Ref sig .tc := ⟨.hbm, 100, rfl⟩
abbrev main_v84 : Ref sig .tc := ⟨.hbm, 101, rfl⟩
abbrev main_v85 : Ref sig .tc := ⟨.hbm, 102, rfl⟩

abbrev nD : Nat := 1
abbrev τ : Topo := Topo.v7x

variable {F : FTy → Type} [FloatOps F]
-- ==== Kernel7.lean ====
abbrev S128x1x16384 : Shape := ⟨3, ![128, 1, 16384]⟩
abbrev S1x16384x4096 : Shape := ⟨3, ![1, 16384, 4096]⟩
abbrev S128x1x4096 : Shape := ⟨3, ![128, 1, 4096]⟩
abbrev S4096 : Shape := ⟨1, ![4096]⟩
abbrev S128x16384 : Shape := ⟨2, ![128, 16384]⟩
abbrev S16384x4096 : Shape := ⟨2, ![16384, 4096]⟩
abbrev S128x4096 : Shape := ⟨2, ![128, 4096]⟩
abbrev S1x4096 : Shape := ⟨2, ![1, 4096]⟩
abbrev S128x512 : Shape := ⟨2, ![128, 512]⟩
abbrev S512x4096 : Shape := ⟨2, ![512, 4096]⟩
abbrev S64x4096 : Shape := ⟨2, ![64, 4096]⟩
abbrev S64 : Shape := ⟨1, ![64]⟩
abbrev S64x1 : Shape := ⟨2, ![64, 1]⟩

abbrev nBuf : Space → Nat
  | .hbm => 11
  | .vmem => 7
  | .smem => 0
  | _ => 0

abbrev bufTy : (tb : Table) → Fin (tcTables nBuf tb) → BufTy
  | .hbm, ⟨0, _⟩ => ⟨S128x1x16384, .f32⟩
  | .hbm, ⟨1, _⟩ => ⟨S1x16384x4096, .f32⟩
  | .hbm, ⟨2, _⟩ => ⟨S128x1x4096, .f32⟩
  | .hbm, ⟨3, _⟩ => ⟨S4096, .f32⟩
  | .hbm, ⟨4, _⟩ => ⟨S128x16384, .f32⟩
  | .hbm, ⟨5, _⟩ => ⟨S128x16384, .bf16⟩
  | .hbm, ⟨6, _⟩ => ⟨S16384x4096, .f32⟩
  | .hbm, ⟨7, _⟩ => ⟨S16384x4096, .bf16⟩
  | .hbm, ⟨8, _⟩ => ⟨S128x4096, .f32⟩
  | .hbm, ⟨9, _⟩ => ⟨S1x4096, .f32⟩
  | .hbm, ⟨10, _⟩ => ⟨S128x4096, .f32⟩
  | .local _ .vmem, ⟨0, _⟩ => ⟨S128x512, .bf16⟩
  | .local _ .vmem, ⟨1, _⟩ => ⟨S128x512, .bf16⟩
  | .local _ .vmem, ⟨2, _⟩ => ⟨S512x4096, .bf16⟩
  | .local _ .vmem, ⟨3, _⟩ => ⟨S512x4096, .bf16⟩
  | .local _ .vmem, ⟨4, _⟩ => ⟨S128x4096, .f32⟩
  | .local _ .vmem, ⟨5, _⟩ => ⟨S1x4096, .f32⟩
  | .local _ .vmem, ⟨6, _⟩ => ⟨S128x4096, .f32⟩
  | _, _ => ⟨S128x1x16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨2, ![1, 32], ![false, false]⟩

def k0_cond2 (i : grid0.Coords) : BitVec 1 :=
  let arg1 : BitVec 32 := BitVec.ofNat 32 (i 1).val
  let c31_i32 : BitVec 32 := 31#32
  let v12 : BitVec 1 := Scalar.cmpi .eq arg1 c31_i32
  let v13 : BitVec 32 := Scalar.extui v12
  let c0_i32_8 : BitVec 32 := 0#32
  let v14 : BitVec 1 := Scalar.cmpi .ne v13 c0_i32_8
  v14

@[reducible] def k0_t1_loop : Scf.Loop 32 :=
  let c0_i32_9 : BitVec 32 := 0#32
  let c2_i32 : BitVec 32 := 2#32
  let v15 : BitVec 32 := Scalar.addi c0_i32_9 c2_i32
  let c1_i32 : BitVec 32 := 1#32
  ⟨c0_i32_9, v15, c1_i32⟩
def k0_mult1 (k0_t1 : Fin k0_t1_loop.trips) : BitVec 32 :=
  let c0_i32_9 : BitVec 32 := 0#32
  let c1_i32 : BitVec 32 := 1#32
  let arg7 : BitVec 32 := Scf.iv c0_i32_9 c1_i32 k0_t1
  let c64_i32 : BitVec 32 := 64#32
  let v16 : BitVec 32 := Scalar.muli arg7 c64_i32
  v16
def k0_off1 (k0_t1 : Fin k0_t1_loop.trips) : Fin 2 → Nat :=
  let c0_i32_9 : BitVec 32 := 0#32
  let c1_i32 : BitVec 32 := 1#32
  let arg7 : BitVec 32 := Scf.iv c0_i32_9 c1_i32 k0_t1
  let c64_i32 : BitVec 32 := 64#32
  let v16 : BitVec 32 := Scalar.muli arg7 c64_i32
  let v17 : BitVec 32 := v16
  let v18 : Index := Scalar.indexCast v17
  let c0_11 : Index := 0#32
  ![v18.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== Reference7Ideal.lean ====
abbrev S128x1x16384 : Shape := ⟨3, ![128, 1, 16384]⟩
abbrev S1x16384x4096 : Shape := ⟨3, ![1, 16384, 4096]⟩
abbrev S128x1x4096 : Shape := ⟨3, ![128, 1, 4096]⟩
abbrev S4096 : Shape := ⟨1, ![4096]⟩
abbrev S16384x4096 : Shape := ⟨2, ![16384, 4096]⟩
abbrev S_ : Shape := ⟨0, ![]⟩
abbrev S128x1 : Shape := ⟨2, ![128, 1]⟩
abbrev S128x1x1 : Shape := ⟨3, ![128, 1, 1]⟩
abbrev S1x1x4096 : Shape := ⟨3, ![1, 1, 4096]⟩
abbrev S128x4096 : Shape := ⟨2, ![128, 4096]⟩

abbrev nBuf : Space → Nat
  | .hbm => 24
  | .vmem => 0
  | .smem => 0
  | _ => 0

abbrev bufTy : (tb : Table) → Fin (tcTables nBuf tb) → BufTy
  | .hbm, ⟨0, _⟩ => ⟨S128x1x16384, .f32⟩
  | .hbm, ⟨1, _⟩ => ⟨S1x16384x4096, .f32⟩
  | .hbm, ⟨2, _⟩ => ⟨S128x1x4096, .f32⟩
  | .hbm, ⟨3, _⟩ => ⟨S4096, .f32⟩
  | .hbm, ⟨4, _⟩ => ⟨S16384x4096, .f32⟩
  | .hbm, ⟨5, _⟩ => ⟨S128x1x4096, .f32⟩
  | .hbm, ⟨6, _⟩ => ⟨S128x1x4096, .f32⟩
  | .hbm, ⟨7, _⟩ => ⟨S128x1x4096, .f32⟩
  | .hbm, ⟨8, _⟩ => ⟨S_, .f32⟩
  | .hbm, ⟨9, _⟩ => ⟨S128x1, .f32⟩
  | .hbm, ⟨10, _⟩ => ⟨S128x1x1, .f32⟩
  | .hbm, ⟨11, _⟩ => ⟨S_, .f32⟩
  | .hbm, ⟨12, _⟩ => ⟨S128x1x1, .f32⟩
  | .hbm, ⟨13, _⟩ => ⟨S128x1x1, .f32⟩
  | .hbm, ⟨14, _⟩ => ⟨S_, .f32⟩
  | .hbm, ⟨15, _⟩ => ⟨S128x1x1, .f32⟩
  | .hbm, ⟨16, _⟩ => ⟨S128x1x1, .f32⟩
  | .hbm, ⟨17, _⟩ => ⟨S128x1x1, .f32⟩
  | .hbm, ⟨18, _⟩ => ⟨S128x1x4096, .f32⟩
  | .hbm, ⟨19, _⟩ => ⟨S128x1x4096, .f32⟩
  | .hbm, ⟨20, _⟩ => ⟨S1x1x4096, .f32⟩
  | .hbm, ⟨21, _⟩ => ⟨S128x1x4096, .f32⟩
  | .hbm, ⟨22, _⟩ => ⟨S128x1x4096, .f32⟩
  | .hbm, ⟨23, _⟩ => ⟨S128x4096, .f32⟩
  | _, _ => ⟨S128x1x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel8.lean ====
abbrev S128x1x4096 : Shape := ⟨3, ![128, 1, 4096]⟩
abbrev S1x4096 : Shape := ⟨2, ![1, 4096]⟩
abbrev S1x4096x11424 : Shape := ⟨3, ![1, 4096, 11424]⟩
abbrev S1x128 : Shape := ⟨2, ![1, 128]⟩
abbrev S1x4096x160 : Shape := ⟨3, ![1, 4096, 160]⟩
abbrev S4096x160 : Shape := ⟨2, ![4096, 160]⟩
abbrev S_ : Shape := ⟨0, ![]⟩
abbrev S4096x256 : Shape := ⟨2, ![4096, 256]⟩
abbrev S128x4096 : Shape := ⟨2, ![128, 4096]⟩
abbrev S4096 : Shape := ⟨1, ![4096]⟩
abbrev S128 : Shape := ⟨1, ![128]⟩
abbrev S16 : Shape := ⟨1, ![16]⟩
abbrev S128x1 : Shape := ⟨2, ![128, 1]⟩
abbrev S1x16 : Shape := ⟨2, ![1, 16]⟩
abbrev S128x16 : Shape := ⟨2, ![128, 16]⟩
abbrev S128x96 : Shape := ⟨2, ![128, 96]⟩
abbrev S128x128 : Shape := ⟨2, ![128, 128]⟩
abbrev S128x112 : Shape := ⟨2, ![128, 112]⟩
abbrev S1x128x128 : Shape := ⟨3, ![1, 128, 128]⟩
abbrev S3x128x128 : Shape := ⟨3, ![3, 128, 128]⟩
abbrev S64x4096 : Shape := ⟨2, ![64, 4096]⟩
abbrev S64 : Shape := ⟨1, ![64]⟩
abbrev S64x1 : Shape := ⟨2, ![64, 1]⟩
abbrev S128x256 : Shape := ⟨2, ![128, 256]⟩

abbrev nBuf : Space → Nat
  | .hbm => 69
  | .vmem => 12
  | .smem => 0
  | _ => 0

abbrev bufTy : (tb : Table) → Fin (tcTables nBuf tb) → BufTy
  | .hbm, ⟨0, _⟩ => ⟨S128x1x4096, .f32⟩
  | .hbm, ⟨1, _⟩ => ⟨S1x4096, .f32⟩
  | .hbm, ⟨2, _⟩ => ⟨S1x4096x11424, .f32⟩
  | .hbm, ⟨3, _⟩ => ⟨S1x128, .f32⟩
  | .hbm, ⟨4, _⟩ => ⟨S1x128, .f32⟩
  | .hbm, ⟨5, _⟩ => ⟨S1x4096x160, .f32⟩
  | .hbm, ⟨6, _⟩ => ⟨S4096x160, .f32⟩
  | .hbm, ⟨7, _⟩ => ⟨S_, .i32⟩
  | .hbm, ⟨8, _⟩ => ⟨S_, .f32⟩
  | .hbm, ⟨9, _⟩ => ⟨S4096x256, .f32⟩
  | .hbm, ⟨10, _⟩ => ⟨S4096x256, .bf16⟩
  | .hbm, ⟨11, _⟩ => ⟨S128x4096, .f32⟩
  | .hbm, ⟨12, _⟩ => ⟨S4096, .f32⟩
  | .hbm, ⟨13, _⟩ => ⟨S1x4096, .f32⟩
  | .hbm, ⟨14, _⟩ => ⟨S_, .i32⟩
  | .hbm, ⟨15, _⟩ => ⟨S128, .i32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S128, .f32⟩
  | .hbm, ⟨25, _⟩ => ⟨S128x1, .f32⟩
  | .hbm, ⟨26, _⟩ => ⟨S1x16, .f32⟩
  | .hbm, ⟨27, _⟩ => ⟨S128x16, .f32⟩
  | .hbm, ⟨28, _⟩ => ⟨S128x16, .f32⟩
  | .hbm, ⟨29, _⟩ => ⟨S128x16, .f32⟩
  | .hbm, ⟨30, _⟩ => ⟨S128x16, .f32⟩
  | .hbm, ⟨31, _⟩ => ⟨S128x16, .f32⟩
  | .hbm, ⟨32, _⟩ => ⟨S_, .f32⟩
  | .hbm, ⟨33, _⟩ => ⟨S128x96, .f32⟩
  | .hbm, ⟨34, _⟩ => ⟨S128x128, .f32⟩
  | .hbm, ⟨35, _⟩ => ⟨S128x16, .f32⟩
  | .hbm, ⟨36, _⟩ => ⟨S_, .f32⟩
  | .hbm, ⟨37, _⟩ => ⟨S128x112, .f32⟩
  | .hbm, ⟨38, _⟩ => ⟨S128x128, .f32⟩
  | .hbm, ⟨39, _⟩ => ⟨S_, .f32⟩
  | .hbm, ⟨40, _⟩ => ⟨S128x16, .f32⟩
  | .hbm, ⟨41, _⟩ => ⟨S_, .f32⟩
  | .hbm, ⟨42, _⟩ => ⟨S128x96, .f32⟩
  | .hbm, ⟨43, _⟩ => ⟨S128x128, .f32⟩
  | .hbm, ⟨44, _⟩ => ⟨S_, .f32⟩
  | .hbm, ⟨45, _⟩ => ⟨S128x128, .f32⟩
  | .hbm, ⟨46, _⟩ => ⟨S_, .f32⟩
  | .hbm, ⟨47, _⟩ => ⟨S128x128, .f32⟩
  | .hbm, ⟨48, _⟩ => ⟨S_, .f32⟩
  | .hbm, ⟨49, _⟩ => ⟨S128x128, .f32⟩
  | .hbm, ⟨50, _⟩ => ⟨S1x128x128, .f32⟩
  | .hbm, ⟨51, _⟩ => ⟨S1x128x128, .f32⟩
  | .hbm, ⟨52, _⟩ => ⟨S1x128x128, .f32⟩
  | .hbm, ⟨53, _⟩ => ⟨S3x128x128, .f32⟩
  | .hbm, ⟨54, _⟩ => ⟨S1x128x128, .f32⟩
  | .hbm, ⟨55, _⟩ => ⟨S1x128x128, .f32⟩
  | .hbm, ⟨56, _⟩ => ⟨S1x128x128, .f32⟩
  | .hbm, ⟨57, _⟩ => ⟨S3x128x128, .f32⟩
  | .hbm, ⟨58, _⟩ => ⟨S1x128x128, .f32⟩
  | .hbm, ⟨59, _⟩ => ⟨S1x128x128, .f32⟩
  | .hbm, ⟨60, _⟩ => ⟨S1x128x128, .f32⟩
  | .hbm, ⟨61, _⟩ => ⟨S3x128x128, .f32⟩
  | .hbm, ⟨62, _⟩ => ⟨S128, .f32⟩
  | .hbm, ⟨63, _⟩ => ⟨S1x128, .f32⟩
  | .hbm, ⟨64, _⟩ => ⟨S128, .f32⟩
  | .hbm, ⟨65, _⟩ => ⟨S1x128, .f32⟩
  | .hbm, ⟨66, _⟩ => ⟨S128x128, .f32⟩
  | .hbm, ⟨67, _⟩ => ⟨S128x128, .bf16⟩
  | .hbm, ⟨68, _⟩ => ⟨S128x128, .f32⟩
  | .local _ .vmem, ⟨0, _⟩ => ⟨S128x4096, .f32⟩
  | .local _ .vmem, ⟨1, _⟩ => ⟨S1x4096, .f32⟩
  | .local _ .vmem, ⟨2, _⟩ => ⟨S4096x256, .bf16⟩
  | .local _ .vmem, ⟨3, _⟩ => ⟨S1x128x128, .f32⟩
  | .local _ .vmem, ⟨4, _⟩ => ⟨S1x128x128, .f32⟩
  | .local _ .vmem, ⟨5, _⟩ => ⟨S1x128x128, .f32⟩
  | .local _ .vmem, ⟨6, _⟩ => ⟨S1x128, .f32⟩
  | .local _ .vmem, ⟨7, _⟩ => ⟨S1x128, .f32⟩
  | .local _ .vmem, ⟨8, _⟩ => ⟨S128x128, .f32⟩
  | .local _ .vmem, ⟨9, _⟩ => ⟨S128x128, .bf16⟩
  | .local _ .vmem, ⟨10, _⟩ => ⟨S128x128, .f32⟩
  | .local _ .vmem, ⟨11, _⟩ => ⟨S128x4096, .bf16⟩
  | _, _ => ⟨S128x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_cst_6 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_cst_8 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49_0 : Ref sig .tc := ⟨.hbm, 66, rfl⟩
abbrev main_v49_1 : Ref sig .tc := ⟨.hbm, 67, rfl⟩
abbrev main_v49_2 : Ref sig .tc := ⟨.hbm, 68, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg13 : BitVec 32 := Scf.iv c0_i32 c1_i32 k0_t1
  let c64_i32 : BitVec 32 := 64#32
  let v50 : BitVec 32 := Scalar.muli arg13 c64_i32
  v50
def k0_off1 (k0_t1 : Fin k0_t1_loop.trips) : Fin 2 → Nat :=
  let c0_i32 : BitVec 32 := 0#32
  let c1_i32 : BitVec 32 := 1#32
  let arg13 : BitVec 32 := Scf.iv c0_i32 c1_i32 k0_t1
  let c64_i32 : BitVec 32 := 64#32
  let v50 : BitVec 32 := Scalar.muli arg13 c64_i32
  let v51 : BitVec 32 := v50
  let v52 : Index := Scalar.indexCast v51
  let c0_29 : Index := 0#32
  ![v52.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference8Ideal.lean ====
abbrev S128x1x4096 : Shape := ⟨3, ![128, 1, 4096]⟩
abbrev S1x4096 : Shape := ⟨2, ![1, 4096]⟩
abbrev S1x4096x11424 : Shape := ⟨3, ![1, 4096, 11424]⟩
abbrev S1x128 : Shape := ⟨2, ![1, 128]⟩
abbrev S4096 : Shape := ⟨1, ![4096]⟩
abbrev S_ : Shape := ⟨0, ![]⟩
abbrev S128x1 : Shape := ⟨2, ![128, 1]⟩
abbrev S128x1x1 : Shape := ⟨3, ![128, 1, 1]⟩
abbrev S1x1x4096 : Shape := ⟨3, ![1, 1, 4096]⟩
abbrev S4096x11424 : Shape := ⟨2, ![4096, 11424]⟩
abbrev S128x1x11424 : Shape := ⟨3, ![128, 1, 11424]⟩
abbrev S128x1x128 : Shape := ⟨3, ![128, 1, 128]⟩
abbrev S128x1x32 : Shape := ⟨3, ![128, 1, 32]⟩
abbrev S1 : Shape := ⟨1, ![1]⟩
abbrev S128 : Shape := ⟨1, ![128]⟩
abbrev S1x1x128 : Shape := ⟨3, ![1, 1, 128]⟩
abbrev S128x1x1x128 : Shape := ⟨4, ![128, 1, 1, 128]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S128x1x1x16 : Shape := ⟨4, ![128, 1, 1, 16]⟩
abbrev S1x1x1x16 : Shape := ⟨4, ![1, 1, 1, 16]⟩
abbrev S128x1x1x96 : Shape := ⟨4, ![128, 1, 1, 96]⟩
abbrev S128x128 : Shape := ⟨2, ![128, 128]⟩
abbrev S128x32 : Shape := ⟨2, ![128, 32]⟩
abbrev S128x96 : Shape := ⟨2, ![128, 96]⟩

abbrev nBuf : Space → Nat
  | .hbm => 105
  | .vmem => 0
  | .smem => 0
  | _ => 0

abbrev bufTy : (tb : Table) → Fin (tcTables nBuf tb) → BufTy
  | .hbm, ⟨0, _⟩ => ⟨S128x1x4096, .f32⟩
  | .hbm, ⟨1, _⟩ => ⟨S1x4096, .f32⟩
  | .hbm, ⟨2, _⟩ => ⟨S1x4096x11424, .f32⟩
  | .hbm, ⟨3, _⟩ => ⟨S1x128, .f32⟩
  | .hbm, ⟨4, _⟩ => ⟨S1x128, .f32⟩
  | .hbm, ⟨5, _⟩ => ⟨S4096, .f32⟩
  | .hbm, ⟨6, _⟩ => ⟨S128x1x4096, .f32⟩
  | .hbm, ⟨7, _⟩ => ⟨S_, .f32⟩
  | .hbm, ⟨8, _⟩ => ⟨S128x1, .f32⟩
  | .hbm, ⟨9, _⟩ => ⟨S128x1x1, .f32⟩
  | .hbm, ⟨10, _⟩ => ⟨S_, .f32⟩
  | .hbm, ⟨11, _⟩ => ⟨S128x1x1, .f32⟩
  | .hbm, ⟨12, _⟩ => ⟨S128x1x1, .f32⟩
  | .hbm, ⟨13, _⟩ => ⟨S_, .f32⟩
  | .hbm, ⟨14, _⟩ => ⟨S128x1x1, .f32⟩
  | .hbm, ⟨15, _⟩ => ⟨S128x1x1, .f32⟩
  | .hbm, ⟨16, _⟩ => ⟨S128x1x1, .f32⟩
  | .hbm, ⟨17, _⟩ => ⟨S128x1x4096, .f32⟩
  | .hbm, ⟨18, _⟩ => ⟨S128x1x4096, .f32⟩
  | .hbm, ⟨19, _⟩ => ⟨S1x1x4096, .f32⟩
  | .hbm, ⟨20, _⟩ => ⟨S128x1x4096, .f32⟩
  | .hbm, ⟨21, _⟩ => ⟨S128x1x4096, .f32⟩
  | .hbm, ⟨22, _⟩ => ⟨S4096x11424, .f32⟩
  | .hbm, ⟨23, _⟩ => ⟨S128x1x11424, .f32⟩
  | .hbm, ⟨24, _⟩ => ⟨S128x1x128, .f32⟩
  | .hbm, ⟨25, _⟩ => ⟨S128x1x32, .f32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S1, .i32⟩
  | .hbm, ⟨30, _⟩ => ⟨S128, .f32⟩
  | .hbm, ⟨31, _⟩ => ⟨S128, .f32⟩
  | .hbm, ⟨32, _⟩ => ⟨S_, .f32⟩
  | .hbm, ⟨33, _⟩ => ⟨S128x1, .f32⟩
  | .hbm, ⟨34, _⟩ => ⟨S128x1x1, .f32⟩
  | .hbm, ⟨35, _⟩ => ⟨S_, .f32⟩
  | .hbm, ⟨36, _⟩ => ⟨S128x1x1, .f32⟩
  | .hbm, ⟨37, _⟩ => ⟨S128x1x1, .f32⟩
  | .hbm, ⟨38, _⟩ => ⟨S128x1x128, .f32⟩
  | .hbm, ⟨39, _⟩ => ⟨S128x1x128, .f32⟩
  | .hbm, ⟨40, _⟩ => ⟨S128x1x128, .f32⟩
  | .hbm, ⟨41, _⟩ => ⟨S_, .f32⟩
  | .hbm, ⟨42, _⟩ => ⟨S128x1, .f32⟩
  | .hbm, ⟨43, _⟩ => ⟨S128x1x1, .f32⟩
  | .hbm, ⟨44, _⟩ => ⟨S_, .f32⟩
  | .hbm, ⟨45, _⟩ => ⟨S128x1x1, .f32⟩
  | .hbm, ⟨46, _⟩ => ⟨S128x1x1, .f32⟩
  | .hbm, ⟨47, _⟩ => ⟨S_, .f32⟩
  | .hbm, ⟨48, _⟩ => ⟨S128x1x1, .f32⟩
  | .hbm, ⟨49, _⟩ => ⟨S128x1x1, .f32⟩
  | .hbm, ⟨50, _⟩ => ⟨S128x1x1, .f32⟩
  | .hbm, ⟨51, _⟩ => ⟨S128x1x128, .f32⟩
  | .hbm, ⟨52, _⟩ => ⟨S128x1x128, .f32⟩
  | .hbm, ⟨53, _⟩ => ⟨S1x1x128, .f32⟩
  | .hbm, ⟨54, _⟩ => ⟨S128x1x128, .f32⟩
  | .hbm, ⟨55, _⟩ => ⟨S128x1x128, .f32⟩
  | .hbm, ⟨56, _⟩ => ⟨S1x1x128, .f32⟩
  | .hbm, ⟨57, _⟩ => ⟨S128x1x128, .f32⟩
  | .hbm, ⟨58, _⟩ => ⟨S128x1x128, .f32⟩
  | .hbm, ⟨59, _⟩ => ⟨S128x1x1x128, .f32⟩
  | .hbm, ⟨60, _⟩ => ⟨S16, .f32⟩
  | .hbm, ⟨61, _⟩ => ⟨S16, .f32⟩
  | .hbm, ⟨62, _⟩ => ⟨S_, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S1, .f32⟩
  | .hbm, ⟨69, _⟩ => ⟨S1x1, .f32⟩
  | .hbm, ⟨70, _⟩ => ⟨S1x16, .f32⟩
  | .hbm, ⟨71, _⟩ => ⟨S1x16, .f32⟩
  | .hbm, ⟨72, _⟩ => ⟨S1x16, .f32⟩
  | .hbm, ⟨73, _⟩ => ⟨S1x16, .f32⟩
  | .hbm, ⟨74, _⟩ => ⟨S1x1x16, .f32⟩
  | .hbm, ⟨75, _⟩ => ⟨S1x16, .f32⟩
  | .hbm, ⟨76, _⟩ => ⟨S1x1x16, .f32⟩
  | .hbm, ⟨77, _⟩ => ⟨S128x1x1x16, .f32⟩
  | .hbm, ⟨78, _⟩ => ⟨S128x1x1x16, .f32⟩
  | .hbm, ⟨79, _⟩ => ⟨S1x1x1x16, .f32⟩
  | .hbm, ⟨80, _⟩ => ⟨S128x1x1x16, .f32⟩
  | .hbm, ⟨81, _⟩ => ⟨S128x1x1x16, .f32⟩
  | .hbm, ⟨82, _⟩ => ⟨S1x1x1x16, .f32⟩
  | .hbm, ⟨83, _⟩ => ⟨S128x1x1x16, .f32⟩
  | .hbm, ⟨84, _⟩ => ⟨S128x1x1x16, .f32⟩
  | .hbm, ⟨85, _⟩ => ⟨S128x1x1x16, .f32⟩
  | .hbm, ⟨86, _⟩ => ⟨S1x1x1x16, .f32⟩
  | .hbm, ⟨87, _⟩ => ⟨S128x1x1x16, .f32⟩
  | .hbm, ⟨88, _⟩ => ⟨S128x1x1x16, .f32⟩
  | .hbm, ⟨89, _⟩ => ⟨S1x1x1x16, .f32⟩
  | .hbm, ⟨90, _⟩ => ⟨S128x1x1x16, .f32⟩
  | .hbm, ⟨91, _⟩ => ⟨S128x1x1x16, .f32⟩
  | .hbm, ⟨92, _⟩ => ⟨S128x1x1x16, .f32⟩
  | .hbm, ⟨93, _⟩ => ⟨S128x1x1x96, .f32⟩
  | .hbm, ⟨94, _⟩ => ⟨S128x1x1x128, .f32⟩
  | .hbm, ⟨95, _⟩ => ⟨S128x1x128, .f32⟩
  | .hbm, ⟨96, _⟩ => ⟨S_, .f32⟩
  | .hbm, ⟨97, _⟩ => ⟨S128x1x32, .f32⟩
  | .hbm, ⟨98, _⟩ => ⟨S128x1x32, .f32⟩
  | .hbm, ⟨99, _⟩ => ⟨S128x128, .f32⟩
  | .hbm, ⟨100, _⟩ => ⟨S128x32, .f32⟩
  | .hbm, ⟨101, _⟩ => ⟨S128x128, .bf16⟩
  | .hbm, ⟨102, _⟩ => ⟨S_, .f32⟩
  | .hbm, ⟨103, _⟩ => ⟨S128x96, .f32⟩
  | .hbm, ⟨104, _⟩ => ⟨S128x128, .f32⟩
  | _, _ => ⟨S128x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_cst_7 : Ref sig .tc := ⟨.hbm, 62, rfl⟩
abbrev main_v48 : Ref sig .tc := ⟨.hbm, 63, rfl⟩
abbrev main_v49 : Ref sig .tc := ⟨.hbm, 64, rfl⟩
abbrev main_cst_8 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_cst_9 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_cst_10 : Ref sig .tc := ⟨.hbm, 102, rfl⟩
abbrev main_v85 : Ref sig .tc := ⟨.hbm, 103, rfl⟩
abbrev main_v86 : Ref sig .tc := ⟨.hbm, 104, rfl⟩

abbrev nD : Nat := 1
abbrev τ : Topo := Topo.v7x

variable {F : FTy → Type} [FloatOps F]
-- ==== Kernel9.lean ====
abbrev S128x1x4096 : Shape := ⟨3, ![128, 1, 4096]⟩
abbrev S1x4096 : Shape := ⟨2, ![1, 4096]⟩
abbrev S1x4096x11424 : Shape := ⟨3, ![1, 4096, 11424]⟩
abbrev S128x4096 : Shape := ⟨2, ![128, 4096]⟩
abbrev S4096 : Shape := ⟨1, ![4096]⟩
abbrev S1x4096x11264 : Shape := ⟨3, ![1, 4096, 11264]⟩
abbrev S4096x11264 : Shape := ⟨2, ![4096, 11264]⟩
abbrev S_ : Shape := ⟨0, ![]⟩
abbrev S128 : Shape := ⟨1, ![128]⟩
abbrev S16 : Shape := ⟨1, ![16]⟩
abbrev S128x1 : Shape := ⟨2, ![128, 1]⟩
abbrev S1x16 : Shape := ⟨2, ![1, 16]⟩
abbrev S128x16 : Shape := ⟨2, ![128, 16]⟩
abbrev S128x96 : Shape := ⟨2, ![128, 96]⟩
abbrev S128x128 : Shape := ⟨2, ![128, 128]⟩
abbrev S128x112 : Shape := ⟨2, ![128, 112]⟩
abbrev S1x128x128 : Shape := ⟨3, ![1, 128, 128]⟩
abbrev S3x128x128 : Shape := ⟨3, ![3, 128, 128]⟩
abbrev S128x11264 : Shape := ⟨2, ![128, 11264]⟩
abbrev S128x3584 : Shape := ⟨2, ![128, 3584]⟩
abbrev S4096x512 : Shape := ⟨2, ![4096, 512]⟩
abbrev S128x512 : Shape := ⟨2, ![128, 512]⟩
abbrev S64x4096 : Shape := ⟨2, ![64, 4096]⟩
abbrev S64 : Shape := ⟨1, ![64]⟩
abbrev S64x1 : Shape := ⟨2, ![64, 1]⟩

abbrev nBuf : Space → Nat
  | .hbm => 59
  | .vmem => 15
  | .smem => 0
  | _ => 0

abbrev bufTy : (tb : Table) → Fin (tcTables nBuf tb) → BufTy
  | .hbm, ⟨0, _⟩ => ⟨S128x1x4096, .f32⟩
  | .hbm, ⟨1, _⟩ => ⟨S1x4096, .f32⟩
  | .hbm, ⟨2, _⟩ => ⟨S1x4096x11424, .f32⟩
  | .hbm, ⟨3, _⟩ => ⟨S128x4096, .f32⟩
  | .hbm, ⟨4, _⟩ => ⟨S4096, .f32⟩
  | .hbm, ⟨5, _⟩ => ⟨S1x4096, .f32⟩
  | .hbm, ⟨6, _⟩ => ⟨S1x4096x11264, .f32⟩
  | .hbm, ⟨7, _⟩ => ⟨S4096x11264, .f32⟩
  | .hbm, ⟨8, _⟩ => ⟨S4096x11264, .bf16⟩
  | .hbm, ⟨9, _⟩ => ⟨S_, .i32⟩
  | .hbm, ⟨10, _⟩ => ⟨S128, .i32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S128, .f32⟩
  | .hbm, ⟨20, _⟩ => ⟨S128x1, .f32⟩
  | .hbm, ⟨21, _⟩ => ⟨S1x16, .f32⟩
  | .hbm, ⟨22, _⟩ => ⟨S128x16, .f32⟩
  | .hbm, ⟨23, _⟩ => ⟨S128x16, .f32⟩
  | .hbm, ⟨24, _⟩ => ⟨S128x16, .f32⟩
  | .hbm, ⟨25, _⟩ => ⟨S128x16, .f32⟩
  | .hbm, ⟨26, _⟩ => ⟨S128x16, .f32⟩
  | .hbm, ⟨27, _⟩ => ⟨S_, .f32⟩
  | .hbm, ⟨28, _⟩ => ⟨S128x96, .f32⟩
  | .hbm, ⟨29, _⟩ => ⟨S128x128, .f32⟩
  | .hbm, ⟨30, _⟩ => ⟨S128x16, .f32⟩
  | .hbm, ⟨31, _⟩ => ⟨S_, .f32⟩
  | .hbm, ⟨32, _⟩ => ⟨S128x112, .f32⟩
  | .hbm, ⟨33, _⟩ => ⟨S128x128, .f32⟩
  | .hbm, ⟨34, _⟩ => ⟨S_, .f32⟩
  | .hbm, ⟨35, _⟩ => ⟨S128x16, .f32⟩
  | .hbm, ⟨36, _⟩ => ⟨S_, .f32⟩
  | .hbm, ⟨37, _⟩ => ⟨S128x96, .f32⟩
  | .hbm, ⟨38, _⟩ => ⟨S128x128, .f32⟩
  | .hbm, ⟨39, _⟩ => ⟨S_, .f32⟩
  | .hbm, ⟨40, _⟩ => ⟨S128x128, .f32⟩
  | .hbm, ⟨41, _⟩ => ⟨S_, .f32⟩
  | .hbm, ⟨42, _⟩ => ⟨S128x128, .f32⟩
  | .hbm, ⟨43, _⟩ => ⟨S_, .f32⟩
  | .hbm, ⟨44, _⟩ => ⟨S128x128, .f32⟩
  | .hbm, ⟨45, _⟩ => ⟨S1x128x128, .f32⟩
  | .hbm, ⟨46, _⟩ => ⟨S1x128x128, .f32⟩
  | .hbm, ⟨47, _⟩ => ⟨S1x128x128, .f32⟩
  | .hbm, ⟨48, _⟩ => ⟨S3x128x128, .f32⟩
  | .hbm, ⟨49, _⟩ => ⟨S1x128x128, .f32⟩
  | .hbm, ⟨50, _⟩ => ⟨S1x128x128, .f32⟩
  | .hbm, ⟨51, _⟩ => ⟨S1x128x128, .f32⟩
  | .hbm, ⟨52, _⟩ => ⟨S3x128x128, .f32⟩
  | .hbm, ⟨53, _⟩ => ⟨S1x128x128, .f32⟩
  | .hbm, ⟨54, _⟩ => ⟨S1x128x128, .f32⟩
  | .hbm, ⟨55, _⟩ => ⟨S1x128x128, .f32⟩
  | .hbm, ⟨56, _⟩ => ⟨S3x128x128, .f32⟩
  | .hbm, ⟨57, _⟩ => ⟨S128x11264, .bf16⟩
  | .hbm, ⟨58, _⟩ => ⟨S128x3584, .f32⟩
  | .local _ .vmem, ⟨0, _⟩ => ⟨S128x4096, .f32⟩
  | .local _ .vmem, ⟨1, _⟩ => ⟨S1x4096, .f32⟩
  | .local _ .vmem, ⟨2, _⟩ => ⟨S4096x512, .bf16⟩
  | .local _ .vmem, ⟨3, _⟩ => ⟨S4096x512, .bf16⟩
  | .local _ .vmem, ⟨4, _⟩ => ⟨S1x128x128, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .f32⟩
  | .local _ .vmem, ⟨8, _⟩ => ⟨S1x128x128, .f32⟩
  | .local _ .vmem, ⟨9, _⟩ => ⟨S1x128x128, .f32⟩
  | .local _ .vmem, ⟨10, _⟩ => ⟨S128x512, .bf16⟩
  | .local _ .vmem, ⟨11, _⟩ => ⟨S128x512, .bf16⟩
  | .local _ .vmem, ⟨12, _⟩ => ⟨S128x512, .f32⟩
  | .local _ .vmem, ⟨13, _⟩ => ⟨S128x512, .f32⟩
  | .local _ .vmem, ⟨14, _⟩ => ⟨S128x4096, .bf16⟩
  | _, _ => ⟨S128x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_1 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_cst_3 : Ref sig .tc := ⟨.hbm, 34, rfl⟩
abbrev main_v26 : Ref sig .tc := ⟨.hbm, 35, rfl⟩
abbrev main_cst_4 : Ref sig .tc := ⟨.hbm, 36, rfl⟩
abbrev main_v27 : Ref sig .tc := ⟨.hbm, 37, rfl⟩
abbrev main_v28 : Ref sig .tc := ⟨.hbm, 38, rfl⟩
abbrev main_cst_5 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44_0 : Ref sig .tc := ⟨.hbm, 57, rfl⟩
abbrev main_v44_1 : Ref sig .tc := ⟨.hbm, 58, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![1, 22], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_32 : BitVec 32 := 0#32
  let c2_i32 : BitVec 32 := 2#32
  let v57 : BitVec 32 := Scalar.addi c0_i32_32 c2_i32
  let c1_i32 : BitVec 32 := 1#32
  ⟨c0_i32_32, v57, c1_i32⟩
def k0_mult1 (k0_t1 : Fin k0_t1_loop.trips) : BitVec 32 :=
  let c0_i32_32 : BitVec 32 := 0#32
  let c1_i32 : BitVec 32 := 1#32
  let arg11 : BitVec 32 := Scf.iv c0_i32_32 c1_i32 k0_t1
  let c64_i32 : BitVec 32 := 64#32
  let v58 : BitVec 32 := Scalar.muli arg11 c64_i32
  v58
def k0_off1 (k0_t1 : Fin k0_t1_loop.trips) : Fin 2 → Nat :=
  let c0_i32_32 : BitVec 32 := 0#32
  let c1_i32 : BitVec 32 := 1#32
  let arg11 : BitVec 32 := Scf.iv c0_i32_32 c1_i32 k0_t1
  let c64_i32 : BitVec 32 := 64#32
  let v58 : BitVec 32 := Scalar.muli arg11 c64_i32
  let v59 : BitVec 32 := v58
  let v60 : Index := Scalar.indexCast v59
  let c0_34 : Index := 0#32
  ![v60.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg1 c5_i32
  let c12_i32 : BitVec 32 := 12#32
  let v1 : BitVec 1 := Scalar.cmpi .eq arg1 c12_i32
  let v2 : BitVec 1 := Scalar.ori v0 v1
  let c13_i32 : BitVec 32 := 13#32
  let v3 : BitVec 1 := Scalar.cmpi .eq arg1 c13_i32
  let v4 : BitVec 1 := Scalar.ori v2 v3
  let c4_i32 : BitVec 32 := 4#32
  let v5 : BitVec 1 := Scalar.cmpi .slt arg1 c4_i32
  let c5_i32_0 : BitVec 32 := 5#32
  let v6 : BitVec 1 := Scalar.cmpi .sgt arg1 c5_i32_0
  let c10_i32 : BitVec 32 := 10#32
  let v7 : BitVec 1 := Scalar.cmpi .slt arg1 c10_i32
  let v8 : BitVec 1 := Scalar.andi v6 v7
  let v9 : BitVec 1 := Scalar.ori v5 v8
  let c2_i32 : BitVec 32 := 2#32
  let c0_i32 : BitVec 32 := 0#32
  let v10 : BitVec 32 := Scalar.select v9 c2_i32 c0_i32
  let c1_i32 : BitVec 32 := 1#32
  let v11 : BitVec 32 := Scalar.select v4 c1_i32 v10
  let c0_i32_1 : BitVec 32 := 0#32
  let c0_i32_2 : BitVec 32 := 0#32
  let c0_i32_3 : BitVec 32 := 0#32
  ![v11.toNat, c0_i32_1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg1 c5_i32
  let c12_i32 : BitVec 32 := 12#32
  let v1 : BitVec 1 := Scalar.cmpi .eq arg1 c12_i32
  let v2 : BitVec 1 := Scalar.ori v0 v1
  let c13_i32 : BitVec 32 := 13#32
  let v3 : BitVec 1 := Scalar.cmpi .eq arg1 c13_i32
  let v4 : BitVec 1 := Scalar.ori v2 v3
  let c4_i32 : BitVec 32 := 4#32
  let v5 : BitVec 1 := Scalar.cmpi .slt arg1 c4_i32
  let c5_i32_0 : BitVec 32 := 5#32
  let v6 : BitVec 1 := Scalar.cmpi .sgt arg1 c5_i32_0
  let c10_i32 : BitVec 32 := 10#32
  let v7 : BitVec 1 := Scalar.cmpi .slt arg1 c10_i32
  let v8 : BitVec 1 := Scalar.andi v6 v7
  let v9 : BitVec 1 := Scalar.ori v5 v8
  let c2_i32 : BitVec 32 := 2#32
  let c0_i32 : BitVec 32 := 0#32
  let v10 : BitVec 32 := Scalar.select v9 c2_i32 c0_i32
  let c1_i32 : BitVec 32 := 1#32
  let v11 : BitVec 32 := Scalar.select v4 c1_i32 v10
  let c0_i32_1 : BitVec 32 := 0#32
  let c0_i32_2 : BitVec 32 := 0#32
  let c0_i32_3 : BitVec 32 := 0#32
  ![v11.toNat, c0_i32_1.toNat, c0_i32_2.toNat]

def cc0_transform_5 (i : grid0.Coords) : Fin 3 → Nat :=
  let arg0 : BitVec 32 := BitVec.ofNat 32 (i 0).val
  let arg1 : BitVec 32 := BitVec.ofNat 32 (i 1).val
  let c5_i32 : BitVec 32 := 5#32
  let v0 : BitVec 1 := Scalar.cmpi .eq arg1 c5_i32
  let c12_i32 : BitVec 32 := 12#32
  let v1 : BitVec 1 := Scalar.cmpi .eq arg1 c12_i32
  let v2 : BitVec 1 := Scalar.ori v0 v1
  let c13_i32 : BitVec 32 := 13#32
  let v3 : BitVec 1 := Scalar.cmpi .eq arg1 c13_i32
  let v4 : BitVec 1 := Scalar.ori v2 v3
  let c4_i32 : BitVec 32 := 4#32
  let v5 : BitVec 1 := Scalar.cmpi .slt arg1 c4_i32
  let c5_i32_0 : BitVec 32 := 5#32
  let v6 : BitVec 1 := Scalar.cmpi .sgt arg1 c5_i32_0
  let c10_i32 : BitVec 32 := 10#32
  let v7 : BitVec 1 := Scalar.cmpi .slt arg1 c10_i32
  let v8 : BitVec 1 := Scalar.andi v6 v7
  let v9 : BitVec 1 := Scalar.ori v5 v8
  let c2_i32 : BitVec 32 := 2#32
  let c0_i32 : BitVec 32 := 0#32
  let v10 : BitVec 32 := Scalar.select v9 c2_i32 c0_i32
  let c1_i32 : BitVec 32 := 1#32
  let v11 : BitVec 32 := Scalar.select v4 c1_i32 v10
  let c0_i32_1 : BitVec 32 := 0#32
  let c0_i32_2 : BitVec 32 := 0#32
  let c0_i32_3 : BitVec 32 := 0#32
  ![v11.toNat, c0_i32_1.toNat, c0_i32_2.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 1 := Scalar.cmpi .sgt arg1 c4_i32
  let v1 : BitVec 32 := Scalar.extui v0
  let c0_i32 : BitVec 32 := 0#32
  let v2 : BitVec 32 := Scalar.addi c0_i32 v1
  let c5_i32 : BitVec 32 := 5#32
  let v3 : BitVec 1 := Scalar.cmpi .sgt arg1 c5_i32
  let v4 : BitVec 32 := Scalar.extui v3
  let v5 : BitVec 32 := Scalar.addi v2 v4
  let c10_i32 : BitVec 32 := 10#32
  let v6 : BitVec 1 := Scalar.cmpi .sgt arg1 c10_i32
  let v7 : BitVec 32 := Scalar.extui v6
  let v8 : BitVec 32 := Scalar.addi v5 v7
  let c11_i32 : BitVec 32 := 11#32
  let v9 : BitVec 1 := Scalar.cmpi .sgt arg1 c11_i32
  let v10 : BitVec 32 := Scalar.extui v9
  let v11 : BitVec 32 := Scalar.addi v8 v10
  let c12_i32 : BitVec 32 := 12#32
  let v12 : BitVec 1 := Scalar.cmpi .sgt arg1 c12_i32
  let v13 : BitVec 32 := Scalar.extui v12
  let v14 : BitVec 32 := Scalar.addi v11 v13
  let c13_i32 : BitVec 32 := 13#32
  let v15 : BitVec 1 := Scalar.cmpi .sgt arg1 c13_i32
  let v16 : BitVec 32 := Scalar.extui v15
  let v17 : BitVec 32 := Scalar.addi v14 v16
  let c0_i32_0 : BitVec 32 := 0#32
  ![arg0.toNat, v17.toNat]

abbrev stage0_0 : Fin 1 → Memref sig .tc .vmem S128x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference9Ideal.lean ====
abbrev S128x1x4096 : Shape := ⟨3, ![128, 1, 4096]⟩
abbrev S1x4096 : Shape := ⟨2, ![1, 4096]⟩
abbrev S1x4096x11424 : Shape := ⟨3, ![1, 4096, 11424]⟩
abbrev S4096 : Shape := ⟨1, ![4096]⟩
abbrev S_ : Shape := ⟨0, ![]⟩
abbrev S128x1 : Shape := ⟨2, ![128, 1]⟩
abbrev S128x1x1 : Shape := ⟨3, ![128, 1, 1]⟩
abbrev S1x1x4096 : Shape := ⟨3, ![1, 1, 4096]⟩
abbrev S4096x11424 : Shape := ⟨2, ![4096, 11424]⟩
abbrev S128x1x11424 : Shape := ⟨3, ![128, 1, 11424]⟩
abbrev S1 : Shape := ⟨1, ![1]⟩
abbrev S128x1x2048 : Shape := ⟨3, ![128, 1, 2048]⟩
abbrev S128x1x512 : Shape := ⟨3, ![128, 1, 512]⟩
abbrev S128x1x1024 : Shape := ⟨3, ![128, 1, 1024]⟩
abbrev S128x1x128 : Shape := ⟨3, ![128, 1, 128]⟩
abbrev S128x1x32 : Shape := ⟨3, ![128, 1, 32]⟩
abbrev S128x1x16x128 : Shape := ⟨4, ![128, 1, 16, 128]⟩
abbrev S16 : Shape := ⟨1, ![16]⟩
abbrev S1x1 : Shape := ⟨2, ![1, 1]⟩
abbrev S1x16 : Shape := ⟨2, ![1, 16]⟩
abbrev S1x1x16 : Shape := ⟨3, ![1, 1, 16]⟩
abbrev S128x1x16x16 : Shape := ⟨4, ![128, 1, 16, 16]⟩
abbrev S1x1x1x16 : Shape := ⟨4, ![1, 1, 1, 16]⟩
abbrev S128x1x16x96 : Shape := ⟨4, ![128, 1, 16, 96]⟩
abbrev S128x2048 : Shape := ⟨2, ![128, 2048]⟩
abbrev S128x1x4x128 : Shape := ⟨4, ![128, 1, 4, 128]⟩
abbrev S128x1x4x16 : Shape := ⟨4, ![128, 1, 4, 16]⟩
abbrev S128x1x4x96 : Shape := ⟨4, ![128, 1, 4, 96]⟩
abbrev S128x512 : Shape := ⟨2, ![128, 512]⟩
abbrev S128x1x8x128 : Shape := ⟨4, ![128, 1, 8, 128]⟩
abbrev S128x1x8x16 : Shape := ⟨4, ![128, 1, 8, 16]⟩
abbrev S128x1x8x96 : Shape := ⟨4, ![128, 1, 8, 96]⟩
abbrev S128x1024 : Shape := ⟨2, ![128, 1024]⟩
abbrev S128x1x32x128 : Shape := ⟨4, ![128, 1, 32, 128]⟩
abbrev S128x1x32x16 : Shape := ⟨4, ![128, 1, 32, 16]⟩
abbrev S128x1x32x96 : Shape := ⟨4, ![128, 1, 32, 96]⟩
abbrev S128x4096 : Shape := ⟨2, ![128, 4096]⟩
abbrev S128x11264 : Shape := ⟨2, ![128, 11264]⟩
abbrev S128x3584 : Shape := ⟨2, ![128, 3584]⟩

abbrev nBuf : Space → Nat
  | .hbm => 226
  | .vmem => 0
  | .smem => 0
  | _ => 0

abbrev hbmTy0_0 (i : Nat) : BufTy := match i % 128 with
  | 0 => ⟨S128x1x4096, .f32⟩
  | 1 => ⟨S1x4096, .f32⟩
  | 2 => ⟨S1x4096x11424, .f32⟩
  | 3 => ⟨S4096, .f32⟩
  | 4 => ⟨S128x1x4096, .f32⟩
  | 5 => ⟨S_, .f32⟩
  | 6 => ⟨S128x1, .f32⟩
  | 7 => ⟨S128x1x1, .f32⟩
  | 8 => ⟨S_, .f32⟩
  | 9 => ⟨S128x1x1, .f32⟩
  | 10 => ⟨S128x1x1, .f32⟩
  | 11 => ⟨S_, .f32⟩
  | 12 => ⟨S128x1x1, .f32⟩
  | 13 => ⟨S128x1x1, .f32⟩
  | 14 => ⟨S128x1x1, .f32⟩
  | 15 => ⟨S128x1x4096, .f32⟩
  | 16 => ⟨S128x1x4096, .f32⟩
  | 17 => ⟨S1x1x4096, .f32⟩
  | 18 => ⟨S128x1x4096, .f32⟩
  | 19 => ⟨S128x1x4096, .f32⟩
  | 20 => ⟨S4096x11424, .f32⟩
  | 21 => ⟨S128x1x11424, .f32⟩
  | 22 => ⟨S1, .i32⟩
  | 23 => ⟨S_, .i32⟩
  | 24 => ⟨S1, .i32⟩
  | 25 => ⟨S1, .i32⟩
  | 26 => ⟨S128x1x2048, .f32⟩
  | 27 => ⟨S128x1x512, .f32⟩
  | 28 => ⟨S128x1x512, .f32⟩
  | 29 => ⟨S128x1x2048, .f32⟩
  | 30 => ⟨S128x1x1024, .f32⟩
  | 31 => ⟨S128x1x1024, .f32⟩
  | 32 => ⟨S128x1x4096, .f32⟩
  | 33 => ⟨S128x1x128, .f32⟩
  | 34 => ⟨S128x1x32, .f32⟩
  | 35 => ⟨S128x1x16x128, .f32⟩
  | 36 => ⟨S16, .f32⟩
  | 37 => ⟨S16, .f32⟩
  | 38 => ⟨S_, .f32⟩
  | 39 => ⟨S16, .f32⟩
  | 40 => ⟨S16, .f32⟩
  | 41 => ⟨S_, .f32⟩
  | 42 => ⟨S16, .f32⟩
  | 43 => ⟨S16, .f32⟩
  | 44 => ⟨S1, .f32⟩
  | 45 => ⟨S1x1, .f32⟩
  | 46 => ⟨S1x16, .f32⟩
  | 47 => ⟨S1x16, .f32⟩
  | 48 => ⟨S1x16, .f32⟩
  | 49 => ⟨S1x16, .f32⟩
  | 50 => ⟨S1x1x16, .f32⟩
  | 51 => ⟨S1x16, .f32⟩
  | 52 => ⟨S1x1x16, .f32⟩
  | 53 => ⟨S128x1x16x16, .f32⟩
  | 54 => ⟨S128x1x16x16, .f32⟩
  | 55 => ⟨S1x1x1x16, .f32⟩
  | 56 => ⟨S128x1x16x16, .f32⟩
  | 57 => ⟨S128x1x16x16, .f32⟩
  | 58 => ⟨S1x1x1x16, .f32⟩
  | 59 => ⟨S128x1x16x16, .f32⟩
  | 60 => ⟨S128x1x16x16, .f32⟩
  | 61 => ⟨S128x1x16x16, .f32⟩
  | 62 => ⟨S1x1x1x16, .f32⟩
  | 63 => ⟨S128x1x16x16, .f32⟩
  | 64 => ⟨S128x1x16x16, .f32⟩
  | 65 => ⟨S1x1x1x16, .f32⟩
  | 66 => ⟨S128x1x16x16, .f32⟩
  | 67 => ⟨S128x1x16x16, .f32⟩
  | 68 => ⟨S128x1x16x16, .f32⟩
  | 69 => ⟨S128x1x16x96, .f32⟩
  | 70 => ⟨S128x1x16x128, .f32⟩
  | 71 => ⟨S128x2048, .f32⟩
  | 72 => ⟨S128x1x4x128, .f32⟩
  | 73 => ⟨S16, .f32⟩
  | 74 => ⟨S16, .f32⟩
  | 75 => ⟨S_, .f32⟩
  | 76 => ⟨S16, .f32⟩
  | 77 => ⟨S16, .f32⟩
  | 78 => ⟨S_, .f32⟩
  | 79 => ⟨S16, .f32⟩
  | 80 => ⟨S16, .f32⟩
  | 81 => ⟨S1, .f32⟩
  | 82 => ⟨S1x1, .f32⟩
  | 83 => ⟨S1x16, .f32⟩
  | 84 => ⟨S1x16, .f32⟩
  | 85 => ⟨S1x16, .f32⟩
  | 86 => ⟨S1x16, .f32⟩
  | 87 => ⟨S1x1x16, .f32⟩
  | 88 => ⟨S1x16, .f32⟩
  | 89 => ⟨S1x1x16, .f32⟩
  | 90 => ⟨S128x1x4x16, .f32⟩
  | 91 => ⟨S128x1x4x16, .f32⟩
  | 92 => ⟨S1x1x1x16, .f32⟩
  | 93 => ⟨S128x1x4x16, .f32⟩
  | 94 => ⟨S128x1x4x16, .f32⟩
  | 95 => ⟨S1x1x1x16, .f32⟩
  | 96 => ⟨S128x1x4x16, .f32⟩
  | 97 => ⟨S128x1x4x16, .f32⟩
  | 98 => ⟨S128x1x4x16, .f32⟩
  | 99 => ⟨S1x1x1x16, .f32⟩
  | 100 => ⟨S128x1x4x16, .f32⟩
  | 101 => ⟨S128x1x4x16, .f32⟩
  | 102 => ⟨S1x1x1x16, .f32⟩
  | 103 => ⟨S128x1x4x16, .f32⟩
  | 104 => ⟨S128x1x4x16, .f32⟩
  | 105 => ⟨S128x1x4x16, .f32⟩
  | 106 => ⟨S128x1x4x96, .f32⟩
  | 107 => ⟨S128x1x4x128, .f32⟩
  | 108 => ⟨S128x512, .f32⟩
  | 109 => ⟨S128x1x16x128, .f32⟩
  | 110 => ⟨S16, .f32⟩
  | 111 => ⟨S16, .f32⟩
  | 112 => ⟨S_, .f32⟩
  | 113 => ⟨S16, .f32⟩
  | 114 => ⟨S16, .f32⟩
  | 115 => ⟨S_, .f32⟩
  | 116 => ⟨S16, .f32⟩
  | 117 => ⟨S16, .f32⟩
  | 118 => ⟨S1, .f32⟩
  | 119 => ⟨S1x1, .f32⟩
  | 120 => ⟨S1x16, .f32⟩
  | 121 => ⟨S1x16, .f32⟩
  | 122 => ⟨S1x16, .f32⟩
  | 123 => ⟨S1x16, .f32⟩
  | 124 => ⟨S1x1x16, .f32⟩
  | 125 => ⟨S1x16, .f32⟩
  | 126 => ⟨S1x1x16, .f32⟩
  | 127 => ⟨S128x1x16x16, .f32⟩
  | _ => ⟨S128x1x4096, .f32⟩

abbrev hbmTy0_1 (i : Nat) : BufTy := match i % 128 with
  | 0 => ⟨S128x1x16x16, .f32⟩
  | 1 => ⟨S1x1x1x16, .f32⟩
  | 2 => ⟨S128x1x16x16, .f32⟩
  | 3 => ⟨S128x1x16x16, .f32⟩
  | 4 => ⟨S1x1x1x16, .f32⟩
  | 5 => ⟨S128x1x16x16, .f32⟩
  | 6 => ⟨S128x1x16x16, .f32⟩
  | 7 => ⟨S128x1x16x16, .f32⟩
  | 8 => ⟨S1x1x1x16, .f32⟩
  | 9 => ⟨S128x1x16x16, .f32⟩
  | 10 => ⟨S128x1x16x16, .f32⟩
  | 11 => ⟨S1x1x1x16, .f32⟩
  | 12 => ⟨S128x1x16x16, .f32⟩
  | 13 => ⟨S128x1x16x16, .f32⟩
  | 14 => ⟨S128x1x16x16, .f32⟩
  | 15 => ⟨S128x1x16x96, .f32⟩
  | 16 => ⟨S128x1x16x128, .f32⟩
  | 17 => ⟨S128x2048, .f32⟩
  | 18 => ⟨S128x1x8x128, .f32⟩
  | 19 => ⟨S16, .f32⟩
  | 20 => ⟨S16, .f32⟩
  | 21 => ⟨S_, .f32⟩
  | 22 => ⟨S16, .f32⟩
  | 23 => ⟨S16, .f32⟩
  | 24 => ⟨S_, .f32⟩
  | 25 => ⟨S16, .f32⟩
  | 26 => ⟨S16, .f32⟩
  | 27 => ⟨S1, .f32⟩
  | 28 => ⟨S1x1, .f32⟩
  | 29 => ⟨S1x16, .f32⟩
  | 30 => ⟨S1x16, .f32⟩
  | 31 => ⟨S1x16, .f32⟩
  | 32 => ⟨S1x16, .f32⟩
  | 33 => ⟨S1x1x16, .f32⟩
  | 34 => ⟨S1x16, .f32⟩
  | 35 => ⟨S1x1x16, .f32⟩
  | 36 => ⟨S128x1x8x16, .f32⟩
  | 37 => ⟨S128x1x8x16, .f32⟩
  | 38 => ⟨S1x1x1x16, .f32⟩
  | 39 => ⟨S128x1x8x16, .f32⟩
  | 40 => ⟨S128x1x8x16, .f32⟩
  | 41 => ⟨S1x1x1x16, .f32⟩
  | 42 => ⟨S128x1x8x16, .f32⟩
  | 43 => ⟨S128x1x8x16, .f32⟩
  | 44 => ⟨S128x1x8x16, .f32⟩
  | 45 => ⟨S1x1x1x16, .f32⟩
  | 46 => ⟨S128x1x8x16, .f32⟩
  | 47 => ⟨S128x1x8x16, .f32⟩
  | 48 => ⟨S1x1x1x16, .f32⟩
  | 49 => ⟨S128x1x8x16, .f32⟩
  | 50 => ⟨S128x1x8x16, .f32⟩
  | 51 => ⟨S128x1x8x16, .f32⟩
  | 52 => ⟨S128x1x8x96, .f32⟩
  | 53 => ⟨S128x1x8x128, .f32⟩
  | 54 => ⟨S128x1024, .f32⟩
  | 55 => ⟨S128x1x32x128, .f32⟩
  | 56 => ⟨S16, .f32⟩
  | 57 => ⟨S16, .f32⟩
  | 58 => ⟨S_, .f32⟩
  | 59 => ⟨S16, .f32⟩
  | 60 => ⟨S16, .f32⟩
  | 61 => ⟨S_, .f32⟩
  | 62 => ⟨S16, .f32⟩
  | 63 => ⟨S16, .f32⟩
  | 64 => ⟨S1, .f32⟩
  | 65 => ⟨S1x1, .f32⟩
  | 66 => ⟨S1x16, .f32⟩
  | 67 => ⟨S1x16, .f32⟩
  | 68 => ⟨S1x16, .f32⟩
  | 69 => ⟨S1x16, .f32⟩
  | 70 => ⟨S1x1x16, .f32⟩
  | 71 => ⟨S1x16, .f32⟩
  | 72 => ⟨S1x1x16, .f32⟩
  | 73 => ⟨S128x1x32x16, .f32⟩
  | 74 => ⟨S128x1x32x16, .f32⟩
  | 75 => ⟨S1x1x1x16, .f32⟩
  | 76 => ⟨S128x1x32x16, .f32⟩
  | 77 => ⟨S128x1x32x16, .f32⟩
  | 78 => ⟨S1x1x1x16, .f32⟩
  | 79 => ⟨S128x1x32x16, .f32⟩
  | 80 => ⟨S128x1x32x16, .f32⟩
  | 81 => ⟨S128x1x32x16, .f32⟩
  | 82 => ⟨S1x1x1x16, .f32⟩
  | 83 => ⟨S128x1x32x16, .f32⟩
  | 84 => ⟨S128x1x32x16, .f32⟩
  | 85 => ⟨S1x1x1x16, .f32⟩
  | 86 => ⟨S128x1x32x16, .f32⟩
  | 87 => ⟨S128x1x32x16, .f32⟩
  | 88 => ⟨S128x1x32x16, .f32⟩
  | 89 => ⟨S128x1x32x96, .f32⟩
  | 90 => ⟨S128x1x32x128, .f32⟩
  | 91 => ⟨S128x4096, .f32⟩
  | 92 => ⟨S128x512, .f32⟩
  | 93 => ⟨S128x1024, .f32⟩
  | 94 => ⟨S128x11264, .f32⟩
  | 95 => ⟨S128x11264, .bf16⟩
  | 96 => ⟨S128x512, .f32⟩
  | 97 => ⟨S128x3584, .f32⟩
  | _ => ⟨S128x1x4096, .f32⟩

abbrev hbmTy (i : Nat) : BufTy := match i / 128 with
  | 0 => hbmTy0_0 i
  | 1 => hbmTy0_1 i
  | _ => ⟨S128x1x4096, .f32⟩

abbrev bufTy : (tb : Table) → Fin (tcTables nBuf tb) → BufTy
  | .hbm, ⟨i, _⟩ => hbmTy i
  | _, _ => ⟨S128x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_cst_3 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_cst_4 : Ref sig .tc := ⟨.hbm, 75, rfl⟩
abbrev main_v66 : Ref sig .tc := ⟨.hbm, 76, rfl⟩
abbrev main_v67 : Ref sig .tc := ⟨.hbm, 77, rfl⟩
abbrev main_cst_5 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_cst_6 : Ref sig .tc := ⟨.hbm, 112, rfl⟩
abbrev main_v101 : Ref sig .tc := ⟨.hbm, 113, rfl⟩
abbrev main_v102 : Ref sig .tc := ⟨.hbm, 114, rfl⟩
abbrev main_cst_7 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_v110 : Ref sig .tc := ⟨.hbm, 123, rfl⟩
abbrev main_v111 : Ref sig .tc := ⟨.hbm, 124, rfl⟩
abbrev main_v112 : Ref sig .tc := ⟨.hbm, 125, rfl⟩
abbrev main_v113 : Ref sig .tc := ⟨.hbm, 126, rfl⟩
abbrev main_v114 : Ref sig .tc := ⟨.hbm, 127, rfl⟩
abbrev main_v115 : Ref sig .tc := ⟨.hbm, 128, rfl⟩
abbrev main_v116 : Ref sig .tc := ⟨.hbm, 129, rfl⟩
abbrev main_v117 : Ref sig .tc := ⟨.hbm, 130, rfl⟩
abbrev main_v118 : Ref sig .tc := ⟨.hbm, 131, rfl⟩
abbrev main_v119 : Ref sig .tc := ⟨.hbm, 132, rfl⟩
abbrev main_v120 : Ref sig .tc := ⟨.hbm, 133, rfl⟩
abbrev main_v121 : Ref sig .tc := ⟨.hbm, 134, rfl⟩
abbrev main_v122 : Ref sig .tc := ⟨.hbm, 135, rfl⟩
abbrev main_v123 : Ref sig .tc := ⟨.hbm, 136, rfl⟩
abbrev main_v124 : Ref sig .tc := ⟨.hbm, 137, rfl⟩
abbrev main_v125 : Ref sig .tc := ⟨.hbm, 138, rfl⟩
abbrev main_v126 : Ref sig .tc := ⟨.hbm, 139, rfl⟩
abbrev main_v127 : Ref sig .tc := ⟨.hbm, 140, rfl⟩
abbrev main_v128 : Ref sig .tc := ⟨.hbm, 141, rfl⟩
abbrev main_v129 : Ref sig .tc := ⟨.hbm, 142, rfl⟩
abbrev main_v130 : Ref sig .tc := ⟨.hbm, 143, rfl⟩
abbrev main_v131 : Ref sig .tc := ⟨.hbm, 144, rfl⟩
abbrev main_v132 : Ref sig .tc := ⟨.hbm, 145, rfl⟩
abbrev main_v133 : Ref sig .tc := ⟨.hbm, 146, rfl⟩
abbrev main_v134 : Ref sig .tc := ⟨.hbm, 147, rfl⟩
abbrev main_v135 : Ref sig .tc := ⟨.hbm, 148, rfl⟩
abbrev main_cst_8 : Ref sig .tc := ⟨.hbm, 149, rfl⟩
abbrev main_v136 : Ref sig .tc := ⟨.hbm, 150, rfl⟩
abbrev main_v137 : Ref sig .tc := ⟨.hbm, 151, rfl⟩
abbrev main_cst_9 : Ref sig .tc := ⟨.hbm, 152, rfl⟩
abbrev main_v138 : Ref sig .tc := ⟨.hbm, 153, rfl⟩
abbrev main_v139 : Ref sig .tc := ⟨.hbm, 154, rfl⟩
abbrev main_v140 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩
abbrev main_v154 : Ref sig .tc := ⟨.hbm, 169, rfl⟩
abbrev main_v155 : Ref sig .tc := ⟨.hbm, 170, rfl⟩
abbrev main_v156 : Ref sig .tc := ⟨.hbm, 171, rfl⟩
abbrev main_v157 : Ref sig .tc := ⟨.hbm, 172, rfl⟩
abbrev main_v158 : Ref sig .tc := ⟨.hbm, 173, rfl⟩
abbrev main_v159 : Ref sig .tc := ⟨.hbm, 174, rfl⟩
abbrev main_v160 : Ref sig .tc := ⟨.hbm, 175, rfl⟩
abbrev main_v161 : Ref sig .tc := ⟨.hbm, 176, rfl⟩
abbrev main_v162 : Ref sig .tc := ⟨.hbm, 177, rfl⟩
abbrev main_v163 : Ref sig .tc := ⟨.hbm, 178, rfl⟩
abbrev main_v164 : Ref sig .tc := ⟨.hbm, 179, rfl⟩
abbrev main_v165 : Ref sig .tc := ⟨.hbm, 180, rfl⟩
abbrev main_v166 : Ref sig .tc := ⟨.hbm, 181, rfl⟩
abbrev main_v167 : Ref sig .tc := ⟨.hbm, 182, rfl⟩
abbrev main_v168 : Ref sig .tc := ⟨.hbm, 183, rfl⟩
abbrev main_v169 : Ref sig .tc := ⟨.hbm, 184, rfl⟩
abbrev main_v170 : Ref sig .tc := ⟨.hbm, 185, rfl⟩
abbrev main_cst_10 : Ref sig .tc := ⟨.hbm, 186, rfl⟩
abbrev main_v171 : Ref sig .tc := ⟨.hbm, 187, rfl⟩
abbrev main_v172 : Ref sig .tc := ⟨.hbm, 188, rfl⟩
abbrev main_cst_11 : Ref sig .tc := ⟨.hbm, 189, rfl⟩
abbrev main_v173 : Ref sig .tc := ⟨.hbm, 190, rfl⟩
abbrev main_v174 : Ref sig .tc := ⟨.hbm, 191, rfl⟩
abbrev main_v175 : Ref sig .tc := ⟨.hbm, 192, rfl⟩
abbrev main_v176 : Ref sig .tc := ⟨.hbm, 193, rfl⟩
abbrev main_v177 : Ref sig .tc := ⟨.hbm, 194, rfl⟩
abbrev main_v178 : Ref sig .tc := ⟨.hbm, 195, rfl⟩
abbrev main_v179 : Ref sig .tc := ⟨.hbm, 196, rfl⟩
abbrev main_v180 : Ref sig .tc := ⟨.hbm, 197, rfl⟩
abbrev main_v181 : Ref sig .tc := ⟨.hbm, 198, rfl⟩
abbrev main_v182 : Ref sig .tc := ⟨.hbm, 199, rfl⟩
abbrev main_v183 : Ref sig .tc := ⟨.hbm, 200, rfl⟩
abbrev main_v184 : Ref sig .tc := ⟨.hbm, 201, rfl⟩
abbrev main_v185 : Ref sig .tc := ⟨.hbm, 202, rfl⟩
abbrev main_v186 : Ref sig .tc := ⟨.hbm, 203, rfl⟩
abbrev main_v187 : Ref sig .tc := ⟨.hbm, 204, rfl⟩
abbrev main_v188 : Ref sig .tc := ⟨.hbm, 205, rfl⟩
abbrev main_v189 : Ref sig .tc := ⟨.hbm, 206, rfl⟩
abbrev main_v190 : Ref sig .tc := ⟨.hbm, 207, rfl⟩
abbrev main_v191 : Ref sig .tc := ⟨.hbm, 208, rfl⟩
abbrev main_v192 : Ref sig .tc := ⟨.hbm, 209, rfl⟩
abbrev main_v193 : Ref sig .tc := ⟨.hbm, 210, rfl⟩
abbrev main_v194 : Ref sig .tc := ⟨.hbm, 211, rfl⟩
abbrev main_v195 : Ref sig .tc := ⟨.hbm, 212, rfl⟩
abbrev main_v196 : Ref sig .tc := ⟨.hbm, 213, rfl⟩
abbrev main_v197 : Ref sig .tc := ⟨.hbm, 214, rfl⟩
abbrev main_v198 : Ref sig .tc := ⟨.hbm, 215, rfl⟩
abbrev main_v199 : Ref sig .tc := ⟨.hbm, 216, rfl⟩
abbrev main_v200 : Ref sig .tc := ⟨.hbm, 217, rfl⟩
abbrev main_v201 : Ref sig .tc := ⟨.hbm, 218, rfl⟩
abbrev main_v202 : Ref sig .tc := ⟨.hbm, 219, rfl⟩
abbrev main_v203 : Ref sig .tc := ⟨.hbm, 220, rfl⟩
abbrev main_v204 : Ref sig .tc := ⟨.hbm, 221, rfl⟩
abbrev main_v205 : Ref sig .tc := ⟨.hbm, 222, rfl⟩
abbrev main_v206 : Ref sig .tc := ⟨.hbm, 223, rfl⟩
abbrev main_v207 : Ref sig .tc := ⟨.hbm, 224, rfl⟩
abbrev main_v208 : Ref sig .tc := ⟨.hbm, 225, rfl⟩

abbrev nD : Nat := 1
abbrev τ : Topo := Topo.v7x

variable {F : FTy → Type} [FloatOps F]
-- ==== Proof.Diff.Reduce6.lean ====
module

public import Idealize.ShloMosaic.Lib.Pointwise
public import Idealize.ShloMosaic.Lib.StableHlo
public import Idealize.ShloMosaic.Lib.IdealHost

@[expose] public section

set_option maxRecDepth 16384

noncomputable section

namespace Cert.Diff

open Idealize.ShloMosaic

section

variable {n0 n1 n2 n3 n4 n5 : ℕ}

/-- An index of rank 6 drops to an index of rank 5 exactly if it adds a last coordinate to it. -/
theorem drop6 (h : (⟨6, ![n0, n1, n2, n3, n4, n5]⟩ : Shape).ReducesTo [5] (⟨5, ![n0, n1, n2, n3, n4]⟩ : Shape))
    (a : Fin n0) (b : Fin n1) (c : Fin n2) (d : Fin n3) (e : Fin n4) (i : (⟨6, ![n0, n1, n2, n3, n4, n5]⟩ : Shape).Idx) :
    h.drop i = ix5 a b c d e ↔ ∃ k : Fin n5, ix6 a b c d e k = i := by
  constructor
  · intro q
    refine ⟨i 5, ?_⟩
    funext x
    apply Fin.ext
    match x with
    | ⟨0, _⟩ => exact (congrArg Fin.val (congrFun q 0)).symm
    | ⟨1, _⟩ => exact (congrArg Fin.val (congrFun q 1)).symm
    | ⟨2, _⟩ => exact (congrArg Fin.val (congrFun q 2)).symm
    | ⟨3, _⟩ => exact (congrArg Fin.val (congrFun q 3)).symm
    | ⟨4, _⟩ => exact (congrArg Fin.val (congrFun q 4)).symm
    | ⟨5, _⟩ => rfl
  · rintro ⟨k, rfl⟩
    funext x
    apply Fin.ext
    match x with
    | ⟨0, _⟩ => rfl
    | ⟨1, _⟩ => rfl
    | ⟨2, _⟩ => rfl
    | ⟨3, _⟩ => rfl
    | ⟨4, _⟩ => rfl

/-- The host's maximum along the last axis of rank 6. -/
theorem hostMax6 {u : Shape} (h : (⟨6, ![n0, n1, n2, n3, n4, n5]⟩ : Shape).ReducesTo [5] (⟨5, ![n0, n1, n2, n3, n4]⟩ : Shape))
    (hu : 0 < u.numel) (v : FVec Ideal ⟨6, ![n0, n1, n2, n3, n4, n5]⟩ .f32) (w : FVec Ideal u .f32)
    (a : Fin n0) (b : Fin n1) (c : Fin n2) (d : Fin n3) (e : Fin n4) :
    Host.reduce (FloatOps.maximumf (F := Ideal) (φ := .f32)) v w h hu (ix5 a b c d e)
      = (Finset.univ : Finset (Fin n5)).fold (max : EReal → EReal → EReal) (w (Shape.Idx.first hu)) fun k => v (ix6 a b c d e k) := by
  rw [Host.reduce_eq_fold]
  exact Finset.fold_filter_eq_fold_of_fiber _ _ (fun k : Fin n5 => ix6 a b c d e k) (fun _ _ q => congrFun q 5) (drop6 h a b c d e) _ v

/-- The larger of a constant and the maximum along the last axis, both started from −∞. -/
theorem maxRow6 {u : Shape} (h : (⟨6, ![n0, n1, n2, n3, n4, n5]⟩ : Shape).ReducesTo [5] (⟨5, ![n0, n1, n2, n3, n4]⟩ : Shape))
    (hu : 0 < u.numel) (v : FVec Ideal ⟨6, ![n0, n1, n2, n3, n4, n5]⟩ .f32) (w : FVec Ideal u .f32)
    (z : FVec Ideal ⟨5, ![n0, n1, n2, n3, n4]⟩ .f32) (hw : ∀ x, w x = (⊥ : EReal)) (hz : ∀ x, z x = (⊥ : EReal))
    (a : Fin n0) (b : Fin n1) (c : Fin n2) (d : Fin n3) (e : Fin n4) :
    maximumf z (Host.reduce (FloatOps.maximumf (F := Ideal) (φ := .f32)) v w h hu) (ix5 a b c d e)
      = max (⊥ : EReal) ((Finset.univ : Finset (Fin n5)).fold (max : EReal → EReal → EReal) ⊥ fun k => v (ix6 a b c d e k)) := by
  rw [← hw (Shape.Idx.first hu), ← hostMax6 h hu v w a b c d e, hw, ← hz (ix5 a b c d e)]
  rfl

/-- The host's sum along the last axis of rank 6. -/
theorem hostSum6 {u : Shape} (h : (⟨6, ![n0, n1, n2, n3, n4, n5]⟩ : Shape).ReducesTo [5] (⟨5, ![n0, n1, n2, n3, n4]⟩ : Shape))
    (hu : 0 < u.numel) (v : FVec Ideal ⟨6, ![n0, n1, n2, n3, n4, n5]⟩ .f32) (w : FVec Ideal u .f32)
    (a : Fin n0) (b : Fin n1) (c : Fin n2) (d : Fin n3) (e : Fin n4) :
    Host.reduceAdd v w h hu (ix5 a b c d e) = w (Shape.Idx.first hu) + ∑ k : Fin n5, v (ix6 a b c d e k) := by
  show Ideal.hostReduceAdd h v (w (Shape.Idx.first hu)) (ix5 a b c d e) = _
  exact congrArg _ (Finset.sum_filter_eq_sum_of_fiber _ (fun k : Fin n5 => ix6 a b c d e k) (fun _ _ q => congrFun q 5) (drop6 h a b c d e) v)

end

end Cert.Diff
-- ==== Proof.Diff.Online.lean ====
module

public import Idealize.ShloMosaic.PureOps.Ideal
public import Mathlib.Analysis.SpecialFunctions.Pow.Real
public import Mathlib.Data.Finset.Fold

@[expose] public section

namespace Cert.Diff

open Idealize.ShloMosaic

/-- A finite sum of reals read in the extended reals. -/
theorem coe_sum {ι : Type} (K : Finset ι) (f : ι → ℝ) :
    ((∑ j ∈ K, f j : ℝ) : EReal) = ∑ j ∈ K, (f j : EReal) := by
  classical
  induction K using Finset.induction_on with
  | empty => simp
  | insert a s ha ih => rw [Finset.sum_insert ha, Finset.sum_insert ha, EReal.coe_add, ih]

/-- The running state of the blocked softmax of one row, after the keys `0 … n-1`: the shift `M`
(the running maximum, or `-∞` before the first key), the sum of the shifted powers, and the sum of
the values weighted by them. -/
def Rep {δ : Type} (n : ℕ) (S : ℕ → ℝ) (V : ℕ → δ → ℝ) (m l : EReal) (acc : δ → EReal) : Prop :=
  ∃ M : ℝ, (m = (M : EReal) ∨ (m = ⊥ ∧ n = 0))
    ∧ l = ((∑ j ∈ Finset.range n, Real.rpow 2 (S j - M) : ℝ) : EReal)
    ∧ ∀ d, acc d = ((∑ j ∈ Finset.range n, Real.rpow 2 (S j - M) * V j d : ℝ) : EReal)

/-- The state before the first key. -/
theorem Rep.init {δ : Type} (S : ℕ → ℝ) (V : ℕ → δ → ℝ) (acc : δ → EReal) (h : ∀ d, acc d = 0) :
    Rep 0 S V ⊥ 0 acc :=
  ⟨0, .inr ⟨rfl, rfl⟩, by simp, fun d => by simp [h d]⟩

/-- The maximum of finitely many scores, none `+∞` and one of them finite, is finite. -/
theorem max_fold_real {N : ℕ} (m : EReal) (s : Fin N → EReal) (hm : m ≠ ⊤) (hs : ∀ j, s j ≠ ⊤)
    (j0 : Fin N) (h0 : s j0 ≠ ⊥) :
    ∃ M : ℝ, max m (Finset.univ.fold max ⊥ s) = (M : EReal) := by
  have htop : max m (Finset.univ.fold max ⊥ s) ≠ ⊤ := by
    apply ne_of_lt
    rw [max_lt_iff]
    refine ⟨lt_top_iff_ne_top.2 hm, ?_⟩
    rw [Finset.fold_max_lt]
    exact ⟨bot_lt_top, fun j _ => lt_top_iff_ne_top.2 (hs j)⟩
  have hbot : max m (Finset.univ.fold max ⊥ s) ≠ ⊥ := by
    apply ne_of_gt
    refine lt_of_lt_of_le (bot_lt_iff_ne_bot.2 h0) (le_trans ?_ (le_max_right _ _))
    rw [Finset.le_fold_max]
    exact .inr ⟨j0, Finset.mem_univ _, le_rfl⟩
  exact ⟨_, (EReal.coe_toReal htop hbot).symm⟩

/-- The keys of a block beside the keys before it. -/
theorem range_block {N : ℕ} (a b : ℕ) (hab : a ≤ b) (hb : b ≤ a + N) (g : ℕ → ℝ) :
    (∑ j : Fin N, if a + j.val < b then g (a + j.val) else 0) + ∑ j ∈ Finset.range a, g j
      = ∑ j ∈ Finset.range b, g j := by
  obtain ⟨c, rfl⟩ := Nat.exists_eq_add_of_le hab
  rw [Finset.sum_range_add, add_comm]
  congr 1
  rw [Fin.sum_univ_eq_sum_range (fun j => if a + j < a + c then g (a + j) else 0) N,
    ← Finset.sum_filter]
  apply Finset.sum_congr _ fun _ _ => rfl
  ext j
  simp only [Finset.mem_filter, Finset.mem_range]
  omega

theorem rpow_two_add (x y : ℝ) : Real.rpow 2 (x + y) = Real.rpow 2 x * Real.rpow 2 y :=
  Real.rpow_add (by norm_num) x y

/-- One block of the online softmax: the running maximum is raised, the sums are rescaled and the
block's keys are added. -/
theorem Rep.step {δ : Type} {N : ℕ} {a b : ℕ} {S : ℕ → ℝ} {V : ℕ → δ → ℝ} {m l : EReal}
    {acc : δ → EReal} (h : Rep a S V m l acc) (hab : a < b) (hb : b ≤ a + N)
    (s : Fin N → EReal) (hs : ∀ j, s j = if a + j.val < b then (S (a + j.val) : EReal) else ⊥)
    (v : Fin N → δ → EReal) (hv : ∀ j d, v j d = (V (a + j.val) d : EReal))
    (m' l' : EReal) (acc' : δ → EReal)
    (hm' : m' = max m (Finset.univ.fold max ⊥ s))
    (hl' : l' = Ideal.exp2 (m - m') * l + ∑ j, Ideal.exp2 (s j - m'))
    (hacc' : ∀ d, acc' d = Ideal.exp2 (m - m') * acc d + ∑ j, Ideal.exp2 (s j - m') * v j d) :
    Rep b S V m' l' acc' := by
  obtain ⟨M, hm, hl, hacc⟩ := h
  have hmt : m ≠ ⊤ := by rcases hm with hm | ⟨hm, _⟩ <;> simp [hm]
  obtain ⟨M', hM'⟩ := max_fold_real m s hmt (fun j => by rw [hs j]; split <;> simp)
    ⟨0, by omega⟩ (by rw [hs]; simp [hab])
  rw [hM'] at hm'
  have hp : ∀ j, Ideal.exp2 (s j - m')
      = ((if a + j.val < b then Real.rpow 2 (S (a + j.val) - M') else 0 : ℝ) : EReal) := by
    intro j
    rw [hs j, hm']
    split
    · rw [← EReal.coe_sub, Ideal.exp2_coe]
    · simp
  have hal : ∀ g : ℕ → ℝ, Ideal.exp2 (m - m')
      * ((∑ j ∈ Finset.range a, Real.rpow 2 (S j - M) * g j : ℝ) : EReal)
      = ((∑ j ∈ Finset.range a, Real.rpow 2 (S j - M') * g j : ℝ) : EReal) := by
    intro g
    rcases hm with hm | ⟨hm, h0⟩
    · rw [hm, hm', ← EReal.coe_sub, Ideal.exp2_coe, ← EReal.coe_mul, Finset.mul_sum]
      congr 1
      apply Finset.sum_congr rfl
      intro j _
      rw [← mul_assoc, ← rpow_two_add]
      congr 2
      ring
    · subst h0; simp
  refine ⟨M', .inl hm', ?_, fun d => ?_⟩
  · rw [hl', hl]
    have := hal (fun _ => 1)
    simp only [mul_one] at this
    rw [this, Finset.sum_congr rfl fun j _ => hp j, ← coe_sum, ← EReal.coe_add, add_comm,
      range_block a b hab.le hb fun j => Real.rpow 2 (S j - M')]
  · rw [hacc', hacc, hal fun j => V j d]
    have : ∀ j, Ideal.exp2 (s j - m') * v j d
        = ((if a + j.val < b then Real.rpow 2 (S (a + j.val) - M') * V (a + j.val) d else 0 : ℝ)
          : EReal) := by
      intro j
      rw [hp, hv, ← EReal.coe_mul]
      split <;> simp
    rw [Finset.sum_congr rfl fun j _ => this j, ← coe_sum, ← EReal.coe_add, add_comm,
      range_block a b hab.le hb fun j => Real.rpow 2 (S j - M') * V j d]

/-- The weighted mean of the values under the powers of two of the scores, the closed form of a
row. -/
noncomputable def wmean (n : ℕ) (E : ℕ → ℝ) (V : ℕ → ℝ) : ℝ :=
  (∑ j ∈ Finset.range n, E j * V j) / ∑ j ∈ Finset.range n, E j

/-- The last division of the online softmax gives the weighted mean, whatever the shift. -/
theorem Rep.final {δ : Type} {n : ℕ} {S : ℕ → ℝ} {V : ℕ → δ → ℝ} {m l : EReal}
    {acc : δ → EReal} (h : Rep n S V m l acc) (hn : 0 < n) (d : δ) :
    Ideal.div (acc d) l = ((wmean n (fun j => Real.rpow 2 (S j)) fun j => V j d : ℝ) : EReal) := by
  obtain ⟨M, _, hl, hacc⟩ := h
  have hc : ∀ j, Real.rpow 2 (S j - M) = Real.rpow 2 (S j) * Real.rpow 2 (-M) := fun j => by
    rw [← rpow_two_add]; rfl
  have hM : 0 < Real.rpow 2 (-M) := Real.rpow_pos_of_pos (by norm_num) _
  have hpos : 0 < ∑ j ∈ Finset.range n, Real.rpow 2 (S j - M) :=
    Finset.sum_pos (fun j _ => Real.rpow_pos_of_pos (by norm_num) _) ⟨0, by simpa using hn⟩
  rw [hacc, hl, Ideal.div_coe hpos.ne', ← EReal.coe_mul, mul_one_div]
  congr 1
  unfold wmean
  simp only [hc]
  rw [← Finset.sum_mul]
  have : ∀ j, Real.rpow 2 (S j) * Real.rpow 2 (-M) * V j d
      = Real.rpow 2 (S j) * V j d * Real.rpow 2 (-M) := fun j => by ring
  simp only [this]
  rw [← Finset.sum_mul, mul_div_mul_right _ _ hM.ne']

end Cert.Diff
-- ==== Proof.Diff.Step.lean ====
module

public import proofs.«01_k».proof.Proof.Gen.KernelIdeal.Value
public import proofs.«01_k».proof.Proof.Diff.Online
public import Idealize.ShloMosaic.Lib.Pointwise

@[expose] public section

set_option maxRecDepth 16384

noncomputable section

namespace Cert.Diff

open Cert.KernelIdeal Cert.KernelIdeal.Gen Idealize.ShloMosaic Idealize.ShloMosaic.TcCoe Idealize.SL.Sem

theorem bits_negInf : Ideal.ofBits .f32 0xFF800000#32 = ⊥ := by simp [Ideal.ofBits, Ideal.ieee]
theorem bits_zero : Ideal.ofBits .f32 0x00000000#32 = 0 := by simp [Ideal.ofBits, Ideal.ieee]

/-- The scores of a block of keys: the stacked queries times the block of transposed keys. -/
def sc (q : FVec Ideal S512x128 .bf16) (kk : FVec Ideal S128x512 .bf16) : FVec Ideal S512x512 .f32 :=
  matmul dot_S512x128_S128x512_S512x512_1_0_0_1_n_n none q kk (constant S512x512 .f32 0x00000000#32)

/-- The running maximum of each row raised by a block of scores. -/
def mNew (s : FVec Ideal S512x512 .f32) (m : FVec Ideal S512x1 .f32) : FVec Ideal S512x1 .f32 :=
  maximumf m (shapeCast S512x1
    (multiReduction .maximumf [1] S512 s 0xFF800000#32 reduces_S512x512_S512 (.inl rfl) rfl)
    shapeCasts_S512_S512x1)

/-- The scores of a block that the causal mask cuts, `v127` its first key and `v0` the first row. -/
def masked (s : FVec Ideal S512x512 .f32) (v0 v127 : BitVec 32) : FVec Ideal S512x512 .f32 :=
  select (cmpi .sle (addi (broadcast S512x512 v127) (iota .tc S512x512 32 [1] iota_S512x512_d1_w32))
    (k0_pay41 v0)) s (broadcast S512x512 (Named.named κ "mask" 0xF149F2CA#32))

theorem sc_apply (q : FVec Ideal S512x128 .bf16) (kk : FVec Ideal S128x512 .bf16) (r j : Fin 512) :
    sc q kk (ix2 r j) = ∑ k : Fin 128, q (ix2 r k) * kk (ix2 k j) := by
  unfold sc
  pointwise

theorem mNew_apply (s : FVec Ideal S512x512 .f32) (m : FVec Ideal S512x1 .f32) (r : Fin 512) :
    mNew s m (ix2 r 0) = max (m (ix2 r 0)) (Finset.univ.fold max ⊥ fun j : Fin 512 => s (ix2 r j)) := by
  unfold mNew
  pointwise
  rw [bits_negInf]

theorem lNew_apply (m l : FVec Ideal S512x1 .f32) (s : FVec Ideal S512x512 .f32)
    (m' : FVec Ideal S512x1 .f32) (r : Fin 512) :
    k0_pay46 m l s m' (ix2 r 0)
      = Ideal.exp2 (m (ix2 r 0) - m' (ix2 r 0)) * l (ix2 r 0)
        + ∑ j : Fin 512, Ideal.exp2 (s (ix2 r j) - m' (ix2 r 0)) := by
  unfold k0_pay46 k0_pay45 k0_pay44
  pointwise
  rfl

theorem accNew_apply (m : FVec Ideal S512x1 .f32) (v : FVec Ideal S512x256 .bf16)
    (s : FVec Ideal S512x512 .f32) (m' : FVec Ideal S512x1 .f32) (old : FVec Ideal S1x512x256 .f32)
    (r : Fin 512) (d : Fin 256) :
    k0_pay47 m v s m' old (ix3 0 r d)
      = Ideal.exp2 (m (ix2 r 0) - m' (ix2 r 0)) * old (ix3 0 r d)
        + ∑ j : Fin 512, Ideal.exp2 (s (ix2 r j) - m' (ix2 r 0)) * v (ix2 j d) := by
  unfold k0_pay47 k0_pay45 k0_pay44
  pointwise
  rfl

/-- The state of one row of one head's online softmax. -/
def RepRow (n : ℕ) (S : ℕ → ℝ) (V : ℕ → Fin 256 → ℝ) (m l : FVec Ideal S512x1 .f32)
    (a : FVec Ideal S1x512x256 .f32) (r : Fin 512) : Prop :=
  Rep n S V (m (ix2 r 0)) (l (ix2 r 0)) fun d => a (ix3 0 r d)

/-- One block of keys of one head advances every row's state. -/
theorem RepRow.step {a b : ℕ} {S : ℕ → ℝ} {V : ℕ → Fin 256 → ℝ} {m l : FVec Ideal S512x1 .f32}
    {old : FVec Ideal S1x512x256 .f32} {r : Fin 512} (h : RepRow a S V m l old r)
    (hab : a < b) (hb : b ≤ a + 512) (s : FVec Ideal S512x512 .f32) (v : FVec Ideal S512x256 .bf16)
    (hs : ∀ j : Fin 512, s (ix2 r j) = if a + j.val < b then (S (a + j.val) : EReal) else ⊥)
    (hv : ∀ (j : Fin 512) (d : Fin 256), v (ix2 j d) = (V (a + j.val) d : EReal)) :
    RepRow b S V (mNew s m) (k0_pay46 m l s (mNew s m)) (k0_pay47 m v s (mNew s m) old) r :=
  Rep.step h hab hb (fun j => s (ix2 r j)) hs (fun j d => v (ix2 j d)) hv _ _ _ (mNew_apply s m r)
    (lNew_apply m l s _ r) fun d => accNew_apply m v s _ old r d

end Cert.Diff
-- ==== Proof.Diff.Ref.lean ====
module

public import proofs.«01_k».proof.Proof.Gen.ReferenceIdeal.Run
public import Idealize.ShloMosaic.Lib.Pointwise
public import Idealize.ShloMosaic.Lib.WordCmp
public import proofs.«01_k».proof.Proof.Diff.Reduce6
public import proofs.«01_k».proof.Proof.Diff.Step

@[expose] public section

set_option maxRecDepth 16384

noncomputable section

namespace Cert.Diff

open Cert.ReferenceIdeal Cert.ReferenceIdeal.Gen Idealize.ShloMosaic Idealize.ShloMosaic.TcCoe Idealize.SL.Sem

/-- The reference's masked scores. -/
def rScore (Q : FVec Ideal S2x4096x8x2x128 .f32) (K : FVec Ideal S2x4096x4x2x128 .f32) : FVec Ideal S2x4x2x2x4096x4096 .f32 :=
  select (broadcastInDim S2x4x2x2x4096x4096 ![4, 5] bcast_S4096x4096_S2x4x2x2x4096x4096_4_5 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))
    (Host.divf (transpose S2x4x2x2x4096x4096 [0, 1, 5, 2, 4, 3] (Host.dotGeneral dot_S2x4096x4x2x128_S2x4096x4x2x2x128_S2x4x2x4096x4096x2_4_5_1_13_023_024 none K (shapeCast _ Q shapeCasts_S2x4096x8x2x128_S2x4096x4x2x2x128)) transposes_S2x4x2x4096x4096x2_S2x4x2x2x4096x4096_0_1_5_2_4_3) (broadcastInDim S2x4x2x2x4096x4096 ![] bcast_S_S2x4x2x2x4096x4096 (Host.sqrt (constant S_ .f32 0x43000000#32))))
    (broadcastInDim S2x4x2x2x4096x4096 ![] bcast_S_S2x4x2x2x4096x4096 (id (constant S_ .f32 0xFF800000#32)))

/-- The row maximum of the scores. -/
def rMax (s : FVec Ideal S2x4x2x2x4096x4096 .f32) : FVec Ideal S2x4x2x2x4096 .f32 :=
  maximumf (broadcastInDim S2x4x2x2x4096 ![] bcast_S_S2x4x2x2x4096 (constant S_ .f32 0xFF800000#32)) (Host.reduce FloatOps.maximumf s (constant S_ .f32 0xFF800000#32) reducesTo_S2x4x2x2x4096x4096_S2x4x2x2x4096_d5 h_S_)

/-- The exponentials of the scores less the row's maximum. -/
def rExp (s : FVec Ideal S2x4x2x2x4096x4096 .f32) (mx : FVec Ideal S2x4x2x2x4096 .f32) : FVec Ideal S2x4x2x2x4096x4096 .f32 :=
  Host.exp (subf s (broadcastInDim S2x4x2x2x4096x4096 ![0, 1, 2, 3, 4, 5] bcast_S2x4x2x2x4096x1_S2x4x2x2x4096x4096_0_1_2_3_4_5 (broadcastInDim S2x4x2x2x4096x1 ![0, 1, 2, 3, 4] bcast_S2x4x2x2x4096_S2x4x2x2x4096x1_0_1_2_3_4 mx)))

/-- The softmax's quotient. -/
def rProb (e : FVec Ideal S2x4x2x2x4096x4096 .f32) : FVec Ideal S2x4x2x2x4096x4096 .f32 :=
  Host.divf e (broadcastInDim S2x4x2x2x4096x4096 ![0, 1, 2, 3, 4, 5] bcast_S2x4x2x2x4096x1_S2x4x2x2x4096x4096_0_1_2_3_4_5 (broadcastInDim S2x4x2x2x4096x1 ![0, 1, 2, 3, 4] bcast_S2x4x2x2x4096_S2x4x2x2x4096x1_0_1_2_3_4 (Host.reduceAdd e (constant S_ .f32 0x00000000#32) reducesTo_S2x4x2x2x4096x4096_S2x4x2x2x4096_d5 h_S_)))

/-- The weight of head 1. -/
def rLam (a b c d : FVec Ideal S1x128 .f32) : FVec Ideal S_ .f32 :=
  addf (subf (Host.exp (Host.reduceAdd (mulf (shapeCast _ a shapeCasts_S1x128_S128) (shapeCast _ b shapeCasts_S1x128_S128)) (constant S_ .f32 0x00000000#32) reducesTo_S128_S_d0 h_S_)) (Host.exp (Host.reduceAdd (mulf (shapeCast _ c shapeCasts_S1x128_S128) (shapeCast _ d shapeCasts_S1x128_S128)) (constant S_ .f32 0x00000000#32) reducesTo_S128_S_d0 h_S_))) (constant S_ .f32 0x3E4CCCCD#32)

/-- The difference of the two heads' attention. -/
def rDiff (p : FVec Ideal S2x4x2x2x4096x4096 .f32) (lam : FVec Ideal S_ .f32) : FVec Ideal S2x4x2x4096x4096 .f32 :=
  subf (shapeCast _ (extractStridedSlice S2x4x2x1x4096x4096 ![0, 0, 0, 0, 0, 0] p slices_S2x4x2x2x4096x4096_S2x4x2x1x4096x4096_0_0_0_0_0_0) shapeCasts_S2x4x2x1x4096x4096_S2x4x2x4096x4096)
    (mulf (broadcastInDim S2x4x2x4096x4096 ![] bcast_S_S2x4x2x4096x4096 lam) (shapeCast _ (extractStridedSlice S2x4x2x1x4096x4096 ![0, 0, 0, 1, 0, 0] p slices_S2x4x2x2x4096x4096_S2x4x2x1x4096x4096_0_0_0_1_0_0) shapeCasts_S2x4x2x1x4096x4096_S2x4x2x4096x4096))

/-- The attention applied to the values. -/
def rOut (V : FVec Ideal S2x4096x4x256 .f32) (a : FVec Ideal S2x4x2x4096x4096 .f32) : FVec Ideal S2x4096x4x2x256 .f32 :=
  transpose S2x4096x4x2x256 [0, 4, 1, 3, 2] (Host.dotGeneral dot_S2x4096x4x256_S2x4x2x4096x4096_S2x4x256x2x4096_1_4_3_23_02_01 none V a) transposes_S2x4x256x2x4096_S2x4096x4x2x256_0_4_1_3_2

/-- The normalised rows, at the result's shape. -/
def rNorm (o : FVec Ideal S2x4096x4x2x256 .f32) (g : FVec Ideal S1x256 .f32) : FVec Ideal S8192x2048 .bf16 :=
  truncf .bf16 (shapeCast S8192x2048 (mulf (mulf (mulf o (broadcastInDim S2x4096x4x2x256 ![0, 1, 2, 3, 4] bcast_S2x4096x4x2x1_S2x4096x4x2x256_0_1_2_3_4 (Host.rsqrt (addf (Host.divf (broadcastInDim S2x4096x4x2x1 ![0, 1, 2, 3] bcast_S2x4096x4x2_S2x4096x4x2x1_0_1_2_3 (Host.reduceAdd (mulf o o) (constant S_ .f32 0x00000000#32) reducesTo_S2x4096x4x2x256_S2x4096x4x2_d4 h_S_)) (broadcastInDim S2x4096x4x2x1 ![] bcast_S_S2x4096x4x2x1 (constant S_ .f32 0x43800000#32))) (broadcastInDim S2x4096x4x2x1 ![] bcast_S_S2x4096x4x2x1 (constant S_ .f32 0x358637BD#32))))))
    (broadcastInDim S2x4096x4x2x256 ![0, 1, 2, 3, 4] bcast_S1x1x1x1x256_S2x4096x4x2x256_0_1_2_3_4 (broadcastInDim S1x1x1x1x256 ![4] bcast_S256_S1x1x1x1x256_4 (shapeCast _ g shapeCasts_S1x256_S256)))) (broadcastInDim S2x4096x4x2x256 ![] bcast_S_S2x4096x4x2x256 (constant S_ .f32 0x3F4CCCCD#32))) shapeCasts_S2x4096x4x2x256_S8192x2048) bitsLt_bf16_f32

/-- The reference's result over its arguments. -/
def rAll (Q : FVec Ideal S2x4096x8x2x128 .f32) (K : FVec Ideal S2x4096x4x2x128 .f32) (V : FVec Ideal S2x4096x4x256 .f32)
    (a b c d : FVec Ideal S1x128 .f32) (g : FVec Ideal S1x256 .f32) : FVec Ideal S8192x2048 .bf16 :=
  rNorm (rOut V (rDiff (rProb (rExp (rScore Q K) (rMax (rScore Q K)))) (rLam a b c d))) g

theorem res_eq (m : (ℓ : Loc nD τ sig) → Buf (Elt Ideal) ℓ) (c : Dev nD) :
    Cert.ReferenceIdeal.Value.res_main_v63 m c
      = rAll (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := rfl

theorem rScore_apply (Q : FVec Ideal S2x4096x8x2x128 .f32) (K : FVec Ideal S2x4096x4x2x128 .f32)
    (b : Fin 2) (g : Fin 4) (r c : Fin 2) (t l : Fin 4096) :
    rScore Q K (ix6 b g r c t l)
      = if l.val ≤ t.val then Ideal.div (∑ d : Fin 128, K (ix5 b l g c d) * Q (ix5 b t ⟨g.val * 2 + r.val, by have := g.isLt; have := r.isLt; omega⟩ c d))
          (Ideal.sqrt (Ideal.ofBits .f32 0x43000000#32)) else ⊥ := by
  unfold rScore
  pointwise
  rw [WordCmp.cmpi_sle_ofNat (by have := l.isLt; omega) (by have := t.isLt; omega), WordCmp.select_decide]
  split
  · rfl
  · exact bits_negInf

theorem rMax_apply (s : FVec Ideal S2x4x2x2x4096x4096 .f32) (b : Fin 2) (g : Fin 4) (r c : Fin 2) (t : Fin 4096) :
    rMax s (ix5 b g r c t) = max ⊥ (Finset.univ.fold max ⊥ fun l : Fin 4096 => s (ix6 b g r c t l)) := by
  unfold rMax
  exact maxRow6 _ _ s _ _ (fun _ => bits_negInf) (fun _ => bits_negInf) b g r c t

theorem rExp_apply (s : FVec Ideal S2x4x2x2x4096x4096 .f32) (mx : FVec Ideal S2x4x2x2x4096 .f32) (b : Fin 2) (g : Fin 4) (r c : Fin 2) (t l : Fin 4096) :
    rExp s mx (ix6 b g r c t l) = Ideal.exp (s (ix6 b g r c t l) - mx (ix5 b g r c t)) := by
  unfold rExp
  pointwise

theorem rProb_apply (e : FVec Ideal S2x4x2x2x4096x4096 .f32) (b : Fin 2) (g : Fin 4) (r c : Fin 2) (t l : Fin 4096) :
    rProb e (ix6 b g r c t l) = Ideal.div (e (ix6 b g r c t l)) (∑ l, e (ix6 b g r c t l)) := by
  have h : Host.reduceAdd e (constant (F := Ideal) S_ .f32 0x00000000#32) reducesTo_S2x4x2x2x4096x4096_S2x4x2x2x4096_d5 h_S_ (ix5 b g r c t)
      = ∑ l, e (ix6 b g r c t l) := by
    rw [hostSum6]
    show Ideal.ofBits .f32 0x00000000#32 + _ = _
    rw [bits_zero, zero_add]
  unfold rProb
  rw [← h]
  generalize Host.reduceAdd e (constant (F := Ideal) S_ .f32 0x00000000#32) reducesTo_S2x4x2x2x4096x4096_S2x4x2x2x4096_d5 h_S_ = w
  pointwise

theorem rLam_apply (a b c d : FVec Ideal S1x128 .f32) (x : S_.Idx) :
    rLam a b c d x = Ideal.exp (∑ k : Fin 128, a (ix2 0 k) * b (ix2 0 k)) - Ideal.exp (∑ k : Fin 128, c (ix2 0 k) * d (ix2 0 k))
      + Ideal.ofBits .f32 0x3E4CCCCD#32 := by
  unfold rLam
  pointwise

theorem rDiff_apply (p : FVec Ideal S2x4x2x2x4096x4096 .f32) (lam : FVec Ideal S_ .f32) (b : Fin 2) (g : Fin 4) (r : Fin 2) (t l : Fin 4096) :
    rDiff p lam (ix5 b g r t l) = p (ix6 b g r 0 t l) - lam ix0 * p (ix6 b g r 1 t l) := by
  unfold rDiff
  pointwise

theorem rOut_apply (V : FVec Ideal S2x4096x4x256 .f32) (a : FVec Ideal S2x4x2x4096x4096 .f32) (b : Fin 2) (g : Fin 4) (r : Fin 2) (t : Fin 4096) (d : Fin 256) :
    rOut V a (ix5 b t g r d) = ∑ l : Fin 4096, V (ix4 b l g d) * a (ix5 b g r t l) := by
  unfold rOut
  pointwise

theorem rNorm_apply (o : FVec Ideal S2x4096x4x2x256 .f32) (gn : FVec Ideal S1x256 .f32) (b : Fin 2) (g : Fin 4) (r : Fin 2) (t : Fin 4096) (d : Fin 256) :
    rNorm o gn (ix2 ⟨b.val * 4096 + t.val, by have := b.isLt; have := t.isLt; omega⟩
        ⟨g.val * 512 + r.val * 256 + d.val, by have := g.isLt; have := r.isLt; have := d.isLt; omega⟩)
      = o (ix5 b t g r d) * Ideal.rsqrt (Ideal.div (∑ e : Fin 256, o (ix5 b t g r e) * o (ix5 b t g r e)) (Ideal.ofBits .f32 0x43800000#32)
          + Ideal.ofBits .f32 0x358637BD#32) * gn (ix2 0 d) * Ideal.ofBits .f32 0x3F4CCCCD#32 := by
  unfold rNorm
  pointwise

end Cert.Diff
-- ==== Proof.Diff.Trips.lean ====
module

public import proofs.«01_k».proof.Proof.Diff.Step

@[expose] public section

set_option maxRecDepth 16384

noncomputable section

namespace Cert.Diff

open Cert.KernelIdeal Cert.KernelIdeal.Gen Idealize.ShloMosaic Idealize.ShloMosaic.TcCoe Idealize.SL.Sem

/-- The running state of both heads: the maximum and the sum of each. -/
abbrev St := FVec Ideal S512x1 .f32 × FVec Ideal S512x1 .f32 × FVec Ideal S512x1 .f32 × FVec Ideal S512x1 .f32

/-- The accumulator of head 0 in the scratch. -/
def slab0 (a : Memref sig .tc .vmem S2x512x256 .f32) (f : BufTy.Contents (Elt Ideal) a.view.ty) :
    FVec Ideal S1x512x256 .f32 :=
  View.readAt (Elt Ideal) a.view
    (Rect.unit (s := S2x512x256) ![0, 0, 0] S1x512x256.size inb_S2x512x256_S1x512x256_0_0_0).toLoadRect f

/-- The accumulator of head 1 in the scratch. -/
def slab1 (a : Memref sig .tc .vmem S2x512x256 .f32) (f : BufTy.Contents (Elt Ideal) a.view.ty) :
    FVec Ideal S1x512x256 .f32 :=
  View.readAt (Elt Ideal) a.view
    (Rect.unit (s := S2x512x256) ![1, 0, 0] S1x512x256.size inb_S2x512x256_S1x512x256_1_0_0).toLoadRect f

/-- The two stores of a trip, the newer first. -/
def stores (w0 w1 : FVec Ideal S1x512x256 .f32) : List (View.Piece (Elt Ideal) S2x512x256 .f32) :=
  [⟨Rect.unit ![1, 0, 0] S1x512x256.size inb_S2x512x256_S1x512x256_1_0_0, w1⟩,
   ⟨Rect.unit ![0, 0, 0] S1x512x256.size inb_S2x512x256_S1x512x256_0_0_0, w0⟩]

/-- What a trip yields, from the scores of its block. -/
def yields (s0 s1 : FVec Ideal S512x512 .f32) (acc : St) : St :=
  (mNew s0 acc.1, k0_pay46 acc.1 acc.2.1 s0 (mNew s0 acc.1),
   mNew s1 acc.2.2.1, k0_pay46 acc.2.2.1 acc.2.2.2 s1 (mNew s1 acc.2.2.1))

/-- What a trip stores, from the scores and the values of its block. -/
def puts (s0 s1 : FVec Ideal S512x512 .f32) (v : FVec Ideal S512x256 .bf16) (acc : St)
    (o0 o1 : FVec Ideal S1x512x256 .f32) : List (View.Piece (Elt Ideal) S2x512x256 .f32) :=
  stores (k0_pay47 acc.1 v s0 (mNew s0 acc.1) o0) (k0_pay47 acc.2.2.1 v s1 (mNew s1 acc.2.2.1) o1)

/-- The block of keys a trip reads, at its offsets. -/
def kblk {arg4 : Memref sig .tc .vmem S1x2x128x4096 .bf16} (X4 : BufTy.Contents (Elt Ideal) arg4.view.ty) (off : Fin 4 → ℕ) (h : ∀ a, off a + S1x1x128x512.size a ≤ S1x2x128x4096.size a) :
    FVec Ideal S128x512 .bf16 :=
  shapeCast S128x512 (View.readAt (Elt Ideal) arg4.view (Rect.unit (s := S1x2x128x4096) off S1x1x128x512.size h).toLoadRect X4)
    shapeCasts_S1x1x128x512_S128x512

/-- The block of values a trip reads, at its offsets. -/
def vblk {arg5 : Memref sig .tc .vmem S4096x256 .bf16} (X5 : BufTy.Contents (Elt Ideal) arg5.view.ty) (off : Fin 2 → ℕ) (h : ∀ a, off a + S512x256.size a ≤ S4096x256.size a) :
    FVec Ideal S512x256 .bf16 :=
  shapeCast S512x256 (View.readAt (Elt Ideal) arg5.view (Rect.unit (s := S4096x256) off S512x256.size h).toLoadRect X5)
    shapeCasts_S512x256_S512x256

section Trips

variable (c : Dev nD) (i : grid0.Coords)
  (arg3 : Memref sig .tc .vmem S256x512 .bf16) (harg3 : arg3.IsWhole) (arg4 : Memref sig .tc
  .vmem S1x2x128x4096 .bf16) (harg4 : arg4.IsWhole) (arg5 : Memref sig .tc .vmem S4096x256 .bf16)
  (harg5 : arg5.IsWhole) (arg6 : Memref sig .tc .vmem S1x128 .f32) (harg6 : arg6.IsWhole) (arg7 :
  Memref sig .tc .vmem S1x128 .f32) (harg7 : arg7.IsWhole) (arg8 : Memref sig .tc .vmem S1x128
  .f32) (harg8 : arg8.IsWhole) (arg9 : Memref sig .tc .vmem S1x128 .f32) (harg9 : arg9.IsWhole)
  (arg10 : Memref sig .tc .vmem S1x256 .f32) (harg10 : arg10.IsWhole) (arg11 : Memref sig .tc
  .vmem S256x512 .bf16) (harg11 : arg11.IsWhole) (arg12 : Memref sig .tc .vmem S2x512x256 .f32)
  (harg12 : arg12.IsWhole)
  (v0 v20 v22 v38 : BitVec 32) (v36 : BitVec 1) (v37 : BitVec 32)
  (v39 v41 v44 v46 : Vec Ideal S256x128 .bf16)
  (X4 : BufTy.Contents (Elt Ideal) arg4.view.ty) (X5 : BufTy.Contents (Elt Ideal) arg5.view.ty)

theorem tripR1 (k : Fin (k0_t1_loop i).trips) (acc : St) (f : BufTy.Contents (Elt Ideal) arg12.view.ty) :
    tripR_k0_t1 (F := Ideal) Variants.none c none i arg3 harg3 arg4 harg4 arg5 harg5 arg6 harg6 arg7 harg7 arg8 harg8 arg9 harg9 arg10 harg10 arg11 harg11 arg12 harg12 v0 v20 v22 v36 v37 v39 v41 v44 v46 X4 X5 k acc f
      = yields (sc (k0_pay38 v39 v41) (kblk X4 (k0_off2 i k) (k0_off2_inb i k)))
          (sc (k0_pay39 v44 v46) (kblk X4 (k0_off3 i k) (k0_off3_inb i k))) acc := by
  unfold tripR_k0_t1 trip_k0_t1
  dsimp only
  rfl

theorem tripL1 (k : Fin (k0_t1_loop i).trips) (acc : St) (f : BufTy.Contents (Elt Ideal) arg12.view.ty) :
    tripL_k0_t1 (F := Ideal) Variants.none c none i arg3 harg3 arg4 harg4 arg5 harg5 arg6 harg6 arg7 harg7 arg8 harg8 arg9 harg9 arg10 harg10 arg11 harg11 arg12 harg12 v0 v20 v22 v36 v37 v39 v41 v44 v46 X4 X5 k acc f
      = puts (sc (k0_pay38 v39 v41) (kblk X4 (k0_off2 i k) (k0_off2_inb i k)))
          (sc (k0_pay39 v44 v46) (kblk X4 (k0_off3 i k) (k0_off3_inb i k)))
          (vblk X5 (k0_off1 i k) (k0_off1_inb i k)) acc (slab0 arg12 f) (slab1 arg12 f) := by
  unfold tripL_k0_t1 trip_k0_t1
  dsimp only
  rfl

theorem tripR3 (k : Fin (k0_t3_loop i).trips) (acc : St) (f : BufTy.Contents (Elt Ideal) arg12.view.ty) :
    tripR_k0_t3 (F := Ideal) Variants.none c none i arg3 harg3 arg4 harg4 arg5 harg5 arg6 harg6 arg7 harg7 arg8 harg8 arg9 harg9 arg10 harg10 arg11 harg11 arg12 harg12 v0 v20 v22 v36 v37 v38 v39 v41 v44 v46 (iota .tc S512x512 32 [1] iota_S512x512_d1_w32) X4 X5 k acc f
      = yields (masked (sc (k0_pay38 v39 v41) (kblk X4 (k0_off8 i k) (k0_off8_inb i k))) v0
            (Scalar.muli (Scf.iv v38 1#32 k.val) 512#32))
          (masked (sc (k0_pay39 v44 v46) (kblk X4 (k0_off9 i k) (k0_off9_inb i k))) v0
            (Scalar.muli (Scf.iv v38 1#32 k.val) 512#32)) acc := by
  unfold tripR_k0_t3 trip_k0_t3
  dsimp only
  rfl

theorem tripL3 (k : Fin (k0_t3_loop i).trips) (acc : St) (f : BufTy.Contents (Elt Ideal) arg12.view.ty) :
    tripL_k0_t3 (F := Ideal) Variants.none c none i arg3 harg3 arg4 harg4 arg5 harg5 arg6 harg6 arg7 harg7 arg8 harg8 arg9 harg9 arg10 harg10 arg11 harg11 arg12 harg12 v0 v20 v22 v36 v37 v38 v39 v41 v44 v46 (iota .tc S512x512 32 [1] iota_S512x512_d1_w32) X4 X5 k acc f
      = puts (masked (sc (k0_pay38 v39 v41) (kblk X4 (k0_off8 i k) (k0_off8_inb i k))) v0
            (Scalar.muli (Scf.iv v38 1#32 k.val) 512#32))
          (masked (sc (k0_pay39 v44 v46) (kblk X4 (k0_off9 i k) (k0_off9_inb i k))) v0
            (Scalar.muli (Scf.iv v38 1#32 k.val) 512#32))
          (vblk X5 (k0_off7 i k) (k0_off7_inb i k)) acc (slab0 arg12 f) (slab1 arg12 f) := by
  unfold tripL_k0_t3 trip_k0_t3
  dsimp only
  rfl

end Trips

end Cert.Diff
-- ==== Proof.Diff.Mask.lean ====
module

public import proofs.«01_k».proof.Proof.Diff.Trips
public import Idealize.ShloMosaic.Lib.WordCmp
public import Idealize.ShloMosaic.Lib.WritesUnit
public import Idealize.ShloMosaic.Lib.WholeRead

@[expose] public section

set_option maxRecDepth 16384

noncomputable section

namespace Cert.Diff

open Cert.KernelIdeal Cert.KernelIdeal.Gen Idealize.ShloMosaic Idealize.ShloMosaic.TcCoe Idealize.SL.Sem

theorem named_mask : (Named.named κ "mask" 0xF149F2CA#32 : Ideal .f32) = ⊥ := rfl

/-- The row numbers: the two stacked copies of the block's rows. -/
theorem pay41_apply (v0 : BitVec 32) (r j : Fin 512) :
    k0_pay41 v0 (ix2 r j) = v0 + BitVec.ofNat 32 (r.val % 256) := by
  unfold k0_pay41
  pointwise
  split
  · rename_i h
    rw [Nat.mod_eq_of_lt h]
    rfl
  · rename_i h
    have : r.val % 256 = r.val - 256 := by have := r.isLt; omega
    rw [this]
    rfl

/-- A masked score at its index: a key after the row is `-∞`. -/
theorem masked_apply (s : FVec Ideal S512x512 .f32) (q n : ℕ) (hq : q < 16) (hn : n < 8)
    (r j : Fin 512) :
    masked s (BitVec.ofNat 32 (256 * q)) (BitVec.ofNat 32 (512 * n)) (ix2 r j)
      = if 512 * n + j.val ≤ 256 * q + r.val % 256 then s (ix2 r j) else ⊥ := by
  unfold masked
  pointwise
  rw [pay41_apply, named_mask]
  have hr := Nat.mod_lt r.val (by norm_num : 0 < 256)
  have hj := j.isLt
  rw [WordCmp.addi_ofNat, ← BitVec.ofNat_add, WordCmp.cmpi_sle_ofNat (by omega) (by omega),
    WordCmp.select_decide]

theorem squeeze_k (w : FVec Ideal S1x1x128x512 .bf16) (h : S1x1x128x512.ShapeCasts S128x512) (k : Fin 128)
    (j : Fin 512) : shapeCast S128x512 w h (ix2 k j) = w (ix4 0 0 k j) := by
  pointwise

theorem squeeze_v (w : FVec Ideal S512x256 .bf16) (h : S512x256.ShapeCasts S512x256) (k : Fin 512)
    (j : Fin 256) : shapeCast S512x256 w h (ix2 k j) = w (ix2 k j) := by
  pointwise

/-- A block of keys at its index. -/
theorem kblk_apply {arg4 : Memref sig .tc .vmem S1x2x128x4096 .bf16} (h4 : arg4.IsWhole)
    (x1 : Vec Ideal S1x2x128x4096 .bf16) (off : Fin 4 → ℕ)
    (h : ∀ a, off a + S1x1x128x512.size a ≤ S1x2x128x4096.size a) (cc : Fin 2) (n : ℕ)
    (ho : off = ![0, cc.val, 0, n]) (k : Fin 128) (j : Fin 512) (hn : n + j.val < 4096) :
    kblk (h4.unread x1) off h (ix2 k j) = x1 (ix4 0 cc k ⟨n + j.val, hn⟩) := by
  subst ho
  refine (squeeze_k _ _ k j).trans ?_
  refine (h4.readAt_unread x1 _ _).trans (congrArg x1 (funext fun a => Fin.ext ?_))
  fin_cases a
  · rfl
  · show cc.val + 1 * 0 = cc.val
    omega
  · show 0 + 1 * k.val = k.val
    omega
  · show n + 1 * j.val = n + j.val
    omega

/-- A block of values at its index. -/
theorem vblk_apply {arg5 : Memref sig .tc .vmem S4096x256 .bf16} (h5 : arg5.IsWhole)
    (x2 : Vec Ideal S4096x256 .bf16) (off : Fin 2 → ℕ)
    (h : ∀ a, off a + S512x256.size a ≤ S4096x256.size a) (n : ℕ)
    (ho : off = ![n, 0]) (j : Fin 512) (d : Fin 256) (hn : n + j.val < 4096) :
    vblk (h5.unread x2) off h (ix2 j d) = x2 (ix2 ⟨n + j.val, hn⟩ d) := by
  subst ho
  refine (squeeze_v _ _ j d).trans ?_
  refine (h5.readAt_unread x2 _ _).trans (congrArg x2 (funext fun a => Fin.ext ?_))
  fin_cases a
  · show n + 1 * j.val = n + j.val
    omega
  · show 0 + 1 * d.val = d.val
    omega

theorem slab0_stores (a : Memref sig .tc .vmem S2x512x256 .f32) (f : BufTy.Contents (Elt Ideal) a.view.ty)
    (w0 w1 : FVec Ideal S1x512x256 .f32) : slab0 a (a.view.writes (Elt Ideal) f (stores w0 w1)) = w0 := by
  funext x
  unfold slab0 stores
  rw [View.readAt_apply]
  rw [View.read_writes_cons_unit_of_not_mem a.view f _ _ _ _ rfl 0 (by
    left; have := (x 0).isLt; simp at this ⊢; exact this)]
  exact View.read_writes_cons_unit_of_mem a.view f _ _ _ _ x rfl fun b => by simp

theorem slab1_stores (a : Memref sig .tc .vmem S2x512x256 .f32) (f : BufTy.Contents (Elt Ideal) a.view.ty)
    (w0 w1 : FVec Ideal S1x512x256 .f32) : slab1 a (a.view.writes (Elt Ideal) f (stores w0 w1)) = w1 := by
  funext x
  unfold slab1 stores
  rw [View.readAt_apply]
  exact View.read_writes_cons_unit_of_mem a.view f _ _ _ _ x rfl fun b => by simp

end Cert.Diff
-- ==== Proof.Diff.Loop.lean ====
module

public import proofs.«01_k».proof.Proof.Diff.Mask

@[expose] public section

set_option maxRecDepth 16384

noncomputable section

namespace Cert.Diff

open Cert.KernelIdeal Cert.KernelIdeal.Gen Idealize.ShloMosaic Idealize.ShloMosaic.TcCoe Idealize.SL.Sem

/-! ## The loops' trip counts -/

theorem trips1 (i : grid0.Coords) : (k0_t1_loop i).trips = (i 2).val / 2 := by
  have h : (i 2).val < 16 := (i 2).isLt
  unfold k0_t1_loop
  generalize (i 2).val = q at h ⊢
  interval_cases q <;> rfl

theorem trips2 (i : grid0.Coords) : (k0_t2_loop i).trips = 0 := by
  have h : (i 2).val < 16 := (i 2).isLt
  unfold k0_t2_loop
  generalize (i 2).val = q at h ⊢
  interval_cases q <;> rfl

theorem trips3 (i : grid0.Coords) : (k0_t3_loop i).trips = 1 := by
  have h : (i 2).val < 16 := (i 2).isLt
  unfold k0_t3_loop
  generalize (i 2).val = q at h ⊢
  interval_cases q <;> rfl

theorem trips4 (i : grid0.Coords) : (k0_t4_loop i).trips = 0 := by
  have h : (i 2).val < 16 := (i 2).isLt
  unfold k0_t4_loop
  generalize (i 2).val = q at h ⊢
  interval_cases q <;> rfl

theorem off7 (i : grid0.Coords) (k : Fin (k0_t3_loop i).trips) :
    k0_off7 i k = ![512 * ((i 2).val / 2), 0] := by
  have h : (i 2).val < 16 := (i 2).isLt
  have hk : k.val = 0 := by have := k.isLt; have := trips3 i; omega
  unfold k0_off7
  rw [hk]
  generalize (i 2).val = q at h ⊢
  interval_cases q <;> rfl

theorem off8 (i : grid0.Coords) (k : Fin (k0_t3_loop i).trips) :
    k0_off8 i k = ![0, 0, 0, 512 * ((i 2).val / 2)] := by
  have h : (i 2).val < 16 := (i 2).isLt
  have hk : k.val = 0 := by have := k.isLt; have := trips3 i; omega
  unfold k0_off8
  rw [hk]
  generalize (i 2).val = q at h ⊢
  interval_cases q <;> rfl

theorem off9 (i : grid0.Coords) (k : Fin (k0_t3_loop i).trips) :
    k0_off9 i k = ![0, 1, 0, 512 * ((i 2).val / 2)] := by
  have h : (i 2).val < 16 := (i 2).isLt
  have hk : k.val = 0 := by have := k.isLt; have := trips3 i; omega
  unfold k0_off9
  rw [hk]
  generalize (i 2).val = q at h ⊢
  interval_cases q <;> rfl

/-- The block's first row, as the word the body computes. -/
theorem word0 (i : grid0.Coords) : kernelRun0_A.sl.v0 i = BitVec.ofNat 32 (256 * (i 2).val) := by
  have h : (i 2).val < 16 := (i 2).isLt
  unfold kernelRun0_A.sl.v0
  generalize (i 2).val = q at h ⊢
  interval_cases q <;> rfl

/-- The first masked block, as the word the body computes. -/
theorem word38 (i : grid0.Coords) : kernelRun0_A.sl.v38 i = BitVec.ofNat 32 ((i 2).val / 2) := by
  have h : (i 2).val < 16 := (i 2).isLt
  unfold kernelRun0_A.sl.v38 kernelRun0_A.sl.v36 kernelRun0_A.sl.v37 kernelRun0_A.sl.v33
    kernelRun0_A.sl.v35 kernelRun0_A.sl.v34 kernelRun0_A.sl.v27 kernelRun0_A.sl.v26 kernelRun0_A.sl.v25
    kernelRun0_A.sl.v24 kernelRun0_A.sl.v23 kernelRun0_A.sl.v22 kernelRun0_A.sl.v21 kernelRun0_A.sl.v0
  generalize (i 2).val = q at h ⊢
  interval_cases q <;> rfl

/-! ## The invariant -/

/-- Both heads' states of one row, after `n` keys. -/
def Inv (n : ℕ) (S0 S1 : ℕ → ℝ) (V : ℕ → Fin 256 → ℝ) (r : Fin 512)
    (a : Memref sig .tc .vmem S2x512x256 .f32) (st : St) (f : BufTy.Contents (Elt Ideal) a.view.ty) : Prop :=
  RepRow n S0 V st.1 st.2.1 (slab0 a f) r ∧ RepRow n S1 V st.2.2.1 st.2.2.2 (slab1 a f) r

/-- One trip over a block of keys, from what the block's scores and values are. -/
theorem Inv.trip {n b : ℕ} {S0 S1 : ℕ → ℝ} {V : ℕ → Fin 256 → ℝ} {r : Fin 512}
    {a : Memref sig .tc .vmem S2x512x256 .f32} {st : St} {f : BufTy.Contents (Elt Ideal) a.view.ty}
    (h : Inv n S0 S1 V r a st f) (hab : n < b) (hb : b ≤ n + 512)
    (s0 s1 : FVec Ideal S512x512 .f32) (v : FVec Ideal S512x256 .bf16)
    (hs0 : ∀ j : Fin 512, s0 (ix2 r j) = if n + j.val < b then (S0 (n + j.val) : EReal) else ⊥)
    (hs1 : ∀ j : Fin 512, s1 (ix2 r j) = if n + j.val < b then (S1 (n + j.val) : EReal) else ⊥)
    (hv : ∀ (j : Fin 512) (d : Fin 256), v (ix2 j d) = (V (n + j.val) d : EReal)) :
    Inv b S0 S1 V r a (yields s0 s1 st)
      (a.view.writes (Elt Ideal) f (puts s0 s1 v st (slab0 a f) (slab1 a f))) := by
  constructor
  · show RepRow b S0 V _ _ (slab0 a _) r
    unfold puts
    rw [slab0_stores]
    exact h.1.step hab hb s0 v hs0 hv
  · show RepRow b S1 V _ _ (slab1 a _) r
    unfold puts
    rw [slab1_stores]
    exact h.2.step hab hb s1 v hs1 hv

section Loops

variable (c : Dev nD) (i : grid0.Coords)
  (arg3 : Memref sig .tc .vmem S256x512 .bf16) (harg3 : arg3.IsWhole) (arg4 : Memref sig .tc
  .vmem S1x2x128x4096 .bf16) (harg4 : arg4.IsWhole) (arg5 : Memref sig .tc .vmem S4096x256 .bf16)
  (harg5 : arg5.IsWhole) (arg6 : Memref sig .tc .vmem S1x128 .f32) (harg6 : arg6.IsWhole) (arg7 :
  Memref sig .tc .vmem S1x128 .f32) (harg7 : arg7.IsWhole) (arg8 : Memref sig .tc .vmem S1x128
  .f32) (harg8 : arg8.IsWhole) (arg9 : Memref sig .tc .vmem S1x128 .f32) (harg9 : arg9.IsWhole)
  (arg10 : Memref sig .tc .vmem S1x256 .f32) (harg10 : arg10.IsWhole) (arg11 : Memref sig .tc
  .vmem S256x512 .bf16) (harg11 : arg11.IsWhole) (arg12 : Memref sig .tc .vmem S2x512x256 .f32)
  (harg12 : arg12.IsWhole)
  (v20 v22 v38 : BitVec 32) (v36 : BitVec 1) (v37 v71 v64 : BitVec 32)
  (v39 v41 v44 v46 : Vec Ideal S256x128 .bf16)
  (x1 : Vec Ideal S1x2x128x4096 .bf16) (x2 : Vec Ideal S4096x256 .bf16)
  (G : BufTy.Contents (Elt Ideal) arg12.view.ty) (init : St)
  (S0 S1 : ℕ → ℝ) (V : ℕ → Fin 256 → ℝ) (r : Fin 512)

/-- What the row's scores and the values are, over all the keys. -/
structure Keys : Prop where
  s0 : ∀ n (hn : n < 4096), ∑ k : Fin 128, k0_pay38 v39 v41 (ix2 r k) * x1 (ix4 0 0 k ⟨n, hn⟩) = (S0 n : EReal)
  s1 : ∀ n (hn : n < 4096), ∑ k : Fin 128, k0_pay39 v44 v46 (ix2 r k) * x1 (ix4 0 1 k ⟨n, hn⟩) = (S1 n : EReal)
  v : ∀ n (hn : n < 4096) (d : Fin 256), x2 (ix2 ⟨n, hn⟩ d) = (V n d : EReal)

theorem sc0_eq (H : Keys v39 v41 v44 v46 x1 x2 S0 S1 V r) (off : Fin 4 → ℕ)
    (h : ∀ a, off a + S1x1x128x512.size a ≤ S1x2x128x4096.size a) (n : ℕ)
    (ho : off = ![0, 0, 0, n]) (hn : n + 512 ≤ 4096) (j : Fin 512) :
    sc (k0_pay38 v39 v41) (kblk (harg4.unread x1) off h) (ix2 r j) = (S0 (n + j.val) : EReal) := by
  have hj : n + j.val < 4096 := by have := j.isLt; omega
  rw [sc_apply, ← H.s0 _ hj]
  exact Finset.sum_congr rfl fun k _ => congrArg _ (kblk_apply harg4 x1 off h 0 n ho k j hj)

theorem sc1_eq (H : Keys v39 v41 v44 v46 x1 x2 S0 S1 V r) (off : Fin 4 → ℕ)
    (h : ∀ a, off a + S1x1x128x512.size a ≤ S1x2x128x4096.size a) (n : ℕ)
    (ho : off = ![0, 1, 0, n]) (hn : n + 512 ≤ 4096) (j : Fin 512) :
    sc (k0_pay39 v44 v46) (kblk (harg4.unread x1) off h) (ix2 r j) = (S1 (n + j.val) : EReal) := by
  have hj : n + j.val < 4096 := by have := j.isLt; omega
  rw [sc_apply, ← H.s1 _ hj]
  exact Finset.sum_congr rfl fun k _ => congrArg _ (kblk_apply harg4 x1 off h 1 n ho k j hj)

theorem v_eq (H : Keys v39 v41 v44 v46 x1 x2 S0 S1 V r) (off : Fin 2 → ℕ)
    (h : ∀ a, off a + S512x256.size a ≤ S4096x256.size a) (n : ℕ)
    (ho : off = ![n, 0]) (hn : n + 512 ≤ 4096) (j : Fin 512) (d : Fin 256) :
    vblk (harg5.unread x2) off h (ix2 j d) = (V (n + j.val) d : EReal) := by
  have hj : n + j.val < 4096 := by have := j.isLt; omega
  rw [vblk_apply harg5 x2 off h n ho j d hj, H.v]

/-- The first loop's state before trip `k`. -/
def st1 (k : ℕ) := st_k0_t1 (F := Ideal) Variants.none c none i arg3 harg3 arg4 harg4 arg5 harg5 arg6 harg6 arg7 harg7 arg8 harg8 arg9 harg9 arg10 harg10 arg11 harg11 arg12 harg12
  (kernelRun0_A.sl.v0 i) v20 v22 v36 v37 v39 v41 v44 v46 (harg4.unread x1) (harg5.unread x2) G init k

/-- The unmasked blocks. -/
theorem inv1 (H : Keys v39 v41 v44 v46 x1 x2 S0 S1 V r) (h0 : Inv 0 S0 S1 V r arg12 init G) (k : ℕ) :
    k ≤ (k0_t1_loop i).trips →
    Inv (512 * k) S0 S1 V r arg12
      (st1 c i arg3 harg3 arg4 harg4 arg5 harg5 arg6 harg6 arg7 harg7 arg8 harg8 arg9 harg9 arg10 harg10 arg11 harg11 arg12 harg12 v20 v22 v36 v37 v39 v41 v44 v46 x1 x2 G init k).1
      (arg12.view.writes (Elt Ideal) G
        (st1 c i arg3 harg3 arg4 harg4 arg5 harg5 arg6 harg6 arg7 harg7 arg8 harg8 arg9 harg9 arg10 harg10 arg11 harg11 arg12 harg12 v20 v22 v36 v37 v39 v41 v44 v46 x1 x2 G init k).2) := by
  induction k with
  | zero => exact fun _ => h0
  | succ k ih =>
    intro hk
    have hk' : k < (k0_t1_loop i).trips := hk
    have ht := trips1 i
    have hi : (i 2).val < 16 := (i 2).isLt
    have ih := ih (by omega)
    unfold st1 at ih ⊢
    have hs := st_k0_t1_succ (F := Ideal) Variants.none c none i arg3 harg3 arg4 harg4 arg5 harg5 arg6 harg6 arg7 harg7 arg8 harg8 arg9 harg9 arg10 harg10 arg11 harg11 arg12 harg12
      (kernelRun0_A.sl.v0 i) v20 v22 v36 v37 v39 v41 v44 v46 (harg4.unread x1) (harg5.unread x2) G init ⟨k, hk'⟩
    dsimp only at hs
    rw [hs, tripR1, tripL1, View.writes_append]
    refine ih.trip (b := 512 * (k + 1)) (by omega) (by omega) _ _ _ ?_ ?_ ?_
    · intro j
      rw [if_pos (by have := j.isLt; omega)]
      exact sc0_eq arg4 harg4 v39 v41 v44 v46 x1 x2 S0 S1 V r H _ _ _ (k0_off2_eq i ⟨k, hk'⟩) (by omega) j
    · intro j
      rw [if_pos (by have := j.isLt; omega)]
      exact sc1_eq arg4 harg4 v39 v41 v44 v46 x1 x2 S0 S1 V r H _ _ _ (k0_off3_eq i ⟨k, hk'⟩) (by omega) j
    · intro j d
      exact v_eq arg5 harg5 v39 v41 v44 v46 x1 x2 S0 S1 V r H _ _ _ (k0_off1_eq i ⟨k, hk'⟩) (by omega) j d

/-- The third loop's state before trip `k`. -/
def st3 (k : ℕ) := st_k0_t3 (F := Ideal) Variants.none c none i arg3 harg3 arg4 harg4 arg5 harg5 arg6 harg6 arg7 harg7 arg8 harg8 arg9 harg9 arg10 harg10 arg11 harg11 arg12 harg12
  (kernelRun0_A.sl.v0 i) v20 v22 v36 v37 v38 v39 v41 v44 v46 (iota .tc S512x512 32 [1] iota_S512x512_d1_w32)
  (harg4.unread x1) (harg5.unread x2) G init k

/-- The masked block. -/
theorem inv3 (H : Keys v39 v41 v44 v46 x1 x2 S0 S1 V r) (hv38 : v38 = BitVec.ofNat 32 ((i 2).val / 2))
    (h0 : Inv (512 * ((i 2).val / 2)) S0 S1 V r arg12 init G) :
    Inv (256 * (i 2).val + r.val % 256 + 1) S0 S1 V r arg12
      (st3 c i arg3 harg3 arg4 harg4 arg5 harg5 arg6 harg6 arg7 harg7 arg8 harg8 arg9 harg9 arg10 harg10 arg11 harg11 arg12 harg12 v20 v22 v38 v36 v37 v39 v41 v44 v46 x1 x2 G init 1).1
      (arg12.view.writes (Elt Ideal) G
        (st3 c i arg3 harg3 arg4 harg4 arg5 harg5 arg6 harg6 arg7 harg7 arg8 harg8 arg9 harg9 arg10 harg10 arg11 harg11 arg12 harg12 v20 v22 v38 v36 v37 v39 v41 v44 v46 x1 x2 G init 1).2) := by
  have hk' : 0 < (k0_t3_loop i).trips := by rw [trips3]; omega
  have hi : (i 2).val < 16 := (i 2).isLt
  have hr := Nat.mod_lt r.val (by norm_num : 0 < 256)
  unfold st3
  have hs := st_k0_t3_succ (F := Ideal) Variants.none c none i arg3 harg3 arg4 harg4 arg5 harg5 arg6 harg6 arg7 harg7 arg8 harg8 arg9 harg9 arg10 harg10 arg11 harg11 arg12 harg12
    (kernelRun0_A.sl.v0 i) v20 v22 v36 v37 v38 v39 v41 v44 v46 (iota .tc S512x512 32 [1] iota_S512x512_d1_w32)
    (harg4.unread x1) (harg5.unread x2) G init ⟨0, hk'⟩
  have hw : Scalar.muli (Scf.iv v38 1#32 0) 512#32 = BitVec.ofNat 32 (512 * ((i 2).val / 2)) := by
    rw [hv38]
    generalize (i 2).val = q at hi ⊢
    interval_cases q <;> rfl
  have hw0 : kernelRun0_A.sl.v0 i = BitVec.ofNat 32 (256 * (i 2).val) := word0 i
  dsimp only at hs
  rw [hs, tripR3, tripL3, View.writes_append]
  dsimp only
  rw [hw, hw0]
  refine Inv.trip (b := 256 * (i 2).val + r.val % 256 + 1) h0 (by omega) (by omega) _ _ _ ?_ ?_ ?_
  · intro j
    rw [masked_apply _ _ _ hi (by omega),
      sc0_eq arg4 harg4 v39 v41 v44 v46 x1 x2 S0 S1 V r H _ _ _ (off8 i ⟨0, hk'⟩) (by omega) j]
    simp only [Nat.lt_succ_iff]
  · intro j
    rw [masked_apply _ _ _ hi (by omega),
      sc1_eq arg4 harg4 v39 v41 v44 v46 x1 x2 S0 S1 V r H _ _ _ (off9 i ⟨0, hk'⟩) (by omega) j]
    simp only [Nat.lt_succ_iff]
  · intro j d
    exact v_eq arg5 harg5 v39 v41 v44 v46 x1 x2 S0 S1 V r H _ _ _ (off7 i ⟨0, hk'⟩) (by omega) j d

/-- The second loop's state before trip `k`. -/
def st2 (k : ℕ) := st_k0_t2 (F := Ideal) Variants.none c none i arg3 harg3 arg4 harg4 arg5 harg5 arg6 harg6 arg7 harg7 arg8 harg8 arg9 harg9 arg10 harg10 arg11 harg11 arg12 harg12
  (kernelRun0_A.sl.v0 i) v20 v22 v36 v37 v39 v41 v44 v46 v64 (harg4.unread x1) (harg5.unread x2) G init k

/-- The fourth loop's state before trip `k`. -/
def st4 (k : ℕ) := st_k0_t4 (F := Ideal) Variants.none c none i arg3 harg3 arg4 harg4 arg5 harg5 arg6 harg6 arg7 harg7 arg8 harg8 arg9 harg9 arg10 harg10 arg11 harg11 arg12 harg12
  (kernelRun0_A.sl.v0 i) v20 v22 v36 v37 v39 v41 v44 v46 (iota .tc S512x512 32 [1] iota_S512x512_d1_w32) v71
  (harg4.unread x1) (harg5.unread x2) G init k

end Loops

end Cert.Diff
-- ==== Proof.Diff.Body.lean ====
module

public import proofs.«01_k».proof.Proof.Diff.Loop

@[expose] public section

set_option maxRecDepth 16384

noncomputable section

namespace Cert.Diff

open Cert.KernelIdeal Cert.KernelIdeal.Gen Idealize.ShloMosaic Idealize.ShloMosaic.TcCoe Idealize.SL.Sem

section Cols

variable {arg3 : Memref sig .tc .vmem S256x512 .bf16} (harg3 : arg3.IsWhole) (x0 : Vec Ideal S256x512 .bf16)

/-- Columns `128·j …` of the block of queries. -/
def qcol0 : Vec Ideal S256x128 .bf16 := View.readAt (Elt Ideal) arg3.view
  (Rect.unit (s := S256x512) ![0, 0] S256x128.size inb_S256x512_S256x128_0_0).toLoadRect (harg3.unread x0)
@[inherit_doc qcol0] def qcol1 : Vec Ideal S256x128 .bf16 := View.readAt (Elt Ideal) arg3.view
  (Rect.unit (s := S256x512) ![0, 128] S256x128.size inb_S256x512_S256x128_0_128).toLoadRect (harg3.unread x0)
@[inherit_doc qcol0] def qcol2 : Vec Ideal S256x128 .bf16 := View.readAt (Elt Ideal) arg3.view
  (Rect.unit (s := S256x512) ![0, 256] S256x128.size inb_S256x512_S256x128_0_256).toLoadRect (harg3.unread x0)
@[inherit_doc qcol0] def qcol3 : Vec Ideal S256x128 .bf16 := View.readAt (Elt Ideal) arg3.view
  (Rect.unit (s := S256x512) ![0, 384] S256x128.size inb_S256x512_S256x128_0_384).toLoadRect (harg3.unread x0)

theorem qcol_at (o : ℕ) (h : ∀ a, (![0, o] : Fin 2 → ℕ) a + S256x128.size a ≤ S256x512.size a) (r : Fin 256) (k : Fin 128)
    (hk : o + k.val < 512) :
    View.readAt (Elt Ideal) arg3.view (Rect.unit (s := S256x512) ![0, o] S256x128.size h).toLoadRect (harg3.unread x0)
      (ix2 r k) = x0 (ix2 r ⟨o + k.val, hk⟩) := by
  refine (harg3.readAt_unread x0 _ _).trans (congrArg x0 (funext fun a => Fin.ext ?_))
  fin_cases a
  · show 0 + 1 * r.val = r.val
    omega
  · show o + 1 * k.val = o + k.val
    omega

theorem stack38 (v39 v41 : Vec Ideal S256x128 .bf16) (r : Fin 512) (k : Fin 128) :
    k0_pay38 v39 v41 (ix2 r k) = if h : r.val < 256 then v39 (ix2 ⟨r.val, h⟩ k)
      else v41 (ix2 ⟨r.val - 256, by have := r.isLt; omega⟩ k) := by
  unfold k0_pay38
  pointwise

theorem stack39 (v39 v41 : Vec Ideal S256x128 .bf16) (r : Fin 512) (k : Fin 128) :
    k0_pay39 v39 v41 (ix2 r k) = if h : r.val < 256 then v39 (ix2 ⟨r.val, h⟩ k)
      else v41 (ix2 ⟨r.val - 256, by have := r.isLt; omega⟩ k) :=
  stack38 v39 v41 r k

/-- The stacked queries of head 0 at their index. -/
theorem q0_at (rr : Fin 2) (p : Fin 256) (k : Fin 128) :
    k0_pay38 (qcol0 harg3 x0) (qcol2 harg3 x0) (ix2 ⟨rr.val * 256 + p.val, by have := rr.isLt; have := p.isLt; omega⟩ k)
      = x0 (ix2 p ⟨rr.val * 256 + k.val, by have := rr.isLt; have := k.isLt; omega⟩) := by
  rw [stack38]
  have hp := p.isLt
  have hk := k.isLt
  fin_cases rr
  · rw [dif_pos (by show 0 * 256 + p.val < 256; omega)]
    refine (qcol_at harg3 x0 0 _ _ k (by omega)).trans (congrArg x0 ?_)
    idx_ext
  · rw [dif_neg (by show ¬(1 * 256 + p.val < 256); omega)]
    refine (qcol_at harg3 x0 256 _ _ k (by omega)).trans (congrArg x0 ?_)
    idx_ext

/-- The stacked queries of head 1 at their index. -/
theorem q1_at (rr : Fin 2) (p : Fin 256) (k : Fin 128) :
    k0_pay39 (qcol1 harg3 x0) (qcol3 harg3 x0) (ix2 ⟨rr.val * 256 + p.val, by have := rr.isLt; have := p.isLt; omega⟩ k)
      = x0 (ix2 p ⟨rr.val * 256 + 128 + k.val, by have := rr.isLt; have := k.isLt; omega⟩) := by
  rw [stack39]
  have hp := p.isLt
  have hk := k.isLt
  fin_cases rr
  · rw [dif_pos (by show 0 * 256 + p.val < 256; omega)]
    refine (qcol_at harg3 x0 128 _ _ k (by omega)).trans (congrArg x0 ?_)
    idx_ext
  · rw [dif_neg (by show ¬(1 * 256 + p.val < 256); omega)]
    refine (qcol_at harg3 x0 384 _ _ k (by omega)).trans (congrArg x0 ?_)
    idx_ext

end Cols

section Body

variable (c : Dev nD) (i : grid0.Coords)
  (arg3 : Memref sig .tc .vmem S256x512 .bf16) (harg3 : arg3.IsWhole) (arg4 : Memref sig .tc
  .vmem S1x2x128x4096 .bf16) (harg4 : arg4.IsWhole) (arg5 : Memref sig .tc .vmem S4096x256 .bf16)
  (harg5 : arg5.IsWhole) (arg6 : Memref sig .tc .vmem S1x128 .f32) (harg6 : arg6.IsWhole) (arg7 :
  Memref sig .tc .vmem S1x128 .f32) (harg7 : arg7.IsWhole) (arg8 : Memref sig .tc .vmem S1x128
  .f32) (harg8 : arg8.IsWhole) (arg9 : Memref sig .tc .vmem S1x128 .f32) (harg9 : arg9.IsWhole)
  (arg10 : Memref sig .tc .vmem S1x256 .f32) (harg10 : arg10.IsWhole) (arg11 : Memref sig .tc
  .vmem S256x512 .bf16) (harg11 : arg11.IsWhole) (arg12 : Memref sig .tc .vmem S2x512x256 .f32)
  (harg12 : arg12.IsWhole)
  (x0 : Vec Ideal S256x512 .bf16) (x1 : Vec Ideal S1x2x128x4096 .bf16) (x2 : Vec Ideal S4096x256 .bf16)
  (x3 x4 x5 x6 : Vec Ideal S1x128 .f32) (x7 : Vec Ideal S1x256 .f32)

/-- The scratch zeroed. -/
def zeros : List (View.Piece (Elt Ideal) S2x512x256 .f32) :=
  [⟨Rect.unit ![0, 0, 0] S2x512x256.size inb_S2x512x256_S2x512x256_0_0_0, k0_pay40 (F := Ideal)⟩]

/-- The scratch's contents at the loops' entry. -/
def base : BufTy.Contents (Elt Ideal) arg12.view.ty := arg12.view.writes (Elt Ideal) arg12.view.junk zeros

/-- The state at the loops' entry. -/
def init0 : St := (k0_pay42, k0_pay43, k0_pay42, k0_pay43)

/-- The state after each of the four loops. -/
def fin1 := st1 c i arg3 harg3 arg4 harg4 arg5 harg5 arg6 harg6 arg7 harg7 arg8 harg8 arg9 harg9 arg10 harg10 arg11 harg11 arg12 harg12 (kernelRun0_A.sl.v20 i) (kernelRun0_A.sl.v22 i) (kernelRun0_A.sl.v36 i) (kernelRun0_A.sl.v37 i) (qcol0 harg3 x0) (qcol2 harg3 x0) (qcol1 harg3 x0) (qcol3 harg3 x0) x1 x2 (base arg12) init0
  (k0_t1_loop i).trips
@[inherit_doc fin1] def fin2 := st2 c i arg3 harg3 arg4 harg4 arg5 harg5 arg6 harg6 arg7 harg7 arg8 harg8 arg9 harg9 arg10 harg10 arg11 harg11 arg12 harg12 (kernelRun0_A.sl.v20 i) (kernelRun0_A.sl.v22 i) (kernelRun0_A.sl.v36 i) (kernelRun0_A.sl.v37 i) (kernelRun0_A.sl.v64 i) (qcol0 harg3 x0) (qcol2 harg3 x0) (qcol1 harg3 x0) (qcol3 harg3 x0) x1 x2
  (arg12.view.writes (Elt Ideal) arg12.view.junk ((fin1 c i arg3 harg3 arg4 harg4 arg5 harg5 arg6 harg6 arg7 harg7 arg8 harg8 arg9 harg9 arg10 harg10 arg11 harg11 arg12 harg12 x0 x1 x2).2 ++ zeros)) (fin1 c i arg3 harg3 arg4 harg4 arg5 harg5 arg6 harg6 arg7 harg7 arg8 harg8 arg9 harg9 arg10 harg10 arg11 harg11 arg12 harg12 x0 x1 x2).1
  (k0_t2_loop i).trips
@[inherit_doc fin1] def fin3 := st3 c i arg3 harg3 arg4 harg4 arg5 harg5 arg6 harg6 arg7 harg7 arg8 harg8 arg9 harg9 arg10 harg10 arg11 harg11 arg12 harg12 (kernelRun0_A.sl.v20 i) (kernelRun0_A.sl.v22 i) (kernelRun0_A.sl.v38 i) (kernelRun0_A.sl.v36 i) (kernelRun0_A.sl.v37 i) (qcol0 harg3 x0) (qcol2 harg3 x0) (qcol1 harg3 x0) (qcol3 harg3 x0) x1 x2
  (arg12.view.writes (Elt Ideal) arg12.view.junk ((fin2 c i arg3 harg3 arg4 harg4 arg5 harg5 arg6 harg6 arg7 harg7 arg8 harg8 arg9 harg9 arg10 harg10 arg11 harg11 arg12 harg12 x0 x1 x2).2 ++ ((fin1 c i arg3 harg3 arg4 harg4 arg5 harg5 arg6 harg6 arg7 harg7 arg8 harg8 arg9 harg9 arg10 harg10 arg11 harg11 arg12 harg12 x0 x1 x2).2 ++ zeros)))
  (fin2 c i arg3 harg3 arg4 harg4 arg5 harg5 arg6 harg6 arg7 harg7 arg8 harg8 arg9 harg9 arg10 harg10 arg11 harg11 arg12 harg12 x0 x1 x2).1 (k0_t3_loop i).trips
@[inherit_doc fin1] def fin4 := st4 c i arg3 harg3 arg4 harg4 arg5 harg5 arg6 harg6 arg7 harg7 arg8 harg8 arg9 harg9 arg10 harg10 arg11 harg11 arg12 harg12 (kernelRun0_A.sl.v20 i) (kernelRun0_A.sl.v22 i) (kernelRun0_A.sl.v36 i) (kernelRun0_A.sl.v37 i) (kernelRun0_A.sl.v71 i) (qcol0 harg3 x0) (qcol2 harg3 x0) (qcol1 harg3 x0) (qcol3 harg3 x0) x1 x2
  (arg12.view.writes (Elt Ideal) arg12.view.junk ((fin3 c i arg3 harg3 arg4 harg4 arg5 harg5 arg6 harg6 arg7 harg7 arg8 harg8 arg9 harg9 arg10 harg10 arg11 harg11 arg12 harg12 x0 x1 x2).2 ++ ((fin2 c i arg3 harg3 arg4 harg4 arg5 harg5 arg6 harg6 arg7 harg7 arg8 harg8 arg9 harg9 arg10 harg10 arg11 harg11 arg12 harg12 x0 x1 x2).2
    ++ ((fin1 c i arg3 harg3 arg4 harg4 arg5 harg5 arg6 harg6 arg7 harg7 arg8 harg8 arg9 harg9 arg10 harg10 arg11 harg11 arg12 harg12 x0 x1 x2).2 ++ zeros))))
  (fin3 c i arg3 harg3 arg4 harg4 arg5 harg5 arg6 harg6 arg7 harg7 arg8 harg8 arg9 harg9 arg10 harg10 arg11 harg11 arg12 harg12 x0 x1 x2).1 (k0_t4_loop i).trips

/-- The scratch's contents after the loops. -/
def scr : BufTy.Contents (Elt Ideal) arg12.view.ty :=
  arg12.view.writes (Elt Ideal) arg12.view.junk ((fin4 c i arg3 harg3 arg4 harg4 arg5 harg5 arg6 harg6 arg7 harg7 arg8 harg8 arg9 harg9 arg10 harg10 arg11 harg11 arg12 harg12 x0 x1 x2).2 ++ ((fin3 c i arg3 harg3 arg4 harg4 arg5 harg5 arg6 harg6 arg7 harg7 arg8 harg8 arg9 harg9 arg10 harg10 arg11 harg11 arg12 harg12 x0 x1 x2).2
    ++ ((fin2 c i arg3 harg3 arg4 harg4 arg5 harg5 arg6 harg6 arg7 harg7 arg8 harg8 arg9 harg9 arg10 harg10 arg11 harg11 arg12 harg12 x0 x1 x2).2 ++ ((fin1 c i arg3 harg3 arg4 harg4 arg5 harg5 arg6 harg6 arg7 harg7 arg8 harg8 arg9 harg9 arg10 harg10 arg11 harg11 arg12 harg12 x0 x1 x2).2 ++ zeros))))

/-- A whole read of a one-row block. -/
def row1 {m : Memref sig .tc .vmem S1x128 .f32} (h : m.IsWhole) (x : Vec Ideal S1x128 .f32) : Vec Ideal S1x128 .f32 :=
  View.readAt (Elt Ideal) m.view (Rect.unit (s := S1x128) ![0, 0] S1x128.size inb_S1x128_S1x128_0_0).toLoadRect (h.unread x)

@[inherit_doc row1]
def row2 {m : Memref sig .tc .vmem S1x256 .f32} (h : m.IsWhole) (x : Vec Ideal S1x256 .f32) : Vec Ideal S1x256 .f32 :=
  View.readAt (Elt Ideal) m.view (Rect.unit (s := S1x256) ![0, 0] S1x256.size inb_S1x256_S1x256_0_0).toLoadRect (h.unread x)

/-- The normalized difference of the two heads' outputs. -/
def diffv : FVec Ideal S512x256 .f32 :=
  k0_pay64 (fin4 c i arg3 harg3 arg4 harg4 arg5 harg5 arg6 harg6 arg7 harg7 arg8 harg8 arg9 harg9 arg10 harg10 arg11 harg11 arg12 harg12 x0 x1 x2).1.2.1 (fin4 c i arg3 harg3 arg4 harg4 arg5 harg5 arg6 harg6 arg7 harg7 arg8 harg8 arg9 harg9 arg10 harg10 arg11 harg11 arg12 harg12 x0 x1 x2).1.2.2.2
    (row1 harg6 x3) (row1 harg7 x4) (row1 harg8 x5) (row1 harg9 x6)
    (slab0 arg12 (scr c i arg3 harg3 arg4 harg4 arg5 harg5 arg6 harg6 arg7 harg7 arg8 harg8 arg9 harg9 arg10 harg10 arg11 harg11 arg12 harg12 x0 x1 x2)) (slab1 arg12 (scr c i arg3 harg3 arg4 harg4 arg5 harg5 arg6 harg6 arg7 harg7 arg8 harg8 arg9 harg9 arg10 harg10 arg11 harg11 arg12 harg12 x0 x1 x2))

attribute [local irreducible] st_k0_t1 st_k0_t2 st_k0_t3 st_k0_t4

theorem r_eq : kernelRun0_A.sl.r (F := Ideal) c i arg3 harg3 arg4 harg4 arg5 harg5 arg6 harg6 arg7 harg7 arg8 harg8 arg9 harg9 arg10 harg10 arg11 harg11 arg12 harg12 x0 x1 x2 = (fin4 c i arg3 harg3 arg4 harg4 arg5 harg5 arg6 harg6 arg7 harg7 arg8 harg8 arg9 harg9 arg10 harg10 arg11 harg11 arg12 harg12 x0 x1 x2).1.2.1 := by
  unfold kernelRun0_A.sl.r
  rfl

theorem r1_eq : kernelRun0_A.sl.r_1 (F := Ideal) c i arg3 harg3 arg4 harg4 arg5 harg5 arg6 harg6 arg7 harg7 arg8 harg8 arg9 harg9 arg10 harg10 arg11 harg11 arg12 harg12 x0 x1 x2 = (fin4 c i arg3 harg3 arg4 harg4 arg5 harg5 arg6 harg6 arg7 harg7 arg8 harg8 arg9 harg9 arg10 harg10 arg11 harg11 arg12 harg12 x0 x1 x2).1.2.2.2 := by
  unfold kernelRun0_A.sl.r_1
  rfl

theorem v93_eq : kernelRun0_A.sl.v93 (F := Ideal) c i arg3 harg3 arg4 harg4 arg5 harg5 arg6 harg6 arg7 harg7 arg8 harg8 arg9 harg9 arg10 harg10 arg11 harg11 arg12 harg12 x0 x1 x2 = slab0 arg12 (scr c i arg3 harg3 arg4 harg4 arg5 harg5 arg6 harg6 arg7 harg7 arg8 harg8 arg9 harg9 arg10 harg10 arg11 harg11 arg12 harg12 x0 x1 x2) := by
  unfold kernelRun0_A.sl.v93
  rfl

theorem v97_eq : kernelRun0_A.sl.v97 (F := Ideal) c i arg3 harg3 arg4 harg4 arg5 harg5 arg6 harg6 arg7 harg7 arg8 harg8 arg9 harg9 arg10 harg10 arg11 harg11 arg12 harg12 x0 x1 x2 = slab1 arg12 (scr c i arg3 harg3 arg4 harg4 arg5 harg5 arg6 harg6 arg7 harg7 arg8 harg8 arg9 harg9 arg10 harg10 arg11 harg11 arg12 harg12 x0 x1 x2) := by
  unfold kernelRun0_A.sl.v97
  rfl

theorem run_eq : (kernelRun0_A (F := Ideal) c i arg3 harg3 arg4 harg4 arg5 harg5 arg6 harg6 arg7 harg7 arg8 harg8 arg9 harg9 arg10 harg10 arg11 harg11 arg12 harg12 x0 x1 x2 x3 x4 x5 x6 x7).1
    = [⟨Rect.unit (s := S256x512) ![0, 256] S256x256.size inb_S256x512_S256x256_0_256,
          k0_pay3 (diffv c i arg3 harg3 arg4 harg4 arg5 harg5 arg6 harg6 arg7 harg7 arg8 harg8 arg9 harg9 arg10 harg10 arg11 harg11 arg12 harg12 x0 x1 x2 x3 x4 x5 x6) (row2 harg10 x7)⟩,
       ⟨Rect.unit (s := S256x512) ![0, 0] S256x256.size inb_S256x512_S256x256_0_0,
          k0_pay2 (diffv c i arg3 harg3 arg4 harg4 arg5 harg5 arg6 harg6 arg7 harg7 arg8 harg8 arg9 harg9 arg10 harg10 arg11 harg11 arg12 harg12 x0 x1 x2 x3 x4 x5 x6) (row2 harg10 x7)⟩] := by
  unfold kernelRun0_A
  dsimp only
  unfold kernelRun0_A.sl.r_2 diffv
  rw [r_eq, r1_eq, v93_eq, v97_eq]
  rfl

end Body

end Cert.Diff
-- ==== Proof.Diff.Out.lean ====
module

public import proofs.«01_k».proof.Proof.Diff.Body

@[expose] public section

set_option maxRecDepth 16384

noncomputable section

namespace Cert.Diff

open Cert.KernelIdeal Cert.KernelIdeal.Gen Idealize.ShloMosaic Idealize.ShloMosaic.TcCoe Idealize.SL.Sem

theorem zero_m (r : Fin 512) : k0_pay42 (F := Ideal) (ix2 r 0) = ⊥ := rfl

theorem zero_l (r : Fin 512) : k0_pay43 (F := Ideal) (ix2 r 0) = 0 := bits_zero

theorem zero_scr (x : S2x512x256.Idx) : k0_pay40 (F := Ideal) x = 0 := by
  idx_vars x
  unfold k0_pay40
  pointwise

theorem slab0_base (a : Memref sig .tc .vmem S2x512x256 .f32) (x : S1x512x256.Idx) : slab0 a (base a) x = 0 := by
  unfold slab0 base zeros
  rw [View.readAt_apply]
  refine (View.read_writes_cons_unit_of_mem a.view _ _ _ _ _
    ((Rect.unit (s := S2x512x256) ![0, 0, 0] S1x512x256.size inb_S2x512x256_S1x512x256_0_0_0).toLoadRect.idx x) rfl
    fun b => ?_).trans (zero_scr _)
  fin_cases b <;> exact (Nat.zero_add _).symm

theorem slab1_base (a : Memref sig .tc .vmem S2x512x256 .f32) (x : S1x512x256.Idx) : slab1 a (base a) x = 0 := by
  unfold slab1 base zeros
  rw [View.readAt_apply]
  refine (View.read_writes_cons_unit_of_mem a.view _ _ _ _ _
    ((Rect.unit (s := S2x512x256) ![1, 0, 0] S1x512x256.size inb_S2x512x256_S1x512x256_1_0_0).toLoadRect.idx x) rfl
    fun b => ?_).trans (zero_scr _)
  fin_cases b <;> exact (Nat.zero_add _).symm

/-- The weight of head 1 in the difference. -/
def lamv (a b c d : Vec Ideal S1x128 .f32) : EReal :=
  Ideal.exp (∑ k : Fin 128, a (ix2 0 k) * b (ix2 0 k)) - Ideal.exp (∑ k : Fin 128, c (ix2 0 k) * d (ix2 0 k))
    + Ideal.ofBits .f32 0x3E4CCCCD#32

/-- A row over the square root of the mean of its squares. -/
def normed (o : Fin 256 → EReal) (d : Fin 256) : EReal :=
  o d * Ideal.rsqrt (Ideal.div (∑ e : Fin 256, o e * o e) (Ideal.ofBits .f32 0x43800000#32)
    + Ideal.ofBits .f32 0x358637BD#32)

theorem pay64_apply (l0 l1 : FVec Ideal S512x1 .f32) (a b c d : Vec Ideal S1x128 .f32)
    (s0 s1 : FVec Ideal S1x512x256 .f32) (r : Fin 512) (e : Fin 256) :
    k0_pay64 l0 l1 a b c d s0 s1 (ix2 r e)
      = normed (fun e => Ideal.div (s0 (ix3 0 r e)) (l0 (ix2 r 0))
          - lamv a b c d * Ideal.div (s1 (ix3 0 r e)) (l1 (ix2 r 0))) e := by
  unfold k0_pay64
  pointwise
  rfl

theorem pay2_apply (v : FVec Ideal S512x256 .f32) (g : Vec Ideal S1x256 .f32) (p : Fin 256) (d : Fin 256) :
    k0_pay2 v g (ix2 p d) = v (ix2 ⟨p.val, by have := p.isLt; omega⟩ d) * g (ix2 0 d) * Ideal.ofBits .f32 0x3F4CCCCD#32 := by
  unfold k0_pay2 k0_pay1
  pointwise

theorem pay3_apply (v : FVec Ideal S512x256 .f32) (g : Vec Ideal S1x256 .f32) (p : Fin 256) (d : Fin 256) :
    k0_pay3 v g (ix2 p d) = v (ix2 ⟨256 + p.val, by have := p.isLt; omega⟩ d) * g (ix2 0 d) * Ideal.ofBits .f32 0x3F4CCCCD#32 := by
  unfold k0_pay3 k0_pay1
  pointwise

theorem row1_eq {m : Memref sig .tc .vmem S1x128 .f32} (h : m.IsWhole) (x : Vec Ideal S1x128 .f32) : row1 h x = x := by
  funext y
  refine (h.readAt_unread x _ _).trans (congrArg x (funext fun a => Fin.ext ?_))
  fin_cases a
  · show 0 + 1 * (y 0).val = (y 0).val
    omega
  · show 0 + 1 * (y 1).val = (y 1).val
    omega

theorem row2_eq {m : Memref sig .tc .vmem S1x256 .f32} (h : m.IsWhole) (x : Vec Ideal S1x256 .f32) : row2 h x = x := by
  funext y
  refine (h.readAt_unread x _ _).trans (congrArg x (funext fun a => Fin.ext ?_))
  fin_cases a
  · show 0 + 1 * (y 0).val = (y 0).val
    omega
  · show 0 + 1 * (y 1).val = (y 1).val
    omega

section Out

variable (c : Dev nD) (i : grid0.Coords)
  (arg3 : Memref sig .tc .vmem S256x512 .bf16) (harg3 : arg3.IsWhole) (arg4 : Memref sig .tc
  .vmem S1x2x128x4096 .bf16) (harg4 : arg4.IsWhole) (arg5 : Memref sig .tc .vmem S4096x256 .bf16)
  (harg5 : arg5.IsWhole) (arg6 : Memref sig .tc .vmem S1x128 .f32) (harg6 : arg6.IsWhole) (arg7 :
  Memref sig .tc .vmem S1x128 .f32) (harg7 : arg7.IsWhole) (arg8 : Memref sig .tc .vmem S1x128
  .f32) (harg8 : arg8.IsWhole) (arg9 : Memref sig .tc .vmem S1x128 .f32) (harg9 : arg9.IsWhole)
  (arg10 : Memref sig .tc .vmem S1x256 .f32) (harg10 : arg10.IsWhole) (arg11 : Memref sig .tc
  .vmem S256x512 .bf16) (harg11 : arg11.IsWhole) (arg12 : Memref sig .tc .vmem S2x512x256 .f32)
  (harg12 : arg12.IsWhole)
  (x0 : Vec Ideal S256x512 .bf16) (x1 : Vec Ideal S1x2x128x4096 .bf16) (x2 : Vec Ideal S4096x256 .bf16)
  (x3 x4 x5 x6 : Vec Ideal S1x128 .f32) (x7 : Vec Ideal S1x256 .f32)
  (S0 S1 : ℕ → ℝ) (V : ℕ → Fin 256 → ℝ) (r : Fin 512)

theorem fin2_eq : fin2 c i arg3 harg3 arg4 harg4 arg5 harg5 arg6 harg6 arg7 harg7 arg8 harg8 arg9 harg9 arg10 harg10 arg11 harg11 arg12 harg12 x0 x1 x2 = ((fin1 c i arg3 harg3 arg4 harg4 arg5 harg5 arg6 harg6 arg7 harg7 arg8 harg8 arg9 harg9 arg10 harg10 arg11 harg11 arg12 harg12 x0 x1 x2).1, []) := by
  unfold fin2 st2
  rw [trips2]
  rfl

theorem fin4_eq : fin4 c i arg3 harg3 arg4 harg4 arg5 harg5 arg6 harg6 arg7 harg7 arg8 harg8 arg9 harg9 arg10 harg10 arg11 harg11 arg12 harg12 x0 x1 x2 = ((fin3 c i arg3 harg3 arg4 harg4 arg5 harg5 arg6 harg6 arg7 harg7 arg8 harg8 arg9 harg9 arg10 harg10 arg11 harg11 arg12 harg12 x0 x1 x2).1, []) := by
  unfold fin4 st4
  rw [trips4]
  rfl

/-- The state of a row after the body's loops. -/
theorem inv_fin (H : Keys (qcol0 harg3 x0) (qcol2 harg3 x0) (qcol1 harg3 x0) (qcol3 harg3 x0) x1 x2 S0 S1 V r) :
    Inv (256 * (i 2).val + r.val % 256 + 1) S0 S1 V r arg12 (fin4 c i arg3 harg3 arg4 harg4 arg5 harg5 arg6 harg6 arg7 harg7 arg8 harg8 arg9 harg9 arg10 harg10 arg11 harg11 arg12 harg12 x0 x1 x2).1 (scr c i arg3 harg3 arg4 harg4 arg5 harg5 arg6 harg6 arg7 harg7 arg8 harg8 arg9 harg9 arg10 harg10 arg11 harg11 arg12 harg12 x0 x1 x2) := by
  have h0 : Inv 0 S0 S1 V r arg12 init0 (base arg12) := by
    refine ⟨?_, ?_⟩
    · show Rep 0 S0 V (k0_pay42 (F := Ideal) (ix2 r 0)) (k0_pay43 (F := Ideal) (ix2 r 0)) _
      rw [zero_m, zero_l]
      exact Rep.init S0 V _ fun d => slab0_base arg12 _
    · show Rep 0 S1 V (k0_pay42 (F := Ideal) (ix2 r 0)) (k0_pay43 (F := Ideal) (ix2 r 0)) _
      rw [zero_m, zero_l]
      exact Rep.init S1 V _ fun d => slab1_base arg12 _
  have h1 := inv1 c i arg3 harg3 arg4 harg4 arg5 harg5 arg6 harg6 arg7 harg7 arg8 harg8 arg9 harg9 arg10 harg10 arg11 harg11 arg12 harg12 (kernelRun0_A.sl.v20 i) (kernelRun0_A.sl.v22 i) (kernelRun0_A.sl.v36 i) (kernelRun0_A.sl.v37 i)
    (qcol0 harg3 x0) (qcol2 harg3 x0) (qcol1 harg3 x0) (qcol3 harg3 x0) x1 x2 (base arg12) init0 S0 S1 V r H h0 _ le_rfl
  rw [trips1] at h1
  have e1 : fin1 c i arg3 harg3 arg4 harg4 arg5 harg5 arg6 harg6 arg7 harg7 arg8 harg8 arg9 harg9 arg10 harg10 arg11 harg11 arg12 harg12 x0 x1 x2 = st1 c i arg3 harg3 arg4 harg4 arg5 harg5 arg6 harg6 arg7 harg7 arg8 harg8 arg9 harg9 arg10 harg10 arg11 harg11 arg12 harg12 (kernelRun0_A.sl.v20 i) (kernelRun0_A.sl.v22 i) (kernelRun0_A.sl.v36 i) (kernelRun0_A.sl.v37 i) (qcol0 harg3 x0) (qcol2 harg3 x0) (qcol1 harg3 x0) (qcol3 harg3 x0) x1 x2 (base arg12) init0
      ((i 2).val / 2) := by
    unfold fin1
    rw [trips1]
  rw [← e1] at h1
  have hG : arg12.view.writes (Elt Ideal) arg12.view.junk ((fin2 c i arg3 harg3 arg4 harg4 arg5 harg5 arg6 harg6 arg7 harg7 arg8 harg8 arg9 harg9 arg10 harg10 arg11 harg11 arg12 harg12 x0 x1 x2).2 ++ ((fin1 c i arg3 harg3 arg4 harg4 arg5 harg5 arg6 harg6 arg7 harg7 arg8 harg8 arg9 harg9 arg10 harg10 arg11 harg11 arg12 harg12 x0 x1 x2).2 ++ zeros))
      = arg12.view.writes (Elt Ideal) (base arg12) (fin1 c i arg3 harg3 arg4 harg4 arg5 harg5 arg6 harg6 arg7 harg7 arg8 harg8 arg9 harg9 arg10 harg10 arg11 harg11 arg12 harg12 x0 x1 x2).2 := by
    rw [fin2_eq]
    show arg12.view.writes (Elt Ideal) arg12.view.junk ((fin1 c i arg3 harg3 arg4 harg4 arg5 harg5 arg6 harg6 arg7 harg7 arg8 harg8 arg9 harg9 arg10 harg10 arg11 harg11 arg12 harg12 x0 x1 x2).2 ++ zeros) = _
    rw [View.writes_append]
    rfl
  have h3 := inv3 c i arg3 harg3 arg4 harg4 arg5 harg5 arg6 harg6 arg7 harg7 arg8 harg8 arg9 harg9 arg10 harg10 arg11 harg11 arg12 harg12 (kernelRun0_A.sl.v20 i) (kernelRun0_A.sl.v22 i) (kernelRun0_A.sl.v38 i) (kernelRun0_A.sl.v36 i) (kernelRun0_A.sl.v37 i)
    (qcol0 harg3 x0) (qcol2 harg3 x0) (qcol1 harg3 x0) (qcol3 harg3 x0) x1 x2 _ _ S0 S1 V r H (word38 i) h1
  have e3 : fin3 c i arg3 harg3 arg4 harg4 arg5 harg5 arg6 harg6 arg7 harg7 arg8 harg8 arg9 harg9 arg10 harg10 arg11 harg11 arg12 harg12 x0 x1 x2 = st3 c i arg3 harg3 arg4 harg4 arg5 harg5 arg6 harg6 arg7 harg7 arg8 harg8 arg9 harg9 arg10 harg10 arg11 harg11 arg12 harg12 (kernelRun0_A.sl.v20 i) (kernelRun0_A.sl.v22 i) (kernelRun0_A.sl.v38 i) (kernelRun0_A.sl.v36 i) (kernelRun0_A.sl.v37 i) (qcol0 harg3 x0) (qcol2 harg3 x0) (qcol1 harg3 x0) (qcol3 harg3 x0) x1 x2
      (arg12.view.writes (Elt Ideal) (base arg12) (fin1 c i arg3 harg3 arg4 harg4 arg5 harg5 arg6 harg6 arg7 harg7 arg8 harg8 arg9 harg9 arg10 harg10 arg11 harg11 arg12 harg12 x0 x1 x2).2) (fin1 c i arg3 harg3 arg4 harg4 arg5 harg5 arg6 harg6 arg7 harg7 arg8 harg8 arg9 harg9 arg10 harg10 arg11 harg11 arg12 harg12 x0 x1 x2).1 1 := by
    unfold fin3
    rw [trips3, hG, fin2_eq]
  rw [← e3] at h3
  have hS : scr c i arg3 harg3 arg4 harg4 arg5 harg5 arg6 harg6 arg7 harg7 arg8 harg8 arg9 harg9 arg10 harg10 arg11 harg11 arg12 harg12 x0 x1 x2
      = arg12.view.writes (Elt Ideal) (arg12.view.writes (Elt Ideal) (base arg12) (fin1 c i arg3 harg3 arg4 harg4 arg5 harg5 arg6 harg6 arg7 harg7 arg8 harg8 arg9 harg9 arg10 harg10 arg11 harg11 arg12 harg12 x0 x1 x2).2) (fin3 c i arg3 harg3 arg4 harg4 arg5 harg5 arg6 harg6 arg7 harg7 arg8 harg8 arg9 harg9 arg10 harg10 arg11 harg11 arg12 harg12 x0 x1 x2).2 := by
    unfold scr
    rw [fin4_eq]
    show arg12.view.writes (Elt Ideal) arg12.view.junk ((fin3 c i arg3 harg3 arg4 harg4 arg5 harg5 arg6 harg6 arg7 harg7 arg8 harg8 arg9 harg9 arg10 harg10 arg11 harg11 arg12 harg12 x0 x1 x2).2 ++ ((fin2 c i arg3 harg3 arg4 harg4 arg5 harg5 arg6 harg6 arg7 harg7 arg8 harg8 arg9 harg9 arg10 harg10 arg11 harg11 arg12 harg12 x0 x1 x2).2
      ++ ((fin1 c i arg3 harg3 arg4 harg4 arg5 harg5 arg6 harg6 arg7 harg7 arg8 harg8 arg9 harg9 arg10 harg10 arg11 harg11 arg12 harg12 x0 x1 x2).2 ++ zeros))) = _
    rw [View.writes_append, hG]
  rw [hS, fin4_eq]
  exact h3

/-- What a row of the body's output is, before the norm's weight. -/
theorem diffv_apply (H : Keys (qcol0 harg3 x0) (qcol2 harg3 x0) (qcol1 harg3 x0) (qcol3 harg3 x0) x1 x2 S0 S1 V r)
    (d : Fin 256) :
    diffv c i arg3 harg3 arg4 harg4 arg5 harg5 arg6 harg6 arg7 harg7 arg8 harg8 arg9 harg9 arg10 harg10 arg11 harg11 arg12 harg12 x0 x1 x2 x3 x4 x5 x6 (ix2 r d)
      = normed (fun e =>
          ((wmean (256 * (i 2).val + r.val % 256 + 1) (fun j => Real.rpow 2 (S0 j)) fun j => V j e : ℝ) : EReal)
          - lamv x3 x4 x5 x6
            * ((wmean (256 * (i 2).val + r.val % 256 + 1) (fun j => Real.rpow 2 (S1 j)) fun j => V j e : ℝ) : EReal)) d := by
  have h := inv_fin c i arg3 harg3 arg4 harg4 arg5 harg5 arg6 harg6 arg7 harg7 arg8 harg8 arg9 harg9 arg10 harg10 arg11 harg11 arg12 harg12 x0 x1 x2 S0 S1 V r H
  unfold diffv
  rw [pay64_apply, row1_eq, row1_eq, row1_eq, row1_eq]
  congr 1
  funext e
  exact congrArg₂ _ (h.1.final (by omega) e) (congrArg _ (h.2.final (by omega) e))

/-- The output block at an index. -/
theorem out_apply (rr : Fin 2) (p : Fin 256) (d : Fin 256) :
    out0_A_8 (F := Ideal) c i arg3 harg3 arg4 harg4 arg5 harg5 arg6 harg6 arg7 harg7 arg8 harg8 arg9 harg9 arg10 harg10 arg11 harg11 arg12 harg12 x0 x1 x2 x3 x4 x5 x6 x7 (ix2 p ⟨rr.val * 256 + d.val, by have := rr.isLt; have := d.isLt; omega⟩)
      = diffv c i arg3 harg3 arg4 harg4 arg5 harg5 arg6 harg6 arg7 harg7 arg8 harg8 arg9 harg9 arg10 harg10 arg11 harg11 arg12 harg12 x0 x1 x2 x3 x4 x5 x6 (ix2 ⟨rr.val * 256 + p.val, by have := rr.isLt; have := p.isLt; omega⟩ d)
        * x7 (ix2 0 d) * Ideal.ofBits .f32 0x3F4CCCCD#32 := by
  have hd := d.isLt
  unfold out0_A_8
  rw [run_eq, row2_eq]
  fin_cases rr
  · refine (View.read_writes_cons_unit_of_not_mem VO0_8 _ _ _ _ _ rfl 1 (.inl ?_)).trans ?_
    · show 0 * 256 + d.val < 256
      omega
    refine (View.read_writes_cons_unit_of_mem VO0_8 _ _ _ _ _ (ix2 p d) rfl fun a => ?_).trans ?_
    · fin_cases a
      · exact (Nat.zero_add _).symm
      · show 0 * 256 + d.val = 0 + d.val
        omega
    refine (pay2_apply _ _ p d).trans ?_
    congr 3
    idx_ext
  · refine (View.read_writes_cons_unit_of_mem VO0_8 _ _ _ _ _ (ix2 p d) rfl fun a => ?_).trans ?_
    · fin_cases a
      · exact (Nat.zero_add _).symm
      · show 1 * 256 + d.val = 256 + d.val
        omega
    refine (pay3_apply _ _ p d).trans ?_
    congr 3

end Out

end Cert.Diff
-- ==== Proof.Diff.Soft.lean ====
module

public import proofs.«01_k».proof.Proof.Diff.Ref
public import proofs.«01_k».proof.Proof.Diff.Out

@[expose] public section

set_option maxRecDepth 16384

noncomputable section

namespace Cert.Diff

open Idealize.ShloMosaic

/-- A sum over all keys that drops those after key `t`. -/
theorem sum_causal {N : ℕ} (t : ℕ) (ht : t < N) (f : ℕ → ℝ) :
    (∑ l : Fin N, if l.val ≤ t then f l.val else 0) = ∑ j ∈ Finset.range (t + 1), f j := by
  have h := range_block (N := N) 0 (t + 1) (Nat.zero_le _) (by omega) f
  simp only [Finset.range_zero, Finset.sum_empty, add_zero, Nat.zero_add, Nat.lt_succ_iff] at h
  exact h

/-- The softmax of a row of causal scores. -/
theorem softmax_row {N : ℕ} (t : ℕ) (ht : t < N) (s : Fin N → EReal) (σ : ℕ → ℝ)
    (hs : ∀ l : Fin N, s l = if l.val ≤ t then (σ l.val : EReal) else ⊥) (l : Fin N) :
    Ideal.div (Ideal.exp (s l - max ⊥ (Finset.univ.fold max ⊥ s)))
        (∑ j, Ideal.exp (s j - max ⊥ (Finset.univ.fold max ⊥ s)))
      = ((if l.val ≤ t then Real.exp (σ l.val) / ∑ j ∈ Finset.range (t + 1), Real.exp (σ j) else 0 : ℝ) : EReal) := by
  obtain ⟨M, hM⟩ := max_fold_real ⊥ s (by simp) (fun j => by rw [hs]; split <;> simp) ⟨0, by omega⟩
    (by rw [hs]; simp)
  rw [hM]
  have he : ∀ j : Fin N, Ideal.exp (s j - M) = ((if j.val ≤ t then Real.exp (σ j.val - M) else 0 : ℝ) : EReal) := fun j => by
    rw [hs]
    split
    · rw [← EReal.coe_sub, Ideal.exp_coe]
    · rw [EReal.bot_sub, Ideal.exp_bot, EReal.coe_zero]
  have hsum : ∑ j, Ideal.exp (s j - M) = ((∑ j ∈ Finset.range (t + 1), Real.exp (σ j - M) : ℝ) : EReal) := by
    rw [← sum_causal (N := N) t ht, coe_sum]
    exact Finset.sum_congr rfl fun j _ => he j
  have hpos : 0 < ∑ j ∈ Finset.range (t + 1), Real.exp (σ j - M) :=
    Finset.sum_pos (fun j _ => Real.exp_pos _) ⟨0, by simp⟩
  rw [hsum, he, Ideal.div_coe hpos.ne', ← EReal.coe_mul, mul_one_div]
  congr 1
  split
  · simp only [Real.exp_sub, ← Finset.sum_div]
    rw [div_div_div_cancel_right₀ (Real.exp_pos M).ne']
  · exact zero_div _

/-- The difference of two causal softmaxes applied to a column of values. -/
theorem diff_row {N : ℕ} (t : ℕ) (ht : t < N) (σ0 σ1 w : ℕ → ℝ) (lam : ℝ) :
    ∑ l : Fin N, (w l.val : EReal)
        * (((if l.val ≤ t then Real.exp (σ0 l.val) / ∑ j ∈ Finset.range (t + 1), Real.exp (σ0 j) else 0 : ℝ) : EReal)
          - (lam : EReal) * ((if l.val ≤ t then Real.exp (σ1 l.val) / ∑ j ∈ Finset.range (t + 1), Real.exp (σ1 j) else 0 : ℝ) : EReal))
      = ((wmean (t + 1) (fun j => Real.exp (σ0 j)) w : ℝ) : EReal)
        - (lam : EReal) * ((wmean (t + 1) (fun j => Real.exp (σ1 j)) w : ℝ) : EReal) := by
  have h : ∀ l : Fin N, (w l.val : EReal)
        * (((if l.val ≤ t then Real.exp (σ0 l.val) / ∑ j ∈ Finset.range (t + 1), Real.exp (σ0 j) else 0 : ℝ) : EReal)
          - (lam : EReal) * ((if l.val ≤ t then Real.exp (σ1 l.val) / ∑ j ∈ Finset.range (t + 1), Real.exp (σ1 j) else 0 : ℝ) : EReal))
      = ((if l.val ≤ t then Real.exp (σ0 l.val) * w l.val / (∑ j ∈ Finset.range (t + 1), Real.exp (σ0 j))
          - lam * (Real.exp (σ1 l.val) * w l.val / ∑ j ∈ Finset.range (t + 1), Real.exp (σ1 j)) else 0 : ℝ) : EReal) := fun l => by
    rw [← EReal.coe_mul, ← EReal.coe_sub, ← EReal.coe_mul]
    congr 1
    split <;> ring
  rw [Finset.sum_congr rfl fun l _ => h l, ← coe_sum, ← EReal.coe_mul, ← EReal.coe_sub]
  congr 1
  rw [sum_causal t ht fun j => Real.exp (σ0 j) * w j / (∑ j ∈ Finset.range (t + 1), Real.exp (σ0 j))
          - lam * (Real.exp (σ1 j) * w j / ∑ j ∈ Finset.range (t + 1), Real.exp (σ1 j))]
  unfold wmean
  rw [Finset.sum_sub_distrib, ← Finset.mul_sum, Finset.sum_div, Finset.sum_div]

/-- The power of two of a score over `log 2` is its exponential. -/
theorem rpow_two_div_log (x : ℝ) : Real.rpow 2 (x / Real.log 2) = Real.exp x := by
  have h : Real.log 2 ≠ 0 := (Real.log_pos (by norm_num)).ne'
  show (2 : ℝ) ^ (x / Real.log 2) = _
  rw [Real.rpow_def_of_pos (by norm_num), mul_div_cancel₀ _ h]

theorem bits_128 : Ideal.ofBits .f32 0x43000000#32 = ((128 : ℝ) : EReal) := by
  simp [Ideal.ofBits, Ideal.ieee]
  rw [← EReal.coe_mul]
  norm_num

theorem bits_2 : Ideal.ofBits .f32 0x40000000#32 = ((2 : ℝ) : EReal) := by
  simp [Ideal.ofBits, Ideal.ieee]
  rw [← EReal.coe_mul]
  norm_num

theorem sqrt_128 : Ideal.sqrt (Ideal.ofBits .f32 0x43000000#32) = ((Real.sqrt 128 : ℝ) : EReal) := by
  rw [bits_128, Ideal.sqrt_coe, if_neg (by norm_num)]

theorem log_2 : Ideal.log (Ideal.ofBits .f32 0x40000000#32) = ((Real.log 2 : ℝ) : EReal) := by
  rw [bits_2, Ideal.log_coe, if_neg (by norm_num)]

section Reference

open Cert.ReferenceIdeal

variable (q : S2x4096x8x2x128.Idx → ℝ) (k : S2x4096x4x2x128.Idx → ℝ) (v : S2x4096x4x256.Idx → ℝ)

/-- The score of a query and a key. -/
def score (b : Fin 2) (g : Fin 4) (r c : Fin 2) (t : Fin 4096) (n : ℕ) : ℝ :=
  if h : n < 4096 then (∑ d : Fin 128, k (ix5 b ⟨n, h⟩ g c d) * q (ix5 b t ⟨g.val * 2 + r.val, by have := g.isLt; have := r.isLt; omega⟩ c d))
    / Real.sqrt 128 else 0

/-- The values of a key. -/
def val (b : Fin 2) (g : Fin 4) (n : ℕ) (d : Fin 256) : ℝ := if h : n < 4096 then v (ix4 b ⟨n, h⟩ g d) else 0

variable (Q : FVec Ideal S2x4096x8x2x128 .f32) (K : FVec Ideal S2x4096x4x2x128 .f32) (V : FVec Ideal S2x4096x4x256 .f32)
  (hQ : ∀ x, Q x = (q x : EReal)) (hK : ∀ x, K x = (k x : EReal)) (hV : ∀ x, V x = (v x : EReal))

include hQ hK in
theorem rScore_real (b : Fin 2) (g : Fin 4) (r c : Fin 2) (t l : Fin 4096) :
    rScore Q K (ix6 b g r c t l) = if l.val ≤ t.val then ((score q k b g r c t l.val : ℝ) : EReal) else ⊥ := by
  rw [rScore_apply]
  split
  · rw [sqrt_128, Ideal.div_coe (by positivity)]
    have : ∑ d : Fin 128, K (ix5 b l g c d) * Q (ix5 b t ⟨g.val * 2 + r.val, by have := g.isLt; have := r.isLt; omega⟩ c d)
        = ((∑ d : Fin 128, k (ix5 b l g c d) * q (ix5 b t ⟨g.val * 2 + r.val, by have := g.isLt; have := r.isLt; omega⟩ c d) : ℝ) : EReal) := by
      rw [coe_sum]
      exact Finset.sum_congr rfl fun d _ => by rw [hK, hQ, EReal.coe_mul]
    rw [this, ← EReal.coe_mul, mul_one_div]
    unfold score
    rw [dif_pos l.isLt]
  · rfl

include hQ hK in
theorem rProb_real (b : Fin 2) (g : Fin 4) (r c : Fin 2) (t l : Fin 4096) :
    rProb (rExp (rScore Q K) (rMax (rScore Q K))) (ix6 b g r c t l)
      = ((if l.val ≤ t.val then Real.exp (score q k b g r c t l.val)
          / ∑ j ∈ Finset.range (t.val + 1), Real.exp (score q k b g r c t j) else 0 : ℝ) : EReal) := by
  rw [rProb_apply]
  simp only [rExp_apply, rMax_apply]
  exact softmax_row t.val t.isLt (fun l => rScore Q K (ix6 b g r c t l)) (score q k b g r c t)
    (fun l => rScore_real q k Q K hQ hK b g r c t l) l

include hQ hK hV in
theorem rOut_real (lam : ℝ) (L : FVec Ideal S_ .f32) (hL : L ix0 = (lam : EReal)) (b : Fin 2) (g : Fin 4) (r : Fin 2) (t : Fin 4096) (d : Fin 256) :
    rOut V (rDiff (rProb (rExp (rScore Q K) (rMax (rScore Q K)))) L) (ix5 b t g r d)
      = ((wmean (t.val + 1) (fun j => Real.exp (score q k b g r 0 t j)) (fun j => val v b g j d) : ℝ) : EReal)
        - L ix0 * ((wmean (t.val + 1) (fun j => Real.exp (score q k b g r 1 t j)) (fun j => val v b g j d) : ℝ) : EReal) := by
  rw [rOut_apply, hL, ← diff_row (N := 4096) t.val t.isLt]
  refine Finset.sum_congr rfl fun l _ => ?_
  rw [rDiff_apply, hL, rProb_real q k Q K hQ hK, rProb_real q k Q K hQ hK, hV]
  unfold val
  rw [dif_pos l.isLt]

end Reference

/-- The weight of head 1 at finite arguments is finite. -/
theorem lam_real (a b c d : Fin 128 → ℝ) :
    ∃ lam : ℝ, Ideal.exp (∑ k : Fin 128, (a k : EReal) * (b k : EReal)) - Ideal.exp (∑ k : Fin 128, (c k : EReal) * (d k : EReal))
      + Ideal.ofBits .f32 0x3E4CCCCD#32 = (lam : EReal) := by
  have hb : Ideal.ofBits .f32 0x3E4CCCCD#32 = ((((Ideal.ofBits .f32 0x3E4CCCCD#32).toReal) : ℝ) : EReal) := by
    have : Ideal.ofBits .f32 0x3E4CCCCD#32 = ((13421773 * (2 ^ 26)⁻¹ : ℝ) : EReal) := by
      simp [Ideal.ofBits, Ideal.ieee]
    rw [this, EReal.toReal_coe]
  simp only [← EReal.coe_mul, ← coe_sum, Ideal.exp_coe]
  rw [hb, ← EReal.coe_sub, ← EReal.coe_add]
  exact ⟨_, rfl⟩

end Cert.Diff
-- ==== Proof.Diff.Point.lean ====
module

public import proofs.«01_k».proof.Proof.Diff.Soft

@[expose] public section

set_option maxRecDepth 16384

noncomputable section

namespace Cert.Diff

open Cert.KernelIdeal Cert.KernelIdeal.Gen Idealize.ShloMosaic Idealize.ShloMosaic.TcCoe Idealize.SL.Sem

/-- A scaled query: over `√128 · log 2`, its dot product with a key is the score over `log 2`. -/
theorem scaled_sum (q k : Fin 128 → ℝ) :
    ∑ j : Fin 128, Ideal.div (q j : EReal) (Ideal.sqrt (Ideal.ofBits .f32 0x43000000#32) * Ideal.log (Ideal.ofBits .f32 0x40000000#32)) * (k j : EReal)
      = (((∑ j : Fin 128, k j * q j) / Real.sqrt 128 / Real.log 2 : ℝ) : EReal) := by
  have h0 : Real.sqrt 128 * Real.log 2 ≠ 0 := mul_ne_zero (Real.sqrt_ne_zero'.mpr (by norm_num)) (Real.log_pos (by norm_num)).ne'
  rw [sqrt_128, log_2, ← EReal.coe_mul]
  simp only [Ideal.div_coe h0, ← EReal.coe_mul, ← coe_sum]
  rw [EReal.coe_eq_coe_iff, div_div, Finset.sum_div]
  exact Finset.sum_congr rfl fun j _ => by ring

variable (c : Dev nD) (i : grid0.Coords)
  (arg3 : Memref sig .tc .vmem S256x512 .bf16) (harg3 : arg3.IsWhole) (arg4 : Memref sig .tc .vmem S1x2x128x4096 .bf16) (harg4 : arg4.IsWhole) (arg5 : Memref sig .tc .vmem S4096x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x256 .f32) (harg10 : arg10.IsWhole) (arg11 : Memref sig .tc .vmem S256x512 .bf16) (harg11 : arg11.IsWhole) (arg12 : Memref sig .tc .vmem S2x512x256 .f32) (harg12 : arg12.IsWhole)
  (x0 : Vec Ideal S256x512 .bf16) (x1 : Vec Ideal S1x2x128x4096 .bf16) (x2 : Vec Ideal S4096x256 .bf16)
  (x3 x4 x5 x6 : Vec Ideal S1x128 .f32) (x7 : Vec Ideal S1x256 .f32)

/-- An element of the block a grid point writes is the reference's element there, when the blocks it reads hold what
    they are prepared to hold and the arguments are finite. -/
theorem point_core (Q : FVec Ideal S2x4096x8x2x128 .f32) (K : FVec Ideal S2x4096x4x2x128 .f32) (V : FVec Ideal S2x4096x4x256 .f32)
    (q : S2x4096x8x2x128.Idx → ℝ) (k : S2x4096x4x2x128.Idx → ℝ) (v : S2x4096x4x256.Idx → ℝ)
    (hQ : ∀ x, Q x = (q x : EReal)) (hK : ∀ x, K x = (k x : EReal)) (hV : ∀ x, V x = (v x : EReal))
    (hL : ∃ lam : ℝ, lamv x3 x4 x5 x6 = (lam : EReal))
    (b : Fin 2) (g : Fin 4) (rr : Fin 2) (p : Fin 256) (d : Fin 256) (t : Fin 4096) (ht : t.val = (i 2).val * 256 + p.val)
    (h0 : ∀ (cc : Fin 2) (j : Fin 128), x0 (ix2 p ⟨rr.val * 256 + cc.val * 128 + j.val, by have := rr.isLt; have := cc.isLt; have := j.isLt; omega⟩)
      = Ideal.div (Q (ix5 b t ⟨g.val * 2 + rr.val, by have := g.isLt; have := rr.isLt; omega⟩ cc j)) (Ideal.sqrt (Ideal.ofBits .f32 0x43000000#32) * Ideal.log (Ideal.ofBits .f32 0x40000000#32)))
    (h1 : ∀ (cc : Fin 2) (j : Fin 128) (n : Fin 4096), x1 (ix4 0 cc j n) = K (ix5 b n g cc j))
    (h2 : ∀ (n : Fin 4096) (e : Fin 256), x2 (ix2 n e) = V (ix4 b n g e)) :
    out0_A_8 (F := Ideal) c i arg3 harg3 arg4 harg4 arg5 harg5 arg6 harg6 arg7 harg7 arg8 harg8 arg9 harg9 arg10 harg10 arg11 harg11 arg12 harg12 x0 x1 x2 x3 x4 x5 x6 x7 (ix2 p ⟨rr.val * 256 + d.val, by have := rr.isLt; have := d.isLt; omega⟩)
      = rAll Q K V x3 x4 x5 x6 x7 (ix2 ⟨b.val * 4096 + t.val, by have := b.isLt; have := t.isLt; omega⟩
        ⟨g.val * 512 + rr.val * 256 + d.val, by have := g.isLt; have := rr.isLt; have := d.isLt; omega⟩) := by
  obtain ⟨lam, hlam⟩ := hL
  have hp := p.isLt
  have hr := rr.isLt
  have H : Keys (qcol0 harg3 x0) (qcol2 harg3 x0) (qcol1 harg3 x0) (qcol3 harg3 x0) x1 x2
      (fun n => score q k b g rr 0 t n / Real.log 2) (fun n => score q k b g rr 1 t n / Real.log 2) (val v b g)
      ⟨rr.val * 256 + p.val, by omega⟩ := by
    refine ⟨fun n hn => ?_, fun n hn => ?_, fun n hn e => ?_⟩
    · simp only [score, dif_pos hn]
      rw [← scaled_sum]
      refine Finset.sum_congr rfl fun j _ => ?_
      rw [q0_at, h1, ← hQ, ← hK, ← h0 0 j]
      rfl
    · simp only [score, dif_pos hn]
      rw [← scaled_sum]
      refine Finset.sum_congr rfl fun j _ => ?_
      rw [q1_at, h1, ← hQ, ← hK, ← h0 1 j]
      rfl
    · rw [h2, hV]
      simp only [val, dif_pos hn]
  have hn : 256 * (i 2).val + (rr.val * 256 + p.val) % 256 + 1 = t.val + 1 := by omega
  rw [out_apply, diffv_apply c i arg3 harg3 arg4 harg4 arg5 harg5 arg6 harg6 arg7 harg7 arg8 harg8 arg9 harg9 arg10 harg10 arg11 harg11 arg12 harg12 x0 x1 x2 x3 x4 x5 x6 _ _ _ _ H]
  unfold rAll
  rw [rNorm_apply]
  unfold normed
  simp only [rpow_two_div_log, hn]
  have hrow : ∀ e : Fin 256, rOut V (rDiff (rProb (rExp (rScore Q K) (rMax (rScore Q K)))) (rLam x3 x4 x5 x6)) (ix5 b t g rr e)
      = ((wmean (t.val + 1) (fun j => Real.exp (score q k b g rr 0 t j)) (fun j => val v b g j e) : ℝ) : EReal)
        - lamv x3 x4 x5 x6 * ((wmean (t.val + 1) (fun j => Real.exp (score q k b g rr 1 t j)) (fun j => val v b g j e) : ℝ) : EReal) := by
    intro e
    have hl : rLam x3 x4 x5 x6 ix0 = lamv x3 x4 x5 x6 := rLam_apply _ _ _ _ _
    rw [rOut_real q k v Q K V hQ hK hV lam _ (hl.trans hlam), hl]
  simp only [hrow]

end Cert.Diff
-- ==== Proof.Diff.Entry.lean ====
module

public import proofs.«01_k».proof.Proof.Gen.KernelIdeal.Value
public import Idealize.ShloMosaic.Lib.Pointwise
public import Idealize.ShloMosaic.Lib.Claim
public import Idealize.ShloMosaic.Lib.Pipeline.ValueKit

@[expose] public section

set_option maxRecDepth 16384

noncomputable section

namespace Cert.Diff

open Cert.KernelIdeal Cert.KernelIdeal.Gen Idealize.ShloMosaic Idealize.ShloMosaic.TcCoe Idealize.SL.Sem

/-- The packed projection the call reads, over the arguments. -/
def packed (Q : FVec Ideal S2x4096x8x2x128 .f32) (K : FVec Ideal S2x4096x4x2x128 .f32) (W : FVec Ideal S2x4096x4x256 .f32) :
    FVec Ideal S8192x11264 .bf16 :=
  truncf .bf16 (concatenate S8192x11264 1 [⟨S8192x3072, (broadcastInDim S8192x3072 ![] bcast_S_S8192x3072 (constant (F := Ideal) S_ .f32 0x00000000#32) : FVec Ideal S8192x3072 .f32)⟩,
    ⟨S8192x2048, (shapeCast S8192x2048 (Host.divf Q (broadcastInDim S2x4096x8x2x128 ![] bcast_S_S2x4096x8x2x128 (mulf (Host.sqrt (constant (F := Ideal) S_ .f32 0x43000000#32)) (Host.log (constant (F := Ideal) S_ .f32 0x40000000#32))))) shapeCasts_S2x4096x8x2x128_S8192x2048 : FVec Ideal S8192x2048 .f32)⟩,
    ⟨S8192x1024, (shapeCast S8192x1024 K shapeCasts_S2x4096x4x2x128_S8192x1024 : FVec Ideal S8192x1024 .f32)⟩,
    ⟨S8192x1024, (shapeCast S8192x1024 W shapeCasts_S2x4096x4x256_S8192x1024 : FVec Ideal S8192x1024 .f32)⟩,
    ⟨S8192x4096, (broadcastInDim S8192x4096 ![] bcast_S_S8192x4096 (constant (F := Ideal) S_ .f32 0x00000000#32) : FVec Ideal S8192x4096 .f32)⟩]
    concatenates_S8192x3072_S8192x2048_S8192x1024_S8192x1024_S8192x4096_S8192x11264_d1) bitsLt_bf16_f32

/-- The transposed keys. -/
def keysT (z : FVec Ideal S8192x11264 .bf16) : FVec Ideal S2x8x128x4096 .bf16 :=
  transpose S2x8x128x4096 [0, 2, 3, 1] (shapeCast S2x4096x8x128 (extractStridedSlice S8192x1024 ![0, 5120] z slices_S8192x11264_S8192x1024_0_5120) shapeCasts_S8192x1024_S2x4096x8x128) transposes_S2x4096x8x128_S2x8x128x4096_0_2_3_1

theorem ix5_congr {a b c d e : ℕ} (x : Fin a) (y : Fin b) {z z' : Fin c} {w w' : Fin d} {v v' : Fin e}
    (h1 : z.val = z'.val) (h2 : w.val = w'.val) (h3 : v.val = v'.val) : ix5 x y z w v = ix5 x y z' w' v' := by
  obtain rfl := Fin.ext h1; obtain rfl := Fin.ext h2; obtain rfl := Fin.ext h3; rfl

theorem ix4_congr {a b c d : ℕ} (x : Fin a) (y : Fin b) {z z' : Fin c} {w w' : Fin d}
    (h1 : z.val = z'.val) (h2 : w.val = w'.val) : ix4 x y z w = ix4 x y z' w' := by
  obtain rfl := Fin.ext h1; obtain rfl := Fin.ext h2; rfl

variable (Q : FVec Ideal S2x4096x8x2x128 .f32) (K : FVec Ideal S2x4096x4x2x128 .f32) (W : FVec Ideal S2x4096x4x256 .f32)

theorem packed_q (b : Fin 2) (t : Fin 4096) (h : Fin 8) (c : Fin 2) (k : Fin 128) :
    packed Q K W (ix2 ⟨b.val * 4096 + t.val, by have := b.isLt; have := t.isLt; omega⟩ ⟨3072 + (h.val * 256 + c.val * 128 + k.val), by have := h.isLt; have := c.isLt; have := k.isLt; omega⟩)
      = Ideal.div (Q (ix5 b t h c k)) (Ideal.sqrt (Ideal.ofBits .f32 0x43000000#32) * Ideal.log (Ideal.ofBits .f32 0x40000000#32)) := by
  unfold packed
  pointwise
  rw [dif_pos (by omega)]

theorem packed_k (b : Fin 2) (t : Fin 4096) (h : Fin 4) (c : Fin 2) (k : Fin 128) :
    packed Q K W (ix2 ⟨b.val * 4096 + t.val, by have := b.isLt; have := t.isLt; omega⟩ ⟨5120 + (h.val * 256 + c.val * 128 + k.val), by have := h.isLt; have := c.isLt; have := k.isLt; omega⟩)
      = K (ix5 b t h c k) := by
  unfold packed
  pointwise
  repeat' split <;> try omega
  refine congrArg K (ix5_congr b t ?_ ?_ ?_)
  all_goals (dsimp only; omega)

theorem packed_v (b : Fin 2) (t : Fin 4096) (h : Fin 4) (d : Fin 256) :
    packed Q K W (ix2 ⟨b.val * 4096 + t.val, by have := b.isLt; have := t.isLt; omega⟩ ⟨6144 + (h.val * 256 + d.val), by have := h.isLt; have := d.isLt; omega⟩)
      = W (ix4 b t h d) := by
  unfold packed
  pointwise
  repeat' split <;> try omega
  refine congrArg W (ix4_congr b t ?_ ?_)
  all_goals (dsimp only; omega)

theorem keysT_apply (z : FVec Ideal S8192x11264 .bf16) (b : Fin 2) (h : Fin 8) (k : Fin 128) (n : Fin 4096) :
    keysT z (ix4 b h k n) = z (ix2 ⟨b.val * 4096 + n.val, by have := b.isLt; have := n.isLt; omega⟩ ⟨5120 + (h.val * 128 + k.val), by have := h.isLt; have := k.isLt; omega⟩) := by
  unfold keysT
  pointwise

theorem idx : ∀ t : Fin cfg0.N, win0_0.index t = ![(grid0.coords t 0).val * 16 + (grid0.coords t 2).val, 6 + (grid0.coords t 1).val]
    ∧ win0_1.index t = ![(grid0.coords t 0).val, (grid0.coords t 1).val, 0, 0]
    ∧ win0_2.index t = ![(grid0.coords t 0).val, 24 + (grid0.coords t 1).val]
    ∧ win0_3.index t = ![0, 0] ∧ win0_4.index t = ![0, 0] ∧ win0_5.index t = ![0, 0] ∧ win0_6.index t = ![0, 0] ∧ win0_7.index t = ![0, 0]
    ∧ win0_8.index t = ![(grid0.coords t 0).val * 16 + (grid0.coords t 2).val, (grid0.coords t 1).val] :=
  (by decide +kernel : ∀ t : Fin grid0.N, _)

end Cert.Diff
-- ==== Proof.Diff.Reads.lean ====
module

public import proofs.«01_k».proof.Proof.Gen.KernelIdeal.Value
public import proofs.«01_k».proof.Proof.Diff.Entry
public import Idealize.ShloMosaic.Lib.StableHlo.RunRead
public import Idealize.ShloMosaic.Lib.Claim
public import Idealize.ShloMosaic.Lib.Pipeline.ValueKit

@[expose] public section

set_option maxRecDepth 16384

noncomputable section

namespace Cert.Diff

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

theorem entry_v11 : V m c main_v11 = packed (m ((c : Thread nD τ).loc main_arg0)) (m ((c : Thread nD τ).loc main_arg1)) (m ((c : Thread nD τ).loc main_arg2)) := by
  after_reads_simp
  rfl

theorem entry_v24 : V m c main_v24 = keysT (packed (m ((c : Thread nD τ).loc main_arg0)) (m ((c : Thread nD τ).loc main_arg1)) (m ((c : Thread nD τ).loc main_arg2))) := by
  after_reads_simp
  rfl

theorem cast_row (n : ℕ) (h1 : (⟨2, ![1, n]⟩ : Shape).ShapeCasts ⟨1, ![n]⟩) (h2 : (⟨1, ![n]⟩ : Shape).ShapeCasts ⟨2, ![1, n]⟩)
    (x : FVec Ideal ⟨2, ![1, n]⟩ .f32) : shapeCast ⟨2, ![1, n]⟩ (shapeCast ⟨1, ![n]⟩ x h1) h2 = x := by
  exact shapeCast_shapeCast x h1 h2

theorem entry_v13 : V m c main_v13 = m ((c : Thread nD τ).loc main_arg3) := by
  after_reads_simp
  exact cast_row _ _ _ _

theorem entry_v15 : V m c main_v15 = m ((c : Thread nD τ).loc main_arg4) := by
  after_reads_simp
  exact cast_row _ _ _ _

theorem entry_v17 : V m c main_v17 = m ((c : Thread nD τ).loc main_arg5) := by
  after_reads_simp
  exact cast_row _ _ _ _

theorem entry_v19 : V m c main_v19 = m ((c : Thread nD τ).loc main_arg6) := by
  after_reads_simp
  exact cast_row _ _ _ _

theorem entry_v21 : V m c main_v21 = m ((c : Thread nD τ).loc main_arg7) := by
  after_reads_simp
  exact cast_row _ _ _ _

end Cert.Diff
-- ==== Proof.Diff.Blocks.lean ====
module

public import proofs.«01_k».proof.Proof.Diff.Reads

@[expose] public section

set_option maxRecDepth 16384

noncomputable section

namespace Cert.Diff

open Cert.KernelIdeal Cert.KernelIdeal.Gen Idealize.ShloMosaic Idealize.ShloMosaic.TcCoe Idealize.SL.Sem

variable (m : (ℓ : Loc nD τ sig) → Buf (Elt Ideal) ℓ) (c : Dev nD)

theorem iblk3 (t : Fin cfg0.N) : (iblk m c 3 t : Vec Ideal S1x128 .f32) = m ((c : Thread nD τ).loc main_arg3) := by
  funext y
  rw [← entry_v13 m c]
  blk_ext! [iblk, idx t]

theorem iblk4 (t : Fin cfg0.N) : (iblk m c 4 t : Vec Ideal S1x128 .f32) = m ((c : Thread nD τ).loc main_arg4) := by
  funext y
  rw [← entry_v15 m c]
  blk_ext! [iblk, idx t]

theorem iblk5 (t : Fin cfg0.N) : (iblk m c 5 t : Vec Ideal S1x128 .f32) = m ((c : Thread nD τ).loc main_arg5) := by
  funext y
  rw [← entry_v17 m c]
  blk_ext! [iblk, idx t]

theorem iblk6 (t : Fin cfg0.N) : (iblk m c 6 t : Vec Ideal S1x128 .f32) = m ((c : Thread nD τ).loc main_arg6) := by
  funext y
  rw [← entry_v19 m c]
  blk_ext! [iblk, idx t]

theorem iblk7 (t : Fin cfg0.N) : (iblk m c 7 t : Vec Ideal S1x256 .f32) = m ((c : Thread nD τ).loc main_arg7) := by
  funext y
  rw [← entry_v21 m c]
  blk_ext! [iblk, idx t]

theorem iblk0 (t : Fin cfg0.N) (p : Fin 256) (e : Fin 512) : (iblk m c 0 t : Vec Ideal S256x512 .bf16) (ix2 p e)
    = V m c main_v11 (ix2 ⟨((grid0.coords t 0).val * 16 + (grid0.coords t 2).val) * 256 + p.val, by
        have : (grid0.coords t 0).val < 2 := (grid0.coords t 0).isLt
        have : (grid0.coords t 2).val < 16 := (grid0.coords t 2).isLt
        have := p.isLt; omega⟩
      ⟨(6 + (grid0.coords t 1).val) * 512 + e.val, by
        have : (grid0.coords t 1).val < 4 := (grid0.coords t 1).isLt
        have := e.isLt; omega⟩) := by
  blk_ext [iblk, idx t]

/-- A read of the keys' block, of any contents. -/
theorem read1 (W : (b : Ref sig .tc) → Buf (Elt Ideal) ((c : Thread nD τ).loc b)) (t : Fin cfg0.N) (y : S1x2x128x4096.Idx) :
    View.read (Elt Ideal) ((cfg0.win 1).blk t).view (W (Pipeline.arrRef spec0 1)) y = W main_v24 ((win0_1.blk t).view.emb y) := rfl

theorem iblk1 (t : Fin cfg0.N) (z : Fin 1) (cc : Fin 2) (k : Fin 128) (n : Fin 4096) : (iblk m c 1 t : Vec Ideal S1x2x128x4096 .bf16) (ix4 z cc k n)
    = V m c main_v24 (ix4 ⟨(grid0.coords t 0).val, by
        have : (grid0.coords t 0).val < 2 := (grid0.coords t 0).isLt
        omega⟩ ⟨(grid0.coords t 1).val * 2 + cc.val, by
        have : (grid0.coords t 1).val < 4 := (grid0.coords t 1).isLt
        have := cc.isLt; omega⟩ k n) := by
  unfold iblk
  refine (read1 c (V m c) t _).trans (congrArg (V m c main_v24) ?_)
  funext a
  fin_cases a
  all_goals apply Fin.ext
  all_goals blk_simp [idx t]
  all_goals dsimp only [ix4]

theorem iblk2 (t : Fin cfg0.N) (n : Fin 4096) (e : Fin 256) : (iblk m c 2 t : Vec Ideal S4096x256 .bf16) (ix2 n e)
    = V m c main_v11 (ix2 ⟨(grid0.coords t 0).val * 4096 + n.val, by
        have : (grid0.coords t 0).val < 2 := (grid0.coords t 0).isLt
        have := n.isLt; omega⟩
      ⟨(24 + (grid0.coords t 1).val) * 256 + e.val, by
        have : (grid0.coords t 1).val < 4 := (grid0.coords t 1).isLt
        have := e.isLt; omega⟩) := by
  blk_ext [iblk, idx t]

end Cert.Diff
-- ==== Proof.Diff.Finite.lean ====
module

public import proofs.«01_k».proof.Defs
public import proofs.«01_k».proof.Proof.Gen.KernelIdeal
public import Idealize.ShloMosaic.Lib.ReduceAll
public import Idealize.ShloMosaic.Lib.Pointwise

@[expose] public section

set_option maxRecDepth 16384

noncomputable section

namespace Cert.Diff

open Idealize.ShloMosaic Cert.Pre_finite

/-- The precondition's side conditions. -/
theorem preFacts : Cert.Pre_finite.Facts := by
  constructor
  all_goals first | decide | decide +kernel

theorem bits_inf : Ideal.ofBits .f32 0x7F800000#32 = (⊤ : EReal) := by
  simp [Ideal.ofBits, Ideal.ieee]

/-- An extended real whose absolute value is below `+∞` is a real. -/
theorem real_of_lt (x : EReal) (h : Ideal.cmp .olt (max x (-x)) ⊤ = 1#1) : x = (x.toReal : EReal) := by
  have h' : max x (-x) < ⊤ := by
    by_contra hc
    simp [Ideal.cmp, hc] at h
  refine (EReal.coe_toReal ?_ ?_).symm
  · rintro rfl
    exact absurd (lt_of_le_of_lt (le_max_left _ _) h') (lt_irrefl _)
  · rintro rfl
    exact absurd (lt_of_le_of_lt (le_max_right _ _) h') (lt_irrefl _)

/-- An array all of whose elements pass the comparison holds reals. -/
theorem all_real {s : Shape} {axes : List (Fin s.rank)} [Subsingleton S_.Idx] (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1) (i : s.Idx) :
    x i = ((x i).toReal : EReal) := by
  have h1 := Host.reduce_andi_all _ _ _ _ j h i
  have h2 : Ideal.cmp .olt (max (x i) (-x i)) (Ideal.ofBits .f32 0x7F800000#32) = 1#1 := h1
  rw [bits_inf] at h2
  exact real_of_lt _ h2

/-- The arguments the claim needs finite are finite. -/
structure AllReal (Q : FVec Ideal S2x4096x8x2x128 .f32) (K : FVec Ideal S2x4096x4x2x128 .f32) (W : FVec Ideal S2x4096x4x256 .f32)
    (a b e f : FVec Ideal S1x128 .f32) : Prop where
  q : ∀ x, Q x = ((Q x).toReal : EReal)
  k : ∀ x, K x = ((K x).toReal : EReal)
  v : ∀ x, W x = ((W x).toReal : EReal)
  a : ∀ x, a x = ((a x).toReal : EReal)
  b : ∀ x, b x = ((b x).toReal : EReal)
  e : ∀ x, e x = ((e x).toReal : EReal)
  f : ∀ x, f x = ((f x).toReal : EReal)

instance : Subsingleton S_.Idx := ⟨fun a b => funext fun i => i.elim0⟩

/-- The precondition, read. -/
theorem pre_real [Cert.Pre_finite.Facts] (Q : FVec Ideal S2x4096x8x2x128 .f32) (K : FVec Ideal S2x4096x4x2x128 .f32) (W : FVec Ideal S2x4096x4x256 .f32)
    (a b e f : FVec Ideal S1x128 .f32) (g : FVec Ideal S1x256 .f32)
    (h : Cert.Pre_finite.fn (F := Ideal) Q K W a b e f g = fun _ => 1#1) : AllReal Q K W a b e f := by
  have h0 := congrFun h ix0
  simp only [Cert.Pre_finite.fn, Cert.Pre_finite.fn_part1] at h0
  obtain ⟨h0, hf⟩ := IntOp.andi_eq_one.1 h0
  obtain ⟨h0, he⟩ := IntOp.andi_eq_one.1 h0
  obtain ⟨h0, hb⟩ := IntOp.andi_eq_one.1 h0
  obtain ⟨h0, ha⟩ := IntOp.andi_eq_one.1 h0
  obtain ⟨h0, hv⟩ := IntOp.andi_eq_one.1 h0
  obtain ⟨hq, hk⟩ := IntOp.andi_eq_one.1 h0
  exact ⟨all_real Q _ _ _ _ hq, all_real K _ _ _ _ hk, all_real W _ _ _ _ hv, all_real a _ _ _ _ ha, all_real b _ _ _ _ hb,
    all_real e _ _ _ _ he, all_real f _ _ _ _ hf⟩

end Cert.Diff
-- ==== Proof.Diff.Final.lean ====
module

public import proofs.«01_k».proof.Proof.Diff.Point
public import proofs.«01_k».proof.Proof.Diff.Blocks
public import proofs.«01_k».proof.Proof.Diff.Finite

@[expose] public section

set_option maxRecDepth 16384

noncomputable section

namespace Cert.Diff

open Cert.KernelIdeal Cert.KernelIdeal.Gen Idealize.ShloMosaic Idealize.ShloMosaic.TcCoe Idealize.SL.Sem

variable (m : (ℓ : Loc nD τ sig) → Buf (Elt Ideal) ℓ) (c : Dev nD)

/-- The reference's result over the kernel's arguments. -/
abbrev refOf : FVec Ideal S8192x2048 .bf16 :=
  rAll (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

variable (hf : AllReal (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)))

theorem lam_fin (a b e f : FVec Ideal S1x128 .f32) (ha : ∀ x, a x = ((a x).toReal : EReal)) (hb : ∀ x, b x = ((b x).toReal : EReal))
    (he : ∀ x, e x = ((e x).toReal : EReal)) (hf : ∀ x, f x = ((f x).toReal : EReal)) : ∃ lam : ℝ, lamv a b e f = (lam : EReal) := by
  obtain ⟨lam, h⟩ := lam_real (fun k => (a (ix2 0 k)).toReal) (fun k => (b (ix2 0 k)).toReal) (fun k => (e (ix2 0 k)).toReal) (fun k => (f (ix2 0 k)).toReal)
  refine ⟨lam, ?_⟩
  rw [← h]
  unfold lamv
  simp only [← ha, ← hb, ← he, ← hf]

include hf in
theorem point (t : Fin cfg0.N) (y : S256x512.Idx) :
    outsAt0 m c t y = refOf m c (((cfg0.win 8).blk t).view.emb y) := by
  have hb : (grid0.coords t 0).val < 2 := (grid0.coords t 0).isLt
  have hg : (grid0.coords t 1).val < 4 := (grid0.coords t 1).isLt
  have hq : (grid0.coords t 2).val < 16 := (grid0.coords t 2).isLt
  obtain ⟨p, e, rfl⟩ : ∃ (p : Fin 256) (e : Fin 512), y = ix2 p e := ⟨y 0, y 1, by idx_ext⟩
  have hp := p.isLt
  have he := e.isLt
  obtain ⟨rr, d, hrd⟩ : ∃ (rr : Fin 2) (d : Fin 256), e.val = rr.val * 256 + d.val :=
    ⟨⟨e.val / 256, by omega⟩, ⟨e.val % 256, by omega⟩, by dsimp only; omega⟩
  have hd := d.isLt
  have hrr := rr.isLt
  rw [show e = ⟨rr.val * 256 + d.val, by omega⟩ from Fin.ext hrd]
  unfold outsAt0
  rw [iblk3, iblk4, iblk5, iblk6, iblk7]
  refine (point_core _ _ _ _ _ _ _ _ _ _ _ _ _ _ _ _ _ _ _ _ _ _ _ _ _ _ _ _ _ _
    (m ((c : Thread nD τ).loc main_arg0)) (m ((c : Thread nD τ).loc main_arg1)) (m ((c : Thread nD τ).loc main_arg2)) _ _ _ hf.q hf.k hf.v
    (lam_fin _ _ _ _ hf.a hf.b hf.e hf.f)
    ⟨(grid0.coords t 0).val, hb⟩ ⟨(grid0.coords t 1).val, hg⟩ rr p d ⟨(grid0.coords t 2).val * 256 + p.val, by omega⟩ rfl ?_ ?_ ?_).trans ?_
  · intro cc j
    rw [iblk0, entry_v11]
    refine Eq.trans (congrArg _ ?_) (packed_q _ _ _ _ _ _ _ _)
    idx_ext <;> (dsimp only; omega)
  · intro cc j n
    rw [iblk1, entry_v24, keysT_apply]
    refine Eq.trans (congrArg _ ?_) (packed_k _ _ _ _ _ _ _ _)
    idx_ext <;> (dsimp only; omega)
  · intro n e
    rw [iblk2, entry_v11]
    refine Eq.trans (congrArg _ ?_) (packed_v _ _ _ _ _ _ _)
    idx_ext <;> (dsimp only; omega)
  · blk_ext [idx t]

include hf in
theorem final : (dats m 0 c).arrAt 8 cfg0.N = refOf m c := by
  refine (dats m 0 c).arrAt_eq_of_covers 8 _ (by decide +kernel) fun t _ y => ?_
  blk_simp
  rw [after0_8]
  exact point m c hf t y

end Cert.Diff
-- ==== Proof.Mlp.Norm.lean ====
module

public import Idealize.ShloMosaic.Lib.Pointwise

@[expose] public section

noncomputable section

namespace Cert.Mlp

open Idealize.ShloMosaic

/-- One row divided by its root mean square (with the small constant added under the root), times the weights. -/
def normRow (x g : Fin 4096 → EReal) (k : Fin 4096) : EReal :=
  x k * Ideal.rsqrt (Ideal.div (∑ l : Fin 4096, x l * x l) (Ideal.ofBits .f32 0x45800000#32) + Ideal.ofBits .f32 0x358637BD#32) * g k

/-- One entry of the up projection: the normalised row against a column, the negative part cut off, squared. -/
def upEntry (x g w : Fin 4096 → EReal) : EReal :=
  max (∑ k : Fin 4096, normRow x g k * w k) 0 * max (∑ k : Fin 4096, normRow x g k * w k) 0

/-- A row number as batch and position. -/
def flatRow (b : Fin 2) (t : Fin 4096) : Fin 8192 := ⟨b.val * 4096 + t.val, by have := b.isLt; have := t.isLt; omega⟩

end Cert.Mlp
-- ==== Proof.Mlp.Ref2.lean ====
module

public import proofs.«01_k».proof.Proof.Gen.Reference2Ideal.Run
public import proofs.«01_k».proof.Proof.Mlp.Norm

@[expose] public section

set_option maxRecDepth 16384

noncomputable section

namespace Cert.Mlp

open Cert.Reference2Ideal Cert.Reference2Ideal.Gen Idealize.ShloMosaic Idealize.ShloMosaic.TcCoe Idealize.SL.Sem

/-- The reference's normalisation. -/
def norm2 (x : FVec Ideal S2x4096x4096 .f32) (g : FVec Ideal S4096 .f32) : FVec Ideal S2x4096x4096 .f32 :=
  mulf (mulf x (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf x x) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x358637BD#32)))))) (broadcastInDim S2x4096x4096 ![0, 1, 2] bcast_S1x1x4096_S2x4096x4096_0_1_2 (broadcastInDim S1x1x4096 ![2] bcast_S4096_S1x1x4096_2 g))

theorem norm2_apply (x : FVec Ideal S2x4096x4096 .f32) (g : FVec Ideal S4096 .f32) (b : Fin 2) (t k : Fin 4096) :
    norm2 x g (ix3 b t k) = normRow (fun k => x (ix3 b t k)) (fun k => g (ix1 k)) k := by
  unfold norm2 normRow
  pointwise

/-- The up projection's reference. -/
def ref2 (a0 : FVec Ideal S2x4096x4096 .f32) (a1 : FVec Ideal S1x4096 .f32) (a2 : FVec Ideal S1x4096x16384 .f32) : FVec Ideal S8192x16384 .bf16 :=
  truncf .bf16 (shapeCast _ (mulf (maximumf (Host.dotGeneral dot_S2x4096x4096_S4096x16384_S2x4096x16384_2_0_01_1_n_n none (norm2 a0 (shapeCast _ a1 shapeCasts_S1x4096_S4096)) (shapeCast _ a2 shapeCasts_S1x4096x16384_S4096x16384)) (broadcastInDim S2x4096x16384 ![] bcast_S_S2x4096x16384 (constant S_ .f32 0x00000000#32)))
    (maximumf (Host.dotGeneral dot_S2x4096x4096_S4096x16384_S2x4096x16384_2_0_01_1_n_n none (norm2 a0 (shapeCast _ a1 shapeCasts_S1x4096_S4096)) (shapeCast _ a2 shapeCasts_S1x4096x16384_S4096x16384)) (broadcastInDim S2x4096x16384 ![] bcast_S_S2x4096x16384 (constant S_ .f32 0x00000000#32)))) shapeCasts_S2x4096x16384_S8192x16384) bitsLt_bf16_f32

theorem ref2_apply (a0 : FVec Ideal S2x4096x4096 .f32) (a1 : FVec Ideal S1x4096 .f32) (a2 : FVec Ideal S1x4096x16384 .f32)
    (b : Fin 2) (t : Fin 4096) (n : Fin 16384) :
    ref2 a0 a1 a2 (ix2 (flatRow b t) n) = upEntry (fun k => a0 (ix3 b t k)) (fun k => a1 (ix2 0 k)) (fun k => a2 (ix3 0 k n)) := by
  unfold ref2 flatRow upEntry
  pointwise [norm2_apply]

end Cert.Mlp
-- ==== Proof.Mlp.UpRows.lean ====
module

public import proofs.«01_k».proof.Proof.Gen.Kernel2Ideal.Value
public import proofs.«01_k».proof.Proof.Mlp.Ref2
public import Idealize.ShloMosaic.Lib.Pipeline.ValueKit
public import Idealize.ShloMosaic.Lib.StableHlo.RunRead
public import Idealize.ShloMosaic.Lib.WritesUnit
public import Idealize.ShloMosaic.Lib.VecWindow

@[expose] public section

set_option maxRecDepth 16384

noncomputable section

namespace Cert.Mlp.K2

open Cert.Kernel2Ideal Cert.Kernel2Ideal.Gen Idealize.ShloMosaic Idealize.ShloMosaic.TcCoe Idealize.SL.Sem

theorem pay1_apply (v : FVec Ideal S64x4096 .f32) (g : FVec Ideal S1x4096 .f32) (p : Fin 64) (k : Fin 4096) :
    k0_pay1 (F := Ideal) v g (ix2 p k) = normRow (fun k => v (ix2 p k)) (fun k => g (ix2 0 k)) k := by
  unfold k0_pay1 normRow
  pointwise

theorem pay2_apply (h : FVec Ideal S512x4096 .bf16) (w : FVec Ideal S4096x1024 .bf16) (p : Fin 512) (q : Fin 1024) :
    k0_pay2 (F := Ideal) h w (ix2 p q) = max (∑ k : Fin 4096, h (ix2 p k) * w (ix2 k q)) 0 * max (∑ k : Fin 4096, h (ix2 p k) * w (ix2 k q)) 0 := by
  unfold k0_pay2
  pointwise

variable (𝒱 : Variants) (c : Dev nD) (bd : Option 𝒱.V) (i : grid0.Coords)
  (arg2 : Memref sig .tc .vmem S512x4096 .f32) (harg2 : arg2.IsWhole) (arg3 : Memref sig .tc .vmem S1x4096 .f32) (harg3 : arg3.IsWhole)
  (arg4 : Memref sig .tc .vmem S4096x1024 .bf16) (harg4 : arg4.IsWhole) (arg5 : Memref sig .tc .vmem S512x1024 .bf16) (harg5 : arg5.IsWhole)
  (arg6 : Memref sig .tc .vmem S512x4096 .bf16) (harg6 : arg6.IsWhole) (k0_h1 : k0_cond1 i = 1#1)
  (X2 : BufTy.Contents (Elt Ideal) arg2.view.ty) (X3 : BufTy.Contents (Elt Ideal) arg3.view.ty)

theorem tripL_eq (k : Fin k0_t1_loop.trips) :
    tripL_k0_t1 (F := Ideal) 𝒱 c bd i arg2 harg2 arg3 harg3 arg4 harg4 arg5 harg5 arg6 harg6 k0_h1 X2 X3 k
      = [⟨Rect.unit (s := S512x4096) (k0_off1 k) S64x4096.size (k0_off1_inb i k k0_h1),
          k0_pay1 (F := Ideal) (View.readAt (Elt Ideal) arg2.view (Rect.unit (s := S512x4096) (k0_off1 k) S64x4096.size (k0_off1_inb i k k0_h1)).toLoadRect X2)
            (View.readAt (Elt Ideal) arg3.view (Rect.unit (s := S1x4096) ![0, 0] S1x4096.size inb_S1x4096_S1x4096_0_0).toLoadRect X3)⟩] := by
  unfold tripL_k0_t1 trip_k0_t1
  dsimp only

/-- After `n` trips the first `64 n` rows of the scratch are the normalised rows of the block. -/
theorem rows (f : BufTy.Contents (Elt Ideal) VS0_0.ty) (n : ℕ) (hn : n ≤ k0_t1_loop.trips) (r : Fin 512) (hr : r.val < 64 * n) (k : Fin 4096) :
    VS0_0.read (Elt Ideal) (VS0_0.writes (Elt Ideal) f (pb_k0_t1 (F := Ideal) 𝒱 c bd i arg2 harg2 arg3 harg3 arg4 harg4 arg5 harg5 arg6 harg6 k0_h1 X2 X3 n)) (ix2 r k)
      = normRow (fun k => arg2.view.read (Elt Ideal) X2 (ix2 r k)) (fun k => arg3.view.read (Elt Ideal) X3 (ix2 0 k)) k := by
  induction n with
  | zero => omega
  | succ n ih =>
    rw [pb_k0_t1_succ 𝒱 c bd i arg2 harg2 arg3 harg3 arg4 harg4 arg5 harg5 arg6 harg6 k0_h1 X2 X3 ⟨n, hn⟩, tripL_eq, List.singleton_append]
    by_cases h : r.val < 64 * n
    · exact (View.read_writes_cons_rows_of_not_mem VS0_0 f _ _ _ (ix2 r k) (k0_off1_eq ⟨n, hn⟩) (W := 64) rfl (Or.inl h)).trans
        (ih (by omega) h)
    · have hlt : r.val - 64 * n < 64 := by omega
      refine (View.read_writes_cons_rows_of_mem VS0_0 f _ _ _ (ix2 r k) (ix2 (⟨r.val - 64 * n, hlt⟩ : Fin 64) k) (k0_off1_eq ⟨n, hn⟩) ?_ rfl).trans ?_
      · show r.val = 64 * n + (r.val - 64 * n)
        omega
      · refine (pay1_apply _ _ _ k).trans ?_
        have e2 : ∀ k, View.readAt (Elt Ideal) arg2.view (Rect.unit (s := S512x4096) (k0_off1 ⟨n, hn⟩) S64x4096.size (k0_off1_inb i ⟨n, hn⟩ k0_h1)).toLoadRect X2 (ix2 (⟨r.val - 64 * n, hlt⟩ : Fin 64) k)
            = arg2.view.read (Elt Ideal) X2 (ix2 r k) := fun k => by
          refine congrArg (arg2.view.read (Elt Ideal) X2) (funext fun a => Fin.ext ?_)
          have h := congrFun (k0_off1_eq ⟨n, hn⟩) a
          fin_cases a
          · show (k0_off1 ⟨n, hn⟩ 0) + 1 * (r.val - 64 * n) = r.val
            have h' : k0_off1 ⟨n, hn⟩ 0 = 64 * n := h
            omega
          · show (k0_off1 ⟨n, hn⟩ 1) + 1 * k.val = k.val
            have h' : k0_off1 ⟨n, hn⟩ 1 = 0 := h
            omega
        have e3 : ∀ k, View.readAt (Elt Ideal) arg3.view (Rect.unit (s := S1x4096) ![0, 0] S1x4096.size inb_S1x4096_S1x4096_0_0).toLoadRect X3 (ix2 0 k)
            = arg3.view.read (Elt Ideal) X3 (ix2 0 k) := fun k => congrFun (View.readAt_full arg3.view X3 inb_S1x4096_S1x4096_0_0) _
        exact congrArg₂ (fun x g => normRow x g k) (funext e2) (funext e3)

end Cert.Mlp.K2
-- ==== Proof.Mlp.Up.lean ====
module

public import proofs.«01_k».proof.Proof.Gen.Kernel2Ideal.Value
public import proofs.«01_k».proof.Proof.Mlp.Ref2
public import proofs.«01_k».proof.Proof.Mlp.UpRows
public import Idealize.ShloMosaic.Lib.Pipeline.ValueKit
public import Idealize.ShloMosaic.Lib.StableHlo.RunRead
public import Idealize.ShloMosaic.Lib.WritesUnit

@[expose] public section

set_option maxRecDepth 16384

noncomputable section

namespace Cert.Mlp.K2

open Cert.Kernel2Ideal Cert.Kernel2Ideal.Gen Idealize.ShloMosaic Idealize.ShloMosaic.TcCoe Idealize.SL.Sem

theorem trips_eq : k0_t1_loop.trips = 8 := by decide +kernel

theorem idx : ∀ t : Fin cfg0.N, win0_0.index t = ![t.val / 16, 0] ∧ win0_1.index t = ![0, 0] ∧ win0_2.index t = ![0, t.val % 16]
    ∧ win0_3.index t = ![t.val / 16, t.val % 16] :=
  (by decide +kernel : ∀ t : Fin grid0.N, _)

section Cases

variable (c : Dev nD) (i : grid0.Coords)
  (arg2 : Memref sig .tc .vmem S512x4096 .f32) (harg2 : arg2.IsWhole) (arg3 : Memref sig .tc .vmem S1x4096 .f32) (harg3 : arg3.IsWhole)
  (arg4 : Memref sig .tc .vmem S4096x1024 .bf16) (harg4 : arg4.IsWhole) (arg5 : Memref sig .tc .vmem S512x1024 .bf16) (harg5 : arg5.IsWhole)
  (x0 : FVec Ideal S512x4096 .f32) (x1 : FVec Ideal S1x4096 .f32) (x2 : FVec Ideal S4096x1024 .bf16)

theorem filled (hc0 : cond0_0 i) (r : Fin 512) (k : Fin 4096) :
    VS0_0.read (Elt Ideal) (VS0_0.writes (Elt Ideal) VS0_0.junk (pb_k0_t1 (F := Ideal) Variants.none c none i arg2 harg2 arg3 harg3 arg4 harg4 arg5 harg5 scM0_0 (Memref.isWhole_whole _) hc0 (harg2.unread x0) (harg3.unread x1) k0_t1_loop.trips)) (ix2 r k)
      = normRow (fun k => x0 (ix2 r k)) (fun k => x1 (ix2 0 k)) k := by
  have hr := r.isLt
  refine (rows Variants.none c none i arg2 harg2 arg3 harg3 arg4 harg4 arg5 harg5 scM0_0 (Memref.isWhole_whole _) hc0 _ _ _ _ le_rfl r (by rw [trips_eq]; omega) k).trans ?_
  rw [harg2.read_unread, harg3.read_unread]

/-- The scratch after a point that fills it. -/
theorem sout_A (hc0 : cond0_0 i) (r : Fin 512) (k : Fin 4096) :
    sout0_A_0 (F := Ideal) c i arg2 harg2 arg3 harg3 arg4 harg4 arg5 harg5 scM0_0 (Memref.isWhole_whole _) hc0 x0 x1 x2 (ix2 r k)
      = normRow (fun k => x0 (ix2 r k)) (fun k => x1 (ix2 0 k)) k := by
  refine Eq.trans ?_ (filled c i arg2 harg2 arg3 harg3 arg4 harg4 arg5 harg5 x0 x1 hc0 r k)
  unfold sout0_A_0 kernelRun0_A
  rfl

theorem out_A (hc0 : cond0_0 i) (p : Fin 512) (q : Fin 1024) :
    out0_A_3 (F := Ideal) c i arg2 harg2 arg3 harg3 arg4 harg4 arg5 harg5 scM0_0 (Memref.isWhole_whole _) hc0 x0 x1 x2 (ix2 p q)
      = upEntry (fun k => x0 (ix2 p k)) (fun k => x1 (ix2 0 k)) (fun k => x2 (ix2 k q)) := by
  frame_out
  refine (pay2_apply _ _ p q).trans ?_
  have h : ∀ k : Fin 4096, ((View.whole cc0_scratch0).readCov (pb_k0_t1 (F := Ideal) Variants.none c none i arg2 harg2 arg3 harg3 arg4 harg4 arg5 harg5 scM0_0 (Memref.isWhole_whole _) hc0 (harg2.unread x0) (harg3.unread x1) k0_t1_loop.trips)
      (Rect.unit (s := S512x4096) ![0, 0] ![512, 4096] inb_S512x4096_S512x4096_0_0).toLoadRect : FVec Ideal S512x4096 .bf16) (ix2 p k) = normRow (fun k => x0 (ix2 p k)) (fun k => x1 (ix2 0 k)) k := fun k =>
    (congrFun (View.readAt_full VS0_0 _ inb_S512x4096_S512x4096_0_0) _).trans (filled c i arg2 harg2 arg3 harg3 arg4 harg4 arg5 harg5 x0 x1 hc0 p k)
  unfold upEntry
  exact congrArg₂ (· * ·) (congrArg (max · 0) (Finset.sum_congr rfl fun k _ => congrArg (· * x2 (ix2 k q)) (h k)))
    (congrArg (max · 0) (Finset.sum_congr rfl fun k _ => congrArg (· * x2 (ix2 k q)) (h k)))

theorem out_B (hc0 : ¬cond0_0 i) (xs0 : FVec Ideal S512x4096 .bf16) (p : Fin 512) (q : Fin 1024)
    (hs : ∀ k, xs0 (ix2 p k) = normRow (fun k => x0 (ix2 p k)) (fun k => x1 (ix2 0 k)) k) :
    out0_B_3 (F := Ideal) c i arg2 harg2 arg3 harg3 arg4 harg4 arg5 harg5 scM0_0 (Memref.isWhole_whole _) hc0 x0 x1 x2 xs0 (ix2 p q)
      = upEntry (fun k => x0 (ix2 p k)) (fun k => x1 (ix2 0 k)) (fun k => x2 (ix2 k q)) := by
  frame_out
  refine (pay2_apply _ _ p q).trans ?_
  have e : scM0_0.view.read (Elt Ideal) (Memref.IsWhole.unread (Val := Elt Ideal) (m := scM0_0) (Memref.isWhole_whole _) xs0) = xs0 :=
    Memref.IsWhole.read_unread (Val := Elt Ideal) (m := scM0_0) (Memref.isWhole_whole _) xs0
  have h : ∀ k : Fin 4096, (scM0_0.view.read (Elt Ideal) (Memref.IsWhole.unread (Val := Elt Ideal) (m := scM0_0) (Memref.isWhole_whole _) xs0) : FVec Ideal S512x4096 .bf16) (ix2 p k)
      = normRow (fun k => x0 (ix2 p k)) (fun k => x1 (ix2 0 k)) k := fun k => (congrFun e _).trans (hs k)
  unfold upEntry
  exact congrArg₂ (· * ·) (congrArg (max · 0) (Finset.sum_congr rfl fun k _ => congrArg (· * x2 (ix2 k q)) (h k)))
    (congrArg (max · 0) (Finset.sum_congr rfl fun k _ => congrArg (· * x2 (ix2 k q)) (h k)))

end Cases

variable (m : (ℓ : Loc nD τ sig) → Buf (Elt Ideal) ℓ) (c : Dev nD)

/-- The residual stream, its rows in one axis. -/
def flatX (a : FVec Ideal S2x4096x4096 .f32) : FVec Ideal S8192x4096 .f32 :=
  shapeCast S8192x4096 a shapeCasts_S2x4096x4096_S8192x4096

/-- The norm's weights as a row. -/
def flatG (a : FVec Ideal S1x4096 .f32) : FVec Ideal S1x4096 .f32 :=
  shapeCast S1x4096 (shapeCast S4096 a shapeCasts_S1x4096_S4096) shapeCasts_S4096_S1x4096

/-- The weights without their unit axis. -/
def flatW (a : FVec Ideal S1x4096x16384 .f32) : FVec Ideal S4096x16384 .bf16 :=
  truncf .bf16 (shapeCast S4096x16384 a shapeCasts_S1x4096x16384_S4096x16384) bitsLt_bf16_f32

theorem flatX_apply (a : FVec Ideal S2x4096x4096 .f32) (b : Fin 2) (t n : Fin 4096) : flatX a (ix2 (flatRow b t) n) = a (ix3 b t n) := by
  unfold flatX flatRow
  pointwise

theorem flatG_apply (a : FVec Ideal S1x4096 .f32) (k : Fin 4096) : flatG a (ix2 0 k) = a (ix2 0 k) := by
  unfold flatG
  pointwise

theorem flatW_apply (a : FVec Ideal S1x4096x16384 .f32) (k : Fin 4096) (n : Fin 16384) : flatW a (ix2 k n) = a (ix3 0 k n) := by
  unfold flatW
  pointwise

open StableHlo in
theorem entry0 : V m c main_v0 = flatX (m ((c : Thread nD τ).loc main_arg0)) := by
  after_reads_simp; rfl

open StableHlo in
theorem entry2 : V m c main_v2 = flatG (m ((c : Thread nD τ).loc main_arg1)) := by
  after_reads_simp; rfl

open StableHlo in
theorem entry4 : V m c main_v4 = flatW (m ((c : Thread nD τ).loc main_arg2)) := by
  after_reads_simp; rfl

theorem read0 (t : Fin cfg0.N) (p : Fin 512) (k : Fin 4096) (b : Fin 2) (s : Fin 4096) (h : b.val * 4096 + s.val = t.val / 16 * 512 + p.val) :
    (iblk m c 0 t : FVec Ideal S512x4096 .f32) (ix2 p k) = (m ((c : Thread nD τ).loc main_arg0) : FVec Ideal S2x4096x4096 .f32) (ix3 b s k) := by
  obtain ⟨e0, e1, e2, e3⟩ := idx t
  refine Eq.trans ?_ (flatX_apply _ b s k)
  rw [← entry0]
  blk_simp [iblk, e0]
  refine congrArg (V m c main_v0) ?_
  funext a
  fin_cases a
  all_goals apply Fin.ext
  all_goals blk_simp [e0]
  all_goals (dsimp only [ix2, flatRow]; try omega)

theorem read1 (t : Fin cfg0.N) (k : Fin 4096) :
    (iblk m c 1 t : FVec Ideal S1x4096 .f32) (ix2 0 k) = (m ((c : Thread nD τ).loc main_arg1) : FVec Ideal S1x4096 .f32) (ix2 0 k) := by
  obtain ⟨e0, e1, e2, e3⟩ := idx t
  refine Eq.trans ?_ (flatG_apply _ k)
  rw [← entry2]
  blk_simp [iblk, e1]
  refine congrArg (V m c main_v2) ?_
  funext a
  fin_cases a
  all_goals apply Fin.ext
  all_goals blk_simp [e1]
  all_goals (dsimp only [ix2, flatRow]; try omega)

theorem read2 (t : Fin cfg0.N) (k : Fin 4096) (q : Fin 1024) (n : Fin 16384) (h : n.val = t.val % 16 * 1024 + q.val) :
    (iblk m c 2 t : FVec Ideal S4096x1024 .bf16) (ix2 k q) = (m ((c : Thread nD τ).loc main_arg2) : FVec Ideal S1x4096x16384 .f32) (ix3 0 k n) := by
  obtain ⟨e0, e1, e2, e3⟩ := idx t
  refine Eq.trans ?_ (flatW_apply _ k n)
  rw [← entry4]
  blk_simp [iblk, e2]
  refine congrArg (V m c main_v4) ?_
  funext a
  fin_cases a
  all_goals apply Fin.ext
  all_goals blk_simp [e2]
  all_goals (dsimp only [ix2, flatRow]; try omega)

/-- Block `t`'s row `p` of the residual stream is that of every point with the same row of blocks. -/
theorem row_eq (t : Fin cfg0.N) (p : Fin 512) : ∃ (b : Fin 2) (s : Fin 4096), b.val * 4096 + s.val = t.val / 16 * 512 + p.val := by
  have := p.isLt
  have ht : t.val < 256 := t.isLt
  exact ⟨⟨(t.val / 16 * 512 + p.val) / 4096, by omega⟩, ⟨(t.val / 16 * 512 + p.val) % 4096, by omega⟩, by dsimp only; omega⟩

/-- The normalised row of the arguments. -/
def argRow (b : Fin 2) (s k : Fin 4096) : EReal :=
  normRow (fun k => (m ((c : Thread nD τ).loc main_arg0) : FVec Ideal S2x4096x4096 .f32) (ix3 b s k))
    (fun k => (m ((c : Thread nD τ).loc main_arg1) : FVec Ideal S1x4096 .f32) (ix2 0 k)) k

theorem blk_row (t : Fin cfg0.N) (p : Fin 512) (b : Fin 2) (s : Fin 4096) (h : b.val * 4096 + s.val = t.val / 16 * 512 + p.val) (k : Fin 4096) :
    normRow (fun k => (iblk m c 0 t : FVec Ideal S512x4096 .f32) (ix2 p k)) (fun k => (iblk m c 1 t : FVec Ideal S1x4096 .f32) (ix2 0 k)) k = argRow m c b s k :=
  congrArg₂ (fun x g => normRow x g k) (funext fun k => read0 m c t p k b s h) (funext fun k => read1 m c t k)

/-- After every point the scratch holds the normalised rows of its row of blocks. -/
theorem scratch (n : ℕ) (hn : n < cfg0.N) (p : Fin 512) (b : Fin 2) (s : Fin 4096) (h : b.val * 4096 + s.val = n / 16 * 512 + p.val) (k : Fin 4096) :
    ((outsAt0 m c n hn).2 : FVec Ideal S512x4096 .bf16) (ix2 p k) = argRow m c b s k := by
  induction n with
  | zero =>
    rw [show outsAt0 m c 0 hn = _ from outsAt0_A m c ⟨0, hn⟩ (Nat.zero_mod _)]
    exact (sout_A c _ _ _ _ _ _ _ _ _ _ _ _ _ p k).trans (blk_row m c ⟨0, hn⟩ p b s h k)
  | succ n ih =>
    by_cases h0 : (n + 1) % 16 = 0
    · rw [show outsAt0 m c (n + 1) hn = _ from outsAt0_A m c ⟨n + 1, hn⟩ h0]
      exact (sout_A c _ _ _ _ _ _ _ _ _ _ _ _ _ p k).trans (blk_row m c ⟨n + 1, hn⟩ p b s h k)
    · rw [show outsAt0 m c (n + 1) hn = _ from outsAt0_B m c ⟨n + 1, hn⟩ h0]
      exact ih (Nat.lt_of_succ_lt hn) (by omega)

/-- The reference at the call's arguments. -/
def refOf : FVec Ideal S8192x16384 .bf16 :=
  ref2 (m ((c : Thread nD τ).loc main_arg0)) (m ((c : Thread nD τ).loc main_arg1)) (m ((c : Thread nD τ).loc main_arg2))

theorem entry_eq (t : Fin cfg0.N) (p : Fin 512) (q : Fin 1024) :
    upEntry (fun k => (iblk m c 0 t : FVec Ideal S512x4096 .f32) (ix2 p k)) (fun k => (iblk m c 1 t : FVec Ideal S1x4096 .f32) (ix2 0 k)) (fun k => (iblk m c 2 t : FVec Ideal S4096x1024 .bf16) (ix2 k q))
      = refOf m c (((cfg0.win 3).blk t).view.emb (ix2 p q)) := by
  have hp := p.isLt
  have hq := q.isLt
  have ht : t.val < 256 := t.isLt
  obtain ⟨b, s, hbs⟩ := row_eq t p
  obtain ⟨n, hn⟩ : ∃ n : Fin 16384, n.val = t.val % 16 * 1024 + q.val := ⟨⟨t.val % 16 * 1024 + q.val, by omega⟩, rfl⟩
  obtain ⟨e0, e1, e2, e3⟩ := idx t
  have hy : ((cfg0.win 3).blk t).view.emb (ix2 p q) = (ix2 (flatRow b s) n : S8192x16384.Idx) := by
    funext a
    fin_cases a
    all_goals apply Fin.ext
    all_goals blk_simp [e3]
    all_goals (dsimp only [ix2, flatRow]; try omega)
  refine Eq.trans ?_ ((congrArg (refOf m c) hy).trans (ref2_apply _ _ _ b s n)).symm
  rw [funext fun k => read0 m c t p k b s hbs, funext fun k => read1 m c t k, funext fun k => read2 m c t k q n hn]

theorem final : (dats m 0 c).arrAt 3 cfg0.N = refOf m c := by
  refine (dats m 0 c).arrAt_eq_of_covers 3 _ (by decide +kernel) fun t _ y => ?_
  blk_simp
  rw [after0_3]
  obtain ⟨p, q, rfl⟩ : ∃ (p : Fin 512) (q : Fin 1024), y = ix2 p q := ⟨y 0, y 1, by idx_ext⟩
  refine Eq.trans ?_ (entry_eq m c t p q)
  by_cases h0 : t.val % 16 = 0
  · rw [outsAt0_A m c t h0]
    dsimp only
    exact out_A c (grid0.coords t) (ms0_0 t) (hs0_0 t) (ms0_1 t) (hs0_1 t) (ms0_2 t) (hs0_2 t) (ms0_3 t) (hs0_3 t) (iblk m c 0 t) (iblk m c 1 t) (iblk m c 2 t) ((hcond0_0 t).mpr h0) p q
  · rw [outsAt0_B m c t h0]
    dsimp only
    have ht : t.val < 256 := t.isLt
    obtain ⟨b, s, hbs⟩ := row_eq t p
    refine out_B c (grid0.coords t) (ms0_0 t) (hs0_0 t) (ms0_1 t) (hs0_1 t) (ms0_2 t) (hs0_2 t) (ms0_3 t) (hs0_3 t) (iblk m c 0 t) (iblk m c 1 t) (iblk m c 2 t) (fun h => h0 ((hcond0_0 t).mp h)) _ p q fun k => ?_
    rw [blk_row m c t p b s hbs k]
    exact scratch m c _ _ p b s (by omega) k

end Cert.Mlp.K2
-- ==== Proof.Mlp.Ref3.lean ====
module

public import proofs.«01_k».proof.Proof.Gen.Reference3Ideal.Run
public import proofs.«01_k».proof.Proof.Mlp.Norm

@[expose] public section

set_option maxRecDepth 16384

noncomputable section

namespace Cert.Mlp

open Cert.Reference3Ideal Cert.Reference3Ideal.Gen Idealize.ShloMosaic Idealize.ShloMosaic.TcCoe Idealize.SL.Sem

/-- The reference's normalisation. -/
def norm3 (x : FVec Ideal S2x4096x4096 .f32) (g : FVec Ideal S4096 .f32) : FVec Ideal S2x4096x4096 .f32 :=
  mulf (mulf x (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf x x) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x358637BD#32)))))) (broadcastInDim S2x4096x4096 ![0, 1, 2] bcast_S1x1x4096_S2x4096x4096_0_1_2 (broadcastInDim S1x1x4096 ![2] bcast_S4096_S1x1x4096_2 g))

theorem norm3_apply (x : FVec Ideal S2x4096x4096 .f32) (g : FVec Ideal S4096 .f32) (b : Fin 2) (t k : Fin 4096) :
    norm3 x g (ix3 b t k) = normRow (fun k => x (ix3 b t k)) (fun k => g (ix1 k)) k := by
  unfold norm3 normRow
  pointwise

/-- The residual stream plus the down projection. -/
def sum3 (a0 : FVec Ideal S2x4096x16384 .f32) (a1 : FVec Ideal S1x16384x4096 .f32) (a2 : FVec Ideal S2x4096x4096 .f32) : FVec Ideal S2x4096x4096 .f32 :=
  addf a2 (Host.dotGeneral dot_S2x4096x16384_S16384x4096_S2x4096x4096_2_0_01_1_n_n none a0 (shapeCast _ a1 shapeCasts_S1x16384x4096_S16384x4096))

theorem sum3_apply (a0 : FVec Ideal S2x4096x16384 .f32) (a1 : FVec Ideal S1x16384x4096 .f32) (a2 : FVec Ideal S2x4096x4096 .f32) (b : Fin 2) (t n : Fin 4096) :
    sum3 a0 a1 a2 (ix3 b t n) = a2 (ix3 b t n) + ∑ k : Fin 16384, a0 (ix3 b t k) * a1 (ix3 0 k n) := by
  unfold sum3
  pointwise

/-- The down projection's reference. -/
def ref3 (a0 : FVec Ideal S2x4096x16384 .f32) (a1 : FVec Ideal S1x16384x4096 .f32) (a2 : FVec Ideal S2x4096x4096 .f32) (a3 : FVec Ideal S4096 .f32) : FVec Ideal S8192x4096 .f32 :=
  shapeCast _ (norm3 (sum3 a0 a1 a2) a3) shapeCasts_S2x4096x4096_S8192x4096

theorem ref3_apply (a0 : FVec Ideal S2x4096x16384 .f32) (a1 : FVec Ideal S1x16384x4096 .f32) (a2 : FVec Ideal S2x4096x4096 .f32) (a3 : FVec Ideal S4096 .f32)
    (b : Fin 2) (t n : Fin 4096) :
    ref3 a0 a1 a2 a3 (ix2 (flatRow b t) n)
      = normRow (fun n => a2 (ix3 b t n) + ∑ k : Fin 16384, a0 (ix3 b t k) * a1 (ix3 0 k n)) (fun n => a3 (ix1 n)) n := by
  unfold ref3 flatRow
  pointwise [norm3_apply, sum3_apply]

end Cert.Mlp
-- ==== Proof.Mlp.DownCases.lean ====
module

public import proofs.«01_k».proof.Proof.Gen.Kernel3Ideal.Value
public import proofs.«01_k».proof.Proof.Mlp.Ref3
public import Idealize.ShloMosaic.Lib.Pipeline.ValueKit
public import Idealize.ShloMosaic.Lib.StableHlo.RunRead
public import Idealize.ShloMosaic.Lib.WritesUnit
public import Idealize.ShloMosaic.Lib.VecWindow

@[expose] public section

set_option maxRecDepth 16384

noncomputable section

namespace Cert.Mlp.K3

open Cert.Kernel3Ideal Cert.Kernel3Ideal.Gen Idealize.ShloMosaic Idealize.ShloMosaic.TcCoe Idealize.SL.Sem

theorem pay1_apply (v : FVec Ideal S512x4096 .f32) (p : Fin 512) (k : Fin 4096) : k0_pay1 (F := Ideal) v (ix2 p k) = v (ix2 p k) := by
  unfold k0_pay1
  pointwise

theorem pay3_apply (v : FVec Ideal S64x4096 .f32) (g : FVec Ideal S1x4096 .f32) (p : Fin 64) (k : Fin 4096) :
    k0_pay3 (F := Ideal) v g (ix2 p k) = normRow (fun k => v (ix2 p k)) (fun k => g (ix2 0 k)) k := by
  unfold k0_pay3 normRow
  pointwise

/-- A row of a block of activations against a column of a block of weights. -/
def dot512 (u : FVec Ideal S512x512 .bf16) (w : FVec Ideal S512x4096 .bf16) (p : Fin 512) (k : Fin 4096) : EReal :=
  ∑ j : Fin 512, u (ix2 p j) * w (ix2 j k)

theorem pay2_apply (a : FVec Ideal S512x4096 .f32) (u : FVec Ideal S512x512 .bf16) (w : FVec Ideal S512x4096 .bf16) (p : Fin 512) (k : Fin 4096) :
    k0_pay2 (F := Ideal) a u w (ix2 p k) = a (ix2 p k) + dot512 u w p k := by
  unfold k0_pay2 dot512
  pointwise

theorem trips_eq : k0_t1_loop.trips = 8 := by decide +kernel

variable (c : Dev nD) (i : grid0.Coords)
  (arg2 : Memref sig .tc .vmem S512x512 .bf16) (harg2 : arg2.IsWhole) (arg3 : Memref sig .tc .vmem S512x4096 .bf16) (harg3 : arg3.IsWhole)
  (arg4 : Memref sig .tc .vmem S512x4096 .f32) (harg4 : arg4.IsWhole) (arg5 : Memref sig .tc .vmem S1x4096 .f32) (harg5 : arg5.IsWhole)
  (arg6 : Memref sig .tc .vmem S512x4096 .f32) (harg6 : arg6.IsWhole)

section Rows

variable (k0_h2 : k0_cond2 i = 1#1) (X5 : BufTy.Contents (Elt Ideal) arg5.view.ty)

theorem tripL_eq (k : Fin k0_t1_loop.trips) (f : BufTy.Contents (Elt Ideal) arg6.view.ty) :
    tripL_k0_t1 (F := Ideal) Variants.none c none i arg2 harg2 arg3 harg3 arg4 harg4 arg5 harg5 arg6 harg6 k0_h2 X5 k f
      = [⟨Rect.unit (s := S512x4096) (k0_off1 k) S64x4096.size (k0_off1_inb i k k0_h2),
          k0_pay3 (F := Ideal) (View.readAt (Elt Ideal) arg6.view (Rect.unit (s := S512x4096) (k0_off1 k) S64x4096.size (k0_off1_inb i k k0_h2)).toLoadRect f)
            (View.readAt (Elt Ideal) arg5.view (Rect.unit (s := S1x4096) ![0, 0] S1x4096.size inb_S1x4096_S1x4096_0_0).toLoadRect X5)⟩] := by
  unfold tripL_k0_t1 trip_k0_t1
  dsimp only

variable (G : BufTy.Contents (Elt Ideal) arg6.view.ty)

/-- A row no trip has reached yet is as it was. -/
theorem later (n : ℕ) (hn : n ≤ k0_t1_loop.trips) (r : Fin 512) (hr : 64 * n ≤ r.val) (k : Fin 4096) :
    arg6.view.read (Elt Ideal) (arg6.view.writes (Elt Ideal) G (pb_k0_t1 (F := Ideal) Variants.none c none i arg2 harg2 arg3 harg3 arg4 harg4 arg5 harg5 arg6 harg6 k0_h2 X5 G n)) (ix2 r k)
      = arg6.view.read (Elt Ideal) G (ix2 r k) := by
  induction n with
  | zero => rfl
  | succ n ih =>
    rw [pb_k0_t1_succ Variants.none c none i arg2 harg2 arg3 harg3 arg4 harg4 arg5 harg5 arg6 harg6 k0_h2 X5 G ⟨n, hn⟩, tripL_eq, List.singleton_append]
    exact (View.read_writes_cons_rows_of_not_mem arg6.view G _ _ _ (ix2 r k) (k0_off1_eq ⟨n, hn⟩) (W := 64) rfl (Or.inr (show 64 * n + 64 ≤ r.val by omega))).trans
      (ih (by omega) (by omega))

/-- After `n` trips the first `64 n` rows are normalised in place. -/
theorem rows (v : View sig .tc .vmem S512x4096 .f32) (f : BufTy.Contents (Elt Ideal) v.ty) (L : List (View.Piece (Elt Ideal) S512x4096 .f32))
    (n : ℕ) (hn : n ≤ k0_t1_loop.trips) (r : Fin 512) (hr : r.val < 64 * n) (k : Fin 4096) :
    v.read (Elt Ideal) (v.writes (Elt Ideal) f (pb_k0_t1 (F := Ideal) Variants.none c none i arg2 harg2 arg3 harg3 arg4 harg4 arg5 harg5 arg6 harg6 k0_h2 X5 G n ++ L)) (ix2 r k)
      = normRow (fun k => arg6.view.read (Elt Ideal) G (ix2 r k)) (fun k => arg5.view.read (Elt Ideal) X5 (ix2 0 k)) k := by
  induction n with
  | zero => omega
  | succ n ih =>
    rw [pb_k0_t1_succ Variants.none c none i arg2 harg2 arg3 harg3 arg4 harg4 arg5 harg5 arg6 harg6 k0_h2 X5 G ⟨n, hn⟩, tripL_eq, List.singleton_append, List.cons_append]
    by_cases h : r.val < 64 * n
    · exact (View.read_writes_cons_rows_of_not_mem v f _ _ _ (ix2 r k) (k0_off1_eq ⟨n, hn⟩) (W := 64) rfl (Or.inl h)).trans
        (ih (by omega) h)
    · have hlt : r.val - 64 * n < 64 := by omega
      refine (View.read_writes_cons_rows_of_mem v f _ _ _ (ix2 r k) (ix2 (⟨r.val - 64 * n, hlt⟩ : Fin 64) k) (k0_off1_eq ⟨n, hn⟩) ?_ rfl).trans ?_
      · show r.val = 64 * n + (r.val - 64 * n)
        omega
      · refine (pay3_apply _ _ _ k).trans ?_
        have e6 : ∀ (f : BufTy.Contents (Elt Ideal) arg6.view.ty) (k : Fin 4096), View.readAt (Elt Ideal) arg6.view (Rect.unit (s := S512x4096) (k0_off1 ⟨n, hn⟩) S64x4096.size (k0_off1_inb i ⟨n, hn⟩ k0_h2)).toLoadRect f (ix2 (⟨r.val - 64 * n, hlt⟩ : Fin 64) k)
            = arg6.view.read (Elt Ideal) f (ix2 r k) := fun f k => by
          refine congrArg (arg6.view.read (Elt Ideal) f) (funext fun a => Fin.ext ?_)
          have h := congrFun (k0_off1_eq ⟨n, hn⟩) a
          fin_cases a
          · show (k0_off1 ⟨n, hn⟩ 0) + 1 * (r.val - 64 * n) = r.val
            have h' : k0_off1 ⟨n, hn⟩ 0 = 64 * n := h
            omega
          · show (k0_off1 ⟨n, hn⟩ 1) + 1 * k.val = k.val
            have h' : k0_off1 ⟨n, hn⟩ 1 = 0 := h
            omega
        have e5 : ∀ k, View.readAt (Elt Ideal) arg5.view (Rect.unit (s := S1x4096) ![0, 0] S1x4096.size inb_S1x4096_S1x4096_0_0).toLoadRect X5 (ix2 0 k)
            = arg5.view.read (Elt Ideal) X5 (ix2 0 k) := fun k => congrFun (View.readAt_full arg5.view X5 inb_S1x4096_S1x4096_0_0) _
        exact congrArg₂ (fun x g => normRow x g k)
          (funext fun k => (e6 _ k).trans (later c i arg2 harg2 arg3 harg3 arg4 harg4 arg5 harg5 arg6 harg6 k0_h2 X5 G n (by omega) r (by omega) k)) (funext e5)

end Rows

section Cases

variable (x0 : FVec Ideal S512x512 .bf16) (x1 : FVec Ideal S512x4096 .bf16) (x2 : FVec Ideal S512x4096 .f32) (x3 : FVec Ideal S1x4096 .f32)

theorem out_A (hc0 : cond0_0 i) (hc1 : ¬cond0_1 i) (p : Fin 512) (k : Fin 4096) :
    out0_A_4 (F := Ideal) c i arg2 harg2 arg3 harg3 arg4 harg4 arg5 harg5 arg6 harg6 hc0 hc1 x0 x1 x2 x3 (ix2 p k)
      = x2 (ix2 p k) + dot512 x0 x1 p k := by
  frame_out
  refine (pay2_apply _ _ _ p k).trans ?_
  rw [pay1_apply]

theorem out_B (hc0 : ¬cond0_0 i) (hc1 : ¬cond0_1 i) (xo4 : FVec Ideal S512x4096 .f32) (p : Fin 512) (k : Fin 4096) :
    out0_B_4 (F := Ideal) c i arg2 harg2 arg3 harg3 arg4 harg4 arg5 harg5 arg6 harg6 hc0 hc1 x0 x1 x2 x3 xo4 (ix2 p k)
      = xo4 (ix2 p k) + dot512 x0 x1 p k := by
  frame_out
  exact pay2_apply _ _ _ p k

theorem out_C (hc0 : ¬cond0_0 i) (hc1 : cond0_1 i) (xo4 : FVec Ideal S512x4096 .f32) (p : Fin 512) (k : Fin 4096) :
    out0_C_4 (F := Ideal) c i arg2 harg2 arg3 harg3 arg4 harg4 arg5 harg5 arg6 harg6 hc0 hc1 x0 x1 x2 x3 xo4 (ix2 p k)
      = normRow (fun k => xo4 (ix2 p k) + dot512 x0 x1 p k) (fun k => x3 (ix2 0 k)) k := by
  have hp := p.isLt
  have e : arg6.view.read (Elt Ideal) (arg6.view.writes (Elt Ideal) arg6.view.junk (kernelRun0_C.sl.H4_1 c arg2 harg2 arg3 harg3 arg6 harg6 x0 x1 xo4))
      = k0_pay2 (F := Ideal) xo4 x0 x1 := by
    unfold kernelRun0_C.sl.H4_1
    refine (View.read_writes_full arg6.view _ _ _ _).trans ?_
    rw [View.readAt_full, View.readAt_full, View.readAt_full, harg6.read_unread, harg2.read_unread, harg3.read_unread]
  unfold out0_C_4 kernelRun0_C
  dsimp only
  refine (rows c i arg2 harg2 arg3 harg3 arg4 harg4 arg5 harg5 arg6 harg6 hc1 (harg5.unread x3) _ VO0_4 _ _ k0_t1_loop.trips le_rfl p (by rw [trips_eq]; omega) k).trans ?_
  rw [e, harg5.read_unread]
  exact congrArg (fun x => normRow x _ k) (funext fun k => pay2_apply _ _ _ p k)

end Cases

end Cert.Mlp.K3
-- ==== Proof.Mlp.Down.lean ====
module

public import proofs.«01_k».proof.Proof.Gen.Kernel3Ideal.Value
public import proofs.«01_k».proof.Proof.Mlp.DownCases
public import Idealize.ShloMosaic.Lib.Pipeline.ValueKit
public import Idealize.ShloMosaic.Lib.StableHlo.RunRead
public import Idealize.ShloMosaic.Lib.WritesUnit

@[expose] public section

set_option maxRecDepth 16384

noncomputable section

namespace Cert.Mlp.K3

open Cert.Kernel3Ideal Cert.Kernel3Ideal.Gen Idealize.ShloMosaic Idealize.ShloMosaic.TcCoe Idealize.SL.Sem

theorem idx : ∀ t : Fin cfg0.N, win0_0.index t = ![t.val / 32, t.val % 32] ∧ win0_1.index t = ![t.val % 32, 0] ∧ win0_2.index t = ![t.val / 32, 0]
    ∧ win0_3.index t = ![0, 0] ∧ win0_4.index t = ![t.val / 32, 0] :=
  (by decide +kernel : ∀ t : Fin grid0.N, _)

/-- Only the last point of a run writes its block back. -/
theorem flush_last : ∀ t : Fin cfg0.N, (cfg0.win 4).flush t = true → t.val % 32 = 31 :=
  (by decide +kernel : ∀ t : Fin grid0.N, _)

variable (m : (ℓ : Loc nD τ sig) → Buf (Elt Ideal) ℓ) (c : Dev nD)

/-- The hidden activations, their rows in one axis. -/
def flatU (a : FVec Ideal S2x4096x16384 .f32) : FVec Ideal S8192x16384 .bf16 :=
  truncf .bf16 (shapeCast S8192x16384 a shapeCasts_S2x4096x16384_S8192x16384) bitsLt_bf16_f32

/-- The weights without their unit axis. -/
def flatW (a : FVec Ideal S1x16384x4096 .f32) : FVec Ideal S16384x4096 .bf16 :=
  truncf .bf16 (shapeCast S16384x4096 a shapeCasts_S1x16384x4096_S16384x4096) bitsLt_bf16_f32

/-- The residual stream, its rows in one axis. -/
def flatX (a : FVec Ideal S2x4096x4096 .f32) : FVec Ideal S8192x4096 .f32 :=
  shapeCast S8192x4096 a shapeCasts_S2x4096x4096_S8192x4096

/-- The norm's weights as a row. -/
def flatG (a : FVec Ideal S4096 .f32) : FVec Ideal S1x4096 .f32 :=
  shapeCast S1x4096 a shapeCasts_S4096_S1x4096

theorem flatU_apply (a : FVec Ideal S2x4096x16384 .f32) (b : Fin 2) (t : Fin 4096) (k : Fin 16384) : flatU a (ix2 (flatRow b t) k) = a (ix3 b t k) := by
  unfold flatU flatRow
  pointwise

theorem flatW_apply (a : FVec Ideal S1x16384x4096 .f32) (k : Fin 16384) (n : Fin 4096) : flatW a (ix2 k n) = a (ix3 0 k n) := by
  unfold flatW
  pointwise

theorem flatX_apply (a : FVec Ideal S2x4096x4096 .f32) (b : Fin 2) (t n : Fin 4096) : flatX a (ix2 (flatRow b t) n) = a (ix3 b t n) := by
  unfold flatX flatRow
  pointwise

theorem flatG_apply (a : FVec Ideal S4096 .f32) (k : Fin 4096) : flatG a (ix2 0 k) = a (ix1 k) := by
  unfold flatG
  pointwise

open StableHlo in
theorem entry1 : V m c main_v1 = flatU (m ((c : Thread nD τ).loc main_arg0)) := by
  after_reads_simp; rfl

open StableHlo in
theorem entry3 : V m c main_v3 = flatW (m ((c : Thread nD τ).loc main_arg1)) := by
  after_reads_simp; rfl

open StableHlo in
theorem entry4 : V m c main_v4 = flatX (m ((c : Thread nD τ).loc main_arg2)) := by
  after_reads_simp; rfl

open StableHlo in
theorem entry5 : V m c main_v5 = flatG (m ((c : Thread nD τ).loc main_arg3)) := by
  after_reads_simp; rfl

theorem read0 (t : Fin cfg0.N) (p j : Fin 512) (b : Fin 2) (s : Fin 4096) (l : Fin 16384) (h : b.val * 4096 + s.val = t.val / 32 * 512 + p.val) (hl : l.val = t.val % 32 * 512 + j.val) :
    (iblk m c 0 t : FVec Ideal S512x512 .bf16) (ix2 p j) = (m ((c : Thread nD τ).loc main_arg0) : FVec Ideal S2x4096x16384 .f32) (ix3 b s l) := by
  obtain ⟨e0, e1, e2, e3, e4⟩ := idx t
  refine Eq.trans ?_ (flatU_apply _ b s l)
  rw [← entry1]
  blk_simp [iblk, e0]
  refine congrArg (V m c main_v1) ?_
  funext a
  fin_cases a
  all_goals apply Fin.ext
  all_goals blk_simp [e0]
  all_goals (dsimp only [ix2, flatRow]; try omega)

theorem read1 (t : Fin cfg0.N) (j : Fin 512) (k : Fin 4096) (l : Fin 16384) (hl : l.val = t.val % 32 * 512 + j.val) :
    (iblk m c 1 t : FVec Ideal S512x4096 .bf16) (ix2 j k) = (m ((c : Thread nD τ).loc main_arg1) : FVec Ideal S1x16384x4096 .f32) (ix3 0 l k) := by
  obtain ⟨e0, e1, e2, e3, e4⟩ := idx t
  refine Eq.trans ?_ (flatW_apply _ l k)
  rw [← entry3]
  blk_simp [iblk, e1]
  refine congrArg (V m c main_v3) ?_
  funext a
  fin_cases a
  all_goals apply Fin.ext
  all_goals blk_simp [e1]
  all_goals (dsimp only [ix2, flatRow]; try omega)

theorem read2 (t : Fin cfg0.N) (p : Fin 512) (k : Fin 4096) (b : Fin 2) (s : Fin 4096) (h : b.val * 4096 + s.val = t.val / 32 * 512 + p.val) :
    (iblk m c 2 t : FVec Ideal S512x4096 .f32) (ix2 p k) = (m ((c : Thread nD τ).loc main_arg2) : FVec Ideal S2x4096x4096 .f32) (ix3 b s k) := by
  obtain ⟨e0, e1, e2, e3, e4⟩ := idx t
  refine Eq.trans ?_ (flatX_apply _ b s k)
  rw [← entry4]
  blk_simp [iblk, e2]
  refine congrArg (V m c main_v4) ?_
  funext a
  fin_cases a
  all_goals apply Fin.ext
  all_goals blk_simp [e2]
  all_goals (dsimp only [ix2, flatRow]; try omega)

theorem read3 (t : Fin cfg0.N) (k : Fin 4096) :
    (iblk m c 3 t : FVec Ideal S1x4096 .f32) (ix2 0 k) = (m ((c : Thread nD τ).loc main_arg3) : FVec Ideal S4096 .f32) (ix1 k) := by
  obtain ⟨e0, e1, e2, e3, e4⟩ := idx t
  refine Eq.trans ?_ (flatG_apply _ k)
  rw [← entry5]
  blk_simp [iblk, e3]
  refine congrArg (V m c main_v5) ?_
  funext a
  fin_cases a
  all_goals apply Fin.ext
  all_goals blk_simp [e3]
  all_goals (dsimp only [ix2, flatRow]; try omega)

/-- The array's row that row `p` of point `t`'s block is. -/
theorem row_eq (t : Fin cfg0.N) (p : Fin 512) : ∃ (b : Fin 2) (s : Fin 4096), b.val * 4096 + s.val = t.val / 32 * 512 + p.val := by
  have := p.isLt
  have ht : t.val < 512 := t.isLt
  exact ⟨⟨(t.val / 32 * 512 + p.val) / 4096, by omega⟩, ⟨(t.val / 32 * 512 + p.val) % 4096, by omega⟩, by dsimp only; omega⟩

/-- One product of the contraction. -/
def prodAt (U : FVec Ideal S2x4096x16384 .f32) (W : FVec Ideal S1x16384x4096 .f32) (b : Fin 2) (s k : Fin 4096) (l : Fin 16384) : EReal :=
  U (ix3 b s l) * W (ix3 0 l k)

/-- One product of the contraction, over the arguments. -/
def term (b : Fin 2) (s k : Fin 4096) (l : Fin 16384) : EReal :=
  prodAt (m ((c : Thread nD τ).loc main_arg0)) (m ((c : Thread nD τ).loc main_arg1)) b s k l

/-- The products of one block of 512 of the contraction, added up. -/
def part (b : Fin 2) (s k : Fin 4096) (n : ℕ) : EReal :=
  ∑ j : Fin 512, term m c b s k ⟨n % 32 * 512 + j.val, by have := j.isLt; omega⟩

/-- The residual stream's entry. -/
def resid (b : Fin 2) (s k : Fin 4096) : EReal := (m ((c : Thread nD τ).loc main_arg2) : FVec Ideal S2x4096x4096 .f32) (ix3 b s k)

theorem blk_part (t : Fin cfg0.N) (p : Fin 512) (b : Fin 2) (s : Fin 4096) (h : b.val * 4096 + s.val = t.val / 32 * 512 + p.val) (k : Fin 4096) :
    dot512 (iblk m c 0 t) (iblk m c 1 t) p k = part m c b s k t.val :=
  Finset.sum_congr rfl fun j _ => congrArg₂ (· * ·) (read0 m c t p j b s _ h rfl) (read1 m c t j k _ rfl)

/-- Before the last point of a run the block holds the residual stream plus the blocks of products added so far. -/
theorem accum (n : ℕ) (hn : n < cfg0.N) (hlast : n % 32 ≠ 31) (p : Fin 512) (b : Fin 2) (s : Fin 4096) (h : b.val * 4096 + s.val = n / 32 * 512 + p.val) (k : Fin 4096) :
    (outsAt0 m c n hn : FVec Ideal S512x4096 .f32) (ix2 p k) = resid m c b s k + ∑ j ∈ Finset.range (n % 32 + 1), part m c b s k j := by
  induction n with
  | zero =>
    have h0 : (⟨0, hn⟩ : Fin cfg0.N).val % 32 = 0 := rfl
    rw [show outsAt0 m c 0 hn = _ from outsAt0_A m c ⟨0, hn⟩ h0 hlast]
    refine (out_A c (grid0.coords ⟨0, hn⟩) _ _ _ _ _ _ _ _ _ _ (iblk m c 0 ⟨0, hn⟩) (iblk m c 1 ⟨0, hn⟩) (iblk m c 2 ⟨0, hn⟩) (iblk m c 3 ⟨0, hn⟩) _ _ p k).trans ?_
    rw [blk_part m c ⟨0, hn⟩ p b s h k, read2 m c ⟨0, hn⟩ p k b s h]
    simp only [Nat.zero_mod, Nat.zero_add, Finset.sum_range_one, resid]
  | succ n ih =>
    by_cases h0 : (n + 1) % 32 = 0
    · rw [show outsAt0 m c (n + 1) hn = _ from outsAt0_A m c ⟨n + 1, hn⟩ h0 hlast]
      refine (out_A c (grid0.coords ⟨n + 1, hn⟩) _ _ _ _ _ _ _ _ _ _ (iblk m c 0 ⟨n + 1, hn⟩) (iblk m c 1 ⟨n + 1, hn⟩) (iblk m c 2 ⟨n + 1, hn⟩) (iblk m c 3 ⟨n + 1, hn⟩) _ _ p k).trans ?_
      rw [blk_part m c ⟨n + 1, hn⟩ p b s h k, read2 m c ⟨n + 1, hn⟩ p k b s h, h0, Nat.zero_add, Finset.sum_range_one]
      simp only [part, h0, Nat.zero_mod, resid]
    · rw [show outsAt0 m c (n + 1) hn = _ from outsAt0_B m c ⟨n + 1, hn⟩ h0 hlast]
      refine (out_B c (grid0.coords ⟨n + 1, hn⟩) _ _ _ _ _ _ _ _ _ _ (iblk m c 0 ⟨n + 1, hn⟩) (iblk m c 1 ⟨n + 1, hn⟩) (iblk m c 2 ⟨n + 1, hn⟩) (iblk m c 3 ⟨n + 1, hn⟩) _ _ _ p k).trans ?_
      rw [blk_part m c ⟨n + 1, hn⟩ p b s h k]
      rw [show (n + 1) % 32 = n % 32 + 1 by omega, Finset.sum_range_succ, ← add_assoc]
      refine congrArg₂ (· + ·) (ih (Nat.lt_of_succ_lt hn) (by omega) (by omega)) ?_
      simp only [part, show (n + 1) % 32 = (n % 32 + 1) % 32 by omega]

theorem parts_sum (b : Fin 2) (s k : Fin 4096) : ∑ j ∈ Finset.range 32, part m c b s k j = ∑ l : Fin 16384, term m c b s k l := by
  rw [Finset.sum_range]
  refine Eq.symm ((Fin.sum_univ_tiles 32 512 rfl _).trans (Finset.sum_congr rfl fun a _ => Finset.sum_congr rfl fun j _ => congrArg (term m c b s k) (Fin.ext ?_)))
  have := a.isLt
  show a.val * 512 + j.val = a.val % 32 * 512 + j.val
  rw [Nat.mod_eq_of_lt this]

/-- The reference at the call's arguments. -/
def refOf : FVec Ideal S8192x4096 .f32 :=
  ref3 (m ((c : Thread nD τ).loc main_arg0)) (m ((c : Thread nD τ).loc main_arg1)) (m ((c : Thread nD τ).loc main_arg2)) (m ((c : Thread nD τ).loc main_arg3))

/-- What the last point of a run leaves, as the reference's entry. -/
theorem last (t : Fin cfg0.N) (h1 : t.val % 32 = 31) (p : Fin 512) (k : Fin 4096) :
    (outsAt0 m c t.val t.isLt : FVec Ideal S512x4096 .f32) (ix2 p k) = refOf m c (((cfg0.win 4).blk t).view.emb (ix2 p k)) := by
  obtain ⟨b, s, h⟩ := row_eq t p
  obtain ⟨e0, e1, e2, e3, e4⟩ := idx t
  have h0 : ¬t.val % 32 = 0 := by omega
  have hy : ((cfg0.win 4).blk t).view.emb (ix2 p k) = (ix2 (flatRow b s) k : S8192x4096.Idx) := by
    funext a
    fin_cases a
    all_goals apply Fin.ext
    all_goals blk_simp [e4]
    all_goals (dsimp only [ix2, flatRow]; try omega)
  rw [outsAt0_C m c t h0 h1]
  refine (out_C c (grid0.coords t) _ _ _ _ _ _ _ _ _ _ (iblk m c 0 t) (iblk m c 1 t) (iblk m c 2 t) (iblk m c 3 t) _ _ _ p k).trans ?_
  refine Eq.trans ?_ ((congrArg (refOf m c) hy).trans (ref3_apply _ _ _ _ b s k)).symm
  refine congrArg₂ (fun x g => normRow x g k) (funext fun k => ?_) (funext fun k => read3 m c t k)
  rw [blk_part m c t p b s h k]
  refine (congrArg (· + part m c b s k t.val) (accum m c (t.val - 1) _ (by omega) p b s (by omega) k)).trans ?_
  rw [show (t.val - 1) % 32 + 1 = 31 by omega, add_assoc, show part m c b s k t.val = part m c b s k 31 by simp only [part, h1],
    ← Finset.sum_range_succ, parts_sum]
  rfl

theorem final : (dats m 0 c).arrAt 4 cfg0.N = refOf m c := by
  refine (dats m 0 c).arrAt_eq_of_covers 4 _ (by decide +kernel) fun t hf y => ?_
  blk_simp
  rw [after0_4]
  obtain ⟨p, q, rfl⟩ : ∃ (p : Fin 512) (q : Fin 4096), y = ix2 p q := ⟨y 0, y 1, by idx_ext⟩
  exact last m c t (flush_last t hf) p q

end Cert.Mlp.K3
-- ==== Proof.Mlp.Ref4.lean ====
module

public import proofs.«01_k».proof.Proof.Gen.Reference4Ideal.Run
public import proofs.«01_k».proof.Proof.Mlp.Norm

@[expose] public section

set_option maxRecDepth 16384

noncomputable section

namespace Cert.Mlp

open Cert.Reference4Ideal Cert.Reference4Ideal.Gen Idealize.ShloMosaic Idealize.ShloMosaic.TcCoe Idealize.SL.Sem

/-- The output projection's reference. -/
def ref4 (a0 a1 : FVec Ideal S2x4096x2048 .f32) (a2 : FVec Ideal S1x4096x4096 .f32) (a3 : FVec Ideal S2x4096x4096 .f32) : FVec Ideal S8192x4096 .f32 :=
  shapeCast _ (addf a3 (Host.dotGeneral dot_S2x4096x4096_S4096x4096_S2x4096x4096_2_0_01_1_n_n none (concatenate S2x4096x4096 2 [⟨S2x4096x2048, a0⟩, ⟨S2x4096x2048, a1⟩] concatenates_S2x4096x2048_S2x4096x2048_S2x4096x4096_d2) (shapeCast _ a2 shapeCasts_S1x4096x4096_S4096x4096))) shapeCasts_S2x4096x4096_S8192x4096

theorem ref4_apply (a0 a1 : FVec Ideal S2x4096x2048 .f32) (a2 : FVec Ideal S1x4096x4096 .f32) (a3 : FVec Ideal S2x4096x4096 .f32)
    (b : Fin 2) (t n : Fin 4096) :
    ref4 a0 a1 a2 a3 (ix2 (flatRow b t) n) = a3 (ix3 b t n) + ((∑ k : Fin 2048, a0 (ix3 b t k) * a2 (ix3 0 ⟨k.val, by have := k.isLt; omega⟩ n))
      + ∑ k : Fin 2048, a1 (ix3 b t k) * a2 (ix3 0 ⟨2048 + k.val, by have := k.isLt; omega⟩ n)) := by
  unfold ref4 flatRow
  pointwise

end Cert.Mlp
-- ==== Proof.Mlp.Out.lean ====
module

public import proofs.«01_k».proof.Proof.Gen.Kernel4Ideal.Value
public import proofs.«01_k».proof.Proof.Mlp.Ref4
public import Idealize.ShloMosaic.Lib.Pipeline.ValueKit
public import Idealize.ShloMosaic.Lib.StableHlo.RunRead
public import Idealize.ShloMosaic.Lib.WritesUnit

@[expose] public section

set_option maxRecDepth 16384

noncomputable section

namespace Cert.Mlp.K4

open Cert.Kernel4Ideal Cert.Kernel4Ideal.Gen Idealize.ShloMosaic Idealize.ShloMosaic.TcCoe Idealize.SL.Sem

theorem pay_apply (v0 : FVec Ideal S512x2048 .bf16) (v2 : FVec Ideal S2048x1024 .bf16) (v5 : FVec Ideal S512x2048 .bf16) (v7 : FVec Ideal S2048x1024 .bf16)
    (v11 : FVec Ideal S512x1024 .f32) (p : Fin 512) (q : Fin 1024) :
    k0_pay1 (F := Ideal) v0 v2 v5 v7 v11 (ix2 p q) = v11 (ix2 p q) + ((∑ k : Fin 2048, v0 (ix2 p k) * v2 (ix2 k q)) + ∑ k : Fin 2048, v5 (ix2 p k) * v7 (ix2 k q)) := by
  unfold k0_pay1
  pointwise

variable (m : (ℓ : Loc nD τ sig) → Buf (Elt Ideal) ℓ) (c : Dev nD)

theorem idx : ∀ t : Fin cfg0.N, win0_0.index t = ![t.val % 16, 0] ∧ win0_1.index t = ![t.val % 16, 0] ∧ win0_2.index t = ![0, t.val / 16]
    ∧ win0_3.index t = ![t.val % 16, t.val / 16] ∧ win0_4.index t = ![t.val % 16, t.val / 16] :=
  (by decide +kernel : ∀ t : Fin grid0.N, _)

/-- One half of the attention output, its rows in one axis. -/
def flatHalf (a : FVec Ideal S2x4096x2048 .f32) : FVec Ideal S8192x2048 .bf16 :=
  truncf .bf16 (shapeCast S8192x2048 a shapeCasts_S2x4096x2048_S8192x2048) bitsLt_bf16_f32

/-- The weights without their unit axis. -/
def flatW (a : FVec Ideal S1x4096x4096 .f32) : FVec Ideal S4096x4096 .bf16 :=
  truncf .bf16 (shapeCast S4096x4096 a shapeCasts_S1x4096x4096_S4096x4096) bitsLt_bf16_f32

/-- The residual stream, its rows in one axis. -/
def flatX (a : FVec Ideal S2x4096x4096 .f32) : FVec Ideal S8192x4096 .f32 :=
  shapeCast S8192x4096 a shapeCasts_S2x4096x4096_S8192x4096

theorem flatHalf_apply (a : FVec Ideal S2x4096x2048 .f32) (b : Fin 2) (t : Fin 4096) (k : Fin 2048) :
    flatHalf a (ix2 (flatRow b t) k) = a (ix3 b t k) := by
  unfold flatHalf flatRow
  pointwise

theorem flatW_apply (a : FVec Ideal S1x4096x4096 .f32) (k n : Fin 4096) : flatW a (ix2 k n) = a (ix3 0 k n) := by
  unfold flatW
  pointwise

theorem flatX_apply (a : FVec Ideal S2x4096x4096 .f32) (b : Fin 2) (t n : Fin 4096) : flatX a (ix2 (flatRow b t) n) = a (ix3 b t n) := by
  unfold flatX flatRow
  pointwise

open StableHlo in
theorem entry1 : V m c main_v1 = flatHalf (m ((c : Thread nD τ).loc main_arg0)) := by
  after_reads_simp; rfl

open StableHlo in
theorem entry3 : V m c main_v3 = flatHalf (m ((c : Thread nD τ).loc main_arg1)) := by
  after_reads_simp; rfl

open StableHlo in
theorem entry5 : V m c main_v5 = flatW (m ((c : Thread nD τ).loc main_arg2)) := by
  after_reads_simp; rfl

open StableHlo in
theorem entry6 : V m c main_v6 = flatX (m ((c : Thread nD τ).loc main_arg3)) := by
  after_reads_simp; rfl

/-- The row of the array that row `p` of point `t`'s block is. -/
theorem row_eq (t : Fin cfg0.N) (p : Fin 512) : ∃ (b : Fin 2) (s : Fin 4096), b.val * 4096 + s.val = t.val % 16 * 512 + p.val := by
  have := p.isLt
  exact ⟨⟨(t.val % 16 * 512 + p.val) / 4096, by omega⟩, ⟨(t.val % 16 * 512 + p.val) % 4096, by omega⟩, by dsimp only; omega⟩

theorem read0 (t : Fin cfg0.N) (p : Fin 512) (k : Fin 2048) (b : Fin 2) (s : Fin 4096) (h : b.val * 4096 + s.val = t.val % 16 * 512 + p.val) :
    (iblk m c 0 t : FVec Ideal S512x2048 .bf16) (ix2 p k) = (m ((c : Thread nD τ).loc main_arg0) : FVec Ideal S2x4096x2048 .f32) (ix3 b s k) := by
  obtain ⟨e0, e1, e2, e3, e4⟩ := idx t
  refine Eq.trans ?_ (flatHalf_apply _ b s k)
  rw [← entry1]
  blk_simp [iblk, e0]
  refine congrArg (V m c main_v1) ?_
  funext a
  fin_cases a
  all_goals apply Fin.ext
  all_goals blk_simp [e0]
  all_goals (dsimp only [ix2, flatRow]; try omega)

theorem read1 (t : Fin cfg0.N) (p : Fin 512) (k : Fin 2048) (b : Fin 2) (s : Fin 4096) (h : b.val * 4096 + s.val = t.val % 16 * 512 + p.val) :
    (iblk m c 1 t : FVec Ideal S512x2048 .bf16) (ix2 p k) = (m ((c : Thread nD τ).loc main_arg1) : FVec Ideal S2x4096x2048 .f32) (ix3 b s k) := by
  obtain ⟨e0, e1, e2, e3, e4⟩ := idx t
  refine Eq.trans ?_ (flatHalf_apply _ b s k)
  rw [← entry3]
  blk_simp [iblk, e1]
  refine congrArg (V m c main_v3) ?_
  funext a
  fin_cases a
  all_goals apply Fin.ext
  all_goals blk_simp [e1]
  all_goals (dsimp only [ix2, flatRow]; try omega)

theorem read2 (t : Fin cfg0.N) (k : Fin 4096) (q : Fin 1024) (n : Fin 4096) (h : n.val = t.val / 16 * 1024 + q.val) :
    (iblk m c 2 t : FVec Ideal S4096x1024 .bf16) (ix2 k q) = (m ((c : Thread nD τ).loc main_arg2) : FVec Ideal S1x4096x4096 .f32) (ix3 0 k n) := by
  obtain ⟨e0, e1, e2, e3, e4⟩ := idx t
  refine Eq.trans ?_ (flatW_apply _ k n)
  rw [← entry5]
  blk_simp [iblk, e2]
  refine congrArg (V m c main_v5) ?_
  funext a
  fin_cases a
  all_goals apply Fin.ext
  all_goals blk_simp [e2]
  all_goals (dsimp only [ix2, flatRow]; try omega)

theorem read3 (t : Fin cfg0.N) (p : Fin 512) (q : Fin 1024) (b : Fin 2) (s n : Fin 4096) (h : b.val * 4096 + s.val = t.val % 16 * 512 + p.val) (hn : n.val = t.val / 16 * 1024 + q.val) :
    (iblk m c 3 t : FVec Ideal S512x1024 .f32) (ix2 p q) = (m ((c : Thread nD τ).loc main_arg3) : FVec Ideal S2x4096x4096 .f32) (ix3 b s n) := by
  obtain ⟨e0, e1, e2, e3, e4⟩ := idx t
  refine Eq.trans ?_ (flatX_apply _ b s n)
  rw [← entry6]
  blk_simp [iblk, e3]
  refine congrArg (V m c main_v6) ?_
  funext a
  fin_cases a
  all_goals apply Fin.ext
  all_goals blk_simp [e3]
  all_goals (dsimp only [ix2, flatRow]; try omega)

/-- The reference at the call's arguments. -/
def refOf : FVec Ideal S8192x4096 .f32 :=
  ref4 (m ((c : Thread nD τ).loc main_arg0)) (m ((c : Thread nD τ).loc main_arg1)) (m ((c : Thread nD τ).loc main_arg2)) (m ((c : Thread nD τ).loc main_arg3))

theorem point (t : Fin cfg0.N) (p : Fin 512) (q : Fin 1024) :
    k0_pay1 (F := Ideal) (iblk m c 0 t) (View.ld (iblk m c 2 t) r0_1) (iblk m c 1 t) (View.ld (iblk m c 2 t) r0_2) (iblk m c 3 t) (ix2 p q)
      = refOf m c (((cfg0.win 4).blk t).view.emb (ix2 p q)) := by
  have hp := p.isLt
  have hq := q.isLt
  have ht : t.val < 64 := t.isLt
  obtain ⟨b, s, hbs⟩ := row_eq t p
  obtain ⟨n, hn⟩ : ∃ n : Fin 4096, n.val = t.val / 16 * 1024 + q.val := ⟨⟨t.val / 16 * 1024 + q.val, by omega⟩, rfl⟩
  obtain ⟨e0, e1, e2, e3, e4⟩ := idx t
  have hy : ((cfg0.win 4).blk t).view.emb (ix2 p q) = (ix2 (flatRow b s) n : S8192x4096.Idx) := by
    funext a
    fin_cases a
    all_goals apply Fin.ext
    all_goals blk_simp [e4]
    all_goals (dsimp only [ix2, flatRow]; try omega)
  refine (pay_apply _ _ _ _ _ p q).trans (Eq.trans ?_ ((congrArg (refOf m c) hy).trans (ref4_apply _ _ _ _ b s n)).symm)
  refine congrArg₂ (· + ·) (read3 m c t p q b s n hbs hn) (congrArg₂ (· + ·) ?_ ?_)
  · refine Finset.sum_congr rfl fun k _ => congrArg₂ (· * ·) (read0 m c t p k b s hbs) ?_
    have := k.isLt
    pointwise [r0_1]
    exact read2 m c t ⟨k.val, by omega⟩ q n hn
  · refine Finset.sum_congr rfl fun k _ => congrArg₂ (· * ·) (read1 m c t p k b s hbs) ?_
    have := k.isLt
    pointwise [r0_2]
    exact read2 m c t ⟨2048 + k.val, by omega⟩ q n hn

theorem final : (dats m 0 c).arrAt 4 cfg0.N = refOf m c := by
  refine (dats m 0 c).arrAt_eq_of_covers 4 _ (by decide +kernel) fun t _ y => ?_
  blk_simp
  rw [after0_4]
  frame_out
  obtain ⟨p, q, rfl⟩ : ∃ (p : Fin 512) (q : Fin 1024), y = ix2 p q := ⟨y 0, y 1, by idx_ext⟩
  exact point m c t p q

end Cert.Mlp.K4
-- ==== Proof.Mlp.Rot.lean ====
module

public import proofs.«01_k».proof.Proof.Mlp.Norm

@[expose] public section

noncomputable section

namespace Cert.Mlp

open Idealize.ShloMosaic

/-- The rotary angle of position `t` and frequency `i`. -/
def angle (t i : ℕ) : EReal :=
  (FloatOps.sitofp (F := Ideal) .f32 (BitVec.ofNat 32 t) : EReal) * Ideal.pow (Ideal.ofBits .f32 0x48F42400#32)
    (Ideal.div (-(FloatOps.sitofp (F := Ideal) .f32 (BitVec.ofNat 32 i) : EReal)) (Ideal.ofBits .f32 0x41800000#32))

/-- Lane `l` of a head after the partial rotary step: the first 16 lanes are paired with the next 16. -/
def ropeAt (x c s : ℕ → EReal) (l : ℕ) : EReal :=
  if l < 16 then x l * c l - x (l + 16) * s l
  else if l < 32 then x (l - 16) * s (l - 16) + x l * c (l - 16)
  else x l

/-- The same as a product with three tables, the second and third against the head rotated by 16 lanes. -/
def rollAt (x C S₁ S₂ : ℕ → EReal) (l : ℕ) : EReal :=
  x l * C l + x ((l + 16) % 128) * S₁ l + x ((l + 112) % 128) * S₂ l

theorem rollAt_rope (x c s C S₁ S₂ : ℕ → EReal) (l : ℕ) (hl : l < 128)
    (hC : C l = if l < 16 then c l else if l < 32 then c (l - 16) else 1)
    (h₁ : S₁ l = if l < 16 then -s l else 0)
    (h₂ : S₂ l = if l < 16 then 0 else if l < 32 then s (l - 16) else 0) :
    rollAt x C S₁ S₂ l = ropeAt x c s l := by
  unfold rollAt ropeAt
  rw [hC, h₁, h₂]
  by_cases h : l < 16
  · simp only [h, if_true]
    rw [mul_zero, add_zero, show (l + 16) % 128 = l + 16 by omega, mul_neg, sub_eq_add_neg]
  · by_cases h' : l < 32
    · simp only [h, h', if_true, if_false]
      rw [mul_zero, add_zero, show (l + 112) % 128 = l - 16 by omega, add_comm]
    · simp only [h, h', if_false]
      rw [mul_one, mul_zero, mul_zero, add_zero, add_zero]

theorem rollAt_plain (x C S₁ S₂ : ℕ → EReal) (l : ℕ) (hC : C l = 1) (h₁ : S₁ l = 0) (h₂ : S₂ l = 0) :
    rollAt x C S₁ S₂ l = x l := by
  unfold rollAt
  rw [hC, h₁, h₂, mul_one, mul_zero, mul_zero, add_zero, add_zero]

/-- The columns that hold values, which are not rotated. -/
def IsValue (n : ℕ) : Prop := n / 512 = 5 ∨ n / 512 = 12 ∨ n / 512 = 13

instance (n : ℕ) : Decidable (IsValue n) := by unfold IsValue; infer_instance

/-- Column `n` of the projection of position `t`, after the rotary step, from the plain projection's columns. -/
def projAt (z : ℕ → EReal) (t n : ℕ) : EReal :=
  if IsValue n then z n
  else ropeAt (fun i => z (n / 128 * 128 + i)) (fun i => Ideal.cos (angle t i)) (fun i => Ideal.sin (angle t i)) (n % 128)

/-- The plain projection's column `n` of a row. -/
def colAt (x g : Fin 4096 → EReal) (w : Fin 4096 → ℕ → EReal) (n : ℕ) : EReal :=
  ∑ k : Fin 4096, normRow x g k * w k n

end Cert.Mlp
-- ==== Proof.Mlp.Ref5.lean ====
module

public import proofs.«01_k».proof.Proof.Gen.Reference5Ideal.Run
public import proofs.«01_k».proof.Proof.Mlp.Rot

@[expose] public section

set_option maxRecDepth 16384

noncomputable section

namespace Cert.Mlp.R5

open Cert.Reference5Ideal Cert.Reference5Ideal.Gen Idealize.ShloMosaic Idealize.ShloMosaic.TcCoe Idealize.SL.Sem

/-- The reference's normalisation. -/
def norm (x : FVec Ideal S2x4096x4096 .f32) (g : FVec Ideal S4096 .f32) : FVec Ideal S2x4096x4096 .f32 :=
  mulf (mulf x (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf x x) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x358637BD#32)))))) (broadcastInDim S2x4096x4096 ![0, 1, 2] bcast_S1x1x4096_S2x4096x4096_0_1_2 (broadcastInDim S1x1x4096 ![2] bcast_S4096_S1x1x4096_2 g))

theorem norm_apply (x : FVec Ideal S2x4096x4096 .f32) (g : FVec Ideal S4096 .f32) (b : Fin 2) (t k : Fin 4096) :
    norm x g (ix3 b t k) = normRow (fun k => x (ix3 b t k)) (fun k => g (ix1 k)) k := by
  unfold norm normRow
  pointwise

/-- The plain projection. -/
def proj (a0 : FVec Ideal S2x4096x4096 .f32) (a1 : FVec Ideal S1x4096 .f32) (a2 : FVec Ideal S1x4096x11424 .f32) : FVec Ideal S2x4096x11424 .f32 :=
  Host.dotGeneral dot_S2x4096x4096_S4096x11424_S2x4096x11424_2_0_01_1_n_n none (norm a0 (shapeCast _ a1 shapeCasts_S1x4096_S4096)) (shapeCast _ a2 shapeCasts_S1x4096x11424_S4096x11424)

theorem proj_apply (a0 : FVec Ideal S2x4096x4096 .f32) (a1 : FVec Ideal S1x4096 .f32) (a2 : FVec Ideal S1x4096x11424 .f32)
    (b : Fin 2) (t : Fin 4096) (n : Fin 11424) :
    proj a0 a1 a2 (ix3 b t n) = ∑ k : Fin 4096, normRow (fun k => a0 (ix3 b t k)) (fun k => a1 (ix2 0 k)) k * a2 (ix3 0 k n) := by
  unfold proj
  pointwise [norm_apply]

/-- The weights' column `n`, at any number. -/
def wcol (a2 : FVec Ideal S1x4096x11424 .f32) (k : Fin 4096) (n : ℕ) : EReal :=
  if h : n < 11424 then a2 (ix3 0 k ⟨n, h⟩) else 0

/-- The plain projection's columns of one position. -/
def zAt (a0 : FVec Ideal S2x4096x4096 .f32) (a1 : FVec Ideal S1x4096 .f32) (a2 : FVec Ideal S1x4096x11424 .f32) (b : Fin 2) (t : Fin 4096) : ℕ → EReal :=
  colAt (fun k => a0 (ix3 b t k)) (fun k => a1 (ix2 0 k)) (wcol a2)

theorem proj_zAt (a0 : FVec Ideal S2x4096x4096 .f32) (a1 : FVec Ideal S1x4096 .f32) (a2 : FVec Ideal S1x4096x11424 .f32)
    (b : Fin 2) (t : Fin 4096) (n : Fin 11424) : proj a0 a1 a2 (ix3 b t n) = zAt a0 a1 a2 b t n.val := by
  rw [proj_apply]
  unfold zAt colAt wcol
  refine Finset.sum_congr rfl fun k _ => ?_
  rw [dif_pos n.isLt]

def angles : FVec Ideal S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

theorem angles_apply (t : Fin 4096) (i : Fin 16) : angles (ix2 t i) = angle t.val i.val := by
  unfold angles angle
  pointwise

def cosT : FVec Ideal S4096x1x16 .f32 := broadcastInDim S4096x1x16 ![0, 2] bcast_S4096x16_S4096x1x16_0_2 (Host.cos angles)

def sinT : FVec Ideal S4096x1x16 .f32 := broadcastInDim S4096x1x16 ![0, 2] bcast_S4096x16_S4096x1x16_0_2 (Host.sin angles)

theorem cosT_apply (t : Fin 4096) (i : Fin 16) : cosT (ix3 t 0 i) = Ideal.cos (angle t.val i.val) := by
  unfold cosT
  pointwise [angles_apply]

theorem sinT_apply (t : Fin 4096) (i : Fin 16) : sinT (ix3 t 0 i) = Ideal.sin (angle t.val i.val) := by
  unfold sinT
  pointwise [angles_apply]

/-- The partial rotary step of 4 heads. -/
def rope4 (z : FVec Ideal S2x4096x4x128 .f32) : FVec Ideal S2x4096x4x128 .f32 :=
  concatenate S2x4096x4x128 3 [⟨S2x4096x4x16, (subf (mulf (extractStridedSlice S2x4096x4x16 ![0, 0, 0, 0] z slices_S2x4096x4x128_S2x4096x4x16_0_0_0_0) (broadcastInDim S2x4096x4x16 ![0, 1, 2, 3] bcast_S1x4096x1x16_S2x4096x4x16_0_1_2_3 (broadcastInDim S1x4096x1x16 ![1, 2, 3] bcast_S4096x1x16_S1x4096x1x16_1_2_3 cosT))) (mulf (extractStridedSlice S2x4096x4x16 ![0, 0, 0, 16] z slices_S2x4096x4x128_S2x4096x4x16_0_0_0_16) (broadcastInDim S2x4096x4x16 ![0, 1, 2, 3] bcast_S1x4096x1x16_S2x4096x4x16_0_1_2_3 (broadcastInDim S1x4096x1x16 ![1, 2, 3] bcast_S4096x1x16_S1x4096x1x16_1_2_3 sinT))) : (⟨S2x4096x4x16, .f32⟩ : BufTy).Contents (Elt Ideal))⟩, ⟨S2x4096x4x16, (addf (mulf (extractStridedSlice S2x4096x4x16 ![0, 0, 0, 0] z slices_S2x4096x4x128_S2x4096x4x16_0_0_0_0) (broadcastInDim S2x4096x4x16 ![0, 1, 2, 3] bcast_S1x4096x1x16_S2x4096x4x16_0_1_2_3 (broadcastInDim S1x4096x1x16 ![1, 2, 3] bcast_S4096x1x16_S1x4096x1x16_1_2_3 sinT))) (mulf (extractStridedSlice S2x4096x4x16 ![0, 0, 0, 16] z slices_S2x4096x4x128_S2x4096x4x16_0_0_0_16) (broadcastInDim S2x4096x4x16 ![0, 1, 2, 3] bcast_S1x4096x1x16_S2x4096x4x16_0_1_2_3 (broadcastInDim S1x4096x1x16 ![1, 2, 3] bcast_S4096x1x16_S1x4096x1x16_1_2_3 cosT))) : (⟨S2x4096x4x16, .f32⟩ : BufTy).Contents (Elt Ideal))⟩, ⟨S2x4096x4x96, (extractStridedSlice S2x4096x4x96 ![0, 0, 0, 32] z slices_S2x4096x4x128_S2x4096x4x96_0_0_0_32 : (⟨S2x4096x4x96, .f32⟩ : BufTy).Contents (Elt Ideal))⟩] concatenates_S2x4096x4x16_S2x4096x4x16_S2x4096x4x96_S2x4096x4x128_d3

theorem rope4_apply (z : FVec Ideal S2x4096x4x128 .f32) (b : Fin 2) (t : Fin 4096) (h : Fin 4) (l : Fin 128) (x : ℕ → EReal)
    (hx : ∀ n : Fin 128, z (ix4 b t h n) = x n.val) :
    rope4 z (ix4 b t h l) = ropeAt x (fun i => Ideal.cos (angle t.val i)) (fun i => Ideal.sin (angle t.val i)) l.val := by
  unfold rope4
  pointwise [cosT_apply, sinT_apply]
  simp only [hx]
  unfold ropeAt
  have hl := l.isLt
  split_ifs
  all_goals first
    | omega
    | rw [show 16 + (l.val - 16) = l.val by omega]
    | rw [Nat.add_comm 16]
    | rw [show 32 + (l.val - 16 - 16) = l.val by omega]

/-- The partial rotary step of 8 heads. -/
def rope8 (z : FVec Ideal S2x4096x8x128 .f32) : FVec Ideal S2x4096x8x128 .f32 :=
  concatenate S2x4096x8x128 3 [⟨S2x4096x8x16, (subf (mulf (extractStridedSlice S2x4096x8x16 ![0, 0, 0, 0] z slices_S2x4096x8x128_S2x4096x8x16_0_0_0_0) (broadcastInDim S2x4096x8x16 ![0, 1, 2, 3] bcast_S1x4096x1x16_S2x4096x8x16_0_1_2_3 (broadcastInDim S1x4096x1x16 ![1, 2, 3] bcast_S4096x1x16_S1x4096x1x16_1_2_3 cosT))) (mulf (extractStridedSlice S2x4096x8x16 ![0, 0, 0, 16] z slices_S2x4096x8x128_S2x4096x8x16_0_0_0_16) (broadcastInDim S2x4096x8x16 ![0, 1, 2, 3] bcast_S1x4096x1x16_S2x4096x8x16_0_1_2_3 (broadcastInDim S1x4096x1x16 ![1, 2, 3] bcast_S4096x1x16_S1x4096x1x16_1_2_3 sinT))) : (⟨S2x4096x8x16, .f32⟩ : BufTy).Contents (Elt Ideal))⟩, ⟨S2x4096x8x16, (addf (mulf (extractStridedSlice S2x4096x8x16 ![0, 0, 0, 0] z slices_S2x4096x8x128_S2x4096x8x16_0_0_0_0) (broadcastInDim S2x4096x8x16 ![0, 1, 2, 3] bcast_S1x4096x1x16_S2x4096x8x16_0_1_2_3 (broadcastInDim S1x4096x1x16 ![1, 2, 3] bcast_S4096x1x16_S1x4096x1x16_1_2_3 sinT))) (mulf (extractStridedSlice S2x4096x8x16 ![0, 0, 0, 16] z slices_S2x4096x8x128_S2x4096x8x16_0_0_0_16) (broadcastInDim S2x4096x8x16 ![0, 1, 2, 3] bcast_S1x4096x1x16_S2x4096x8x16_0_1_2_3 (broadcastInDim S1x4096x1x16 ![1, 2, 3] bcast_S4096x1x16_S1x4096x1x16_1_2_3 cosT))) : (⟨S2x4096x8x16, .f32⟩ : BufTy).Contents (Elt Ideal))⟩, ⟨S2x4096x8x96, (extractStridedSlice S2x4096x8x96 ![0, 0, 0, 32] z slices_S2x4096x8x128_S2x4096x8x96_0_0_0_32 : (⟨S2x4096x8x96, .f32⟩ : BufTy).Contents (Elt Ideal))⟩] concatenates_S2x4096x8x16_S2x4096x8x16_S2x4096x8x96_S2x4096x8x128_d3

theorem rope8_apply (z : FVec Ideal S2x4096x8x128 .f32) (b : Fin 2) (t : Fin 4096) (h : Fin 8) (l : Fin 128) (x : ℕ → EReal)
    (hx : ∀ n : Fin 128, z (ix4 b t h n) = x n.val) :
    rope8 z (ix4 b t h l) = ropeAt x (fun i => Ideal.cos (angle t.val i)) (fun i => Ideal.sin (angle t.val i)) l.val := by
  unfold rope8
  pointwise [cosT_apply, sinT_apply]
  simp only [hx]
  unfold ropeAt
  have hl := l.isLt
  split_ifs
  all_goals first
    | omega
    | rw [show 16 + (l.val - 16) = l.val by omega]
    | rw [Nat.add_comm 16]
    | rw [show 32 + (l.val - 16 - 16) = l.val by omega]

/-- The partial rotary step of 16 heads. -/
def rope16 (z : FVec Ideal S2x4096x16x128 .f32) : FVec Ideal S2x4096x16x128 .f32 :=
  concatenate S2x4096x16x128 3 [⟨S2x4096x16x16, (subf (mulf (extractStridedSlice S2x4096x16x16 ![0, 0, 0, 0] z slices_S2x4096x16x128_S2x4096x16x16_0_0_0_0) (broadcastInDim S2x4096x16x16 ![0, 1, 2, 3] bcast_S1x4096x1x16_S2x4096x16x16_0_1_2_3 (broadcastInDim S1x4096x1x16 ![1, 2, 3] bcast_S4096x1x16_S1x4096x1x16_1_2_3 cosT))) (mulf (extractStridedSlice S2x4096x16x16 ![0, 0, 0, 16] z slices_S2x4096x16x128_S2x4096x16x16_0_0_0_16) (broadcastInDim S2x4096x16x16 ![0, 1, 2, 3] bcast_S1x4096x1x16_S2x4096x16x16_0_1_2_3 (broadcastInDim S1x4096x1x16 ![1, 2, 3] bcast_S4096x1x16_S1x4096x1x16_1_2_3 sinT))) : (⟨S2x4096x16x16, .f32⟩ : BufTy).Contents (Elt Ideal))⟩, ⟨S2x4096x16x16, (addf (mulf (extractStridedSlice S2x4096x16x16 ![0, 0, 0, 0] z slices_S2x4096x16x128_S2x4096x16x16_0_0_0_0) (broadcastInDim S2x4096x16x16 ![0, 1, 2, 3] bcast_S1x4096x1x16_S2x4096x16x16_0_1_2_3 (broadcastInDim S1x4096x1x16 ![1, 2, 3] bcast_S4096x1x16_S1x4096x1x16_1_2_3 sinT))) (mulf (extractStridedSlice S2x4096x16x16 ![0, 0, 0, 16] z slices_S2x4096x16x128_S2x4096x16x16_0_0_0_16) (broadcastInDim S2x4096x16x16 ![0, 1, 2, 3] bcast_S1x4096x1x16_S2x4096x16x16_0_1_2_3 (broadcastInDim S1x4096x1x16 ![1, 2, 3] bcast_S4096x1x16_S1x4096x1x16_1_2_3 cosT))) : (⟨S2x4096x16x16, .f32⟩ : BufTy).Contents (Elt Ideal))⟩, ⟨S2x4096x16x96, (extractStridedSlice S2x4096x16x96 ![0, 0, 0, 32] z slices_S2x4096x16x128_S2x4096x16x96_0_0_0_32 : (⟨S2x4096x16x96, .f32⟩ : BufTy).Contents (Elt Ideal))⟩] concatenates_S2x4096x16x16_S2x4096x16x16_S2x4096x16x96_S2x4096x16x128_d3

theorem rope16_apply (z : FVec Ideal S2x4096x16x128 .f32) (b : Fin 2) (t : Fin 4096) (h : Fin 16) (l : Fin 128) (x : ℕ → EReal)
    (hx : ∀ n : Fin 128, z (ix4 b t h n) = x n.val) :
    rope16 z (ix4 b t h l) = ropeAt x (fun i => Ideal.cos (angle t.val i)) (fun i => Ideal.sin (angle t.val i)) l.val := by
  unfold rope16
  pointwise [cosT_apply, sinT_apply]
  simp only [hx]
  unfold ropeAt
  have hl := l.isLt
  split_ifs
  all_goals first
    | omega
    | rw [show 16 + (l.val - 16) = l.val by omega]
    | rw [Nat.add_comm 16]
    | rw [show 32 + (l.val - 16 - 16) = l.val by omega]

/-- The partial rotary step of 32 heads. -/
def rope32 (z : FVec Ideal S2x4096x32x128 .f32) : FVec Ideal S2x4096x32x128 .f32 :=
  concatenate S2x4096x32x128 3 [⟨S2x4096x32x16, (subf (mulf (extractStridedSlice S2x4096x32x16 ![0, 0, 0, 0] z slices_S2x4096x32x128_S2x4096x32x16_0_0_0_0) (broadcastInDim S2x4096x32x16 ![0, 1, 2, 3] bcast_S1x4096x1x16_S2x4096x32x16_0_1_2_3 (broadcastInDim S1x4096x1x16 ![1, 2, 3] bcast_S4096x1x16_S1x4096x1x16_1_2_3 cosT))) (mulf (extractStridedSlice S2x4096x32x16 ![0, 0, 0, 16] z slices_S2x4096x32x128_S2x4096x32x16_0_0_0_16) (broadcastInDim S2x4096x32x16 ![0, 1, 2, 3] bcast_S1x4096x1x16_S2x4096x32x16_0_1_2_3 (broadcastInDim S1x4096x1x16 ![1, 2, 3] bcast_S4096x1x16_S1x4096x1x16_1_2_3 sinT))) : (⟨S2x4096x32x16, .f32⟩ : BufTy).Contents (Elt Ideal))⟩, ⟨S2x4096x32x16, (addf (mulf (extractStridedSlice S2x4096x32x16 ![0, 0, 0, 0] z slices_S2x4096x32x128_S2x4096x32x16_0_0_0_0) (broadcastInDim S2x4096x32x16 ![0, 1, 2, 3] bcast_S1x4096x1x16_S2x4096x32x16_0_1_2_3 (broadcastInDim S1x4096x1x16 ![1, 2, 3] bcast_S4096x1x16_S1x4096x1x16_1_2_3 sinT))) (mulf (extractStridedSlice S2x4096x32x16 ![0, 0, 0, 16] z slices_S2x4096x32x128_S2x4096x32x16_0_0_0_16) (broadcastInDim S2x4096x32x16 ![0, 1, 2, 3] bcast_S1x4096x1x16_S2x4096x32x16_0_1_2_3 (broadcastInDim S1x4096x1x16 ![1, 2, 3] bcast_S4096x1x16_S1x4096x1x16_1_2_3 cosT))) : (⟨S2x4096x32x16, .f32⟩ : BufTy).Contents (Elt Ideal))⟩, ⟨S2x4096x32x96, (extractStridedSlice S2x4096x32x96 ![0, 0, 0, 32] z slices_S2x4096x32x128_S2x4096x32x96_0_0_0_32 : (⟨S2x4096x32x96, .f32⟩ : BufTy).Contents (Elt Ideal))⟩] concatenates_S2x4096x32x16_S2x4096x32x16_S2x4096x32x96_S2x4096x32x128_d3

theorem rope32_apply (z : FVec Ideal S2x4096x32x128 .f32) (b : Fin 2) (t : Fin 4096) (h : Fin 32) (l : Fin 128) (x : ℕ → EReal)
    (hx : ∀ n : Fin 128, z (ix4 b t h n) = x n.val) :
    rope32 z (ix4 b t h l) = ropeAt x (fun i => Ideal.cos (angle t.val i)) (fun i => Ideal.sin (angle t.val i)) l.val := by
  unfold rope32
  pointwise [cosT_apply, sinT_apply]
  simp only [hx]
  unfold ropeAt
  have hl := l.isLt
  split_ifs
  all_goals first
    | omega
    | rw [show 16 + (l.val - 16) = l.val by omega]
    | rw [Nat.add_comm 16]
    | rw [show 32 + (l.val - 16 - 16) = l.val by omega]

def segQA (z : FVec Ideal S2x4096x11424 .f32) : FVec Ideal S8192x2048 .f32 :=
  shapeCast _ (rope16 (shapeCast _ (extractStridedSlice S2x4096x2048 ![0, 0, 0] z slices_S2x4096x11424_S2x4096x2048_0_0_0) shapeCasts_S2x4096x2048_S2x4096x16x128)) shapeCasts_S2x4096x16x128_S8192x2048

theorem headsQA_apply (z : FVec Ideal S2x4096x11424 .f32) (b : Fin 2) (t : Fin 4096) (h : Fin 16) (l : Fin 128) :
    (shapeCast S2x4096x16x128 (extractStridedSlice S2x4096x2048 ![0, 0, 0] z slices_S2x4096x11424_S2x4096x2048_0_0_0) shapeCasts_S2x4096x2048_S2x4096x16x128 : FVec Ideal S2x4096x16x128 .f32) (ix4 b t h l)
      = z (ix3 b t ⟨0 + (h.val * 128 + l.val), by have := h.isLt; have := l.isLt; omega⟩) := by
  pointwise

theorem flatQA_apply (y : FVec Ideal S2x4096x16x128 .f32) (b : Fin 2) (t : Fin 4096) (h : Fin 16) (l : Fin 128) :
    (shapeCast S8192x2048 y shapeCasts_S2x4096x16x128_S8192x2048 : FVec Ideal S8192x2048 .f32) (ix2 (flatRow b t) ⟨h.val * 128 + l.val, by have := h.isLt; have := l.isLt; omega⟩)
      = y (ix4 b t h l) := by
  unfold flatRow
  pointwise

theorem segQA_apply (z : FVec Ideal S2x4096x11424 .f32) (b : Fin 2) (t : Fin 4096) (x : ℕ → EReal)
    (hx : ∀ n : Fin 11424, z (ix3 b t n) = x n.val) (n : Fin 2048) :
    segQA z (ix2 (flatRow b t) n) = projAt x t.val (0 + n.val) := by
  have hlt : ∀ (h : Fin 16) (l : Fin 128), h.val * 128 + l.val < 2048 := fun h l => by have := h.isLt; have := l.isLt; omega
  have hn := n.isLt
  obtain ⟨h, l, rfl⟩ : ∃ (h : Fin 16) (l : Fin 128), n = ⟨h.val * 128 + l.val, hlt h l⟩ :=
    ⟨⟨n.val / 128, by omega⟩, ⟨n.val % 128, by omega⟩, Fin.ext (by dsimp only; omega)⟩
  have hl := l.isLt
  have hh := h.isLt
  refine (flatQA_apply _ b t h l).trans ?_
  refine (rope16_apply _ b t h l (fun i => x (0 + (h.val * 128 + i))) fun i => (headsQA_apply z b t h i).trans (hx _)).trans ?_
  unfold projAt
  rw [if_neg (by unfold IsValue; dsimp only; omega)]
  dsimp only
  rw [show (0 + (h.val * 128 + l.val)) % 128 = l.val by omega, show (0 + (h.val * 128 + l.val)) / 128 * 128 = 0 + h.val * 128 by omega]
  simp only [Nat.add_assoc]

def segKA (z : FVec Ideal S2x4096x11424 .f32) : FVec Ideal S8192x512 .f32 :=
  shapeCast _ (rope4 (shapeCast _ (extractStridedSlice S2x4096x512 ![0, 0, 2048] z slices_S2x4096x11424_S2x4096x512_0_0_2048) shapeCasts_S2x4096x512_S2x4096x4x128)) shapeCasts_S2x4096x4x128_S8192x512

theorem headsKA_apply (z : FVec Ideal S2x4096x11424 .f32) (b : Fin 2) (t : Fin 4096) (h : Fin 4) (l : Fin 128) :
    (shapeCast S2x4096x4x128 (extractStridedSlice S2x4096x512 ![0, 0, 2048] z slices_S2x4096x11424_S2x4096x512_0_0_2048) shapeCasts_S2x4096x512_S2x4096x4x128 : FVec Ideal S2x4096x4x128 .f32) (ix4 b t h l)
      = z (ix3 b t ⟨2048 + (h.val * 128 + l.val), by have := h.isLt; have := l.isLt; omega⟩) := by
  pointwise

theorem flatKA_apply (y : FVec Ideal S2x4096x4x128 .f32) (b : Fin 2) (t : Fin 4096) (h : Fin 4) (l : Fin 128) :
    (shapeCast S8192x512 y shapeCasts_S2x4096x4x128_S8192x512 : FVec Ideal S8192x512 .f32) (ix2 (flatRow b t) ⟨h.val * 128 + l.val, by have := h.isLt; have := l.isLt; omega⟩)
      = y (ix4 b t h l) := by
  unfold flatRow
  pointwise

theorem segKA_apply (z : FVec Ideal S2x4096x11424 .f32) (b : Fin 2) (t : Fin 4096) (x : ℕ → EReal)
    (hx : ∀ n : Fin 11424, z (ix3 b t n) = x n.val) (n : Fin 512) :
    segKA z (ix2 (flatRow b t) n) = projAt x t.val (2048 + n.val) := by
  have hlt : ∀ (h : Fin 4) (l : Fin 128), h.val * 128 + l.val < 512 := fun h l => by have := h.isLt; have := l.isLt; omega
  have hn := n.isLt
  obtain ⟨h, l, rfl⟩ : ∃ (h : Fin 4) (l : Fin 128), n = ⟨h.val * 128 + l.val, hlt h l⟩ :=
    ⟨⟨n.val / 128, by omega⟩, ⟨n.val % 128, by omega⟩, Fin.ext (by dsimp only; omega)⟩
  have hl := l.isLt
  have hh := h.isLt
  refine (flatKA_apply _ b t h l).trans ?_
  refine (rope4_apply _ b t h l (fun i => x (2048 + (h.val * 128 + i))) fun i => (headsKA_apply z b t h i).trans (hx _)).trans ?_
  unfold projAt
  rw [if_neg (by unfold IsValue; dsimp only; omega)]
  dsimp only
  rw [show (2048 + (h.val * 128 + l.val)) % 128 = l.val by omega, show (2048 + (h.val * 128 + l.val)) / 128 * 128 = 2048 + h.val * 128 by omega]
  simp only [Nat.add_assoc]

def segQB (z : FVec Ideal S2x4096x11424 .f32) : FVec Ideal S8192x2048 .f32 :=
  shapeCast _ (rope16 (shapeCast _ (extractStridedSlice S2x4096x2048 ![0, 0, 3072] z slices_S2x4096x11424_S2x4096x2048_0_0_3072) shapeCasts_S2x4096x2048_S2x4096x16x128)) shapeCasts_S2x4096x16x128_S8192x2048

theorem headsQB_apply (z : FVec Ideal S2x4096x11424 .f32) (b : Fin 2) (t : Fin 4096) (h : Fin 16) (l : Fin 128) :
    (shapeCast S2x4096x16x128 (extractStridedSlice S2x4096x2048 ![0, 0, 3072] z slices_S2x4096x11424_S2x4096x2048_0_0_3072) shapeCasts_S2x4096x2048_S2x4096x16x128 : FVec Ideal S2x4096x16x128 .f32) (ix4 b t h l)
      = z (ix3 b t ⟨3072 + (h.val * 128 + l.val), by have := h.isLt; have := l.isLt; omega⟩) := by
  pointwise

theorem flatQB_apply (y : FVec Ideal S2x4096x16x128 .f32) (b : Fin 2) (t : Fin 4096) (h : Fin 16) (l : Fin 128) :
    (shapeCast S8192x2048 y shapeCasts_S2x4096x16x128_S8192x2048 : FVec Ideal S8192x2048 .f32) (ix2 (flatRow b t) ⟨h.val * 128 + l.val, by have := h.isLt; have := l.isLt; omega⟩)
      = y (ix4 b t h l) := by
  unfold flatRow
  pointwise

theorem segQB_apply (z : FVec Ideal S2x4096x11424 .f32) (b : Fin 2) (t : Fin 4096) (x : ℕ → EReal)
    (hx : ∀ n : Fin 11424, z (ix3 b t n) = x n.val) (n : Fin 2048) :
    segQB z (ix2 (flatRow b t) n) = projAt x t.val (3072 + n.val) := by
  have hlt : ∀ (h : Fin 16) (l : Fin 128), h.val * 128 + l.val < 2048 := fun h l => by have := h.isLt; have := l.isLt; omega
  have hn := n.isLt
  obtain ⟨h, l, rfl⟩ : ∃ (h : Fin 16) (l : Fin 128), n = ⟨h.val * 128 + l.val, hlt h l⟩ :=
    ⟨⟨n.val / 128, by omega⟩, ⟨n.val % 128, by omega⟩, Fin.ext (by dsimp only; omega)⟩
  have hl := l.isLt
  have hh := h.isLt
  refine (flatQB_apply _ b t h l).trans ?_
  refine (rope16_apply _ b t h l (fun i => x (3072 + (h.val * 128 + i))) fun i => (headsQB_apply z b t h i).trans (hx _)).trans ?_
  unfold projAt
  rw [if_neg (by unfold IsValue; dsimp only; omega)]
  dsimp only
  rw [show (3072 + (h.val * 128 + l.val)) % 128 = l.val by omega, show (3072 + (h.val * 128 + l.val)) / 128 * 128 = 3072 + h.val * 128 by omega]
  simp only [Nat.add_assoc]

def segKB (z : FVec Ideal S2x4096x11424 .f32) : FVec Ideal S8192x1024 .f32 :=
  shapeCast _ (rope8 (shapeCast _ (extractStridedSlice S2x4096x1024 ![0, 0, 5120] z slices_S2x4096x11424_S2x4096x1024_0_0_5120) shapeCasts_S2x4096x1024_S2x4096x8x128)) shapeCasts_S2x4096x8x128_S8192x1024

theorem headsKB_apply (z : FVec Ideal S2x4096x11424 .f32) (b : Fin 2) (t : Fin 4096) (h : Fin 8) (l : Fin 128) :
    (shapeCast S2x4096x8x128 (extractStridedSlice S2x4096x1024 ![0, 0, 5120] z slices_S2x4096x11424_S2x4096x1024_0_0_5120) shapeCasts_S2x4096x1024_S2x4096x8x128 : FVec Ideal S2x4096x8x128 .f32) (ix4 b t h l)
      = z (ix3 b t ⟨5120 + (h.val * 128 + l.val), by have := h.isLt; have := l.isLt; omega⟩) := by
  pointwise

theorem flatKB_apply (y : FVec Ideal S2x4096x8x128 .f32) (b : Fin 2) (t : Fin 4096) (h : Fin 8) (l : Fin 128) :
    (shapeCast S8192x1024 y shapeCasts_S2x4096x8x128_S8192x1024 : FVec Ideal S8192x1024 .f32) (ix2 (flatRow b t) ⟨h.val * 128 + l.val, by have := h.isLt; have := l.isLt; omega⟩)
      = y (ix4 b t h l) := by
  unfold flatRow
  pointwise

theorem segKB_apply (z : FVec Ideal S2x4096x11424 .f32) (b : Fin 2) (t : Fin 4096) (x : ℕ → EReal)
    (hx : ∀ n : Fin 11424, z (ix3 b t n) = x n.val) (n : Fin 1024) :
    segKB z (ix2 (flatRow b t) n) = projAt x t.val (5120 + n.val) := by
  have hlt : ∀ (h : Fin 8) (l : Fin 128), h.val * 128 + l.val < 1024 := fun h l => by have := h.isLt; have := l.isLt; omega
  have hn := n.isLt
  obtain ⟨h, l, rfl⟩ : ∃ (h : Fin 8) (l : Fin 128), n = ⟨h.val * 128 + l.val, hlt h l⟩ :=
    ⟨⟨n.val / 128, by omega⟩, ⟨n.val % 128, by omega⟩, Fin.ext (by dsimp only; omega)⟩
  have hl := l.isLt
  have hh := h.isLt
  refine (flatKB_apply _ b t h l).trans ?_
  refine (rope8_apply _ b t h l (fun i => x (5120 + (h.val * 128 + i))) fun i => (headsKB_apply z b t h i).trans (hx _)).trans ?_
  unfold projAt
  rw [if_neg (by unfold IsValue; dsimp only; omega)]
  dsimp only
  rw [show (5120 + (h.val * 128 + l.val)) % 128 = l.val by omega, show (5120 + (h.val * 128 + l.val)) / 128 * 128 = 5120 + h.val * 128 by omega]
  simp only [Nat.add_assoc]

def segQI (z : FVec Ideal S2x4096x11424 .f32) : FVec Ideal S8192x4096 .f32 :=
  shapeCast _ (rope32 (shapeCast _ (extractStridedSlice S2x4096x4096 ![0, 0, 7168] z slices_S2x4096x11424_S2x4096x4096_0_0_7168) shapeCasts_S2x4096x4096_S2x4096x32x128)) shapeCasts_S2x4096x32x128_S8192x4096

theorem headsQI_apply (z : FVec Ideal S2x4096x11424 .f32) (b : Fin 2) (t : Fin 4096) (h : Fin 32) (l : Fin 128) :
    (shapeCast S2x4096x32x128 (extractStridedSlice S2x4096x4096 ![0, 0, 7168] z slices_S2x4096x11424_S2x4096x4096_0_0_7168) shapeCasts_S2x4096x4096_S2x4096x32x128 : FVec Ideal S2x4096x32x128 .f32) (ix4 b t h l)
      = z (ix3 b t ⟨7168 + (h.val * 128 + l.val), by have := h.isLt; have := l.isLt; omega⟩) := by
  pointwise

theorem flatQI_apply (y : FVec Ideal S2x4096x32x128 .f32) (b : Fin 2) (t : Fin 4096) (h : Fin 32) (l : Fin 128) :
    (shapeCast S8192x4096 y shapeCasts_S2x4096x32x128_S8192x4096 : FVec Ideal S8192x4096 .f32) (ix2 (flatRow b t) ⟨h.val * 128 + l.val, by have := h.isLt; have := l.isLt; omega⟩)
      = y (ix4 b t h l) := by
  unfold flatRow
  pointwise

theorem segQI_apply (z : FVec Ideal S2x4096x11424 .f32) (b : Fin 2) (t : Fin 4096) (x : ℕ → EReal)
    (hx : ∀ n : Fin 11424, z (ix3 b t n) = x n.val) (n : Fin 4096) :
    segQI z (ix2 (flatRow b t) n) = projAt x t.val (7168 + n.val) := by
  have hlt : ∀ (h : Fin 32) (l : Fin 128), h.val * 128 + l.val < 4096 := fun h l => by have := h.isLt; have := l.isLt; omega
  have hn := n.isLt
  obtain ⟨h, l, rfl⟩ : ∃ (h : Fin 32) (l : Fin 128), n = ⟨h.val * 128 + l.val, hlt h l⟩ :=
    ⟨⟨n.val / 128, by omega⟩, ⟨n.val % 128, by omega⟩, Fin.ext (by dsimp only; omega)⟩
  have hl := l.isLt
  have hh := h.isLt
  refine (flatQI_apply _ b t h l).trans ?_
  refine (rope32_apply _ b t h l (fun i => x (7168 + (h.val * 128 + i))) fun i => (headsQI_apply z b t h i).trans (hx _)).trans ?_
  unfold projAt
  rw [if_neg (by unfold IsValue; dsimp only; omega)]
  dsimp only
  rw [show (7168 + (h.val * 128 + l.val)) % 128 = l.val by omega, show (7168 + (h.val * 128 + l.val)) / 128 * 128 = 7168 + h.val * 128 by omega]
  simp only [Nat.add_assoc]

def segVA (z : FVec Ideal S2x4096x11424 .f32) : FVec Ideal S8192x512 .f32 :=
  shapeCast _ (extractStridedSlice S2x4096x512 ![0, 0, 2560] z slices_S2x4096x11424_S2x4096x512_0_0_2560) shapeCasts_S2x4096x512_S8192x512

theorem plainVA_apply (z : FVec Ideal S2x4096x11424 .f32) (b : Fin 2) (t : Fin 4096) (n : Fin 512) :
    segVA z (ix2 (flatRow b t) n) = z (ix3 b t ⟨2560 + n.val, by have := n.isLt; omega⟩) := by
  unfold segVA flatRow
  pointwise

theorem segVA_apply (z : FVec Ideal S2x4096x11424 .f32) (b : Fin 2) (t : Fin 4096) (x : ℕ → EReal)
    (hx : ∀ n : Fin 11424, z (ix3 b t n) = x n.val) (n : Fin 512) :
    segVA z (ix2 (flatRow b t) n) = projAt x t.val (2560 + n.val) := by
  have hn := n.isLt
  refine ((plainVA_apply z b t n).trans (hx _)).trans ?_
  unfold projAt
  rw [if_pos (by unfold IsValue; omega)]

def segVB (z : FVec Ideal S2x4096x11424 .f32) : FVec Ideal S8192x1024 .f32 :=
  shapeCast _ (extractStridedSlice S2x4096x1024 ![0, 0, 6144] z slices_S2x4096x11424_S2x4096x1024_0_0_6144) shapeCasts_S2x4096x1024_S8192x1024

theorem plainVB_apply (z : FVec Ideal S2x4096x11424 .f32) (b : Fin 2) (t : Fin 4096) (n : Fin 1024) :
    segVB z (ix2 (flatRow b t) n) = z (ix3 b t ⟨6144 + n.val, by have := n.isLt; omega⟩) := by
  unfold segVB flatRow
  pointwise

theorem segVB_apply (z : FVec Ideal S2x4096x11424 .f32) (b : Fin 2) (t : Fin 4096) (x : ℕ → EReal)
    (hx : ∀ n : Fin 11424, z (ix3 b t n) = x n.val) (n : Fin 1024) :
    segVB z (ix2 (flatRow b t) n) = projAt x t.val (6144 + n.val) := by
  have hn := n.isLt
  refine ((plainVB_apply z b t n).trans (hx _)).trans ?_
  unfold projAt
  rw [if_pos (by unfold IsValue; omega)]

/-- The first result: all rotated heads and the values, in the projection's order. -/
def zq (z : FVec Ideal S2x4096x11424 .f32) : FVec Ideal S8192x11264 .bf16 :=
  truncf .bf16 (concatenate S8192x11264 1 [⟨S8192x2048, (segQA z : (⟨S8192x2048, .f32⟩ : BufTy).Contents (Elt Ideal))⟩, ⟨S8192x512, (segKA z : (⟨S8192x512, .f32⟩ : BufTy).Contents (Elt Ideal))⟩, ⟨S8192x512, (segVA z : (⟨S8192x512, .f32⟩ : BufTy).Contents (Elt Ideal))⟩, ⟨S8192x2048, (segQB z : (⟨S8192x2048, .f32⟩ : BufTy).Contents (Elt Ideal))⟩, ⟨S8192x1024, (segKB z : (⟨S8192x1024, .f32⟩ : BufTy).Contents (Elt Ideal))⟩, ⟨S8192x1024, (segVB z : (⟨S8192x1024, .f32⟩ : BufTy).Contents (Elt Ideal))⟩, ⟨S8192x4096, (segQI z : (⟨S8192x4096, .f32⟩ : BufTy).Contents (Elt Ideal))⟩] concatenates_S8192x2048_S8192x512_S8192x512_S8192x2048_S8192x1024_S8192x1024_S8192x4096_S8192x11264_d1) bitsLt_bf16_f32

theorem zq_apply (z : FVec Ideal S2x4096x11424 .f32) (b : Fin 2) (t : Fin 4096) (x : ℕ → EReal)
    (hx : ∀ n : Fin 11424, z (ix3 b t n) = x n.val) (n : Fin 11264) :
    zq z (ix2 (flatRow b t) n) = projAt x t.val n.val := by
  unfold zq
  pointwise
  simp only [segQA_apply z b t x hx, segKA_apply z b t x hx, segVA_apply z b t x hx, segQB_apply z b t x hx, segKB_apply z b t x hx, segVB_apply z b t x hx, segQI_apply z b t x hx]
  have hn := n.isLt
  split_ifs
  all_goals exact congrArg (projAt x t.val) (by omega)

/-- The column of the projection that column `n` of the second result is. -/
def kvCol (n : ℕ) : ℕ :=
  if n < 1024 then 2048 + n else if n < 3072 then 4096 + n else 7680 + n

/-- The second result: keys and values, and the last index heads. -/
def kv (z : FVec Ideal S2x4096x11424 .f32) : FVec Ideal S8192x3584 .f32 :=
  concatenate S8192x3584 1 [⟨S8192x512, (segKA z : (⟨S8192x512, .f32⟩ : BufTy).Contents (Elt Ideal))⟩, ⟨S8192x512, (segVA z : (⟨S8192x512, .f32⟩ : BufTy).Contents (Elt Ideal))⟩, ⟨S8192x1024, (segKB z : (⟨S8192x1024, .f32⟩ : BufTy).Contents (Elt Ideal))⟩, ⟨S8192x1024, (segVB z : (⟨S8192x1024, .f32⟩ : BufTy).Contents (Elt Ideal))⟩, ⟨S8192x512, (extractStridedSlice S8192x512 ![0, 3584] (segQI z) slices_S8192x4096_S8192x512_0_3584 : (⟨S8192x512, .f32⟩ : BufTy).Contents (Elt Ideal))⟩] concatenates_S8192x512_S8192x512_S8192x1024_S8192x1024_S8192x512_S8192x3584_d1

theorem kv_apply (z : FVec Ideal S2x4096x11424 .f32) (b : Fin 2) (t : Fin 4096) (x : ℕ → EReal)
    (hx : ∀ n : Fin 11424, z (ix3 b t n) = x n.val) (n : Fin 3584) :
    kv z (ix2 (flatRow b t) n) = projAt x t.val (kvCol n.val) := by
  unfold kv
  pointwise
  simp only [segKA_apply z b t x hx, segVA_apply z b t x hx, segKB_apply z b t x hx, segVB_apply z b t x hx, segQI_apply z b t x hx]
  have hn := n.isLt
  unfold kvCol
  split_ifs
  all_goals first
    | omega
    | exact congrArg (projAt x t.val) (by omega)

end Cert.Mlp.R5
-- ==== Proof.Mlp.ProjRows.lean ====
module

public import proofs.«01_k».proof.Proof.Gen.Kernel5Ideal.Value
public import proofs.«01_k».proof.Proof.Mlp.Ref5
public import Idealize.ShloMosaic.Lib.Pipeline.ValueKit
public import Idealize.ShloMosaic.Lib.StableHlo.RunRead
public import Idealize.ShloMosaic.Lib.WritesUnit
public import Idealize.ShloMosaic.Lib.VecWindow

@[expose] public section

set_option maxRecDepth 16384

noncomputable section

namespace Cert.Mlp.K5

open Cert.Kernel5Ideal Cert.Kernel5Ideal.Gen Idealize.ShloMosaic Idealize.ShloMosaic.TcCoe Idealize.SL.Sem

theorem pay7_apply (v : FVec Ideal S64x4096 .f32) (g : FVec Ideal S1x4096 .f32) (p : Fin 64) (k : Fin 4096) :
    k0_pay7 (F := Ideal) v g (ix2 p k) = normRow (fun k => v (ix2 p k)) (fun k => g (ix2 0 k)) k := by
  unfold k0_pay7 normRow
  pointwise

/-- The block's matrix product at row `p`, by the column's number. -/
def rowN (y : FVec Ideal S512x512 .f32) (p : Fin 512) (n : ℕ) : EReal := if h : n < 512 then y (ix2 p ⟨n, h⟩) else 0

/-- A table's row `p`, by the lane's number. -/
def rowT (v : FVec Ideal S512x128 .f32) (p : Fin 512) (l : ℕ) : EReal := if h : l < 128 then v (ix2 p ⟨l, h⟩) else 0

theorem pay8_apply (h : FVec Ideal S512x4096 .bf16) (w : FVec Ideal S4096x512 .bf16) (p : Fin 512) (q : Fin 512) :
    k0_pay8 (F := Ideal) h w (ix2 p q) = ∑ k : Fin 4096, h (ix2 p k) * w (ix2 k q) := by
  unfold k0_pay8
  pointwise

theorem pay9_apply (v : FVec Ideal S1x512x128 .f32) (p : Fin 512) (l : Fin 128) : k0_pay9 (F := Ideal) v (ix2 p l) = v (ix3 0 p l) := by
  unfold k0_pay9
  pointwise

theorem pay10_apply (v : FVec Ideal S1x512x128 .f32) (p : Fin 512) (l : Fin 128) : k0_pay10 (F := Ideal) v (ix2 p l) = v (ix3 0 p l) := by
  unfold k0_pay10
  pointwise

theorem pay11_apply (v : FVec Ideal S1x512x128 .f32) (p : Fin 512) (l : Fin 128) : k0_pay11 (F := Ideal) v (ix2 p l) = v (ix3 0 p l) := by
  unfold k0_pay11
  pointwise

/-- A head's lanes rotated by 112 are the lanes 16 further on. -/
theorem roll112 (x : FVec Ideal S512x128 .f32) (p : Fin 512) (l : Fin 128) :
    dynamicRotate 1 112#32 none x rotates_S512x128_d1 (ix2 p l) = rowT x p ((l.val + 16) % 128) := by
  have h : (l.val + 16) % 128 < 128 := Nat.mod_lt _ (by decide)
  unfold rowT
  rw [dif_pos h]
  pointwise
  exact congrArg x (congrArg (ix2 p) (Fin.ext (by dsimp only; omega)))

/-- A head's lanes rotated by 16. -/
theorem roll16 (x : FVec Ideal S512x128 .f32) (p : Fin 512) (l : Fin 128) :
    dynamicRotate 1 16#32 none x rotates_S512x128_d1 (ix2 p l) = rowT x p ((l.val + 112) % 128) := by
  have h : (l.val + 112) % 128 < 128 := Nat.mod_lt _ (by decide)
  unfold rowT
  rw [dif_pos h]
  pointwise
  exact congrArg x (congrArg (ix2 p) (Fin.ext (by dsimp only; omega)))

theorem rowT_fin (v : FVec Ideal S512x128 .f32) (p : Fin 512) (l : Fin 128) : rowT v p l.val = v (ix2 p l) := by
  unfold rowT
  rw [dif_pos l.isLt]

/-- A head rotated by the three tables. -/
def headOf (x C S₁ S₂ : FVec Ideal S512x128 .f32) : FVec Ideal S512x128 .f32 :=
  addf (addf (mulf x C) (mulf (dynamicRotate 1 112#32 none x rotates_S512x128_d1) S₁)) (mulf (dynamicRotate 1 16#32 none x rotates_S512x128_d1) S₂)

theorem headOf_apply (x C S₁ S₂ : FVec Ideal S512x128 .f32) (p : Fin 512) (l : Fin 128) :
    headOf x C S₁ S₂ (ix2 p l) = rollAt (rowT x p) (rowT C p) (rowT S₁ p) (rowT S₂ p) l.val := by
  unfold rollAt
  rw [rowT_fin, rowT_fin, rowT_fin, rowT_fin, ← roll112, ← roll16]
  rfl

/-- Head `a` of the block, as its lanes are numbered in the block's rows. -/
theorem rowT_slice (y : FVec Ideal S512x512 .f32) (x : FVec Ideal S512x128 .f32) (a : ℕ) (ha : a < 4) (p : Fin 512)
    (hx : ∀ (l : Fin 128) (h : a * 128 + l.val < 512), x (ix2 p l) = y (ix2 p ⟨a * 128 + l.val, h⟩)) (l : ℕ) (hl : l < 128) :
    rowT x p l = rowN y p (a * 128 + l) := by
  unfold rowT rowN
  rw [dif_pos hl, dif_pos (by omega)]
  exact hx ⟨l, hl⟩ _

theorem rollAt_congr (x x' C S₁ S₂ : ℕ → EReal) (l : ℕ) (hl : l < 128) (h : ∀ i, i < 128 → x i = x' i) : rollAt x C S₁ S₂ l = rollAt x' C S₁ S₂ l := by
  unfold rollAt
  rw [h l hl, h _ (Nat.mod_lt _ (by decide)), h _ (Nat.mod_lt _ (by decide))]

theorem head_slice (y : FVec Ideal S512x512 .f32) (x C S₁ S₂ : FVec Ideal S512x128 .f32) (a : ℕ) (ha : a < 4) (p : Fin 512)
    (hx : ∀ (l : Fin 128) (h : a * 128 + l.val < 512), x (ix2 p l) = y (ix2 p ⟨a * 128 + l.val, h⟩)) (l : Fin 128) :
    headOf x C S₁ S₂ (ix2 p l) = rollAt (fun i => rowN y p (a * 128 + i)) (rowT C p) (rowT S₁ p) (rowT S₂ p) l.val :=
  (headOf_apply x C S₁ S₂ p l).trans (rollAt_congr _ _ _ _ _ _ l.isLt fun i hi => rowT_slice y x a ha p hx i hi)

/-- Head `a` of a block: its columns' numbers, the product and the tables as the kernel reads them. -/
def headAt (h : FVec Ideal S512x4096 .bf16) (w : FVec Ideal S4096x512 .bf16) (C S₁ S₂ : FVec Ideal S1x512x128 .f32) (p : Fin 512) (a l : ℕ) : EReal :=
  rollAt (fun i => rowN (k0_pay8 (F := Ideal) h w) p (a * 128 + i)) (rowT (k0_pay9 (F := Ideal) C) p) (rowT (k0_pay10 (F := Ideal) S₁) p)
    (rowT (k0_pay11 (F := Ideal) S₂) p) l

section Heads

variable (h : FVec Ideal S512x4096 .bf16) (w : FVec Ideal S4096x512 .bf16) (C S₁ S₂ : FVec Ideal S1x512x128 .f32) (p : Fin 512) (l : Fin 128)

theorem pay12_apply : k0_pay12 (F := Ideal) h w C S₁ S₂ (ix2 p l) = headAt h w C S₁ S₂ p 0 l.val := by
  have e : k0_pay12 (F := Ideal) h w C S₁ S₂
      = headOf (extractStridedSlice S512x128 ![0, 0] (k0_pay8 (F := Ideal) h w) slices_S512x512_o0_0_S512x128) (k0_pay9 (F := Ideal) C) (k0_pay10 (F := Ideal) S₁) (k0_pay11 (F := Ideal) S₂) := by
    unfold k0_pay12 headOf
    rfl
  rw [e]
  unfold headAt
  generalize k0_pay8 (F := Ideal) h w = y
  refine head_slice y _ _ _ _ 0 (by decide) p (fun l _ => ?_) l
  pointwise

theorem pay1_apply : k0_pay1 (F := Ideal) (k0_pay15 (F := Ideal) h w C S₁) (k0_pay16 (F := Ideal) h w S₂) (ix2 p l) = headAt h w C S₁ S₂ p 1 l.val := by
  have e : k0_pay1 (F := Ideal) (k0_pay15 (F := Ideal) h w C S₁) (k0_pay16 (F := Ideal) h w S₂)
      = headOf (extractStridedSlice S512x128 ![0, 128] (k0_pay8 (F := Ideal) h w) slices_S512x512_o0_128_S512x128) (k0_pay9 (F := Ideal) C) (k0_pay10 (F := Ideal) S₁) (k0_pay11 (F := Ideal) S₂) := by
    unfold k0_pay1 k0_pay15 k0_pay16 k0_pay14 headOf
    rfl
  rw [e]
  unfold headAt
  generalize k0_pay8 (F := Ideal) h w = y
  refine head_slice y _ _ _ _ 1 (by decide) p (fun l _ => ?_) l
  pointwise

theorem pay3_apply : k0_pay3 (F := Ideal) (k0_pay8 (F := Ideal) h w) (k0_pay9 (F := Ideal) C) (k0_pay10 (F := Ideal) S₁) (k0_pay11 (F := Ideal) S₂) (ix2 p l)
    = headAt h w C S₁ S₂ p 2 l.val := by
  have e : k0_pay3 (F := Ideal) (k0_pay8 (F := Ideal) h w) (k0_pay9 (F := Ideal) C) (k0_pay10 (F := Ideal) S₁) (k0_pay11 (F := Ideal) S₂)
      = headOf (extractStridedSlice S512x128 ![0, 256] (k0_pay8 (F := Ideal) h w) slices_S512x512_o0_256_S512x128) (k0_pay9 (F := Ideal) C) (k0_pay10 (F := Ideal) S₁) (k0_pay11 (F := Ideal) S₂) := by
    unfold k0_pay3 headOf
    rfl
  rw [e]
  unfold headAt
  generalize k0_pay8 (F := Ideal) h w = y
  refine head_slice y _ _ _ _ 2 (by decide) p (fun l _ => ?_) l
  pointwise

theorem pay5_apply : k0_pay5 (F := Ideal) (k0_pay8 (F := Ideal) h w) (k0_pay9 (F := Ideal) C) (k0_pay10 (F := Ideal) S₁) (k0_pay11 (F := Ideal) S₂) (ix2 p l)
    = headAt h w C S₁ S₂ p 3 l.val := by
  have e : k0_pay5 (F := Ideal) (k0_pay8 (F := Ideal) h w) (k0_pay9 (F := Ideal) C) (k0_pay10 (F := Ideal) S₁) (k0_pay11 (F := Ideal) S₂)
      = headOf (extractStridedSlice S512x128 ![0, 384] (k0_pay8 (F := Ideal) h w) slices_S512x512_o0_384_S512x128) (k0_pay9 (F := Ideal) C) (k0_pay10 (F := Ideal) S₁) (k0_pay11 (F := Ideal) S₂) := by
    unfold k0_pay5 headOf
    rfl
  rw [e]
  unfold headAt
  generalize k0_pay8 (F := Ideal) h w = y
  refine head_slice y _ _ _ _ 3 (by decide) p (fun l _ => ?_) l
  pointwise

theorem pay13_apply : k0_pay13 (F := Ideal) h w C S₁ S₂ (ix2 p l) = headAt h w C S₁ S₂ p 0 l.val := pay12_apply h w C S₁ S₂ p l

theorem pay2_apply : k0_pay2 (F := Ideal) (k0_pay15 (F := Ideal) h w C S₁) (k0_pay16 (F := Ideal) h w S₂) (ix2 p l) = headAt h w C S₁ S₂ p 1 l.val :=
  pay1_apply h w C S₁ S₂ p l

theorem pay4_apply : k0_pay4 (F := Ideal) (k0_pay8 (F := Ideal) h w) (k0_pay9 (F := Ideal) C) (k0_pay10 (F := Ideal) S₁) (k0_pay11 (F := Ideal) S₂) (ix2 p l)
    = headAt h w C S₁ S₂ p 2 l.val := pay3_apply h w C S₁ S₂ p l

theorem pay6_apply : k0_pay6 (F := Ideal) (k0_pay8 (F := Ideal) h w) (k0_pay9 (F := Ideal) C) (k0_pay10 (F := Ideal) S₁) (k0_pay11 (F := Ideal) S₂) (ix2 p l)
    = headAt h w C S₁ S₂ p 3 l.val := pay5_apply h w C S₁ S₂ p l

end Heads

variable (𝒱 : Variants) (c : Dev nD) (bd : Option 𝒱.V) (i : grid0.Coords)
  (arg2 : Memref sig .tc .vmem S512x4096 .f32) (harg2 : arg2.IsWhole) (arg3 : Memref sig .tc .vmem S1x4096 .f32) (harg3 : arg3.IsWhole)
  (arg4 : Memref sig .tc .vmem S4096x512 .bf16) (harg4 : arg4.IsWhole) (arg5 : Memref sig .tc .vmem S1x512x128 .f32) (harg5 : arg5.IsWhole)
  (arg6 : Memref sig .tc .vmem S1x512x128 .f32) (harg6 : arg6.IsWhole) (arg7 : Memref sig .tc .vmem S1x512x128 .f32) (harg7 : arg7.IsWhole)
  (arg8 : Memref sig .tc .vmem S512x512 .bf16) (harg8 : arg8.IsWhole) (arg9 : Memref sig .tc .vmem S512x512 .f32) (harg9 : arg9.IsWhole)
  (arg10 : Memref sig .tc .vmem S512x4096 .bf16) (harg10 : arg10.IsWhole) (k0_h1 : k0_cond1 i = 1#1)
  (X2 : BufTy.Contents (Elt Ideal) arg2.view.ty) (X3 : BufTy.Contents (Elt Ideal) arg3.view.ty)

theorem tripL_eq (k : Fin k0_t1_loop.trips) :
    tripL_k0_t1 (F := Ideal) 𝒱 c bd i arg2 harg2 arg3 harg3 arg4 harg4 arg5 harg5 arg6 harg6 arg7 harg7 arg8 harg8 arg9 harg9 arg10 harg10 k0_h1 X2 X3 k
      = [⟨Rect.unit (s := S512x4096) (k0_off1 k) S64x4096.size (k0_off1_inb i k k0_h1),
          k0_pay7 (F := Ideal) (View.readAt (Elt Ideal) arg2.view (Rect.unit (s := S512x4096) (k0_off1 k) S64x4096.size (k0_off1_inb i k k0_h1)).toLoadRect X2)
            (View.readAt (Elt Ideal) arg3.view (Rect.unit (s := S1x4096) ![0, 0] S1x4096.size inb_S1x4096_S1x4096_0_0).toLoadRect X3)⟩] := by
  unfold tripL_k0_t1 trip_k0_t1
  dsimp only

/-- After `n` trips the first `64 n` rows of the scratch are the normalised rows of the block. -/
theorem rows (f : BufTy.Contents (Elt Ideal) VS0_0.ty) (n : ℕ) (hn : n ≤ k0_t1_loop.trips) (r : Fin 512) (hr : r.val < 64 * n) (k : Fin 4096) :
    VS0_0.read (Elt Ideal) (VS0_0.writes (Elt Ideal) f (pb_k0_t1 (F := Ideal) 𝒱 c bd i arg2 harg2 arg3 harg3 arg4 harg4 arg5 harg5 arg6 harg6 arg7 harg7 arg8 harg8 arg9 harg9 arg10 harg10 k0_h1 X2 X3 n)) (ix2 r k)
      = normRow (fun k => arg2.view.read (Elt Ideal) X2 (ix2 r k)) (fun k => arg3.view.read (Elt Ideal) X3 (ix2 0 k)) k := by
  induction n with
  | zero => omega
  | succ n ih =>
    rw [pb_k0_t1_succ 𝒱 c bd i arg2 harg2 arg3 harg3 arg4 harg4 arg5 harg5 arg6 harg6 arg7 harg7 arg8 harg8 arg9 harg9 arg10 harg10 k0_h1 X2 X3 ⟨n, hn⟩, tripL_eq, List.singleton_append]
    by_cases h : r.val < 64 * n
    · exact (View.read_writes_cons_rows_of_not_mem VS0_0 f _ _ _ (ix2 r k) (k0_off1_eq ⟨n, hn⟩) (W := 64) rfl (Or.inl h)).trans
        (ih (by omega) h)
    · have hlt : r.val - 64 * n < 64 := by omega
      refine (View.read_writes_cons_rows_of_mem VS0_0 f _ _ _ (ix2 r k) (ix2 (⟨r.val - 64 * n, hlt⟩ : Fin 64) k) (k0_off1_eq ⟨n, hn⟩) ?_ rfl).trans ?_
      · show r.val = 64 * n + (r.val - 64 * n)
        omega
      · refine (pay7_apply _ _ _ k).trans ?_
        have e2 : ∀ k, View.readAt (Elt Ideal) arg2.view (Rect.unit (s := S512x4096) (k0_off1 ⟨n, hn⟩) S64x4096.size (k0_off1_inb i ⟨n, hn⟩ k0_h1)).toLoadRect X2 (ix2 (⟨r.val - 64 * n, hlt⟩ : Fin 64) k)
            = arg2.view.read (Elt Ideal) X2 (ix2 r k) := fun k => by
          refine congrArg (arg2.view.read (Elt Ideal) X2) (funext fun a => Fin.ext ?_)
          have h := congrFun (k0_off1_eq ⟨n, hn⟩) a
          fin_cases a
          · show (k0_off1 ⟨n, hn⟩ 0) + 1 * (r.val - 64 * n) = r.val
            have h' : k0_off1 ⟨n, hn⟩ 0 = 64 * n := h
            omega
          · show (k0_off1 ⟨n, hn⟩ 1) + 1 * k.val = k.val
            have h' : k0_off1 ⟨n, hn⟩ 1 = 0 := h
            omega
        have e3 : ∀ k, View.readAt (Elt Ideal) arg3.view (Rect.unit (s := S1x4096) ![0, 0] S1x4096.size inb_S1x4096_S1x4096_0_0).toLoadRect X3 (ix2 0 k)
            = arg3.view.read (Elt Ideal) X3 (ix2 0 k) := fun k => congrFun (View.readAt_full arg3.view X3 inb_S1x4096_S1x4096_0_0) _
        exact congrArg₂ (fun x g => normRow x g k) (funext e2) (funext e3)

end Cert.Mlp.K5
-- ==== Proof.Mlp.ProjCases.lean ====
module

public import proofs.«01_k».proof.Proof.Gen.Kernel5Ideal.Value
public import proofs.«01_k».proof.Proof.Mlp.Ref5
public import proofs.«01_k».proof.Proof.Mlp.ProjRows
public import Idealize.ShloMosaic.Lib.Pipeline.ValueKit
public import Idealize.ShloMosaic.Lib.StableHlo.RunRead
public import Idealize.ShloMosaic.Lib.WritesUnit

@[expose] public section

set_option maxRecDepth 16384

noncomputable section

namespace Cert.Mlp.K5

open Cert.Kernel5Ideal Cert.Kernel5Ideal.Gen Idealize.ShloMosaic Idealize.ShloMosaic.TcCoe Idealize.SL.Sem

theorem trips_eq : k0_t1_loop.trips = 8 := by decide +kernel

/-- A column of a row times the weights' block, by the column's number. -/
def colN (r : Fin 4096 → EReal) (w : FVec Ideal S4096x512 .bf16) (n : ℕ) : EReal := if h : n < 512 then ∑ k : Fin 4096, r k * w (ix2 k ⟨n, h⟩) else 0

/-- A table block's row, by the lane's number. -/
def tabN (v : FVec Ideal S1x512x128 .f32) (p : Fin 512) (l : ℕ) : EReal := if h : l < 128 then v (ix3 0 p ⟨l, h⟩) else 0

/-- What the kernel leaves at row `p`, column `q` of a block. -/
def projEntry (r : Fin 4096 → EReal) (w : FVec Ideal S4096x512 .bf16) (C S₁ S₂ : FVec Ideal S1x512x128 .f32) (p : Fin 512) (q : ℕ) : EReal :=
  rollAt (fun i => colN r w (q / 128 * 128 + i)) (tabN C p) (tabN S₁ p) (tabN S₂ p) (q % 128)

theorem headAt_eq (h : FVec Ideal S512x4096 .bf16) (w : FVec Ideal S4096x512 .bf16) (C S₁ S₂ : FVec Ideal S1x512x128 .f32) (p : Fin 512)
    (r : Fin 4096 → EReal) (hr : ∀ k, h (ix2 p k) = r k) (q : ℕ) :
    headAt h w C S₁ S₂ p (q / 128) (q % 128) = projEntry r w C S₁ S₂ p q := by
  have eN : rowN (k0_pay8 (F := Ideal) h w) p = colN r w := by
    funext n
    unfold rowN colN
    by_cases hn : n < 512
    · rw [dif_pos hn, dif_pos hn, pay8_apply]
      exact Finset.sum_congr rfl fun k _ => congrArg (· * w (ix2 k ⟨n, hn⟩)) (hr k)
    · rw [dif_neg hn, dif_neg hn]
  have e9 : rowT (k0_pay9 (F := Ideal) C) p = tabN C p := by
    funext l
    unfold rowT tabN
    by_cases hl : l < 128
    · rw [dif_pos hl, dif_pos hl, pay9_apply]
    · rw [dif_neg hl, dif_neg hl]
  have e10 : rowT (k0_pay10 (F := Ideal) S₁) p = tabN S₁ p := by
    funext l
    unfold rowT tabN
    by_cases hl : l < 128
    · rw [dif_pos hl, dif_pos hl, pay10_apply]
    · rw [dif_neg hl, dif_neg hl]
  have e11 : rowT (k0_pay11 (F := Ideal) S₂) p = tabN S₂ p := by
    funext l
    unfold rowT tabN
    by_cases hl : l < 128
    · rw [dif_pos hl, dif_pos hl, pay11_apply]
    · rw [dif_neg hl, dif_neg hl]
  unfold headAt projEntry
  rw [eN, e9, e10, e11]

/-- Under the newest of the writes at columns from `o`. -/
theorem canon_mem {e : EltTy} (o : ℕ) (inb : ∀ a, (![0, o] : Fin 2 → ℕ) a + S512x128.size a ≤ S512x512.size a) (w : S512x128.Idx → Elt Ideal e)
    (L : List (View.Piece (Elt Ideal) S512x512 e)) (p q : Fin 512) (h : o ≤ q.val) (hl : q.val - o < 128) :
    View.canon (⟨Rect.unit (s := S512x512) ![0, o] S512x128.size inb, w⟩ :: L) (ix2 p q) = w (ix2 p (⟨q.val - o, hl⟩ : Fin 128)) := by
  refine Eq.trans (congrArg _ ?_) (View.canon_cons_emb (Rect.unit (s := S512x512) ![0, o] S512x128.size inb) w L (ix2 p (⟨q.val - o, hl⟩ : Fin 128)))
  funext a
  fin_cases a
  · apply Fin.ext
    show p.val = 0 + 1 * p.val
    omega
  · apply Fin.ext
    show q.val = o + 1 * (q.val - o)
    omega

/-- Before the newest write's columns. -/
theorem canon_not_mem {e : EltTy} (o : ℕ) (inb : ∀ a, (![0, o] : Fin 2 → ℕ) a + S512x128.size a ≤ S512x512.size a) (w : S512x128.Idx → Elt Ideal e)
    (L : List (View.Piece (Elt Ideal) S512x512 e)) (p q : Fin 512) (h : q.val < o) :
    View.canon (⟨Rect.unit (s := S512x512) ![0, o] S512x128.size inb, w⟩ :: L) (ix2 p q) = View.canon L (ix2 p q) := by
  refine View.canon_cons_of_not_mem _ L ?_
  rw [Rect.mem_set_unit]
  intro hall
  have h1 : o ≤ q.val := (hall 1).1
  omega

/-- A block written head by head, read at one entry. -/
theorem read_heads {e : EltTy} (w0 w1 w2 w3 : S512x128.Idx → Elt Ideal e) (p : Fin 512) (q : Fin 512) (g : ℕ → ℕ → Elt Ideal e)
    (h0 : ∀ l : Fin 128, w0 (ix2 p l) = g 0 l.val) (h1 : ∀ l : Fin 128, w1 (ix2 p l) = g 1 l.val)
    (h2 : ∀ l : Fin 128, w2 (ix2 p l) = g 2 l.val) (h3 : ∀ l : Fin 128, w3 (ix2 p l) = g 3 l.val) :
    View.canon (Val := Elt Ideal) (s := S512x512) (e := e)
      [⟨Rect.unit (s := S512x512) ![0, 384] S512x128.size inb_S512x512_S512x128_0_384, w3⟩,
       ⟨Rect.unit (s := S512x512) ![0, 256] S512x128.size inb_S512x512_S512x128_0_256, w2⟩,
       ⟨Rect.unit (s := S512x512) ![0, 128] S512x128.size inb_S512x512_S512x128_0_128, w1⟩,
       ⟨Rect.unit (s := S512x512) ![0, 0] S512x128.size inb_S512x512_S512x128_0_0, w0⟩] (ix2 p q) = g (q.val / 128) (q.val % 128) := by
  have hq := q.isLt
  by_cases c3 : 384 ≤ q.val
  · refine (canon_mem 384 _ w3 _ p q c3 (by omega)).trans ((h3 _).trans ?_)
    rw [show q.val / 128 = 3 by omega, show q.val % 128 = q.val - 384 by omega]
  refine (canon_not_mem 384 _ w3 _ p q (by omega)).trans ?_
  by_cases c2 : 256 ≤ q.val
  · refine (canon_mem 256 _ w2 _ p q c2 (by omega)).trans ((h2 _).trans ?_)
    rw [show q.val / 128 = 2 by omega, show q.val % 128 = q.val - 256 by omega]
  refine (canon_not_mem 256 _ w2 _ p q (by omega)).trans ?_
  by_cases c1 : 128 ≤ q.val
  · refine (canon_mem 128 _ w1 _ p q c1 (by omega)).trans ((h1 _).trans ?_)
    rw [show q.val / 128 = 1 by omega, show q.val % 128 = q.val - 128 by omega]
  refine (canon_not_mem 128 _ w1 _ p q (by omega)).trans ?_
  refine (canon_mem 0 _ w0 _ p q (Nat.zero_le _) (by omega)).trans ((h0 _).trans ?_)
  rw [show q.val / 128 = 0 by omega, show q.val % 128 = q.val - 0 by omega]

theorem heads6 (h : FVec Ideal S512x4096 .bf16) (w : FVec Ideal S4096x512 .bf16) (C S₁ S₂ : FVec Ideal S1x512x128 .f32) (p q : Fin 512) :
    View.canon (Val := Elt Ideal) (s := S512x512) (e := .bf16)
      [⟨Rect.unit (s := S512x512) ![0, 384] S512x128.size inb_S512x512_S512x128_0_384, k0_pay6 (F := Ideal) (k0_pay8 (F := Ideal) h w) (k0_pay9 (F := Ideal) C) (k0_pay10 (F := Ideal) S₁) (k0_pay11 (F := Ideal) S₂)⟩,
       ⟨Rect.unit (s := S512x512) ![0, 256] S512x128.size inb_S512x512_S512x128_0_256, k0_pay4 (F := Ideal) (k0_pay8 (F := Ideal) h w) (k0_pay9 (F := Ideal) C) (k0_pay10 (F := Ideal) S₁) (k0_pay11 (F := Ideal) S₂)⟩,
       ⟨Rect.unit (s := S512x512) ![0, 128] S512x128.size inb_S512x512_S512x128_0_128, k0_pay2 (F := Ideal) (k0_pay15 (F := Ideal) h w C S₁) (k0_pay16 (F := Ideal) h w S₂)⟩,
       ⟨Rect.unit (s := S512x512) ![0, 0] S512x128.size inb_S512x512_S512x128_0_0, k0_pay13 (F := Ideal) h w C S₁ S₂⟩] (ix2 p q)
      = headAt h w C S₁ S₂ p (q.val / 128) (q.val % 128) := by
  have h0 := pay13_apply h w C S₁ S₂ p
  have h1 := pay2_apply h w C S₁ S₂ p
  have h2 := pay4_apply h w C S₁ S₂ p
  have h3 := pay6_apply h w C S₁ S₂ p
  revert h0 h1 h2 h3
  generalize headAt h w C S₁ S₂ p = g
  generalize k0_pay13 (F := Ideal) h w C S₁ S₂ = w0
  generalize k0_pay2 (F := Ideal) (k0_pay15 (F := Ideal) h w C S₁) (k0_pay16 (F := Ideal) h w S₂) = w1
  generalize k0_pay4 (F := Ideal) (k0_pay8 (F := Ideal) h w) (k0_pay9 (F := Ideal) C) (k0_pay10 (F := Ideal) S₁) (k0_pay11 (F := Ideal) S₂) = w2
  generalize k0_pay6 (F := Ideal) (k0_pay8 (F := Ideal) h w) (k0_pay9 (F := Ideal) C) (k0_pay10 (F := Ideal) S₁) (k0_pay11 (F := Ideal) S₂) = w3
  intro h0 h1 h2 h3
  exact read_heads (e := .bf16) w0 w1 w2 w3 p q g h0 h1 h2 h3

theorem heads7 (h : FVec Ideal S512x4096 .bf16) (w : FVec Ideal S4096x512 .bf16) (C S₁ S₂ : FVec Ideal S1x512x128 .f32) (p q : Fin 512) :
    View.canon (Val := Elt Ideal) (s := S512x512) (e := .f32)
      [⟨Rect.unit (s := S512x512) ![0, 384] S512x128.size inb_S512x512_S512x128_0_384, k0_pay5 (F := Ideal) (k0_pay8 (F := Ideal) h w) (k0_pay9 (F := Ideal) C) (k0_pay10 (F := Ideal) S₁) (k0_pay11 (F := Ideal) S₂)⟩,
       ⟨Rect.unit (s := S512x512) ![0, 256] S512x128.size inb_S512x512_S512x128_0_256, k0_pay3 (F := Ideal) (k0_pay8 (F := Ideal) h w) (k0_pay9 (F := Ideal) C) (k0_pay10 (F := Ideal) S₁) (k0_pay11 (F := Ideal) S₂)⟩,
       ⟨Rect.unit (s := S512x512) ![0, 128] S512x128.size inb_S512x512_S512x128_0_128, k0_pay1 (F := Ideal) (k0_pay15 (F := Ideal) h w C S₁) (k0_pay16 (F := Ideal) h w S₂)⟩,
       ⟨Rect.unit (s := S512x512) ![0, 0] S512x128.size inb_S512x512_S512x128_0_0, k0_pay12 (F := Ideal) h w C S₁ S₂⟩] (ix2 p q)
      = headAt h w C S₁ S₂ p (q.val / 128) (q.val % 128) := by
  have h0 := pay12_apply h w C S₁ S₂ p
  have h1 := pay1_apply h w C S₁ S₂ p
  have h2 := pay3_apply h w C S₁ S₂ p
  have h3 := pay5_apply h w C S₁ S₂ p
  revert h0 h1 h2 h3
  generalize headAt h w C S₁ S₂ p = g
  generalize k0_pay12 (F := Ideal) h w C S₁ S₂ = w0
  generalize k0_pay1 (F := Ideal) (k0_pay15 (F := Ideal) h w C S₁) (k0_pay16 (F := Ideal) h w S₂) = w1
  generalize k0_pay3 (F := Ideal) (k0_pay8 (F := Ideal) h w) (k0_pay9 (F := Ideal) C) (k0_pay10 (F := Ideal) S₁) (k0_pay11 (F := Ideal) S₂) = w2
  generalize k0_pay5 (F := Ideal) (k0_pay8 (F := Ideal) h w) (k0_pay9 (F := Ideal) C) (k0_pay10 (F := Ideal) S₁) (k0_pay11 (F := Ideal) S₂) = w3
  intro h0 h1 h2 h3
  exact read_heads (e := .f32) w0 w1 w2 w3 p q g h0 h1 h2 h3

section Cases

variable (c : Dev nD) (i : grid0.Coords)
  (arg2 : Memref sig .tc .vmem S512x4096 .f32) (harg2 : arg2.IsWhole) (arg3 : Memref sig .tc .vmem S1x4096 .f32) (harg3 : arg3.IsWhole)
  (arg4 : Memref sig .tc .vmem S4096x512 .bf16) (harg4 : arg4.IsWhole) (arg5 : Memref sig .tc .vmem S1x512x128 .f32) (harg5 : arg5.IsWhole)
  (arg6 : Memref sig .tc .vmem S1x512x128 .f32) (harg6 : arg6.IsWhole) (arg7 : Memref sig .tc .vmem S1x512x128 .f32) (harg7 : arg7.IsWhole)
  (arg8 : Memref sig .tc .vmem S512x512 .bf16) (harg8 : arg8.IsWhole) (arg9 : Memref sig .tc .vmem S512x512 .f32) (harg9 : arg9.IsWhole)
  (x0 : FVec Ideal S512x4096 .f32) (x1 : FVec Ideal S1x4096 .f32) (x2 : FVec Ideal S4096x512 .bf16)
  (x3 x4 x5 : FVec Ideal S1x512x128 .f32)

theorem filled (hc0 : cond0_0 i) (r : Fin 512) (k : Fin 4096) :
    VS0_0.read (Elt Ideal) (VS0_0.writes (Elt Ideal) VS0_0.junk (pb_k0_t1 (F := Ideal) Variants.none c none i arg2 harg2 arg3 harg3 arg4 harg4 arg5 harg5 arg6 harg6 arg7 harg7 arg8 harg8 arg9 harg9 scM0_0 (Memref.isWhole_whole _) hc0 (harg2.unread x0) (harg3.unread x1) k0_t1_loop.trips)) (ix2 r k)
      = normRow (fun k => x0 (ix2 r k)) (fun k => x1 (ix2 0 k)) k := by
  have hr := r.isLt
  refine (rows Variants.none c none i arg2 harg2 arg3 harg3 arg4 harg4 arg5 harg5 arg6 harg6 arg7 harg7 arg8 harg8 arg9 harg9 scM0_0 (Memref.isWhole_whole _) hc0 _ _ _ _ le_rfl r (by rw [trips_eq]; omega) k).trans ?_
  rw [harg2.read_unread, harg3.read_unread]

/-- The scratch after a point that fills it. -/
theorem sout_A (hc0 : cond0_0 i) (r : Fin 512) (k : Fin 4096) :
    sout0_A_0 (F := Ideal) c i arg2 harg2 arg3 harg3 arg4 harg4 arg5 harg5 arg6 harg6 arg7 harg7 arg8 harg8 arg9 harg9 scM0_0 (Memref.isWhole_whole _) hc0 x0 x1 x2 x3 x4 x5 (ix2 r k)
      = normRow (fun k => x0 (ix2 r k)) (fun k => x1 (ix2 0 k)) k := by
  refine Eq.trans ?_ (filled c i arg2 harg2 arg3 harg3 arg4 harg4 arg5 harg5 arg6 harg6 arg7 harg7 arg8 harg8 arg9 harg9 x0 x1 hc0 r k)
  unfold sout0_A_0 kernelRun0_A
  rfl

theorem out_A_6 (hc0 : cond0_0 i) (p : Fin 512) (q : Fin 512) :
    out0_A_6 (F := Ideal) c i arg2 harg2 arg3 harg3 arg4 harg4 arg5 harg5 arg6 harg6 arg7 harg7 arg8 harg8 arg9 harg9 scM0_0 (Memref.isWhole_whole _) hc0 x0 x1 x2 x3 x4 x5 (ix2 p q)
      = projEntry (normRow (fun k => x0 (ix2 p k)) (fun k => x1 (ix2 0 k))) x2 x3 x4 x5 p q.val := by
  frame_out
  have h : ∀ k : Fin 4096, ((View.whole cc0_scratch0).readCov (pb_k0_t1 (F := Ideal) Variants.none c none i arg2 harg2 arg3 harg3 arg4 harg4 arg5 harg5 arg6 harg6 arg7 harg7 arg8 harg8 arg9 harg9 scM0_0 (Memref.isWhole_whole _) hc0 (harg2.unread x0) (harg3.unread x1) k0_t1_loop.trips)
      (Rect.unit (s := S512x4096) ![0, 0] ![512, 4096] inb_S512x4096_S512x4096_0_0).toLoadRect : FVec Ideal S512x4096 .bf16) (ix2 p k) = normRow (fun k => x0 (ix2 p k)) (fun k => x1 (ix2 0 k)) k := fun k =>
    (congrFun (View.readAt_full VS0_0 _ inb_S512x4096_S512x4096_0_0) _).trans (filled c i arg2 harg2 arg3 harg3 arg4 harg4 arg5 harg5 arg6 harg6 arg7 harg7 arg8 harg8 arg9 harg9 x0 x1 hc0 p k)
  exact (heads6 _ x2 x3 x4 x5 p q).trans (headAt_eq _ x2 x3 x4 x5 p _ h q.val)

theorem out_A_7 (hc0 : cond0_0 i) (p : Fin 512) (q : Fin 512) :
    out0_A_7 (F := Ideal) c i arg2 harg2 arg3 harg3 arg4 harg4 arg5 harg5 arg6 harg6 arg7 harg7 arg8 harg8 arg9 harg9 scM0_0 (Memref.isWhole_whole _) hc0 x0 x1 x2 x3 x4 x5 (ix2 p q)
      = projEntry (normRow (fun k => x0 (ix2 p k)) (fun k => x1 (ix2 0 k))) x2 x3 x4 x5 p q.val := by
  frame_out
  have h : ∀ k : Fin 4096, ((View.whole cc0_scratch0).readCov (pb_k0_t1 (F := Ideal) Variants.none c none i arg2 harg2 arg3 harg3 arg4 harg4 arg5 harg5 arg6 harg6 arg7 harg7 arg8 harg8 arg9 harg9 scM0_0 (Memref.isWhole_whole _) hc0 (harg2.unread x0) (harg3.unread x1) k0_t1_loop.trips)
      (Rect.unit (s := S512x4096) ![0, 0] ![512, 4096] inb_S512x4096_S512x4096_0_0).toLoadRect : FVec Ideal S512x4096 .bf16) (ix2 p k) = normRow (fun k => x0 (ix2 p k)) (fun k => x1 (ix2 0 k)) k := fun k =>
    (congrFun (View.readAt_full VS0_0 _ inb_S512x4096_S512x4096_0_0) _).trans (filled c i arg2 harg2 arg3 harg3 arg4 harg4 arg5 harg5 arg6 harg6 arg7 harg7 arg8 harg8 arg9 harg9 x0 x1 hc0 p k)
  exact (heads7 _ x2 x3 x4 x5 p q).trans (headAt_eq _ x2 x3 x4 x5 p _ h q.val)

theorem out_B_6 (hc0 : ¬cond0_0 i) (xs0 : FVec Ideal S512x4096 .bf16) (p : Fin 512) (q : Fin 512)
    (r : Fin 4096 → EReal) (hs : ∀ k, xs0 (ix2 p k) = r k) :
    out0_B_6 (F := Ideal) c i arg2 harg2 arg3 harg3 arg4 harg4 arg5 harg5 arg6 harg6 arg7 harg7 arg8 harg8 arg9 harg9 scM0_0 (Memref.isWhole_whole _) hc0 x0 x1 x2 x3 x4 x5 xs0 (ix2 p q) = projEntry r x2 x3 x4 x5 p q.val := by
  frame_out
  have e : scM0_0.view.read (Elt Ideal) (Memref.IsWhole.unread (Val := Elt Ideal) (m := scM0_0) (Memref.isWhole_whole _) xs0) = xs0 :=
    Memref.IsWhole.read_unread (Val := Elt Ideal) (m := scM0_0) (Memref.isWhole_whole _) xs0
  have h : ∀ k : Fin 4096, (scM0_0.view.read (Elt Ideal) (Memref.IsWhole.unread (Val := Elt Ideal) (m := scM0_0) (Memref.isWhole_whole _) xs0) : FVec Ideal S512x4096 .bf16) (ix2 p k)
      = r k := fun k => (congrFun e _).trans (hs k)
  exact (heads6 _ x2 x3 x4 x5 p q).trans (headAt_eq _ x2 x3 x4 x5 p _ h q.val)

theorem out_B_7 (hc0 : ¬cond0_0 i) (xs0 : FVec Ideal S512x4096 .bf16) (p : Fin 512) (q : Fin 512)
    (r : Fin 4096 → EReal) (hs : ∀ k, xs0 (ix2 p k) = r k) :
    out0_B_7 (F := Ideal) c i arg2 harg2 arg3 harg3 arg4 harg4 arg5 harg5 arg6 harg6 arg7 harg7 arg8 harg8 arg9 harg9 scM0_0 (Memref.isWhole_whole _) hc0 x0 x1 x2 x3 x4 x5 xs0 (ix2 p q) = projEntry r x2 x3 x4 x5 p q.val := by
  frame_out
  have e : scM0_0.view.read (Elt Ideal) (Memref.IsWhole.unread (Val := Elt Ideal) (m := scM0_0) (Memref.isWhole_whole _) xs0) = xs0 :=
    Memref.IsWhole.read_unread (Val := Elt Ideal) (m := scM0_0) (Memref.isWhole_whole _) xs0
  have h : ∀ k : Fin 4096, (scM0_0.view.read (Elt Ideal) (Memref.IsWhole.unread (Val := Elt Ideal) (m := scM0_0) (Memref.isWhole_whole _) xs0) : FVec Ideal S512x4096 .bf16) (ix2 p k)
      = r k := fun k => (congrFun e _).trans (hs k)
  exact (heads7 _ x2 x3 x4 x5 p q).trans (headAt_eq _ x2 x3 x4 x5 p _ h q.val)

end Cases

end Cert.Mlp.K5
-- ==== Proof.Mlp.ProjTables.lean ====
module

public import proofs.«01_k».proof.Proof.Gen.Kernel5Ideal.Value
public import proofs.«01_k».proof.Proof.Mlp.Ref5
public import Idealize.ShloMosaic.Lib.Pipeline.ValueKit
public import Idealize.ShloMosaic.Lib.StableHlo.RunRead

@[expose] public section

set_option maxRecDepth 16384

noncomputable section

namespace Cert.Mlp.K5

open Cert.Kernel5Ideal Cert.Kernel5Ideal.Gen Idealize.ShloMosaic Idealize.ShloMosaic.TcCoe Idealize.SL.Sem

/-- The angles of every position and frequency. -/
def angles : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x48F42400#32))
        (Host.divf (Host.negf (sitofp .f32 (iotaInDim S16 32 0))) (broadcastInDim S16 ![] bcast_S_S16 (constant S_ .f32 0x41800000#32))))))

theorem angles_apply (t : Fin 4096) (i : Fin 16) : angles (ix2 t i) = angle t.val i.val := by
  unfold angles angle
  pointwise

def rowC : FVec Ideal S4096x128 .f32 :=
  concatenate S4096x128 1 [⟨S4096x16, Host.cos angles⟩, ⟨S4096x16, Host.cos angles⟩, ⟨S4096x96, broadcastInDim S4096x96 ![] bcast_S_S4096x96 (constant S_ .f32 0x3F800000#32)⟩]
    concatenates_S4096x16_S4096x16_S4096x96_S4096x128_d1

def row1 : FVec Ideal S4096x128 .f32 :=
  concatenate S4096x128 1 [⟨S4096x16, Host.negf (Host.sin angles)⟩, ⟨S4096x112, broadcastInDim S4096x112 ![] bcast_S_S4096x112 (constant S_ .f32 0x00000000#32)⟩]
    concatenates_S4096x16_S4096x112_S4096x128_d1

def row2 : FVec Ideal S4096x128 .f32 :=
  concatenate S4096x128 1 [⟨S4096x16, broadcastInDim S4096x16 ![] bcast_S_S4096x16 (constant S_ .f32 0x00000000#32)⟩, ⟨S4096x16, Host.sin angles⟩, ⟨S4096x96, broadcastInDim S4096x96 ![] bcast_S_S4096x96 (constant S_ .f32 0x00000000#32)⟩]
    concatenates_S4096x16_S4096x16_S4096x96_S4096x128_d1

/-- The first table's lanes. -/
def cosN (t l : ℕ) : EReal := if l < 16 then Ideal.cos (angle t l) else if l < 32 then Ideal.cos (angle t (l - 16)) else 1

def sin1N (t l : ℕ) : EReal := if l < 16 then -Ideal.sin (angle t l) else 0

def sin2N (t l : ℕ) : EReal := if l < 16 then 0 else if l < 32 then Ideal.sin (angle t (l - 16)) else 0

theorem rowC_apply (t : Fin 4096) (l : Fin 128) : rowC (ix2 t l) = cosN t.val l.val := by
  unfold rowC cosN
  pointwise [angles_apply]
  have hl := l.isLt
  split_ifs
  all_goals first
    | rfl
    | omega

theorem row1_apply (t : Fin 4096) (l : Fin 128) : row1 (ix2 t l) = sin1N t.val l.val := by
  unfold row1 sin1N
  pointwise [angles_apply]
  have hl := l.isLt
  split_ifs
  all_goals first
    | rfl
    | omega

theorem row2_apply (t : Fin 4096) (l : Fin 128) : row2 (ix2 t l) = sin2N t.val l.val := by
  unfold row2 sin2N
  pointwise [angles_apply]
  have hl := l.isLt
  split_ifs
  all_goals first
    | rfl
    | omega

/-- A table of three: the same rows twice, and between them a constant one. -/
def stack (v : FVec Ideal S4096x128 .f32) (b : BitVec 32) : FVec Ideal S3x4096x128 .f32 :=
  concatenate S3x4096x128 0 [⟨S1x4096x128, broadcastInDim S1x4096x128 ![1, 2] bcast_S4096x128_S1x4096x128_1_2 v⟩,
    ⟨S1x4096x128, broadcastInDim S1x4096x128 ![1, 2] bcast_S4096x128_S1x4096x128_1_2 (broadcastInDim S4096x128 ![] bcast_S_S4096x128 (constant S_ .f32 b))⟩,
    ⟨S1x4096x128, broadcastInDim S1x4096x128 ![1, 2] bcast_S4096x128_S1x4096x128_1_2 v⟩] concatenates_S1x4096x128_S1x4096x128_S1x4096x128_S3x4096x128_d0

theorem stack_apply (v : FVec Ideal S4096x128 .f32) (b : BitVec 32) (j : Fin 3) (t : Fin 4096) (l : Fin 128) :
    stack v b (ix3 j t l) = if j.val = 1 then Ideal.ofBits .f32 b else v (ix2 t l) := by
  unfold stack
  have hj := j.isLt
  pointwise
  split_ifs
  all_goals first
    | rfl
    | omega

variable (m : (ℓ : Loc nD τ sig) → Buf (Elt Ideal) ℓ) (c : Dev nD)

open StableHlo in
theorem entry35 : V m c main_v35 = stack rowC 0x3F800000#32 := by
  after_reads_simp; rfl

open StableHlo in
theorem entry39 : V m c main_v39 = stack row1 0x00000000#32 := by
  after_reads_simp; rfl

open StableHlo in
theorem entry43 : V m c main_v43 = stack row2 0x00000000#32 := by
  after_reads_simp; rfl

end Cert.Mlp.K5
-- ==== Proof.Mlp.Proj.lean ====
module

public import proofs.«01_k».proof.Proof.Gen.Kernel5Ideal.Value
public import proofs.«01_k».proof.Proof.Mlp.Ref5
public import proofs.«01_k».proof.Proof.Mlp.ProjRows
public import proofs.«01_k».proof.Proof.Mlp.ProjCases
public import proofs.«01_k».proof.Proof.Mlp.ProjTables
public import Idealize.ShloMosaic.Lib.Pipeline.ValueKit
public import Idealize.ShloMosaic.Lib.StableHlo.RunRead
public import Idealize.ShloMosaic.Lib.WritesUnit

@[expose] public section

set_option maxRecDepth 16384

noncomputable section

namespace Cert.Mlp.K5

open Cert.Kernel5Ideal Cert.Kernel5Ideal.Gen Idealize.ShloMosaic Idealize.ShloMosaic.TcCoe Idealize.SL.Sem

/-- Which of the three stacked tables a block of columns reads. -/
def kindN (j : ℕ) : ℕ := if j = 5 ∨ j = 12 ∨ j = 13 then 1 else if j < 4 ∨ (5 < j ∧ j < 10) then 2 else 0

/-- Which block of the second output is staged at a block of columns. -/
def tileN (j : ℕ) : ℕ :=
  (if 4 < j then 1 else 0) + (if 5 < j then 1 else 0) + (if 10 < j then 1 else 0) + (if 11 < j then 1 else 0) + (if 12 < j then 1 else 0) + (if 13 < j then 1 else 0)

theorem idx : ∀ t : Fin cfg0.N, win0_0.index t = ![t.val / 22, 0] ∧ win0_1.index t = ![0, 0] ∧ win0_2.index t = ![0, t.val % 22]
    ∧ win0_3.index t = ![kindN (t.val % 22), t.val / 22 % 8, 0] ∧ win0_4.index t = ![kindN (t.val % 22), t.val / 22 % 8, 0]
    ∧ win0_5.index t = ![kindN (t.val % 22), t.val / 22 % 8, 0]
    ∧ win0_6.index t = ![t.val / 22, t.val % 22] ∧ win0_7.index t = ![t.val / 22, tileN (t.val % 22)] :=
  (by decide +kernel : ∀ t : Fin grid0.N, _)

variable (m : (ℓ : Loc nD τ sig) → Buf (Elt Ideal) ℓ) (c : Dev nD)

/-- The input, its rows in one axis. -/
def flatX (a : FVec Ideal S2x4096x4096 .f32) : FVec Ideal S8192x4096 .f32 :=
  shapeCast S8192x4096 a shapeCasts_S2x4096x4096_S8192x4096

/-- The norm's weights as a row. -/
def flatG (a : FVec Ideal S1x4096 .f32) : FVec Ideal S1x4096 .f32 :=
  shapeCast S1x4096 (shapeCast S4096 a shapeCasts_S1x4096_S4096) shapeCasts_S4096_S1x4096

/-- The first columns of the weights without their unit axis. -/
def flatW (a : FVec Ideal S1x4096x11424 .f32) : FVec Ideal S4096x11264 .bf16 :=
  truncf .bf16 (shapeCast S4096x11264 (extractStridedSlice S1x4096x11264 ![0, 0, 0] a slices_S1x4096x11424_S1x4096x11264_0_0_0) shapeCasts_S1x4096x11264_S4096x11264) bitsLt_bf16_f32

theorem flatX_apply (a : FVec Ideal S2x4096x4096 .f32) (b : Fin 2) (t n : Fin 4096) : flatX a (ix2 (flatRow b t) n) = a (ix3 b t n) := by
  unfold flatX flatRow
  pointwise

theorem flatG_apply (a : FVec Ideal S1x4096 .f32) (k : Fin 4096) : flatG a (ix2 0 k) = a (ix2 0 k) := by
  unfold flatG
  pointwise

theorem flatW_apply (a : FVec Ideal S1x4096x11424 .f32) (k : Fin 4096) (n : Fin 11264) : flatW a (ix2 k n) = Cert.Mlp.R5.wcol a k n.val := by
  have hn := n.isLt
  unfold flatW Cert.Mlp.R5.wcol
  rw [dif_pos (by omega)]
  pointwise

open StableHlo in
theorem entry0 : V m c main_v0 = flatX (m ((c : Thread nD τ).loc main_arg0)) := by
  after_reads_simp; rfl

open StableHlo in
theorem entry2 : V m c main_v2 = flatG (m ((c : Thread nD τ).loc main_arg1)) := by
  after_reads_simp; rfl

open StableHlo in
theorem entry5 : V m c main_v5 = flatW (m ((c : Thread nD τ).loc main_arg2)) := by
  after_reads_simp; rfl

theorem read0 (t : Fin cfg0.N) (p : Fin 512) (k : Fin 4096) (b : Fin 2) (s : Fin 4096) (h : b.val * 4096 + s.val = t.val / 22 * 512 + p.val) :
    (iblk m c 0 t : FVec Ideal S512x4096 .f32) (ix2 p k) = (m ((c : Thread nD τ).loc main_arg0) : FVec Ideal S2x4096x4096 .f32) (ix3 b s k) := by
  obtain ⟨e0, e1, e2, e3, e4, e5, e6, e7⟩ := idx t
  refine Eq.trans ?_ (flatX_apply _ b s k)
  rw [← entry0]
  blk_simp [iblk, e0]
  refine congrArg (V m c main_v0) ?_
  funext a
  fin_cases a
  all_goals apply Fin.ext
  all_goals blk_simp [e0]
  all_goals (dsimp only [ix2, ix3, flatRow]; try omega)

theorem read1 (t : Fin cfg0.N) (k : Fin 4096) :
    (iblk m c 1 t : FVec Ideal S1x4096 .f32) (ix2 0 k) = (m ((c : Thread nD τ).loc main_arg1) : FVec Ideal S1x4096 .f32) (ix2 0 k) := by
  obtain ⟨e0, e1, e2, e3, e4, e5, e6, e7⟩ := idx t
  refine Eq.trans ?_ (flatG_apply _ k)
  rw [← entry2]
  blk_simp [iblk, e1]
  refine congrArg (V m c main_v2) ?_
  funext a
  fin_cases a
  all_goals apply Fin.ext
  all_goals blk_simp [e1]
  all_goals (dsimp only [ix2, ix3, flatRow]; try omega)

theorem read2 (t : Fin cfg0.N) (k : Fin 4096) (q : Fin 512) (n : Fin 11264) (h : n.val = t.val % 22 * 512 + q.val) :
    (iblk m c 2 t : FVec Ideal S4096x512 .bf16) (ix2 k q) = Cert.Mlp.R5.wcol (m ((c : Thread nD τ).loc main_arg2) : FVec Ideal S1x4096x11424 .f32) k n.val := by
  obtain ⟨e0, e1, e2, e3, e4, e5, e6, e7⟩ := idx t
  refine Eq.trans ?_ (flatW_apply _ k n)
  rw [← entry5]
  blk_simp [iblk, e2]
  refine congrArg (V m c main_v5) ?_
  funext a
  fin_cases a
  all_goals apply Fin.ext
  all_goals blk_simp [e2]
  all_goals (dsimp only [ix2, ix3, flatRow]; try omega)

theorem read3 (t : Fin cfg0.N) (p : Fin 512) (l : Fin 128) (j : Fin 3) (s : Fin 4096) (hj : j.val = kindN (t.val % 22)) (hs : s.val = t.val / 22 % 8 * 512 + p.val) :
    (iblk m c 3 t : FVec Ideal S1x512x128 .f32) (ix3 0 p l) = if j.val = 1 then Ideal.ofBits .f32 0x3F800000#32 else rowC (ix2 s l) := by
  obtain ⟨e0, e1, e2, e3, e4, e5, e6, e7⟩ := idx t
  refine Eq.trans ?_ (stack_apply rowC 0x3F800000#32 j s l)
  rw [← entry35]
  blk_simp [iblk, e3]
  refine congrArg (V m c main_v35) ?_
  funext a
  fin_cases a
  all_goals apply Fin.ext
  all_goals blk_simp [e3]
  all_goals (dsimp only [ix2, ix3, flatRow]; try omega)

theorem read4 (t : Fin cfg0.N) (p : Fin 512) (l : Fin 128) (j : Fin 3) (s : Fin 4096) (hj : j.val = kindN (t.val % 22)) (hs : s.val = t.val / 22 % 8 * 512 + p.val) :
    (iblk m c 4 t : FVec Ideal S1x512x128 .f32) (ix3 0 p l) = if j.val = 1 then Ideal.ofBits .f32 0x00000000#32 else row1 (ix2 s l) := by
  obtain ⟨e0, e1, e2, e3, e4, e5, e6, e7⟩ := idx t
  refine Eq.trans ?_ (stack_apply row1 0x00000000#32 j s l)
  rw [← entry39]
  blk_simp [iblk, e4]
  refine congrArg (V m c main_v39) ?_
  funext a
  fin_cases a
  all_goals apply Fin.ext
  all_goals blk_simp [e4]
  all_goals (dsimp only [ix2, ix3, flatRow]; try omega)

theorem read5 (t : Fin cfg0.N) (p : Fin 512) (l : Fin 128) (j : Fin 3) (s : Fin 4096) (hj : j.val = kindN (t.val % 22)) (hs : s.val = t.val / 22 % 8 * 512 + p.val) :
    (iblk m c 5 t : FVec Ideal S1x512x128 .f32) (ix3 0 p l) = if j.val = 1 then Ideal.ofBits .f32 0x00000000#32 else row2 (ix2 s l) := by
  obtain ⟨e0, e1, e2, e3, e4, e5, e6, e7⟩ := idx t
  refine Eq.trans ?_ (stack_apply row2 0x00000000#32 j s l)
  rw [← entry43]
  blk_simp [iblk, e5]
  refine congrArg (V m c main_v43) ?_
  funext a
  fin_cases a
  all_goals apply Fin.ext
  all_goals blk_simp [e5]
  all_goals (dsimp only [ix2, ix3, flatRow]; try omega)

/-- Block `t`'s row `p` of the input is that of every point with the same row of blocks. -/
theorem row_eq (t : Fin cfg0.N) (p : Fin 512) : ∃ (b : Fin 2) (s : Fin 4096), b.val * 4096 + s.val = t.val / 22 * 512 + p.val := by
  have := p.isLt
  have ht : t.val < 352 := t.isLt
  exact ⟨⟨(t.val / 22 * 512 + p.val) / 4096, by omega⟩, ⟨(t.val / 22 * 512 + p.val) % 4096, by omega⟩, by dsimp only; omega⟩

/-- The normalised row of the arguments. -/
def argRow (b : Fin 2) (s k : Fin 4096) : EReal :=
  normRow (fun k => (m ((c : Thread nD τ).loc main_arg0) : FVec Ideal S2x4096x4096 .f32) (ix3 b s k))
    (fun k => (m ((c : Thread nD τ).loc main_arg1) : FVec Ideal S1x4096 .f32) (ix2 0 k)) k

theorem blk_row (t : Fin cfg0.N) (p : Fin 512) (b : Fin 2) (s : Fin 4096) (h : b.val * 4096 + s.val = t.val / 22 * 512 + p.val) (k : Fin 4096) :
    normRow (fun k => (iblk m c 0 t : FVec Ideal S512x4096 .f32) (ix2 p k)) (fun k => (iblk m c 1 t : FVec Ideal S1x4096 .f32) (ix2 0 k)) k = argRow m c b s k :=
  congrArg₂ (fun x g => normRow x g k) (funext fun k => read0 m c t p k b s h) (funext fun k => read1 m c t k)

/-- After every point the scratch holds the normalised rows of its row of blocks. -/
theorem scratch (n : ℕ) (hn : n < cfg0.N) (p : Fin 512) (b : Fin 2) (s : Fin 4096) (h : b.val * 4096 + s.val = n / 22 * 512 + p.val) (k : Fin 4096) :
    ((outsAt0 m c n hn).2.2 : FVec Ideal S512x4096 .bf16) (ix2 p k) = argRow m c b s k := by
  induction n with
  | zero =>
    rw [show outsAt0 m c 0 hn = _ from outsAt0_A m c ⟨0, hn⟩ (Nat.zero_mod _)]
    exact (sout_A c _ _ _ _ _ _ _ _ _ _ _ _ _ _ _ _ _ _ _ _ _ _ _ _ p k).trans (blk_row m c ⟨0, hn⟩ p b s h k)
  | succ n ih =>
    by_cases h0 : (n + 1) % 22 = 0
    · rw [show outsAt0 m c (n + 1) hn = _ from outsAt0_A m c ⟨n + 1, hn⟩ h0]
      exact (sout_A c _ _ _ _ _ _ _ _ _ _ _ _ _ _ _ _ _ _ _ _ _ _ _ _ p k).trans (blk_row m c ⟨n + 1, hn⟩ p b s h k)
    · rw [show outsAt0 m c (n + 1) hn = _ from outsAt0_B m c ⟨n + 1, hn⟩ h0]
      exact ih (Nat.lt_of_succ_lt hn) (by omega)

/-- The plain projection's columns of one position of the arguments. -/
def zOf (b : Fin 2) (s : Fin 4096) : ℕ → EReal :=
  Cert.Mlp.R5.zAt (m ((c : Thread nD τ).loc main_arg0)) (m ((c : Thread nD τ).loc main_arg1)) (m ((c : Thread nD τ).loc main_arg2)) b s

/-- A column of the block's product is the plain projection's. -/
theorem colN_eq (t : Fin cfg0.N) (b : Fin 2) (s : Fin 4096) (n : ℕ) (hn : n < 512) :
    colN (argRow m c b s) (iblk m c 2 t : FVec Ideal S4096x512 .bf16) n = zOf m c b s (t.val % 22 * 512 + n) := by
  have ht : t.val < 352 := t.isLt
  unfold colN zOf Cert.Mlp.R5.zAt colAt argRow
  rw [dif_pos hn]
  refine Finset.sum_congr rfl fun k _ => ?_
  exact congrArg (_ * ·) (read2 m c t k ⟨n, hn⟩ ⟨t.val % 22 * 512 + n, by omega⟩ rfl)

theorem ofBits_one : Ideal.ofBits .f32 0x3F800000#32 = 1 := Ideal.ofBits_one_f32

theorem ofBits_zero : Ideal.ofBits .f32 0x00000000#32 = 0 := Ideal.ofBits_zero_f32

/-- The tables' lanes of a block that is rotated. -/
theorem tab_rope (t : Fin cfg0.N) (p : Fin 512) (s : Fin 4096) (hs : s.val = t.val / 22 % 8 * 512 + p.val) (hk : kindN (t.val % 22) ≠ 1) (l : ℕ) (hl : l < 128) :
    tabN (iblk m c 3 t : FVec Ideal S1x512x128 .f32) p l = cosN s.val l ∧ tabN (iblk m c 4 t : FVec Ideal S1x512x128 .f32) p l = sin1N s.val l
      ∧ tabN (iblk m c 5 t : FVec Ideal S1x512x128 .f32) p l = sin2N s.val l := by
  have hlt : kindN (t.val % 22) < 3 := by unfold kindN; split_ifs <;> decide
  unfold tabN
  rw [dif_pos hl, dif_pos hl, dif_pos hl, read3 m c t p ⟨l, hl⟩ ⟨_, hlt⟩ s rfl hs, read4 m c t p ⟨l, hl⟩ ⟨_, hlt⟩ s rfl hs, read5 m c t p ⟨l, hl⟩ ⟨_, hlt⟩ s rfl hs,
    if_neg hk, if_neg hk, if_neg hk]
  exact ⟨rowC_apply s ⟨l, hl⟩, row1_apply s ⟨l, hl⟩, row2_apply s ⟨l, hl⟩⟩

/-- The tables' lanes of a block that holds values. -/
theorem tab_plain (t : Fin cfg0.N) (p : Fin 512) (s : Fin 4096) (hs : s.val = t.val / 22 % 8 * 512 + p.val) (hk : kindN (t.val % 22) = 1) (l : ℕ) (hl : l < 128) :
    tabN (iblk m c 3 t : FVec Ideal S1x512x128 .f32) p l = 1 ∧ tabN (iblk m c 4 t : FVec Ideal S1x512x128 .f32) p l = 0
      ∧ tabN (iblk m c 5 t : FVec Ideal S1x512x128 .f32) p l = 0 := by
  have hlt : kindN (t.val % 22) < 3 := by rw [hk]; decide
  unfold tabN
  rw [dif_pos hl, dif_pos hl, dif_pos hl, read3 m c t p ⟨l, hl⟩ ⟨_, hlt⟩ s rfl hs, read4 m c t p ⟨l, hl⟩ ⟨_, hlt⟩ s rfl hs, read5 m c t p ⟨l, hl⟩ ⟨_, hlt⟩ s rfl hs,
    if_pos hk, if_pos hk, if_pos hk]
  exact ⟨ofBits_one, ofBits_zero, ofBits_zero⟩

/-- What a block holds is the reference's column of that number. -/
theorem block_eq (t : Fin cfg0.N) (p q : Fin 512) (b : Fin 2) (s : Fin 4096) (h : b.val * 4096 + s.val = t.val / 22 * 512 + p.val) :
    projEntry (argRow m c b s) (iblk m c 2 t : FVec Ideal S4096x512 .bf16) (iblk m c 3 t : FVec Ideal S1x512x128 .f32) (iblk m c 4 t : FVec Ideal S1x512x128 .f32)
        (iblk m c 5 t : FVec Ideal S1x512x128 .f32) p q.val
      = projAt (zOf m c b s) s.val (t.val % 22 * 512 + q.val) := by
  have hq := q.isLt
  have hp := p.isLt
  have hs' := s.isLt
  have hb := b.isLt
  have ht : t.val < 352 := t.isLt
  have hs : s.val = t.val / 22 % 8 * 512 + p.val := by omega
  have hl : q.val % 128 < 128 := Nat.mod_lt _ (by decide)
  unfold projEntry
  rw [rollAt_congr _ (fun i => zOf m c b s ((t.val % 22 * 512 + q.val) / 128 * 128 + i)) _ _ _ _ hl fun i hi => by
    rw [colN_eq m c t b s _ (by omega), show (t.val % 22 * 512 + q.val) / 128 * 128 + i = t.val % 22 * 512 + (q.val / 128 * 128 + i) by omega]]
  unfold projAt
  by_cases hv : IsValue (t.val % 22 * 512 + q.val)
  · have hk : kindN (t.val % 22) = 1 := by
      unfold IsValue at hv
      unfold kindN
      rw [if_pos (by omega)]
    obtain ⟨h1, h2, h3⟩ := tab_plain m c t p s hs hk _ hl
    rw [if_pos hv, rollAt_plain _ _ _ _ _ h1 h2 h3, show (t.val % 22 * 512 + q.val) / 128 * 128 + q.val % 128 = t.val % 22 * 512 + q.val by omega]
  · have hk : kindN (t.val % 22) ≠ 1 := by
      unfold IsValue at hv
      unfold kindN
      rw [if_neg (by omega)]
      split_ifs <;> decide
    obtain ⟨h1, h2, h3⟩ := tab_rope m c t p s hs hk _ hl
    rw [if_neg hv, show (t.val % 22 * 512 + q.val) % 128 = q.val % 128 by omega]
    refine rollAt_rope _ _ _ _ _ _ _ hl ?_ ?_ ?_
    · rw [h1]; rfl
    · rw [h2]; rfl
    · rw [h3]; rfl

/-- What the first output's buffer holds after a point, read at one entry. -/
theorem after6 (t : Fin cfg0.N) (p q : Fin 512) (b : Fin 2) (s : Fin 4096) (h : b.val * 4096 + s.val = t.val / 22 * 512 + p.val) :
    ((outsAt0 m c t.val t.isLt).1 : FVec Ideal S512x512 .bf16) (ix2 p q) = projAt (zOf m c b s) s.val (t.val % 22 * 512 + q.val) := by
  refine Eq.trans ?_ (block_eq m c t p q b s h)
  by_cases h0 : t.val % 22 = 0
  · rw [outsAt0_A m c t h0]
    dsimp only
    rw [← show normRow (fun k => (iblk m c 0 t : FVec Ideal S512x4096 .f32) (ix2 p k)) (fun k => (iblk m c 1 t : FVec Ideal S1x4096 .f32) (ix2 0 k)) = argRow m c b s from
      funext fun k => blk_row m c t p b s h k]
    exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) ((hcond0_0 t).mpr h0) p q
  · rw [outsAt0_B m c t h0]
    dsimp only
    exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (fun h => h0 ((hcond0_0 t).mp h)) _ p q (argRow m c b s)
      fun k => scratch m c _ _ p b s (by have ht : t.val < 352 := t.isLt; omega) k

/-- The same of the second output's buffer. -/
theorem after7 (t : Fin cfg0.N) (p q : Fin 512) (b : Fin 2) (s : Fin 4096) (h : b.val * 4096 + s.val = t.val / 22 * 512 + p.val) :
    ((outsAt0 m c t.val t.isLt).2.1 : FVec Ideal S512x512 .f32) (ix2 p q) = projAt (zOf m c b s) s.val (t.val % 22 * 512 + q.val) := by
  refine Eq.trans ?_ (block_eq m c t p q b s h)
  by_cases h0 : t.val % 22 = 0
  · rw [outsAt0_A m c t h0]
    dsimp only
    rw [← show normRow (fun k => (iblk m c 0 t : FVec Ideal S512x4096 .f32) (ix2 p k)) (fun k => (iblk m c 1 t : FVec Ideal S1x4096 .f32) (ix2 0 k)) = argRow m c b s from
      funext fun k => blk_row m c t p b s h k]
    exact out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) ((hcond0_0 t).mpr h0) p q
  · rw [outsAt0_B m c t h0]
    dsimp only
    exact out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (fun h => h0 ((hcond0_0 t).mp h)) _ p q (argRow m c b s)
      fun k => scratch m c _ _ p b s (by have ht : t.val < 352 := t.isLt; omega) k

/-- The reference's plain projection at the call's arguments. -/
def projOf : FVec Ideal Cert.Reference5Ideal.S2x4096x11424 .f32 :=
  Cert.Mlp.R5.proj (m ((c : Thread nD τ).loc main_arg0)) (m ((c : Thread nD τ).loc main_arg1)) (m ((c : Thread nD τ).loc main_arg2))

/-- The reference's first array. -/
def refZq : FVec Ideal S8192x11264 .bf16 := Cert.Mlp.R5.zq (projOf m c)

/-- The reference's second array. -/
def refKv : FVec Ideal S8192x3584 .f32 := Cert.Mlp.R5.kv (projOf m c)

theorem refZq_apply (b : Fin 2) (s : Fin 4096) (n : Fin 11264) : refZq m c (ix2 (flatRow b s) n) = projAt (zOf m c b s) s.val n.val :=
  Cert.Mlp.R5.zq_apply _ b s _ (fun n => Cert.Mlp.R5.proj_zAt _ _ _ b s n) n

theorem refKv_apply (b : Fin 2) (s : Fin 4096) (n : Fin 3584) : refKv m c (ix2 (flatRow b s) n) = projAt (zOf m c b s) s.val (Cert.Mlp.R5.kvCol n.val) :=
  Cert.Mlp.R5.kv_apply _ b s _ (fun n => Cert.Mlp.R5.proj_zAt _ _ _ b s n) n

theorem final6 : (dats m 0 c).arrAt 6 cfg0.N = refZq m c := by
  refine (dats m 0 c).arrAt_eq_of_covers 6 _ (by decide +kernel) fun t _ y => ?_
  blk_simp
  rw [after0_6]
  obtain ⟨p, q, rfl⟩ : ∃ (p : Fin 512) (q : Fin 512), y = ix2 p q := ⟨y 0, y 1, by idx_ext⟩
  have hp := p.isLt
  have hq := q.isLt
  have ht : t.val < 352 := t.isLt
  obtain ⟨b, s, hbs⟩ := row_eq t p
  obtain ⟨n, hn⟩ : ∃ n : Fin 11264, n.val = t.val % 22 * 512 + q.val := ⟨⟨t.val % 22 * 512 + q.val, by omega⟩, rfl⟩
  obtain ⟨e0, e1, e2, e3, e4, e5, e6, e7⟩ := idx t
  have hy : ((cfg0.win 6).blk t).view.emb (ix2 p q) = (ix2 (flatRow b s) n : S8192x11264.Idx) := by
    funext a
    fin_cases a
    all_goals apply Fin.ext
    all_goals blk_simp [e6]
    all_goals (dsimp only [ix2, flatRow]; try omega)
  refine Eq.trans ?_ ((congrArg (refZq m c) hy).trans ((refZq_apply m c b s n).trans (congrArg _ hn))).symm
  exact after6 m c t p q b s hbs

/-- The points after which the second output's block is written back. -/
theorem flush7 : ∀ t : Fin cfg0.N, (cfg0.win 7).flush t = true →
    t.val % 22 = 4 ∨ t.val % 22 = 5 ∨ t.val % 22 = 10 ∨ t.val % 22 = 11 ∨ t.val % 22 = 12 ∨ t.val % 22 = 13 ∨ t.val % 22 = 21 :=
  (by decide +kernel : ∀ t : Fin grid0.N, _)

theorem tile_col (j q : ℕ) (hq : q < 512) (h : j = 4 ∨ j = 5 ∨ j = 10 ∨ j = 11 ∨ j = 12 ∨ j = 13 ∨ j = 21) :
    tileN j * 512 + q < 3584 ∧ Cert.Mlp.R5.kvCol (tileN j * 512 + q) = j * 512 + q := by
  unfold Cert.Mlp.R5.kvCol
  rcases h with rfl | rfl | rfl | rfl | rfl | rfl | rfl
  · rw [show tileN 4 = 0 by decide]; split_ifs <;> omega
  · rw [show tileN 5 = 1 by decide]; split_ifs <;> omega
  · rw [show tileN 10 = 2 by decide]; split_ifs <;> omega
  · rw [show tileN 11 = 3 by decide]; split_ifs <;> omega
  · rw [show tileN 12 = 4 by decide]; split_ifs <;> omega
  · rw [show tileN 13 = 5 by decide]; split_ifs <;> omega
  · rw [show tileN 21 = 6 by decide]; split_ifs <;> omega

theorem final7 : (dats m 0 c).arrAt 7 cfg0.N = refKv m c := by
  refine (dats m 0 c).arrAt_eq_of_covers 7 _ (by decide +kernel) fun t hf y => ?_
  have hj := flush7 t hf
  blk_simp
  rw [after0_7]
  obtain ⟨p, q, rfl⟩ : ∃ (p : Fin 512) (q : Fin 512), y = ix2 p q := ⟨y 0, y 1, by idx_ext⟩
  have hp := p.isLt
  have hq := q.isLt
  have ht : t.val < 352 := t.isLt
  obtain ⟨b, s, hbs⟩ := row_eq t p
  obtain ⟨hlt, hcol⟩ := tile_col (t.val % 22) q.val hq hj
  obtain ⟨n, hn⟩ : ∃ n : Fin 3584, n.val = tileN (t.val % 22) * 512 + q.val := ⟨⟨tileN (t.val % 22) * 512 + q.val, hlt⟩, rfl⟩
  obtain ⟨e0, e1, e2, e3, e4, e5, e6, e7⟩ := idx t
  have hy : ((cfg0.win 7).blk t).view.emb (ix2 p q) = (ix2 (flatRow b s) n : S8192x3584.Idx) := by
    funext a
    fin_cases a
    all_goals apply Fin.ext
    all_goals blk_simp [e7]
    all_goals (dsimp only [ix2, flatRow]; try omega)
  refine Eq.trans ?_ ((congrArg (refKv m c) hy).trans ((refKv_apply m c b s n).trans (congrArg _ ((congrArg _ hn).trans hcol)))).symm
  exact after7 m c t p q b s hbs

end Cert.Mlp.K5
-- ==== Proof.Mlp.Ref6.lean ====
module

public import proofs.«01_k».proof.Proof.Gen.Reference6Ideal.Run
public import proofs.«01_k».proof.Proof.Mlp.Rot

@[expose] public section

set_option maxRecDepth 16384

noncomputable section

namespace Cert.Mlp.R6

open Cert.Reference6Ideal Cert.Reference6Ideal.Gen Idealize.ShloMosaic Idealize.ShloMosaic.TcCoe Idealize.SL.Sem

/-- The reference's normalisation. -/
def norm (x : FVec Ideal S2x4096x4096 .f32) (g : FVec Ideal S4096 .f32) : FVec Ideal S2x4096x4096 .f32 :=
  mulf (mulf x (broadcastInDim S2x4096x4096 ![0, 1, 2] bcast_S2x4096x1_S2x4096x4096_0_1_2 (Host.rsqrt (addf (Host.divf (broadcastInDim S2x4096x1 ![0, 1] bcast_S2x4096_S2x4096x1_0_1 (Host.reduceAdd (mulf x x) (constant S_ .f32 0x00000000#32) reducesTo_S2x4096x4096_S2x4096_d2 h_S_)) (broadcastInDim S2x4096x1 ![] bcast_S_S2x4096x1 (constant S_ .f32 0x45800000#32))) (broadcastInDim S2x4096x1 ![] bcast_S_S2x4096x1 (constant S_ .f32 0x358637BD#32)))))) (broadcastInDim S2x4096x4096 ![0, 1, 2] bcast_S1x1x4096_S2x4096x4096_0_1_2 (broadcastInDim S1x1x4096 ![2] bcast_S4096_S1x1x4096_2 g))

theorem norm_apply (x : FVec Ideal S2x4096x4096 .f32) (g : FVec Ideal S4096 .f32) (b : Fin 2) (t k : Fin 4096) :
    norm x g (ix3 b t k) = normRow (fun k => x (ix3 b t k)) (fun k => g (ix1 k)) k := by
  unfold norm normRow
  pointwise

/-- The plain projection. -/
def proj (a0 : FVec Ideal S2x4096x4096 .f32) (a1 : FVec Ideal S1x4096 .f32) (a2 : FVec Ideal S1x4096x11424 .f32) : FVec Ideal S2x4096x11424 .f32 :=
  Host.dotGeneral dot_S2x4096x4096_S4096x11424_S2x4096x11424_2_0_01_1_n_n none (norm a0 (shapeCast _ a1 shapeCasts_S1x4096_S4096)) (shapeCast _ a2 shapeCasts_S1x4096x11424_S4096x11424)

theorem proj_apply (a0 : FVec Ideal S2x4096x4096 .f32) (a1 : FVec Ideal S1x4096 .f32) (a2 : FVec Ideal S1x4096x11424 .f32)
    (b : Fin 2) (t : Fin 4096) (n : Fin 11424) :
    proj a0 a1 a2 (ix3 b t n) = ∑ k : Fin 4096, normRow (fun k => a0 (ix3 b t k)) (fun k => a1 (ix2 0 k)) k * a2 (ix3 0 k n) := by
  unfold proj
  pointwise [norm_apply]

/-- The weights' column `n`, at any number. -/
def wcol (a2 : FVec Ideal S1x4096x11424 .f32) (k : Fin 4096) (n : ℕ) : EReal :=
  if h : n < 11424 then a2 (ix3 0 k ⟨n, h⟩) else 0

/-- The plain projection's columns of one position. -/
def zAt (a0 : FVec Ideal S2x4096x4096 .f32) (a1 : FVec Ideal S1x4096 .f32) (a2 : FVec Ideal S1x4096x11424 .f32) (b : Fin 2) (t : Fin 4096) : ℕ → EReal :=
  colAt (fun k => a0 (ix3 b t k)) (fun k => a1 (ix2 0 k)) (wcol a2)

theorem proj_zAt (a0 : FVec Ideal S2x4096x4096 .f32) (a1 : FVec Ideal S1x4096 .f32) (a2 : FVec Ideal S1x4096x11424 .f32)
    (b : Fin 2) (t : Fin 4096) (n : Fin 11424) : proj a0 a1 a2 (ix3 b t n) = zAt a0 a1 a2 b t n.val := by
  rw [proj_apply]
  unfold zAt colAt wcol
  refine Finset.sum_congr rfl fun k _ => ?_
  rw [dif_pos n.isLt]

def angles : FVec Ideal S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32))))))

theorem angles_apply (t : Fin 4096) (i : Fin 16) : angles (ix2 t i) = angle t.val i.val := by
  unfold angles angle
  pointwise

def cosT : FVec Ideal S4096x1x16 .f32 := broadcastInDim S4096x1x16 ![0, 2] bcast_S4096x16_S4096x1x16_0_2 (Host.cos angles)

def sinT : FVec Ideal S4096x1x16 .f32 := broadcastInDim S4096x1x16 ![0, 2] bcast_S4096x16_S4096x1x16_0_2 (Host.sin angles)

theorem cosT_apply (t : Fin 4096) (i : Fin 16) : cosT (ix3 t 0 i) = Ideal.cos (angle t.val i.val) := by
  unfold cosT
  pointwise [angles_apply]

theorem sinT_apply (t : Fin 4096) (i : Fin 16) : sinT (ix3 t 0 i) = Ideal.sin (angle t.val i.val) := by
  unfold sinT
  pointwise [angles_apply]

/-- The partial rotary step of the one head. -/
def rope1 (z : FVec Ideal S2x4096x1x128 .f32) : FVec Ideal S2x4096x1x128 .f32 :=
  concatenate S2x4096x1x128 3 [⟨S2x4096x1x16, (subf (mulf (extractStridedSlice S2x4096x1x16 ![0, 0, 0, 0] z slices_S2x4096x1x128_S2x4096x1x16_0_0_0_0) (broadcastInDim S2x4096x1x16 ![0, 1, 2, 3] bcast_S1x4096x1x16_S2x4096x1x16_0_1_2_3 (broadcastInDim S1x4096x1x16 ![1, 2, 3] bcast_S4096x1x16_S1x4096x1x16_1_2_3 cosT))) (mulf (extractStridedSlice S2x4096x1x16 ![0, 0, 0, 16] z slices_S2x4096x1x128_S2x4096x1x16_0_0_0_16) (broadcastInDim S2x4096x1x16 ![0, 1, 2, 3] bcast_S1x4096x1x16_S2x4096x1x16_0_1_2_3 (broadcastInDim S1x4096x1x16 ![1, 2, 3] bcast_S4096x1x16_S1x4096x1x16_1_2_3 sinT))) : (⟨S2x4096x1x16, .f32⟩ : BufTy).Contents (Elt Ideal))⟩, ⟨S2x4096x1x16, (addf (mulf (extractStridedSlice S2x4096x1x16 ![0, 0, 0, 0] z slices_S2x4096x1x128_S2x4096x1x16_0_0_0_0) (broadcastInDim S2x4096x1x16 ![0, 1, 2, 3] bcast_S1x4096x1x16_S2x4096x1x16_0_1_2_3 (broadcastInDim S1x4096x1x16 ![1, 2, 3] bcast_S4096x1x16_S1x4096x1x16_1_2_3 sinT))) (mulf (extractStridedSlice S2x4096x1x16 ![0, 0, 0, 16] z slices_S2x4096x1x128_S2x4096x1x16_0_0_0_16) (broadcastInDim S2x4096x1x16 ![0, 1, 2, 3] bcast_S1x4096x1x16_S2x4096x1x16_0_1_2_3 (broadcastInDim S1x4096x1x16 ![1, 2, 3] bcast_S4096x1x16_S1x4096x1x16_1_2_3 cosT))) : (⟨S2x4096x1x16, .f32⟩ : BufTy).Contents (Elt Ideal))⟩, ⟨S2x4096x1x96, (extractStridedSlice S2x4096x1x96 ![0, 0, 0, 32] z slices_S2x4096x1x128_S2x4096x1x96_0_0_0_32 : (⟨S2x4096x1x96, .f32⟩ : BufTy).Contents (Elt Ideal))⟩] concatenates_S2x4096x1x16_S2x4096x1x16_S2x4096x1x96_S2x4096x1x128_d3

theorem rope1_apply (z : FVec Ideal S2x4096x1x128 .f32) (b : Fin 2) (t : Fin 4096) (l : Fin 128) (x : ℕ → EReal)
    (hx : ∀ n : Fin 128, z (ix4 b t 0 n) = x n.val) :
    rope1 z (ix4 b t 0 l) = ropeAt x (fun i => Ideal.cos (angle t.val i)) (fun i => Ideal.sin (angle t.val i)) l.val := by
  unfold rope1
  pointwise [cosT_apply, sinT_apply]
  simp only [hx]
  unfold ropeAt
  have hl := l.isLt
  split_ifs
  all_goals first
    | omega
    | rw [show 16 + (l.val - 16) = l.val by omega]
    | rw [Nat.add_comm 16]
    | rw [show 32 + (l.val - 16 - 16) = l.val by omega]

/-- A head's mean. -/
def lnMean (z : Fin 128 → EReal) : EReal := Ideal.div (∑ l : Fin 128, z l) (Ideal.ofBits .f32 0x43000000#32)

/-- Lane `l` of a head after the layer norm. -/
def lnAt (z w b : Fin 128 → EReal) (l : Fin 128) : EReal :=
  (z l - lnMean z) * Ideal.rsqrt (Ideal.div (∑ j : Fin 128, (z j - lnMean z) * (z j - lnMean z)) (Ideal.ofBits .f32 0x43000000#32) + Ideal.ofBits .f32 0x358637BD#32) * w l + b l

def meanT (y : FVec Ideal S2x4096x128 .f32) : FVec Ideal S2x4096x1 .f32 :=
  Host.divf (broadcastInDim S2x4096x1 ![0, 1] bcast_S2x4096_S2x4096x1_0_1 (Host.reduceAdd y (constant S_ .f32 0x00000000#32) reducesTo_S2x4096x128_S2x4096_d2 h_S_)) (broadcastInDim S2x4096x1 ![] bcast_S_S2x4096x1 (constant S_ .f32 0x43000000#32))

theorem meanT_apply (y : FVec Ideal S2x4096x128 .f32) (b : Fin 2) (t : Fin 4096) : meanT y (ix3 b t 0) = lnMean fun l => y (ix3 b t l) := by
  unfold meanT lnMean
  pointwise

/-- The reference's layer norm. -/
def lnT (y : FVec Ideal S2x4096x128 .f32) (w b : FVec Ideal S1x128 .f32) : FVec Ideal S2x4096x128 .f32 :=
  addf (mulf (mulf (subf y (broadcastInDim S2x4096x128 ![0, 1, 2] bcast_S2x4096x1_S2x4096x128_0_1_2 (meanT y))) (broadcastInDim S2x4096x128 ![0, 1, 2] bcast_S2x4096x1_S2x4096x128_0_1_2 (Host.rsqrt (addf (Host.divf (broadcastInDim S2x4096x1 ![0, 1] bcast_S2x4096_S2x4096x1_0_1 (Host.reduceAdd (mulf (subf y (broadcastInDim S2x4096x128 ![0, 1, 2] bcast_S2x4096x1_S2x4096x128_0_1_2 (meanT y))) (subf y (broadcastInDim S2x4096x128 ![0, 1, 2] bcast_S2x4096x1_S2x4096x128_0_1_2 (meanT y)))) (constant S_ .f32 0x00000000#32) reducesTo_S2x4096x128_S2x4096_d2 h_S_)) (broadcastInDim S2x4096x1 ![] bcast_S_S2x4096x1 (constant S_ .f32 0x43000000#32))) (broadcastInDim S2x4096x1 ![] bcast_S_S2x4096x1 (constant S_ .f32 0x358637BD#32)))))) (broadcastInDim S2x4096x128 ![0, 1, 2] bcast_S1x1x128_S2x4096x128_0_1_2 (broadcastInDim S1x1x128 ![2] bcast_S128_S1x1x128_2 (shapeCast _ w shapeCasts_S1x128_S128)))) (broadcastInDim S2x4096x128 ![0, 1, 2] bcast_S1x1x128_S2x4096x128_0_1_2 (broadcastInDim S1x1x128 ![2] bcast_S128_S1x1x128_2 (shapeCast _ b shapeCasts_S1x128_S128)))

theorem lnT_apply (y : FVec Ideal S2x4096x128 .f32) (w g : FVec Ideal S1x128 .f32) (b : Fin 2) (t : Fin 4096) (l : Fin 128) :
    lnT y w g (ix3 b t l) = lnAt (fun l => y (ix3 b t l)) (fun l => w (ix2 0 l)) (fun l => g (ix2 0 l)) l := by
  unfold lnT lnAt
  pointwise [meanT_apply]

/-- The index keys' columns of the plain projection. -/
def keyCols (z : FVec Ideal S2x4096x11424 .f32) : FVec Ideal S2x4096x128 .f32 :=
  extractStridedSlice S2x4096x128 ![0, 0, 11264] z slices_S2x4096x11424_S2x4096x128_0_0_11264

theorem keyCols_apply (z : FVec Ideal S2x4096x11424 .f32) (b : Fin 2) (t : Fin 4096) (l : Fin 128) :
    keyCols z (ix3 b t l) = z (ix3 b t ⟨11264 + l.val, by have := l.isLt; omega⟩) := by
  unfold keyCols
  pointwise

/-- Lane `l` of a position's index key. -/
def keyAt (z : ℕ → EReal) (w b : Fin 128 → EReal) (t l : ℕ) : EReal :=
  ropeAt (fun n => if h : n < 128 then lnAt (fun l => z (11264 + l.val)) w b ⟨n, h⟩ else 0) (fun i => Ideal.cos (angle t i)) (fun i => Ideal.sin (angle t i)) l

/-- The index keys, one row a position. -/
def ki (z : FVec Ideal S2x4096x11424 .f32) (w b : FVec Ideal S1x128 .f32) : FVec Ideal S8192x128 .f32 :=
  shapeCast _ (shapeCast S2x4096x128 (rope1 (broadcastInDim S2x4096x1x128 ![0, 1, 3] bcast_S2x4096x128_S2x4096x1x128_0_1_3 (lnT (keyCols z) w b))) shapeCasts_S2x4096x1x128_S2x4096x128) shapeCasts_S2x4096x128_S8192x128

theorem unit_apply (y : FVec Ideal S2x4096x128 .f32) (b : Fin 2) (t : Fin 4096) (l : Fin 128) :
    (broadcastInDim S2x4096x1x128 ![0, 1, 3] bcast_S2x4096x128_S2x4096x1x128_0_1_3 y : FVec Ideal S2x4096x1x128 .f32) (ix4 b t 0 l) = y (ix3 b t l) := by
  pointwise

theorem flat_apply (y : FVec Ideal S2x4096x1x128 .f32) (b : Fin 2) (t : Fin 4096) (l : Fin 128) :
    (shapeCast S8192x128 (shapeCast S2x4096x128 y shapeCasts_S2x4096x1x128_S2x4096x128) shapeCasts_S2x4096x128_S8192x128 : FVec Ideal S8192x128 .f32) (ix2 (flatRow b t) l)
      = y (ix4 b t 0 l) := by
  unfold flatRow
  pointwise

theorem ki_apply (z : FVec Ideal S2x4096x11424 .f32) (w g : FVec Ideal S1x128 .f32) (b : Fin 2) (t : Fin 4096) (x : ℕ → EReal)
    (hx : ∀ n : Fin 11424, z (ix3 b t n) = x n.val) (l : Fin 128) :
    ki z w g (ix2 (flatRow b t) l) = keyAt x (fun l => w (ix2 0 l)) (fun l => g (ix2 0 l)) t.val l.val := by
  unfold ki keyAt
  refine (flat_apply _ b t l).trans ?_
  refine rope1_apply _ b t l _ fun n => (unit_apply _ b t n).trans ?_
  rw [dif_pos n.isLt, lnT_apply]
  refine congrArg (fun y => lnAt y _ _ n) (funext fun l => ?_)
  rw [keyCols_apply, hx]

/-- The index keys in the kernel's narrow format. -/
def kn (z : FVec Ideal S2x4096x11424 .f32) (w b : FVec Ideal S1x128 .f32) : FVec Ideal S8192x128 .bf16 := truncf .bf16 (ki z w b) bitsLt_bf16_f32

/-- The index weights, one row a position, the rest of the row zero. -/
def wi (z : FVec Ideal S2x4096x11424 .f32) : FVec Ideal S8192x128 .f32 :=
  concatenate S8192x128 1 [⟨S8192x32, (shapeCast _ (mulf (extractStridedSlice S2x4096x32 ![0, 0, 11392] z slices_S2x4096x11424_S2x4096x32_0_0_11392) (broadcastInDim S2x4096x32 ![] bcast_S_S2x4096x32 (constant S_ .f32 0x3E3504F3#32))) shapeCasts_S2x4096x32_S8192x32 : FVec Ideal S8192x32 .f32)⟩, ⟨S8192x96, (broadcastInDim S8192x96 ![] bcast_S_S8192x96 (constant S_ .f32 0x00000000#32) : FVec Ideal S8192x96 .f32)⟩] concatenates_S8192x32_S8192x96_S8192x128_d1

/-- Column `l` of a position's index weights. -/
def weightAt (z : ℕ → EReal) (l : ℕ) : EReal := if l < 32 then z (11392 + l) * Ideal.ofBits .f32 0x3E3504F3#32 else 0

theorem wflat_apply (y : FVec Ideal S2x4096x32 .f32) (b : Fin 2) (t : Fin 4096) (l : Fin 32) :
    (shapeCast S8192x32 y shapeCasts_S2x4096x32_S8192x32 : FVec Ideal S8192x32 .f32) (ix2 (flatRow b t) l) = y (ix3 b t l) := by
  unfold flatRow
  pointwise

theorem wcat_apply (u : FVec Ideal S8192x32 .f32) (v : FVec Ideal S8192x96 .f32) (r : Fin 8192) (l : Fin 128) (y : ℕ → EReal)
    (hu : ∀ l : Fin 32, u (ix2 r l) = y l.val) (hv : ∀ l : Fin 96, v (ix2 r l) = 0) :
    (concatenate S8192x128 1 [⟨S8192x32, u⟩, ⟨S8192x96, v⟩] concatenates_S8192x32_S8192x96_S8192x128_d1 : FVec Ideal S8192x128 .f32) (ix2 r l)
      = if l.val < 32 then y l.val else 0 := by
  have hl := l.isLt
  pointwise
  split_ifs
  all_goals first
    | exact hu _
    | exact hv _
    | omega

theorem wi_apply (z : FVec Ideal S2x4096x11424 .f32) (b : Fin 2) (t : Fin 4096) (x : ℕ → EReal)
    (hx : ∀ n : Fin 11424, z (ix3 b t n) = x n.val) (l : Fin 128) : wi z (ix2 (flatRow b t) l) = weightAt x l.val := by
  unfold wi weightAt
  refine wcat_apply _ _ _ l (fun l => x (11392 + l) * Ideal.ofBits .f32 0x3E3504F3#32) (fun l => ?_) (fun l => ?_)
  · rw [wflat_apply, ← hx ⟨11392 + l.val, by have := l.isLt; omega⟩]
    pointwise
  · pointwise

end Cert.Mlp.R6
-- ==== Proof.Mlp.TailRows.lean ====
module

public import proofs.«01_k».proof.Proof.Gen.Kernel6Ideal.Value
public import proofs.«01_k».proof.Proof.Mlp.Ref6
public import Idealize.ShloMosaic.Lib.Pipeline.ValueKit
public import Idealize.ShloMosaic.Lib.StableHlo.RunRead
public import Idealize.ShloMosaic.Lib.WritesUnit
public import Idealize.ShloMosaic.Lib.VecWindow

@[expose] public section

set_option maxRecDepth 16384

noncomputable section

namespace Cert.Mlp.K6

open Cert.Kernel6Ideal Cert.Kernel6Ideal.Gen Idealize.ShloMosaic Idealize.ShloMosaic.TcCoe Idealize.SL.Sem

/-- The scratch as the loop's stores see it. -/
abbrev VS0_0 : View sig .tc .vmem S512x4096 .bf16 := (Memref.whole cc0_scratch0 : Memref sig .tc .vmem S512x4096 .bf16).view

theorem pay4_apply (v : FVec Ideal S64x4096 .f32) (g : FVec Ideal S1x4096 .f32) (p : Fin 64) (k : Fin 4096) :
    k0_pay4 (F := Ideal) v g (ix2 p k) = normRow (fun k => v (ix2 p k)) (fun k => g (ix2 0 k)) k := by
  unfold k0_pay4 normRow
  pointwise

theorem pay5_apply (h : FVec Ideal S512x4096 .bf16) (w : FVec Ideal S4096x256 .bf16) (p : Fin 512) (q : Fin 256) :
    k0_pay5 (F := Ideal) h w (ix2 p q) = ∑ k : Fin 4096, h (ix2 p k) * w (ix2 k q) := by
  unfold k0_pay5
  pointwise

theorem pay7_apply (v : FVec Ideal S1x512x128 .f32) (p : Fin 512) (l : Fin 128) : k0_pay7 (F := Ideal) v (ix2 p l) = v (ix3 0 p l) := by
  unfold k0_pay7
  pointwise

theorem pay8_apply (v : FVec Ideal S1x512x128 .f32) (p : Fin 512) (l : Fin 128) : k0_pay8 (F := Ideal) v (ix2 p l) = v (ix3 0 p l) := by
  unfold k0_pay8
  pointwise

/-- The mean of every row. -/
def meanK (y : FVec Ideal S512x128 .f32) : FVec Ideal S512x1 .f32 :=
  divf (shapeCast S512x1 (multiReduction .add [1] S512 y 0x00000000#32 reduces_S512x128_S512 (.inl rfl) rfl) shapeCasts_S512_S512x1) (broadcast S512x1 (Scalar.ofBits .f32 0x43000000#32))

theorem meanK_apply (y : FVec Ideal S512x128 .f32) (p : Fin 512) : meanK y (ix2 p 0) = Cert.Mlp.R6.lnMean fun l => y (ix2 p l) := by
  unfold meanK Cert.Mlp.R6.lnMean
  pointwise

/-- The kernel's layer norm of a block. -/
def lnK (y : FVec Ideal S512x128 .f32) (w b : FVec Ideal S1x128 .f32) : FVec Ideal S512x128 .f32 :=
  addf (mulf (mulf (subf y (broadcastTo S512x128 (meanK y) broadcasts_S512x1_S512x128))
    (broadcastTo S512x128 (rsqrt (addf (meanK (mulf (subf y (broadcastTo S512x128 (meanK y) broadcasts_S512x1_S512x128)) (subf y (broadcastTo S512x128 (meanK y) broadcasts_S512x1_S512x128))))
      (broadcast S512x1 (Scalar.ofBits .f32 0x358637BD#32)))) broadcasts_S512x1_S512x128))
    (broadcastTo S512x128 (shapeCast S1x128 w shapeCasts_S1x128_S1x128) broadcasts_S1x128_S512x128))
    (broadcastTo S512x128 (shapeCast S1x128 b shapeCasts_S1x128_S1x128) broadcasts_S1x128_S512x128)

theorem lnK_apply (y : FVec Ideal S512x128 .f32) (w b : FVec Ideal S1x128 .f32) (p : Fin 512) (l : Fin 128) :
    lnK y w b (ix2 p l) = Cert.Mlp.R6.lnAt (fun l => y (ix2 p l)) (fun l => w (ix2 0 l)) (fun l => b (ix2 0 l)) l := by
  unfold lnK Cert.Mlp.R6.lnAt
  pointwise [meanK_apply]
  rfl

theorem low_apply (y : FVec Ideal S512x256 .f32) (p : Fin 512) (l : Fin 128) :
    (extractStridedSlice S512x128 ![0, 0] y slices_S512x256_o0_0_S512x128 : FVec Ideal S512x128 .f32) (ix2 p l) = y (ix2 p ⟨l.val, by have := l.isLt; omega⟩) := by
  pointwise

theorem pay6_apply (h : FVec Ideal S512x4096 .bf16) (w : FVec Ideal S4096x256 .bf16) (g b : FVec Ideal S1x128 .f32) (p : Fin 512) (l : Fin 128) :
    k0_pay6 (F := Ideal) h w g b (ix2 p l)
      = Cert.Mlp.R6.lnAt (fun l => ∑ k : Fin 4096, h (ix2 p k) * w (ix2 k ⟨l.val, by have := l.isLt; omega⟩)) (fun l => g (ix2 0 l)) (fun l => b (ix2 0 l)) l := by
  have e : k0_pay6 (F := Ideal) h w g b = lnK (extractStridedSlice S512x128 ![0, 0] (k0_pay5 (F := Ideal) h w) slices_S512x256_o0_0_S512x128) g b := by
    unfold k0_pay6 lnK meanK
    rfl
  rw [e, lnK_apply]
  refine congrArg (fun y => Cert.Mlp.R6.lnAt y _ _ l) (funext fun l => ?_)
  rw [low_apply, pay5_apply]

theorem pay3_apply (y : FVec Ideal S512x256 .f32) (p : Fin 512) (l : Fin 128) :
    k0_pay3 (F := Ideal) y (ix2 p l) = y (ix2 p ⟨128 + l.val, by have := l.isLt; omega⟩) * Ideal.ofBits .f32 0x3E3504F3#32 := by
  unfold k0_pay3
  pointwise

/-- A table's row `p`, by the lane's number. -/
def rowT (v : FVec Ideal S512x128 .f32) (p : Fin 512) (l : ℕ) : EReal := if h : l < 128 then v (ix2 p ⟨l, h⟩) else 0

/-- A head's lanes rotated by 112 are the lanes 16 further on. -/
theorem roll112 (x : FVec Ideal S512x128 .f32) (p : Fin 512) (l : Fin 128) :
    dynamicRotate 1 112#32 none x rotates_S512x128_d1 (ix2 p l) = rowT x p ((l.val + 16) % 128) := by
  have h : (l.val + 16) % 128 < 128 := Nat.mod_lt _ (by decide)
  unfold rowT
  rw [dif_pos h]
  pointwise
  exact congrArg x (congrArg (ix2 p) (Fin.ext (by dsimp only; omega)))

/-- A head's lanes rotated by 16. -/
theorem roll16 (x : FVec Ideal S512x128 .f32) (p : Fin 512) (l : Fin 128) :
    dynamicRotate 1 16#32 none x rotates_S512x128_d1 (ix2 p l) = rowT x p ((l.val + 112) % 128) := by
  have h : (l.val + 112) % 128 < 128 := Nat.mod_lt _ (by decide)
  unfold rowT
  rw [dif_pos h]
  pointwise
  exact congrArg x (congrArg (ix2 p) (Fin.ext (by dsimp only; omega)))

theorem rowT_fin (v : FVec Ideal S512x128 .f32) (p : Fin 512) (l : Fin 128) : rowT v p l.val = v (ix2 p l) := by
  unfold rowT
  rw [dif_pos l.isLt]

/-- A head rotated by the three tables. -/
def headOf (x C S₁ S₂ : FVec Ideal S512x128 .f32) : FVec Ideal S512x128 .f32 :=
  addf (addf (mulf x C) (mulf (dynamicRotate 1 112#32 none x rotates_S512x128_d1) S₁)) (mulf (dynamicRotate 1 16#32 none x rotates_S512x128_d1) S₂)

theorem headOf_apply (x C S₁ S₂ : FVec Ideal S512x128 .f32) (p : Fin 512) (l : Fin 128) :
    headOf x C S₁ S₂ (ix2 p l) = rollAt (rowT x p) (rowT C p) (rowT S₁ p) (rowT S₂ p) l.val := by
  unfold rollAt
  rw [rowT_fin, rowT_fin, rowT_fin, rowT_fin, ← roll112, ← roll16]
  rfl

/-- A table block's row, by the lane's number. -/
def tabN (v : FVec Ideal S1x512x128 .f32) (p : Fin 512) (l : ℕ) : EReal := if h : l < 128 then v (ix3 0 p ⟨l, h⟩) else 0

theorem rowT_tab (v : FVec Ideal S512x128 .f32) (u : FVec Ideal S1x512x128 .f32) (p : Fin 512) (h : ∀ l : Fin 128, v (ix2 p l) = u (ix3 0 p l)) : rowT v p = tabN u p := by
  funext l
  unfold rowT tabN
  by_cases hl : l < 128
  · rw [dif_pos hl, dif_pos hl, h]
  · rw [dif_neg hl, dif_neg hl]

theorem pay1_apply (x : FVec Ideal S512x128 .f32) (C S₁ S₂ : FVec Ideal S1x512x128 .f32) (p : Fin 512) (l : Fin 128) :
    k0_pay1 (F := Ideal) x (k0_pay7 (F := Ideal) C) (k0_pay8 (F := Ideal) S₁) S₂ (ix2 p l) = rollAt (rowT x p) (tabN C p) (tabN S₁ p) (tabN S₂ p) l.val := by
  have e : k0_pay1 (F := Ideal) x (k0_pay7 (F := Ideal) C) (k0_pay8 (F := Ideal) S₁) S₂
      = headOf x (k0_pay7 (F := Ideal) C) (k0_pay8 (F := Ideal) S₁) (k0_pay7 (F := Ideal) S₂) := by
    unfold k0_pay1 headOf
    rfl
  rw [e, headOf_apply, rowT_tab _ C p fun l => pay7_apply C p l, rowT_tab _ S₁ p fun l => pay8_apply S₁ p l, rowT_tab _ S₂ p fun l => pay7_apply S₂ p l]

/-- What the kernel leaves at row `p`, lane `l` of a block of index keys: `r` is the normalised row. -/
def keyEntry (r : Fin 4096 → EReal) (w : FVec Ideal S4096x256 .bf16) (C S₁ S₂ : FVec Ideal S1x512x128 .f32) (g b : FVec Ideal S1x128 .f32) (p : Fin 512) (l : ℕ) : EReal :=
  rollAt (fun n => if h : n < 128 then Cert.Mlp.R6.lnAt (fun l => ∑ k : Fin 4096, r k * w (ix2 k ⟨l.val, by have := l.isLt; omega⟩)) (fun l => g (ix2 0 l)) (fun l => b (ix2 0 l)) ⟨n, h⟩ else 0)
    (tabN C p) (tabN S₁ p) (tabN S₂ p) l

theorem key_eq (h : FVec Ideal S512x4096 .bf16) (w : FVec Ideal S4096x256 .bf16) (C S₁ S₂ : FVec Ideal S1x512x128 .f32) (g b : FVec Ideal S1x128 .f32) (p : Fin 512)
    (r : Fin 4096 → EReal) (hr : ∀ k, h (ix2 p k) = r k) (l : Fin 128) :
    k0_pay1 (F := Ideal) (k0_pay6 (F := Ideal) h w g b) (k0_pay7 (F := Ideal) C) (k0_pay8 (F := Ideal) S₁) S₂ (ix2 p l) = keyEntry r w C S₁ S₂ g b p l.val := by
  rw [pay1_apply]
  unfold keyEntry
  refine congrArg (fun x => rollAt x _ _ _ l.val) (funext fun n => ?_)
  unfold rowT
  by_cases hn : n < 128
  · rw [dif_pos hn, dif_pos hn, pay6_apply]
    refine congrArg (fun y => Cert.Mlp.R6.lnAt y _ _ (⟨n, hn⟩ : Fin 128)) (funext fun l => ?_)
    exact Finset.sum_congr rfl fun k _ => congrArg (· * w _) (hr k)
  · rw [dif_neg hn, dif_neg hn]

theorem weight_eq (h : FVec Ideal S512x4096 .bf16) (w : FVec Ideal S4096x256 .bf16) (p : Fin 512)
    (r : Fin 4096 → EReal) (hr : ∀ k, h (ix2 p k) = r k) (l : Fin 128) :
    k0_pay3 (F := Ideal) (k0_pay5 (F := Ideal) h w) (ix2 p l) = (∑ k : Fin 4096, r k * w (ix2 k ⟨128 + l.val, by have := l.isLt; omega⟩)) * Ideal.ofBits .f32 0x3E3504F3#32 := by
  rw [pay3_apply, pay5_apply]
  exact congrArg (· * _) (Finset.sum_congr rfl fun k _ => congrArg (· * w _) (hr k))

section Loop

variable (𝒱 : Variants) (c : Dev nD) (bd : Option 𝒱.V) (i : grid0.Coords)
  (arg1 : Memref sig .tc .vmem S512x4096 .f32) (harg1 : arg1.IsWhole)
  (arg2 : Memref sig .tc .vmem S1x4096 .f32) (harg2 : arg2.IsWhole)
  (arg3 : Memref sig .tc .vmem S4096x256 .bf16) (harg3 : arg3.IsWhole)
  (arg4 : Memref sig .tc .vmem S1x512x128 .f32) (harg4 : arg4.IsWhole)
  (arg5 : Memref sig .tc .vmem S1x512x128 .f32) (harg5 : arg5.IsWhole)
  (arg6 : Memref sig .tc .vmem S1x512x128 .f32) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S512x128 .f32) (harg9 : arg9.IsWhole)
  (arg10 : Memref sig .tc .vmem S512x128 .bf16) (harg10 : arg10.IsWhole)
  (arg11 : Memref sig .tc .vmem S512x128 .f32) (harg11 : arg11.IsWhole)
  (arg12 : Memref sig .tc .vmem S512x4096 .bf16) (harg12 : arg12.IsWhole)
  (X1 : BufTy.Contents (Elt Ideal) arg1.view.ty) (X2 : BufTy.Contents (Elt Ideal) arg2.view.ty)

theorem tripL_eq (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 X1 X2 k
      = [⟨Rect.unit (s := S512x4096) (k0_off1 k) S64x4096.size (k0_off1_inb k),
          k0_pay4 (F := Ideal) (View.readAt (Elt Ideal) arg1.view (Rect.unit (s := S512x4096) (k0_off1 k) S64x4096.size (k0_off1_inb k)).toLoadRect X1)
            (View.readAt (Elt Ideal) arg2.view (Rect.unit (s := S1x4096) ![0, 0] S1x4096.size inb_S1x4096_S1x4096_0_0).toLoadRect X2)⟩] := by
  unfold tripL_k0_t1 trip_k0_t1
  dsimp only

/-- After `n` trips the first `64 n` rows of the scratch are the normalised rows of the block. -/
theorem rows (f : BufTy.Contents (Elt Ideal) VS0_0.ty) (n : ℕ) (hn : n ≤ k0_t1_loop.trips) (r : Fin 512) (hr : r.val < 64 * n) (k : Fin 4096) :
    VS0_0.read (Elt Ideal) (VS0_0.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X1 X2 n)) (ix2 r k)
      = normRow (fun k => arg1.view.read (Elt Ideal) X1 (ix2 r k)) (fun k => arg2.view.read (Elt Ideal) X2 (ix2 0 k)) k := by
  induction n with
  | zero => omega
  | succ n ih =>
    rw [pb_k0_t1_succ 𝒱 c bd i arg1 harg1 arg2 harg2 arg3 harg3 arg4 harg4 arg5 harg5 arg6 harg6 arg7 harg7 arg8 harg8 arg9 harg9 arg10 harg10 arg11 harg11 arg12 harg12 X1 X2 ⟨n, hn⟩, tripL_eq, List.singleton_append]
    by_cases h : r.val < 64 * n
    · exact (View.read_writes_cons_rows_of_not_mem VS0_0 f _ _ _ (ix2 r k) (k0_off1_eq ⟨n, hn⟩) (W := 64) rfl (Or.inl h)).trans
        (ih (by omega) h)
    · have hlt : r.val - 64 * n < 64 := by omega
      refine (View.read_writes_cons_rows_of_mem VS0_0 f _ _ _ (ix2 r k) (ix2 (⟨r.val - 64 * n, hlt⟩ : Fin 64) k) (k0_off1_eq ⟨n, hn⟩) ?_ rfl).trans ?_
      · show r.val = 64 * n + (r.val - 64 * n)
        omega
      · refine (pay4_apply _ _ _ k).trans ?_
        have e2 : ∀ k, View.readAt (Elt Ideal) arg1.view (Rect.unit (s := S512x4096) (k0_off1 ⟨n, hn⟩) S64x4096.size (k0_off1_inb ⟨n, hn⟩)).toLoadRect X1 (ix2 (⟨r.val - 64 * n, hlt⟩ : Fin 64) k)
            = arg1.view.read (Elt Ideal) X1 (ix2 r k) := fun k => by
          refine congrArg (arg1.view.read (Elt Ideal) X1) (funext fun a => Fin.ext ?_)
          have h := congrFun (k0_off1_eq ⟨n, hn⟩) a
          fin_cases a
          · show (k0_off1 ⟨n, hn⟩ 0) + 1 * (r.val - 64 * n) = r.val
            have h' : k0_off1 ⟨n, hn⟩ 0 = 64 * n := h
            omega
          · show (k0_off1 ⟨n, hn⟩ 1) + 1 * k.val = k.val
            have h' : k0_off1 ⟨n, hn⟩ 1 = 0 := h
            omega
        have e3 : ∀ k, View.readAt (Elt Ideal) arg2.view (Rect.unit (s := S1x4096) ![0, 0] S1x4096.size inb_S1x4096_S1x4096_0_0).toLoadRect X2 (ix2 0 k)
            = arg2.view.read (Elt Ideal) X2 (ix2 0 k) := fun k => congrFun (View.readAt_full arg2.view X2 inb_S1x4096_S1x4096_0_0) _
        exact congrArg₂ (fun x g => normRow x g k) (funext e2) (funext e3)

end Loop

section Cases

variable (c : Dev nD) (i : grid0.Coords)
  (arg1 : Memref sig .tc .vmem S512x4096 .f32) (harg1 : arg1.IsWhole)
  (arg2 : Memref sig .tc .vmem S1x4096 .f32) (harg2 : arg2.IsWhole)
  (arg3 : Memref sig .tc .vmem S4096x256 .bf16) (harg3 : arg3.IsWhole)
  (arg4 : Memref sig .tc .vmem S1x512x128 .f32) (harg4 : arg4.IsWhole)
  (arg5 : Memref sig .tc .vmem S1x512x128 .f32) (harg5 : arg5.IsWhole)
  (arg6 : Memref sig .tc .vmem S1x512x128 .f32) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S512x128 .f32) (harg9 : arg9.IsWhole)
  (arg10 : Memref sig .tc .vmem S512x128 .bf16) (harg10 : arg10.IsWhole)
  (arg11 : Memref sig .tc .vmem S512x128 .f32) (harg11 : arg11.IsWhole)
  (x0 : FVec Ideal S512x4096 .f32) (x1 : FVec Ideal S1x4096 .f32) (x2 : FVec Ideal S4096x256 .bf16)
  (x3 x4 x5 : FVec Ideal S1x512x128 .f32) (x6 x7 : FVec Ideal S1x128 .f32)

theorem trips_eq : k0_t1_loop.trips = 8 := by decide +kernel

theorem filled (r : Fin 512) (k : Fin 4096) :
    VS0_0.read (Elt Ideal) (VS0_0.writes (Elt Ideal) VS0_0.junk (pb_k0_t1 (F := Ideal) Variants.none c none i arg1 harg1 arg2 harg2 arg3 harg3 arg4 harg4 arg5 harg5 arg6 harg6 arg7 harg7 arg8 harg8 arg9 harg9 arg10 harg10 arg11 harg11 scM0_0 (Memref.isWhole_whole _) (harg1.unread x0) (harg2.unread x1) k0_t1_loop.trips)) (ix2 r k)
      = normRow (fun k => x0 (ix2 r k)) (fun k => x1 (ix2 0 k)) k := by
  have hr := r.isLt
  refine (rows Variants.none c none i arg1 harg1 arg2 harg2 arg3 harg3 arg4 harg4 arg5 harg5 arg6 harg6 arg7 harg7 arg8 harg8 arg9 harg9 arg10 harg10 arg11 harg11 scM0_0 (Memref.isWhole_whole _) _ _ _ _ le_rfl r (by rw [trips_eq]; omega) k).trans ?_
  rw [harg1.read_unread, harg2.read_unread]

theorem out_8 (p : Fin 512) (l : Fin 128) :
    out0_A_8 (F := Ideal) c i arg1 harg1 arg2 harg2 arg3 harg3 arg4 harg4 arg5 harg5 arg6 harg6 arg7 harg7 arg8 harg8 arg9 harg9 arg10 harg10 arg11 harg11 scM0_0 (Memref.isWhole_whole _) x0 x1 x2 x3 x4 x5 x6 x7 (ix2 p l)
      = keyEntry (normRow (fun k => x0 (ix2 p k)) (fun k => x1 (ix2 0 k))) x2 x3 x4 x5 x6 x7 p l.val := by
  frame_out
  have h : ∀ k : Fin 4096, ((View.whole cc0_scratch0).readCov (pb_k0_t1 (F := Ideal) Variants.none c none i arg1 harg1 arg2 harg2 arg3 harg3 arg4 harg4 arg5 harg5 arg6 harg6 arg7 harg7 arg8 harg8 arg9 harg9 arg10 harg10 arg11 harg11 scM0_0 (Memref.isWhole_whole _) (harg1.unread x0) (harg2.unread x1) k0_t1_loop.trips)
      (Rect.unit (s := S512x4096) ![0, 0] ![512, 4096] inb_S512x4096_S512x4096_0_0).toLoadRect : FVec Ideal S512x4096 .bf16) (ix2 p k) = normRow (fun k => x0 (ix2 p k)) (fun k => x1 (ix2 0 k)) k := fun k =>
    (congrFun (View.readAt_full VS0_0 _ inb_S512x4096_S512x4096_0_0) _).trans (filled c i arg1 harg1 arg2 harg2 arg3 harg3 arg4 harg4 arg5 harg5 arg6 harg6 arg7 harg7 arg8 harg8 arg9 harg9 arg10 harg10 arg11 harg11 x0 x1 p k)
  exact key_eq _ x2 x3 x4 x5 x6 x7 p _ h l

theorem out_9 (p : Fin 512) (l : Fin 128) :
    out0_A_9 (F := Ideal) c i arg1 harg1 arg2 harg2 arg3 harg3 arg4 harg4 arg5 harg5 arg6 harg6 arg7 harg7 arg8 harg8 arg9 harg9 arg10 harg10 arg11 harg11 scM0_0 (Memref.isWhole_whole _) x0 x1 x2 x3 x4 x5 x6 x7 (ix2 p l)
      = keyEntry (normRow (fun k => x0 (ix2 p k)) (fun k => x1 (ix2 0 k))) x2 x3 x4 x5 x6 x7 p l.val := by
  frame_out
  have h : ∀ k : Fin 4096, ((View.whole cc0_scratch0).readCov (pb_k0_t1 (F := Ideal) Variants.none c none i arg1 harg1 arg2 harg2 arg3 harg3 arg4 harg4 arg5 harg5 arg6 harg6 arg7 harg7 arg8 harg8 arg9 harg9 arg10 harg10 arg11 harg11 scM0_0 (Memref.isWhole_whole _) (harg1.unread x0) (harg2.unread x1) k0_t1_loop.trips)
      (Rect.unit (s := S512x4096) ![0, 0] ![512, 4096] inb_S512x4096_S512x4096_0_0).toLoadRect : FVec Ideal S512x4096 .bf16) (ix2 p k) = normRow (fun k => x0 (ix2 p k)) (fun k => x1 (ix2 0 k)) k := fun k =>
    (congrFun (View.readAt_full VS0_0 _ inb_S512x4096_S512x4096_0_0) _).trans (filled c i arg1 harg1 arg2 harg2 arg3 harg3 arg4 harg4 arg5 harg5 arg6 harg6 arg7 harg7 arg8 harg8 arg9 harg9 arg10 harg10 arg11 harg11 x0 x1 p k)
  exact key_eq _ x2 x3 x4 x5 x6 x7 p _ h l

theorem out_10 (p : Fin 512) (l : Fin 128) :
    out0_A_10 (F := Ideal) c i arg1 harg1 arg2 harg2 arg3 harg3 arg4 harg4 arg5 harg5 arg6 harg6 arg7 harg7 arg8 harg8 arg9 harg9 arg10 harg10 arg11 harg11 scM0_0 (Memref.isWhole_whole _) x0 x1 x2 x3 x4 x5 x6 x7 (ix2 p l)
      = (∑ k : Fin 4096, normRow (fun k => x0 (ix2 p k)) (fun k => x1 (ix2 0 k)) k * x2 (ix2 k ⟨128 + l.val, by have := l.isLt; omega⟩)) * Ideal.ofBits .f32 0x3E3504F3#32 := by
  frame_out
  have h : ∀ k : Fin 4096, ((View.whole cc0_scratch0).readCov (pb_k0_t1 (F := Ideal) Variants.none c none i arg1 harg1 arg2 harg2 arg3 harg3 arg4 harg4 arg5 harg5 arg6 harg6 arg7 harg7 arg8 harg8 arg9 harg9 arg10 harg10 arg11 harg11 scM0_0 (Memref.isWhole_whole _) (harg1.unread x0) (harg2.unread x1) k0_t1_loop.trips)
      (Rect.unit (s := S512x4096) ![0, 0] ![512, 4096] inb_S512x4096_S512x4096_0_0).toLoadRect : FVec Ideal S512x4096 .bf16) (ix2 p k) = normRow (fun k => x0 (ix2 p k)) (fun k => x1 (ix2 0 k)) k := fun k =>
    (congrFun (View.readAt_full VS0_0 _ inb_S512x4096_S512x4096_0_0) _).trans (filled c i arg1 harg1 arg2 harg2 arg3 harg3 arg4 harg4 arg5 harg5 arg6 harg6 arg7 harg7 arg8 harg8 arg9 harg9 arg10 harg10 arg11 harg11 x0 x1 p k)
  exact weight_eq _ x2 p _ h l

end Cases

end Cert.Mlp.K6
-- ==== Proof.Mlp.TailTables.lean ====
module

public import proofs.«01_k».proof.Proof.Gen.Kernel6Ideal.Value
public import proofs.«01_k».proof.Proof.Mlp.Ref6
public import Idealize.ShloMosaic.Lib.Pipeline.ValueKit
public import Idealize.ShloMosaic.Lib.StableHlo.RunRead

@[expose] public section

set_option maxRecDepth 16384

noncomputable section

namespace Cert.Mlp.K6

open Cert.Kernel6Ideal Cert.Kernel6Ideal.Gen Idealize.ShloMosaic Idealize.ShloMosaic.TcCoe Idealize.SL.Sem

/-- The angles of every position and frequency. -/
def angles : FVec Ideal S4096x16 .f32 :=
  mulf (broadcastInDim S4096x16 ![0, 1] bcast_S4096x1_S4096x16_0_1 (broadcastInDim S4096x1 ![0] bcast_S4096_S4096x1_0 (sitofp .f32 (iotaInDim S4096 32 0))))
    (broadcastInDim S4096x16 ![0, 1] bcast_S1x16_S4096x16_0_1 (broadcastInDim S1x16 ![1] bcast_S16_S1x16_1
      (Host.powf (broadcastInDim S16 ![] bcast_S_S16 (constant S_ .f32 0x48F42400#32))
        (Host.divf (Host.negf (sitofp .f32 (iotaInDim S16 32 0))) (broadcastInDim S16 ![] bcast_S_S16 (constant S_ .f32 0x41800000#32))))))

theorem angles_apply (t : Fin 4096) (i : Fin 16) : angles (ix2 t i) = angle t.val i.val := by
  unfold angles angle
  pointwise

def rowC : FVec Ideal S4096x128 .f32 :=
  concatenate S4096x128 1 [⟨S4096x16, Host.cos angles⟩, ⟨S4096x16, Host.cos angles⟩, ⟨S4096x96, broadcastInDim S4096x96 ![] bcast_S_S4096x96 (constant S_ .f32 0x3F800000#32)⟩]
    concatenates_S4096x16_S4096x16_S4096x96_S4096x128_d1

def row1 : FVec Ideal S4096x128 .f32 :=
  concatenate S4096x128 1 [⟨S4096x16, Host.negf (Host.sin angles)⟩, ⟨S4096x112, broadcastInDim S4096x112 ![] bcast_S_S4096x112 (constant S_ .f32 0x00000000#32)⟩]
    concatenates_S4096x16_S4096x112_S4096x128_d1

def row2 : FVec Ideal S4096x128 .f32 :=
  concatenate S4096x128 1 [⟨S4096x16, broadcastInDim S4096x16 ![] bcast_S_S4096x16 (constant S_ .f32 0x00000000#32)⟩, ⟨S4096x16, Host.sin angles⟩, ⟨S4096x96, broadcastInDim S4096x96 ![] bcast_S_S4096x96 (constant S_ .f32 0x00000000#32)⟩]
    concatenates_S4096x16_S4096x16_S4096x96_S4096x128_d1

/-- The first table's lanes. -/
def cosN (t l : ℕ) : EReal := if l < 16 then Ideal.cos (angle t l) else if l < 32 then Ideal.cos (angle t (l - 16)) else 1

def sin1N (t l : ℕ) : EReal := if l < 16 then -Ideal.sin (angle t l) else 0

def sin2N (t l : ℕ) : EReal := if l < 16 then 0 else if l < 32 then Ideal.sin (angle t (l - 16)) else 0

theorem rowC_apply (t : Fin 4096) (l : Fin 128) : rowC (ix2 t l) = cosN t.val l.val := by
  unfold rowC cosN
  pointwise [angles_apply]
  have hl := l.isLt
  split_ifs
  all_goals first
    | rfl
    | omega

theorem row1_apply (t : Fin 4096) (l : Fin 128) : row1 (ix2 t l) = sin1N t.val l.val := by
  unfold row1 sin1N
  pointwise [angles_apply]
  have hl := l.isLt
  split_ifs
  all_goals first
    | rfl
    | omega

theorem row2_apply (t : Fin 4096) (l : Fin 128) : row2 (ix2 t l) = sin2N t.val l.val := by
  unfold row2 sin2N
  pointwise [angles_apply]
  have hl := l.isLt
  split_ifs
  all_goals first
    | rfl
    | omega

/-- A table of three: the same rows twice, and between them a constant one. -/
def stack (v : FVec Ideal S4096x128 .f32) (b : BitVec 32) : FVec Ideal S3x4096x128 .f32 :=
  concatenate S3x4096x128 0 [⟨S1x4096x128, broadcastInDim S1x4096x128 ![1, 2] bcast_S4096x128_S1x4096x128_1_2 v⟩,
    ⟨S1x4096x128, broadcastInDim S1x4096x128 ![1, 2] bcast_S4096x128_S1x4096x128_1_2 (broadcastInDim S4096x128 ![] bcast_S_S4096x128 (constant S_ .f32 b))⟩,
    ⟨S1x4096x128, broadcastInDim S1x4096x128 ![1, 2] bcast_S4096x128_S1x4096x128_1_2 v⟩] concatenates_S1x4096x128_S1x4096x128_S1x4096x128_S3x4096x128_d0

theorem stack_apply (v : FVec Ideal S4096x128 .f32) (b : BitVec 32) (j : Fin 3) (t : Fin 4096) (l : Fin 128) :
    stack v b (ix3 j t l) = if j.val = 1 then Ideal.ofBits .f32 b else v (ix2 t l) := by
  unfold stack
  have hj := j.isLt
  pointwise
  split_ifs
  all_goals first
    | rfl
    | omega

variable (m : (ℓ : Loc nD τ sig) → Buf (Elt Ideal) ℓ) (c : Dev nD)

open StableHlo in
theorem entry36 : V m c main_v36 = stack rowC 0x3F800000#32 := by
  after_reads_simp; rfl

open StableHlo in
theorem entry40 : V m c main_v40 = stack row1 0x00000000#32 := by
  after_reads_simp; rfl

open StableHlo in
theorem entry44 : V m c main_v44 = stack row2 0x00000000#32 := by
  after_reads_simp; rfl

end Cert.Mlp.K6
-- ==== Proof.Mlp.Tail.lean ====
module

public import proofs.«01_k».proof.Proof.Gen.Kernel6Ideal.Value
public import proofs.«01_k».proof.Proof.Mlp.Ref6
public import proofs.«01_k».proof.Proof.Mlp.TailRows
public import proofs.«01_k».proof.Proof.Mlp.TailTables
public import Idealize.ShloMosaic.Lib.Pipeline.ValueKit
public import Idealize.ShloMosaic.Lib.StableHlo.RunRead
public import Idealize.ShloMosaic.Lib.WritesUnit

@[expose] public section

set_option maxRecDepth 16384

noncomputable section

namespace Cert.Mlp.K6

open Cert.Kernel6Ideal Cert.Kernel6Ideal.Gen Idealize.ShloMosaic Idealize.ShloMosaic.TcCoe Idealize.SL.Sem

theorem idx : ∀ t : Fin cfg0.N, win0_0.index t = ![t.val, 0] ∧ win0_1.index t = ![0, 0] ∧ win0_2.index t = ![0, 0]
    ∧ win0_3.index t = ![0, t.val % 8, 0] ∧ win0_4.index t = ![0, t.val % 8, 0] ∧ win0_5.index t = ![0, t.val % 8, 0]
    ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

variable (m : (ℓ : Loc nD τ sig) → Buf (Elt Ideal) ℓ) (c : Dev nD)

/-- The input, its rows in one axis. -/
def flatX (a : FVec Ideal S2x4096x4096 .f32) : FVec Ideal S8192x4096 .f32 :=
  shapeCast S8192x4096 a shapeCasts_S2x4096x4096_S8192x4096

/-- The norm's weights as a row. -/
def flatG (a : FVec Ideal S1x4096 .f32) : FVec Ideal S1x4096 .f32 :=
  shapeCast S1x4096 (shapeCast S4096 a shapeCasts_S1x4096_S4096) shapeCasts_S4096_S1x4096

/-- The layer norm's weights as a row. -/
def flatL (a : FVec Ideal S1x128 .f32) : FVec Ideal S1x128 .f32 :=
  shapeCast S1x128 (shapeCast S128 a shapeCasts_S1x128_S128) shapeCasts_S128_S1x128

/-- The last columns of the weights, with zero columns after them. -/
def flatW (a : FVec Ideal S1x4096x11424 .f32) : FVec Ideal S4096x256 .bf16 :=
  truncf .bf16 (pad S4096x256 ![0, 0] ![0, 96] ![0, 0] (shapeCast S4096x160 (extractStridedSlice S1x4096x160 ![0, 0, 11264] a slices_S1x4096x11424_S1x4096x160_0_0_11264) shapeCasts_S1x4096x160_S4096x160)
    (sitofp .f32 (constantI S_ 32 0#32) : FVec Ideal S_ .f32) pads_S4096x160_S4096x256_000_0960 h_S_) bitsLt_bf16_f32

theorem sitofp_zero : (FloatOps.sitofp (F := Ideal) .f32 (0#32 : BitVec 32) : EReal) = 0 := by
  show (((BitVec.toInt (0#32 : BitVec 32) : ℤ) : ℝ) : EReal) = 0
  simp

theorem flatX_apply (a : FVec Ideal S2x4096x4096 .f32) (b : Fin 2) (t n : Fin 4096) : flatX a (ix2 (flatRow b t) n) = a (ix3 b t n) := by
  unfold flatX flatRow
  pointwise

theorem flatG_apply (a : FVec Ideal S1x4096 .f32) (k : Fin 4096) : flatG a (ix2 0 k) = a (ix2 0 k) := by
  unfold flatG
  pointwise

theorem flatL_apply (a : FVec Ideal S1x128 .f32) (l : Fin 128) : flatL a (ix2 0 l) = a (ix2 0 l) := by
  unfold flatL
  pointwise

theorem flatW_apply (a : FVec Ideal S1x4096x11424 .f32) (k : Fin 4096) (q : Fin 256) :
    flatW a (ix2 k q) = if q.val < 160 then Cert.Mlp.R6.wcol a k (11264 + q.val) else 0 := by
  have hq := q.isLt
  unfold flatW Cert.Mlp.R6.wcol
  by_cases h : q.val < 160
  · rw [if_pos h, dif_pos (by omega)]
    pointwise
    rw [dif_pos h]
  · rw [if_neg h]
    pointwise
    rw [dif_neg h]
    exact sitofp_zero

open StableHlo in
theorem entry4 : V m c main_v4 = flatX (m ((c : Thread nD τ).loc main_arg0)) := by
  after_reads_simp; rfl

open StableHlo in
theorem entry6 : V m c main_v6 = flatG (m ((c : Thread nD τ).loc main_arg1)) := by
  after_reads_simp; rfl

open StableHlo in
theorem entry3 : V m c main_v3 = flatW (m ((c : Thread nD τ).loc main_arg2)) := by
  after_reads_simp; rfl

open StableHlo in
theorem entry46 : V m c main_v46 = flatL (m ((c : Thread nD τ).loc main_arg3)) := by
  after_reads_simp; rfl

open StableHlo in
theorem entry48 : V m c main_v48 = flatL (m ((c : Thread nD τ).loc main_arg4)) := by
  after_reads_simp; rfl

theorem read0 (t : Fin cfg0.N) (p : Fin 512) (k : Fin 4096) (b : Fin 2) (s : Fin 4096) (h : b.val * 4096 + s.val = t.val * 512 + p.val) :
    (iblk m c 0 t : FVec Ideal S512x4096 .f32) (ix2 p k) = (m ((c : Thread nD τ).loc main_arg0) : FVec Ideal S2x4096x4096 .f32) (ix3 b s k) := by
  obtain ⟨e0, e1, e2, e3, e4, e5, e6, e7, e8, e9, e10⟩ := idx t
  refine Eq.trans ?_ (flatX_apply _ b s k)
  rw [← entry4]
  blk_simp [iblk, e0]
  refine congrArg (V m c main_v4) ?_
  funext a
  fin_cases a
  all_goals apply Fin.ext
  all_goals blk_simp [e0]
  all_goals (dsimp only [ix2, ix3, flatRow]; try omega; try rfl)

theorem read1 (t : Fin cfg0.N) (k : Fin 4096) :
    (iblk m c 1 t : FVec Ideal S1x4096 .f32) (ix2 0 k) = (m ((c : Thread nD τ).loc main_arg1) : FVec Ideal S1x4096 .f32) (ix2 0 k) := by
  obtain ⟨e0, e1, e2, e3, e4, e5, e6, e7, e8, e9, e10⟩ := idx t
  refine Eq.trans ?_ (flatG_apply _ k)
  rw [← entry6]
  blk_simp [iblk, e1]
  refine congrArg (V m c main_v6) ?_
  funext a
  fin_cases a
  all_goals apply Fin.ext
  all_goals blk_simp [e1]
  all_goals (dsimp only [ix2, ix3, flatRow]; try omega; try rfl)

theorem read2 (t : Fin cfg0.N) (k : Fin 4096) (q : Fin 256) :
    (iblk m c 2 t : FVec Ideal S4096x256 .bf16) (ix2 k q) = if q.val < 160 then Cert.Mlp.R6.wcol (m ((c : Thread nD τ).loc main_arg2) : FVec Ideal S1x4096x11424 .f32) k (11264 + q.val) else 0 := by
  obtain ⟨e0, e1, e2, e3, e4, e5, e6, e7, e8, e9, e10⟩ := idx t
  refine Eq.trans ?_ (flatW_apply _ k q)
  rw [← entry3]
  blk_simp [iblk, e2]
  refine congrArg (V m c main_v3) ?_
  funext a
  fin_cases a
  all_goals apply Fin.ext
  all_goals blk_simp [e2]
  all_goals (dsimp only [ix2, ix3, flatRow]; try omega; try rfl)

theorem read3 (t : Fin cfg0.N) (p : Fin 512) (l : Fin 128) (j : Fin 3) (s : Fin 4096) (hj : j.val = 0) (hs : s.val = t.val % 8 * 512 + p.val) :
    (iblk m c 3 t : FVec Ideal S1x512x128 .f32) (ix3 0 p l) = rowC (ix2 s l) := by
  obtain ⟨e0, e1, e2, e3, e4, e5, e6, e7, e8, e9, e10⟩ := idx t
  refine Eq.trans ?_ ((stack_apply rowC 0x3F800000#32 j s l).trans (if_neg (by omega)))
  rw [← entry36]
  blk_simp [iblk, e3]
  refine congrArg (V m c main_v36) ?_
  funext a
  fin_cases a
  all_goals apply Fin.ext
  all_goals blk_simp [e3]
  all_goals (dsimp only [ix2, ix3, flatRow]; try omega; try rfl)

theorem read4 (t : Fin cfg0.N) (p : Fin 512) (l : Fin 128) (j : Fin 3) (s : Fin 4096) (hj : j.val = 0) (hs : s.val = t.val % 8 * 512 + p.val) :
    (iblk m c 4 t : FVec Ideal S1x512x128 .f32) (ix3 0 p l) = row1 (ix2 s l) := by
  obtain ⟨e0, e1, e2, e3, e4, e5, e6, e7, e8, e9, e10⟩ := idx t
  refine Eq.trans ?_ ((stack_apply row1 0x00000000#32 j s l).trans (if_neg (by omega)))
  rw [← entry40]
  blk_simp [iblk, e4]
  refine congrArg (V m c main_v40) ?_
  funext a
  fin_cases a
  all_goals apply Fin.ext
  all_goals blk_simp [e4]
  all_goals (dsimp only [ix2, ix3, flatRow]; try omega; try rfl)

theorem read5 (t : Fin cfg0.N) (p : Fin 512) (l : Fin 128) (j : Fin 3) (s : Fin 4096) (hj : j.val = 0) (hs : s.val = t.val % 8 * 512 + p.val) :
    (iblk m c 5 t : FVec Ideal S1x512x128 .f32) (ix3 0 p l) = row2 (ix2 s l) := by
  obtain ⟨e0, e1, e2, e3, e4, e5, e6, e7, e8, e9, e10⟩ := idx t
  refine Eq.trans ?_ ((stack_apply row2 0x00000000#32 j s l).trans (if_neg (by omega)))
  rw [← entry44]
  blk_simp [iblk, e5]
  refine congrArg (V m c main_v44) ?_
  funext a
  fin_cases a
  all_goals apply Fin.ext
  all_goals blk_simp [e5]
  all_goals (dsimp only [ix2, ix3, flatRow]; try omega; try rfl)

theorem read6 (t : Fin cfg0.N) (l : Fin 128) :
    (iblk m c 6 t : FVec Ideal S1x128 .f32) (ix2 0 l) = (m ((c : Thread nD τ).loc main_arg3) : FVec Ideal S1x128 .f32) (ix2 0 l) := by
  obtain ⟨e0, e1, e2, e3, e4, e5, e6, e7, e8, e9, e10⟩ := idx t
  refine Eq.trans ?_ (flatL_apply _ l)
  rw [← entry46]
  blk_simp [iblk, e6]
  refine congrArg (V m c main_v46) ?_
  funext a
  fin_cases a
  all_goals apply Fin.ext
  all_goals blk_simp [e6]
  all_goals (dsimp only [ix2, ix3, flatRow]; try omega; try rfl)

theorem read7 (t : Fin cfg0.N) (l : Fin 128) :
    (iblk m c 7 t : FVec Ideal S1x128 .f32) (ix2 0 l) = (m ((c : Thread nD τ).loc main_arg4) : FVec Ideal S1x128 .f32) (ix2 0 l) := by
  obtain ⟨e0, e1, e2, e3, e4, e5, e6, e7, e8, e9, e10⟩ := idx t
  refine Eq.trans ?_ (flatL_apply _ l)
  rw [← entry48]
  blk_simp [iblk, e7]
  refine congrArg (V m c main_v48) ?_
  funext a
  fin_cases a
  all_goals apply Fin.ext
  all_goals blk_simp [e7]
  all_goals (dsimp only [ix2, ix3, flatRow]; try omega; try rfl)

/-- Block `t`'s row `p` of the input as batch and position. -/
theorem row_eq (t : Fin cfg0.N) (p : Fin 512) : ∃ (b : Fin 2) (s : Fin 4096), b.val * 4096 + s.val = t.val * 512 + p.val := by
  have := p.isLt
  have ht : t.val < 16 := t.isLt
  exact ⟨⟨(t.val * 512 + p.val) / 4096, by omega⟩, ⟨(t.val * 512 + p.val) % 4096, by omega⟩, by dsimp only; omega⟩

/-- The normalised row of the arguments. -/
def argRow (b : Fin 2) (s k : Fin 4096) : EReal :=
  normRow (fun k => (m ((c : Thread nD τ).loc main_arg0) : FVec Ideal S2x4096x4096 .f32) (ix3 b s k))
    (fun k => (m ((c : Thread nD τ).loc main_arg1) : FVec Ideal S1x4096 .f32) (ix2 0 k)) k

theorem blk_row (t : Fin cfg0.N) (p : Fin 512) (b : Fin 2) (s : Fin 4096) (h : b.val * 4096 + s.val = t.val * 512 + p.val) (k : Fin 4096) :
    normRow (fun k => (iblk m c 0 t : FVec Ideal S512x4096 .f32) (ix2 p k)) (fun k => (iblk m c 1 t : FVec Ideal S1x4096 .f32) (ix2 0 k)) k = argRow m c b s k :=
  congrArg₂ (fun x g => normRow x g k) (funext fun k => read0 m c t p k b s h) (funext fun k => read1 m c t k)

/-- The plain projection's columns of one position of the arguments. -/
def zOf (b : Fin 2) (s : Fin 4096) : ℕ → EReal :=
  Cert.Mlp.R6.zAt (m ((c : Thread nD τ).loc main_arg0)) (m ((c : Thread nD τ).loc main_arg1)) (m ((c : Thread nD τ).loc main_arg2)) b s

/-- A column of the block's product is the plain projection's, or zero past its end. -/
theorem col_eq (t : Fin cfg0.N) (b : Fin 2) (s : Fin 4096) (q : Fin 256) :
    (∑ k : Fin 4096, argRow m c b s k * (iblk m c 2 t : FVec Ideal S4096x256 .bf16) (ix2 k q)) = if q.val < 160 then zOf m c b s (11264 + q.val) else 0 := by
  by_cases h : q.val < 160
  · rw [if_pos h]
    unfold zOf Cert.Mlp.R6.zAt colAt argRow
    refine Finset.sum_congr rfl fun k _ => ?_
    exact congrArg (_ * ·) ((read2 m c t k q).trans (if_pos h))
  · rw [if_neg h]
    refine Finset.sum_eq_zero fun k _ => ?_
    exact (congrArg (argRow m c b s k * ·) ((read2 m c t k q).trans (if_neg h))).trans (mul_zero _)

/-- The layer norm's weights, by the lane. -/
def lnwOf (l : Fin 128) : EReal := (m ((c : Thread nD τ).loc main_arg3) : FVec Ideal S1x128 .f32) (ix2 0 l)

def lnbOf (l : Fin 128) : EReal := (m ((c : Thread nD τ).loc main_arg4) : FVec Ideal S1x128 .f32) (ix2 0 l)

theorem tab3 (t : Fin cfg0.N) (p : Fin 512) (s : Fin 4096) (hs : s.val = t.val % 8 * 512 + p.val) (l : ℕ) (hl : l < 128) :
    tabN (iblk m c 3 t : FVec Ideal S1x512x128 .f32) p l = cosN s.val l := by
  unfold tabN
  rw [dif_pos hl]
  exact (read3 m c t p ⟨l, hl⟩ ⟨0, by decide⟩ s rfl hs).trans (rowC_apply s ⟨l, hl⟩)

theorem tab4 (t : Fin cfg0.N) (p : Fin 512) (s : Fin 4096) (hs : s.val = t.val % 8 * 512 + p.val) (l : ℕ) (hl : l < 128) :
    tabN (iblk m c 4 t : FVec Ideal S1x512x128 .f32) p l = sin1N s.val l := by
  unfold tabN
  rw [dif_pos hl]
  exact (read4 m c t p ⟨l, hl⟩ ⟨0, by decide⟩ s rfl hs).trans (row1_apply s ⟨l, hl⟩)

theorem tab5 (t : Fin cfg0.N) (p : Fin 512) (s : Fin 4096) (hs : s.val = t.val % 8 * 512 + p.val) (l : ℕ) (hl : l < 128) :
    tabN (iblk m c 5 t : FVec Ideal S1x512x128 .f32) p l = sin2N s.val l := by
  unfold tabN
  rw [dif_pos hl]
  exact (read5 m c t p ⟨l, hl⟩ ⟨0, by decide⟩ s rfl hs).trans (row2_apply s ⟨l, hl⟩)

/-- A block's index keys are the reference's. -/
theorem key_block (t : Fin cfg0.N) (p : Fin 512) (l : Fin 128) (b : Fin 2) (s : Fin 4096) (h : b.val * 4096 + s.val = t.val * 512 + p.val) :
    keyEntry (argRow m c b s) (iblk m c 2 t : FVec Ideal S4096x256 .bf16) (iblk m c 3 t : FVec Ideal S1x512x128 .f32) (iblk m c 4 t : FVec Ideal S1x512x128 .f32)
        (iblk m c 5 t : FVec Ideal S1x512x128 .f32) (iblk m c 6 t : FVec Ideal S1x128 .f32) (iblk m c 7 t : FVec Ideal S1x128 .f32) p l.val
      = Cert.Mlp.R6.keyAt (zOf m c b s) (lnwOf m c) (lnbOf m c) s.val l.val := by
  have hp := p.isLt
  have hs' := s.isLt
  have hb := b.isLt
  have ht : t.val < 16 := t.isLt
  have hs : s.val = t.val % 8 * 512 + p.val := by omega
  have ew : (fun l => (iblk m c 6 t : FVec Ideal S1x128 .f32) (ix2 0 l)) = lnwOf m c := funext fun l => read6 m c t l
  have eb : (fun l => (iblk m c 7 t : FVec Ideal S1x128 .f32) (ix2 0 l)) = lnbOf m c := funext fun l => read7 m c t l
  have ez : (fun l : Fin 128 => ∑ k : Fin 4096, argRow m c b s k * (iblk m c 2 t : FVec Ideal S4096x256 .bf16) (ix2 k (⟨l.val, by have := l.isLt; omega⟩ : Fin 256))) = fun l => zOf m c b s (11264 + l.val) :=
    funext fun l => (col_eq m c t b s ⟨l.val, by have := l.isLt; omega⟩).trans (if_pos (by have := l.isLt; dsimp only; omega))
  unfold keyEntry Cert.Mlp.R6.keyAt
  rw [ew, eb]
  refine (congrArg (fun y => rollAt (fun n => if h : n < 128 then Cert.Mlp.R6.lnAt y (lnwOf m c) (lnbOf m c) ⟨n, h⟩ else 0) _ _ _ l.val) ez).trans ?_
  refine rollAt_rope _ _ _ _ _ _ _ l.isLt ?_ ?_ ?_
  · rw [tab3 m c t p s hs _ l.isLt]; rfl
  · rw [tab4 m c t p s hs _ l.isLt]; rfl
  · rw [tab5 m c t p s hs _ l.isLt]; rfl

/-- The block's row of the kernel's inputs is the arguments'. -/
theorem row_fun (t : Fin cfg0.N) (p : Fin 512) (b : Fin 2) (s : Fin 4096) (h : b.val * 4096 + s.val = t.val * 512 + p.val) :
    normRow (fun k => (iblk m c 0 t : FVec Ideal S512x4096 .f32) (ix2 p k)) (fun k => (iblk m c 1 t : FVec Ideal S1x4096 .f32) (ix2 0 k)) = argRow m c b s :=
  funext fun k => blk_row m c t p b s h k

theorem after8 (t : Fin cfg0.N) (p : Fin 512) (l : Fin 128) (b : Fin 2) (s : Fin 4096) (h : b.val * 4096 + s.val = t.val * 512 + p.val) :
    ((outsAt0 m c t).1 : FVec Ideal S512x128 .f32) (ix2 p l) = Cert.Mlp.R6.keyAt (zOf m c b s) (lnwOf m c) (lnbOf m c) s.val l.val := by
  unfold outsAt0
  dsimp only
  refine (out_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) p l).trans ?_
  rw [row_fun m c t p b s h]
  exact key_block m c t p l b s h

theorem after9 (t : Fin cfg0.N) (p : Fin 512) (l : Fin 128) (b : Fin 2) (s : Fin 4096) (h : b.val * 4096 + s.val = t.val * 512 + p.val) :
    ((outsAt0 m c t).2.1 : FVec Ideal S512x128 .bf16) (ix2 p l) = Cert.Mlp.R6.keyAt (zOf m c b s) (lnwOf m c) (lnbOf m c) s.val l.val := by
  unfold outsAt0
  dsimp only
  refine (out_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) p l).trans ?_
  rw [row_fun m c t p b s h]
  exact key_block m c t p l b s h

theorem after10 (t : Fin cfg0.N) (p : Fin 512) (l : Fin 128) (b : Fin 2) (s : Fin 4096) (h : b.val * 4096 + s.val = t.val * 512 + p.val) :
    ((outsAt0 m c t).2.2 : FVec Ideal S512x128 .f32) (ix2 p l) = Cert.Mlp.R6.weightAt (zOf m c b s) l.val := by
  unfold outsAt0
  dsimp only
  refine (out_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) p l).trans ?_
  rw [row_fun m c t p b s h]
  rw [col_eq m c t b s ⟨128 + l.val, by have := l.isLt; omega⟩]
  unfold Cert.Mlp.R6.weightAt
  dsimp only
  by_cases hl : l.val < 32
  · rw [if_pos (show 128 + l.val < 160 by omega), if_pos hl, show 11264 + (128 + l.val) = 11392 + l.val by omega]
  · rw [if_neg (show ¬128 + l.val < 160 by omega), if_neg hl, zero_mul]

/-- The reference's plain projection at the call's arguments. -/
def projOf : FVec Ideal Cert.Reference6Ideal.S2x4096x11424 .f32 :=
  Cert.Mlp.R6.proj (m ((c : Thread nD τ).loc main_arg0)) (m ((c : Thread nD τ).loc main_arg1)) (m ((c : Thread nD τ).loc main_arg2))

/-- The reference's three arrays. -/
def ref8 : FVec Ideal S8192x128 .f32 := Cert.Mlp.R6.ki (projOf m c) (m ((c : Thread nD τ).loc main_arg3)) (m ((c : Thread nD τ).loc main_arg4))

def ref9 : FVec Ideal S8192x128 .bf16 := Cert.Mlp.R6.kn (projOf m c) (m ((c : Thread nD τ).loc main_arg3)) (m ((c : Thread nD τ).loc main_arg4))

def ref10 : FVec Ideal S8192x128 .f32 := Cert.Mlp.R6.wi (projOf m c)

theorem ref8_apply (b : Fin 2) (s : Fin 4096) (l : Fin 128) : ref8 m c (ix2 (flatRow b s) l) = Cert.Mlp.R6.keyAt (zOf m c b s) (lnwOf m c) (lnbOf m c) s.val l.val :=
  Cert.Mlp.R6.ki_apply _ _ _ b s _ (fun n => Cert.Mlp.R6.proj_zAt _ _ _ b s n) l

theorem ref9_apply (b : Fin 2) (s : Fin 4096) (l : Fin 128) : ref9 m c (ix2 (flatRow b s) l) = Cert.Mlp.R6.keyAt (zOf m c b s) (lnwOf m c) (lnbOf m c) s.val l.val :=
  ref8_apply m c b s l

theorem ref10_apply (b : Fin 2) (s : Fin 4096) (l : Fin 128) : ref10 m c (ix2 (flatRow b s) l) = Cert.Mlp.R6.weightAt (zOf m c b s) l.val :=
  Cert.Mlp.R6.wi_apply _ b s _ (fun n => Cert.Mlp.R6.proj_zAt _ _ _ b s n) l

theorem final8 : (dats m 0 c).arrAt 8 cfg0.N = ref8 m c := by
  refine (dats m 0 c).arrAt_eq_of_covers 8 _ (by decide +kernel) fun t _ y => ?_
  blk_simp
  rw [after0_8]
  obtain ⟨p, l, rfl⟩ : ∃ (p : Fin 512) (l : Fin 128), y = ix2 p l := ⟨y 0, y 1, by idx_ext⟩
  have hp := p.isLt
  have hl := l.isLt
  have ht : t.val < 16 := t.isLt
  obtain ⟨b, s, hbs⟩ := row_eq t p
  obtain ⟨e0, e1, e2, e3, e4, e5, e6, e7, e8, e9, e10⟩ := idx t
  have hy : ((cfg0.win 8).blk t).view.emb (ix2 p l) = (ix2 (flatRow b s) l : S8192x128.Idx) := by
    funext a
    fin_cases a
    all_goals apply Fin.ext
    all_goals blk_simp [e8]
    all_goals (dsimp only [ix2, flatRow]; try omega)
  refine Eq.trans ?_ ((congrArg (ref8 m c) hy).trans (ref8_apply m c b s l)).symm
  exact after8 m c t p l b s hbs

theorem final9 : (dats m 0 c).arrAt 9 cfg0.N = ref9 m c := by
  refine (dats m 0 c).arrAt_eq_of_covers 9 _ (by decide +kernel) fun t _ y => ?_
  blk_simp
  rw [after0_9]
  obtain ⟨p, l, rfl⟩ : ∃ (p : Fin 512) (l : Fin 128), y = ix2 p l := ⟨y 0, y 1, by idx_ext⟩
  have hp := p.isLt
  have hl := l.isLt
  have ht : t.val < 16 := t.isLt
  obtain ⟨b, s, hbs⟩ := row_eq t p
  obtain ⟨e0, e1, e2, e3, e4, e5, e6, e7, e8, e9, e10⟩ := idx t
  have hy : ((cfg0.win 9).blk t).view.emb (ix2 p l) = (ix2 (flatRow b s) l : S8192x128.Idx) := by
    funext a
    fin_cases a
    all_goals apply Fin.ext
    all_goals blk_simp [e9]
    all_goals (dsimp only [ix2, flatRow]; try omega)
  refine Eq.trans ?_ ((congrArg (ref9 m c) hy).trans (ref9_apply m c b s l)).symm
  exact after9 m c t p l b s hbs

theorem final10 : (dats m 0 c).arrAt 10 cfg0.N = ref10 m c := by
  refine (dats m 0 c).arrAt_eq_of_covers 10 _ (by decide +kernel) fun t _ y => ?_
  blk_simp
  rw [after0_10]
  obtain ⟨p, l, rfl⟩ : ∃ (p : Fin 512) (l : Fin 128), y = ix2 p l := ⟨y 0, y 1, by idx_ext⟩
  have hp := p.isLt
  have hl := l.isLt
  have ht : t.val < 16 := t.isLt
  obtain ⟨b, s, hbs⟩ := row_eq t p
  obtain ⟨e0, e1, e2, e3, e4, e5, e6, e7, e8, e9, e10⟩ := idx t
  have hy : ((cfg0.win 10).blk t).view.emb (ix2 p l) = (ix2 (flatRow b s) l : S8192x128.Idx) := by
    funext a
    fin_cases a
    all_goals apply Fin.ext
    all_goals blk_simp [e10]
    all_goals (dsimp only [ix2, flatRow]; try omega)
  refine Eq.trans ?_ ((congrArg (ref10 m c) hy).trans (ref10_apply m c b s l)).symm
  exact after10 m c t p l b s hbs

end Cert.Mlp.K6
-- ==== Proof.Mlp.Ref7.lean ====
module

public import proofs.«01_k».proof.Proof.Gen.Reference7Ideal.Run
public import proofs.«01_k».proof.Proof.Mlp.Norm

@[expose] public section

set_option maxRecDepth 16384

noncomputable section

namespace Cert.Mlp

open Cert.Reference7Ideal Cert.Reference7Ideal.Gen Idealize.ShloMosaic Idealize.ShloMosaic.TcCoe Idealize.SL.Sem

/-- The reference's normalisation. -/
def norm7 (x : FVec Ideal S128x1x4096 .f32) (g : FVec Ideal S4096 .f32) : FVec Ideal S128x1x4096 .f32 :=
  mulf (mulf x (broadcastInDim S128x1x4096 ![0, 1, 2] bcast_S128x1x1_S128x1x4096_0_1_2 (Host.rsqrt (addf (Host.divf (broadcastInDim S128x1x1 ![0, 1] bcast_S128x1_S128x1x1_0_1 (Host.reduceAdd (mulf x x) (constant S_ .f32 0x00000000#32) reducesTo_S128x1x4096_S128x1_d2 h_S_)) (broadcastInDim S128x1x1 ![] bcast_S_S128x1x1 (constant S_ .f32 0x45800000#32))) (broadcastInDim S128x1x1 ![] bcast_S_S128x1x1 (constant S_ .f32 0x358637BD#32)))))) (broadcastInDim S128x1x4096 ![0, 1, 2] bcast_S1x1x4096_S128x1x4096_0_1_2 (broadcastInDim S1x1x4096 ![2] bcast_S4096_S1x1x4096_2 g))

theorem norm7_apply (x : FVec Ideal S128x1x4096 .f32) (g : FVec Ideal S4096 .f32) (b : Fin 128) (k : Fin 4096) :
    norm7 x g (ix3 b 0 k) = normRow (fun k => x (ix3 b 0 k)) (fun k => g (ix1 k)) k := by
  unfold norm7 normRow
  pointwise

/-- The residual stream plus the down projection. -/
def sum7 (a0 : FVec Ideal S128x1x16384 .f32) (a1 : FVec Ideal S1x16384x4096 .f32) (a2 : FVec Ideal S128x1x4096 .f32) : FVec Ideal S128x1x4096 .f32 :=
  addf a2 (Host.dotGeneral dot_S128x1x16384_S16384x4096_S128x1x4096_2_0_01_1_n_n none a0 (shapeCast _ a1 shapeCasts_S1x16384x4096_S16384x4096))

theorem sum7_apply (a0 : FVec Ideal S128x1x16384 .f32) (a1 : FVec Ideal S1x16384x4096 .f32) (a2 : FVec Ideal S128x1x4096 .f32) (b : Fin 128) (n : Fin 4096) :
    sum7 a0 a1 a2 (ix3 b 0 n) = a2 (ix3 b 0 n) + ∑ k : Fin 16384, a0 (ix3 b 0 k) * a1 (ix3 0 k n) := by
  unfold sum7
  pointwise

/-- The down projection's reference. -/
def ref7 (a0 : FVec Ideal S128x1x16384 .f32) (a1 : FVec Ideal S1x16384x4096 .f32) (a2 : FVec Ideal S128x1x4096 .f32) (a3 : FVec Ideal S4096 .f32) : FVec Ideal S128x4096 .f32 :=
  shapeCast _ (norm7 (sum7 a0 a1 a2) a3) shapeCasts_S128x1x4096_S128x4096

theorem ref7_apply (a0 : FVec Ideal S128x1x16384 .f32) (a1 : FVec Ideal S1x16384x4096 .f32) (a2 : FVec Ideal S128x1x4096 .f32) (a3 : FVec Ideal S4096 .f32)
    (b : Fin 128) (n : Fin 4096) :
    ref7 a0 a1 a2 a3 (ix2 b n)
      = normRow (fun n => a2 (ix3 b 0 n) + ∑ k : Fin 16384, a0 (ix3 b 0 k) * a1 (ix3 0 k n)) (fun n => a3 (ix1 n)) n := by
  unfold ref7
  pointwise [norm7_apply, sum7_apply]

end Cert.Mlp
-- ==== Proof.Mlp.SampleDownCases.lean ====
module

public import proofs.«01_k».proof.Proof.Gen.Kernel7Ideal.Value
public import proofs.«01_k».proof.Proof.Mlp.Ref7
public import Idealize.ShloMosaic.Lib.Pipeline.ValueKit
public import Idealize.ShloMosaic.Lib.StableHlo.RunRead
public import Idealize.ShloMosaic.Lib.WritesUnit
public import Idealize.ShloMosaic.Lib.VecWindow

@[expose] public section

set_option maxRecDepth 16384

noncomputable section

namespace Cert.Mlp.K7

open Cert.Kernel7Ideal Cert.Kernel7Ideal.Gen Idealize.ShloMosaic Idealize.ShloMosaic.TcCoe Idealize.SL.Sem

theorem pay1_apply (v : FVec Ideal S128x4096 .f32) (p : Fin 128) (k : Fin 4096) : k0_pay1 (F := Ideal) v (ix2 p k) = v (ix2 p k) := by
  unfold k0_pay1
  pointwise

theorem pay3_apply (v : FVec Ideal S64x4096 .f32) (g : FVec Ideal S1x4096 .f32) (p : Fin 64) (k : Fin 4096) :
    k0_pay3 (F := Ideal) v g (ix2 p k) = normRow (fun k => v (ix2 p k)) (fun k => g (ix2 0 k)) k := by
  unfold k0_pay3 normRow
  pointwise

/-- A row of a block of activations against a column of a block of weights. -/
def dot512 (u : FVec Ideal S128x512 .bf16) (w : FVec Ideal S512x4096 .bf16) (p : Fin 128) (k : Fin 4096) : EReal :=
  ∑ j : Fin 512, u (ix2 p j) * w (ix2 j k)

theorem pay2_apply (a : FVec Ideal S128x4096 .f32) (u : FVec Ideal S128x512 .bf16) (w : FVec Ideal S512x4096 .bf16) (p : Fin 128) (k : Fin 4096) :
    k0_pay2 (F := Ideal) a u w (ix2 p k) = a (ix2 p k) + dot512 u w p k := by
  unfold k0_pay2 dot512
  pointwise

theorem trips_eq : k0_t1_loop.trips = 2 := by decide +kernel

variable (c : Dev nD) (i : grid0.Coords)
  (arg2 : Memref sig .tc .vmem S128x512 .bf16) (harg2 : arg2.IsWhole) (arg3 : Memref sig .tc .vmem S512x4096 .bf16) (harg3 : arg3.IsWhole)
  (arg4 : Memref sig .tc .vmem S128x4096 .f32) (harg4 : arg4.IsWhole) (arg5 : Memref sig .tc .vmem S1x4096 .f32) (harg5 : arg5.IsWhole)
  (arg6 : Memref sig .tc .vmem S128x4096 .f32) (harg6 : arg6.IsWhole)

section Rows

variable (k0_h2 : k0_cond2 i = 1#1) (X5 : BufTy.Contents (Elt Ideal) arg5.view.ty)

theorem tripL_eq (k : Fin k0_t1_loop.trips) (f : BufTy.Contents (Elt Ideal) arg6.view.ty) :
    tripL_k0_t1 (F := Ideal) Variants.none c none i arg2 harg2 arg3 harg3 arg4 harg4 arg5 harg5 arg6 harg6 k0_h2 X5 k f
      = [⟨Rect.unit (s := S128x4096) (k0_off1 k) S64x4096.size (k0_off1_inb i k k0_h2),
          k0_pay3 (F := Ideal) (View.readAt (Elt Ideal) arg6.view (Rect.unit (s := S128x4096) (k0_off1 k) S64x4096.size (k0_off1_inb i k k0_h2)).toLoadRect f)
            (View.readAt (Elt Ideal) arg5.view (Rect.unit (s := S1x4096) ![0, 0] S1x4096.size inb_S1x4096_S1x4096_0_0).toLoadRect X5)⟩] := by
  unfold tripL_k0_t1 trip_k0_t1
  dsimp only

variable (G : BufTy.Contents (Elt Ideal) arg6.view.ty)

/-- A row no trip has reached yet is as it was. -/
theorem later (n : ℕ) (hn : n ≤ k0_t1_loop.trips) (r : Fin 128) (hr : 64 * n ≤ r.val) (k : Fin 4096) :
    arg6.view.read (Elt Ideal) (arg6.view.writes (Elt Ideal) G (pb_k0_t1 (F := Ideal) Variants.none c none i arg2 harg2 arg3 harg3 arg4 harg4 arg5 harg5 arg6 harg6 k0_h2 X5 G n)) (ix2 r k)
      = arg6.view.read (Elt Ideal) G (ix2 r k) := by
  induction n with
  | zero => rfl
  | succ n ih =>
    rw [pb_k0_t1_succ Variants.none c none i arg2 harg2 arg3 harg3 arg4 harg4 arg5 harg5 arg6 harg6 k0_h2 X5 G ⟨n, hn⟩, tripL_eq, List.singleton_append]
    exact (View.read_writes_cons_rows_of_not_mem arg6.view G _ _ _ (ix2 r k) (k0_off1_eq ⟨n, hn⟩) (W := 64) rfl (Or.inr (show 64 * n + 64 ≤ r.val by omega))).trans
      (ih (by omega) (by omega))

/-- After `n` trips the first `64 n` rows are normalised in place. -/
theorem rows (v : View sig .tc .vmem S128x4096 .f32) (f : BufTy.Contents (Elt Ideal) v.ty) (L : List (View.Piece (Elt Ideal) S128x4096 .f32))
    (n : ℕ) (hn : n ≤ k0_t1_loop.trips) (r : Fin 128) (hr : r.val < 64 * n) (k : Fin 4096) :
    v.read (Elt Ideal) (v.writes (Elt Ideal) f (pb_k0_t1 (F := Ideal) Variants.none c none i arg2 harg2 arg3 harg3 arg4 harg4 arg5 harg5 arg6 harg6 k0_h2 X5 G n ++ L)) (ix2 r k)
      = normRow (fun k => arg6.view.read (Elt Ideal) G (ix2 r k)) (fun k => arg5.view.read (Elt Ideal) X5 (ix2 0 k)) k := by
  induction n with
  | zero => omega
  | succ n ih =>
    rw [pb_k0_t1_succ Variants.none c none i arg2 harg2 arg3 harg3 arg4 harg4 arg5 harg5 arg6 harg6 k0_h2 X5 G ⟨n, hn⟩, tripL_eq, List.singleton_append, List.cons_append]
    by_cases h : r.val < 64 * n
    · exact (View.read_writes_cons_rows_of_not_mem v f _ _ _ (ix2 r k) (k0_off1_eq ⟨n, hn⟩) (W := 64) rfl (Or.inl h)).trans
        (ih (by omega) h)
    · have hlt : r.val - 64 * n < 64 := by omega
      refine (View.read_writes_cons_rows_of_mem v f _ _ _ (ix2 r k) (ix2 (⟨r.val - 64 * n, hlt⟩ : Fin 64) k) (k0_off1_eq ⟨n, hn⟩) ?_ rfl).trans ?_
      · show r.val = 64 * n + (r.val - 64 * n)
        omega
      · refine (pay3_apply _ _ _ k).trans ?_
        have e6 : ∀ (f : BufTy.Contents (Elt Ideal) arg6.view.ty) (k : Fin 4096), View.readAt (Elt Ideal) arg6.view (Rect.unit (s := S128x4096) (k0_off1 ⟨n, hn⟩) S64x4096.size (k0_off1_inb i ⟨n, hn⟩ k0_h2)).toLoadRect f (ix2 (⟨r.val - 64 * n, hlt⟩ : Fin 64) k)
            = arg6.view.read (Elt Ideal) f (ix2 r k) := fun f k => by
          refine congrArg (arg6.view.read (Elt Ideal) f) (funext fun a => Fin.ext ?_)
          have h := congrFun (k0_off1_eq ⟨n, hn⟩) a
          fin_cases a
          · show (k0_off1 ⟨n, hn⟩ 0) + 1 * (r.val - 64 * n) = r.val
            have h' : k0_off1 ⟨n, hn⟩ 0 = 64 * n := h
            omega
          · show (k0_off1 ⟨n, hn⟩ 1) + 1 * k.val = k.val
            have h' : k0_off1 ⟨n, hn⟩ 1 = 0 := h
            omega
        have e5 : ∀ k, View.readAt (Elt Ideal) arg5.view (Rect.unit (s := S1x4096) ![0, 0] S1x4096.size inb_S1x4096_S1x4096_0_0).toLoadRect X5 (ix2 0 k)
            = arg5.view.read (Elt Ideal) X5 (ix2 0 k) := fun k => congrFun (View.readAt_full arg5.view X5 inb_S1x4096_S1x4096_0_0) _
        exact congrArg₂ (fun x g => normRow x g k)
          (funext fun k => (e6 _ k).trans (later c i arg2 harg2 arg3 harg3 arg4 harg4 arg5 harg5 arg6 harg6 k0_h2 X5 G n (by omega) r (by omega) k)) (funext e5)

end Rows

section Cases

variable (x0 : FVec Ideal S128x512 .bf16) (x1 : FVec Ideal S512x4096 .bf16) (x2 : FVec Ideal S128x4096 .f32) (x3 : FVec Ideal S1x4096 .f32)

theorem out_A (hc0 : cond0_0 i) (hc1 : ¬cond0_1 i) (p : Fin 128) (k : Fin 4096) :
    out0_A_4 (F := Ideal) c i arg2 harg2 arg3 harg3 arg4 harg4 arg5 harg5 arg6 harg6 hc0 hc1 x0 x1 x2 x3 (ix2 p k)
      = x2 (ix2 p k) + dot512 x0 x1 p k := by
  frame_out
  refine (pay2_apply _ _ _ p k).trans ?_
  rw [pay1_apply]

theorem out_B (hc0 : ¬cond0_0 i) (hc1 : ¬cond0_1 i) (xo4 : FVec Ideal S128x4096 .f32) (p : Fin 128) (k : Fin 4096) :
    out0_B_4 (F := Ideal) c i arg2 harg2 arg3 harg3 arg4 harg4 arg5 harg5 arg6 harg6 hc0 hc1 x0 x1 x2 x3 xo4 (ix2 p k)
      = xo4 (ix2 p k) + dot512 x0 x1 p k := by
  frame_out
  exact pay2_apply _ _ _ p k

theorem out_C (hc0 : ¬cond0_0 i) (hc1 : cond0_1 i) (xo4 : FVec Ideal S128x4096 .f32) (p : Fin 128) (k : Fin 4096) :
    out0_C_4 (F := Ideal) c i arg2 harg2 arg3 harg3 arg4 harg4 arg5 harg5 arg6 harg6 hc0 hc1 x0 x1 x2 x3 xo4 (ix2 p k)
      = normRow (fun k => xo4 (ix2 p k) + dot512 x0 x1 p k) (fun k => x3 (ix2 0 k)) k := by
  have hp := p.isLt
  have e : arg6.view.read (Elt Ideal) (arg6.view.writes (Elt Ideal) arg6.view.junk (kernelRun0_C.sl.H4_1 c arg2 harg2 arg3 harg3 arg6 harg6 x0 x1 xo4))
      = k0_pay2 (F := Ideal) xo4 x0 x1 := by
    unfold kernelRun0_C.sl.H4_1
    refine (View.read_writes_full arg6.view _ _ _ _).trans ?_
    rw [View.readAt_full, View.readAt_full, View.readAt_full, harg6.read_unread, harg2.read_unread, harg3.read_unread]
  unfold out0_C_4 kernelRun0_C
  dsimp only
  refine (rows c i arg2 harg2 arg3 harg3 arg4 harg4 arg5 harg5 arg6 harg6 hc1 (harg5.unread x3) _ VO0_4 _ _ k0_t1_loop.trips le_rfl p (by rw [trips_eq]; omega) k).trans ?_
  rw [e, harg5.read_unread]
  exact congrArg (fun x => normRow x _ k) (funext fun k => pay2_apply _ _ _ p k)

end Cases

end Cert.Mlp.K7
-- ==== Proof.Mlp.SampleDown.lean ====
module

public import proofs.«01_k».proof.Proof.Gen.Kernel7Ideal.Value
public import proofs.«01_k».proof.Proof.Mlp.SampleDownCases
public import Idealize.ShloMosaic.Lib.Pipeline.ValueKit
public import Idealize.ShloMosaic.Lib.StableHlo.RunRead
public import Idealize.ShloMosaic.Lib.WritesUnit

@[expose] public section

set_option maxRecDepth 16384

noncomputable section

namespace Cert.Mlp.K7

open Cert.Kernel7Ideal Cert.Kernel7Ideal.Gen Idealize.ShloMosaic Idealize.ShloMosaic.TcCoe Idealize.SL.Sem

theorem idx : ∀ t : Fin cfg0.N, win0_0.index t = ![t.val / 32, t.val % 32] ∧ win0_1.index t = ![t.val % 32, 0] ∧ win0_2.index t = ![t.val / 32, 0]
    ∧ win0_3.index t = ![0, 0] ∧ win0_4.index t = ![t.val / 32, 0] :=
  (by decide +kernel : ∀ t : Fin grid0.N, _)

/-- Only the last point of a run writes its block back. -/
theorem flush_last : ∀ t : Fin cfg0.N, (cfg0.win 4).flush t = true → t.val % 32 = 31 :=
  (by decide +kernel : ∀ t : Fin grid0.N, _)

variable (m : (ℓ : Loc nD τ sig) → Buf (Elt Ideal) ℓ) (c : Dev nD)

/-- The hidden activations, their rows in one axis. -/
def flatU (a : FVec Ideal S128x1x16384 .f32) : FVec Ideal S128x16384 .bf16 :=
  truncf .bf16 (shapeCast S128x16384 a shapeCasts_S128x1x16384_S128x16384) bitsLt_bf16_f32

/-- The weights without their unit axis. -/
def flatW (a : FVec Ideal S1x16384x4096 .f32) : FVec Ideal S16384x4096 .bf16 :=
  truncf .bf16 (shapeCast S16384x4096 a shapeCasts_S1x16384x4096_S16384x4096) bitsLt_bf16_f32

/-- The residual stream, its rows in one axis. -/
def flatX (a : FVec Ideal S128x1x4096 .f32) : FVec Ideal S128x4096 .f32 :=
  shapeCast S128x4096 a shapeCasts_S128x1x4096_S128x4096

/-- The norm's weights as a row. -/
def flatG (a : FVec Ideal S4096 .f32) : FVec Ideal S1x4096 .f32 :=
  shapeCast S1x4096 a shapeCasts_S4096_S1x4096

theorem flatU_apply (a : FVec Ideal S128x1x16384 .f32) (b : Fin 128) (k : Fin 16384) : flatU a (ix2 b k) = a (ix3 b 0 k) := by
  unfold flatU
  pointwise

theorem flatW_apply (a : FVec Ideal S1x16384x4096 .f32) (k : Fin 16384) (n : Fin 4096) : flatW a (ix2 k n) = a (ix3 0 k n) := by
  unfold flatW
  pointwise

theorem flatX_apply (a : FVec Ideal S128x1x4096 .f32) (b : Fin 128) (n : Fin 4096) : flatX a (ix2 b n) = a (ix3 b 0 n) := by
  unfold flatX
  pointwise

theorem flatG_apply (a : FVec Ideal S4096 .f32) (k : Fin 4096) : flatG a (ix2 0 k) = a (ix1 k) := by
  unfold flatG
  pointwise

open StableHlo in
theorem entry1 : V m c main_v1 = flatU (m ((c : Thread nD τ).loc main_arg0)) := by
  after_reads_simp; rfl

open StableHlo in
theorem entry3 : V m c main_v3 = flatW (m ((c : Thread nD τ).loc main_arg1)) := by
  after_reads_simp; rfl

open StableHlo in
theorem entry4 : V m c main_v4 = flatX (m ((c : Thread nD τ).loc main_arg2)) := by
  after_reads_simp; rfl

open StableHlo in
theorem entry5 : V m c main_v5 = flatG (m ((c : Thread nD τ).loc main_arg3)) := by
  after_reads_simp; rfl

theorem read0 (t : Fin cfg0.N) (p : Fin 128) (j : Fin 512) (b : Fin 128) (l : Fin 16384) (h : b.val = t.val / 32 * 128 + p.val) (hl : l.val = t.val % 32 * 512 + j.val) :
    (iblk m c 0 t : FVec Ideal S128x512 .bf16) (ix2 p j) = (m ((c : Thread nD τ).loc main_arg0) : FVec Ideal S128x1x16384 .f32) (ix3 b 0 l) := by
  obtain ⟨e0, e1, e2, e3, e4⟩ := idx t
  refine Eq.trans ?_ (flatU_apply _ b l)
  rw [← entry1]
  blk_simp [iblk, e0]
  refine congrArg (V m c main_v1) ?_
  funext a
  fin_cases a
  all_goals apply Fin.ext
  all_goals blk_simp [e0]
  all_goals (dsimp only [ix2]; try omega)

theorem read1 (t : Fin cfg0.N) (j : Fin 512) (k : Fin 4096) (l : Fin 16384) (hl : l.val = t.val % 32 * 512 + j.val) :
    (iblk m c 1 t : FVec Ideal S512x4096 .bf16) (ix2 j k) = (m ((c : Thread nD τ).loc main_arg1) : FVec Ideal S1x16384x4096 .f32) (ix3 0 l k) := by
  obtain ⟨e0, e1, e2, e3, e4⟩ := idx t
  refine Eq.trans ?_ (flatW_apply _ l k)
  rw [← entry3]
  blk_simp [iblk, e1]
  refine congrArg (V m c main_v3) ?_
  funext a
  fin_cases a
  all_goals apply Fin.ext
  all_goals blk_simp [e1]
  all_goals (dsimp only [ix2]; try omega)

theorem read2 (t : Fin cfg0.N) (p : Fin 128) (k : Fin 4096) (b : Fin 128) (h : b.val = t.val / 32 * 128 + p.val) :
    (iblk m c 2 t : FVec Ideal S128x4096 .f32) (ix2 p k) = (m ((c : Thread nD τ).loc main_arg2) : FVec Ideal S128x1x4096 .f32) (ix3 b 0 k) := by
  obtain ⟨e0, e1, e2, e3, e4⟩ := idx t
  refine Eq.trans ?_ (flatX_apply _ b k)
  rw [← entry4]
  blk_simp [iblk, e2]
  refine congrArg (V m c main_v4) ?_
  funext a
  fin_cases a
  all_goals apply Fin.ext
  all_goals blk_simp [e2]
  all_goals (dsimp only [ix2]; try omega)

theorem read3 (t : Fin cfg0.N) (k : Fin 4096) :
    (iblk m c 3 t : FVec Ideal S1x4096 .f32) (ix2 0 k) = (m ((c : Thread nD τ).loc main_arg3) : FVec Ideal S4096 .f32) (ix1 k) := by
  obtain ⟨e0, e1, e2, e3, e4⟩ := idx t
  refine Eq.trans ?_ (flatG_apply _ k)
  rw [← entry5]
  blk_simp [iblk, e3]
  refine congrArg (V m c main_v5) ?_
  funext a
  fin_cases a
  all_goals apply Fin.ext
  all_goals blk_simp [e3]
  all_goals (dsimp only [ix2]; try omega)

/-- The array's row that row `p` of point `t`'s block is. -/
theorem row_eq (t : Fin cfg0.N) (p : Fin 128) : ∃ (b : Fin 128), b.val = t.val / 32 * 128 + p.val := by
  have := p.isLt
  have ht : t.val < 32 := t.isLt
  exact ⟨⟨t.val / 32 * 128 + p.val, by omega⟩, rfl⟩

/-- One product of the contraction. -/
def prodAt (U : FVec Ideal S128x1x16384 .f32) (W : FVec Ideal S1x16384x4096 .f32) (b : Fin 128) (k : Fin 4096) (l : Fin 16384) : EReal :=
  U (ix3 b 0 l) * W (ix3 0 l k)

/-- One product of the contraction, over the arguments. -/
def term (b : Fin 128) (k : Fin 4096) (l : Fin 16384) : EReal :=
  prodAt (m ((c : Thread nD τ).loc main_arg0)) (m ((c : Thread nD τ).loc main_arg1)) b k l

/-- The products of one block of 512 of the contraction, added up. -/
def part (b : Fin 128) (k : Fin 4096) (n : ℕ) : EReal :=
  ∑ j : Fin 512, term m c b k ⟨n % 32 * 512 + j.val, by have := j.isLt; omega⟩

/-- The residual stream's entry. -/
def resid (b : Fin 128) (k : Fin 4096) : EReal := (m ((c : Thread nD τ).loc main_arg2) : FVec Ideal S128x1x4096 .f32) (ix3 b 0 k)

theorem blk_part (t : Fin cfg0.N) (p : Fin 128) (b : Fin 128) (h : b.val = t.val / 32 * 128 + p.val) (k : Fin 4096) :
    dot512 (iblk m c 0 t) (iblk m c 1 t) p k = part m c b k t.val :=
  Finset.sum_congr rfl fun j _ => congrArg₂ (· * ·) (read0 m c t p j b _ h rfl) (read1 m c t j k _ rfl)

/-- Before the last point of a run the block holds the residual stream plus the blocks of products added so far. -/
theorem accum (n : ℕ) (hn : n < cfg0.N) (hlast : n % 32 ≠ 31) (p : Fin 128) (b : Fin 128) (h : b.val = n / 32 * 128 + p.val) (k : Fin 4096) :
    (outsAt0 m c n hn : FVec Ideal S128x4096 .f32) (ix2 p k) = resid m c b k + ∑ j ∈ Finset.range (n % 32 + 1), part m c b k j := by
  induction n with
  | zero =>
    have h0 : (⟨0, hn⟩ : Fin cfg0.N).val % 32 = 0 := rfl
    rw [show outsAt0 m c 0 hn = _ from outsAt0_A m c ⟨0, hn⟩ h0 hlast]
    refine (out_A c (grid0.coords ⟨0, hn⟩) _ _ _ _ _ _ _ _ _ _ (iblk m c 0 ⟨0, hn⟩) (iblk m c 1 ⟨0, hn⟩) (iblk m c 2 ⟨0, hn⟩) (iblk m c 3 ⟨0, hn⟩) _ _ p k).trans ?_
    rw [blk_part m c ⟨0, hn⟩ p b h k, read2 m c ⟨0, hn⟩ p k b h]
    simp only [Nat.zero_mod, Nat.zero_add, Finset.sum_range_one, resid]
  | succ n ih =>
    by_cases h0 : (n + 1) % 32 = 0
    · rw [show outsAt0 m c (n + 1) hn = _ from outsAt0_A m c ⟨n + 1, hn⟩ h0 hlast]
      refine (out_A c (grid0.coords ⟨n + 1, hn⟩) _ _ _ _ _ _ _ _ _ _ (iblk m c 0 ⟨n + 1, hn⟩) (iblk m c 1 ⟨n + 1, hn⟩) (iblk m c 2 ⟨n + 1, hn⟩) (iblk m c 3 ⟨n + 1, hn⟩) _ _ p k).trans ?_
      rw [blk_part m c ⟨n + 1, hn⟩ p b h k, read2 m c ⟨n + 1, hn⟩ p k b h, h0, Nat.zero_add, Finset.sum_range_one]
      simp only [part, h0, Nat.zero_mod, resid]
    · rw [show outsAt0 m c (n + 1) hn = _ from outsAt0_B m c ⟨n + 1, hn⟩ h0 hlast]
      refine (out_B c (grid0.coords ⟨n + 1, hn⟩) _ _ _ _ _ _ _ _ _ _ (iblk m c 0 ⟨n + 1, hn⟩) (iblk m c 1 ⟨n + 1, hn⟩) (iblk m c 2 ⟨n + 1, hn⟩) (iblk m c 3 ⟨n + 1, hn⟩) _ _ _ p k).trans ?_
      rw [blk_part m c ⟨n + 1, hn⟩ p b h k]
      rw [show (n + 1) % 32 = n % 32 + 1 by omega, Finset.sum_range_succ, ← add_assoc]
      refine congrArg₂ (· + ·) (ih (Nat.lt_of_succ_lt hn) (by omega) (by omega)) ?_
      simp only [part, show (n + 1) % 32 = (n % 32 + 1) % 32 by omega]

theorem parts_sum (b : Fin 128) (k : Fin 4096) : ∑ j ∈ Finset.range 32, part m c b k j = ∑ l : Fin 16384, term m c b k l := by
  rw [Finset.sum_range]
  refine Eq.symm ((Fin.sum_univ_tiles 32 512 rfl _).trans (Finset.sum_congr rfl fun a _ => Finset.sum_congr rfl fun j _ => congrArg (term m c b k) (Fin.ext ?_)))
  have := a.isLt
  show a.val * 512 + j.val = a.val % 32 * 512 + j.val
  rw [Nat.mod_eq_of_lt this]

/-- The reference at the call's arguments. -/
def refOf : FVec Ideal S128x4096 .f32 :=
  ref7 (m ((c : Thread nD τ).loc main_arg0)) (m ((c : Thread nD τ).loc main_arg1)) (m ((c : Thread nD τ).loc main_arg2)) (m ((c : Thread nD τ).loc main_arg3))

/-- What the last point of a run leaves, as the reference's entry. -/
theorem last (t : Fin cfg0.N) (h1 : t.val % 32 = 31) (p : Fin 128) (k : Fin 4096) :
    (outsAt0 m c t.val t.isLt : FVec Ideal S128x4096 .f32) (ix2 p k) = refOf m c (((cfg0.win 4).blk t).view.emb (ix2 p k)) := by
  obtain ⟨b, h⟩ := row_eq t p
  obtain ⟨e0, e1, e2, e3, e4⟩ := idx t
  have h0 : ¬t.val % 32 = 0 := by omega
  have hy : ((cfg0.win 4).blk t).view.emb (ix2 p k) = (ix2 b k : S128x4096.Idx) := by
    funext a
    fin_cases a
    all_goals apply Fin.ext
    all_goals blk_simp [e4]
    all_goals (dsimp only [ix2]; try omega)
  rw [outsAt0_C m c t h0 h1]
  refine (out_C c (grid0.coords t) _ _ _ _ _ _ _ _ _ _ (iblk m c 0 t) (iblk m c 1 t) (iblk m c 2 t) (iblk m c 3 t) _ _ _ p k).trans ?_
  refine Eq.trans ?_ ((congrArg (refOf m c) hy).trans (ref7_apply _ _ _ _ b k)).symm
  refine congrArg₂ (fun x g => normRow x g k) (funext fun k => ?_) (funext fun k => read3 m c t k)
  rw [blk_part m c t p b h k]
  refine (congrArg (· + part m c b k t.val) (accum m c (t.val - 1) _ (by omega) p b (by omega) k)).trans ?_
  rw [show (t.val - 1) % 32 + 1 = 31 by omega, add_assoc, show part m c b k t.val = part m c b k 31 by simp only [part, h1],
    ← Finset.sum_range_succ, parts_sum]
  rfl

theorem final : (dats m 0 c).arrAt 4 cfg0.N = refOf m c := by
  refine (dats m 0 c).arrAt_eq_of_covers 4 _ (by decide +kernel) fun t hf y => ?_
  blk_simp
  rw [after0_4]
  obtain ⟨p, q, rfl⟩ : ∃ (p : Fin 128) (q : Fin 4096), y = ix2 p q := ⟨y 0, y 1, by idx_ext⟩
  exact last m c t (flush_last t hf) p q

end Cert.Mlp.K7
-- ==== Proof.Mlp.Ref8.lean ====
module

public import proofs.«01_k».proof.Proof.Gen.Reference8Ideal.Run
public import proofs.«01_k».proof.Proof.Mlp.Ref6

@[expose] public section

set_option maxRecDepth 16384

noncomputable section

namespace Cert.Mlp.R8

open Cert.Reference8Ideal Cert.Reference8Ideal.Gen Idealize.ShloMosaic Idealize.ShloMosaic.TcCoe Idealize.SL.Sem
open Cert.Mlp.R6 (wcol lnMean lnAt keyAt weightAt)

/-- The reference's normalisation. -/
def norm (x : FVec Ideal S128x1x4096 .f32) (g : FVec Ideal S4096 .f32) : FVec Ideal S128x1x4096 .f32 :=
  mulf (mulf x (broadcastInDim S128x1x4096 ![0, 1, 2] bcast_S128x1x1_S128x1x4096_0_1_2 (Host.rsqrt (addf (Host.divf (broadcastInDim S128x1x1 ![0, 1] bcast_S128x1_S128x1x1_0_1 (Host.reduceAdd (mulf x x) (constant S_ .f32 0x00000000#32) reducesTo_S128x1x4096_S128x1_d2 h_S_)) (broadcastInDim S128x1x1 ![] bcast_S_S128x1x1 (constant S_ .f32 0x45800000#32))) (broadcastInDim S128x1x1 ![] bcast_S_S128x1x1 (constant S_ .f32 0x358637BD#32)))))) (broadcastInDim S128x1x4096 ![0, 1, 2] bcast_S1x1x4096_S128x1x4096_0_1_2 (broadcastInDim S1x1x4096 ![2] bcast_S4096_S1x1x4096_2 g))

theorem norm_apply (x : FVec Ideal S128x1x4096 .f32) (g : FVec Ideal S4096 .f32) (b : Fin 128) (k : Fin 4096) :
    norm x g (ix3 b 0 k) = normRow (fun k => x (ix3 b 0 k)) (fun k => g (ix1 k)) k := by
  unfold norm normRow
  pointwise

/-- The plain projection. -/
def proj (a0 : FVec Ideal S128x1x4096 .f32) (a1 : FVec Ideal S1x4096 .f32) (a2 : FVec Ideal S1x4096x11424 .f32) : FVec Ideal S128x1x11424 .f32 :=
  Host.dotGeneral dot_S128x1x4096_S4096x11424_S128x1x11424_2_0_01_1_n_n none (norm a0 (shapeCast _ a1 shapeCasts_S1x4096_S4096)) (shapeCast _ a2 shapeCasts_S1x4096x11424_S4096x11424)

theorem proj_apply (a0 : FVec Ideal S128x1x4096 .f32) (a1 : FVec Ideal S1x4096 .f32) (a2 : FVec Ideal S1x4096x11424 .f32)
    (b : Fin 128) (n : Fin 11424) :
    proj a0 a1 a2 (ix3 b 0 n) = ∑ k : Fin 4096, normRow (fun k => a0 (ix3 b 0 k)) (fun k => a1 (ix2 0 k)) k * a2 (ix3 0 k n) := by
  unfold proj
  pointwise [norm_apply]

/-- The plain projection's columns of one position. -/
def zAt (a0 : FVec Ideal S128x1x4096 .f32) (a1 : FVec Ideal S1x4096 .f32) (a2 : FVec Ideal S1x4096x11424 .f32) (b : Fin 128) : ℕ → EReal :=
  colAt (fun k => a0 (ix3 b 0 k)) (fun k => a1 (ix2 0 k)) (wcol a2)

theorem proj_zAt (a0 : FVec Ideal S128x1x4096 .f32) (a1 : FVec Ideal S1x4096 .f32) (a2 : FVec Ideal S1x4096x11424 .f32)
    (b : Fin 128) (n : Fin 11424) : proj a0 a1 a2 (ix3 b 0 n) = zAt a0 a1 a2 b n.val := by
  rw [proj_apply]
  unfold zAt colAt wcol
  refine Finset.sum_congr rfl fun k _ => ?_
  rw [dif_pos n.isLt]

/-- The angles of the new position. -/
def angles : FVec Ideal S1x16 .f32 :=
  mulf (broadcastInDim S1x16 ![0, 1] bcast_S1x1_S1x16_0_1 (broadcastInDim S1x1 ![0] bcast_S1_S1x1_0 (sitofp .f32 (addi (broadcastInDim S1 ![] bcast_S_S1 (constantI S_ 32 2048#32)) (iotaInDim S1 32 0))))) (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32)))))

theorem angles_apply (i : Fin 16) : angles (ix2 0 i) = angle 2048 i.val := by
  unfold angles angle
  pointwise
  rfl

def cosT : FVec Ideal S1x1x16 .f32 := broadcastInDim S1x1x16 ![0, 2] bcast_S1x16_S1x1x16_0_2 (Host.cos angles)

def sinT : FVec Ideal S1x1x16 .f32 := broadcastInDim S1x1x16 ![0, 2] bcast_S1x16_S1x1x16_0_2 (Host.sin angles)

theorem cosT_apply (i : Fin 16) : cosT (ix3 0 0 i) = Ideal.cos (angle 2048 i.val) := by
  unfold cosT
  pointwise [angles_apply]

theorem sinT_apply (i : Fin 16) : sinT (ix3 0 0 i) = Ideal.sin (angle 2048 i.val) := by
  unfold sinT
  pointwise [angles_apply]

/-- The partial rotary step of the one head. -/
def rope1 (z : FVec Ideal S128x1x1x128 .f32) : FVec Ideal S128x1x1x128 .f32 :=
  concatenate S128x1x1x128 3 [⟨S128x1x1x16, (subf (mulf (extractStridedSlice S128x1x1x16 ![0, 0, 0, 0] z slices_S128x1x1x128_S128x1x1x16_0_0_0_0) (broadcastInDim S128x1x1x16 ![0, 1, 2, 3] bcast_S1x1x1x16_S128x1x1x16_0_1_2_3 (broadcastInDim S1x1x1x16 ![1, 2, 3] bcast_S1x1x16_S1x1x1x16_1_2_3 cosT))) (mulf (extractStridedSlice S128x1x1x16 ![0, 0, 0, 16] z slices_S128x1x1x128_S128x1x1x16_0_0_0_16) (broadcastInDim S128x1x1x16 ![0, 1, 2, 3] bcast_S1x1x1x16_S128x1x1x16_0_1_2_3 (broadcastInDim S1x1x1x16 ![1, 2, 3] bcast_S1x1x16_S1x1x1x16_1_2_3 sinT))) : (⟨S128x1x1x16, .f32⟩ : BufTy).Contents (Elt Ideal))⟩, ⟨S128x1x1x16, (addf (mulf (extractStridedSlice S128x1x1x16 ![0, 0, 0, 0] z slices_S128x1x1x128_S128x1x1x16_0_0_0_0) (broadcastInDim S128x1x1x16 ![0, 1, 2, 3] bcast_S1x1x1x16_S128x1x1x16_0_1_2_3 (broadcastInDim S1x1x1x16 ![1, 2, 3] bcast_S1x1x16_S1x1x1x16_1_2_3 sinT))) (mulf (extractStridedSlice S128x1x1x16 ![0, 0, 0, 16] z slices_S128x1x1x128_S128x1x1x16_0_0_0_16) (broadcastInDim S128x1x1x16 ![0, 1, 2, 3] bcast_S1x1x1x16_S128x1x1x16_0_1_2_3 (broadcastInDim S1x1x1x16 ![1, 2, 3] bcast_S1x1x16_S1x1x1x16_1_2_3 cosT))) : (⟨S128x1x1x16, .f32⟩ : BufTy).Contents (Elt Ideal))⟩, ⟨S128x1x1x96, (extractStridedSlice S128x1x1x96 ![0, 0, 0, 32] z slices_S128x1x1x128_S128x1x1x96_0_0_0_32 : (⟨S128x1x1x96, .f32⟩ : BufTy).Contents (Elt Ideal))⟩] concatenates_S128x1x1x16_S128x1x1x16_S128x1x1x96_S128x1x1x128_d3

theorem rope1_apply (z : FVec Ideal S128x1x1x128 .f32) (b : Fin 128) (l : Fin 128) (x : ℕ → EReal)
    (hx : ∀ n : Fin 128, z (ix4 b 0 0 n) = x n.val) :
    rope1 z (ix4 b 0 0 l) = ropeAt x (fun i => Ideal.cos (angle 2048 i)) (fun i => Ideal.sin (angle 2048 i)) l.val := by
  unfold rope1
  pointwise [cosT_apply, sinT_apply]
  simp only [hx]
  unfold ropeAt
  have hl := l.isLt
  split_ifs
  all_goals first
    | omega
    | rw [show 16 + (l.val - 16) = l.val by omega]
    | rw [Nat.add_comm 16]
    | rw [show 32 + (l.val - 16 - 16) = l.val by omega]

def meanT (y : FVec Ideal S128x1x128 .f32) : FVec Ideal S128x1x1 .f32 :=
  Host.divf (broadcastInDim S128x1x1 ![0, 1] bcast_S128x1_S128x1x1_0_1 (Host.reduceAdd y (constant S_ .f32 0x00000000#32) reducesTo_S128x1x128_S128x1_d2 h_S_)) (broadcastInDim S128x1x1 ![] bcast_S_S128x1x1 (constant S_ .f32 0x43000000#32))

theorem meanT_apply (y : FVec Ideal S128x1x128 .f32) (b : Fin 128) : meanT y (ix3 b 0 0) = lnMean fun l => y (ix3 b 0 l) := by
  unfold meanT lnMean
  pointwise

/-- The reference's layer norm. -/
def lnT (y : FVec Ideal S128x1x128 .f32) (w b : FVec Ideal S1x128 .f32) : FVec Ideal S128x1x128 .f32 :=
  addf (mulf (mulf (subf y (broadcastInDim S128x1x128 ![0, 1, 2] bcast_S128x1x1_S128x1x128_0_1_2 (meanT y))) (broadcastInDim S128x1x128 ![0, 1, 2] bcast_S128x1x1_S128x1x128_0_1_2 (Host.rsqrt (addf (Host.divf (broadcastInDim S128x1x1 ![0, 1] bcast_S128x1_S128x1x1_0_1 (Host.reduceAdd (mulf (subf y (broadcastInDim S128x1x128 ![0, 1, 2] bcast_S128x1x1_S128x1x128_0_1_2 (meanT y))) (subf y (broadcastInDim S128x1x128 ![0, 1, 2] bcast_S128x1x1_S128x1x128_0_1_2 (meanT y)))) (constant S_ .f32 0x00000000#32) reducesTo_S128x1x128_S128x1_d2 h_S_)) (broadcastInDim S128x1x1 ![] bcast_S_S128x1x1 (constant S_ .f32 0x43000000#32))) (broadcastInDim S128x1x1 ![] bcast_S_S128x1x1 (constant S_ .f32 0x358637BD#32)))))) (broadcastInDim S128x1x128 ![0, 1, 2] bcast_S1x1x128_S128x1x128_0_1_2 (broadcastInDim S1x1x128 ![2] bcast_S128_S1x1x128_2 (shapeCast _ w shapeCasts_S1x128_S128)))) (broadcastInDim S128x1x128 ![0, 1, 2] bcast_S1x1x128_S128x1x128_0_1_2 (broadcastInDim S1x1x128 ![2] bcast_S128_S1x1x128_2 (shapeCast _ b shapeCasts_S1x128_S128)))

theorem lnT_apply (y : FVec Ideal S128x1x128 .f32) (w g : FVec Ideal S1x128 .f32) (b : Fin 128) (l : Fin 128) :
    lnT y w g (ix3 b 0 l) = lnAt (fun l => y (ix3 b 0 l)) (fun l => w (ix2 0 l)) (fun l => g (ix2 0 l)) l := by
  unfold lnT lnAt
  pointwise [meanT_apply]

/-- The index keys' columns of the plain projection. -/
def keyCols (z : FVec Ideal S128x1x11424 .f32) : FVec Ideal S128x1x128 .f32 :=
  extractStridedSlice S128x1x128 ![0, 0, 11264] z slices_S128x1x11424_S128x1x128_0_0_11264

theorem keyCols_apply (z : FVec Ideal S128x1x11424 .f32) (b : Fin 128) (l : Fin 128) :
    keyCols z (ix3 b 0 l) = z (ix3 b 0 ⟨11264 + l.val, by have := l.isLt; omega⟩) := by
  unfold keyCols
  pointwise

/-- The index keys, one row a position. -/
def ki (z : FVec Ideal S128x1x11424 .f32) (w b : FVec Ideal S1x128 .f32) : FVec Ideal S128x128 .f32 :=
  shapeCast _ (shapeCast S128x1x128 (rope1 (broadcastInDim S128x1x1x128 ![0, 1, 3] bcast_S128x1x128_S128x1x1x128_0_1_3 (lnT (keyCols z) w b))) shapeCasts_S128x1x1x128_S128x1x128) shapeCasts_S128x1x128_S128x128

theorem unit_apply (y : FVec Ideal S128x1x128 .f32) (b : Fin 128) (l : Fin 128) :
    (broadcastInDim S128x1x1x128 ![0, 1, 3] bcast_S128x1x128_S128x1x1x128_0_1_3 y : FVec Ideal S128x1x1x128 .f32) (ix4 b 0 0 l) = y (ix3 b 0 l) := by
  pointwise

theorem flat_apply (y : FVec Ideal S128x1x1x128 .f32) (b : Fin 128) (l : Fin 128) :
    (shapeCast S128x128 (shapeCast S128x1x128 y shapeCasts_S128x1x1x128_S128x1x128) shapeCasts_S128x1x128_S128x128 : FVec Ideal S128x128 .f32) (ix2 b l)
      = y (ix4 b 0 0 l) := by
  pointwise

theorem ki_apply (z : FVec Ideal S128x1x11424 .f32) (w g : FVec Ideal S1x128 .f32) (b : Fin 128) (x : ℕ → EReal)
    (hx : ∀ n : Fin 11424, z (ix3 b 0 n) = x n.val) (l : Fin 128) :
    ki z w g (ix2 b l) = keyAt x (fun l => w (ix2 0 l)) (fun l => g (ix2 0 l)) 2048 l.val := by
  unfold ki keyAt
  refine (flat_apply _ b l).trans ?_
  refine rope1_apply _ b l _ fun n => (unit_apply _ b n).trans ?_
  rw [dif_pos n.isLt, lnT_apply]
  refine congrArg (fun y => lnAt y _ _ n) (funext fun l => ?_)
  rw [keyCols_apply, hx]

/-- The index keys in the kernel's narrow format. -/
def kn (z : FVec Ideal S128x1x11424 .f32) (w b : FVec Ideal S1x128 .f32) : FVec Ideal S128x128 .bf16 := truncf .bf16 (ki z w b) bitsLt_bf16_f32

/-- The index weights, one row a position, the rest of the row zero. -/
def wi (z : FVec Ideal S128x1x11424 .f32) : FVec Ideal S128x128 .f32 :=
  concatenate S128x128 1 [⟨S128x32, (shapeCast _ (mulf (extractStridedSlice S128x1x32 ![0, 0, 11392] z slices_S128x1x11424_S128x1x32_0_0_11392) (broadcastInDim S128x1x32 ![] bcast_S_S128x1x32 (constant S_ .f32 0x3E3504F3#32))) shapeCasts_S128x1x32_S128x32 : FVec Ideal S128x32 .f32)⟩, ⟨S128x96, (broadcastInDim S128x96 ![] bcast_S_S128x96 (constant S_ .f32 0x00000000#32) : FVec Ideal S128x96 .f32)⟩] concatenates_S128x32_S128x96_S128x128_d1

theorem wflat_apply (y : FVec Ideal S128x1x32 .f32) (b : Fin 128) (l : Fin 32) :
    (shapeCast S128x32 y shapeCasts_S128x1x32_S128x32 : FVec Ideal S128x32 .f32) (ix2 b l) = y (ix3 b 0 l) := by
  pointwise

theorem wcat_apply (u : FVec Ideal S128x32 .f32) (v : FVec Ideal S128x96 .f32) (r : Fin 128) (l : Fin 128) (y : ℕ → EReal)
    (hu : ∀ l : Fin 32, u (ix2 r l) = y l.val) (hv : ∀ l : Fin 96, v (ix2 r l) = 0) :
    (concatenate S128x128 1 [⟨S128x32, u⟩, ⟨S128x96, v⟩] concatenates_S128x32_S128x96_S128x128_d1 : FVec Ideal S128x128 .f32) (ix2 r l)
      = if l.val < 32 then y l.val else 0 := by
  have hl := l.isLt
  pointwise
  split_ifs
  all_goals first
    | exact hu _
    | exact hv _
    | omega

theorem wi_apply (z : FVec Ideal S128x1x11424 .f32) (b : Fin 128) (x : ℕ → EReal)
    (hx : ∀ n : Fin 11424, z (ix3 b 0 n) = x n.val) (l : Fin 128) : wi z (ix2 b l) = weightAt x l.val := by
  unfold wi weightAt
  refine wcat_apply _ _ _ l (fun l => x (11392 + l) * Ideal.ofBits .f32 0x3E3504F3#32) (fun l => ?_) (fun l => ?_)
  · rw [wflat_apply, ← hx ⟨11392 + l.val, by have := l.isLt; omega⟩]
    pointwise
  · pointwise

end Cert.Mlp.R8
-- ==== Proof.Mlp.SampleTailRows.lean ====
module

public import proofs.«01_k».proof.Proof.Gen.Kernel8Ideal.Value
public import proofs.«01_k».proof.Proof.Mlp.Ref8
public import Idealize.ShloMosaic.Lib.Pipeline.ValueKit
public import Idealize.ShloMosaic.Lib.StableHlo.RunRead
public import Idealize.ShloMosaic.Lib.WritesUnit
public import Idealize.ShloMosaic.Lib.VecWindow

@[expose] public section

set_option maxRecDepth 16384

noncomputable section

namespace Cert.Mlp.K8

open Cert.Kernel8Ideal Cert.Kernel8Ideal.Gen Idealize.ShloMosaic Idealize.ShloMosaic.TcCoe Idealize.SL.Sem

/-- The scratch as the loop's stores see it. -/
abbrev VS0_0 : View sig .tc .vmem S128x4096 .bf16 := (Memref.whole cc0_scratch0 : Memref sig .tc .vmem S128x4096 .bf16).view

theorem pay4_apply (v : FVec Ideal S64x4096 .f32) (g : FVec Ideal S1x4096 .f32) (p : Fin 64) (k : Fin 4096) :
    k0_pay4 (F := Ideal) v g (ix2 p k) = normRow (fun k => v (ix2 p k)) (fun k => g (ix2 0 k)) k := by
  unfold k0_pay4 normRow
  pointwise

theorem pay5_apply (h : FVec Ideal S128x4096 .bf16) (w : FVec Ideal S4096x256 .bf16) (p : Fin 128) (q : Fin 256) :
    k0_pay5 (F := Ideal) h w (ix2 p q) = ∑ k : Fin 4096, h (ix2 p k) * w (ix2 k q) := by
  unfold k0_pay5
  pointwise

theorem pay7_apply (v : FVec Ideal S1x128x128 .f32) (p : Fin 128) (l : Fin 128) : k0_pay7 (F := Ideal) v (ix2 p l) = v (ix3 0 p l) := by
  unfold k0_pay7
  pointwise

theorem pay8_apply (v : FVec Ideal S1x128x128 .f32) (p : Fin 128) (l : Fin 128) : k0_pay8 (F := Ideal) v (ix2 p l) = v (ix3 0 p l) := by
  unfold k0_pay8
  pointwise

/-- The mean of every row. -/
def meanK (y : FVec Ideal S128x128 .f32) : FVec Ideal S128x1 .f32 :=
  divf (shapeCast S128x1 (multiReduction .add [1] S128 y 0x00000000#32 reduces_S128x128_S128 (.inl rfl) rfl) shapeCasts_S128_S128x1) (broadcast S128x1 (Scalar.ofBits .f32 0x43000000#32))

theorem meanK_apply (y : FVec Ideal S128x128 .f32) (p : Fin 128) : meanK y (ix2 p 0) = Cert.Mlp.R6.lnMean fun l => y (ix2 p l) := by
  unfold meanK Cert.Mlp.R6.lnMean
  pointwise

/-- The kernel's layer norm of a block. -/
def lnK (y : FVec Ideal S128x128 .f32) (w b : FVec Ideal S1x128 .f32) : FVec Ideal S128x128 .f32 :=
  addf (mulf (mulf (subf y (broadcastTo S128x128 (meanK y) broadcasts_S128x1_S128x128))
    (broadcastTo S128x128 (rsqrt (addf (meanK (mulf (subf y (broadcastTo S128x128 (meanK y) broadcasts_S128x1_S128x128)) (subf y (broadcastTo S128x128 (meanK y) broadcasts_S128x1_S128x128))))
      (broadcast S128x1 (Scalar.ofBits .f32 0x358637BD#32)))) broadcasts_S128x1_S128x128))
    (broadcastTo S128x128 (shapeCast S1x128 w shapeCasts_S1x128_S1x128) broadcasts_S1x128_S128x128))
    (broadcastTo S128x128 (shapeCast S1x128 b shapeCasts_S1x128_S1x128) broadcasts_S1x128_S128x128)

theorem lnK_apply (y : FVec Ideal S128x128 .f32) (w b : FVec Ideal S1x128 .f32) (p : Fin 128) (l : Fin 128) :
    lnK y w b (ix2 p l) = Cert.Mlp.R6.lnAt (fun l => y (ix2 p l)) (fun l => w (ix2 0 l)) (fun l => b (ix2 0 l)) l := by
  unfold lnK Cert.Mlp.R6.lnAt
  pointwise [meanK_apply]
  rfl

theorem low_apply (y : FVec Ideal S128x256 .f32) (p : Fin 128) (l : Fin 128) :
    (extractStridedSlice S128x128 ![0, 0] y slices_S128x256_o0_0_S128x128 : FVec Ideal S128x128 .f32) (ix2 p l) = y (ix2 p ⟨l.val, by have := l.isLt; omega⟩) := by
  pointwise

theorem pay6_apply (h : FVec Ideal S128x4096 .bf16) (w : FVec Ideal S4096x256 .bf16) (g b : FVec Ideal S1x128 .f32) (p : Fin 128) (l : Fin 128) :
    k0_pay6 (F := Ideal) h w g b (ix2 p l)
      = Cert.Mlp.R6.lnAt (fun l => ∑ k : Fin 4096, h (ix2 p k) * w (ix2 k ⟨l.val, by have := l.isLt; omega⟩)) (fun l => g (ix2 0 l)) (fun l => b (ix2 0 l)) l := by
  have e : k0_pay6 (F := Ideal) h w g b = lnK (extractStridedSlice S128x128 ![0, 0] (k0_pay5 (F := Ideal) h w) slices_S128x256_o0_0_S128x128) g b := by
    unfold k0_pay6 lnK meanK
    rfl
  rw [e, lnK_apply]
  refine congrArg (fun y => Cert.Mlp.R6.lnAt y _ _ l) (funext fun l => ?_)
  rw [low_apply, pay5_apply]

theorem pay3_apply (y : FVec Ideal S128x256 .f32) (p : Fin 128) (l : Fin 128) :
    k0_pay3 (F := Ideal) y (ix2 p l) = y (ix2 p ⟨128 + l.val, by have := l.isLt; omega⟩) * Ideal.ofBits .f32 0x3E3504F3#32 := by
  unfold k0_pay3
  pointwise

/-- A table's row `p`, by the lane's number. -/
def rowT (v : FVec Ideal S128x128 .f32) (p : Fin 128) (l : ℕ) : EReal := if h : l < 128 then v (ix2 p ⟨l, h⟩) else 0

/-- A head's lanes rotated by 112 are the lanes 16 further on. -/
theorem roll112 (x : FVec Ideal S128x128 .f32) (p : Fin 128) (l : Fin 128) :
    dynamicRotate 1 112#32 none x rotates_S128x128_d1 (ix2 p l) = rowT x p ((l.val + 16) % 128) := by
  have h : (l.val + 16) % 128 < 128 := Nat.mod_lt _ (by decide)
  unfold rowT
  rw [dif_pos h]
  pointwise
  exact congrArg x (congrArg (ix2 p) (Fin.ext (by dsimp only; omega)))

/-- A head's lanes rotated by 16. -/
theorem roll16 (x : FVec Ideal S128x128 .f32) (p : Fin 128) (l : Fin 128) :
    dynamicRotate 1 16#32 none x rotates_S128x128_d1 (ix2 p l) = rowT x p ((l.val + 112) % 128) := by
  have h : (l.val + 112) % 128 < 128 := Nat.mod_lt _ (by decide)
  unfold rowT
  rw [dif_pos h]
  pointwise
  exact congrArg x (congrArg (ix2 p) (Fin.ext (by dsimp only; omega)))

theorem rowT_fin (v : FVec Ideal S128x128 .f32) (p : Fin 128) (l : Fin 128) : rowT v p l.val = v (ix2 p l) := by
  unfold rowT
  rw [dif_pos l.isLt]

/-- A head rotated by the three tables. -/
def headOf (x C S₁ S₂ : FVec Ideal S128x128 .f32) : FVec Ideal S128x128 .f32 :=
  addf (addf (mulf x C) (mulf (dynamicRotate 1 112#32 none x rotates_S128x128_d1) S₁)) (mulf (dynamicRotate 1 16#32 none x rotates_S128x128_d1) S₂)

theorem headOf_apply (x C S₁ S₂ : FVec Ideal S128x128 .f32) (p : Fin 128) (l : Fin 128) :
    headOf x C S₁ S₂ (ix2 p l) = rollAt (rowT x p) (rowT C p) (rowT S₁ p) (rowT S₂ p) l.val := by
  unfold rollAt
  rw [rowT_fin, rowT_fin, rowT_fin, rowT_fin, ← roll112, ← roll16]
  rfl

/-- A table block's row, by the lane's number. -/
def tabN (v : FVec Ideal S1x128x128 .f32) (p : Fin 128) (l : ℕ) : EReal := if h : l < 128 then v (ix3 0 p ⟨l, h⟩) else 0

theorem rowT_tab (v : FVec Ideal S128x128 .f32) (u : FVec Ideal S1x128x128 .f32) (p : Fin 128) (h : ∀ l : Fin 128, v (ix2 p l) = u (ix3 0 p l)) : rowT v p = tabN u p := by
  funext l
  unfold rowT tabN
  by_cases hl : l < 128
  · rw [dif_pos hl, dif_pos hl, h]
  · rw [dif_neg hl, dif_neg hl]

theorem pay1_apply (x : FVec Ideal S128x128 .f32) (C S₁ S₂ : FVec Ideal S1x128x128 .f32) (p : Fin 128) (l : Fin 128) :
    k0_pay1 (F := Ideal) x (k0_pay7 (F := Ideal) C) (k0_pay8 (F := Ideal) S₁) S₂ (ix2 p l) = rollAt (rowT x p) (tabN C p) (tabN S₁ p) (tabN S₂ p) l.val := by
  have e : k0_pay1 (F := Ideal) x (k0_pay7 (F := Ideal) C) (k0_pay8 (F := Ideal) S₁) S₂
      = headOf x (k0_pay7 (F := Ideal) C) (k0_pay8 (F := Ideal) S₁) (k0_pay7 (F := Ideal) S₂) := by
    unfold k0_pay1 headOf
    rfl
  rw [e, headOf_apply, rowT_tab _ C p fun l => pay7_apply C p l, rowT_tab _ S₁ p fun l => pay8_apply S₁ p l, rowT_tab _ S₂ p fun l => pay7_apply S₂ p l]

/-- What the kernel leaves at row `p`, lane `l` of a block of index keys: `r` is the normalised row. -/
def keyEntry (r : Fin 4096 → EReal) (w : FVec Ideal S4096x256 .bf16) (C S₁ S₂ : FVec Ideal S1x128x128 .f32) (g b : FVec Ideal S1x128 .f32) (p : Fin 128) (l : ℕ) : EReal :=
  rollAt (fun n => if h : n < 128 then Cert.Mlp.R6.lnAt (fun l => ∑ k : Fin 4096, r k * w (ix2 k ⟨l.val, by have := l.isLt; omega⟩)) (fun l => g (ix2 0 l)) (fun l => b (ix2 0 l)) ⟨n, h⟩ else 0)
    (tabN C p) (tabN S₁ p) (tabN S₂ p) l

theorem key_eq (h : FVec Ideal S128x4096 .bf16) (w : FVec Ideal S4096x256 .bf16) (C S₁ S₂ : FVec Ideal S1x128x128 .f32) (g b : FVec Ideal S1x128 .f32) (p : Fin 128)
    (r : Fin 4096 → EReal) (hr : ∀ k, h (ix2 p k) = r k) (l : Fin 128) :
    k0_pay1 (F := Ideal) (k0_pay6 (F := Ideal) h w g b) (k0_pay7 (F := Ideal) C) (k0_pay8 (F := Ideal) S₁) S₂ (ix2 p l) = keyEntry r w C S₁ S₂ g b p l.val := by
  rw [pay1_apply]
  unfold keyEntry
  refine congrArg (fun x => rollAt x _ _ _ l.val) (funext fun n => ?_)
  unfold rowT
  by_cases hn : n < 128
  · rw [dif_pos hn, dif_pos hn, pay6_apply]
    refine congrArg (fun y => Cert.Mlp.R6.lnAt y _ _ (⟨n, hn⟩ : Fin 128)) (funext fun l => ?_)
    exact Finset.sum_congr rfl fun k _ => congrArg (· * w _) (hr k)
  · rw [dif_neg hn, dif_neg hn]

theorem weight_eq (h : FVec Ideal S128x4096 .bf16) (w : FVec Ideal S4096x256 .bf16) (p : Fin 128)
    (r : Fin 4096 → EReal) (hr : ∀ k, h (ix2 p k) = r k) (l : Fin 128) :
    k0_pay3 (F := Ideal) (k0_pay5 (F := Ideal) h w) (ix2 p l) = (∑ k : Fin 4096, r k * w (ix2 k ⟨128 + l.val, by have := l.isLt; omega⟩)) * Ideal.ofBits .f32 0x3E3504F3#32 := by
  rw [pay3_apply, pay5_apply]
  exact congrArg (· * _) (Finset.sum_congr rfl fun k _ => congrArg (· * w _) (hr k))

section Loop

variable (𝒱 : Variants) (c : Dev nD) (bd : Option 𝒱.V) (i : grid0.Coords)
  (arg1 : Memref sig .tc .vmem S128x4096 .f32) (harg1 : arg1.IsWhole)
  (arg2 : Memref sig .tc .vmem S1x4096 .f32) (harg2 : arg2.IsWhole)
  (arg3 : Memref sig .tc .vmem S4096x256 .bf16) (harg3 : arg3.IsWhole)
  (arg4 : Memref sig .tc .vmem S1x128x128 .f32) (harg4 : arg4.IsWhole)
  (arg5 : Memref sig .tc .vmem S1x128x128 .f32) (harg5 : arg5.IsWhole)
  (arg6 : Memref sig .tc .vmem S1x128x128 .f32) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S128x128 .f32) (harg9 : arg9.IsWhole)
  (arg10 : Memref sig .tc .vmem S128x128 .bf16) (harg10 : arg10.IsWhole)
  (arg11 : Memref sig .tc .vmem S128x128 .f32) (harg11 : arg11.IsWhole)
  (arg12 : Memref sig .tc .vmem S128x4096 .bf16) (harg12 : arg12.IsWhole)
  (X1 : BufTy.Contents (Elt Ideal) arg1.view.ty) (X2 : BufTy.Contents (Elt Ideal) arg2.view.ty)

theorem tripL_eq (k : Fin k0_t1_loop.trips) :
    tripL_k0_t1 (F := Ideal) 𝒱 c bd i arg1 harg1 arg2 harg2 arg3 harg3 arg4 harg4 arg5 harg5 arg6 harg6 arg7 harg7 arg8 harg8 arg9 harg9 arg10 harg10 arg11 harg11 arg12 harg12 X1 X2 k
      = [⟨Rect.unit (s := S128x4096) (k0_off1 k) S64x4096.size (k0_off1_inb k),
          k0_pay4 (F := Ideal) (View.readAt (Elt Ideal) arg1.view (Rect.unit (s := S128x4096) (k0_off1 k) S64x4096.size (k0_off1_inb k)).toLoadRect X1)
            (View.readAt (Elt Ideal) arg2.view (Rect.unit (s := S1x4096) ![0, 0] S1x4096.size inb_S1x4096_S1x4096_0_0).toLoadRect X2)⟩] := by
  unfold tripL_k0_t1 trip_k0_t1
  dsimp only

/-- After `n` trips the first `64 n` rows of the scratch are the normalised rows of the block. -/
theorem rows (f : BufTy.Contents (Elt Ideal) VS0_0.ty) (n : ℕ) (hn : n ≤ k0_t1_loop.trips) (r : Fin 128) (hr : r.val < 64 * n) (k : Fin 4096) :
    VS0_0.read (Elt Ideal) (VS0_0.writes (Elt Ideal) f (pb_k0_t1 (F := Ideal) 𝒱 c bd i arg1 harg1 arg2 harg2 arg3 harg3 arg4 harg4 arg5 harg5 arg6 harg6 arg7 harg7 arg8 harg8 arg9 harg9 arg10 harg10 arg11 harg11 arg12 harg12 X1 X2 n)) (ix2 r k)
      = normRow (fun k => arg1.view.read (Elt Ideal) X1 (ix2 r k)) (fun k => arg2.view.read (Elt Ideal) X2 (ix2 0 k)) k := by
  induction n with
  | zero => omega
  | succ n ih =>
    rw [pb_k0_t1_succ 𝒱 c bd i arg1 harg1 arg2 harg2 arg3 harg3 arg4 harg4 arg5 harg5 arg6 harg6 arg7 harg7 arg8 harg8 arg9 harg9 arg10 harg10 arg11 harg11 arg12 harg12 X1 X2 ⟨n, hn⟩, tripL_eq, List.singleton_append]
    by_cases h : r.val < 64 * n
    · exact (View.read_writes_cons_rows_of_not_mem VS0_0 f _ _ _ (ix2 r k) (k0_off1_eq ⟨n, hn⟩) (W := 64) rfl (Or.inl h)).trans
        (ih (by omega) h)
    · have hlt : r.val - 64 * n < 64 := by omega
      refine (View.read_writes_cons_rows_of_mem VS0_0 f _ _ _ (ix2 r k) (ix2 (⟨r.val - 64 * n, hlt⟩ : Fin 64) k) (k0_off1_eq ⟨n, hn⟩) ?_ rfl).trans ?_
      · show r.val = 64 * n + (r.val - 64 * n)
        omega
      · refine (pay4_apply _ _ _ k).trans ?_
        have e2 : ∀ k, View.readAt (Elt Ideal) arg1.view (Rect.unit (s := S128x4096) (k0_off1 ⟨n, hn⟩) S64x4096.size (k0_off1_inb ⟨n, hn⟩)).toLoadRect X1 (ix2 (⟨r.val - 64 * n, hlt⟩ : Fin 64) k)
            = arg1.view.read (Elt Ideal) X1 (ix2 r k) := fun k => by
          refine congrArg (arg1.view.read (Elt Ideal) X1) (funext fun a => Fin.ext ?_)
          have h := congrFun (k0_off1_eq ⟨n, hn⟩) a
          fin_cases a
          · show (k0_off1 ⟨n, hn⟩ 0) + 1 * (r.val - 64 * n) = r.val
            have h' : k0_off1 ⟨n, hn⟩ 0 = 64 * n := h
            omega
          · show (k0_off1 ⟨n, hn⟩ 1) + 1 * k.val = k.val
            have h' : k0_off1 ⟨n, hn⟩ 1 = 0 := h
            omega
        have e3 : ∀ k, View.readAt (Elt Ideal) arg2.view (Rect.unit (s := S1x4096) ![0, 0] S1x4096.size inb_S1x4096_S1x4096_0_0).toLoadRect X2 (ix2 0 k)
            = arg2.view.read (Elt Ideal) X2 (ix2 0 k) := fun k => congrFun (View.readAt_full arg2.view X2 inb_S1x4096_S1x4096_0_0) _
        exact congrArg₂ (fun x g => normRow x g k) (funext e2) (funext e3)

end Loop

section Cases

variable (c : Dev nD) (i : grid0.Coords)
  (arg1 : Memref sig .tc .vmem S128x4096 .f32) (harg1 : arg1.IsWhole)
  (arg2 : Memref sig .tc .vmem S1x4096 .f32) (harg2 : arg2.IsWhole)
  (arg3 : Memref sig .tc .vmem S4096x256 .bf16) (harg3 : arg3.IsWhole)
  (arg4 : Memref sig .tc .vmem S1x128x128 .f32) (harg4 : arg4.IsWhole)
  (arg5 : Memref sig .tc .vmem S1x128x128 .f32) (harg5 : arg5.IsWhole)
  (arg6 : Memref sig .tc .vmem S1x128x128 .f32) (harg6 : arg6.IsWhole)
  (arg7 : Memref sig .tc .vmem S1x128 .f32) (harg7 : arg7.IsWhole)
  (arg8 : Memref sig .tc .vmem S1x128 .f32) (harg8 : arg8.IsWhole)
  (arg9 : Memref sig .tc .vmem S128x128 .f32) (harg9 : arg9.IsWhole)
  (arg10 : Memref sig .tc .vmem S128x128 .bf16) (harg10 : arg10.IsWhole)
  (arg11 : Memref sig .tc .vmem S128x128 .f32) (harg11 : arg11.IsWhole)
  (x0 : FVec Ideal S128x4096 .f32) (x1 : FVec Ideal S1x4096 .f32) (x2 : FVec Ideal S4096x256 .bf16)
  (x3 x4 x5 : FVec Ideal S1x128x128 .f32) (x6 x7 : FVec Ideal S1x128 .f32)

theorem trips_eq : k0_t1_loop.trips = 2 := by decide +kernel

theorem filled (r : Fin 128) (k : Fin 4096) :
    VS0_0.read (Elt Ideal) (VS0_0.writes (Elt Ideal) VS0_0.junk (pb_k0_t1 (F := Ideal) Variants.none c none i arg1 harg1 arg2 harg2 arg3 harg3 arg4 harg4 arg5 harg5 arg6 harg6 arg7 harg7 arg8 harg8 arg9 harg9 arg10 harg10 arg11 harg11 scM0_0 (Memref.isWhole_whole _) (harg1.unread x0) (harg2.unread x1) k0_t1_loop.trips)) (ix2 r k)
      = normRow (fun k => x0 (ix2 r k)) (fun k => x1 (ix2 0 k)) k := by
  have hr := r.isLt
  refine (rows Variants.none c none i arg1 harg1 arg2 harg2 arg3 harg3 arg4 harg4 arg5 harg5 arg6 harg6 arg7 harg7 arg8 harg8 arg9 harg9 arg10 harg10 arg11 harg11 scM0_0 (Memref.isWhole_whole _) _ _ _ _ le_rfl r (by rw [trips_eq]; omega) k).trans ?_
  rw [harg1.read_unread, harg2.read_unread]

theorem out_8 (p : Fin 128) (l : Fin 128) :
    out0_A_8 (F := Ideal) c i arg1 harg1 arg2 harg2 arg3 harg3 arg4 harg4 arg5 harg5 arg6 harg6 arg7 harg7 arg8 harg8 arg9 harg9 arg10 harg10 arg11 harg11 scM0_0 (Memref.isWhole_whole _) x0 x1 x2 x3 x4 x5 x6 x7 (ix2 p l)
      = keyEntry (normRow (fun k => x0 (ix2 p k)) (fun k => x1 (ix2 0 k))) x2 x3 x4 x5 x6 x7 p l.val := by
  frame_out
  have h : ∀ k : Fin 4096, ((View.whole cc0_scratch0).readCov (pb_k0_t1 (F := Ideal) Variants.none c none i arg1 harg1 arg2 harg2 arg3 harg3 arg4 harg4 arg5 harg5 arg6 harg6 arg7 harg7 arg8 harg8 arg9 harg9 arg10 harg10 arg11 harg11 scM0_0 (Memref.isWhole_whole _) (harg1.unread x0) (harg2.unread x1) k0_t1_loop.trips)
      (Rect.unit (s := S128x4096) ![0, 0] ![128, 4096] inb_S128x4096_S128x4096_0_0).toLoadRect : FVec Ideal S128x4096 .bf16) (ix2 p k) = normRow (fun k => x0 (ix2 p k)) (fun k => x1 (ix2 0 k)) k := fun k =>
    (congrFun (View.readAt_full VS0_0 _ inb_S128x4096_S128x4096_0_0) _).trans (filled c i arg1 harg1 arg2 harg2 arg3 harg3 arg4 harg4 arg5 harg5 arg6 harg6 arg7 harg7 arg8 harg8 arg9 harg9 arg10 harg10 arg11 harg11 x0 x1 p k)
  exact key_eq _ x2 x3 x4 x5 x6 x7 p _ h l

theorem out_9 (p : Fin 128) (l : Fin 128) :
    out0_A_9 (F := Ideal) c i arg1 harg1 arg2 harg2 arg3 harg3 arg4 harg4 arg5 harg5 arg6 harg6 arg7 harg7 arg8 harg8 arg9 harg9 arg10 harg10 arg11 harg11 scM0_0 (Memref.isWhole_whole _) x0 x1 x2 x3 x4 x5 x6 x7 (ix2 p l)
      = keyEntry (normRow (fun k => x0 (ix2 p k)) (fun k => x1 (ix2 0 k))) x2 x3 x4 x5 x6 x7 p l.val := by
  frame_out
  have h : ∀ k : Fin 4096, ((View.whole cc0_scratch0).readCov (pb_k0_t1 (F := Ideal) Variants.none c none i arg1 harg1 arg2 harg2 arg3 harg3 arg4 harg4 arg5 harg5 arg6 harg6 arg7 harg7 arg8 harg8 arg9 harg9 arg10 harg10 arg11 harg11 scM0_0 (Memref.isWhole_whole _) (harg1.unread x0) (harg2.unread x1) k0_t1_loop.trips)
      (Rect.unit (s := S128x4096) ![0, 0] ![128, 4096] inb_S128x4096_S128x4096_0_0).toLoadRect : FVec Ideal S128x4096 .bf16) (ix2 p k) = normRow (fun k => x0 (ix2 p k)) (fun k => x1 (ix2 0 k)) k := fun k =>
    (congrFun (View.readAt_full VS0_0 _ inb_S128x4096_S128x4096_0_0) _).trans (filled c i arg1 harg1 arg2 harg2 arg3 harg3 arg4 harg4 arg5 harg5 arg6 harg6 arg7 harg7 arg8 harg8 arg9 harg9 arg10 harg10 arg11 harg11 x0 x1 p k)
  exact key_eq _ x2 x3 x4 x5 x6 x7 p _ h l

theorem out_10 (p : Fin 128) (l : Fin 128) :
    out0_A_10 (F := Ideal) c i arg1 harg1 arg2 harg2 arg3 harg3 arg4 harg4 arg5 harg5 arg6 harg6 arg7 harg7 arg8 harg8 arg9 harg9 arg10 harg10 arg11 harg11 scM0_0 (Memref.isWhole_whole _) x0 x1 x2 x3 x4 x5 x6 x7 (ix2 p l)
      = (∑ k : Fin 4096, normRow (fun k => x0 (ix2 p k)) (fun k => x1 (ix2 0 k)) k * x2 (ix2 k ⟨128 + l.val, by have := l.isLt; omega⟩)) * Ideal.ofBits .f32 0x3E3504F3#32 := by
  frame_out
  have h : ∀ k : Fin 4096, ((View.whole cc0_scratch0).readCov (pb_k0_t1 (F := Ideal) Variants.none c none i arg1 harg1 arg2 harg2 arg3 harg3 arg4 harg4 arg5 harg5 arg6 harg6 arg7 harg7 arg8 harg8 arg9 harg9 arg10 harg10 arg11 harg11 scM0_0 (Memref.isWhole_whole _) (harg1.unread x0) (harg2.unread x1) k0_t1_loop.trips)
      (Rect.unit (s := S128x4096) ![0, 0] ![128, 4096] inb_S128x4096_S128x4096_0_0).toLoadRect : FVec Ideal S128x4096 .bf16) (ix2 p k) = normRow (fun k => x0 (ix2 p k)) (fun k => x1 (ix2 0 k)) k := fun k =>
    (congrFun (View.readAt_full VS0_0 _ inb_S128x4096_S128x4096_0_0) _).trans (filled c i arg1 harg1 arg2 harg2 arg3 harg3 arg4 harg4 arg5 harg5 arg6 harg6 arg7 harg7 arg8 harg8 arg9 harg9 arg10 harg10 arg11 harg11 x0 x1 p k)
  exact weight_eq _ x2 p _ h l

end Cases

end Cert.Mlp.K8
-- ==== Proof.Mlp.SampleTailTables.lean ====
module

public import proofs.«01_k».proof.Proof.Gen.Kernel8Ideal.Value
public import proofs.«01_k».proof.Proof.Mlp.Ref8
public import proofs.«01_k».proof.Proof.Mlp.TailTables
public import Idealize.ShloMosaic.Lib.Pipeline.ValueKit
public import Idealize.ShloMosaic.Lib.StableHlo.RunRead

@[expose] public section

set_option maxRecDepth 16384

noncomputable section

namespace Cert.Mlp.K8

open Cert.Kernel8Ideal Cert.Kernel8Ideal.Gen Idealize.ShloMosaic Idealize.ShloMosaic.TcCoe Idealize.SL.Sem
open Cert.Mlp.K6 (cosN sin1N sin2N)

/-- The angles of every position and frequency. -/
def angles : FVec Ideal S128x16 .f32 :=
  mulf (broadcastInDim S128x16 ![0, 1] bcast_S128x1_S128x16_0_1 (broadcastInDim S128x1 ![0] bcast_S128_S128x1_0 (sitofp .f32 (broadcastInDim S128 ![] bcast_S_S128 (constantI S_ 32 2048#32)))))
    (broadcastInDim S128x16 ![0, 1] bcast_S1x16_S128x16_0_1 (broadcastInDim S1x16 ![1] bcast_S16_S1x16_1
      (Host.powf (broadcastInDim S16 ![] bcast_S_S16 (constant S_ .f32 0x48F42400#32))
        (Host.divf (Host.negf (sitofp .f32 (iotaInDim S16 32 0))) (broadcastInDim S16 ![] bcast_S_S16 (constant S_ .f32 0x41800000#32))))))

theorem angles_apply (t : Fin 128) (i : Fin 16) : angles (ix2 t i) = angle 2048 i.val := by
  unfold angles angle
  pointwise

def rowC : FVec Ideal S128x128 .f32 :=
  concatenate S128x128 1 [⟨S128x16, Host.cos angles⟩, ⟨S128x16, Host.cos angles⟩, ⟨S128x96, broadcastInDim S128x96 ![] bcast_S_S128x96 (constant S_ .f32 0x3F800000#32)⟩]
    concatenates_S128x16_S128x16_S128x96_S128x128_d1

def row1 : FVec Ideal S128x128 .f32 :=
  concatenate S128x128 1 [⟨S128x16, Host.negf (Host.sin angles)⟩, ⟨S128x112, broadcastInDim S128x112 ![] bcast_S_S128x112 (constant S_ .f32 0x00000000#32)⟩]
    concatenates_S128x16_S128x112_S128x128_d1

def row2 : FVec Ideal S128x128 .f32 :=
  concatenate S128x128 1 [⟨S128x16, broadcastInDim S128x16 ![] bcast_S_S128x16 (constant S_ .f32 0x00000000#32)⟩, ⟨S128x16, Host.sin angles⟩, ⟨S128x96, broadcastInDim S128x96 ![] bcast_S_S128x96 (constant S_ .f32 0x00000000#32)⟩]
    concatenates_S128x16_S128x16_S128x96_S128x128_d1

theorem rowC_apply (t : Fin 128) (l : Fin 128) : rowC (ix2 t l) = cosN 2048 l.val := by
  unfold rowC cosN
  pointwise [angles_apply]
  have hl := l.isLt
  split_ifs
  all_goals first
    | rfl
    | omega

theorem row1_apply (t : Fin 128) (l : Fin 128) : row1 (ix2 t l) = sin1N 2048 l.val := by
  unfold row1 sin1N
  pointwise [angles_apply]
  have hl := l.isLt
  split_ifs
  all_goals first
    | rfl
    | omega

theorem row2_apply (t : Fin 128) (l : Fin 128) : row2 (ix2 t l) = sin2N 2048 l.val := by
  unfold row2 sin2N
  pointwise [angles_apply]
  have hl := l.isLt
  split_ifs
  all_goals first
    | rfl
    | omega

/-- A table of three: the same rows twice, and between them a constant one. -/
def stack (v : FVec Ideal S128x128 .f32) (b : BitVec 32) : FVec Ideal S3x128x128 .f32 :=
  concatenate S3x128x128 0 [⟨S1x128x128, broadcastInDim S1x128x128 ![1, 2] bcast_S128x128_S1x128x128_1_2 v⟩,
    ⟨S1x128x128, broadcastInDim S1x128x128 ![1, 2] bcast_S128x128_S1x128x128_1_2 (broadcastInDim S128x128 ![] bcast_S_S128x128 (constant S_ .f32 b))⟩,
    ⟨S1x128x128, broadcastInDim S1x128x128 ![1, 2] bcast_S128x128_S1x128x128_1_2 v⟩] concatenates_S1x128x128_S1x128x128_S1x128x128_S3x128x128_d0

theorem stack_apply (v : FVec Ideal S128x128 .f32) (b : BitVec 32) (j : Fin 3) (t : Fin 128) (l : Fin 128) :
    stack v b (ix3 j t l) = if j.val = 1 then Ideal.ofBits .f32 b else v (ix2 t l) := by
  unfold stack
  have hj := j.isLt
  pointwise
  split_ifs
  all_goals first
    | rfl
    | omega

variable (m : (ℓ : Loc nD τ sig) → Buf (Elt Ideal) ℓ) (c : Dev nD)

open StableHlo in
theorem entry36 : V m c main_v36 = stack rowC 0x3F800000#32 := by
  after_reads_simp; rfl

open StableHlo in
theorem entry40 : V m c main_v40 = stack row1 0x00000000#32 := by
  after_reads_simp; rfl

open StableHlo in
theorem entry44 : V m c main_v44 = stack row2 0x00000000#32 := by
  after_reads_simp; rfl

end Cert.Mlp.K8
-- ==== Proof.Mlp.SampleTail.lean ====
module

public import proofs.«01_k».proof.Proof.Gen.Kernel8Ideal.Value
public import proofs.«01_k».proof.Proof.Mlp.Ref8
public import proofs.«01_k».proof.Proof.Mlp.SampleTailRows
public import proofs.«01_k».proof.Proof.Mlp.SampleTailTables
public import Idealize.ShloMosaic.Lib.Pipeline.ValueKit
public import Idealize.ShloMosaic.Lib.StableHlo.RunRead
public import Idealize.ShloMosaic.Lib.WritesUnit

@[expose] public section

set_option maxRecDepth 16384

noncomputable section

namespace Cert.Mlp.K8

open Cert.Kernel8Ideal Cert.Kernel8Ideal.Gen Idealize.ShloMosaic Idealize.ShloMosaic.TcCoe Idealize.SL.Sem
open Cert.Mlp.K6 (cosN sin1N sin2N)

theorem idx : ∀ t : Fin cfg0.N, win0_0.index t = ![t.val, 0] ∧ win0_1.index t = ![0, 0] ∧ win0_2.index t = ![0, 0]
    ∧ win0_3.index t = ![0, 0, 0] ∧ win0_4.index t = ![0, 0, 0] ∧ win0_5.index t = ![0, 0, 0]
    ∧ win0_6.index t = ![0, 0] ∧ win0_7.index t = ![0, 0]
    ∧ win0_8.index t = ![t.val, 0] ∧ win0_9.index t = ![t.val, 0] ∧ win0_10.index t = ![t.val, 0] :=
  (by decide +kernel : ∀ t : Fin grid0.N, _)

variable (m : (ℓ : Loc nD τ sig) → Buf (Elt Ideal) ℓ) (c : Dev nD)

/-- The input, its rows in one axis. -/
def flatX (a : FVec Ideal S128x1x4096 .f32) : FVec Ideal S128x4096 .f32 :=
  shapeCast S128x4096 a shapeCasts_S128x1x4096_S128x4096

/-- The norm's weights as a row. -/
def flatG (a : FVec Ideal S1x4096 .f32) : FVec Ideal S1x4096 .f32 :=
  shapeCast S1x4096 (shapeCast S4096 a shapeCasts_S1x4096_S4096) shapeCasts_S4096_S1x4096

/-- The layer norm's weights as a row. -/
def flatL (a : FVec Ideal S1x128 .f32) : FVec Ideal S1x128 .f32 :=
  shapeCast S1x128 (shapeCast S128 a shapeCasts_S1x128_S128) shapeCasts_S128_S1x128

/-- The last columns of the weights, with zero columns after them. -/
def flatW (a : FVec Ideal S1x4096x11424 .f32) : FVec Ideal S4096x256 .bf16 :=
  truncf .bf16 (pad S4096x256 ![0, 0] ![0, 96] ![0, 0] (shapeCast S4096x160 (extractStridedSlice S1x4096x160 ![0, 0, 11264] a slices_S1x4096x11424_S1x4096x160_0_0_11264) shapeCasts_S1x4096x160_S4096x160)
    (sitofp .f32 (constantI S_ 32 0#32) : FVec Ideal S_ .f32) pads_S4096x160_S4096x256_000_0960 h_S_) bitsLt_bf16_f32

theorem sitofp_zero : (FloatOps.sitofp (F := Ideal) .f32 (0#32 : BitVec 32) : EReal) = 0 := by
  show (((BitVec.toInt (0#32 : BitVec 32) : ℤ) : ℝ) : EReal) = 0
  simp

theorem flatX_apply (a : FVec Ideal S128x1x4096 .f32) (b : Fin 128) (n : Fin 4096) : flatX a (ix2 b n) = a (ix3 b 0 n) := by
  unfold flatX
  pointwise

theorem flatG_apply (a : FVec Ideal S1x4096 .f32) (k : Fin 4096) : flatG a (ix2 0 k) = a (ix2 0 k) := by
  unfold flatG
  pointwise

theorem flatL_apply (a : FVec Ideal S1x128 .f32) (l : Fin 128) : flatL a (ix2 0 l) = a (ix2 0 l) := by
  unfold flatL
  pointwise

theorem flatW_apply (a : FVec Ideal S1x4096x11424 .f32) (k : Fin 4096) (q : Fin 256) :
    flatW a (ix2 k q) = if q.val < 160 then Cert.Mlp.R6.wcol a k (11264 + q.val) else 0 := by
  have hq := q.isLt
  unfold flatW Cert.Mlp.R6.wcol
  by_cases h : q.val < 160
  · rw [if_pos h, dif_pos (by omega)]
    pointwise
    rw [dif_pos h]
  · rw [if_neg h]
    pointwise
    rw [dif_neg h]
    exact sitofp_zero

open StableHlo in
theorem entry4 : V m c main_v4 = flatX (m ((c : Thread nD τ).loc main_arg0)) := by
  after_reads_simp; rfl

open StableHlo in
theorem entry6 : V m c main_v6 = flatG (m ((c : Thread nD τ).loc main_arg1)) := by
  after_reads_simp; rfl

open StableHlo in
theorem entry3 : V m c main_v3 = flatW (m ((c : Thread nD τ).loc main_arg2)) := by
  after_reads_simp; rfl

open StableHlo in
theorem entry46 : V m c main_v46 = flatL (m ((c : Thread nD τ).loc main_arg3)) := by
  after_reads_simp; rfl

open StableHlo in
theorem entry48 : V m c main_v48 = flatL (m ((c : Thread nD τ).loc main_arg4)) := by
  after_reads_simp; rfl

theorem read0 (t : Fin cfg0.N) (p : Fin 128) (k : Fin 4096) (b : Fin 128) (h : b.val = t.val * 128 + p.val) :
    (iblk m c 0 t : FVec Ideal S128x4096 .f32) (ix2 p k) = (m ((c : Thread nD τ).loc main_arg0) : FVec Ideal S128x1x4096 .f32) (ix3 b 0 k) := by
  obtain ⟨e0, e1, e2, e3, e4, e5, e6, e7, e8, e9, e10⟩ := idx t
  refine Eq.trans ?_ (flatX_apply _ b k)
  rw [← entry4]
  blk_simp [iblk, e0]
  refine congrArg (V m c main_v4) ?_
  funext a
  fin_cases a
  all_goals apply Fin.ext
  all_goals blk_simp [e0]
  all_goals (dsimp only [ix2, ix3]; try omega; try rfl)

theorem read1 (t : Fin cfg0.N) (k : Fin 4096) :
    (iblk m c 1 t : FVec Ideal S1x4096 .f32) (ix2 0 k) = (m ((c : Thread nD τ).loc main_arg1) : FVec Ideal S1x4096 .f32) (ix2 0 k) := by
  obtain ⟨e0, e1, e2, e3, e4, e5, e6, e7, e8, e9, e10⟩ := idx t
  refine Eq.trans ?_ (flatG_apply _ k)
  rw [← entry6]
  blk_simp [iblk, e1]
  refine congrArg (V m c main_v6) ?_
  funext a
  fin_cases a
  all_goals apply Fin.ext
  all_goals blk_simp [e1]
  all_goals (dsimp only [ix2, ix3]; try omega; try rfl)

theorem read2 (t : Fin cfg0.N) (k : Fin 4096) (q : Fin 256) :
    (iblk m c 2 t : FVec Ideal S4096x256 .bf16) (ix2 k q) = if q.val < 160 then Cert.Mlp.R6.wcol (m ((c : Thread nD τ).loc main_arg2) : FVec Ideal S1x4096x11424 .f32) k (11264 + q.val) else 0 := by
  obtain ⟨e0, e1, e2, e3, e4, e5, e6, e7, e8, e9, e10⟩ := idx t
  refine Eq.trans ?_ (flatW_apply _ k q)
  rw [← entry3]
  blk_simp [iblk, e2]
  refine congrArg (V m c main_v3) ?_
  funext a
  fin_cases a
  all_goals apply Fin.ext
  all_goals blk_simp [e2]
  all_goals (dsimp only [ix2, ix3]; try omega; try rfl)

theorem read3 (t : Fin cfg0.N) (p : Fin 128) (l : Fin 128) (j : Fin 3) (s : Fin 128) (hj : j.val = 0) (hs : s.val = p.val) :
    (iblk m c 3 t : FVec Ideal S1x128x128 .f32) (ix3 0 p l) = rowC (ix2 s l) := by
  obtain ⟨e0, e1, e2, e3, e4, e5, e6, e7, e8, e9, e10⟩ := idx t
  refine Eq.trans ?_ ((stack_apply rowC 0x3F800000#32 j s l).trans (if_neg (by omega)))
  rw [← entry36]
  blk_simp [iblk, e3]
  refine congrArg (V m c main_v36) ?_
  funext a
  fin_cases a
  all_goals apply Fin.ext
  all_goals blk_simp [e3]
  all_goals (dsimp only [ix2, ix3]; try omega; try rfl)

theorem read4 (t : Fin cfg0.N) (p : Fin 128) (l : Fin 128) (j : Fin 3) (s : Fin 128) (hj : j.val = 0) (hs : s.val = p.val) :
    (iblk m c 4 t : FVec Ideal S1x128x128 .f32) (ix3 0 p l) = row1 (ix2 s l) := by
  obtain ⟨e0, e1, e2, e3, e4, e5, e6, e7, e8, e9, e10⟩ := idx t
  refine Eq.trans ?_ ((stack_apply row1 0x00000000#32 j s l).trans (if_neg (by omega)))
  rw [← entry40]
  blk_simp [iblk, e4]
  refine congrArg (V m c main_v40) ?_
  funext a
  fin_cases a
  all_goals apply Fin.ext
  all_goals blk_simp [e4]
  all_goals (dsimp only [ix2, ix3]; try omega; try rfl)

theorem read5 (t : Fin cfg0.N) (p : Fin 128) (l : Fin 128) (j : Fin 3) (s : Fin 128) (hj : j.val = 0) (hs : s.val = p.val) :
    (iblk m c 5 t : FVec Ideal S1x128x128 .f32) (ix3 0 p l) = row2 (ix2 s l) := by
  obtain ⟨e0, e1, e2, e3, e4, e5, e6, e7, e8, e9, e10⟩ := idx t
  refine Eq.trans ?_ ((stack_apply row2 0x00000000#32 j s l).trans (if_neg (by omega)))
  rw [← entry44]
  blk_simp [iblk, e5]
  refine congrArg (V m c main_v44) ?_
  funext a
  fin_cases a
  all_goals apply Fin.ext
  all_goals blk_simp [e5]
  all_goals (dsimp only [ix2, ix3]; try omega; try rfl)

theorem read6 (t : Fin cfg0.N) (l : Fin 128) :
    (iblk m c 6 t : FVec Ideal S1x128 .f32) (ix2 0 l) = (m ((c : Thread nD τ).loc main_arg3) : FVec Ideal S1x128 .f32) (ix2 0 l) := by
  obtain ⟨e0, e1, e2, e3, e4, e5, e6, e7, e8, e9, e10⟩ := idx t
  refine Eq.trans ?_ (flatL_apply _ l)
  rw [← entry46]
  blk_simp [iblk, e6]
  refine congrArg (V m c main_v46) ?_
  funext a
  fin_cases a
  all_goals apply Fin.ext
  all_goals blk_simp [e6]
  all_goals (dsimp only [ix2, ix3]; try omega; try rfl)

theorem read7 (t : Fin cfg0.N) (l : Fin 128) :
    (iblk m c 7 t : FVec Ideal S1x128 .f32) (ix2 0 l) = (m ((c : Thread nD τ).loc main_arg4) : FVec Ideal S1x128 .f32) (ix2 0 l) := by
  obtain ⟨e0, e1, e2, e3, e4, e5, e6, e7, e8, e9, e10⟩ := idx t
  refine Eq.trans ?_ (flatL_apply _ l)
  rw [← entry48]
  blk_simp [iblk, e7]
  refine congrArg (V m c main_v48) ?_
  funext a
  fin_cases a
  all_goals apply Fin.ext
  all_goals blk_simp [e7]
  all_goals (dsimp only [ix2, ix3]; try omega; try rfl)

/-- Block `t`'s row `p` of the input as batch and position. -/
theorem row_eq (t : Fin cfg0.N) (p : Fin 128) : ∃ (b : Fin 128), b.val = t.val * 128 + p.val := by
  have := p.isLt
  have ht : t.val < 1 := t.isLt
  exact ⟨⟨t.val * 128 + p.val, by omega⟩, rfl⟩

/-- The normalised row of the arguments. -/
def argRow (b : Fin 128) (k : Fin 4096) : EReal :=
  normRow (fun k => (m ((c : Thread nD τ).loc main_arg0) : FVec Ideal S128x1x4096 .f32) (ix3 b 0 k))
    (fun k => (m ((c : Thread nD τ).loc main_arg1) : FVec Ideal S1x4096 .f32) (ix2 0 k)) k

theorem blk_row (t : Fin cfg0.N) (p : Fin 128) (b : Fin 128) (h : b.val = t.val * 128 + p.val) (k : Fin 4096) :
    normRow (fun k => (iblk m c 0 t : FVec Ideal S128x4096 .f32) (ix2 p k)) (fun k => (iblk m c 1 t : FVec Ideal S1x4096 .f32) (ix2 0 k)) k = argRow m c b k :=
  congrArg₂ (fun x g => normRow x g k) (funext fun k => read0 m c t p k b h) (funext fun k => read1 m c t k)

/-- The plain projection's columns of one position of the arguments. -/
def zOf (b : Fin 128) : ℕ → EReal :=
  Cert.Mlp.R8.zAt (m ((c : Thread nD τ).loc main_arg0)) (m ((c : Thread nD τ).loc main_arg1)) (m ((c : Thread nD τ).loc main_arg2)) b

/-- A column of the block's product is the plain projection's, or zero past its end. -/
theorem col_eq (t : Fin cfg0.N) (b : Fin 128) (q : Fin 256) :
    (∑ k : Fin 4096, argRow m c b k * (iblk m c 2 t : FVec Ideal S4096x256 .bf16) (ix2 k q)) = if q.val < 160 then zOf m c b (11264 + q.val) else 0 := by
  by_cases h : q.val < 160
  · rw [if_pos h]
    unfold zOf Cert.Mlp.R8.zAt colAt argRow
    refine Finset.sum_congr rfl fun k _ => ?_
    exact congrArg (_ * ·) ((read2 m c t k q).trans (if_pos h))
  · rw [if_neg h]
    refine Finset.sum_eq_zero fun k _ => ?_
    exact (congrArg (argRow m c b k * ·) ((read2 m c t k q).trans (if_neg h))).trans (mul_zero _)

/-- The layer norm's weights, by the lane. -/
def lnwOf (l : Fin 128) : EReal := (m ((c : Thread nD τ).loc main_arg3) : FVec Ideal S1x128 .f32) (ix2 0 l)

def lnbOf (l : Fin 128) : EReal := (m ((c : Thread nD τ).loc main_arg4) : FVec Ideal S1x128 .f32) (ix2 0 l)

theorem tab3 (t : Fin cfg0.N) (p : Fin 128) (s : Fin 128) (hs : s.val = p.val) (l : ℕ) (hl : l < 128) :
    tabN (iblk m c 3 t : FVec Ideal S1x128x128 .f32) p l = cosN 2048 l := by
  unfold tabN
  rw [dif_pos hl]
  exact (read3 m c t p ⟨l, hl⟩ ⟨0, by decide⟩ s rfl hs).trans (rowC_apply s ⟨l, hl⟩)

theorem tab4 (t : Fin cfg0.N) (p : Fin 128) (s : Fin 128) (hs : s.val = p.val) (l : ℕ) (hl : l < 128) :
    tabN (iblk m c 4 t : FVec Ideal S1x128x128 .f32) p l = sin1N 2048 l := by
  unfold tabN
  rw [dif_pos hl]
  exact (read4 m c t p ⟨l, hl⟩ ⟨0, by decide⟩ s rfl hs).trans (row1_apply s ⟨l, hl⟩)

theorem tab5 (t : Fin cfg0.N) (p : Fin 128) (s : Fin 128) (hs : s.val = p.val) (l : ℕ) (hl : l < 128) :
    tabN (iblk m c 5 t : FVec Ideal S1x128x128 .f32) p l = sin2N 2048 l := by
  unfold tabN
  rw [dif_pos hl]
  exact (read5 m c t p ⟨l, hl⟩ ⟨0, by decide⟩ s rfl hs).trans (row2_apply s ⟨l, hl⟩)

/-- A block's index keys are the reference's. -/
theorem key_block (t : Fin cfg0.N) (p : Fin 128) (l : Fin 128) (b : Fin 128) (h : b.val = t.val * 128 + p.val) :
    keyEntry (argRow m c b) (iblk m c 2 t : FVec Ideal S4096x256 .bf16) (iblk m c 3 t : FVec Ideal S1x128x128 .f32) (iblk m c 4 t : FVec Ideal S1x128x128 .f32)
        (iblk m c 5 t : FVec Ideal S1x128x128 .f32) (iblk m c 6 t : FVec Ideal S1x128 .f32) (iblk m c 7 t : FVec Ideal S1x128 .f32) p l.val
      = Cert.Mlp.R6.keyAt (zOf m c b) (lnwOf m c) (lnbOf m c) 2048 l.val := by
  have hp := p.isLt
  have hb := b.isLt
  have ht : t.val < 1 := t.isLt
  have ew : (fun l => (iblk m c 6 t : FVec Ideal S1x128 .f32) (ix2 0 l)) = lnwOf m c := funext fun l => read6 m c t l
  have eb : (fun l => (iblk m c 7 t : FVec Ideal S1x128 .f32) (ix2 0 l)) = lnbOf m c := funext fun l => read7 m c t l
  have ez : (fun l : Fin 128 => ∑ k : Fin 4096, argRow m c b k * (iblk m c 2 t : FVec Ideal S4096x256 .bf16) (ix2 k (⟨l.val, by have := l.isLt; omega⟩ : Fin 256))) = fun l => zOf m c b (11264 + l.val) :=
    funext fun l => (col_eq m c t b ⟨l.val, by have := l.isLt; omega⟩).trans (if_pos (by have := l.isLt; dsimp only; omega))
  unfold keyEntry Cert.Mlp.R6.keyAt
  rw [ew, eb]
  refine (congrArg (fun y => rollAt (fun n => if h : n < 128 then Cert.Mlp.R6.lnAt y (lnwOf m c) (lnbOf m c) ⟨n, h⟩ else 0) _ _ _ l.val) ez).trans ?_
  refine rollAt_rope _ _ _ _ _ _ _ l.isLt ?_ ?_ ?_
  · rw [tab3 m c t p p rfl _ l.isLt]; rfl
  · rw [tab4 m c t p p rfl _ l.isLt]; rfl
  · rw [tab5 m c t p p rfl _ l.isLt]; rfl

/-- The block's row of the kernel's inputs is the arguments'. -/
theorem row_fun (t : Fin cfg0.N) (p : Fin 128) (b : Fin 128) (h : b.val = t.val * 128 + p.val) :
    normRow (fun k => (iblk m c 0 t : FVec Ideal S128x4096 .f32) (ix2 p k)) (fun k => (iblk m c 1 t : FVec Ideal S1x4096 .f32) (ix2 0 k)) = argRow m c b :=
  funext fun k => blk_row m c t p b h k

theorem after8 (t : Fin cfg0.N) (p : Fin 128) (l : Fin 128) (b : Fin 128) (h : b.val = t.val * 128 + p.val) :
    ((outsAt0 m c t).1 : FVec Ideal S128x128 .f32) (ix2 p l) = Cert.Mlp.R6.keyAt (zOf m c b) (lnwOf m c) (lnbOf m c) 2048 l.val := by
  unfold outsAt0
  dsimp only
  refine (out_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) p l).trans ?_
  rw [row_fun m c t p b h]
  exact key_block m c t p l b h

theorem after9 (t : Fin cfg0.N) (p : Fin 128) (l : Fin 128) (b : Fin 128) (h : b.val = t.val * 128 + p.val) :
    ((outsAt0 m c t).2.1 : FVec Ideal S128x128 .bf16) (ix2 p l) = Cert.Mlp.R6.keyAt (zOf m c b) (lnwOf m c) (lnbOf m c) 2048 l.val := by
  unfold outsAt0
  dsimp only
  refine (out_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) p l).trans ?_
  rw [row_fun m c t p b h]
  exact key_block m c t p l b h

theorem after10 (t : Fin cfg0.N) (p : Fin 128) (l : Fin 128) (b : Fin 128) (h : b.val = t.val * 128 + p.val) :
    ((outsAt0 m c t).2.2 : FVec Ideal S128x128 .f32) (ix2 p l) = Cert.Mlp.R6.weightAt (zOf m c b) l.val := by
  unfold outsAt0
  dsimp only
  refine (out_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (iblk m c 0 t) (iblk m c 1 t) (iblk m c 2 t) (iblk m c 3 t) (iblk m c 4 t) (iblk m c 5 t) (iblk m c 6 t) (iblk m c 7 t) p l).trans ?_
  rw [row_fun m c t p b h]
  rw [col_eq m c t b ⟨128 + l.val, by have := l.isLt; omega⟩]
  unfold Cert.Mlp.R6.weightAt
  dsimp only
  by_cases hl : l.val < 32
  · rw [if_pos (show 128 + l.val < 160 by omega), if_pos hl, show 11264 + (128 + l.val) = 11392 + l.val by omega]
  · rw [if_neg (show ¬128 + l.val < 160 by omega), if_neg hl, zero_mul]

/-- The reference's plain projection at the call's arguments. -/
def projOf : FVec Ideal Cert.Reference8Ideal.S128x1x11424 .f32 :=
  Cert.Mlp.R8.proj (m ((c : Thread nD τ).loc main_arg0)) (m ((c : Thread nD τ).loc main_arg1)) (m ((c : Thread nD τ).loc main_arg2))

/-- The reference's three arrays. -/
def ref8 : FVec Ideal S128x128 .f32 := Cert.Mlp.R8.ki (projOf m c) (m ((c : Thread nD τ).loc main_arg3)) (m ((c : Thread nD τ).loc main_arg4))

def ref9 : FVec Ideal S128x128 .bf16 := Cert.Mlp.R8.kn (projOf m c) (m ((c : Thread nD τ).loc main_arg3)) (m ((c : Thread nD τ).loc main_arg4))

def ref10 : FVec Ideal S128x128 .f32 := Cert.Mlp.R8.wi (projOf m c)

theorem ref8_apply (b : Fin 128) (l : Fin 128) : ref8 m c (ix2 b l) = Cert.Mlp.R6.keyAt (zOf m c b) (lnwOf m c) (lnbOf m c) 2048 l.val :=
  Cert.Mlp.R8.ki_apply _ _ _ b _ (fun n => Cert.Mlp.R8.proj_zAt _ _ _ b n) l

theorem ref9_apply (b : Fin 128) (l : Fin 128) : ref9 m c (ix2 b l) = Cert.Mlp.R6.keyAt (zOf m c b) (lnwOf m c) (lnbOf m c) 2048 l.val :=
  ref8_apply m c b l

theorem ref10_apply (b : Fin 128) (l : Fin 128) : ref10 m c (ix2 b l) = Cert.Mlp.R6.weightAt (zOf m c b) l.val :=
  Cert.Mlp.R8.wi_apply _ b _ (fun n => Cert.Mlp.R8.proj_zAt _ _ _ b n) l

theorem final8 : (dats m 0 c).arrAt 8 cfg0.N = ref8 m c := by
  refine (dats m 0 c).arrAt_eq_of_covers 8 _ (by decide +kernel) fun t _ y => ?_
  blk_simp
  rw [after0_8]
  obtain ⟨p, l, rfl⟩ : ∃ (p : Fin 128) (l : Fin 128), y = ix2 p l := ⟨y 0, y 1, by idx_ext⟩
  have hp := p.isLt
  have hl := l.isLt
  have ht : t.val < 1 := t.isLt
  obtain ⟨b, hbs⟩ := row_eq t p
  obtain ⟨e0, e1, e2, e3, e4, e5, e6, e7, e8, e9, e10⟩ := idx t
  have hy : ((cfg0.win 8).blk t).view.emb (ix2 p l) = (ix2 b l : S128x128.Idx) := by
    funext a
    fin_cases a
    all_goals apply Fin.ext
    all_goals blk_simp [e8]
    all_goals (dsimp only [ix2]; try omega)
  refine Eq.trans ?_ ((congrArg (ref8 m c) hy).trans (ref8_apply m c b l)).symm
  exact after8 m c t p l b hbs

theorem final9 : (dats m 0 c).arrAt 9 cfg0.N = ref9 m c := by
  refine (dats m 0 c).arrAt_eq_of_covers 9 _ (by decide +kernel) fun t _ y => ?_
  blk_simp
  rw [after0_9]
  obtain ⟨p, l, rfl⟩ : ∃ (p : Fin 128) (l : Fin 128), y = ix2 p l := ⟨y 0, y 1, by idx_ext⟩
  have hp := p.isLt
  have hl := l.isLt
  have ht : t.val < 1 := t.isLt
  obtain ⟨b, hbs⟩ := row_eq t p
  obtain ⟨e0, e1, e2, e3, e4, e5, e6, e7, e8, e9, e10⟩ := idx t
  have hy : ((cfg0.win 9).blk t).view.emb (ix2 p l) = (ix2 b l : S128x128.Idx) := by
    funext a
    fin_cases a
    all_goals apply Fin.ext
    all_goals blk_simp [e9]
    all_goals (dsimp only [ix2]; try omega)
  refine Eq.trans ?_ ((congrArg (ref9 m c) hy).trans (ref9_apply m c b l)).symm
  exact after9 m c t p l b hbs

theorem final10 : (dats m 0 c).arrAt 10 cfg0.N = ref10 m c := by
  refine (dats m 0 c).arrAt_eq_of_covers 10 _ (by decide +kernel) fun t _ y => ?_
  blk_simp
  rw [after0_10]
  obtain ⟨p, l, rfl⟩ : ∃ (p : Fin 128) (l : Fin 128), y = ix2 p l := ⟨y 0, y 1, by idx_ext⟩
  have hp := p.isLt
  have hl := l.isLt
  have ht : t.val < 1 := t.isLt
  obtain ⟨b, hbs⟩ := row_eq t p
  obtain ⟨e0, e1, e2, e3, e4, e5, e6, e7, e8, e9, e10⟩ := idx t
  have hy : ((cfg0.win 10).blk t).view.emb (ix2 p l) = (ix2 b l : S128x128.Idx) := by
    funext a
    fin_cases a
    all_goals apply Fin.ext
    all_goals blk_simp [e10]
    all_goals (dsimp only [ix2]; try omega)
  refine Eq.trans ?_ ((congrArg (ref10 m c) hy).trans (ref10_apply m c b l)).symm
  exact after10 m c t p l b hbs

end Cert.Mlp.K8
-- ==== Proof.Mlp.Ref9.lean ====
module

public import proofs.«01_k».proof.Proof.Gen.Reference9Ideal.Run
public import proofs.«01_k».proof.Proof.Mlp.Ref5
public import proofs.«01_k».proof.Proof.Mlp.Rot

@[expose] public section

set_option maxRecDepth 16384

noncomputable section

namespace Cert.Mlp.R9

open Cert.Reference9Ideal Cert.Reference9Ideal.Gen Idealize.ShloMosaic Idealize.ShloMosaic.TcCoe Idealize.SL.Sem
open Cert.Mlp.R5 (wcol kvCol)

/-- The reference's normalisation. -/
def norm (x : FVec Ideal S128x1x4096 .f32) (g : FVec Ideal S4096 .f32) : FVec Ideal S128x1x4096 .f32 :=
  mulf (mulf x (broadcastInDim S128x1x4096 ![0, 1, 2] bcast_S128x1x1_S128x1x4096_0_1_2 (Host.rsqrt (addf (Host.divf (broadcastInDim S128x1x1 ![0, 1] bcast_S128x1_S128x1x1_0_1 (Host.reduceAdd (mulf x x) (constant S_ .f32 0x00000000#32) reducesTo_S128x1x4096_S128x1_d2 h_S_)) (broadcastInDim S128x1x1 ![] bcast_S_S128x1x1 (constant S_ .f32 0x45800000#32))) (broadcastInDim S128x1x1 ![] bcast_S_S128x1x1 (constant S_ .f32 0x358637BD#32)))))) (broadcastInDim S128x1x4096 ![0, 1, 2] bcast_S1x1x4096_S128x1x4096_0_1_2 (broadcastInDim S1x1x4096 ![2] bcast_S4096_S1x1x4096_2 g))

theorem norm_apply (x : FVec Ideal S128x1x4096 .f32) (g : FVec Ideal S4096 .f32) (b : Fin 128) (k : Fin 4096) :
    norm x g (ix3 b 0 k) = normRow (fun k => x (ix3 b 0 k)) (fun k => g (ix1 k)) k := by
  unfold norm normRow
  pointwise

/-- The plain projection. -/
def proj (a0 : FVec Ideal S128x1x4096 .f32) (a1 : FVec Ideal S1x4096 .f32) (a2 : FVec Ideal S1x4096x11424 .f32) : FVec Ideal S128x1x11424 .f32 :=
  Host.dotGeneral dot_S128x1x4096_S4096x11424_S128x1x11424_2_0_01_1_n_n none (norm a0 (shapeCast _ a1 shapeCasts_S1x4096_S4096)) (shapeCast _ a2 shapeCasts_S1x4096x11424_S4096x11424)

theorem proj_apply (a0 : FVec Ideal S128x1x4096 .f32) (a1 : FVec Ideal S1x4096 .f32) (a2 : FVec Ideal S1x4096x11424 .f32)
    (b : Fin 128) (n : Fin 11424) :
    proj a0 a1 a2 (ix3 b 0 n) = ∑ k : Fin 4096, normRow (fun k => a0 (ix3 b 0 k)) (fun k => a1 (ix2 0 k)) k * a2 (ix3 0 k n) := by
  unfold proj
  pointwise [norm_apply]

/-- The plain projection's columns of one position. -/
def zAt (a0 : FVec Ideal S128x1x4096 .f32) (a1 : FVec Ideal S1x4096 .f32) (a2 : FVec Ideal S1x4096x11424 .f32) (b : Fin 128) : ℕ → EReal :=
  colAt (fun k => a0 (ix3 b 0 k)) (fun k => a1 (ix2 0 k)) (wcol a2)

theorem proj_zAt (a0 : FVec Ideal S128x1x4096 .f32) (a1 : FVec Ideal S1x4096 .f32) (a2 : FVec Ideal S1x4096x11424 .f32)
    (b : Fin 128) (n : Fin 11424) : proj a0 a1 a2 (ix3 b 0 n) = zAt a0 a1 a2 b n.val := by
  rw [proj_apply]
  unfold zAt colAt wcol
  refine Finset.sum_congr rfl fun k _ => ?_
  rw [dif_pos n.isLt]

/-- The angles of the new position. -/
def angles : FVec Ideal S1x16 .f32 :=
  mulf (broadcastInDim S1x16 ![0, 1] bcast_S1x1_S1x16_0_1 (broadcastInDim S1x1 ![0] bcast_S1_S1x1_0 (sitofp .f32 (addi (broadcastInDim S1 ![] bcast_S_S1 (constantI S_ 32 2048#32)) (iotaInDim S1 32 0))))) (broadcastInDim S1x16 ![1] bcast_S16_S1x16_1 (Host.powf (broadcastInDim S16 ![] bcast_S_S16 (constant S_ .f32 0x48F42400#32)) (Host.divf (Host.negf (sitofp .f32 (iotaInDim S16 32 0))) (broadcastInDim S16 ![] bcast_S_S16 (constant S_ .f32 0x41800000#32)))))

theorem angles_apply (i : Fin 16) : angles (ix2 0 i) = angle 2048 i.val := by
  unfold angles angle
  pointwise
  rfl

def cosT : FVec Ideal S1x1x16 .f32 := broadcastInDim S1x1x16 ![0, 2] bcast_S1x16_S1x1x16_0_2 (Host.cos angles)

def sinT : FVec Ideal S1x1x16 .f32 := broadcastInDim S1x1x16 ![0, 2] bcast_S1x16_S1x1x16_0_2 (Host.sin angles)

theorem cosT_apply (i : Fin 16) : cosT (ix3 0 0 i) = Ideal.cos (angle 2048 i.val) := by
  unfold cosT
  pointwise [angles_apply]

theorem sinT_apply (i : Fin 16) : sinT (ix3 0 0 i) = Ideal.sin (angle 2048 i.val) := by
  unfold sinT
  pointwise [angles_apply]

/-- The partial rotary step of 4 heads. -/
def rope4 (z : FVec Ideal S128x1x4x128 .f32) : FVec Ideal S128x1x4x128 .f32 :=
  concatenate S128x1x4x128 3 [⟨S128x1x4x16, (subf (mulf (extractStridedSlice S128x1x4x16 ![0, 0, 0, 0] z slices_S128x1x4x128_S128x1x4x16_0_0_0_0) (broadcastInDim S128x1x4x16 ![0, 1, 2, 3] bcast_S1x1x1x16_S128x1x4x16_0_1_2_3 (broadcastInDim S1x1x1x16 ![1, 2, 3] bcast_S1x1x16_S1x1x1x16_1_2_3 cosT))) (mulf (extractStridedSlice S128x1x4x16 ![0, 0, 0, 16] z slices_S128x1x4x128_S128x1x4x16_0_0_0_16) (broadcastInDim S128x1x4x16 ![0, 1, 2, 3] bcast_S1x1x1x16_S128x1x4x16_0_1_2_3 (broadcastInDim S1x1x1x16 ![1, 2, 3] bcast_S1x1x16_S1x1x1x16_1_2_3 sinT))) : (⟨S128x1x4x16, .f32⟩ : BufTy).Contents (Elt Ideal))⟩, ⟨S128x1x4x16, (addf (mulf (extractStridedSlice S128x1x4x16 ![0, 0, 0, 0] z slices_S128x1x4x128_S128x1x4x16_0_0_0_0) (broadcastInDim S128x1x4x16 ![0, 1, 2, 3] bcast_S1x1x1x16_S128x1x4x16_0_1_2_3 (broadcastInDim S1x1x1x16 ![1, 2, 3] bcast_S1x1x16_S1x1x1x16_1_2_3 sinT))) (mulf (extractStridedSlice S128x1x4x16 ![0, 0, 0, 16] z slices_S128x1x4x128_S128x1x4x16_0_0_0_16) (broadcastInDim S128x1x4x16 ![0, 1, 2, 3] bcast_S1x1x1x16_S128x1x4x16_0_1_2_3 (broadcastInDim S1x1x1x16 ![1, 2, 3] bcast_S1x1x16_S1x1x1x16_1_2_3 cosT))) : (⟨S128x1x4x16, .f32⟩ : BufTy).Contents (Elt Ideal))⟩, ⟨S128x1x4x96, (extractStridedSlice S128x1x4x96 ![0, 0, 0, 32] z slices_S128x1x4x128_S128x1x4x96_0_0_0_32 : (⟨S128x1x4x96, .f32⟩ : BufTy).Contents (Elt Ideal))⟩] concatenates_S128x1x4x16_S128x1x4x16_S128x1x4x96_S128x1x4x128_d3

theorem rope4_apply (z : FVec Ideal S128x1x4x128 .f32) (b : Fin 128) (h : Fin 4) (l : Fin 128) (x : ℕ → EReal)
    (hx : ∀ n : Fin 128, z (ix4 b 0 h n) = x n.val) :
    rope4 z (ix4 b 0 h l) = ropeAt x (fun i => Ideal.cos (angle 2048 i)) (fun i => Ideal.sin (angle 2048 i)) l.val := by
  unfold rope4
  pointwise [cosT_apply, sinT_apply]
  simp only [hx]
  unfold ropeAt
  have hl := l.isLt
  split_ifs
  all_goals first
    | omega
    | rw [show 16 + (l.val - 16) = l.val by omega]
    | rw [Nat.add_comm 16]
    | rw [show 32 + (l.val - 16 - 16) = l.val by omega]

/-- The partial rotary step of 8 heads. -/
def rope8 (z : FVec Ideal S128x1x8x128 .f32) : FVec Ideal S128x1x8x128 .f32 :=
  concatenate S128x1x8x128 3 [⟨S128x1x8x16, (subf (mulf (extractStridedSlice S128x1x8x16 ![0, 0, 0, 0] z slices_S128x1x8x128_S128x1x8x16_0_0_0_0) (broadcastInDim S128x1x8x16 ![0, 1, 2, 3] bcast_S1x1x1x16_S128x1x8x16_0_1_2_3 (broadcastInDim S1x1x1x16 ![1, 2, 3] bcast_S1x1x16_S1x1x1x16_1_2_3 cosT))) (mulf (extractStridedSlice S128x1x8x16 ![0, 0, 0, 16] z slices_S128x1x8x128_S128x1x8x16_0_0_0_16) (broadcastInDim S128x1x8x16 ![0, 1, 2, 3] bcast_S1x1x1x16_S128x1x8x16_0_1_2_3 (broadcastInDim S1x1x1x16 ![1, 2, 3] bcast_S1x1x16_S1x1x1x16_1_2_3 sinT))) : (⟨S128x1x8x16, .f32⟩ : BufTy).Contents (Elt Ideal))⟩, ⟨S128x1x8x16, (addf (mulf (extractStridedSlice S128x1x8x16 ![0, 0, 0, 0] z slices_S128x1x8x128_S128x1x8x16_0_0_0_0) (broadcastInDim S128x1x8x16 ![0, 1, 2, 3] bcast_S1x1x1x16_S128x1x8x16_0_1_2_3 (broadcastInDim S1x1x1x16 ![1, 2, 3] bcast_S1x1x16_S1x1x1x16_1_2_3 sinT))) (mulf (extractStridedSlice S128x1x8x16 ![0, 0, 0, 16] z slices_S128x1x8x128_S128x1x8x16_0_0_0_16) (broadcastInDim S128x1x8x16 ![0, 1, 2, 3] bcast_S1x1x1x16_S128x1x8x16_0_1_2_3 (broadcastInDim S1x1x1x16 ![1, 2, 3] bcast_S1x1x16_S1x1x1x16_1_2_3 cosT))) : (⟨S128x1x8x16, .f32⟩ : BufTy).Contents (Elt Ideal))⟩, ⟨S128x1x8x96, (extractStridedSlice S128x1x8x96 ![0, 0, 0, 32] z slices_S128x1x8x128_S128x1x8x96_0_0_0_32 : (⟨S128x1x8x96, .f32⟩ : BufTy).Contents (Elt Ideal))⟩] concatenates_S128x1x8x16_S128x1x8x16_S128x1x8x96_S128x1x8x128_d3

theorem rope8_apply (z : FVec Ideal S128x1x8x128 .f32) (b : Fin 128) (h : Fin 8) (l : Fin 128) (x : ℕ → EReal)
    (hx : ∀ n : Fin 128, z (ix4 b 0 h n) = x n.val) :
    rope8 z (ix4 b 0 h l) = ropeAt x (fun i => Ideal.cos (angle 2048 i)) (fun i => Ideal.sin (angle 2048 i)) l.val := by
  unfold rope8
  pointwise [cosT_apply, sinT_apply]
  simp only [hx]
  unfold ropeAt
  have hl := l.isLt
  split_ifs
  all_goals first
    | omega
    | rw [show 16 + (l.val - 16) = l.val by omega]
    | rw [Nat.add_comm 16]
    | rw [show 32 + (l.val - 16 - 16) = l.val by omega]

/-- The partial rotary step of 16 heads. -/
def rope16 (z : FVec Ideal S128x1x16x128 .f32) : FVec Ideal S128x1x16x128 .f32 :=
  concatenate S128x1x16x128 3 [⟨S128x1x16x16, (subf (mulf (extractStridedSlice S128x1x16x16 ![0, 0, 0, 0] z slices_S128x1x16x128_S128x1x16x16_0_0_0_0) (broadcastInDim S128x1x16x16 ![0, 1, 2, 3] bcast_S1x1x1x16_S128x1x16x16_0_1_2_3 (broadcastInDim S1x1x1x16 ![1, 2, 3] bcast_S1x1x16_S1x1x1x16_1_2_3 cosT))) (mulf (extractStridedSlice S128x1x16x16 ![0, 0, 0, 16] z slices_S128x1x16x128_S128x1x16x16_0_0_0_16) (broadcastInDim S128x1x16x16 ![0, 1, 2, 3] bcast_S1x1x1x16_S128x1x16x16_0_1_2_3 (broadcastInDim S1x1x1x16 ![1, 2, 3] bcast_S1x1x16_S1x1x1x16_1_2_3 sinT))) : (⟨S128x1x16x16, .f32⟩ : BufTy).Contents (Elt Ideal))⟩, ⟨S128x1x16x16, (addf (mulf (extractStridedSlice S128x1x16x16 ![0, 0, 0, 0] z slices_S128x1x16x128_S128x1x16x16_0_0_0_0) (broadcastInDim S128x1x16x16 ![0, 1, 2, 3] bcast_S1x1x1x16_S128x1x16x16_0_1_2_3 (broadcastInDim S1x1x1x16 ![1, 2, 3] bcast_S1x1x16_S1x1x1x16_1_2_3 sinT))) (mulf (extractStridedSlice S128x1x16x16 ![0, 0, 0, 16] z slices_S128x1x16x128_S128x1x16x16_0_0_0_16) (broadcastInDim S128x1x16x16 ![0, 1, 2, 3] bcast_S1x1x1x16_S128x1x16x16_0_1_2_3 (broadcastInDim S1x1x1x16 ![1, 2, 3] bcast_S1x1x16_S1x1x1x16_1_2_3 cosT))) : (⟨S128x1x16x16, .f32⟩ : BufTy).Contents (Elt Ideal))⟩, ⟨S128x1x16x96, (extractStridedSlice S128x1x16x96 ![0, 0, 0, 32] z slices_S128x1x16x128_S128x1x16x96_0_0_0_32 : (⟨S128x1x16x96, .f32⟩ : BufTy).Contents (Elt Ideal))⟩] concatenates_S128x1x16x16_S128x1x16x16_S128x1x16x96_S128x1x16x128_d3

theorem rope16_apply (z : FVec Ideal S128x1x16x128 .f32) (b : Fin 128) (h : Fin 16) (l : Fin 128) (x : ℕ → EReal)
    (hx : ∀ n : Fin 128, z (ix4 b 0 h n) = x n.val) :
    rope16 z (ix4 b 0 h l) = ropeAt x (fun i => Ideal.cos (angle 2048 i)) (fun i => Ideal.sin (angle 2048 i)) l.val := by
  unfold rope16
  pointwise [cosT_apply, sinT_apply]
  simp only [hx]
  unfold ropeAt
  have hl := l.isLt
  split_ifs
  all_goals first
    | omega
    | rw [show 16 + (l.val - 16) = l.val by omega]
    | rw [Nat.add_comm 16]
    | rw [show 32 + (l.val - 16 - 16) = l.val by omega]

/-- The partial rotary step of 32 heads. -/
def rope32 (z : FVec Ideal S128x1x32x128 .f32) : FVec Ideal S128x1x32x128 .f32 :=
  concatenate S128x1x32x128 3 [⟨S128x1x32x16, (subf (mulf (extractStridedSlice S128x1x32x16 ![0, 0, 0, 0] z slices_S128x1x32x128_S128x1x32x16_0_0_0_0) (broadcastInDim S128x1x32x16 ![0, 1, 2, 3] bcast_S1x1x1x16_S128x1x32x16_0_1_2_3 (broadcastInDim S1x1x1x16 ![1, 2, 3] bcast_S1x1x16_S1x1x1x16_1_2_3 cosT))) (mulf (extractStridedSlice S128x1x32x16 ![0, 0, 0, 16] z slices_S128x1x32x128_S128x1x32x16_0_0_0_16) (broadcastInDim S128x1x32x16 ![0, 1, 2, 3] bcast_S1x1x1x16_S128x1x32x16_0_1_2_3 (broadcastInDim S1x1x1x16 ![1, 2, 3] bcast_S1x1x16_S1x1x1x16_1_2_3 sinT))) : (⟨S128x1x32x16, .f32⟩ : BufTy).Contents (Elt Ideal))⟩, ⟨S128x1x32x16, (addf (mulf (extractStridedSlice S128x1x32x16 ![0, 0, 0, 0] z slices_S128x1x32x128_S128x1x32x16_0_0_0_0) (broadcastInDim S128x1x32x16 ![0, 1, 2, 3] bcast_S1x1x1x16_S128x1x32x16_0_1_2_3 (broadcastInDim S1x1x1x16 ![1, 2, 3] bcast_S1x1x16_S1x1x1x16_1_2_3 sinT))) (mulf (extractStridedSlice S128x1x32x16 ![0, 0, 0, 16] z slices_S128x1x32x128_S128x1x32x16_0_0_0_16) (broadcastInDim S128x1x32x16 ![0, 1, 2, 3] bcast_S1x1x1x16_S128x1x32x16_0_1_2_3 (broadcastInDim S1x1x1x16 ![1, 2, 3] bcast_S1x1x16_S1x1x1x16_1_2_3 cosT))) : (⟨S128x1x32x16, .f32⟩ : BufTy).Contents (Elt Ideal))⟩, ⟨S128x1x32x96, (extractStridedSlice S128x1x32x96 ![0, 0, 0, 32] z slices_S128x1x32x128_S128x1x32x96_0_0_0_32 : (⟨S128x1x32x96, .f32⟩ : BufTy).Contents (Elt Ideal))⟩] concatenates_S128x1x32x16_S128x1x32x16_S128x1x32x96_S128x1x32x128_d3

theorem rope32_apply (z : FVec Ideal S128x1x32x128 .f32) (b : Fin 128) (h : Fin 32) (l : Fin 128) (x : ℕ → EReal)
    (hx : ∀ n : Fin 128, z (ix4 b 0 h n) = x n.val) :
    rope32 z (ix4 b 0 h l) = ropeAt x (fun i => Ideal.cos (angle 2048 i)) (fun i => Ideal.sin (angle 2048 i)) l.val := by
  unfold rope32
  pointwise [cosT_apply, sinT_apply]
  simp only [hx]
  unfold ropeAt
  have hl := l.isLt
  split_ifs
  all_goals first
    | omega
    | rw [show 16 + (l.val - 16) = l.val by omega]
    | rw [Nat.add_comm 16]
    | rw [show 32 + (l.val - 16 - 16) = l.val by omega]

def segQA (z : FVec Ideal S128x1x11424 .f32) : FVec Ideal S128x2048 .f32 :=
  shapeCast _ (rope16 (shapeCast _ (extractStridedSlice S128x1x2048 ![0, 0, 0] z slices_S128x1x11424_S128x1x2048_0_0_0) shapeCasts_S128x1x2048_S128x1x16x128)) shapeCasts_S128x1x16x128_S128x2048

theorem headsQA_apply (z : FVec Ideal S128x1x11424 .f32) (b : Fin 128) (h : Fin 16) (l : Fin 128) :
    (shapeCast S128x1x16x128 (extractStridedSlice S128x1x2048 ![0, 0, 0] z slices_S128x1x11424_S128x1x2048_0_0_0) shapeCasts_S128x1x2048_S128x1x16x128 : FVec Ideal S128x1x16x128 .f32) (ix4 b 0 h l)
      = z (ix3 b 0 ⟨0 + (h.val * 128 + l.val), by have := h.isLt; have := l.isLt; omega⟩) := by
  pointwise

theorem flatQA_apply (y : FVec Ideal S128x1x16x128 .f32) (b : Fin 128) (h : Fin 16) (l : Fin 128) :
    (shapeCast S128x2048 y shapeCasts_S128x1x16x128_S128x2048 : FVec Ideal S128x2048 .f32) (ix2 b ⟨h.val * 128 + l.val, by have := h.isLt; have := l.isLt; omega⟩)
      = y (ix4 b 0 h l) := by
  pointwise

theorem segQA_apply (z : FVec Ideal S128x1x11424 .f32) (b : Fin 128) (x : ℕ → EReal)
    (hx : ∀ n : Fin 11424, z (ix3 b 0 n) = x n.val) (n : Fin 2048) :
    segQA z (ix2 b n) = projAt x 2048 (0 + n.val) := by
  have hlt : ∀ (h : Fin 16) (l : Fin 128), h.val * 128 + l.val < 2048 := fun h l => by have := h.isLt; have := l.isLt; omega
  have hn := n.isLt
  obtain ⟨h, l, rfl⟩ : ∃ (h : Fin 16) (l : Fin 128), n = ⟨h.val * 128 + l.val, hlt h l⟩ :=
    ⟨⟨n.val / 128, by omega⟩, ⟨n.val % 128, by omega⟩, Fin.ext (by dsimp only; omega)⟩
  have hl := l.isLt
  have hh := h.isLt
  refine (flatQA_apply _ b h l).trans ?_
  refine (rope16_apply _ b h l (fun i => x (0 + (h.val * 128 + i))) fun i => (headsQA_apply z b h i).trans (hx _)).trans ?_
  unfold projAt
  rw [if_neg (by unfold IsValue; dsimp only; omega)]
  dsimp only
  rw [show (0 + (h.val * 128 + l.val)) % 128 = l.val by omega, show (0 + (h.val * 128 + l.val)) / 128 * 128 = 0 + h.val * 128 by omega]
  simp only [Nat.add_assoc]

def segKA (z : FVec Ideal S128x1x11424 .f32) : FVec Ideal S128x512 .f32 :=
  shapeCast _ (rope4 (shapeCast _ (extractStridedSlice S128x1x512 ![0, 0, 2048] z slices_S128x1x11424_S128x1x512_0_0_2048) shapeCasts_S128x1x512_S128x1x4x128)) shapeCasts_S128x1x4x128_S128x512

theorem headsKA_apply (z : FVec Ideal S128x1x11424 .f32) (b : Fin 128) (h : Fin 4) (l : Fin 128) :
    (shapeCast S128x1x4x128 (extractStridedSlice S128x1x512 ![0, 0, 2048] z slices_S128x1x11424_S128x1x512_0_0_2048) shapeCasts_S128x1x512_S128x1x4x128 : FVec Ideal S128x1x4x128 .f32) (ix4 b 0 h l)
      = z (ix3 b 0 ⟨2048 + (h.val * 128 + l.val), by have := h.isLt; have := l.isLt; omega⟩) := by
  pointwise

theorem flatKA_apply (y : FVec Ideal S128x1x4x128 .f32) (b : Fin 128) (h : Fin 4) (l : Fin 128) :
    (shapeCast S128x512 y shapeCasts_S128x1x4x128_S128x512 : FVec Ideal S128x512 .f32) (ix2 b ⟨h.val * 128 + l.val, by have := h.isLt; have := l.isLt; omega⟩)
      = y (ix4 b 0 h l) := by
  pointwise

theorem segKA_apply (z : FVec Ideal S128x1x11424 .f32) (b : Fin 128) (x : ℕ → EReal)
    (hx : ∀ n : Fin 11424, z (ix3 b 0 n) = x n.val) (n : Fin 512) :
    segKA z (ix2 b n) = projAt x 2048 (2048 + n.val) := by
  have hlt : ∀ (h : Fin 4) (l : Fin 128), h.val * 128 + l.val < 512 := fun h l => by have := h.isLt; have := l.isLt; omega
  have hn := n.isLt
  obtain ⟨h, l, rfl⟩ : ∃ (h : Fin 4) (l : Fin 128), n = ⟨h.val * 128 + l.val, hlt h l⟩ :=
    ⟨⟨n.val / 128, by omega⟩, ⟨n.val % 128, by omega⟩, Fin.ext (by dsimp only; omega)⟩
  have hl := l.isLt
  have hh := h.isLt
  refine (flatKA_apply _ b h l).trans ?_
  refine (rope4_apply _ b h l (fun i => x (2048 + (h.val * 128 + i))) fun i => (headsKA_apply z b h i).trans (hx _)).trans ?_
  unfold projAt
  rw [if_neg (by unfold IsValue; dsimp only; omega)]
  dsimp only
  rw [show (2048 + (h.val * 128 + l.val)) % 128 = l.val by omega, show (2048 + (h.val * 128 + l.val)) / 128 * 128 = 2048 + h.val * 128 by omega]
  simp only [Nat.add_assoc]

def segQB (z : FVec Ideal S128x1x11424 .f32) : FVec Ideal S128x2048 .f32 :=
  shapeCast _ (rope16 (shapeCast _ (extractStridedSlice S128x1x2048 ![0, 0, 3072] z slices_S128x1x11424_S128x1x2048_0_0_3072) shapeCasts_S128x1x2048_S128x1x16x128)) shapeCasts_S128x1x16x128_S128x2048

theorem headsQB_apply (z : FVec Ideal S128x1x11424 .f32) (b : Fin 128) (h : Fin 16) (l : Fin 128) :
    (shapeCast S128x1x16x128 (extractStridedSlice S128x1x2048 ![0, 0, 3072] z slices_S128x1x11424_S128x1x2048_0_0_3072) shapeCasts_S128x1x2048_S128x1x16x128 : FVec Ideal S128x1x16x128 .f32) (ix4 b 0 h l)
      = z (ix3 b 0 ⟨3072 + (h.val * 128 + l.val), by have := h.isLt; have := l.isLt; omega⟩) := by
  pointwise

theorem flatQB_apply (y : FVec Ideal S128x1x16x128 .f32) (b : Fin 128) (h : Fin 16) (l : Fin 128) :
    (shapeCast S128x2048 y shapeCasts_S128x1x16x128_S128x2048 : FVec Ideal S128x2048 .f32) (ix2 b ⟨h.val * 128 + l.val, by have := h.isLt; have := l.isLt; omega⟩)
      = y (ix4 b 0 h l) := by
  pointwise

theorem segQB_apply (z : FVec Ideal S128x1x11424 .f32) (b : Fin 128) (x : ℕ → EReal)
    (hx : ∀ n : Fin 11424, z (ix3 b 0 n) = x n.val) (n : Fin 2048) :
    segQB z (ix2 b n) = projAt x 2048 (3072 + n.val) := by
  have hlt : ∀ (h : Fin 16) (l : Fin 128), h.val * 128 + l.val < 2048 := fun h l => by have := h.isLt; have := l.isLt; omega
  have hn := n.isLt
  obtain ⟨h, l, rfl⟩ : ∃ (h : Fin 16) (l : Fin 128), n = ⟨h.val * 128 + l.val, hlt h l⟩ :=
    ⟨⟨n.val / 128, by omega⟩, ⟨n.val % 128, by omega⟩, Fin.ext (by dsimp only; omega)⟩
  have hl := l.isLt
  have hh := h.isLt
  refine (flatQB_apply _ b h l).trans ?_
  refine (rope16_apply _ b h l (fun i => x (3072 + (h.val * 128 + i))) fun i => (headsQB_apply z b h i).trans (hx _)).trans ?_
  unfold projAt
  rw [if_neg (by unfold IsValue; dsimp only; omega)]
  dsimp only
  rw [show (3072 + (h.val * 128 + l.val)) % 128 = l.val by omega, show (3072 + (h.val * 128 + l.val)) / 128 * 128 = 3072 + h.val * 128 by omega]
  simp only [Nat.add_assoc]

def segKB (z : FVec Ideal S128x1x11424 .f32) : FVec Ideal S128x1024 .f32 :=
  shapeCast _ (rope8 (shapeCast _ (extractStridedSlice S128x1x1024 ![0, 0, 5120] z slices_S128x1x11424_S128x1x1024_0_0_5120) shapeCasts_S128x1x1024_S128x1x8x128)) shapeCasts_S128x1x8x128_S128x1024

theorem headsKB_apply (z : FVec Ideal S128x1x11424 .f32) (b : Fin 128) (h : Fin 8) (l : Fin 128) :
    (shapeCast S128x1x8x128 (extractStridedSlice S128x1x1024 ![0, 0, 5120] z slices_S128x1x11424_S128x1x1024_0_0_5120) shapeCasts_S128x1x1024_S128x1x8x128 : FVec Ideal S128x1x8x128 .f32) (ix4 b 0 h l)
      = z (ix3 b 0 ⟨5120 + (h.val * 128 + l.val), by have := h.isLt; have := l.isLt; omega⟩) := by
  pointwise

theorem flatKB_apply (y : FVec Ideal S128x1x8x128 .f32) (b : Fin 128) (h : Fin 8) (l : Fin 128) :
    (shapeCast S128x1024 y shapeCasts_S128x1x8x128_S128x1024 : FVec Ideal S128x1024 .f32) (ix2 b ⟨h.val * 128 + l.val, by have := h.isLt; have := l.isLt; omega⟩)
      = y (ix4 b 0 h l) := by
  pointwise

theorem segKB_apply (z : FVec Ideal S128x1x11424 .f32) (b : Fin 128) (x : ℕ → EReal)
    (hx : ∀ n : Fin 11424, z (ix3 b 0 n) = x n.val) (n : Fin 1024) :
    segKB z (ix2 b n) = projAt x 2048 (5120 + n.val) := by
  have hlt : ∀ (h : Fin 8) (l : Fin 128), h.val * 128 + l.val < 1024 := fun h l => by have := h.isLt; have := l.isLt; omega
  have hn := n.isLt
  obtain ⟨h, l, rfl⟩ : ∃ (h : Fin 8) (l : Fin 128), n = ⟨h.val * 128 + l.val, hlt h l⟩ :=
    ⟨⟨n.val / 128, by omega⟩, ⟨n.val % 128, by omega⟩, Fin.ext (by dsimp only; omega)⟩
  have hl := l.isLt
  have hh := h.isLt
  refine (flatKB_apply _ b h l).trans ?_
  refine (rope8_apply _ b h l (fun i => x (5120 + (h.val * 128 + i))) fun i => (headsKB_apply z b h i).trans (hx _)).trans ?_
  unfold projAt
  rw [if_neg (by unfold IsValue; dsimp only; omega)]
  dsimp only
  rw [show (5120 + (h.val * 128 + l.val)) % 128 = l.val by omega, show (5120 + (h.val * 128 + l.val)) / 128 * 128 = 5120 + h.val * 128 by omega]
  simp only [Nat.add_assoc]

def segQI (z : FVec Ideal S128x1x11424 .f32) : FVec Ideal S128x4096 .f32 :=
  shapeCast _ (rope32 (shapeCast _ (extractStridedSlice S128x1x4096 ![0, 0, 7168] z slices_S128x1x11424_S128x1x4096_0_0_7168) shapeCasts_S128x1x4096_S128x1x32x128)) shapeCasts_S128x1x32x128_S128x4096

theorem headsQI_apply (z : FVec Ideal S128x1x11424 .f32) (b : Fin 128) (h : Fin 32) (l : Fin 128) :
    (shapeCast S128x1x32x128 (extractStridedSlice S128x1x4096 ![0, 0, 7168] z slices_S128x1x11424_S128x1x4096_0_0_7168) shapeCasts_S128x1x4096_S128x1x32x128 : FVec Ideal S128x1x32x128 .f32) (ix4 b 0 h l)
      = z (ix3 b 0 ⟨7168 + (h.val * 128 + l.val), by have := h.isLt; have := l.isLt; omega⟩) := by
  pointwise

theorem flatQI_apply (y : FVec Ideal S128x1x32x128 .f32) (b : Fin 128) (h : Fin 32) (l : Fin 128) :
    (shapeCast S128x4096 y shapeCasts_S128x1x32x128_S128x4096 : FVec Ideal S128x4096 .f32) (ix2 b ⟨h.val * 128 + l.val, by have := h.isLt; have := l.isLt; omega⟩)
      = y (ix4 b 0 h l) := by
  pointwise

theorem segQI_apply (z : FVec Ideal S128x1x11424 .f32) (b : Fin 128) (x : ℕ → EReal)
    (hx : ∀ n : Fin 11424, z (ix3 b 0 n) = x n.val) (n : Fin 4096) :
    segQI z (ix2 b n) = projAt x 2048 (7168 + n.val) := by
  have hlt : ∀ (h : Fin 32) (l : Fin 128), h.val * 128 + l.val < 4096 := fun h l => by have := h.isLt; have := l.isLt; omega
  have hn := n.isLt
  obtain ⟨h, l, rfl⟩ : ∃ (h : Fin 32) (l : Fin 128), n = ⟨h.val * 128 + l.val, hlt h l⟩ :=
    ⟨⟨n.val / 128, by omega⟩, ⟨n.val % 128, by omega⟩, Fin.ext (by dsimp only; omega)⟩
  have hl := l.isLt
  have hh := h.isLt
  refine (flatQI_apply _ b h l).trans ?_
  refine (rope32_apply _ b h l (fun i => x (7168 + (h.val * 128 + i))) fun i => (headsQI_apply z b h i).trans (hx _)).trans ?_
  unfold projAt
  rw [if_neg (by unfold IsValue; dsimp only; omega)]
  dsimp only
  rw [show (7168 + (h.val * 128 + l.val)) % 128 = l.val by omega, show (7168 + (h.val * 128 + l.val)) / 128 * 128 = 7168 + h.val * 128 by omega]
  simp only [Nat.add_assoc]

def segVA (z : FVec Ideal S128x1x11424 .f32) : FVec Ideal S128x512 .f32 :=
  shapeCast _ (extractStridedSlice S128x1x512 ![0, 0, 2560] z slices_S128x1x11424_S128x1x512_0_0_2560) shapeCasts_S128x1x512_S128x512

theorem plainVA_apply (z : FVec Ideal S128x1x11424 .f32) (b : Fin 128) (n : Fin 512) :
    segVA z (ix2 b n) = z (ix3 b 0 ⟨2560 + n.val, by have := n.isLt; omega⟩) := by
  unfold segVA
  pointwise

theorem segVA_apply (z : FVec Ideal S128x1x11424 .f32) (b : Fin 128) (x : ℕ → EReal)
    (hx : ∀ n : Fin 11424, z (ix3 b 0 n) = x n.val) (n : Fin 512) :
    segVA z (ix2 b n) = projAt x 2048 (2560 + n.val) := by
  have hn := n.isLt
  refine ((plainVA_apply z b n).trans (hx _)).trans ?_
  unfold projAt
  rw [if_pos (by unfold IsValue; omega)]

def segVB (z : FVec Ideal S128x1x11424 .f32) : FVec Ideal S128x1024 .f32 :=
  shapeCast _ (extractStridedSlice S128x1x1024 ![0, 0, 6144] z slices_S128x1x11424_S128x1x1024_0_0_6144) shapeCasts_S128x1x1024_S128x1024

theorem plainVB_apply (z : FVec Ideal S128x1x11424 .f32) (b : Fin 128) (n : Fin 1024) :
    segVB z (ix2 b n) = z (ix3 b 0 ⟨6144 + n.val, by have := n.isLt; omega⟩) := by
  unfold segVB
  pointwise

theorem segVB_apply (z : FVec Ideal S128x1x11424 .f32) (b : Fin 128) (x : ℕ → EReal)
    (hx : ∀ n : Fin 11424, z (ix3 b 0 n) = x n.val) (n : Fin 1024) :
    segVB z (ix2 b n) = projAt x 2048 (6144 + n.val) := by
  have hn := n.isLt
  refine ((plainVB_apply z b n).trans (hx _)).trans ?_
  unfold projAt
  rw [if_pos (by unfold IsValue; omega)]

/-- The first result: all rotated heads and the values, in the projection's order. -/
def zq (z : FVec Ideal S128x1x11424 .f32) : FVec Ideal S128x11264 .bf16 :=
  truncf .bf16 (concatenate S128x11264 1 [⟨S128x2048, (segQA z : (⟨S128x2048, .f32⟩ : BufTy).Contents (Elt Ideal))⟩, ⟨S128x512, (segKA z : (⟨S128x512, .f32⟩ : BufTy).Contents (Elt Ideal))⟩, ⟨S128x512, (segVA z : (⟨S128x512, .f32⟩ : BufTy).Contents (Elt Ideal))⟩, ⟨S128x2048, (segQB z : (⟨S128x2048, .f32⟩ : BufTy).Contents (Elt Ideal))⟩, ⟨S128x1024, (segKB z : (⟨S128x1024, .f32⟩ : BufTy).Contents (Elt Ideal))⟩, ⟨S128x1024, (segVB z : (⟨S128x1024, .f32⟩ : BufTy).Contents (Elt Ideal))⟩, ⟨S128x4096, (segQI z : (⟨S128x4096, .f32⟩ : BufTy).Contents (Elt Ideal))⟩] concatenates_S128x2048_S128x512_S128x512_S128x2048_S128x1024_S128x1024_S128x4096_S128x11264_d1) bitsLt_bf16_f32

theorem zq_apply (z : FVec Ideal S128x1x11424 .f32) (b : Fin 128) (x : ℕ → EReal)
    (hx : ∀ n : Fin 11424, z (ix3 b 0 n) = x n.val) (n : Fin 11264) :
    zq z (ix2 b n) = projAt x 2048 n.val := by
  unfold zq
  pointwise
  simp only [segQA_apply z b x hx, segKA_apply z b x hx, segVA_apply z b x hx, segQB_apply z b x hx, segKB_apply z b x hx, segVB_apply z b x hx, segQI_apply z b x hx]
  have hn := n.isLt
  split_ifs
  all_goals exact congrArg (projAt x 2048) (by omega)

/-- The second result: keys and values, and the last index heads. -/
def kv (z : FVec Ideal S128x1x11424 .f32) : FVec Ideal S128x3584 .f32 :=
  concatenate S128x3584 1 [⟨S128x512, (segKA z : (⟨S128x512, .f32⟩ : BufTy).Contents (Elt Ideal))⟩, ⟨S128x512, (segVA z : (⟨S128x512, .f32⟩ : BufTy).Contents (Elt Ideal))⟩, ⟨S128x1024, (segKB z : (⟨S128x1024, .f32⟩ : BufTy).Contents (Elt Ideal))⟩, ⟨S128x1024, (segVB z : (⟨S128x1024, .f32⟩ : BufTy).Contents (Elt Ideal))⟩, ⟨S128x512, (extractStridedSlice S128x512 ![0, 3584] (segQI z) slices_S128x4096_S128x512_0_3584 : (⟨S128x512, .f32⟩ : BufTy).Contents (Elt Ideal))⟩] concatenates_S128x512_S128x512_S128x1024_S128x1024_S128x512_S128x3584_d1

theorem kv_apply (z : FVec Ideal S128x1x11424 .f32) (b : Fin 128) (x : ℕ → EReal)
    (hx : ∀ n : Fin 11424, z (ix3 b 0 n) = x n.val) (n : Fin 3584) :
    kv z (ix2 b n) = projAt x 2048 (kvCol n.val) := by
  unfold kv
  pointwise
  simp only [segKA_apply z b x hx, segVA_apply z b x hx, segKB_apply z b x hx, segVB_apply z b x hx, segQI_apply z b x hx]
  have hn := n.isLt
  unfold kvCol
  split_ifs
  all_goals first
    | omega
    | exact congrArg (projAt x 2048) (by omega)

end Cert.Mlp.R9
-- ==== Proof.Mlp.SampleProjRows.lean ====
module

public import proofs.«01_k».proof.Proof.Gen.Kernel9Ideal.Value
public import proofs.«01_k».proof.Proof.Mlp.Ref9
public import Idealize.ShloMosaic.Lib.Pipeline.ValueKit
public import Idealize.ShloMosaic.Lib.StableHlo.RunRead
public import Idealize.ShloMosaic.Lib.WritesUnit
public import Idealize.ShloMosaic.Lib.VecWindow

@[expose] public section

set_option maxRecDepth 16384

noncomputable section

namespace Cert.Mlp.K9

open Cert.Kernel9Ideal Cert.Kernel9Ideal.Gen Idealize.ShloMosaic Idealize.ShloMosaic.TcCoe Idealize.SL.Sem

theorem pay7_apply (v : FVec Ideal S64x4096 .f32) (g : FVec Ideal S1x4096 .f32) (p : Fin 64) (k : Fin 4096) :
    k0_pay7 (F := Ideal) v g (ix2 p k) = normRow (fun k => v (ix2 p k)) (fun k => g (ix2 0 k)) k := by
  unfold k0_pay7 normRow
  pointwise

/-- The block's matrix product at row `p`, by the column's number. -/
def rowN (y : FVec Ideal S128x512 .f32) (p : Fin 128) (n : ℕ) : EReal := if h : n < 512 then y (ix2 p ⟨n, h⟩) else 0

/-- A table's row `p`, by the lane's number. -/
def rowT (v : FVec Ideal S128x128 .f32) (p : Fin 128) (l : ℕ) : EReal := if h : l < 128 then v (ix2 p ⟨l, h⟩) else 0

theorem pay8_apply (h : FVec Ideal S128x4096 .bf16) (w : FVec Ideal S4096x512 .bf16) (p : Fin 128) (q : Fin 512) :
    k0_pay8 (F := Ideal) h w (ix2 p q) = ∑ k : Fin 4096, h (ix2 p k) * w (ix2 k q) := by
  unfold k0_pay8
  pointwise

theorem pay9_apply (v : FVec Ideal S1x128x128 .f32) (p : Fin 128) (l : Fin 128) : k0_pay9 (F := Ideal) v (ix2 p l) = v (ix3 0 p l) := by
  unfold k0_pay9
  pointwise

theorem pay10_apply (v : FVec Ideal S1x128x128 .f32) (p : Fin 128) (l : Fin 128) : k0_pay10 (F := Ideal) v (ix2 p l) = v (ix3 0 p l) := by
  unfold k0_pay10
  pointwise

theorem pay11_apply (v : FVec Ideal S1x128x128 .f32) (p : Fin 128) (l : Fin 128) : k0_pay11 (F := Ideal) v (ix2 p l) = v (ix3 0 p l) := by
  unfold k0_pay11
  pointwise

/-- A head's lanes rotated by 112 are the lanes 16 further on. -/
theorem roll112 (x : FVec Ideal S128x128 .f32) (p : Fin 128) (l : Fin 128) :
    dynamicRotate 1 112#32 none x rotates_S128x128_d1 (ix2 p l) = rowT x p ((l.val + 16) % 128) := by
  have h : (l.val + 16) % 128 < 128 := Nat.mod_lt _ (by decide)
  unfold rowT
  rw [dif_pos h]
  pointwise
  exact congrArg x (congrArg (ix2 p) (Fin.ext (by dsimp only; omega)))

/-- A head's lanes rotated by 16. -/
theorem roll16 (x : FVec Ideal S128x128 .f32) (p : Fin 128) (l : Fin 128) :
    dynamicRotate 1 16#32 none x rotates_S128x128_d1 (ix2 p l) = rowT x p ((l.val + 112) % 128) := by
  have h : (l.val + 112) % 128 < 128 := Nat.mod_lt _ (by decide)
  unfold rowT
  rw [dif_pos h]
  pointwise
  exact congrArg x (congrArg (ix2 p) (Fin.ext (by dsimp only; omega)))

theorem rowT_fin (v : FVec Ideal S128x128 .f32) (p : Fin 128) (l : Fin 128) : rowT v p l.val = v (ix2 p l) := by
  unfold rowT
  rw [dif_pos l.isLt]

/-- A head rotated by the three tables. -/
def headOf (x C S₁ S₂ : FVec Ideal S128x128 .f32) : FVec Ideal S128x128 .f32 :=
  addf (addf (mulf x C) (mulf (dynamicRotate 1 112#32 none x rotates_S128x128_d1) S₁)) (mulf (dynamicRotate 1 16#32 none x rotates_S128x128_d1) S₂)

theorem headOf_apply (x C S₁ S₂ : FVec Ideal S128x128 .f32) (p : Fin 128) (l : Fin 128) :
    headOf x C S₁ S₂ (ix2 p l) = rollAt (rowT x p) (rowT C p) (rowT S₁ p) (rowT S₂ p) l.val := by
  unfold rollAt
  rw [rowT_fin, rowT_fin, rowT_fin, rowT_fin, ← roll112, ← roll16]
  rfl

/-- Head `a` of the block, as its lanes are numbered in the block's rows. -/
theorem rowT_slice (y : FVec Ideal S128x512 .f32) (x : FVec Ideal S128x128 .f32) (a : ℕ) (ha : a < 4) (p : Fin 128)
    (hx : ∀ (l : Fin 128) (h : a * 128 + l.val < 512), x (ix2 p l) = y (ix2 p ⟨a * 128 + l.val, h⟩)) (l : ℕ) (hl : l < 128) :
    rowT x p l = rowN y p (a * 128 + l) := by
  unfold rowT rowN
  rw [dif_pos hl, dif_pos (by omega)]
  exact hx ⟨l, hl⟩ _

theorem rollAt_congr (x x' C S₁ S₂ : ℕ → EReal) (l : ℕ) (hl : l < 128) (h : ∀ i, i < 128 → x i = x' i) : rollAt x C S₁ S₂ l = rollAt x' C S₁ S₂ l := by
  unfold rollAt
  rw [h l hl, h _ (Nat.mod_lt _ (by decide)), h _ (Nat.mod_lt _ (by decide))]

theorem head_slice (y : FVec Ideal S128x512 .f32) (x C S₁ S₂ : FVec Ideal S128x128 .f32) (a : ℕ) (ha : a < 4) (p : Fin 128)
    (hx : ∀ (l : Fin 128) (h : a * 128 + l.val < 512), x (ix2 p l) = y (ix2 p ⟨a * 128 + l.val, h⟩)) (l : Fin 128) :
    headOf x C S₁ S₂ (ix2 p l) = rollAt (fun i => rowN y p (a * 128 + i)) (rowT C p) (rowT S₁ p) (rowT S₂ p) l.val :=
  (headOf_apply x C S₁ S₂ p l).trans (rollAt_congr _ _ _ _ _ _ l.isLt fun i hi => rowT_slice y x a ha p hx i hi)

/-- Head `a` of a block: its columns' numbers, the product and the tables as the kernel reads them. -/
def headAt (h : FVec Ideal S128x4096 .bf16) (w : FVec Ideal S4096x512 .bf16) (C S₁ S₂ : FVec Ideal S1x128x128 .f32) (p : Fin 128) (a l : ℕ) : EReal :=
  rollAt (fun i => rowN (k0_pay8 (F := Ideal) h w) p (a * 128 + i)) (rowT (k0_pay9 (F := Ideal) C) p) (rowT (k0_pay10 (F := Ideal) S₁) p)
    (rowT (k0_pay11 (F := Ideal) S₂) p) l

section Heads

variable (h : FVec Ideal S128x4096 .bf16) (w : FVec Ideal S4096x512 .bf16) (C S₁ S₂ : FVec Ideal S1x128x128 .f32) (p : Fin 128) (l : Fin 128)

theorem pay12_apply : k0_pay12 (F := Ideal) h w C S₁ S₂ (ix2 p l) = headAt h w C S₁ S₂ p 0 l.val := by
  have e : k0_pay12 (F := Ideal) h w C S₁ S₂
      = headOf (extractStridedSlice S128x128 ![0, 0] (k0_pay8 (F := Ideal) h w) slices_S128x512_o0_0_S128x128) (k0_pay9 (F := Ideal) C) (k0_pay10 (F := Ideal) S₁) (k0_pay11 (F := Ideal) S₂) := by
    unfold k0_pay12 headOf
    rfl
  rw [e]
  unfold headAt
  generalize k0_pay8 (F := Ideal) h w = y
  refine head_slice y _ _ _ _ 0 (by decide) p (fun l _ => ?_) l
  pointwise

theorem pay1_apply : k0_pay1 (F := Ideal) (k0_pay15 (F := Ideal) h w C S₁) (k0_pay16 (F := Ideal) h w S₂) (ix2 p l) = headAt h w C S₁ S₂ p 1 l.val := by
  have e : k0_pay1 (F := Ideal) (k0_pay15 (F := Ideal) h w C S₁) (k0_pay16 (F := Ideal) h w S₂)
      = headOf (extractStridedSlice S128x128 ![0, 128] (k0_pay8 (F := Ideal) h w) slices_S128x512_o0_128_S128x128) (k0_pay9 (F := Ideal) C) (k0_pay10 (F := Ideal) S₁) (k0_pay11 (F := Ideal) S₂) := by
    unfold k0_pay1 k0_pay15 k0_pay16 k0_pay14 headOf
    rfl
  rw [e]
  unfold headAt
  generalize k0_pay8 (F := Ideal) h w = y
  refine head_slice y _ _ _ _ 1 (by decide) p (fun l _ => ?_) l
  pointwise

theorem pay3_apply : k0_pay3 (F := Ideal) (k0_pay8 (F := Ideal) h w) (k0_pay9 (F := Ideal) C) (k0_pay10 (F := Ideal) S₁) (k0_pay11 (F := Ideal) S₂) (ix2 p l)
    = headAt h w C S₁ S₂ p 2 l.val := by
  have e : k0_pay3 (F := Ideal) (k0_pay8 (F := Ideal) h w) (k0_pay9 (F := Ideal) C) (k0_pay10 (F := Ideal) S₁) (k0_pay11 (F := Ideal) S₂)
      = headOf (extractStridedSlice S128x128 ![0, 256] (k0_pay8 (F := Ideal) h w) slices_S128x512_o0_256_S128x128) (k0_pay9 (F := Ideal) C) (k0_pay10 (F := Ideal) S₁) (k0_pay11 (F := Ideal) S₂) := by
    unfold k0_pay3 headOf
    rfl
  rw [e]
  unfold headAt
  generalize k0_pay8 (F := Ideal) h w = y
  refine head_slice y _ _ _ _ 2 (by decide) p (fun l _ => ?_) l
  pointwise

theorem pay5_apply : k0_pay5 (F := Ideal) (k0_pay8 (F := Ideal) h w) (k0_pay9 (F := Ideal) C) (k0_pay10 (F := Ideal) S₁) (k0_pay11 (F := Ideal) S₂) (ix2 p l)
    = headAt h w C S₁ S₂ p 3 l.val := by
  have e : k0_pay5 (F := Ideal) (k0_pay8 (F := Ideal) h w) (k0_pay9 (F := Ideal) C) (k0_pay10 (F := Ideal) S₁) (k0_pay11 (F := Ideal) S₂)
      = headOf (extractStridedSlice S128x128 ![0, 384] (k0_pay8 (F := Ideal) h w) slices_S128x512_o0_384_S128x128) (k0_pay9 (F := Ideal) C) (k0_pay10 (F := Ideal) S₁) (k0_pay11 (F := Ideal) S₂) := by
    unfold k0_pay5 headOf
    rfl
  rw [e]
  unfold headAt
  generalize k0_pay8 (F := Ideal) h w = y
  refine head_slice y _ _ _ _ 3 (by decide) p (fun l _ => ?_) l
  pointwise

theorem pay13_apply : k0_pay13 (F := Ideal) h w C S₁ S₂ (ix2 p l) = headAt h w C S₁ S₂ p 0 l.val := pay12_apply h w C S₁ S₂ p l

theorem pay2_apply : k0_pay2 (F := Ideal) (k0_pay15 (F := Ideal) h w C S₁) (k0_pay16 (F := Ideal) h w S₂) (ix2 p l) = headAt h w C S₁ S₂ p 1 l.val :=
  pay1_apply h w C S₁ S₂ p l

theorem pay4_apply : k0_pay4 (F := Ideal) (k0_pay8 (F := Ideal) h w) (k0_pay9 (F := Ideal) C) (k0_pay10 (F := Ideal) S₁) (k0_pay11 (F := Ideal) S₂) (ix2 p l)
    = headAt h w C S₁ S₂ p 2 l.val := pay3_apply h w C S₁ S₂ p l

theorem pay6_apply : k0_pay6 (F := Ideal) (k0_pay8 (F := Ideal) h w) (k0_pay9 (F := Ideal) C) (k0_pay10 (F := Ideal) S₁) (k0_pay11 (F := Ideal) S₂) (ix2 p l)
    = headAt h w C S₁ S₂ p 3 l.val := pay5_apply h w C S₁ S₂ p l

end Heads

variable (𝒱 : Variants) (c : Dev nD) (bd : Option 𝒱.V) (i : grid0.Coords)
  (arg2 : Memref sig .tc .vmem S128x4096 .f32) (harg2 : arg2.IsWhole) (arg3 : Memref sig .tc .vmem S1x4096 .f32) (harg3 : arg3.IsWhole)
  (arg4 : Memref sig .tc .vmem S4096x512 .bf16) (harg4 : arg4.IsWhole) (arg5 : Memref sig .tc .vmem S1x128x128 .f32) (harg5 : arg5.IsWhole)
  (arg6 : Memref sig .tc .vmem S1x128x128 .f32) (harg6 : arg6.IsWhole) (arg7 : Memref sig .tc .vmem S1x128x128 .f32) (harg7 : arg7.IsWhole)
  (arg8 : Memref sig .tc .vmem S128x512 .bf16) (harg8 : arg8.IsWhole) (arg9 : Memref sig .tc .vmem S128x512 .f32) (harg9 : arg9.IsWhole)
  (arg10 : Memref sig .tc .vmem S128x4096 .bf16) (harg10 : arg10.IsWhole) (k0_h1 : k0_cond1 i = 1#1)
  (X2 : BufTy.Contents (Elt Ideal) arg2.view.ty) (X3 : BufTy.Contents (Elt Ideal) arg3.view.ty)

theorem tripL_eq (k : Fin k0_t1_loop.trips) :
    tripL_k0_t1 (F := Ideal) 𝒱 c bd i arg2 harg2 arg3 harg3 arg4 harg4 arg5 harg5 arg6 harg6 arg7 harg7 arg8 harg8 arg9 harg9 arg10 harg10 k0_h1 X2 X3 k
      = [⟨Rect.unit (s := S128x4096) (k0_off1 k) S64x4096.size (k0_off1_inb i k k0_h1),
          k0_pay7 (F := Ideal) (View.readAt (Elt Ideal) arg2.view (Rect.unit (s := S128x4096) (k0_off1 k) S64x4096.size (k0_off1_inb i k k0_h1)).toLoadRect X2)
            (View.readAt (Elt Ideal) arg3.view (Rect.unit (s := S1x4096) ![0, 0] S1x4096.size inb_S1x4096_S1x4096_0_0).toLoadRect X3)⟩] := by
  unfold tripL_k0_t1 trip_k0_t1
  dsimp only

/-- After `n` trips the first `64 n` rows of the scratch are the normalised rows of the block. -/
theorem rows (f : BufTy.Contents (Elt Ideal) VS0_0.ty) (n : ℕ) (hn : n ≤ k0_t1_loop.trips) (r : Fin 128) (hr : r.val < 64 * n) (k : Fin 4096) :
    VS0_0.read (Elt Ideal) (VS0_0.writes (Elt Ideal) f (pb_k0_t1 (F := Ideal) 𝒱 c bd i arg2 harg2 arg3 harg3 arg4 harg4 arg5 harg5 arg6 harg6 arg7 harg7 arg8 harg8 arg9 harg9 arg10 harg10 k0_h1 X2 X3 n)) (ix2 r k)
      = normRow (fun k => arg2.view.read (Elt Ideal) X2 (ix2 r k)) (fun k => arg3.view.read (Elt Ideal) X3 (ix2 0 k)) k := by
  induction n with
  | zero => omega
  | succ n ih =>
    rw [pb_k0_t1_succ 𝒱 c bd i arg2 harg2 arg3 harg3 arg4 harg4 arg5 harg5 arg6 harg6 arg7 harg7 arg8 harg8 arg9 harg9 arg10 harg10 k0_h1 X2 X3 ⟨n, hn⟩, tripL_eq, List.singleton_append]
    by_cases h : r.val < 64 * n
    · exact (View.read_writes_cons_rows_of_not_mem VS0_0 f _ _ _ (ix2 r k) (k0_off1_eq ⟨n, hn⟩) (W := 64) rfl (Or.inl h)).trans
        (ih (by omega) h)
    · have hlt : r.val - 64 * n < 64 := by omega
      refine (View.read_writes_cons_rows_of_mem VS0_0 f _ _ _ (ix2 r k) (ix2 (⟨r.val - 64 * n, hlt⟩ : Fin 64) k) (k0_off1_eq ⟨n, hn⟩) ?_ rfl).trans ?_
      · show r.val = 64 * n + (r.val - 64 * n)
        omega
      · refine (pay7_apply _ _ _ k).trans ?_
        have e2 : ∀ k, View.readAt (Elt Ideal) arg2.view (Rect.unit (s := S128x4096) (k0_off1 ⟨n, hn⟩) S64x4096.size (k0_off1_inb i ⟨n, hn⟩ k0_h1)).toLoadRect X2 (ix2 (⟨r.val - 64 * n, hlt⟩ : Fin 64) k)
            = arg2.view.read (Elt Ideal) X2 (ix2 r k) := fun k => by
          refine congrArg (arg2.view.read (Elt Ideal) X2) (funext fun a => Fin.ext ?_)
          have h := congrFun (k0_off1_eq ⟨n, hn⟩) a
          fin_cases a
          · show (k0_off1 ⟨n, hn⟩ 0) + 1 * (r.val - 64 * n) = r.val
            have h' : k0_off1 ⟨n, hn⟩ 0 = 64 * n := h
            omega
          · show (k0_off1 ⟨n, hn⟩ 1) + 1 * k.val = k.val
            have h' : k0_off1 ⟨n, hn⟩ 1 = 0 := h
            omega
        have e3 : ∀ k, View.readAt (Elt Ideal) arg3.view (Rect.unit (s := S1x4096) ![0, 0] S1x4096.size inb_S1x4096_S1x4096_0_0).toLoadRect X3 (ix2 0 k)
            = arg3.view.read (Elt Ideal) X3 (ix2 0 k) := fun k => congrFun (View.readAt_full arg3.view X3 inb_S1x4096_S1x4096_0_0) _
        exact congrArg₂ (fun x g => normRow x g k) (funext e2) (funext e3)

end Cert.Mlp.K9
-- ==== Proof.Mlp.SampleProjCases.lean ====
module

public import proofs.«01_k».proof.Proof.Gen.Kernel9Ideal.Value
public import proofs.«01_k».proof.Proof.Mlp.Ref9
public import proofs.«01_k».proof.Proof.Mlp.SampleProjRows
public import Idealize.ShloMosaic.Lib.Pipeline.ValueKit
public import Idealize.ShloMosaic.Lib.StableHlo.RunRead
public import Idealize.ShloMosaic.Lib.WritesUnit

@[expose] public section

set_option maxRecDepth 16384

noncomputable section

namespace Cert.Mlp.K9

open Cert.Kernel9Ideal Cert.Kernel9Ideal.Gen Idealize.ShloMosaic Idealize.ShloMosaic.TcCoe Idealize.SL.Sem

theorem trips_eq : k0_t1_loop.trips = 2 := by decide +kernel

/-- A column of a row times the weights' block, by the column's number. -/
def colN (r : Fin 4096 → EReal) (w : FVec Ideal S4096x512 .bf16) (n : ℕ) : EReal := if h : n < 512 then ∑ k : Fin 4096, r k * w (ix2 k ⟨n, h⟩) else 0

/-- A table block's row, by the lane's number. -/
def tabN (v : FVec Ideal S1x128x128 .f32) (p : Fin 128) (l : ℕ) : EReal := if h : l < 128 then v (ix3 0 p ⟨l, h⟩) else 0

/-- What the kernel leaves at row `p`, column `q` of a block. -/
def projEntry (r : Fin 4096 → EReal) (w : FVec Ideal S4096x512 .bf16) (C S₁ S₂ : FVec Ideal S1x128x128 .f32) (p : Fin 128) (q : ℕ) : EReal :=
  rollAt (fun i => colN r w (q / 128 * 128 + i)) (tabN C p) (tabN S₁ p) (tabN S₂ p) (q % 128)

theorem headAt_eq (h : FVec Ideal S128x4096 .bf16) (w : FVec Ideal S4096x512 .bf16) (C S₁ S₂ : FVec Ideal S1x128x128 .f32) (p : Fin 128)
    (r : Fin 4096 → EReal) (hr : ∀ k, h (ix2 p k) = r k) (q : ℕ) :
    headAt h w C S₁ S₂ p (q / 128) (q % 128) = projEntry r w C S₁ S₂ p q := by
  have eN : rowN (k0_pay8 (F := Ideal) h w) p = colN r w := by
    funext n
    unfold rowN colN
    by_cases hn : n < 512
    · rw [dif_pos hn, dif_pos hn, pay8_apply]
      exact Finset.sum_congr rfl fun k _ => congrArg (· * w (ix2 k ⟨n, hn⟩)) (hr k)
    · rw [dif_neg hn, dif_neg hn]
  have e9 : rowT (k0_pay9 (F := Ideal) C) p = tabN C p := by
    funext l
    unfold rowT tabN
    by_cases hl : l < 128
    · rw [dif_pos hl, dif_pos hl, pay9_apply]
    · rw [dif_neg hl, dif_neg hl]
  have e10 : rowT (k0_pay10 (F := Ideal) S₁) p = tabN S₁ p := by
    funext l
    unfold rowT tabN
    by_cases hl : l < 128
    · rw [dif_pos hl, dif_pos hl, pay10_apply]
    · rw [dif_neg hl, dif_neg hl]
  have e11 : rowT (k0_pay11 (F := Ideal) S₂) p = tabN S₂ p := by
    funext l
    unfold rowT tabN
    by_cases hl : l < 128
    · rw [dif_pos hl, dif_pos hl, pay11_apply]
    · rw [dif_neg hl, dif_neg hl]
  unfold headAt projEntry
  rw [eN, e9, e10, e11]

/-- Under the newest of the writes at columns from `o`. -/
theorem canon_mem {e : EltTy} (o : ℕ) (inb : ∀ a, (![0, o] : Fin 2 → ℕ) a + S128x128.size a ≤ S128x512.size a) (w : S128x128.Idx → Elt Ideal e)
    (L : List (View.Piece (Elt Ideal) S128x512 e)) (p : Fin 128) (q : Fin 512) (h : o ≤ q.val) (hl : q.val - o < 128) :
    View.canon (⟨Rect.unit (s := S128x512) ![0, o] S128x128.size inb, w⟩ :: L) (ix2 p q) = w (ix2 p (⟨q.val - o, hl⟩ : Fin 128)) := by
  refine Eq.trans (congrArg _ ?_) (View.canon_cons_emb (Rect.unit (s := S128x512) ![0, o] S128x128.size inb) w L (ix2 p (⟨q.val - o, hl⟩ : Fin 128)))
  funext a
  fin_cases a
  · apply Fin.ext
    show p.val = 0 + 1 * p.val
    omega
  · apply Fin.ext
    show q.val = o + 1 * (q.val - o)
    omega

/-- Before the newest write's columns. -/
theorem canon_not_mem {e : EltTy} (o : ℕ) (inb : ∀ a, (![0, o] : Fin 2 → ℕ) a + S128x128.size a ≤ S128x512.size a) (w : S128x128.Idx → Elt Ideal e)
    (L : List (View.Piece (Elt Ideal) S128x512 e)) (p : Fin 128) (q : Fin 512) (h : q.val < o) :
    View.canon (⟨Rect.unit (s := S128x512) ![0, o] S128x128.size inb, w⟩ :: L) (ix2 p q) = View.canon L (ix2 p q) := by
  refine View.canon_cons_of_not_mem _ L ?_
  rw [Rect.mem_set_unit]
  intro hall
  have h1 : o ≤ q.val := (hall 1).1
  omega

/-- A block written head by head, read at one entry. -/
theorem read_heads {e : EltTy} (w0 w1 w2 w3 : S128x128.Idx → Elt Ideal e) (p : Fin 128) (q : Fin 512) (g : ℕ → ℕ → Elt Ideal e)
    (h0 : ∀ l : Fin 128, w0 (ix2 p l) = g 0 l.val) (h1 : ∀ l : Fin 128, w1 (ix2 p l) = g 1 l.val)
    (h2 : ∀ l : Fin 128, w2 (ix2 p l) = g 2 l.val) (h3 : ∀ l : Fin 128, w3 (ix2 p l) = g 3 l.val) :
    View.canon (Val := Elt Ideal) (s := S128x512) (e := e)
      [⟨Rect.unit (s := S128x512) ![0, 384] S128x128.size inb_S128x512_S128x128_0_384, w3⟩,
       ⟨Rect.unit (s := S128x512) ![0, 256] S128x128.size inb_S128x512_S128x128_0_256, w2⟩,
       ⟨Rect.unit (s := S128x512) ![0, 128] S128x128.size inb_S128x512_S128x128_0_128, w1⟩,
       ⟨Rect.unit (s := S128x512) ![0, 0] S128x128.size inb_S128x512_S128x128_0_0, w0⟩] (ix2 p q) = g (q.val / 128) (q.val % 128) := by
  have hq := q.isLt
  by_cases c3 : 384 ≤ q.val
  · refine (canon_mem 384 _ w3 _ p q c3 (by omega)).trans ((h3 _).trans ?_)
    rw [show q.val / 128 = 3 by omega, show q.val % 128 = q.val - 384 by omega]
  refine (canon_not_mem 384 _ w3 _ p q (by omega)).trans ?_
  by_cases c2 : 256 ≤ q.val
  · refine (canon_mem 256 _ w2 _ p q c2 (by omega)).trans ((h2 _).trans ?_)
    rw [show q.val / 128 = 2 by omega, show q.val % 128 = q.val - 256 by omega]
  refine (canon_not_mem 256 _ w2 _ p q (by omega)).trans ?_
  by_cases c1 : 128 ≤ q.val
  · refine (canon_mem 128 _ w1 _ p q c1 (by omega)).trans ((h1 _).trans ?_)
    rw [show q.val / 128 = 1 by omega, show q.val % 128 = q.val - 128 by omega]
  refine (canon_not_mem 128 _ w1 _ p q (by omega)).trans ?_
  refine (canon_mem 0 _ w0 _ p q (Nat.zero_le _) (by omega)).trans ((h0 _).trans ?_)
  rw [show q.val / 128 = 0 by omega, show q.val % 128 = q.val - 0 by omega]

theorem heads6 (h : FVec Ideal S128x4096 .bf16) (w : FVec Ideal S4096x512 .bf16) (C S₁ S₂ : FVec Ideal S1x128x128 .f32) (p : Fin 128) (q : Fin 512) :
    View.canon (Val := Elt Ideal) (s := S128x512) (e := .bf16)
      [⟨Rect.unit (s := S128x512) ![0, 384] S128x128.size inb_S128x512_S128x128_0_384, k0_pay6 (F := Ideal) (k0_pay8 (F := Ideal) h w) (k0_pay9 (F := Ideal) C) (k0_pay10 (F := Ideal) S₁) (k0_pay11 (F := Ideal) S₂)⟩,
       ⟨Rect.unit (s := S128x512) ![0, 256] S128x128.size inb_S128x512_S128x128_0_256, k0_pay4 (F := Ideal) (k0_pay8 (F := Ideal) h w) (k0_pay9 (F := Ideal) C) (k0_pay10 (F := Ideal) S₁) (k0_pay11 (F := Ideal) S₂)⟩,
       ⟨Rect.unit (s := S128x512) ![0, 128] S128x128.size inb_S128x512_S128x128_0_128, k0_pay2 (F := Ideal) (k0_pay15 (F := Ideal) h w C S₁) (k0_pay16 (F := Ideal) h w S₂)⟩,
       ⟨Rect.unit (s := S128x512) ![0, 0] S128x128.size inb_S128x512_S128x128_0_0, k0_pay13 (F := Ideal) h w C S₁ S₂⟩] (ix2 p q)
      = headAt h w C S₁ S₂ p (q.val / 128) (q.val % 128) := by
  have h0 := pay13_apply h w C S₁ S₂ p
  have h1 := pay2_apply h w C S₁ S₂ p
  have h2 := pay4_apply h w C S₁ S₂ p
  have h3 := pay6_apply h w C S₁ S₂ p
  revert h0 h1 h2 h3
  generalize headAt h w C S₁ S₂ p = g
  generalize k0_pay13 (F := Ideal) h w C S₁ S₂ = w0
  generalize k0_pay2 (F := Ideal) (k0_pay15 (F := Ideal) h w C S₁) (k0_pay16 (F := Ideal) h w S₂) = w1
  generalize k0_pay4 (F := Ideal) (k0_pay8 (F := Ideal) h w) (k0_pay9 (F := Ideal) C) (k0_pay10 (F := Ideal) S₁) (k0_pay11 (F := Ideal) S₂) = w2
  generalize k0_pay6 (F := Ideal) (k0_pay8 (F := Ideal) h w) (k0_pay9 (F := Ideal) C) (k0_pay10 (F := Ideal) S₁) (k0_pay11 (F := Ideal) S₂) = w3
  intro h0 h1 h2 h3
  exact read_heads (e := .bf16) w0 w1 w2 w3 p q g h0 h1 h2 h3

theorem heads7 (h : FVec Ideal S128x4096 .bf16) (w : FVec Ideal S4096x512 .bf16) (C S₁ S₂ : FVec Ideal S1x128x128 .f32) (p : Fin 128) (q : Fin 512) :
    View.canon (Val := Elt Ideal) (s := S128x512) (e := .f32)
      [⟨Rect.unit (s := S128x512) ![0, 384] S128x128.size inb_S128x512_S128x128_0_384, k0_pay5 (F := Ideal) (k0_pay8 (F := Ideal) h w) (k0_pay9 (F := Ideal) C) (k0_pay10 (F := Ideal) S₁) (k0_pay11 (F := Ideal) S₂)⟩,
       ⟨Rect.unit (s := S128x512) ![0, 256] S128x128.size inb_S128x512_S128x128_0_256, k0_pay3 (F := Ideal) (k0_pay8 (F := Ideal) h w) (k0_pay9 (F := Ideal) C) (k0_pay10 (F := Ideal) S₁) (k0_pay11 (F := Ideal) S₂)⟩,
       ⟨Rect.unit (s := S128x512) ![0, 128] S128x128.size inb_S128x512_S128x128_0_128, k0_pay1 (F := Ideal) (k0_pay15 (F := Ideal) h w C S₁) (k0_pay16 (F := Ideal) h w S₂)⟩,
       ⟨Rect.unit (s := S128x512) ![0, 0] S128x128.size inb_S128x512_S128x128_0_0, k0_pay12 (F := Ideal) h w C S₁ S₂⟩] (ix2 p q)
      = headAt h w C S₁ S₂ p (q.val / 128) (q.val % 128) := by
  have h0 := pay12_apply h w C S₁ S₂ p
  have h1 := pay1_apply h w C S₁ S₂ p
  have h2 := pay3_apply h w C S₁ S₂ p
  have h3 := pay5_apply h w C S₁ S₂ p
  revert h0 h1 h2 h3
  generalize headAt h w C S₁ S₂ p = g
  generalize k0_pay12 (F := Ideal) h w C S₁ S₂ = w0
  generalize k0_pay1 (F := Ideal) (k0_pay15 (F := Ideal) h w C S₁) (k0_pay16 (F := Ideal) h w S₂) = w1
  generalize k0_pay3 (F := Ideal) (k0_pay8 (F := Ideal) h w) (k0_pay9 (F := Ideal) C) (k0_pay10 (F := Ideal) S₁) (k0_pay11 (F := Ideal) S₂) = w2
  generalize k0_pay5 (F := Ideal) (k0_pay8 (F := Ideal) h w) (k0_pay9 (F := Ideal) C) (k0_pay10 (F := Ideal) S₁) (k0_pay11 (F := Ideal) S₂) = w3
  intro h0 h1 h2 h3
  exact read_heads (e := .f32) w0 w1 w2 w3 p q g h0 h1 h2 h3

section Cases

variable (c : Dev nD) (i : grid0.Coords)
  (arg2 : Memref sig .tc .vmem S128x4096 .f32) (harg2 : arg2.IsWhole) (arg3 : Memref sig .tc .vmem S1x4096 .f32) (harg3 : arg3.IsWhole)
  (arg4 : Memref sig .tc .vmem S4096x512 .bf16) (harg4 : arg4.IsWhole) (arg5 : Memref sig .tc .vmem S1x128x128 .f32) (harg5 : arg5.IsWhole)
  (arg6 : Memref sig .tc .vmem S1x128x128 .f32) (harg6 : arg6.IsWhole) (arg7 : Memref sig .tc .vmem S1x128x128 .f32) (harg7 : arg7.IsWhole)
  (arg8 : Memref sig .tc .vmem S128x512 .bf16) (harg8 : arg8.IsWhole) (arg9 : Memref sig .tc .vmem S128x512 .f32) (harg9 : arg9.IsWhole)
  (x0 : FVec Ideal S128x4096 .f32) (x1 : FVec Ideal S1x4096 .f32) (x2 : FVec Ideal S4096x512 .bf16)
  (x3 x4 x5 : FVec Ideal S1x128x128 .f32)

theorem filled (hc0 : cond0_0 i) (r : Fin 128) (k : Fin 4096) :
    VS0_0.read (Elt Ideal) (VS0_0.writes (Elt Ideal) VS0_0.junk (pb_k0_t1 (F := Ideal) Variants.none c none i arg2 harg2 arg3 harg3 arg4 harg4 arg5 harg5 arg6 harg6 arg7 harg7 arg8 harg8 arg9 harg9 scM0_0 (Memref.isWhole_whole _) hc0 (harg2.unread x0) (harg3.unread x1) k0_t1_loop.trips)) (ix2 r k)
      = normRow (fun k => x0 (ix2 r k)) (fun k => x1 (ix2 0 k)) k := by
  have hr := r.isLt
  refine (rows Variants.none c none i arg2 harg2 arg3 harg3 arg4 harg4 arg5 harg5 arg6 harg6 arg7 harg7 arg8 harg8 arg9 harg9 scM0_0 (Memref.isWhole_whole _) hc0 _ _ _ _ le_rfl r (by rw [trips_eq]; omega) k).trans ?_
  rw [harg2.read_unread, harg3.read_unread]

/-- The scratch after a point that fills it. -/
theorem sout_A (hc0 : cond0_0 i) (r : Fin 128) (k : Fin 4096) :
    sout0_A_0 (F := Ideal) c i arg2 harg2 arg3 harg3 arg4 harg4 arg5 harg5 arg6 harg6 arg7 harg7 arg8 harg8 arg9 harg9 scM0_0 (Memref.isWhole_whole _) hc0 x0 x1 x2 x3 x4 x5 (ix2 r k)
      = normRow (fun k => x0 (ix2 r k)) (fun k => x1 (ix2 0 k)) k := by
  refine Eq.trans ?_ (filled c i arg2 harg2 arg3 harg3 arg4 harg4 arg5 harg5 arg6 harg6 arg7 harg7 arg8 harg8 arg9 harg9 x0 x1 hc0 r k)
  unfold sout0_A_0 kernelRun0_A
  rfl

theorem out_A_6 (hc0 : cond0_0 i) (p : Fin 128) (q : Fin 512) :
    out0_A_6 (F := Ideal) c i arg2 harg2 arg3 harg3 arg4 harg4 arg5 harg5 arg6 harg6 arg7 harg7 arg8 harg8 arg9 harg9 scM0_0 (Memref.isWhole_whole _) hc0 x0 x1 x2 x3 x4 x5 (ix2 p q)
      = projEntry (normRow (fun k => x0 (ix2 p k)) (fun k => x1 (ix2 0 k))) x2 x3 x4 x5 p q.val := by
  frame_out
  have h : ∀ k : Fin 4096, ((View.whole cc0_scratch0).readCov (pb_k0_t1 (F := Ideal) Variants.none c none i arg2 harg2 arg3 harg3 arg4 harg4 arg5 harg5 arg6 harg6 arg7 harg7 arg8 harg8 arg9 harg9 scM0_0 (Memref.isWhole_whole _) hc0 (harg2.unread x0) (harg3.unread x1) k0_t1_loop.trips)
      (Rect.unit (s := S128x4096) ![0, 0] ![128, 4096] inb_S128x4096_S128x4096_0_0).toLoadRect : FVec Ideal S128x4096 .bf16) (ix2 p k) = normRow (fun k => x0 (ix2 p k)) (fun k => x1 (ix2 0 k)) k := fun k =>
    (congrFun (View.readAt_full VS0_0 _ inb_S128x4096_S128x4096_0_0) _).trans (filled c i arg2 harg2 arg3 harg3 arg4 harg4 arg5 harg5 arg6 harg6 arg7 harg7 arg8 harg8 arg9 harg9 x0 x1 hc0 p k)
  exact (heads6 _ x2 x3 x4 x5 p q).trans (headAt_eq _ x2 x3 x4 x5 p _ h q.val)

theorem out_A_7 (hc0 : cond0_0 i) (p : Fin 128) (q : Fin 512) :
    out0_A_7 (F := Ideal) c i arg2 harg2 arg3 harg3 arg4 harg4 arg5 harg5 arg6 harg6 arg7 harg7 arg8 harg8 arg9 harg9 scM0_0 (Memref.isWhole_whole _) hc0 x0 x1 x2 x3 x4 x5 (ix2 p q)
      = projEntry (normRow (fun k => x0 (ix2 p k)) (fun k => x1 (ix2 0 k))) x2 x3 x4 x5 p q.val := by
  frame_out
  have h : ∀ k : Fin 4096, ((View.whole cc0_scratch0).readCov (pb_k0_t1 (F := Ideal) Variants.none c none i arg2 harg2 arg3 harg3 arg4 harg4 arg5 harg5 arg6 harg6 arg7 harg7 arg8 harg8 arg9 harg9 scM0_0 (Memref.isWhole_whole _) hc0 (harg2.unread x0) (harg3.unread x1) k0_t1_loop.trips)
      (Rect.unit (s := S128x4096) ![0, 0] ![128, 4096] inb_S128x4096_S128x4096_0_0).toLoadRect : FVec Ideal S128x4096 .bf16) (ix2 p k) = normRow (fun k => x0 (ix2 p k)) (fun k => x1 (ix2 0 k)) k := fun k =>
    (congrFun (View.readAt_full VS0_0 _ inb_S128x4096_S128x4096_0_0) _).trans (filled c i arg2 harg2 arg3 harg3 arg4 harg4 arg5 harg5 arg6 harg6 arg7 harg7 arg8 harg8 arg9 harg9 x0 x1 hc0 p k)
  exact (heads7 _ x2 x3 x4 x5 p q).trans (headAt_eq _ x2 x3 x4 x5 p _ h q.val)

theorem out_B_6 (hc0 : ¬cond0_0 i) (xs0 : FVec Ideal S128x4096 .bf16) (p : Fin 128) (q : Fin 512)
    (r : Fin 4096 → EReal) (hs : ∀ k, xs0 (ix2 p k) = r k) :
    out0_B_6 (F := Ideal) c i arg2 harg2 arg3 harg3 arg4 harg4 arg5 harg5 arg6 harg6 arg7 harg7 arg8 harg8 arg9 harg9 scM0_0 (Memref.isWhole_whole _) hc0 x0 x1 x2 x3 x4 x5 xs0 (ix2 p q) = projEntry r x2 x3 x4 x5 p q.val := by
  frame_out
  have e : scM0_0.view.read (Elt Ideal) (Memref.IsWhole.unread (Val := Elt Ideal) (m := scM0_0) (Memref.isWhole_whole _) xs0) = xs0 :=
    Memref.IsWhole.read_unread (Val := Elt Ideal) (m := scM0_0) (Memref.isWhole_whole _) xs0
  have h : ∀ k : Fin 4096, (scM0_0.view.read (Elt Ideal) (Memref.IsWhole.unread (Val := Elt Ideal) (m := scM0_0) (Memref.isWhole_whole _) xs0) : FVec Ideal S128x4096 .bf16) (ix2 p k)
      = r k := fun k => (congrFun e _).trans (hs k)
  exact (heads6 _ x2 x3 x4 x5 p q).trans (headAt_eq _ x2 x3 x4 x5 p _ h q.val)

theorem out_B_7 (hc0 : ¬cond0_0 i) (xs0 : FVec Ideal S128x4096 .bf16) (p : Fin 128) (q : Fin 512)
    (r : Fin 4096 → EReal) (hs : ∀ k, xs0 (ix2 p k) = r k) :
    out0_B_7 (F := Ideal) c i arg2 harg2 arg3 harg3 arg4 harg4 arg5 harg5 arg6 harg6 arg7 harg7 arg8 harg8 arg9 harg9 scM0_0 (Memref.isWhole_whole _) hc0 x0 x1 x2 x3 x4 x5 xs0 (ix2 p q) = projEntry r x2 x3 x4 x5 p q.val := by
  frame_out
  have e : scM0_0.view.read (Elt Ideal) (Memref.IsWhole.unread (Val := Elt Ideal) (m := scM0_0) (Memref.isWhole_whole _) xs0) = xs0 :=
    Memref.IsWhole.read_unread (Val := Elt Ideal) (m := scM0_0) (Memref.isWhole_whole _) xs0
  have h : ∀ k : Fin 4096, (scM0_0.view.read (Elt Ideal) (Memref.IsWhole.unread (Val := Elt Ideal) (m := scM0_0) (Memref.isWhole_whole _) xs0) : FVec Ideal S128x4096 .bf16) (ix2 p k)
      = r k := fun k => (congrFun e _).trans (hs k)
  exact (heads7 _ x2 x3 x4 x5 p q).trans (headAt_eq _ x2 x3 x4 x5 p _ h q.val)

end Cases

end Cert.Mlp.K9
-- ==== Proof.Mlp.SampleProjTables.lean ====
module

public import proofs.«01_k».proof.Proof.Gen.Kernel9Ideal.Value
public import proofs.«01_k».proof.Proof.Mlp.Ref9
public import proofs.«01_k».proof.Proof.Mlp.ProjTables
public import Idealize.ShloMosaic.Lib.Pipeline.ValueKit
public import Idealize.ShloMosaic.Lib.StableHlo.RunRead

@[expose] public section

set_option maxRecDepth 16384

noncomputable section

namespace Cert.Mlp.K9

open Cert.Kernel9Ideal Cert.Kernel9Ideal.Gen Idealize.ShloMosaic Idealize.ShloMosaic.TcCoe Idealize.SL.Sem
open Cert.Mlp.K5 (cosN sin1N sin2N)

/-- The angles of every position and frequency. -/
def angles : FVec Ideal S128x16 .f32 :=
  mulf (broadcastInDim S128x16 ![0, 1] bcast_S128x1_S128x16_0_1 (broadcastInDim S128x1 ![0] bcast_S128_S128x1_0 (sitofp .f32 (broadcastInDim S128 ![] bcast_S_S128 (constantI S_ 32 2048#32)))))
    (broadcastInDim S128x16 ![0, 1] bcast_S1x16_S128x16_0_1 (broadcastInDim S1x16 ![1] bcast_S16_S1x16_1
      (Host.powf (broadcastInDim S16 ![] bcast_S_S16 (constant S_ .f32 0x48F42400#32))
        (Host.divf (Host.negf (sitofp .f32 (iotaInDim S16 32 0))) (broadcastInDim S16 ![] bcast_S_S16 (constant S_ .f32 0x41800000#32))))))

theorem angles_apply (t : Fin 128) (i : Fin 16) : angles (ix2 t i) = angle 2048 i.val := by
  unfold angles angle
  pointwise

def rowC : FVec Ideal S128x128 .f32 :=
  concatenate S128x128 1 [⟨S128x16, Host.cos angles⟩, ⟨S128x16, Host.cos angles⟩, ⟨S128x96, broadcastInDim S128x96 ![] bcast_S_S128x96 (constant S_ .f32 0x3F800000#32)⟩]
    concatenates_S128x16_S128x16_S128x96_S128x128_d1

def row1 : FVec Ideal S128x128 .f32 :=
  concatenate S128x128 1 [⟨S128x16, Host.negf (Host.sin angles)⟩, ⟨S128x112, broadcastInDim S128x112 ![] bcast_S_S128x112 (constant S_ .f32 0x00000000#32)⟩]
    concatenates_S128x16_S128x112_S128x128_d1

def row2 : FVec Ideal S128x128 .f32 :=
  concatenate S128x128 1 [⟨S128x16, broadcastInDim S128x16 ![] bcast_S_S128x16 (constant S_ .f32 0x00000000#32)⟩, ⟨S128x16, Host.sin angles⟩, ⟨S128x96, broadcastInDim S128x96 ![] bcast_S_S128x96 (constant S_ .f32 0x00000000#32)⟩]
    concatenates_S128x16_S128x16_S128x96_S128x128_d1

theorem rowC_apply (t : Fin 128) (l : Fin 128) : rowC (ix2 t l) = cosN 2048 l.val := by
  unfold rowC cosN
  pointwise [angles_apply]
  have hl := l.isLt
  split_ifs
  all_goals first
    | rfl
    | omega

theorem row1_apply (t : Fin 128) (l : Fin 128) : row1 (ix2 t l) = sin1N 2048 l.val := by
  unfold row1 sin1N
  pointwise [angles_apply]
  have hl := l.isLt
  split_ifs
  all_goals first
    | rfl
    | omega

theorem row2_apply (t : Fin 128) (l : Fin 128) : row2 (ix2 t l) = sin2N 2048 l.val := by
  unfold row2 sin2N
  pointwise [angles_apply]
  have hl := l.isLt
  split_ifs
  all_goals first
    | rfl
    | omega

/-- A table of three: the same rows twice, and between them a constant one. -/
def stack (v : FVec Ideal S128x128 .f32) (b : BitVec 32) : FVec Ideal S3x128x128 .f32 :=
  concatenate S3x128x128 0 [⟨S1x128x128, broadcastInDim S1x128x128 ![1, 2] bcast_S128x128_S1x128x128_1_2 v⟩,
    ⟨S1x128x128, broadcastInDim S1x128x128 ![1, 2] bcast_S128x128_S1x128x128_1_2 (broadcastInDim S128x128 ![] bcast_S_S128x128 (constant S_ .f32 b))⟩,
    ⟨S1x128x128, broadcastInDim S1x128x128 ![1, 2] bcast_S128x128_S1x128x128_1_2 v⟩] concatenates_S1x128x128_S1x128x128_S1x128x128_S3x128x128_d0

theorem stack_apply (v : FVec Ideal S128x128 .f32) (b : BitVec 32) (j : Fin 3) (t : Fin 128) (l : Fin 128) :
    stack v b (ix3 j t l) = if j.val = 1 then Ideal.ofBits .f32 b else v (ix2 t l) := by
  unfold stack
  have hj := j.isLt
  pointwise
  split_ifs
  all_goals first
    | rfl
    | omega

variable (m : (ℓ : Loc nD τ sig) → Buf (Elt Ideal) ℓ) (c : Dev nD)

open StableHlo in
theorem entry35 : V m c main_v35 = stack rowC 0x3F800000#32 := by
  after_reads_simp; rfl

open StableHlo in
theorem entry39 : V m c main_v39 = stack row1 0x00000000#32 := by
  after_reads_simp; rfl

open StableHlo in
theorem entry43 : V m c main_v43 = stack row2 0x00000000#32 := by
  after_reads_simp; rfl

end Cert.Mlp.K9
-- ==== Proof.Mlp.SampleProj.lean ====
module

public import proofs.«01_k».proof.Proof.Gen.Kernel9Ideal.Value
public import proofs.«01_k».proof.Proof.Mlp.Ref9
public import proofs.«01_k».proof.Proof.Mlp.SampleProjRows
public import proofs.«01_k».proof.Proof.Mlp.SampleProjCases
public import proofs.«01_k».proof.Proof.Mlp.SampleProjTables
public import Idealize.ShloMosaic.Lib.Pipeline.ValueKit
public import Idealize.ShloMosaic.Lib.StableHlo.RunRead
public import Idealize.ShloMosaic.Lib.WritesUnit

@[expose] public section

set_option maxRecDepth 16384

noncomputable section

namespace Cert.Mlp.K9

open Cert.Kernel9Ideal Cert.Kernel9Ideal.Gen Idealize.ShloMosaic Idealize.ShloMosaic.TcCoe Idealize.SL.Sem
open Cert.Mlp.K5 (cosN sin1N sin2N)

/-- Which of the three stacked tables a block of columns reads. -/
def kindN (j : ℕ) : ℕ := if j = 5 ∨ j = 12 ∨ j = 13 then 1 else if j < 4 ∨ (5 < j ∧ j < 10) then 2 else 0

/-- Which block of the second output is staged at a block of columns. -/
def tileN (j : ℕ) : ℕ :=
  (if 4 < j then 1 else 0) + (if 5 < j then 1 else 0) + (if 10 < j then 1 else 0) + (if 11 < j then 1 else 0) + (if 12 < j then 1 else 0) + (if 13 < j then 1 else 0)

theorem idx : ∀ t : Fin cfg0.N, win0_0.index t = ![t.val / 22, 0] ∧ win0_1.index t = ![0, 0] ∧ win0_2.index t = ![0, t.val % 22]
    ∧ win0_3.index t = ![kindN (t.val % 22), 0, 0] ∧ win0_4.index t = ![kindN (t.val % 22), 0, 0]
    ∧ win0_5.index t = ![kindN (t.val % 22), 0, 0]
    ∧ win0_6.index t = ![t.val / 22, t.val % 22] ∧ win0_7.index t = ![t.val / 22, tileN (t.val % 22)] :=
  (by decide +kernel : ∀ t : Fin grid0.N, _)

variable (m : (ℓ : Loc nD τ sig) → Buf (Elt Ideal) ℓ) (c : Dev nD)

/-- The input, its rows in one axis. -/
def flatX (a : FVec Ideal S128x1x4096 .f32) : FVec Ideal S128x4096 .f32 :=
  shapeCast S128x4096 a shapeCasts_S128x1x4096_S128x4096

/-- The norm's weights as a row. -/
def flatG (a : FVec Ideal S1x4096 .f32) : FVec Ideal S1x4096 .f32 :=
  shapeCast S1x4096 (shapeCast S4096 a shapeCasts_S1x4096_S4096) shapeCasts_S4096_S1x4096

/-- The first columns of the weights without their unit axis. -/
def flatW (a : FVec Ideal S1x4096x11424 .f32) : FVec Ideal S4096x11264 .bf16 :=
  truncf .bf16 (shapeCast S4096x11264 (extractStridedSlice S1x4096x11264 ![0, 0, 0] a slices_S1x4096x11424_S1x4096x11264_0_0_0) shapeCasts_S1x4096x11264_S4096x11264) bitsLt_bf16_f32

theorem flatX_apply (a : FVec Ideal S128x1x4096 .f32) (b : Fin 128) (n : Fin 4096) : flatX a (ix2 b n) = a (ix3 b 0 n) := by
  unfold flatX
  pointwise

theorem flatG_apply (a : FVec Ideal S1x4096 .f32) (k : Fin 4096) : flatG a (ix2 0 k) = a (ix2 0 k) := by
  unfold flatG
  pointwise

theorem flatW_apply (a : FVec Ideal S1x4096x11424 .f32) (k : Fin 4096) (n : Fin 11264) : flatW a (ix2 k n) = Cert.Mlp.R5.wcol a k n.val := by
  have hn := n.isLt
  unfold flatW Cert.Mlp.R5.wcol
  rw [dif_pos (by omega)]
  pointwise

open StableHlo in
theorem entry0 : V m c main_v0 = flatX (m ((c : Thread nD τ).loc main_arg0)) := by
  after_reads_simp; rfl

open StableHlo in
theorem entry2 : V m c main_v2 = flatG (m ((c : Thread nD τ).loc main_arg1)) := by
  after_reads_simp; rfl

open StableHlo in
theorem entry5 : V m c main_v5 = flatW (m ((c : Thread nD τ).loc main_arg2)) := by
  after_reads_simp; rfl

theorem read0 (t : Fin cfg0.N) (p : Fin 128) (k : Fin 4096) (b : Fin 128) (h : b.val = t.val / 22 * 128 + p.val) :
    (iblk m c 0 t : FVec Ideal S128x4096 .f32) (ix2 p k) = (m ((c : Thread nD τ).loc main_arg0) : FVec Ideal S128x1x4096 .f32) (ix3 b 0 k) := by
  obtain ⟨e0, e1, e2, e3, e4, e5, e6, e7⟩ := idx t
  refine Eq.trans ?_ (flatX_apply _ b k)
  rw [← entry0]
  blk_simp [iblk, e0]
  refine congrArg (V m c main_v0) ?_
  funext a
  fin_cases a
  all_goals apply Fin.ext
  all_goals blk_simp [e0]
  all_goals (dsimp only [ix2, ix3]; try omega)

theorem read1 (t : Fin cfg0.N) (k : Fin 4096) :
    (iblk m c 1 t : FVec Ideal S1x4096 .f32) (ix2 0 k) = (m ((c : Thread nD τ).loc main_arg1) : FVec Ideal S1x4096 .f32) (ix2 0 k) := by
  obtain ⟨e0, e1, e2, e3, e4, e5, e6, e7⟩ := idx t
  refine Eq.trans ?_ (flatG_apply _ k)
  rw [← entry2]
  blk_simp [iblk, e1]
  refine congrArg (V m c main_v2) ?_
  funext a
  fin_cases a
  all_goals apply Fin.ext
  all_goals blk_simp [e1]
  all_goals (dsimp only [ix2, ix3]; try omega)

theorem read2 (t : Fin cfg0.N) (k : Fin 4096) (q : Fin 512) (n : Fin 11264) (h : n.val = t.val % 22 * 512 + q.val) :
    (iblk m c 2 t : FVec Ideal S4096x512 .bf16) (ix2 k q) = Cert.Mlp.R5.wcol (m ((c : Thread nD τ).loc main_arg2) : FVec Ideal S1x4096x11424 .f32) k n.val := by
  obtain ⟨e0, e1, e2, e3, e4, e5, e6, e7⟩ := idx t
  refine Eq.trans ?_ (flatW_apply _ k n)
  rw [← entry5]
  blk_simp [iblk, e2]
  refine congrArg (V m c main_v5) ?_
  funext a
  fin_cases a
  all_goals apply Fin.ext
  all_goals blk_simp [e2]
  all_goals (dsimp only [ix2, ix3]; try omega)

theorem read3 (t : Fin cfg0.N) (p : Fin 128) (l : Fin 128) (j : Fin 3) (s : Fin 128) (hj : j.val = kindN (t.val % 22)) (hs : s.val = p.val) :
    (iblk m c 3 t : FVec Ideal S1x128x128 .f32) (ix3 0 p l) = if j.val = 1 then Ideal.ofBits .f32 0x3F800000#32 else rowC (ix2 s l) := by
  obtain ⟨e0, e1, e2, e3, e4, e5, e6, e7⟩ := idx t
  refine Eq.trans ?_ (stack_apply rowC 0x3F800000#32 j s l)
  rw [← entry35]
  blk_simp [iblk, e3]
  refine congrArg (V m c main_v35) ?_
  funext a
  fin_cases a
  all_goals apply Fin.ext
  all_goals blk_simp [e3]
  all_goals (dsimp only [ix2, ix3]; try omega)

theorem read4 (t : Fin cfg0.N) (p : Fin 128) (l : Fin 128) (j : Fin 3) (s : Fin 128) (hj : j.val = kindN (t.val % 22)) (hs : s.val = p.val) :
    (iblk m c 4 t : FVec Ideal S1x128x128 .f32) (ix3 0 p l) = if j.val = 1 then Ideal.ofBits .f32 0x00000000#32 else row1 (ix2 s l) := by
  obtain ⟨e0, e1, e2, e3, e4, e5, e6, e7⟩ := idx t
  refine Eq.trans ?_ (stack_apply row1 0x00000000#32 j s l)
  rw [← entry39]
  blk_simp [iblk, e4]
  refine congrArg (V m c main_v39) ?_
  funext a
  fin_cases a
  all_goals apply Fin.ext
  all_goals blk_simp [e4]
  all_goals (dsimp only [ix2, ix3]; try omega)

theorem read5 (t : Fin cfg0.N) (p : Fin 128) (l : Fin 128) (j : Fin 3) (s : Fin 128) (hj : j.val = kindN (t.val % 22)) (hs : s.val = p.val) :
    (iblk m c 5 t : FVec Ideal S1x128x128 .f32) (ix3 0 p l) = if j.val = 1 then Ideal.ofBits .f32 0x00000000#32 else row2 (ix2 s l) := by
  obtain ⟨e0, e1, e2, e3, e4, e5, e6, e7⟩ := idx t
  refine Eq.trans ?_ (stack_apply row2 0x00000000#32 j s l)
  rw [← entry43]
  blk_simp [iblk, e5]
  refine congrArg (V m c main_v43) ?_
  funext a
  fin_cases a
  all_goals apply Fin.ext
  all_goals blk_simp [e5]
  all_goals (dsimp only [ix2, ix3]; try omega)

/-- Block `t`'s row `p` of the input is that of every point with the same row of blocks. -/
theorem row_eq (t : Fin cfg0.N) (p : Fin 128) : ∃ b : Fin 128, b.val = t.val / 22 * 128 + p.val := by
  have := p.isLt
  have ht : t.val < 22 := t.isLt
  exact ⟨⟨t.val / 22 * 128 + p.val, by omega⟩, rfl⟩

/-- The normalised row of the arguments. -/
def argRow (b : Fin 128) (k : Fin 4096) : EReal :=
  normRow (fun k => (m ((c : Thread nD τ).loc main_arg0) : FVec Ideal S128x1x4096 .f32) (ix3 b 0 k))
    (fun k => (m ((c : Thread nD τ).loc main_arg1) : FVec Ideal S1x4096 .f32) (ix2 0 k)) k

theorem blk_row (t : Fin cfg0.N) (p : Fin 128) (b : Fin 128) (h : b.val = t.val / 22 * 128 + p.val) (k : Fin 4096) :
    normRow (fun k => (iblk m c 0 t : FVec Ideal S128x4096 .f32) (ix2 p k)) (fun k => (iblk m c 1 t : FVec Ideal S1x4096 .f32) (ix2 0 k)) k = argRow m c b k :=
  congrArg₂ (fun x g => normRow x g k) (funext fun k => read0 m c t p k b h) (funext fun k => read1 m c t k)

/-- After every point the scratch holds the normalised rows of its row of blocks. -/
theorem scratch (n : ℕ) (hn : n < cfg0.N) (p : Fin 128) (b : Fin 128) (h : b.val = n / 22 * 128 + p.val) (k : Fin 4096) :
    ((outsAt0 m c n hn).2.2 : FVec Ideal S128x4096 .bf16) (ix2 p k) = argRow m c b k := by
  induction n with
  | zero =>
    rw [show outsAt0 m c 0 hn = _ from outsAt0_A m c ⟨0, hn⟩ (Nat.zero_mod _)]
    exact (sout_A c _ _ _ _ _ _ _ _ _ _ _ _ _ _ _ _ _ _ _ _ _ _ _ _ p k).trans (blk_row m c ⟨0, hn⟩ p b h k)
  | succ n ih =>
    by_cases h0 : (n + 1) % 22 = 0
    · rw [show outsAt0 m c (n + 1) hn = _ from outsAt0_A m c ⟨n + 1, hn⟩ h0]
      exact (sout_A c _ _ _ _ _ _ _ _ _ _ _ _ _ _ _ _ _ _ _ _ _ _ _ _ p k).trans (blk_row m c ⟨n + 1, hn⟩ p b h k)
    · rw [show outsAt0 m c (n + 1) hn = _ from outsAt0_B m c ⟨n + 1, hn⟩ h0]
      exact ih (Nat.lt_of_succ_lt hn) (by omega)

/-- The plain projection's columns of one position of the arguments. -/
def zOf (b : Fin 128) : ℕ → EReal :=
  Cert.Mlp.R9.zAt (m ((c : Thread nD τ).loc main_arg0)) (m ((c : Thread nD τ).loc main_arg1)) (m ((c : Thread nD τ).loc main_arg2)) b

/-- A column of the block's product is the plain projection's. -/
theorem colN_eq (t : Fin cfg0.N) (b : Fin 128) (n : ℕ) (hn : n < 512) :
    colN (argRow m c b) (iblk m c 2 t : FVec Ideal S4096x512 .bf16) n = zOf m c b (t.val % 22 * 512 + n) := by
  have ht : t.val < 22 := t.isLt
  unfold colN zOf Cert.Mlp.R9.zAt colAt argRow
  rw [dif_pos hn]
  refine Finset.sum_congr rfl fun k _ => ?_
  exact congrArg (_ * ·) (read2 m c t k ⟨n, hn⟩ ⟨t.val % 22 * 512 + n, by omega⟩ rfl)

theorem ofBits_one : Ideal.ofBits .f32 0x3F800000#32 = 1 := Ideal.ofBits_one_f32

theorem ofBits_zero : Ideal.ofBits .f32 0x00000000#32 = 0 := Ideal.ofBits_zero_f32

/-- The tables' lanes of a block that is rotated. -/
theorem tab_rope (t : Fin cfg0.N) (p : Fin 128) (s : Fin 128) (hs : s.val = p.val) (hk : kindN (t.val % 22) ≠ 1) (l : ℕ) (hl : l < 128) :
    tabN (iblk m c 3 t : FVec Ideal S1x128x128 .f32) p l = cosN 2048 l ∧ tabN (iblk m c 4 t : FVec Ideal S1x128x128 .f32) p l = sin1N 2048 l
      ∧ tabN (iblk m c 5 t : FVec Ideal S1x128x128 .f32) p l = sin2N 2048 l := by
  have hlt : kindN (t.val % 22) < 3 := by unfold kindN; split_ifs <;> decide
  unfold tabN
  rw [dif_pos hl, dif_pos hl, dif_pos hl, read3 m c t p ⟨l, hl⟩ ⟨_, hlt⟩ s rfl hs, read4 m c t p ⟨l, hl⟩ ⟨_, hlt⟩ s rfl hs, read5 m c t p ⟨l, hl⟩ ⟨_, hlt⟩ s rfl hs,
    if_neg hk, if_neg hk, if_neg hk]
  exact ⟨rowC_apply s ⟨l, hl⟩, row1_apply s ⟨l, hl⟩, row2_apply s ⟨l, hl⟩⟩

/-- The tables' lanes of a block that holds values. -/
theorem tab_plain (t : Fin cfg0.N) (p : Fin 128) (s : Fin 128) (hs : s.val = p.val) (hk : kindN (t.val % 22) = 1) (l : ℕ) (hl : l < 128) :
    tabN (iblk m c 3 t : FVec Ideal S1x128x128 .f32) p l = 1 ∧ tabN (iblk m c 4 t : FVec Ideal S1x128x128 .f32) p l = 0
      ∧ tabN (iblk m c 5 t : FVec Ideal S1x128x128 .f32) p l = 0 := by
  have hlt : kindN (t.val % 22) < 3 := by rw [hk]; decide
  unfold tabN
  rw [dif_pos hl, dif_pos hl, dif_pos hl, read3 m c t p ⟨l, hl⟩ ⟨_, hlt⟩ s rfl hs, read4 m c t p ⟨l, hl⟩ ⟨_, hlt⟩ s rfl hs, read5 m c t p ⟨l, hl⟩ ⟨_, hlt⟩ s rfl hs,
    if_pos hk, if_pos hk, if_pos hk]
  exact ⟨ofBits_one, ofBits_zero, ofBits_zero⟩

/-- What a block holds is the reference's column of that number. -/
theorem block_eq (t : Fin cfg0.N) (p : Fin 128) (q : Fin 512) (b : Fin 128) (h : b.val = t.val / 22 * 128 + p.val) :
    projEntry (argRow m c b) (iblk m c 2 t : FVec Ideal S4096x512 .bf16) (iblk m c 3 t : FVec Ideal S1x128x128 .f32) (iblk m c 4 t : FVec Ideal S1x128x128 .f32)
        (iblk m c 5 t : FVec Ideal S1x128x128 .f32) p q.val
      = projAt (zOf m c b) 2048 (t.val % 22 * 512 + q.val) := by
  have hq := q.isLt
  have hp := p.isLt
  have hb := b.isLt
  have ht : t.val < 22 := t.isLt
  have hl : q.val % 128 < 128 := Nat.mod_lt _ (by decide)
  unfold projEntry
  rw [rollAt_congr _ (fun i => zOf m c b ((t.val % 22 * 512 + q.val) / 128 * 128 + i)) _ _ _ _ hl fun i hi => by
    rw [colN_eq m c t b _ (by omega), show (t.val % 22 * 512 + q.val) / 128 * 128 + i = t.val % 22 * 512 + (q.val / 128 * 128 + i) by omega]]
  unfold projAt
  by_cases hv : IsValue (t.val % 22 * 512 + q.val)
  · have hk : kindN (t.val % 22) = 1 := by
      unfold IsValue at hv
      unfold kindN
      rw [if_pos (by omega)]
    obtain ⟨h1, h2, h3⟩ := tab_plain m c t p p rfl hk _ hl
    rw [if_pos hv, rollAt_plain _ _ _ _ _ h1 h2 h3, show (t.val % 22 * 512 + q.val) / 128 * 128 + q.val % 128 = t.val % 22 * 512 + q.val by omega]
  · have hk : kindN (t.val % 22) ≠ 1 := by
      unfold IsValue at hv
      unfold kindN
      rw [if_neg (by omega)]
      split_ifs <;> decide
    obtain ⟨h1, h2, h3⟩ := tab_rope m c t p p rfl hk _ hl
    rw [if_neg hv, show (t.val % 22 * 512 + q.val) % 128 = q.val % 128 by omega]
    refine rollAt_rope _ _ _ _ _ _ _ hl ?_ ?_ ?_
    · rw [h1]; rfl
    · rw [h2]; rfl
    · rw [h3]; rfl

/-- What the first output's buffer holds after a point, read at one entry. -/
theorem after6 (t : Fin cfg0.N) (p : Fin 128) (q : Fin 512) (b : Fin 128) (h : b.val = t.val / 22 * 128 + p.val) :
    ((outsAt0 m c t.val t.isLt).1 : FVec Ideal S128x512 .bf16) (ix2 p q) = projAt (zOf m c b) 2048 (t.val % 22 * 512 + q.val) := by
  refine Eq.trans ?_ (block_eq m c t p q b h)
  by_cases h0 : t.val % 22 = 0
  · rw [outsAt0_A m c t h0]
    dsimp only
    rw [← show normRow (fun k => (iblk m c 0 t : FVec Ideal S128x4096 .f32) (ix2 p k)) (fun k => (iblk m c 1 t : FVec Ideal S1x4096 .f32) (ix2 0 k)) = argRow m c b from
      funext fun k => blk_row m c t p b h k]
    exact out_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) ((hcond0_0 t).mpr h0) p q
  · rw [outsAt0_B m c t h0]
    dsimp only
    exact out_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (fun h => h0 ((hcond0_0 t).mp h)) _ p q (argRow m c b)
      fun k => scratch m c _ _ p b (by have ht : t.val < 22 := t.isLt; omega) k

/-- The same of the second output's buffer. -/
theorem after7 (t : Fin cfg0.N) (p : Fin 128) (q : Fin 512) (b : Fin 128) (h : b.val = t.val / 22 * 128 + p.val) :
    ((outsAt0 m c t.val t.isLt).2.1 : FVec Ideal S128x512 .f32) (ix2 p q) = projAt (zOf m c b) 2048 (t.val % 22 * 512 + q.val) := by
  refine Eq.trans ?_ (block_eq m c t p q b h)
  by_cases h0 : t.val % 22 = 0
  · rw [outsAt0_A m c t h0]
    dsimp only
    rw [← show normRow (fun k => (iblk m c 0 t : FVec Ideal S128x4096 .f32) (ix2 p k)) (fun k => (iblk m c 1 t : FVec Ideal S1x4096 .f32) (ix2 0 k)) = argRow m c b from
      funext fun k => blk_row m c t p b h k]
    exact out_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) ((hcond0_0 t).mpr h0) p q
  · rw [outsAt0_B m c t h0]
    dsimp only
    exact out_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (iblk m c 0 t) (iblk m c 1 t) (iblk m c 2 t) (iblk m c 3 t) (iblk m c 4 t) (iblk m c 5 t) (fun h => h0 ((hcond0_0 t).mp h)) _ p q (argRow m c b)
      fun k => scratch m c _ _ p b (by have ht : t.val < 22 := t.isLt; omega) k

/-- The reference's plain projection at the call's arguments. -/
def projOf : FVec Ideal Cert.Reference9Ideal.S128x1x11424 .f32 :=
  Cert.Mlp.R9.proj (m ((c : Thread nD τ).loc main_arg0)) (m ((c : Thread nD τ).loc main_arg1)) (m ((c : Thread nD τ).loc main_arg2))

/-- The reference's first array. -/
def refZq : FVec Ideal S128x11264 .bf16 := Cert.Mlp.R9.zq (projOf m c)

/-- The reference's second array. -/
def refKv : FVec Ideal S128x3584 .f32 := Cert.Mlp.R9.kv (projOf m c)

theorem refZq_apply (b : Fin 128) (n : Fin 11264) : refZq m c (ix2 b n) = projAt (zOf m c b) 2048 n.val :=
  Cert.Mlp.R9.zq_apply _ b _ (fun n => Cert.Mlp.R9.proj_zAt _ _ _ b n) n

theorem refKv_apply (b : Fin 128) (n : Fin 3584) : refKv m c (ix2 b n) = projAt (zOf m c b) 2048 (Cert.Mlp.R5.kvCol n.val) :=
  Cert.Mlp.R9.kv_apply _ b _ (fun n => Cert.Mlp.R9.proj_zAt _ _ _ b n) n

theorem final6 : (dats m 0 c).arrAt 6 cfg0.N = refZq m c := by
  refine (dats m 0 c).arrAt_eq_of_covers 6 _ (by decide +kernel) fun t _ y => ?_
  blk_simp
  rw [after0_6]
  obtain ⟨p, q, rfl⟩ : ∃ (p : Fin 128) (q : Fin 512), y = ix2 p q := ⟨y 0, y 1, by idx_ext⟩
  have hp := p.isLt
  have hq := q.isLt
  have ht : t.val < 22 := t.isLt
  obtain ⟨b, hbs⟩ := row_eq t p
  obtain ⟨n, hn⟩ : ∃ n : Fin 11264, n.val = t.val % 22 * 512 + q.val := ⟨⟨t.val % 22 * 512 + q.val, by omega⟩, rfl⟩
  obtain ⟨e0, e1, e2, e3, e4, e5, e6, e7⟩ := idx t
  have hy : ((cfg0.win 6).blk t).view.emb (ix2 p q) = (ix2 b n : S128x11264.Idx) := by
    funext a
    fin_cases a
    all_goals apply Fin.ext
    all_goals blk_simp [e6]
    all_goals (dsimp only [ix2]; try omega)
  refine Eq.trans ?_ ((congrArg (refZq m c) hy).trans ((refZq_apply m c b n).trans (congrArg _ hn))).symm
  exact after6 m c t p q b hbs

/-- The points after which the second output's block is written back. -/
theorem flush7 : ∀ t : Fin cfg0.N, (cfg0.win 7).flush t = true →
    t.val % 22 = 4 ∨ t.val % 22 = 5 ∨ t.val % 22 = 10 ∨ t.val % 22 = 11 ∨ t.val % 22 = 12 ∨ t.val % 22 = 13 ∨ t.val % 22 = 21 :=
  (by decide +kernel : ∀ t : Fin grid0.N, _)

theorem tile_col (j q : ℕ) (hq : q < 512) (h : j = 4 ∨ j = 5 ∨ j = 10 ∨ j = 11 ∨ j = 12 ∨ j = 13 ∨ j = 21) :
    tileN j * 512 + q < 3584 ∧ Cert.Mlp.R5.kvCol (tileN j * 512 + q) = j * 512 + q := by
  unfold Cert.Mlp.R5.kvCol
  rcases h with rfl | rfl | rfl | rfl | rfl | rfl | rfl
  · rw [show tileN 4 = 0 by decide]; split_ifs <;> omega
  · rw [show tileN 5 = 1 by decide]; split_ifs <;> omega
  · rw [show tileN 10 = 2 by decide]; split_ifs <;> omega
  · rw [show tileN 11 = 3 by decide]; split_ifs <;> omega
  · rw [show tileN 12 = 4 by decide]; split_ifs <;> omega
  · rw [show tileN 13 = 5 by decide]; split_ifs <;> omega
  · rw [show tileN 21 = 6 by decide]; split_ifs <;> omega

theorem final7 : (dats m 0 c).arrAt 7 cfg0.N = refKv m c := by
  refine (dats m 0 c).arrAt_eq_of_covers 7 _ (by decide +kernel) fun t hf y => ?_
  have hj := flush7 t hf
  blk_simp
  rw [after0_7]
  obtain ⟨p, q, rfl⟩ : ∃ (p : Fin 128) (q : Fin 512), y = ix2 p q := ⟨y 0, y 1, by idx_ext⟩
  have hp := p.isLt
  have hq := q.isLt
  have ht : t.val < 22 := t.isLt
  obtain ⟨b, hbs⟩ := row_eq t p
  obtain ⟨hlt, hcol⟩ := tile_col (t.val % 22) q.val hq hj
  obtain ⟨n, hn⟩ : ∃ n : Fin 3584, n.val = tileN (t.val % 22) * 512 + q.val := ⟨⟨tileN (t.val % 22) * 512 + q.val, hlt⟩, rfl⟩
  obtain ⟨e0, e1, e2, e3, e4, e5, e6, e7⟩ := idx t
  have hy : ((cfg0.win 7).blk t).view.emb (ix2 p q) = (ix2 b n : S128x3584.Idx) := by
    funext a
    fin_cases a
    all_goals apply Fin.ext
    all_goals blk_simp [e7]
    all_goals (dsimp only [ix2]; try omega)
  refine Eq.trans ?_ ((congrArg (refKv m c) hy).trans ((refKv_apply m c b n).trans (congrArg _ ((congrArg _ hn).trans hcol)))).symm
  exact after7 m c t p q b hbs

end Cert.Mlp.K9
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Loops
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Loops
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Loops
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Loops
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Loops
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Loops
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Loops
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Loops
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Loops
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Loops
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Loops
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Loops
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Diff.Final
public import proofs.«01_k».proof.Proof.Mlp.Up
public import proofs.«01_k».proof.Proof.Mlp.Down
public import proofs.«01_k».proof.Proof.Mlp.Out
public import proofs.«01_k».proof.Proof.Mlp.Proj
public import proofs.«01_k».proof.Proof.Mlp.Tail
public import proofs.«01_k».proof.Proof.Mlp.SampleDown
public import proofs.«01_k».proof.Proof.Mlp.SampleTail
public import proofs.«01_k».proof.Proof.Mlp.SampleProj
public import Idealize.ShloMosaic.Adequacy
public import Idealize.ShloMosaic.Init

@[expose] public section

noncomputable section

namespace Cert.Proof

open Idealize.ShloMosaic Idealize.SL.Sem

/-- The reference runs, keeps its arguments, and leaves every counter at zero. -/
theorem refFrame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel's array is the reference's, at finite arguments. -/
theorem value [Cert.Pre_finite.Facts] : Cert.algebraic_KernelIdeal_ReferenceIdeal_pre_finite := by
  intro m g m' g' hpre hagree
  refine ⟨fun c => (Cert.KernelIdeal.Gen.dats m 0 c).arrAt 8 Cert.KernelIdeal.cfg0.N, Cert.KernelIdeal.Value.run_blocks m g, ?_⟩
  refine (θ_run Cert.ReferenceIdeal.defs _ _).mono (fun r h c => ⟨?_, (h c).2⟩) (Cert.ReferenceIdeal.Value.run (F := Ideal) m' g')
  refine (h c).1.trans ((Cert.Diff.res_eq m' c).trans (Eq.trans ?_ (Cert.Diff.final m c (Cert.Diff.pre_real _ _ _ _ _ _ _ _ (hpre c))).symm))
  obtain ⟨h0, h1, h2, h3, h4, h5, h6, h7⟩ := hagree c
  rw [h0, h1, h2, h3, h4, h5, h6, h7]

theorem refFrame2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The up projection's array is its reference's. -/
theorem value2 : Cert.algebraic_Kernel2Ideal_Reference2Ideal := by
  intro m g m' g' _ hagree
  refine ⟨fun c => (Cert.Kernel2Ideal.Gen.dats m 0 c).arrAt 3 Cert.Kernel2Ideal.cfg0.N, Cert.Kernel2Ideal.Value.run_blocks m g, ?_⟩
  refine (θ_run Cert.Reference2Ideal.defs _ _).mono (fun r h c => ⟨?_, (h c).2⟩) (Cert.Reference2Ideal.Value.run (F := Ideal) m' g')
  refine (h c).1.trans (Eq.trans ?_ (Cert.Mlp.K2.final m c).symm)
  obtain ⟨h0, h1, h2⟩ := hagree c
  rw [h0, h1, h2]
  rfl

theorem refFrame3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The down projection's array is its reference's. -/
theorem value3 : Cert.algebraic_Kernel3Ideal_Reference3Ideal := by
  intro m g m' g' _ hagree
  refine ⟨fun c => (Cert.Kernel3Ideal.Gen.dats m 0 c).arrAt 4 Cert.Kernel3Ideal.cfg0.N, Cert.Kernel3Ideal.Value.run_blocks m g, ?_⟩
  refine (θ_run Cert.Reference3Ideal.defs _ _).mono (fun r h c => ⟨?_, (h c).2⟩) (Cert.Reference3Ideal.Value.run (F := Ideal) m' g')
  refine (h c).1.trans (Eq.trans ?_ (Cert.Mlp.K3.final m c).symm)
  obtain ⟨h0, h1, h2, h3⟩ := hagree c
  rw [h0, h1, h2, h3]
  rfl

theorem refFrame4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The output projection's array is its reference's. -/
theorem value4 : Cert.algebraic_Kernel4Ideal_Reference4Ideal := by
  intro m g m' g' _ hagree
  refine ⟨fun c => (Cert.Kernel4Ideal.Gen.dats m 0 c).arrAt 4 Cert.Kernel4Ideal.cfg0.N, Cert.Kernel4Ideal.Value.run_blocks m g, ?_⟩
  refine (θ_run Cert.Reference4Ideal.defs _ _).mono (fun r h c => ⟨?_, (h c).2⟩) (Cert.Reference4Ideal.Value.run (F := Ideal) m' g')
  refine (h c).1.trans (Eq.trans ?_ (Cert.Mlp.K4.final m c).symm)
  obtain ⟨h0, h1, h2, h3⟩ := hagree c
  rw [h0, h1, h2, h3]
  rfl

theorem refFrame5 : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The input projection's two arrays are its reference's. -/
theorem value5 : Cert.algebraic_Kernel5Ideal_Reference5Ideal := by
  intro m g m' g' _ hagree
  refine ⟨fun c => (Cert.Kernel5Ideal.Gen.dats m 0 c).arrAt 6 Cert.Kernel5Ideal.cfg0.N, fun c => (Cert.Kernel5Ideal.Gen.dats m 0 c).arrAt 7 Cert.Kernel5Ideal.cfg0.N,
    Cert.Kernel5Ideal.Value.run_blocks m g, ?_⟩
  refine (θ_run Cert.Reference5Ideal.defs _ _).mono (fun r h c => ⟨?_, ?_, (h c).2.2⟩) (Cert.Reference5Ideal.Value.run (F := Ideal) m' g')
  · refine (h c).1.trans (Eq.trans ?_ (Cert.Mlp.K5.final6 m c).symm)
    obtain ⟨h0, h1, h2⟩ := hagree c
    refine Eq.trans (b := Cert.Mlp.R5.zq (Cert.Mlp.R5.proj (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2)))) rfl ?_
    rw [h0, h1, h2]
    rfl
  · refine (h c).2.1.trans (Eq.trans ?_ (Cert.Mlp.K5.final7 m c).symm)
    obtain ⟨h0, h1, h2⟩ := hagree c
    refine Eq.trans (b := Cert.Mlp.R5.kv (Cert.Mlp.R5.proj (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg1))
        (m' ((c.tc : Thread Cert.Reference5Ideal.nD Cert.Reference5Ideal.τ).loc Cert.Reference5Ideal.main_arg2)))) rfl ?_
    rw [h0, h1, h2]
    rfl

theorem refFrame6 : Cert.quiescent_Reference6Ideal := fun m ρ _ =>
  (θ_run Cert.Reference6Ideal.defs _ _).mono (fun r h => ⟨fun c => (h c).2.2.2, sem_eq_zero_of_no_sems (by decide) r.2⟩)
    (Cert.Reference6Ideal.Value.run (F := Ideal) m ρ)

/-- The projection tail's three arrays are its reference's. -/
theorem value6 : Cert.algebraic_Kernel6Ideal_Reference6Ideal := by
  intro m g m' g' _ hagree
  refine ⟨fun c => (Cert.Kernel6Ideal.Gen.dats m 0 c).arrAt 8 Cert.Kernel6Ideal.cfg0.N, fun c => (Cert.Kernel6Ideal.Gen.dats m 0 c).arrAt 9 Cert.Kernel6Ideal.cfg0.N,
    fun c => (Cert.Kernel6Ideal.Gen.dats m 0 c).arrAt 10 Cert.Kernel6Ideal.cfg0.N, Cert.Kernel6Ideal.Value.run_blocks m g, ?_⟩
  refine (θ_run Cert.Reference6Ideal.defs _ _).mono (fun r h c => ⟨?_, ?_, ?_, (h c).2.2.2⟩) (Cert.Reference6Ideal.Value.run (F := Ideal) m' g')
  · refine (h c).1.trans (Eq.trans ?_ (Cert.Mlp.K6.final8 m c).symm)
    obtain ⟨h0, h1, h2, h3, h4⟩ := hagree c
    refine Eq.trans (b := Cert.Mlp.R6.ki (Cert.Mlp.R6.proj (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2)))
        (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4))) rfl ?_
    rw [h0, h1, h2, h3, h4]
    rfl
  · refine (h c).2.1.trans (Eq.trans ?_ (Cert.Mlp.K6.final9 m c).symm)
    obtain ⟨h0, h1, h2, h3, h4⟩ := hagree c
    refine Eq.trans (b := Cert.Mlp.R6.kn (Cert.Mlp.R6.proj (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2)))
        (m' ((c.tc : Thread Cert.Reference6Ideal.nD Cert.Reference6Ideal.τ).loc Cert.Reference6Ideal.main_arg3)) (m' ((c.tc : Thread Cert.Reference6Ideal.nD Cert.Reference6Ideal.τ).loc Cert.Reference6Ideal.main_arg4))) rfl ?_
    rw [h0, h1, h2, h3, h4]
    rfl
  · refine (h c).2.2.1.trans (Eq.trans ?_ (Cert.Mlp.K6.final10 m c).symm)
    obtain ⟨h0, h1, h2, h3, h4⟩ := hagree c
    refine Eq.trans (b := Cert.Mlp.R6.wi (Cert.Mlp.R6.proj (m' ((c.tc : Thread Cert.Reference6Ideal.nD Cert.Reference6Ideal.τ).loc Cert.Reference6Ideal.main_arg0)) (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2)))) rfl ?_
    rw [h0, h1, h2]
    rfl

theorem refFrame7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- Over the sample rows the second half of the feed-forward part is its reference's. -/
theorem value7 : Cert.algebraic_Kernel7Ideal_Reference7Ideal := by
  intro m g m' g' _ hagree
  refine ⟨fun c => (Cert.Kernel7Ideal.Gen.dats m 0 c).arrAt 4 Cert.Kernel7Ideal.cfg0.N, Cert.Kernel7Ideal.Value.run_blocks m g, ?_⟩
  refine (θ_run Cert.Reference7Ideal.defs _ _).mono (fun r h c => ⟨?_, (h c).2⟩) (Cert.Reference7Ideal.Value.run (F := Ideal) m' g')
  refine (h c).1.trans (Eq.trans ?_ (Cert.Mlp.K7.final m c).symm)
  obtain ⟨h0, h1, h2, h3⟩ := hagree c
  rw [h0, h1, h2, h3]
  rfl

theorem refFrame8 : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

/-- Over the sample rows the projection tail's three arrays are its reference's. -/
theorem value8 : Cert.algebraic_Kernel8Ideal_Reference8Ideal := by
  intro m g m' g' _ hagree
  refine ⟨fun c => (Cert.Kernel8Ideal.Gen.dats m 0 c).arrAt 8 Cert.Kernel8Ideal.cfg0.N, fun c => (Cert.Kernel8Ideal.Gen.dats m 0 c).arrAt 9 Cert.Kernel8Ideal.cfg0.N,
    fun c => (Cert.Kernel8Ideal.Gen.dats m 0 c).arrAt 10 Cert.Kernel8Ideal.cfg0.N, Cert.Kernel8Ideal.Value.run_blocks m g, ?_⟩
  refine (θ_run Cert.Reference8Ideal.defs _ _).mono (fun r h c => ⟨?_, ?_, ?_, (h c).2.2.2⟩) (Cert.Reference8Ideal.Value.run (F := Ideal) m' g')
  · refine (h c).1.trans (Eq.trans ?_ (Cert.Mlp.K8.final8 m c).symm)
    obtain ⟨h0, h1, h2, h3, h4⟩ := hagree c
    refine Eq.trans (b := Cert.Mlp.R8.ki (Cert.Mlp.R8.proj (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))
        (m' ((c.tc : Thread Cert.Reference8Ideal.nD Cert.Reference8Ideal.τ).loc Cert.Reference8Ideal.main_arg2)))
        (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4))) rfl ?_
    rw [h0, h1, h2, h3, h4]
    rfl
  · refine (h c).2.1.trans (Eq.trans ?_ (Cert.Mlp.K8.final9 m c).symm)
    obtain ⟨h0, h1, h2, h3, h4⟩ := hagree c
    refine Eq.trans (b := Cert.Mlp.R8.kn (Cert.Mlp.R8.proj (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))
        (m' ((c.tc : Thread Cert.Reference8Ideal.nD Cert.Reference8Ideal.τ).loc Cert.Reference8Ideal.main_arg2)))
        (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4))) rfl ?_
    rw [h0, h1, h2, h3, h4]
    rfl
  · refine (h c).2.2.1.trans (Eq.trans ?_ (Cert.Mlp.K8.final10 m c).symm)
    obtain ⟨h0, h1, h2, h3, h4⟩ := hagree c
    refine Eq.trans (b := Cert.Mlp.R8.wi (Cert.Mlp.R8.proj (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1))
        (m' ((c.tc : Thread Cert.Reference8Ideal.nD Cert.Reference8Ideal.τ).loc Cert.Reference8Ideal.main_arg2)))) rfl ?_
    rw [h0, h1, h2]
    rfl

theorem refFrame9 : Cert.quiescent_Reference9Ideal := fun m ρ _ =>
  (θ_run Cert.Reference9Ideal.defs _ _).mono (fun r h => ⟨fun c => (h c).2.2, sem_eq_zero_of_no_sems (by decide) r.2⟩)
    (Cert.Reference9Ideal.Value.run (F := Ideal) m ρ)

/-- Over the sample rows the projection's two arrays are its reference's. -/
theorem value9 : Cert.algebraic_Kernel9Ideal_Reference9Ideal := by
  intro m g m' g' _ hagree
  refine ⟨fun c => (Cert.Kernel9Ideal.Gen.dats m 0 c).arrAt 6 Cert.Kernel9Ideal.cfg0.N, fun c => (Cert.Kernel9Ideal.Gen.dats m 0 c).arrAt 7 Cert.Kernel9Ideal.cfg0.N,
    Cert.Kernel9Ideal.Value.run_blocks m g, ?_⟩
  refine (θ_run Cert.Reference9Ideal.defs _ _).mono (fun r h c => ⟨?_, ?_, (h c).2.2⟩) (Cert.Reference9Ideal.Value.run (F := Ideal) m' g')
  · refine (h c).1.trans (Eq.trans ?_ (Cert.Mlp.K9.final6 m c).symm)
    obtain ⟨h0, h1, h2⟩ := hagree c
    refine Eq.trans (b := Cert.Mlp.R9.zq (Cert.Mlp.R9.proj (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))
        (m' ((c.tc : Thread Cert.Reference9Ideal.nD Cert.Reference9Ideal.τ).loc Cert.Reference9Ideal.main_arg2)))) rfl ?_
    rw [h0, h1, h2]
    rfl
  · refine (h c).2.1.trans (Eq.trans ?_ (Cert.Mlp.K9.final7 m c).symm)
    obtain ⟨h0, h1, h2⟩ := hagree c
    refine Eq.trans (b := Cert.Mlp.R9.kv (Cert.Mlp.R9.proj (m' ((c.tc : Thread Cert.Reference9Ideal.nD Cert.Reference9Ideal.τ).loc Cert.Reference9Ideal.main_arg0)) (m' ((c.tc : Thread Cert.Reference9Ideal.nD Cert.Reference9Ideal.τ).loc Cert.Reference9Ideal.main_arg1))
        (m' ((c.tc : Thread Cert.Reference9Ideal.nD Cert.Reference9Ideal.τ).loc Cert.Reference9Ideal.main_arg2)))) rfl ?_
    rw [h0, h1, h2]
    rfl

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts, Cert.Diff.preFacts,
    fun m ρ _ => Cert.Kernel.Gen.frame m ρ, fun m ρ _ => Cert.KernelIdeal.Gen.frame m ρ, fun m ρ _ => Cert.KernelIdeal.Gen.frame m ρ,
    refFrame, fun m ρ _ => refFrame m ρ trivial,
    fun m ρ _ => Cert.Kernel2.Gen.frame m ρ, fun m ρ _ => Cert.Kernel2Ideal.Gen.frame m ρ, refFrame2,
    fun m ρ _ => Cert.Kernel3.Gen.frame m ρ, fun m ρ _ => Cert.Kernel3Ideal.Gen.frame m ρ, refFrame3,
    fun m ρ _ => Cert.Kernel4.Gen.frame m ρ, fun m ρ _ => Cert.Kernel4Ideal.Gen.frame m ρ, refFrame4,
    fun m ρ _ => Cert.Kernel5.Gen.frame m ρ, fun m ρ _ => Cert.Kernel5Ideal.Gen.frame m ρ, refFrame5,
    fun m ρ _ => Cert.Kernel6.Gen.frame m ρ, fun m ρ _ => Cert.Kernel6Ideal.Gen.frame m ρ, refFrame6,
    fun m ρ _ => Cert.Kernel7.Gen.frame m ρ, fun m ρ _ => Cert.Kernel7Ideal.Gen.frame m ρ, refFrame7,
    fun m ρ _ => Cert.Kernel8.Gen.frame m ρ, fun m ρ _ => Cert.Kernel8Ideal.Gen.frame m ρ, refFrame8,
    fun m ρ _ => Cert.Kernel9.Gen.frame m ρ, fun m ρ _ => Cert.Kernel9Ideal.Gen.frame m ρ, refFrame9,
    IdealRules.named_const.statement _ _ _ _ _ rfl, @value Cert.Diff.preFacts,
    trivial, value2, trivial, value3, trivial, value4, trivial, value5, trivial, value6, trivial, value7, trivial, value8, trivial, value9⟩

end Cert.Proof

end
